-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_norm_finite [hPre_norm_finite : Cert.Pre_norm_finite.Facts] (m : (ℓ : Loc Cert.KernelIdeal.nD Cert.KernelIdeal.τ Cert.KernelIdeal.sig) → Buf (Elt Ideal) ℓ) : Prop :=
  ∀ c : Dev Cert.KernelIdeal.nD,
    (Cert.Pre_norm_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_norm_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_norm_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_norm_finite [hPre_norm_finite : Cert.Pre_norm_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_norm_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_norm_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_norm_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_attn_finite [hPre_attn_finite : Cert.Pre_attn_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_attn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_attn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_attn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_attn_finite [hPre_attn_finite : Cert.Pre_attn_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_attn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_attn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_attn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_mix_finite [hPre_mix_finite : Cert.Pre_mix_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_mix_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_mix_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_mix_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_mix_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.1 = (fun _ => 1#1)
    ∧ (Cert.Pre_mix_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_mix_finite [hPre_mix_finite : Cert.Pre_mix_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_mix_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_mix_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_mix_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_mix_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.1 = (fun _ => 1#1)
    ∧ (Cert.Pre_mix_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_loss_finite [hPre_loss_finite : Cert.Pre_loss_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_loss_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).1 = (fun _ => 1#1)
    ∧ (Cert.Pre_loss_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.1 = (fun _ => 1#1)
    ∧ (Cert.Pre_loss_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_loss_finite [hPre_loss_finite : Cert.Pre_loss_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_loss_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).1 = (fun _ => 1#1)
    ∧ (Cert.Pre_loss_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2.1 = (fun _ => 1#1)
    ∧ (Cert.Pre_loss_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_ffn_finite [hPre_ffn_finite : Cert.Pre_ffn_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_ffn_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_ffn_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_ffn_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2.1 = (fun _ => 1#1)
    ∧ (Cert.Pre_ffn_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_ffn_finite [hPre_ffn_finite : Cert.Pre_ffn_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_ffn_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_ffn_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.1 = (fun _ => 1#1)
    ∧ (Cert.Pre_ffn_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2.1 = (fun _ => 1#1)
    ∧ (Cert.Pre_ffn_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_attn_fwd_finite [hPre_attn_fwd_finite : Cert.Pre_attn_fwd_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_attn_fwd_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))).1 = (fun _ => 1#1)
    ∧ (Cert.Pre_attn_fwd_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_attn_fwd_finite [hPre_attn_fwd_finite : Cert.Pre_attn_fwd_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_attn_fwd_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))).1 = (fun _ => 1#1)
    ∧ (Cert.Pre_attn_fwd_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_norm_finite [hKernelIdeal : Cert.KernelIdeal.Facts] [hPre_norm_finite : Cert.Pre_norm_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_norm_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_norm_finite [hReferenceIdeal : Cert.ReferenceIdeal.Facts] [hPre_norm_finite : Cert.Pre_norm_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_norm_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_attn_finite [hKernel2Ideal : Cert.Kernel2Ideal.Facts] [hPre_attn_finite : Cert.Pre_attn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_attn_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_attn_finite [hReference2Ideal : Cert.Reference2Ideal.Facts] [hPre_attn_finite : Cert.Pre_attn_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_attn_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_mix_finite [hKernel3Ideal : Cert.Kernel3Ideal.Facts] [hPre_mix_finite : Cert.Pre_mix_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_mix_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_mix_finite [hReference3Ideal : Cert.Reference3Ideal.Facts] [hPre_mix_finite : Cert.Pre_mix_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_mix_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_loss_finite [hKernel4Ideal : Cert.Kernel4Ideal.Facts] [hPre_loss_finite : Cert.Pre_loss_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_loss_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_loss_finite [hReference4Ideal : Cert.Reference4Ideal.Facts] [hPre_loss_finite : Cert.Pre_loss_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_loss_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_ffn_finite [hKernel5Ideal : Cert.Kernel5Ideal.Facts] [hPre_ffn_finite : Cert.Pre_ffn_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_ffn_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_ffn_finite [hReference5Ideal : Cert.Reference5Ideal.Facts] [hPre_ffn_finite : Cert.Pre_ffn_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_ffn_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Kernel6Ideal_pre_attn_fwd_finite [hKernel6Ideal : Cert.Kernel6Ideal.Facts] [hPre_attn_fwd_finite : Cert.Pre_attn_fwd_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_attn_fwd_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Reference6Ideal_pre_attn_fwd_finite [hReference6Ideal : Cert.Reference6Ideal.Facts] [hPre_attn_fwd_finite : Cert.Pre_attn_fwd_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_attn_fwd_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0))
      ∧ r.2.sem = fun _ => 0)

def preserves_Kernel_KernelIdeal : Prop :=
  True

def algebraic_KernelIdeal_ReferenceIdeal_pre_norm_finite [hKernelIdeal : Cert.KernelIdeal.Facts] [hReferenceIdeal : Cert.ReferenceIdeal.Facts] [hPre_norm_finite : Cert.Pre_norm_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_norm_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_attn_finite [hKernel2Ideal : Cert.Kernel2Ideal.Facts] [hReference2Ideal : Cert.Reference2Ideal.Facts] [hPre_attn_finite : Cert.Pre_attn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_attn_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v47_0)) (v1 : (c : Dev Cert.Kernel2Ideal.nD) → Buf (Elt Ideal) ((c.tc : Thread Cert.Kernel2Ideal.nD Cert.Kernel2Ideal.τ).loc Cert.Kernel2Ideal.main_v47_1)) (v2 : (c : Dev Cert.Kernel2Ideal.nD) → Buf (Elt Ideal) ((c.tc : Thread Cert.Kernel2Ideal.nD Cert.Kernel2Ideal.τ).loc Cert.Kernel2Ideal.main_v47_2)) (v3 : (c : Dev Cert.Kernel2Ideal.nD) → Buf (Elt Ideal) ((c.tc : Thread Cert.Kernel2Ideal.nD Cert.Kernel2Ideal.τ).loc Cert.Kernel2Ideal.main_v47_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v47_0) = v0 c
          ∧ r.2.mem ((c.tc : Thread Cert.Kernel2Ideal.nD Cert.Kernel2Ideal.τ).loc Cert.Kernel2Ideal.main_v47_1) = v1 c
          ∧ r.2.mem ((c.tc : Thread Cert.Kernel2Ideal.nD Cert.Kernel2Ideal.τ).loc Cert.Kernel2Ideal.main_v47_2) = v2 c
          ∧ r.2.mem ((c.tc : Thread Cert.Kernel2Ideal.nD Cert.Kernel2Ideal.τ).loc Cert.Kernel2Ideal.main_v47_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v140) = v0 c
          ∧ r.2.mem ((c.tc : Thread Cert.Reference2Ideal.nD Cert.Reference2Ideal.τ).loc Cert.Reference2Ideal.main_v141) = v1 c
          ∧ r.2.mem ((c.tc : Thread Cert.Reference2Ideal.nD Cert.Reference2Ideal.τ).loc Cert.Reference2Ideal.main_v142) = v2 c
          ∧ r.2.mem ((c.tc : Thread Cert.Reference2Ideal.nD Cert.Reference2Ideal.τ).loc Cert.Reference2Ideal.main_v149) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_mix_finite [hKernel3Ideal : Cert.Kernel3Ideal.Facts] [hReference3Ideal : Cert.Reference3Ideal.Facts] [hPre_mix_finite : Cert.Pre_mix_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_mix_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v70) = v0 c
          ∧ r.2.mem ((c.tc : Thread Cert.Reference3Ideal.nD Cert.Reference3Ideal.τ).loc Cert.Reference3Ideal.main_v51) = v1 c
          ∧ r.2.mem ((c.tc : Thread Cert.Reference3Ideal.nD Cert.Reference3Ideal.τ).loc Cert.Reference3Ideal.main_v54) = v2 c
          ∧ r.2.mem ((c.tc : Thread Cert.Reference3Ideal.nD Cert.Reference3Ideal.τ).loc Cert.Reference3Ideal.main_v35) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_loss_finite [hKernel4Ideal : Cert.Kernel4Ideal.Facts] [hReference4Ideal : Cert.Reference4Ideal.Facts] [hPre_loss_finite : Cert.Pre_loss_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_loss_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v48) = v0 c
          ∧ r.2.mem ((c.tc : Thread Cert.Reference4Ideal.nD Cert.Reference4Ideal.τ).loc Cert.Reference4Ideal.main_v51) = v1 c
          ∧ r.2.mem ((c.tc : Thread Cert.Reference4Ideal.nD Cert.Reference4Ideal.τ).loc Cert.Reference4Ideal.main_v52) = v2 c
          ∧ r.2.mem ((c.tc : Thread Cert.Reference4Ideal.nD Cert.Reference4Ideal.τ).loc Cert.Reference4Ideal.main_v32) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_ffn_finite [hKernel5Ideal : Cert.Kernel5Ideal.Facts] [hReference5Ideal : Cert.Reference5Ideal.Facts] [hPre_ffn_finite : Cert.Pre_ffn_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_ffn_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_attn_fwd_finite [hKernel6Ideal : Cert.Kernel6Ideal.Facts] [hReference6Ideal : Cert.Reference6Ideal.Facts] [hPre_attn_fwd_finite : Cert.Pre_attn_fwd_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_attn_fwd_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v47)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v47) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v95) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_v26) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)) (v3 : (c : Dev Cert.Kernel9Ideal.nD) → Buf (Elt Ideal) ((c.tc : Thread Cert.Kernel9Ideal.nD Cert.Kernel9Ideal.τ).loc Cert.Kernel9Ideal.main_v4_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_v4_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_v7) = v1 c
          ∧ r.2.mem ((c.tc : Thread Cert.Reference9Ideal.nD Cert.Reference9Ideal.τ).loc Cert.Reference9Ideal.main_v5) = v2 c
          ∧ r.2.mem ((c.tc : Thread Cert.Reference9Ideal.nD Cert.Reference9Ideal.τ).loc Cert.Reference9Ideal.main_v8) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)) (v2 : (c : Dev Cert.Kernel12Ideal.nD) → Buf (Elt Ideal) ((c.tc : Thread Cert.Kernel12Ideal.nD Cert.Kernel12Ideal.τ).loc Cert.Kernel12Ideal.main_v2_2)) (v3 : (c : Dev Cert.Kernel12Ideal.nD) → Buf (Elt Ideal) ((c.tc : Thread Cert.Kernel12Ideal.nD Cert.Kernel12Ideal.τ).loc Cert.Kernel12Ideal.main_v2_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_v2_2) = v2 c
          ∧ r.2.mem ((c.tc : Thread Cert.Kernel12Ideal.nD Cert.Kernel12Ideal.τ).loc Cert.Kernel12Ideal.main_v2_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v27) = v1 c
          ∧ r.2.mem ((c.tc : Thread Cert.Reference12Ideal.nD Cert.Reference12Ideal.τ).loc Cert.Reference12Ideal.main_v8) = v2 c
          ∧ r.2.mem ((c.tc : Thread Cert.Reference12Ideal.nD Cert.Reference12Ideal.τ).loc Cert.Reference12Ideal.main_v14) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v8_0)) (v1 : (c : Dev Cert.Kernel14Ideal.nD) → Buf (Elt Ideal) ((c.tc : Thread Cert.Kernel14Ideal.nD Cert.Kernel14Ideal.τ).loc Cert.Kernel14Ideal.main_v8_1)) (v2 : (c : Dev Cert.Kernel14Ideal.nD) → Buf (Elt Ideal) ((c.tc : Thread Cert.Kernel14Ideal.nD Cert.Kernel14Ideal.τ).loc Cert.Kernel14Ideal.main_v8_2)) (v3 : (c : Dev Cert.Kernel14Ideal.nD) → Buf (Elt Ideal) ((c.tc : Thread Cert.Kernel14Ideal.nD Cert.Kernel14Ideal.τ).loc Cert.Kernel14Ideal.main_v8_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v8_0) = v0 c
          ∧ r.2.mem ((c.tc : Thread Cert.Kernel14Ideal.nD Cert.Kernel14Ideal.τ).loc Cert.Kernel14Ideal.main_v8_1) = v1 c
          ∧ r.2.mem ((c.tc : Thread Cert.Kernel14Ideal.nD Cert.Kernel14Ideal.τ).loc Cert.Kernel14Ideal.main_v8_2) = v2 c
          ∧ r.2.mem ((c.tc : Thread Cert.Kernel14Ideal.nD Cert.Kernel14Ideal.τ).loc Cert.Kernel14Ideal.main_v8_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_v26) = v1 c
          ∧ r.2.mem ((c.tc : Thread Cert.Reference14Ideal.nD Cert.Reference14Ideal.τ).loc Cert.Reference14Ideal.main_v7) = v2 c
          ∧ r.2.mem ((c.tc : Thread Cert.Reference14Ideal.nD Cert.Reference14Ideal.τ).loc Cert.Reference14Ideal.main_v13) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)) →
    ∃ (v0 : (c : Dev Cert.Kernel15Ideal.nD) → Buf (Elt Ideal) ((c.tc : Thread Cert.Kernel15Ideal.nD Cert.Kernel15Ideal.τ).loc Cert.Kernel15Ideal.main_v5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_norm_finite : Cert.Pre_norm_finite.Facts) (hPre_attn_finite : Cert.Pre_attn_finite.Facts) (hPre_mix_finite : Cert.Pre_mix_finite.Facts) (hPre_loss_finite : Cert.Pre_loss_finite.Facts) (hPre_ffn_finite : Cert.Pre_ffn_finite.Facts) (hPre_attn_fwd_finite : Cert.Pre_attn_fwd_finite.Facts),
    quiescent_Kernel (hKernel := hKernel)
    ∧ quiescent_KernelIdeal (hKernelIdeal := hKernelIdeal)
    ∧ quiescent_KernelIdeal_pre_norm_finite (hKernelIdeal := hKernelIdeal) (hPre_norm_finite := hPre_norm_finite)
    ∧ quiescent_ReferenceIdeal (hReferenceIdeal := hReferenceIdeal)
    ∧ quiescent_ReferenceIdeal_pre_norm_finite (hReferenceIdeal := hReferenceIdeal) (hPre_norm_finite := hPre_norm_finite)
    ∧ quiescent_Kernel2 (hKernel2 := hKernel2)
    ∧ quiescent_Kernel2Ideal (hKernel2Ideal := hKernel2Ideal)
    ∧ quiescent_Kernel2Ideal_pre_attn_finite (hKernel2Ideal := hKernel2Ideal) (hPre_attn_finite := hPre_attn_finite)
    ∧ quiescent_Reference2Ideal (hReference2Ideal := hReference2Ideal)
    ∧ quiescent_Reference2Ideal_pre_attn_finite (hReference2Ideal := hReference2Ideal) (hPre_attn_finite := hPre_attn_finite)
    ∧ quiescent_Kernel3 (hKernel3 := hKernel3)
    ∧ quiescent_Kernel3Ideal (hKernel3Ideal := hKernel3Ideal)
    ∧ quiescent_Kernel3Ideal_pre_mix_finite (hKernel3Ideal := hKernel3Ideal) (hPre_mix_finite := hPre_mix_finite)
    ∧ quiescent_Reference3Ideal (hReference3Ideal := hReference3Ideal)
    ∧ quiescent_Reference3Ideal_pre_mix_finite (hReference3Ideal := hReference3Ideal) (hPre_mix_finite := hPre_mix_finite)
    ∧ quiescent_Kernel4 (hKernel4 := hKernel4)
    ∧ quiescent_Kernel4Ideal (hKernel4Ideal := hKernel4Ideal)
    ∧ quiescent_Kernel4Ideal_pre_loss_finite (hKernel4Ideal := hKernel4Ideal) (hPre_loss_finite := hPre_loss_finite)
    ∧ quiescent_Reference4Ideal (hReference4Ideal := hReference4Ideal)
    ∧ quiescent_Reference4Ideal_pre_loss_finite (hReference4Ideal := hReference4Ideal) (hPre_loss_finite := hPre_loss_finite)
    ∧ quiescent_Kernel5 (hKernel5 := hKernel5)
    ∧ quiescent_Kernel5Ideal (hKernel5Ideal := hKernel5Ideal)
    ∧ quiescent_Kernel5Ideal_pre_ffn_finite (hKernel5Ideal := hKernel5Ideal) (hPre_ffn_finite := hPre_ffn_finite)
    ∧ quiescent_Reference5Ideal (hReference5Ideal := hReference5Ideal)
    ∧ quiescent_Reference5Ideal_pre_ffn_finite (hReference5Ideal := hReference5Ideal) (hPre_ffn_finite := hPre_ffn_finite)
    ∧ quiescent_Kernel6 (hKernel6 := hKernel6)
    ∧ quiescent_Kernel6Ideal (hKernel6Ideal := hKernel6Ideal)
    ∧ quiescent_Kernel6Ideal_pre_attn_fwd_finite (hKernel6Ideal := hKernel6Ideal) (hPre_attn_fwd_finite := hPre_attn_fwd_finite)
    ∧ quiescent_Reference6Ideal (hReference6Ideal := hReference6Ideal)
    ∧ quiescent_Reference6Ideal_pre_attn_fwd_finite (hReference6Ideal := hReference6Ideal) (hPre_attn_fwd_finite := hPre_attn_fwd_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_norm_finite (hKernelIdeal := hKernelIdeal) (hReferenceIdeal := hReferenceIdeal) (hPre_norm_finite := hPre_norm_finite)
    ∧ preserves_Kernel2_Kernel2Ideal
    ∧ algebraic_Kernel2Ideal_Reference2Ideal_pre_attn_finite (hKernel2Ideal := hKernel2Ideal) (hReference2Ideal := hReference2Ideal) (hPre_attn_finite := hPre_attn_finite)
    ∧ preserves_Kernel3_Kernel3Ideal
    ∧ algebraic_Kernel3Ideal_Reference3Ideal_pre_mix_finite (hKernel3Ideal := hKernel3Ideal) (hReference3Ideal := hReference3Ideal) (hPre_mix_finite := hPre_mix_finite)
    ∧ preserves_Kernel4_Kernel4Ideal
    ∧ algebraic_Kernel4Ideal_Reference4Ideal_pre_loss_finite (hKernel4Ideal := hKernel4Ideal) (hReference4Ideal := hReference4Ideal) (hPre_loss_finite := hPre_loss_finite)
    ∧ preserves_Kernel5_Kernel5Ideal
    ∧ algebraic_Kernel5Ideal_Reference5Ideal_pre_ffn_finite (hKernel5Ideal := hKernel5Ideal) (hReference5Ideal := hReference5Ideal) (hPre_ffn_finite := hPre_ffn_finite)
    ∧ preserves_Kernel6_Kernel6Ideal
    ∧ algebraic_Kernel6Ideal_Reference6Ideal_pre_attn_fwd_finite (hKernel6Ideal := hKernel6Ideal) (hReference6Ideal := hReference6Ideal) (hPre_attn_fwd_finite := hPre_attn_fwd_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_attn_finite.lean ====
abbrev S2048x5120 : Shape := ⟨2, ![2048, 5120]⟩
abbrev S16x15x31 : Shape := ⟨3, ![16, 15, 31]⟩
abbrev S2048x1024 : Shape := ⟨2, ![2048, 1024]⟩
abbrev S_ : Shape := ⟨0, ![]⟩

class Facts : Prop where
  bcast_S_S2048x5120 : S_.BroadcastsInDim S2048x5120 (![] : Fin 0 → Fin S2048x5120.rank)
  bcast_S_S16x15x31 : S_.BroadcastsInDim S16x15x31 (![] : Fin 0 → Fin S16x15x31.rank)
  bcast_S_S2048x1024 : S_.BroadcastsInDim S2048x1024 (![] : Fin 0 → Fin S2048x1024.rank)

variable [Facts]

def fn {F : FTy → Type} [FloatOps F] (main_arg0 : FVec F S2048x5120 .f32) (main_arg1 : FVec F S16x15x31 .f32) (main_arg2 : FVec F S2048x1024 .f32) : IVec S2048x5120 1 × IVec S16x15x31 1 × IVec S2048x1024 1 :=
  let main_v0 : FVec F S2048x5120 .f32 := Host.absf main_arg0
  let main_cst : FVec F S_ .f32 := constant S_ .f32 0x7F800000#32
  let main_v1 : FVec F S2048x5120 .f32 := broadcastInDim S2048x5120 ![] bcast_S_S2048x5120 main_cst
  let main_v2 : IVec S2048x5120 1 := cmpf .olt main_v0 main_v1
  let main_v3 : FVec F S16x15x31 .f32 := Host.absf main_arg1
  let main_cst_0 : FVec F S_ .f32 := constant S_ .f32 0x7F800000#32
  let main_v4 : FVec F S16x15x31 .f32 := broadcastInDim S16x15x31 ![] bcast_S_S16x15x31 main_cst_0
  let main_v5 : IVec S16x15x31 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  (main_v2, main_v5, main_v8)
-- ==== Pre_attn_fwd_finite.lean ====
abbrev S2048x5120 : Shape := ⟨2, ![2048, 5120]⟩
abbrev S16x15x31 : Shape := ⟨3, ![16, 15, 31]⟩
abbrev S_ : Shape := ⟨0, ![]⟩

class Facts : Prop where
  bcast_S_S2048x5120 : S_.BroadcastsInDim S2048x5120 (![] : Fin 0 → Fin S2048x5120.rank)
  bcast_S_S16x15x31 : S_.BroadcastsInDim S16x15x31 (![] : Fin 0 → Fin S16x15x31.rank)

variable [Facts]

def fn {F : FTy → Type} [FloatOps F] (main_arg0 : FVec F S2048x5120 .f32) (main_arg1 : FVec F S16x15x31 .f32) : IVec S2048x5120 1 × IVec S16x15x31 1 :=
  let main_v0 : FVec F S2048x5120 .f32 := Host.absf main_arg0
  let main_cst : FVec F S_ .f32 := constant S_ .f32 0x7F800000#32
  let main_v1 : FVec F S2048x5120 .f32 := broadcastInDim S2048x5120 ![] bcast_S_S2048x5120 main_cst
  let main_v2 : IVec S2048x5120 1 := cmpf .olt main_v0 main_v1
  let main_v3 : FVec F S16x15x31 .f32 := Host.absf main_arg1
  let main_cst_0 : FVec F S_ .f32 := constant S_ .f32 0x7F800000#32
  let main_v4 : FVec F S16x15x31 .f32 := broadcastInDim S16x15x31 ![] bcast_S_S16x15x31 main_cst_0
  let main_v5 : IVec S16x15x31 1 := cmpf .olt main_v3 main_v4
  (main_v2, main_v5)
-- ==== Pre_ffn_finite.lean ====
abbrev S2048x2048 : Shape := ⟨2, ![2048, 2048]⟩
abbrev S2048x11264 : Shape := ⟨2, ![2048, 11264]⟩
abbrev S5632x2048 : Shape := ⟨2, ![5632, 2048]⟩
abbrev S_ : Shape := ⟨0, ![]⟩

class Facts : Prop where
  bcast_S_S2048x2048 : S_.BroadcastsInDim S2048x2048 (![] : Fin 0 → Fin S2048x2048.rank)
  bcast_S_S2048x11264 : S_.BroadcastsInDim S2048x11264 (![] : Fin 0 → Fin S2048x11264.rank)
  bcast_S_S5632x2048 : S_.BroadcastsInDim S5632x2048 (![] : Fin 0 → Fin S5632x2048.rank)

variable [Facts]

def fn {F : FTy → Type} [FloatOps F] (main_arg0 : FVec F S2048x2048 .f32) (main_arg1 : FVec F S2048x11264 .f32) (main_arg2 : FVec F S5632x2048 .f32) (main_arg3 : FVec F S2048x2048 .f32) : IVec S2048x2048 1 × IVec S2048x11264 1 × IVec S5632x2048 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x11264 .f32 := Host.absf main_arg1
  let main_cst_0 : FVec F S_ .f32 := constant S_ .f32 0x7F800000#32
  let main_v4 : FVec F S2048x11264 .f32 := broadcastInDim S2048x11264 ![] bcast_S_S2048x11264 main_cst_0
  let main_v5 : IVec S2048x11264 1 := cmpf .olt main_v3 main_v4
  let main_v6 : FVec F S5632x2048 .f32 := Host.absf main_arg2
  let main_cst_1 : FVec F S_ .f32 := constant S_ .f32 0x7F800000#32
  let main_v7 : FVec F S5632x2048 .f32 := broadcastInDim S5632x2048 ![] bcast_S_S5632x2048 main_cst_1
  let main_v8 : IVec S5632x2048 1 := cmpf .olt main_v6 main_v7
  let main_v9 : FVec F S2048x2048 .f32 := Host.absf main_arg3
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  (main_v2, main_v5, main_v8, main_v11)
-- ==== Pre_loss_finite.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  bcast_S_S1x2048 : S_.BroadcastsInDim S1x2048 (![] : Fin 0 → Fin S1x2048.rank)

variable [Facts]

def fn {F : FTy → Type} [FloatOps F] (main_arg0 : FVec F S2048x2048 .f32) (main_arg1 : FVec F S1x2048 .f32) (main_arg2 : FVec F S2048x2048 .f32) : IVec S2048x2048 1 × IVec S1x2048 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S2048x2048 .f32 := Host.absf main_arg2
  let main_cst_1 : FVec F S_ .f32 := constant S_ .f32 0x7F800000#32
  let main_v7 : FVec F S2048x2048 .f32 := broadcastInDim S2048x2048 ![] bcast_S_S2048x2048 main_cst_1
  let main_v8 : IVec S2048x2048 1 := cmpf .olt main_v6 main_v7
  (main_v2, main_v5, main_v8)
-- ==== Pre_mix_finite.lean ====
abbrev S2048x2048 : Shape := ⟨2, ![2048, 2048]⟩
abbrev S2048x1024 : Shape := ⟨2, ![2048, 1024]⟩
abbrev S1x1024 : Shape := ⟨2, ![1, 1024]⟩
abbrev S_ : Shape := ⟨0, ![]⟩

class Facts : Prop where
  bcast_S_S2048x2048 : S_.BroadcastsInDim S2048x2048 (![] : Fin 0 → Fin S2048x2048.rank)
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x2048 .f32) (main_arg1 : FVec F S2048x1024 .f32) (main_arg2 : FVec F S2048x1024 .f32) (main_arg3 : FVec F S1x1024 .f32) (main_arg4 : FVec F S1x1024 .f32) : IVec S2048x2048 1 × IVec S2048x1024 1 × IVec S2048x1024 1 × IVec S1x1024 1 × IVec S1x1024 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Pre_norm_finite.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  bcast_S_S1x2048 : S_.BroadcastsInDim S1x2048 (![] : Fin 0 → Fin S1x2048.rank)

variable [Facts]

def fn {F : FTy → Type} [FloatOps F] (main_arg0 : FVec F S2048x2048 .f32) (main_arg1 : FVec F S2048x2048 .f32) (main_arg2 : FVec F S1x2048 .f32) (main_arg3 : FVec F S2048x2048 .f32) : IVec S2048x2048 1 × IVec S2048x2048 1 × IVec S1x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  (main_v2, main_v5, main_v8)
-- ==== Kernel.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 51
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048x2048, .f32⟩
  | .hbm, ⟨49, _⟩ => ⟨S2048x2048, .f32⟩
  | .hbm, ⟨50, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel2.lean ====
abbrev S2048x5120 : Shape := ⟨2, ![2048, 5120]⟩
abbrev S16x15x31 : Shape := ⟨3, ![16, 15, 31]⟩
abbrev S2048x1024 : Shape := ⟨2, ![2048, 1024]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S16x15x64x64 : Shape := ⟨4, ![16, 15, 64, 64]⟩
abbrev S1x1x64x64 : Shape := ⟨4, ![1, 1, 64, 64]⟩
abbrev S16x1x64x64 : Shape := ⟨4, ![16, 1, 64, 64]⟩
abbrev S16x14x64x64 : Shape := ⟨4, ![16, 14, 64, 64]⟩
abbrev S16x14x64x128 : Shape := ⟨4, ![16, 14, 64, 128]⟩
abbrev S16x1x64x128 : Shape := ⟨4, ![16, 1, 64, 128]⟩
abbrev S16x17x64x128 : Shape := ⟨4, ![16, 17, 64, 128]⟩
abbrev S3x1024x2048 : Shape := ⟨3, ![3, 1024, 2048]⟩
abbrev S2048x128 : Shape := ⟨2, ![2048, 128]⟩
abbrev S2x17x64x128 : Shape := ⟨4, ![2, 17, 64, 128]⟩
abbrev S3x128x2048 : Shape := ⟨3, ![3, 128, 2048]⟩
abbrev S16x128x128 : Shape := ⟨3, ![16, 128, 128]⟩
abbrev S128x128 : Shape := ⟨2, ![128, 128]⟩
abbrev S1x128x128 : Shape := ⟨3, ![1, 128, 128]⟩
abbrev S1x1x64x128 : Shape := ⟨4, ![1, 1, 64, 128]⟩
abbrev S64x128 : Shape := ⟨2, ![64, 128]⟩
abbrev S64x768 : Shape := ⟨2, ![64, 768]⟩
abbrev S256x768 : Shape := ⟨2, ![256, 768]⟩
abbrev S256x64 : Shape := ⟨2, ![256, 64]⟩
abbrev S1x64x128 : Shape := ⟨3, ![1, 64, 128]⟩
abbrev S256 : Shape := ⟨1, ![256]⟩
abbrev S256x1 : Shape := ⟨2, ![256, 1]⟩
abbrev S768x64 : Shape := ⟨2, ![768, 64]⟩
abbrev S128x2048 : Shape := ⟨2, ![128, 2048]⟩
abbrev S1x128x2048 : Shape := ⟨3, ![1, 128, 2048]⟩

abbrev nBuf : Space → Nat
  | .hbm => 80
  | .vmem => 29
  | .smem => 0
  | _ => 0

abbrev bufTy : (tb : Table) → Fin (tcTables nBuf tb) → BufTy
  | .hbm, ⟨0, _⟩ => ⟨S2048x5120, .f32⟩
  | .hbm, ⟨1, _⟩ => ⟨S16x15x31, .f32⟩
  | .hbm, ⟨2, _⟩ => ⟨S2048x1024, .f32⟩
  | .hbm, ⟨3, _⟩ => ⟨S64, .i32⟩
  | .hbm, ⟨4, _⟩ => ⟨S_, .i32⟩
  | .hbm, ⟨5, _⟩ => ⟨S64, .i32⟩
  | .hbm, ⟨6, _⟩ => ⟨S64, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S1x64, .i32⟩
  | .hbm, ⟨16, _⟩ => ⟨S64x1, .i32⟩
  | .hbm, ⟨17, _⟩ => ⟨S64x64, .i32⟩
  | .hbm, ⟨18, _⟩ => ⟨S64x64, .i32⟩
  | .hbm, ⟨19, _⟩ => ⟨S64x64, .i1⟩
  | .hbm, ⟨20, _⟩ => ⟨S1x64, .i32⟩
  | .hbm, ⟨21, _⟩ => ⟨S64x1, .i32⟩
  | .hbm, ⟨22, _⟩ => ⟨S_, .i32⟩
  | .hbm, ⟨23, _⟩ => ⟨S64x1, .i32⟩
  | .hbm, ⟨24, _⟩ => ⟨S64x1, .i32⟩
  | .hbm, ⟨25, _⟩ => ⟨S64x64, .i32⟩
  | .hbm, ⟨26, _⟩ => ⟨S64x64, .i32⟩
  | .hbm, ⟨27, _⟩ => ⟨S64x64, .i1⟩
  | .hbm, ⟨28, _⟩ => ⟨S64x64, .i1⟩
  | .hbm, ⟨29, _⟩ => ⟨S1x64, .i32⟩
  | .hbm, ⟨30, _⟩ => ⟨S64x1, .i32⟩
  | .hbm, ⟨31, _⟩ => ⟨S64x64, .i32⟩
  | .hbm, ⟨32, _⟩ => ⟨S64x64, .i32⟩
  | .hbm, ⟨33, _⟩ => ⟨S64x64, .i32⟩
  | .hbm, ⟨34, _⟩ => ⟨S_, .i32⟩
  | .hbm, ⟨35, _⟩ => ⟨S64x64, .i32⟩
  | .hbm, ⟨36, _⟩ => ⟨S64x64, .i32⟩
  | .hbm, ⟨37, _⟩ => ⟨S_, .i32⟩
  | .hbm, ⟨38, _⟩ => ⟨S64x64, .i32⟩
  | .hbm, ⟨39, _⟩ => ⟨S64x64, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S64x64, .i32⟩
  | .hbm, ⟨44, _⟩ => ⟨S64x64, .i32⟩
  | .hbm, ⟨45, _⟩ => ⟨S_, .i32⟩
  | .hbm, ⟨46, _⟩ => ⟨S64x64, .i32⟩
  | .hbm, ⟨47, _⟩ => ⟨S64x64, .i32⟩
  | .hbm, ⟨48, _⟩ => ⟨S_, .i32⟩
  | .hbm, ⟨49, _⟩ => ⟨S64x64, .i32⟩
  | .hbm, ⟨50, _⟩ => ⟨S64x64, .i1⟩
  | .hbm, ⟨51, _⟩ => ⟨S_, .i32⟩
  | .hbm, ⟨52, _⟩ => ⟨S64x64, .i32⟩
  | .hbm, ⟨53, _⟩ => ⟨S64x64, .i32⟩
  | .hbm, ⟨54, _⟩ => ⟨S64x64, .i32⟩
  | .hbm, ⟨55, _⟩ => ⟨S64x64x1, .i32⟩
  | .hbm, ⟨56, _⟩ => ⟨S16x15x64x64, .f32⟩
  | .hbm, ⟨57, _⟩ => ⟨S1x1x64x64, .i1⟩
  | .hbm, ⟨58, _⟩ => ⟨S_, .f32⟩
  | .hbm, ⟨59, _⟩ => ⟨S_, .f32⟩
  | .hbm, ⟨60, _⟩ => ⟨S16x15x64x64, .i1⟩
  | .hbm, ⟨61, _⟩ => ⟨S16x15x64x64, .f32⟩
  | .hbm, ⟨62, _⟩ => ⟨S16x15x64x64, .f32⟩
  | .hbm, ⟨63, _⟩ => ⟨S16x1x64x64, .f32⟩
  | .hbm, ⟨64, _⟩ => ⟨S_, .f32⟩
  | .hbm, ⟨65, _⟩ => ⟨S16x1x64x64, .f32⟩
  | .hbm, ⟨66, _⟩ => ⟨S16x14x64x64, .f32⟩
  | .hbm, ⟨67, _⟩ => ⟨S16x14x64x64, .f32⟩
  | .hbm, ⟨68, _⟩ => ⟨S16x14x64x128, .f32⟩
  | .hbm, ⟨69, _⟩ => ⟨S16x1x64x64, .f32⟩
  | .hbm, ⟨70, _⟩ => ⟨S16x1x64x128, .f32⟩
  | .hbm, ⟨71, _⟩ => ⟨S16x1x64x64, .f32⟩
  | .hbm, ⟨72, _⟩ => ⟨S16x1x64x128, .f32⟩
  | .hbm, ⟨73, _⟩ => ⟨S16x1x64x128, .f32⟩
  | .hbm, ⟨74, _⟩ => ⟨S16x17x64x128, .f32⟩
  | .hbm, ⟨75, _⟩ => ⟨S2048x1024, .bf16⟩
  | .hbm, ⟨76, _⟩ => ⟨S2048x1024, .bf16⟩
  | .hbm, ⟨77, _⟩ => ⟨S2048x1024, .bf16⟩
  | .hbm, ⟨78, _⟩ => ⟨S3x1024x2048, .bf16⟩
  | .hbm, ⟨79, _⟩ => ⟨S16x17x64x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2x17x64x128, .f32⟩
  | .local _ .vmem, ⟨7, _⟩ => ⟨S2x17x64x128, .f32⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S3x128x2048, .bf16⟩
  | .local _ .vmem, ⟨17, _⟩ => ⟨S3x128x2048, .bf16⟩
  | .local _ .vmem, ⟨18, _⟩ => ⟨S2x17x64x128, .f32⟩
  | .local _ .vmem, ⟨19, _⟩ => ⟨S2x17x64x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .bf16⟩
  | .local _ .vmem, ⟨24, _⟩ => ⟨S2048x128, .bf16⟩
  | .local _ .vmem, ⟨25, _⟩ => ⟨S2048x128, .bf16⟩
  | .local _ .vmem, ⟨26, _⟩ => ⟨S2048x128, .bf16⟩
  | .local _ .vmem, ⟨27, _⟩ => ⟨S16x128x128, .bf16⟩
  | .local _ .vmem, ⟨28, _⟩ => ⟨S16x128x128, .bf16⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_c_6 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v26 : Ref sig .tc := ⟨.hbm, 47, rfl⟩
abbrev main_c_7 : Ref sig .tc := ⟨.hbm, 48, rfl⟩
abbrev main_v27 : Ref sig .tc := ⟨.hbm, 49, rfl⟩
abbrev main_v28 : Ref sig .tc := ⟨.hbm, 50, rfl⟩
abbrev main_c_8 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v35 : Ref sig .tc := ⟨.hbm, 62, rfl⟩
abbrev main_v36 : Ref sig .tc := ⟨.hbm, 63, rfl⟩
abbrev main_cst_9 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47_0 : Ref sig .tc := ⟨.hbm, 75, rfl⟩
abbrev main_v47_1 : Ref sig .tc := ⟨.hbm, 76, rfl⟩
abbrev main_v47_2 : Ref sig .tc := ⟨.hbm, 77, rfl⟩
abbrev main_v47_3 : Ref sig .tc := ⟨.hbm, 78, rfl⟩
abbrev main_v47_4 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v222 : BitVec 32 := Scalar.addi c0_i32 c8_i32
  let c1_i32 : BitVec 32 := 1#32
  ⟨c0_i32, v222, c1_i32⟩
def k0_mult1 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32 : BitVec 32 := 256#32
  let v251 : BitVec 32 := Scalar.muli arg20 c256_i32
  v251
def k0_mult2 (k0_t1 : Fin k0_t1_loop.trips) : BitVec 32 :=
  let c20_i32 : BitVec 32 := 20#32
  let c0_i32_178 : BitVec 32 := 0#32
  let c4_i32 : BitVec 32 := 4#32
  let c0_i32 : BitVec 32 := 0#32
  let c1_i32 : BitVec 32 := 1#32
  let arg20 : BitVec 32 := Scf.iv c0_i32 c1_i32 k0_t1
  let v247 : BitVec 32 := Scalar.muli c4_i32 arg20
  let c4_i32_177 : BitVec 32 := 4#32
  let v248 : BitVec 32 := Scalar.subi v247 c4_i32_177
  let v249 : BitVec 32 := Scalar.maxsi c0_i32_178 v248
  let v250 : BitVec 32 := Scalar.minsi c20_i32 v249
  let c64_i32 : BitVec 32 := 64#32
  let v253 : BitVec 32 := Scalar.muli v250 c64_i32
  v253
def k0_off1 (k0_t1 : Fin k0_t1_loop.trips) (c0_i32_181 : BitVec 32) (c0_i32_180 : BitVec 32) : Fin 4 → Nat :=
  let c0_531 : Index := 0#32
  let c20_i32 : BitVec 32 := 20#32
  let c0_i32_178 : BitVec 32 := 0#32
  let c4_i32 : BitVec 32 := 4#32
  let c0_i32 : BitVec 32 := 0#32
  let c1_i32 : BitVec 32 := 1#32
  let arg20 : BitVec 32 := Scf.iv c0_i32 c1_i32 k0_t1
  let v247 : BitVec 32 := Scalar.muli c4_i32 arg20
  let c4_i32_177 : BitVec 32 := 4#32
  let v248 : BitVec 32 := Scalar.subi v247 c4_i32_177
  let v249 : BitVec 32 := Scalar.maxsi c0_i32_178 v248
  let v250 : BitVec 32 := Scalar.minsi c20_i32 v249
  let v257 : BitVec 32 := Scalar.addi v250 c0_i32_181
  let c24_i32 : BitVec 32 := 24#32
  let c0_i32_183 : BitVec 32 := 0#32
  let c4_i32_179 : BitVec 32 := 4#32
  let v255 : BitVec 32 := Scalar.muli c4_i32_179 arg20
  let v256 : BitVec 32 := Scalar.addi v255 c0_i32_180
  let c4_i32_182 : BitVec 32 := 4#32
  let v258 : BitVec 32 := Scalar.subi v256 c4_i32_182
  let v259 : BitVec 32 := Scalar.maxsi c0_i32_183 v258
  let v260 : BitVec 32 := Scalar.minsi c24_i32 v259
  let v261 : BitVec 1 := Scalar.cmpi .sge v257 v260
  let c8_i32_184 : BitVec 32 := 8#32
  let v262 : BitVec 32 := Scalar.addi v260 c8_i32_184
  let v263 : BitVec 1 := Scalar.cmpi .slt v257 v262
  let v264 : BitVec 1 := Scalar.andi v261 v263
  let c1_i32_185 : BitVec 32 := 1#32
  let v265 : BitVec 32 := Scalar.addi v257 c1_i32_185
  let v266 : BitVec 1 := Scalar.cmpi .sge v265 v260
  let c1_i32_186 : BitVec 32 := 1#32
  let v267 : BitVec 32 := Scalar.addi v257 c1_i32_186
  let c8_i32_187 : BitVec 32 := 8#32
  let v268 : BitVec 32 := Scalar.addi v260 c8_i32_187
  let v269 : BitVec 1 := Scalar.cmpi .slt v267 v268
  let v270 : BitVec 1 := Scalar.andi v266 v269
  let v271 : BitVec 1 := Scalar.andi v264 v270
  let v272 : BitVec 32 := Scalar.subi v257 v256
  let c8_i32_188 : BitVec 32 := 8#32
  let v273 : BitVec 32 := Scalar.addi v272 c8_i32_188
  let c1_i32_189 : BitVec 32 := 1#32
  let v274 : BitVec 32 := Scalar.subi v273 c1_i32_189
  let c14_i32 : BitVec 32 := 14#32
  let c15_i32 : BitVec 32 := 15#32
  let c16_i32 : BitVec 32 := 16#32
  let v275 : BitVec 32 := Scalar.select v264 c15_i32 c16_i32
  let v276 : BitVec 32 := Scalar.select v270 c14_i32 v275
  let v277 : BitVec 32 := Scalar.select v271 v274 v276
  let v807 : Index := Scalar.indexCast v277
  let c0_532 : Index := 0#32
  let c0_533 : Index := 0#32
  ![0, v807.toNat, 0, 0]
def k0_off2 (k0_t1 : Fin k0_t1_loop.trips) : Fin 2 → Nat :=
  let c0_i32 : BitVec 32 := 0#32
  let c1_i32 : BitVec 32 := 1#32
  let arg20 : BitVec 32 := Scf.iv c0_i32 c1_i32 k0_t1
  let c256_i32 : BitVec 32 := 256#32
  let v251 : BitVec 32 := Scalar.muli arg20 c256_i32
  let v252 : BitVec 32 := v251
  let v884 : Index := Scalar.indexCast v252
  let c0_603 : Index := 0#32
  ![v884.toNat, 0]
def k0_off3 (k0_t1 : Fin k0_t1_loop.trips) (c0_i32_611 : BitVec 32) : Fin 3 → Nat :=
  let c20_i32 : BitVec 32 := 20#32
  let c0_i32_178 : BitVec 32 := 0#32
  let c4_i32 : BitVec 32 := 4#32
  let c0_i32 : BitVec 32 := 0#32
  let c1_i32 : BitVec 32 := 1#32
  let arg20 : BitVec 32 := Scf.iv c0_i32 c1_i32 k0_t1
  let v247 : BitVec 32 := Scalar.muli c4_i32 arg20
  let c4_i32_177 : BitVec 32 := 4#32
  let v248 : BitVec 32 := Scalar.subi v247 c4_i32_177
  let v249 : BitVec 32 := Scalar.maxsi c0_i32_178 v248
  let v250 : BitVec 32 := Scalar.minsi c20_i32 v249
  let c0_i32_605 : BitVec 32 := 0#32
  let v887 : BitVec 1 := Scalar.cmpi .sgt v250 c0_i32_605
  let v888 : BitVec 32 := Scalar.extui v887
  let c0_i32_606 : BitVec 32 := 0#32
  let v889 : BitVec 1 := Scalar.cmpi .slt v250 c0_i32_606
  let v890 : BitVec 32 := Scalar.extui v889
  let v891 : BitVec 32 := Scalar.subi v888 v890
  let c2_i32_604 : BitVec 32 := 2#32
  let c0_i32_607 : BitVec 32 := 0#32
  let v892 : BitVec 1 := Scalar.cmpi .sgt c2_i32_604 c0_i32_607
  let v893 : BitVec 32 := Scalar.extui v892
  let c0_i32_608 : BitVec 32 := 0#32
  let v894 : BitVec 1 := Scalar.cmpi .slt c2_i32_604 c0_i32_608
  let v895 : BitVec 32 := Scalar.extui v894
  let v896 : BitVec 32 := Scalar.subi v893 v895
  let v897 : BitVec 1 := Scalar.cmpi .ne v891 v896
  let v898 : BitVec 32 := Scalar.remsi v250 c2_i32_604
  let c0_i32_609 : BitVec 32 := 0#32
  let v899 : BitVec 1 := Scalar.cmpi .ne v898 c0_i32_609
  let v900 : BitVec 1 := Scalar.andi v897 v899
  let v886 : BitVec 32 := Scalar.divsi v250 c2_i32_604
  let c1_i32_610 : BitVec 32 := 1#32
  let v901 : BitVec 32 := Scalar.subi v886 c1_i32_610
  let v902 : BitVec 32 := Scalar.select v900 v901 v886
  let v903 : BitVec 32 := Scalar.addi v902 c0_i32_611
  let v904 : Index := Scalar.indexCast v903
  let c0_612 : Index := 0#32
  let c0_613 : Index := 0#32
  ![v904.toNat, 0, 0]
def k0_off4 (k0_t1 : Fin k0_t1_loop.trips) : Fin 2 → Nat :=
  let c20_i32 : BitVec 32 := 20#32
  let c0_i32_178 : BitVec 32 := 0#32
  let c4_i32 : BitVec 32 := 4#32
  let c0_i32 : BitVec 32 := 0#32
  let c1_i32 : BitVec 32 := 1#32
  let arg20 : BitVec 32 := Scf.iv c0_i32 c1_i32 k0_t1
  let v247 : BitVec 32 := Scalar.muli c4_i32 arg20
  let c4_i32_177 : BitVec 32 := 4#32
  let v248 : BitVec 32 := Scalar.subi v247 c4_i32_177
  let v249 : BitVec 32 := Scalar.maxsi c0_i32_178 v248
  let v250 : BitVec 32 := Scalar.minsi c20_i32 v249
  let c64_i32 : BitVec 32 := 64#32
  let v253 : BitVec 32 := Scalar.muli v250 c64_i32
  let v254 : BitVec 32 := v253
  let v1211 : Index := Scalar.indexCast v254
  let c0_805 : Index := 0#32
  ![v1211.toNat, 0]
def k0_mult3 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_818 : BitVec 32 := 256#32
  let v1239 : BitVec 32 := Scalar.muli arg20 c256_i32_818
  v1239
def k0_mult4 (k0_t1 : Fin k0_t1_loop.trips) : BitVec 32 :=
  let c20_i32_817 : BitVec 32 := 20#32
  let c0_i32_816 : BitVec 32 := 0#32
  let c4_i32_814 : BitVec 32 := 4#32
  let c0_i32 : BitVec 32 := 0#32
  let c1_i32 : BitVec 32 := 1#32
  let arg20 : BitVec 32 := Scf.iv c0_i32 c1_i32 k0_t1
  let v1235 : BitVec 32 := Scalar.muli c4_i32_814 arg20
  let c4_i32_815 : BitVec 32 := 4#32
  let v1236 : BitVec 32 := Scalar.subi v1235 c4_i32_815
  let v1237 : BitVec 32 := Scalar.maxsi c0_i32_816 v1236
  let v1238 : BitVec 32 := Scalar.minsi c20_i32_817 v1237
  let c64_i32_819 : BitVec 32 := 64#32
  let v1241 : BitVec 32 := Scalar.muli v1238 c64_i32_819
  v1241
def k0_off5 (k0_t1 : Fin k0_t1_loop.trips) (c0_i32_822 : BitVec 32) (c0_i32_821 : BitVec 32) : Fin 4 → Nat :=
  let c1_1180 : Index := 1#32
  let c20_i32_817 : BitVec 32 := 20#32
  let c0_i32_816 : BitVec 32 := 0#32
  let c4_i32_814 : BitVec 32 := 4#32
  let c0_i32 : BitVec 32 := 0#32
  let c1_i32 : BitVec 32 := 1#32
  let arg20 : BitVec 32 := Scf.iv c0_i32 c1_i32 k0_t1
  let v1235 : BitVec 32 := Scalar.muli c4_i32_814 arg20
  let c4_i32_815 : BitVec 32 := 4#32
  let v1236 : BitVec 32 := Scalar.subi v1235 c4_i32_815
  let v1237 : BitVec 32 := Scalar.maxsi c0_i32_816 v1236
  let v1238 : BitVec 32 := Scalar.minsi c20_i32_817 v1237
  let v1245 : BitVec 32 := Scalar.addi v1238 c0_i32_822
  let c24_i32_825 : BitVec 32 := 24#32
  let c0_i32_824 : BitVec 32 := 0#32
  let c4_i32_820 : BitVec 32 := 4#32
  let v1243 : BitVec 32 := Scalar.muli c4_i32_820 arg20
  let v1244 : BitVec 32 := Scalar.addi v1243 c0_i32_821
  let c4_i32_823 : BitVec 32 := 4#32
  let v1246 : BitVec 32 := Scalar.subi v1244 c4_i32_823
  let v1247 : BitVec 32 := Scalar.maxsi c0_i32_824 v1246
  let v1248 : BitVec 32 := Scalar.minsi c24_i32_825 v1247
  let v1249 : BitVec 1 := Scalar.cmpi .sge v1245 v1248
  let c8_i32_826 : BitVec 32 := 8#32
  let v1250 : BitVec 32 := Scalar.addi v1248 c8_i32_826
  let v1251 : BitVec 1 := Scalar.cmpi .slt v1245 v1250
  let v1252 : BitVec 1 := Scalar.andi v1249 v1251
  let c1_i32_827 : BitVec 32 := 1#32
  let v1253 : BitVec 32 := Scalar.addi v1245 c1_i32_827
  let v1254 : BitVec 1 := Scalar.cmpi .sge v1253 v1248
  let c1_i32_828 : BitVec 32 := 1#32
  let v1255 : BitVec 32 := Scalar.addi v1245 c1_i32_828
  let c8_i32_829 : BitVec 32 := 8#32
  let v1256 : BitVec 32 := Scalar.addi v1248 c8_i32_829
  let v1257 : BitVec 1 := Scalar.cmpi .slt v1255 v1256
  let v1258 : BitVec 1 := Scalar.andi v1254 v1257
  let v1259 : BitVec 1 := Scalar.andi v1252 v1258
  let v1260 : BitVec 32 := Scalar.subi v1245 v1244
  let c8_i32_830 : BitVec 32 := 8#32
  let v1261 : BitVec 32 := Scalar.addi v1260 c8_i32_830
  let c1_i32_831 : BitVec 32 := 1#32
  let v1262 : BitVec 32 := Scalar.subi v1261 c1_i32_831
  let c14_i32_834 : BitVec 32 := 14#32
  let c15_i32_832 : BitVec 32 := 15#32
  let c16_i32_833 : BitVec 32 := 16#32
  let v1263 : BitVec 32 := Scalar.select v1252 c15_i32_832 c16_i32_833
  let v1264 : BitVec 32 := Scalar.select v1258 c14_i32_834 v1263
  let v1265 : BitVec 32 := Scalar.select v1259 v1262 v1264
  let v1795 : Index := Scalar.indexCast v1265
  let c0_1181 : Index := 0#32
  let c0_1182 : Index := 0#32
  ![1, v1795.toNat, 0, 0]
def k0_off6 (k0_t1 : Fin k0_t1_loop.trips) : Fin 2 → Nat :=
  let c0_i32 : BitVec 32 := 0#32
  let c1_i32 : BitVec 32 := 1#32
  let arg20 : BitVec 32 := Scf.iv c0_i32 c1_i32 k0_t1
  let c256_i32_818 : BitVec 32 := 256#32
  let v1239 : BitVec 32 := Scalar.muli arg20 c256_i32_818
  let v1240 : BitVec 32 := v1239
  let v1872 : Index := Scalar.indexCast v1240
  let c64 : Index := 64#32
  ![v1872.toNat, 64]
def k0_off7 (k0_t1 : Fin k0_t1_loop.trips) (c0_i32_1259 : BitVec 32) : Fin 3 → Nat :=
  let c20_i32_817 : BitVec 32 := 20#32
  let c0_i32_816 : BitVec 32 := 0#32
  let c4_i32_814 : BitVec 32 := 4#32
  let c0_i32 : BitVec 32 := 0#32
  let c1_i32 : BitVec 32 := 1#32
  let arg20 : BitVec 32 := Scf.iv c0_i32 c1_i32 k0_t1
  let v1235 : BitVec 32 := Scalar.muli c4_i32_814 arg20
  let c4_i32_815 : BitVec 32 := 4#32
  let v1236 : BitVec 32 := Scalar.subi v1235 c4_i32_815
  let v1237 : BitVec 32 := Scalar.maxsi c0_i32_816 v1236
  let v1238 : BitVec 32 := Scalar.minsi c20_i32_817 v1237
  let c0_i32_1253 : BitVec 32 := 0#32
  let v1875 : BitVec 1 := Scalar.cmpi .sgt v1238 c0_i32_1253
  let v1876 : BitVec 32 := Scalar.extui v1875
  let c0_i32_1254 : BitVec 32 := 0#32
  let v1877 : BitVec 1 := Scalar.cmpi .slt v1238 c0_i32_1254
  let v1878 : BitVec 32 := Scalar.extui v1877
  let v1879 : BitVec 32 := Scalar.subi v1876 v1878
  let c2_i32_1252 : BitVec 32 := 2#32
  let c0_i32_1255 : BitVec 32 := 0#32
  let v1880 : BitVec 1 := Scalar.cmpi .sgt c2_i32_1252 c0_i32_1255
  let v1881 : BitVec 32 := Scalar.extui v1880
  let c0_i32_1256 : BitVec 32 := 0#32
  let v1882 : BitVec 1 := Scalar.cmpi .slt c2_i32_1252 c0_i32_1256
  let v1883 : BitVec 32 := Scalar.extui v1882
  let v1884 : BitVec 32 := Scalar.subi v1881 v1883
  let v1885 : BitVec 1 := Scalar.cmpi .ne v1879 v1884
  let v1886 : BitVec 32 := Scalar.remsi v1238 c2_i32_1252
  let c0_i32_1257 : BitVec 32 := 0#32
  let v1887 : BitVec 1 := Scalar.cmpi .ne v1886 c0_i32_1257
  let v1888 : BitVec 1 := Scalar.andi v1885 v1887
  let v1874 : BitVec 32 := Scalar.divsi v1238 c2_i32_1252
  let c1_i32_1258 : BitVec 32 := 1#32
  let v1889 : BitVec 32 := Scalar.subi v1874 c1_i32_1258
  let v1890 : BitVec 32 := Scalar.select v1888 v1889 v1874
  let v1891 : BitVec 32 := Scalar.addi v1890 c0_i32_1259
  let v1892 : Index := Scalar.indexCast v1891
  let c64_1260 : Index := 64#32
  let c0_1261 : Index := 0#32
  ![v1892.toNat, 64, 0]
def k0_off8 (k0_t1 : Fin k0_t1_loop.trips) : Fin 2 → Nat :=
  let c20_i32_817 : BitVec 32 := 20#32
  let c0_i32_816 : BitVec 32 := 0#32
  let c4_i32_814 : BitVec 32 := 4#32
  let c0_i32 : BitVec 32 := 0#32
  let c1_i32 : BitVec 32 := 1#32
  let arg20 : BitVec 32 := Scf.iv c0_i32 c1_i32 k0_t1
  let v1235 : BitVec 32 := Scalar.muli c4_i32_814 arg20
  let c4_i32_815 : BitVec 32 := 4#32
  let v1236 : BitVec 32 := Scalar.subi v1235 c4_i32_815
  let v1237 : BitVec 32 := Scalar.maxsi c0_i32_816 v1236
  let v1238 : BitVec 32 := Scalar.minsi c20_i32_817 v1237
  let c64_i32_819 : BitVec 32 := 64#32
  let v1241 : BitVec 32 := Scalar.muli v1238 c64_i32_819
  let v1242 : BitVec 32 := v1241
  let v2199 : Index := Scalar.indexCast v1242
  let c64_1454 : Index := 64#32
  ![v2199.toNat, 64]
def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x17x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x17x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S2048x5120 : Shape := ⟨2, ![2048, 5120]⟩
abbrev S16x15x31 : Shape := ⟨3, ![16, 15, 31]⟩
abbrev S2048x1024 : Shape := ⟨2, ![2048, 1024]⟩
abbrev S2048x16x64 : Shape := ⟨3, ![2048, 16, 64]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S16x2048x2048 : Shape := ⟨3, ![16, 2048, 2048]⟩
abbrev S2048x2048x1 : Shape := ⟨3, ![2048, 2048, 1]⟩
abbrev S2048x2048x2 : Shape := ⟨3, ![2048, 2048, 2]⟩
abbrev S1x2048x2048 : Shape := ⟨3, ![1, 2048, 2048]⟩
abbrev S16x2048 : Shape := ⟨2, ![16, 2048]⟩
abbrev S16x2048x1 : Shape := ⟨3, ![16, 2048, 1]⟩
abbrev S16x64x2048 : Shape := ⟨3, ![16, 64, 2048]⟩
abbrev S16x2048x64 : Shape := ⟨3, ![16, 2048, 64]⟩
abbrev S1024x2048 : Shape := ⟨2, ![1024, 2048]⟩
abbrev S1x1024x2048 : Shape := ⟨3, ![1, 1024, 2048]⟩
abbrev S3x1024x2048 : Shape := ⟨3, ![3, 1024, 2048]⟩

abbrev nBuf : Space → Nat
  | .hbm => 253
  | .vmem => 0
  | .smem => 0
  | _ => 0

abbrev hbmTy0_0 (i : Nat) : BufTy := match i % 128 with
  | 0 => ⟨S2048x5120, .f32⟩
  | 1 => ⟨S16x15x31, .f32⟩
  | 2 => ⟨S2048x1024, .f32⟩
  | 3 => ⟨S2048x1024, .f32⟩
  | 4 => ⟨S2048x1024, .f32⟩
  | 5 => ⟨S2048x1024, .f32⟩
  | 6 => ⟨S2048x16x64, .f32⟩
  | 7 => ⟨S2048x16x64, .f32⟩
  | 8 => ⟨S2048x16x64, .f32⟩
  | 9 => ⟨S2048, .i32⟩
  | 10 => ⟨S_, .i32⟩
  | 11 => ⟨S_, .i32⟩
  | 12 => ⟨S2048, .i32⟩
  | 13 => ⟨S2048, .i32⟩
  | 14 => ⟨S2048, .i32⟩
  | 15 => ⟨S_, .i32⟩
  | 16 => ⟨S2048, .i32⟩
  | 17 => ⟨S2048, .i1⟩
  | 18 => ⟨S2048, .i32⟩
  | 19 => ⟨S2048, .i32⟩
  | 20 => ⟨S_, .i32⟩
  | 21 => ⟨S2048, .i32⟩
  | 22 => ⟨S2048, .i1⟩
  | 23 => ⟨S2048, .i1⟩
  | 24 => ⟨S_, .i32⟩
  | 25 => ⟨S2048, .i32⟩
  | 26 => ⟨S2048, .i32⟩
  | 27 => ⟨S2048, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S2048, .i32⟩
  | 35 => ⟨S2048, .i32⟩
  | 36 => ⟨S_, .i32⟩
  | 37 => ⟨S2048, .i32⟩
  | 38 => ⟨S2048, .i1⟩
  | 39 => ⟨S_, .i32⟩
  | 40 => ⟨S2048, .i32⟩
  | 41 => ⟨S2048, .i1⟩
  | 42 => ⟨S_, .i32⟩
  | 43 => ⟨S_, .i1⟩
  | 44 => ⟨S2048, .i1⟩
  | 45 => ⟨S2048, .i1⟩
  | 46 => ⟨S2048, .i1⟩
  | 47 => ⟨S2048, .i32⟩
  | 48 => ⟨S2048, .i32⟩
  | 49 => ⟨S2048, .i32⟩
  | 50 => ⟨S_, .i32⟩
  | 51 => ⟨S2048, .i32⟩
  | 52 => ⟨S2048, .i32⟩
  | 53 => ⟨S_, .i32⟩
  | 54 => ⟨S_, .i32⟩
  | 55 => ⟨S_, .i32⟩
  | 56 => ⟨S2048, .i32⟩
  | 57 => ⟨S2048, .i32⟩
  | 58 => ⟨S_, .i32⟩
  | 59 => ⟨S2048, .i32⟩
  | 60 => ⟨S2048, .i32⟩
  | 61 => ⟨S_, .i32⟩
  | 62 => ⟨S2048, .i32⟩
  | 63 => ⟨S2048, .i32⟩
  | 64 => ⟨S_, .i32⟩
  | 65 => ⟨S_, .i32⟩
  | 66 => ⟨S_, .i32⟩
  | 67 => ⟨S2048, .i32⟩
  | 68 => ⟨S2048, .i32⟩
  | 69 => ⟨S_, .i32⟩
  | 70 => ⟨S2048, .i32⟩
  | 71 => ⟨S2048, .i32⟩
  | 72 => ⟨S1x2048, .i32⟩
  | 73 => ⟨S2048x1, .i32⟩
  | 74 => ⟨S2048x2048, .i32⟩
  | 75 => ⟨S2048x2048, .i32⟩
  | 76 => ⟨S2048x2048, .i1⟩
  | 77 => ⟨S1x2048, .i32⟩
  | 78 => ⟨S2048x1, .i32⟩
  | 79 => ⟨S_, .i32⟩
  | 80 => ⟨S2048x1, .i32⟩
  | 81 => ⟨S2048x1, .i32⟩
  | 82 => ⟨S2048x2048, .i32⟩
  | 83 => ⟨S2048x2048, .i32⟩
  | 84 => ⟨S2048x2048, .i1⟩
  | 85 => ⟨S2048x2048, .i1⟩
  | 86 => ⟨S1x2048, .i32⟩
  | 87 => ⟨S2048x1, .i32⟩
  | 88 => ⟨S2048x2048, .i32⟩
  | 89 => ⟨S2048x2048, .i32⟩
  | 90 => ⟨S2048x2048, .i1⟩
  | 91 => ⟨S2048x2048, .i1⟩
  | 92 => ⟨S1x2048, .i32⟩
  | 93 => ⟨S2048x1, .i32⟩
  | 94 => ⟨S_, .i32⟩
  | 95 => ⟨S2048x1, .i32⟩
  | 96 => ⟨S2048x1, .i32⟩
  | 97 => ⟨S2048x2048, .i32⟩
  | 98 => ⟨S2048x2048, .i32⟩
  | 99 => ⟨S2048x2048, .i1⟩
  | 100 => ⟨S2048x2048, .i1⟩
  | 101 => ⟨S1x2048, .i32⟩
  | 102 => ⟨S2048x1, .i32⟩
  | 103 => ⟨S2048x2048, .i32⟩
  | 104 => ⟨S2048x2048, .i32⟩
  | 105 => ⟨S2048x2048, .i32⟩
  | 106 => ⟨S_, .i32⟩
  | 107 => ⟨S2048x2048, .i32⟩
  | 108 => ⟨S2048x2048, .i32⟩
  | 109 => ⟨S_, .i32⟩
  | 110 => ⟨S2048x2048, .i32⟩
  | 111 => ⟨S2048x2048, .i32⟩
  | 112 => ⟨S_, .i32⟩
  | 113 => ⟨S_, .i32⟩
  | 114 => ⟨S_, .i32⟩
  | 115 => ⟨S2048x2048, .i32⟩
  | 116 => ⟨S2048x2048, .i32⟩
  | 117 => ⟨S_, .i32⟩
  | 118 => ⟨S2048x2048, .i32⟩
  | 119 => ⟨S2048x2048, .i32⟩
  | 120 => ⟨S1x2048, .i32⟩
  | 121 => ⟨S2048x1, .i32⟩
  | 122 => ⟨S2048x2048, .i32⟩
  | 123 => ⟨S2048x2048, .i32⟩
  | 124 => ⟨S2048x2048, .i32⟩
  | 125 => ⟨S_, .i32⟩
  | 126 => ⟨S2048x2048, .i32⟩
  | 127 => ⟨S2048x2048, .i32⟩
  | _ => ⟨S2048x5120, .f32⟩

abbrev hbmTy0_1 (i : Nat) : BufTy := match i % 128 with
  | 0 => ⟨S_, .i32⟩
  | 1 => ⟨S2048x2048, .i32⟩
  | 2 => ⟨S2048x2048, .i32⟩
  | 3 => ⟨S_, .i32⟩
  | 4 => ⟨S_, .i32⟩
  | 5 => ⟨S_, .i32⟩
  | 6 => ⟨S2048x2048, .i32⟩
  | 7 => ⟨S2048x2048, .i32⟩
  | 8 => ⟨S_, .i32⟩
  | 9 => ⟨S2048x2048, .i32⟩
  | 10 => ⟨S2048x2048, .i32⟩
  | 11 => ⟨S_, .f32⟩
  | 12 => ⟨S2048x16x64, .f32⟩
  | 13 => ⟨S2048x16x64, .f32⟩
  | 14 => ⟨S16x2048x2048, .f32⟩
  | 15 => ⟨S_, .i32⟩
  | 16 => ⟨S2048x2048, .i32⟩
  | 17 => ⟨S2048x2048, .i1⟩
  | 18 => ⟨S_, .i32⟩
  | 19 => ⟨S2048x2048, .i32⟩
  | 20 => ⟨S2048x2048, .i32⟩
  | 21 => ⟨S2048x2048, .i32⟩
  | 22 => ⟨S_, .i32⟩
  | 23 => ⟨S2048x2048, .i32⟩
  | 24 => ⟨S2048x2048, .i1⟩
  | 25 => ⟨S_, .i32⟩
  | 26 => ⟨S2048x2048, .i32⟩
  | 27 => ⟨S2048x2048, .i32⟩
  | 28 => ⟨S2048x2048, .i32⟩
  | 29 => ⟨S2048x2048x1, .i32⟩
  | 30 => ⟨S2048x2048x1, .i32⟩
  | 31 => ⟨S2048x2048x2, .i32⟩
  | 32 => ⟨S16x2048x2048, .f32⟩
  | 33 => ⟨S16x2048x2048, .f32⟩
  | 34 => ⟨S1x2048x2048, .i1⟩
  | 35 => ⟨S_, .f32⟩
  | 36 => ⟨S_, .f32⟩
  | 37 => ⟨S16x2048x2048, .i1⟩
  | 38 => ⟨S16x2048x2048, .f32⟩
  | 39 => ⟨S16x2048x2048, .f32⟩
  | 40 => ⟨S_, .f32⟩
  | 41 => ⟨S16x2048x2048, .f32⟩
  | 42 => ⟨S_, .f32⟩
  | 43 => ⟨S16x2048, .f32⟩
  | 44 => ⟨S16x2048x1, .f32⟩
  | 45 => ⟨S16x2048x2048, .f32⟩
  | 46 => ⟨S16x2048x2048, .i1⟩
  | 47 => ⟨S16x2048x2048, .f32⟩
  | 48 => ⟨S_, .f32⟩
  | 49 => ⟨S16x2048, .f32⟩
  | 50 => ⟨S_, .f32⟩
  | 51 => ⟨S16x2048, .f32⟩
  | 52 => ⟨S16x2048, .f32⟩
  | 53 => ⟨S_, .f32⟩
  | 54 => ⟨S16x2048, .f32⟩
  | 55 => ⟨S16x2048, .i1⟩
  | 56 => ⟨S_, .f32⟩
  | 57 => ⟨S16x2048, .f32⟩
  | 58 => ⟨S16x2048, .i1⟩
  | 59 => ⟨S_, .f32⟩
  | 60 => ⟨S16x2048, .f32⟩
  | 61 => ⟨S_, .f32⟩
  | 62 => ⟨S16x2048, .f32⟩
  | 63 => ⟨S_, .f32⟩
  | 64 => ⟨S16x2048, .f32⟩
  | 65 => ⟨S16x2048, .f32⟩
  | 66 => ⟨S16x2048, .f32⟩
  | 67 => ⟨S16x2048x1, .f32⟩
  | 68 => ⟨S16x2048x2048, .f32⟩
  | 69 => ⟨S16x2048x2048, .f32⟩
  | 70 => ⟨S16x2048x2048, .f32⟩
  | 71 => ⟨S_, .f32⟩
  | 72 => ⟨S16x2048, .f32⟩
  | 73 => ⟨S16x2048x1, .f32⟩
  | 74 => ⟨S16x2048x2048, .f32⟩
  | 75 => ⟨S16x2048x2048, .f32⟩
  | 76 => ⟨S16x2048x1, .f32⟩
  | 77 => ⟨S_, .f32⟩
  | 78 => ⟨S16x2048x1, .f32⟩
  | 79 => ⟨S16x2048x1, .f32⟩
  | 80 => ⟨S16x64x2048, .f32⟩
  | 81 => ⟨S2048x16x64, .f32⟩
  | 82 => ⟨S2048x1024, .f32⟩
  | 83 => ⟨S2048x16x64, .f32⟩
  | 84 => ⟨S16x64x2048, .f32⟩
  | 85 => ⟨S16x2048x2048, .f32⟩
  | 86 => ⟨S16x64x2048, .f32⟩
  | 87 => ⟨S2048x16x64, .f32⟩
  | 88 => ⟨S16x2048x2048, .f32⟩
  | 89 => ⟨S16x2048x2048, .f32⟩
  | 90 => ⟨S16x2048x2048, .f32⟩
  | 91 => ⟨S_, .f32⟩
  | 92 => ⟨S16x2048, .f32⟩
  | 93 => ⟨S16x2048x1, .f32⟩
  | 94 => ⟨S16x2048x1, .f32⟩
  | 95 => ⟨S16x2048x2048, .f32⟩
  | 96 => ⟨S16x2048x2048, .f32⟩
  | 97 => ⟨S_, .f32⟩
  | 98 => ⟨S16x2048, .f32⟩
  | 99 => ⟨S16x2048x2048, .f32⟩
  | 100 => ⟨S16x2048x2048, .f32⟩
  | 101 => ⟨S16x2048x2048, .f32⟩
  | 102 => ⟨S_, .f32⟩
  | 103 => ⟨S16x2048x2048, .f32⟩
  | 104 => ⟨S16x2048x2048, .f32⟩
  | 105 => ⟨S16x2048x64, .f32⟩
  | 106 => ⟨S2048x16x64, .f32⟩
  | 107 => ⟨S16x2048x64, .f32⟩
  | 108 => ⟨S2048x16x64, .f32⟩
  | 109 => ⟨S_, .f32⟩
  | 110 => ⟨S2048x16x64, .f32⟩
  | 111 => ⟨S2048x16x64, .f32⟩
  | 112 => ⟨S2048x1024, .f32⟩
  | 113 => ⟨S2048x1024, .f32⟩
  | 114 => ⟨S2048x1024, .f32⟩
  | 115 => ⟨S2048x1024, .bf16⟩
  | 116 => ⟨S2048x1024, .bf16⟩
  | 117 => ⟨S2048x1024, .bf16⟩
  | 118 => ⟨S1024x2048, .bf16⟩
  | 119 => ⟨S1024x2048, .bf16⟩
  | 120 => ⟨S1024x2048, .bf16⟩
  | 121 => ⟨S1x1024x2048, .bf16⟩
  | 122 => ⟨S1x1024x2048, .bf16⟩
  | 123 => ⟨S1x1024x2048, .bf16⟩
  | 124 => ⟨S3x1024x2048, .bf16⟩
  | _ => ⟨S2048x5120, .f32⟩

abbrev hbmTy (i : Nat) : BufTy := match i / 128 with
  | 0 => hbmTy0_0 i
  | 1 => hbmTy0_1 i
  | _ => ⟨S2048x5120, .f32⟩

abbrev bufTy : (tb : Table) → Fin (tcTables nBuf tb) → BufTy
  | .hbm, ⟨i, _⟩ => hbmTy i
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v7 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v8 : Ref sig .tc := ⟨.hbm, 49, rfl⟩
abbrev main_c_1 : Ref sig .tc := ⟨.hbm, 50, rfl⟩
abbrev main_v9 : Ref sig .tc := ⟨.hbm, 51, rfl⟩
abbrev main_v10 : Ref sig .tc := ⟨.hbm, 52, rfl⟩
abbrev main_c_2 : Ref sig .tc := ⟨.hbm, 53, rfl⟩
abbrev main_c_3 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v11 : Ref sig .tc := ⟨.hbm, 60, rfl⟩
abbrev main_c_4 : Ref sig .tc := ⟨.hbm, 61, rfl⟩
abbrev main_v12 : Ref sig .tc := ⟨.hbm, 62, rfl⟩
abbrev main_v13 : Ref sig .tc := ⟨.hbm, 63, rfl⟩
abbrev main_c_5 : Ref sig .tc := ⟨.hbm, 64, rfl⟩
abbrev main_c_6 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_c_7 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_c_8 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_c_9 : Ref sig .tc := ⟨.hbm, 106, rfl⟩
abbrev main_v47 : Ref sig .tc := ⟨.hbm, 107, rfl⟩
abbrev main_v48 : Ref sig .tc := ⟨.hbm, 108, rfl⟩
abbrev main_c_10 : Ref sig .tc := ⟨.hbm, 109, rfl⟩
abbrev main_v49 : Ref sig .tc := ⟨.hbm, 110, rfl⟩
abbrev main_v50 : Ref sig .tc := ⟨.hbm, 111, rfl⟩
abbrev main_c_11 : Ref sig .tc := ⟨.hbm, 112, rfl⟩
abbrev main_c_12 : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_call4_v3 : Ref sig .tc := ⟨.hbm, 117, rfl⟩
abbrev main_call4_v4 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_c_13 : Ref sig .tc := ⟨.hbm, 125, rfl⟩
abbrev main_v57 : Ref sig .tc := ⟨.hbm, 126, rfl⟩
abbrev main_v58 : Ref sig .tc := ⟨.hbm, 127, rfl⟩
abbrev main_c_14 : Ref sig .tc := ⟨.hbm, 128, rfl⟩
abbrev main_v59 : Ref sig .tc := ⟨.hbm, 129, rfl⟩
abbrev main_v60 : Ref sig .tc := ⟨.hbm, 130, rfl⟩
abbrev main_c_15 : Ref sig .tc := ⟨.hbm, 131, rfl⟩
abbrev main_c_16 : Ref sig .tc := ⟨.hbm, 132, rfl⟩
abbrev main_call5_v0 : Ref sig .tc := ⟨.hbm, 133, rfl⟩
abbrev main_call5_v1 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_v61 : Ref sig .tc := ⟨.hbm, 138, rfl⟩
abbrev main_cst : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_c_17 : Ref sig .tc := ⟨.hbm, 143, rfl⟩
abbrev main_v65 : Ref sig .tc := ⟨.hbm, 144, rfl⟩
abbrev main_v66 : Ref sig .tc := ⟨.hbm, 145, rfl⟩
abbrev main_c_18 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_c_19 : Ref sig .tc := ⟨.hbm, 150, rfl⟩
abbrev main_v70 : Ref sig .tc := ⟨.hbm, 151, rfl⟩
abbrev main_v71 : Ref sig .tc := ⟨.hbm, 152, rfl⟩
abbrev main_c_20 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_cst_21 : Ref sig .tc := ⟨.hbm, 163, rfl⟩
abbrev main_call6_v0 : Ref sig .tc := ⟨.hbm, 164, rfl⟩
abbrev main_v81_1 : Ref sig .tc := ⟨.hbm, 165, rfl⟩
abbrev main_call6_v2 : Ref sig .tc := ⟨.hbm, 166, rfl⟩
abbrev main_v81_0 : Ref sig .tc := ⟨.hbm, 167, rfl⟩
abbrev main_call6_cst : Ref sig .tc := ⟨.hbm, 168, rfl⟩
abbrev main_v81_2 : Ref sig .tc := ⟨.hbm, 169, rfl⟩
abbrev main_cst_22 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_cst_23 : Ref sig .tc := ⟨.hbm, 176, rfl⟩
abbrev main_v87 : Ref sig .tc := ⟨.hbm, 177, rfl⟩
abbrev main_cst_24 : Ref sig .tc := ⟨.hbm, 178, rfl⟩
abbrev main_v88 : Ref sig .tc := ⟨.hbm, 179, rfl⟩
abbrev main_v89 : Ref sig .tc := ⟨.hbm, 180, rfl⟩
abbrev main_cst_25 : Ref sig .tc := ⟨.hbm, 181, rfl⟩
abbrev main_v90 : Ref sig .tc := ⟨.hbm, 182, rfl⟩
abbrev main_v91 : Ref sig .tc := ⟨.hbm, 183, rfl⟩
abbrev main_cst_26 : Ref sig .tc := ⟨.hbm, 184, rfl⟩
abbrev main_v92 : Ref sig .tc := ⟨.hbm, 185, rfl⟩
abbrev main_v93 : Ref sig .tc := ⟨.hbm, 186, rfl⟩
abbrev main_cst_27 : Ref sig .tc := ⟨.hbm, 187, rfl⟩
abbrev main_v94 : Ref sig .tc := ⟨.hbm, 188, rfl⟩
abbrev main_cst_28 : Ref sig .tc := ⟨.hbm, 189, rfl⟩
abbrev main_v95 : Ref sig .tc := ⟨.hbm, 190, rfl⟩
abbrev main_cst_29 : Ref sig .tc := ⟨.hbm, 191, rfl⟩
abbrev main_v96 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_v101 : Ref sig .tc := ⟨.hbm, 197, rfl⟩
abbrev main_v102 : Ref sig .tc := ⟨.hbm, 198, rfl⟩
abbrev main_cst_30 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_cst_31 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_v114 : Ref sig .tc := ⟨.hbm, 212, rfl⟩
abbrev main_v115 : Ref sig .tc := ⟨.hbm, 213, rfl⟩
abbrev main_v116 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_cst_32 : Ref sig .tc := ⟨.hbm, 219, rfl⟩
abbrev main_v121 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev main_cst_33 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_call7_cst : Ref sig .tc := ⟨.hbm, 230, rfl⟩
abbrev main_call7_v0 : Ref sig .tc := ⟨.hbm, 231, rfl⟩
abbrev main_v130 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_v134 : Ref sig .tc := ⟨.hbm, 236, rfl⟩
abbrev main_cst_34 : Ref sig .tc := ⟨.hbm, 237, rfl⟩
abbrev main_v135 : Ref sig .tc := ⟨.hbm, 238, rfl⟩
abbrev main_v136 : Ref sig .tc := ⟨.hbm, 239, rfl⟩
abbrev main_v137 : Ref sig .tc := ⟨.hbm, 240, rfl⟩
abbrev main_v138 : Ref sig .tc := ⟨.hbm, 241, rfl⟩
abbrev main_v139 : Ref sig .tc := ⟨.hbm, 242, rfl⟩
abbrev main_v140 : Ref sig .tc := ⟨.hbm, 243, rfl⟩
abbrev main_v141 : Ref sig .tc := ⟨.hbm, 244, rfl⟩
abbrev main_v142 : Ref sig .tc := ⟨.hbm, 245, rfl⟩
abbrev main_v143 : Ref sig .tc := ⟨.hbm, 246, rfl⟩
abbrev main_v144 : Ref sig .tc := ⟨.hbm, 247, rfl⟩
abbrev main_v145 : Ref sig .tc := ⟨.hbm, 248, rfl⟩
abbrev main_v146 : Ref sig .tc := ⟨.hbm, 249, rfl⟩
abbrev main_v147 : Ref sig .tc := ⟨.hbm, 250, rfl⟩
abbrev main_v148 : Ref sig .tc := ⟨.hbm, 251, rfl⟩
abbrev main_v149 : Ref sig .tc := ⟨.hbm, 252, rfl⟩

abbrev nD : Nat := 1
abbrev τ : Topo := Topo.v7x

variable {F : FTy → Type} [FloatOps F]
-- ==== Kernel3.lean ====
abbrev S2048x2048 : Shape := ⟨2, ![2048, 2048]⟩
abbrev S2048x1024 : Shape := ⟨2, ![2048, 1024]⟩
abbrev S1x1024 : Shape := ⟨2, ![1, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S1x1024, .f32⟩
  | .hbm, ⟨8, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S2048x2048 : Shape := ⟨2, ![2048, 2048]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048, .f32⟩
  | .hbm, ⟨55, _⟩ => ⟨S2048x1, .f32⟩
  | .hbm, ⟨56, _⟩ => ⟨S2048x1024, .f32⟩
  | .hbm, ⟨57, _⟩ => ⟨S2048x1024, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S_, .f32⟩
  | .hbm, ⟨77, _⟩ => ⟨S2048, .f32⟩
  | .hbm, ⟨78, _⟩ => ⟨S2048x1, .f32⟩
  | .hbm, ⟨79, _⟩ => ⟨S2048x1024, .f32⟩
  | .hbm, ⟨80, _⟩ => ⟨S2048x1024, .f32⟩
  | .hbm, ⟨81, _⟩ => ⟨S2048x1, .f32⟩
  | .hbm, ⟨82, _⟩ => ⟨S_, .f32⟩
  | .hbm, ⟨83, _⟩ => ⟨S2048x1, .f32⟩
  | .hbm, ⟨84, _⟩ => ⟨S2048x1, .f32⟩
  | .hbm, ⟨85, _⟩ => ⟨S_, .f32⟩
  | .hbm, ⟨86, _⟩ => ⟨S2048, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_13 : Ref sig .tc := ⟨.hbm, 82, rfl⟩
abbrev main_v63 : Ref sig .tc := ⟨.hbm, 83, rfl⟩
abbrev main_v64 : Ref sig .tc := ⟨.hbm, 84, rfl⟩
abbrev main_cst_14 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== Kernel4.lean ====
abbrev S2048x2048 : Shape := ⟨2, ![2048, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S8x128, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S8x128, .f32⟩
  | .local _ .vmem, ⟨10, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x2048, .f32⟩
  | .hbm, ⟨56, _⟩ => ⟨S2048x2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S_, .f32⟩
  | .hbm, ⟨69, _⟩ => ⟨S2048x2048, .f32⟩
  | .hbm, ⟨70, _⟩ => ⟨S2048x2048, .f32⟩
  | .hbm, ⟨71, _⟩ => ⟨S2048x2048, .bf16⟩
  | .hbm, ⟨72, _⟩ => ⟨S8x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_15 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel5.lean ====
abbrev S2048x2048 : Shape := ⟨2, ![2048, 2048]⟩
abbrev S2048x11264 : Shape := ⟨2, ![2048, 11264]⟩
abbrev S5632x2048 : Shape := ⟨2, ![5632, 2048]⟩
abbrev S2048x5632 : Shape := ⟨2, ![2048, 5632]⟩
abbrev S11264x2048 : Shape := ⟨2, ![11264, 2048]⟩
abbrev S2x5632x2048 : Shape := ⟨3, ![2, 5632, 2048]⟩
abbrev S1024x2048 : Shape := ⟨2, ![1024, 2048]⟩
abbrev S1024x512 : Shape := ⟨2, ![1024, 512]⟩
abbrev S2x512x2048 : Shape := ⟨3, ![2, 512, 2048]⟩
abbrev S512x2048 : Shape := ⟨2, ![512, 2048]⟩
abbrev S2x512x1024 : Shape := ⟨3, ![2, 512, 1024]⟩
abbrev S512x1024 : Shape := ⟨2, ![512, 1024]⟩
abbrev S1x512x1024 : Shape := ⟨3, ![1, 512, 1024]⟩
abbrev S1x512x2048 : Shape := ⟨3, ![1, 512, 2048]⟩

abbrev nBuf : Space → Nat
  | .hbm => 15
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S5632x2048, .f32⟩
  | .hbm, ⟨3, _⟩ => ⟨S2048x2048, .f32⟩
  | .hbm, ⟨4, _⟩ => ⟨S2048x11264, .f32⟩
  | .hbm, ⟨5, _⟩ => ⟨S2048x11264, .bf16⟩
  | .hbm, ⟨6, _⟩ => ⟨S2048x5632, .bf16⟩
  | .hbm, ⟨7, _⟩ => ⟨S2048x5632, .bf16⟩
  | .hbm, ⟨8, _⟩ => ⟨S2048x2048, .bf16⟩
  | .hbm, ⟨9, _⟩ => ⟨S11264x2048, .f32⟩
  | .hbm, ⟨10, _⟩ => ⟨S11264x2048, .bf16⟩
  | .hbm, ⟨11, _⟩ => ⟨S5632x2048, .bf16⟩
  | .hbm, ⟨12, _⟩ => ⟨S2x5632x2048, .bf16⟩
  | .hbm, ⟨13, _⟩ => ⟨S2048x2048, .f32⟩
  | .hbm, ⟨14, _⟩ => ⟨S2x5632x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S2x512x2048, .bf16⟩
  | .local _ .vmem, ⟨7, _⟩ => ⟨S2x512x2048, .bf16⟩
  | .local _ .vmem, ⟨8, _⟩ => ⟨S512x2048, .bf16⟩
  | .local _ .vmem, ⟨9, _⟩ => ⟨S512x2048, .bf16⟩
  | .local _ .vmem, ⟨10, _⟩ => ⟨S1024x2048, .f32⟩
  | .local _ .vmem, ⟨11, _⟩ => ⟨S1024x2048, .f32⟩
  | .local _ .vmem, ⟨12, _⟩ => ⟨S2x512x1024, .bf16⟩
  | .local _ .vmem, ⟨13, _⟩ => ⟨S2x512x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S2048x2048 : Shape := ⟨2, ![2048, 2048]⟩
abbrev S2048x11264 : Shape := ⟨2, ![2048, 11264]⟩
abbrev S5632x2048 : Shape := ⟨2, ![5632, 2048]⟩
abbrev S2048x5632 : Shape := ⟨2, ![2048, 5632]⟩
abbrev S_ : Shape := ⟨0, ![]⟩
abbrev S1x5632x2048 : Shape := ⟨3, ![1, 5632, 2048]⟩
abbrev S2x5632x2048 : Shape := ⟨3, ![2, 5632, 2048]⟩

abbrev nBuf : Space → Nat
  | .hbm => 39
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S5632x2048, .f32⟩
  | .hbm, ⟨3, _⟩ => ⟨S2048x2048, .f32⟩
  | .hbm, ⟨4, _⟩ => ⟨S2048x11264, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x2048, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x11264, .f32⟩
  | .hbm, ⟨30, _⟩ => ⟨S2048x2048, .f32⟩
  | .hbm, ⟨31, _⟩ => ⟨S2048x5632, .f32⟩
  | .hbm, ⟨32, _⟩ => ⟨S2048x5632, .f32⟩
  | .hbm, ⟨33, _⟩ => ⟨S5632x2048, .f32⟩
  | .hbm, ⟨34, _⟩ => ⟨S5632x2048, .f32⟩
  | .hbm, ⟨35, _⟩ => ⟨S1x5632x2048, .f32⟩
  | .hbm, ⟨36, _⟩ => ⟨S1x5632x2048, .f32⟩
  | .hbm, ⟨37, _⟩ => ⟨S2x5632x2048, .f32⟩
  | .hbm, ⟨38, _⟩ => ⟨S2x5632x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩

abbrev nD : Nat := 1
abbrev τ : Topo := Topo.v7x

variable {F : FTy → Type} [FloatOps F]
-- ==== Kernel6.lean ====
abbrev S2048x5120 : Shape := ⟨2, ![2048, 5120]⟩
abbrev S16x15x31 : Shape := ⟨3, ![16, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S16x15x64x64 : Shape := ⟨4, ![16, 15, 64, 64]⟩
abbrev S1x1x64x64 : Shape := ⟨4, ![1, 1, 64, 64]⟩
abbrev S16x1x64x64 : Shape := ⟨4, ![16, 1, 64, 64]⟩
abbrev S16x14x64x64 : Shape := ⟨4, ![16, 14, 64, 64]⟩
abbrev S16x14x64x128 : Shape := ⟨4, ![16, 14, 64, 128]⟩
abbrev S16x1x64x128 : Shape := ⟨4, ![16, 1, 64, 128]⟩
abbrev S16x17x64x128 : Shape := ⟨4, ![16, 17, 64, 128]⟩
abbrev S2048x1024 : Shape := ⟨2, ![2048, 1024]⟩
abbrev S2048x128 : Shape := ⟨2, ![2048, 128]⟩
abbrev S2x17x64x128 : Shape := ⟨4, ![2, 17, 64, 128]⟩
abbrev S16x128x128 : Shape := ⟨3, ![16, 128, 128]⟩
abbrev S128x128 : Shape := ⟨2, ![128, 128]⟩
abbrev S1x128x128 : Shape := ⟨3, ![1, 128, 128]⟩
abbrev S1x1x64x128 : Shape := ⟨4, ![1, 1, 64, 128]⟩
abbrev S64x128 : Shape := ⟨2, ![64, 128]⟩
abbrev S64x768 : Shape := ⟨2, ![64, 768]⟩
abbrev S256x768 : Shape := ⟨2, ![256, 768]⟩
abbrev S256x64 : Shape := ⟨2, ![256, 64]⟩
abbrev S1x64x128 : Shape := ⟨3, ![1, 64, 128]⟩
abbrev S256 : Shape := ⟨1, ![256]⟩
abbrev S256x1 : Shape := ⟨2, ![256, 1]⟩
abbrev S768x64 : Shape := ⟨2, ![768, 64]⟩

abbrev nBuf : Space → Nat
  | .hbm => 75
  | .vmem => 13
  | .smem => 0
  | _ => 0

abbrev bufTy : (tb : Table) → Fin (tcTables nBuf tb) → BufTy
  | .hbm, ⟨0, _⟩ => ⟨S2048x5120, .f32⟩
  | .hbm, ⟨1, _⟩ => ⟨S16x15x31, .f32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S1x64, .i32⟩
  | .hbm, ⟨15, _⟩ => ⟨S64x1, .i32⟩
  | .hbm, ⟨16, _⟩ => ⟨S64x64, .i32⟩
  | .hbm, ⟨17, _⟩ => ⟨S64x64, .i32⟩
  | .hbm, ⟨18, _⟩ => ⟨S64x64, .i1⟩
  | .hbm, ⟨19, _⟩ => ⟨S1x64, .i32⟩
  | .hbm, ⟨20, _⟩ => ⟨S64x1, .i32⟩
  | .hbm, ⟨21, _⟩ => ⟨S_, .i32⟩
  | .hbm, ⟨22, _⟩ => ⟨S64x1, .i32⟩
  | .hbm, ⟨23, _⟩ => ⟨S64x1, .i32⟩
  | .hbm, ⟨24, _⟩ => ⟨S64x64, .i32⟩
  | .hbm, ⟨25, _⟩ => ⟨S64x64, .i32⟩
  | .hbm, ⟨26, _⟩ => ⟨S64x64, .i1⟩
  | .hbm, ⟨27, _⟩ => ⟨S64x64, .i1⟩
  | .hbm, ⟨28, _⟩ => ⟨S1x64, .i32⟩
  | .hbm, ⟨29, _⟩ => ⟨S64x1, .i32⟩
  | .hbm, ⟨30, _⟩ => ⟨S64x64, .i32⟩
  | .hbm, ⟨31, _⟩ => ⟨S64x64, .i32⟩
  | .hbm, ⟨32, _⟩ => ⟨S64x64, .i32⟩
  | .hbm, ⟨33, _⟩ => ⟨S_, .i32⟩
  | .hbm, ⟨34, _⟩ => ⟨S64x64, .i32⟩
  | .hbm, ⟨35, _⟩ => ⟨S64x64, .i32⟩
  | .hbm, ⟨36, _⟩ => ⟨S_, .i32⟩
  | .hbm, ⟨37, _⟩ => ⟨S64x64, .i32⟩
  | .hbm, ⟨38, _⟩ => ⟨S64x64, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S64x64, .i32⟩
  | .hbm, ⟨43, _⟩ => ⟨S64x64, .i32⟩
  | .hbm, ⟨44, _⟩ => ⟨S_, .i32⟩
  | .hbm, ⟨45, _⟩ => ⟨S64x64, .i32⟩
  | .hbm, ⟨46, _⟩ => ⟨S64x64, .i32⟩
  | .hbm, ⟨47, _⟩ => ⟨S_, .i32⟩
  | .hbm, ⟨48, _⟩ => ⟨S64x64, .i32⟩
  | .hbm, ⟨49, _⟩ => ⟨S64x64, .i1⟩
  | .hbm, ⟨50, _⟩ => ⟨S_, .i32⟩
  | .hbm, ⟨51, _⟩ => ⟨S64x64, .i32⟩
  | .hbm, ⟨52, _⟩ => ⟨S64x64, .i32⟩
  | .hbm, ⟨53, _⟩ => ⟨S64x64, .i32⟩
  | .hbm, ⟨54, _⟩ => ⟨S64x64x1, .i32⟩
  | .hbm, ⟨55, _⟩ => ⟨S16x15x64x64, .f32⟩
  | .hbm, ⟨56, _⟩ => ⟨S1x1x64x64, .i1⟩
  | .hbm, ⟨57, _⟩ => ⟨S_, .f32⟩
  | .hbm, ⟨58, _⟩ => ⟨S_, .f32⟩
  | .hbm, ⟨59, _⟩ => ⟨S16x15x64x64, .i1⟩
  | .hbm, ⟨60, _⟩ => ⟨S16x15x64x64, .f32⟩
  | .hbm, ⟨61, _⟩ => ⟨S16x15x64x64, .f32⟩
  | .hbm, ⟨62, _⟩ => ⟨S16x1x64x64, .f32⟩
  | .hbm, ⟨63, _⟩ => ⟨S_, .f32⟩
  | .hbm, ⟨64, _⟩ => ⟨S16x1x64x64, .f32⟩
  | .hbm, ⟨65, _⟩ => ⟨S16x14x64x64, .f32⟩
  | .hbm, ⟨66, _⟩ => ⟨S16x14x64x64, .f32⟩
  | .hbm, ⟨67, _⟩ => ⟨S16x14x64x128, .f32⟩
  | .hbm, ⟨68, _⟩ => ⟨S16x1x64x64, .f32⟩
  | .hbm, ⟨69, _⟩ => ⟨S16x1x64x128, .f32⟩
  | .hbm, ⟨70, _⟩ => ⟨S16x1x64x64, .f32⟩
  | .hbm, ⟨71, _⟩ => ⟨S16x1x64x128, .f32⟩
  | .hbm, ⟨72, _⟩ => ⟨S16x1x64x128, .f32⟩
  | .hbm, ⟨73, _⟩ => ⟨S16x17x64x128, .f32⟩
  | .hbm, ⟨74, _⟩ => ⟨S2048x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2x17x64x128, .f32⟩
  | .local _ .vmem, ⟨7, _⟩ => ⟨S2x17x64x128, .f32⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S16x128x128, .bf16⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_c_6 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v26 : Ref sig .tc := ⟨.hbm, 46, rfl⟩
abbrev main_c_7 : Ref sig .tc := ⟨.hbm, 47, rfl⟩
abbrev main_v27 : Ref sig .tc := ⟨.hbm, 48, rfl⟩
abbrev main_v28 : Ref sig .tc := ⟨.hbm, 49, rfl⟩
abbrev main_c_8 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v35 : Ref sig .tc := ⟨.hbm, 61, rfl⟩
abbrev main_v36 : Ref sig .tc := ⟨.hbm, 62, rfl⟩
abbrev main_cst_9 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v106 : BitVec 32 := Scalar.addi c0_i32 c8_i32
  let c1_i32 : BitVec 32 := 1#32
  ⟨c0_i32, v106, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v111 : BitVec 32 := Scalar.muli arg9 c256_i32
  v111
def k0_mult2 (k0_t1 : Fin k0_t1_loop.trips) : BitVec 32 :=
  let c20_i32 : BitVec 32 := 20#32
  let c0_i32_59 : BitVec 32 := 0#32
  let c4_i32 : BitVec 32 := 4#32
  let c0_i32 : BitVec 32 := 0#32
  let c1_i32 : BitVec 32 := 1#32
  let arg9 : BitVec 32 := Scf.iv c0_i32 c1_i32 k0_t1
  let v107 : BitVec 32 := Scalar.muli c4_i32 arg9
  let c4_i32_58 : BitVec 32 := 4#32
  let v108 : BitVec 32 := Scalar.subi v107 c4_i32_58
  let v109 : BitVec 32 := Scalar.maxsi c0_i32_59 v108
  let v110 : BitVec 32 := Scalar.minsi c20_i32 v109
  let c64_i32 : BitVec 32 := 64#32
  let v113 : BitVec 32 := Scalar.muli v110 c64_i32
  v113
def k0_off1 (k0_t1 : Fin k0_t1_loop.trips) (c0_i32_62 : BitVec 32) (c0_i32_61 : BitVec 32) : Fin 4 → Nat :=
  let c0_412 : Index := 0#32
  let c20_i32 : BitVec 32 := 20#32
  let c0_i32_59 : BitVec 32 := 0#32
  let c4_i32 : BitVec 32 := 4#32
  let c0_i32 : BitVec 32 := 0#32
  let c1_i32 : BitVec 32 := 1#32
  let arg9 : BitVec 32 := Scf.iv c0_i32 c1_i32 k0_t1
  let v107 : BitVec 32 := Scalar.muli c4_i32 arg9
  let c4_i32_58 : BitVec 32 := 4#32
  let v108 : BitVec 32 := Scalar.subi v107 c4_i32_58
  let v109 : BitVec 32 := Scalar.maxsi c0_i32_59 v108
  let v110 : BitVec 32 := Scalar.minsi c20_i32 v109
  let v117 : BitVec 32 := Scalar.addi v110 c0_i32_62
  let c24_i32 : BitVec 32 := 24#32
  let c0_i32_64 : BitVec 32 := 0#32
  let c4_i32_60 : BitVec 32 := 4#32
  let v115 : BitVec 32 := Scalar.muli c4_i32_60 arg9
  let v116 : BitVec 32 := Scalar.addi v115 c0_i32_61
  let c4_i32_63 : BitVec 32 := 4#32
  let v118 : BitVec 32 := Scalar.subi v116 c4_i32_63
  let v119 : BitVec 32 := Scalar.maxsi c0_i32_64 v118
  let v120 : BitVec 32 := Scalar.minsi c24_i32 v119
  let v121 : BitVec 1 := Scalar.cmpi .sge v117 v120
  let c8_i32_65 : BitVec 32 := 8#32
  let v122 : BitVec 32 := Scalar.addi v120 c8_i32_65
  let v123 : BitVec 1 := Scalar.cmpi .slt v117 v122
  let v124 : BitVec 1 := Scalar.andi v121 v123
  let c1_i32_66 : BitVec 32 := 1#32
  let v125 : BitVec 32 := Scalar.addi v117 c1_i32_66
  let v126 : BitVec 1 := Scalar.cmpi .sge v125 v120
  let c1_i32_67 : BitVec 32 := 1#32
  let v127 : BitVec 32 := Scalar.addi v117 c1_i32_67
  let c8_i32_68 : BitVec 32 := 8#32
  let v128 : BitVec 32 := Scalar.addi v120 c8_i32_68
  let v129 : BitVec 1 := Scalar.cmpi .slt v127 v128
  let v130 : BitVec 1 := Scalar.andi v126 v129
  let v131 : BitVec 1 := Scalar.andi v124 v130
  let v132 : BitVec 32 := Scalar.subi v117 v116
  let c8_i32_69 : BitVec 32 := 8#32
  let v133 : BitVec 32 := Scalar.addi v132 c8_i32_69
  let c1_i32_70 : BitVec 32 := 1#32
  let v134 : BitVec 32 := Scalar.subi v133 c1_i32_70
  let c14_i32 : BitVec 32 := 14#32
  let c15_i32 : BitVec 32 := 15#32
  let c16_i32 : BitVec 32 := 16#32
  let v135 : BitVec 32 := Scalar.select v124 c15_i32 c16_i32
  let v136 : BitVec 32 := Scalar.select v130 c14_i32 v135
  let v137 : BitVec 32 := Scalar.select v131 v134 v136
  let v667 : Index := Scalar.indexCast v137
  let c0_413 : Index := 0#32
  let c0_414 : Index := 0#32
  ![0, v667.toNat, 0, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v111 : BitVec 32 := Scalar.muli arg9 c256_i32
  let v112 : BitVec 32 := v111
  let v744 : Index := Scalar.indexCast v112
  let c0_484 : Index := 0#32
  ![v744.toNat, 0]
def k0_off3 (k0_t1 : Fin k0_t1_loop.trips) (c0_i32_492 : BitVec 32) : Fin 3 → Nat :=
  let c20_i32 : BitVec 32 := 20#32
  let c0_i32_59 : BitVec 32 := 0#32
  let c4_i32 : BitVec 32 := 4#32
  let c0_i32 : BitVec 32 := 0#32
  let c1_i32 : BitVec 32 := 1#32
  let arg9 : BitVec 32 := Scf.iv c0_i32 c1_i32 k0_t1
  let v107 : BitVec 32 := Scalar.muli c4_i32 arg9
  let c4_i32_58 : BitVec 32 := 4#32
  let v108 : BitVec 32 := Scalar.subi v107 c4_i32_58
  let v109 : BitVec 32 := Scalar.maxsi c0_i32_59 v108
  let v110 : BitVec 32 := Scalar.minsi c20_i32 v109
  let c0_i32_486 : BitVec 32 := 0#32
  let v747 : BitVec 1 := Scalar.cmpi .sgt v110 c0_i32_486
  let v748 : BitVec 32 := Scalar.extui v747
  let c0_i32_487 : BitVec 32 := 0#32
  let v749 : BitVec 1 := Scalar.cmpi .slt v110 c0_i32_487
  let v750 : BitVec 32 := Scalar.extui v749
  let v751 : BitVec 32 := Scalar.subi v748 v750
  let c2_i32_485 : BitVec 32 := 2#32
  let c0_i32_488 : BitVec 32 := 0#32
  let v752 : BitVec 1 := Scalar.cmpi .sgt c2_i32_485 c0_i32_488
  let v753 : BitVec 32 := Scalar.extui v752
  let c0_i32_489 : BitVec 32 := 0#32
  let v754 : BitVec 1 := Scalar.cmpi .slt c2_i32_485 c0_i32_489
  let v755 : BitVec 32 := Scalar.extui v754
  let v756 : BitVec 32 := Scalar.subi v753 v755
  let v757 : BitVec 1 := Scalar.cmpi .ne v751 v756
  let v758 : BitVec 32 := Scalar.remsi v110 c2_i32_485
  let c0_i32_490 : BitVec 32 := 0#32
  let v759 : BitVec 1 := Scalar.cmpi .ne v758 c0_i32_490
  let v760 : BitVec 1 := Scalar.andi v757 v759
  let v746 : BitVec 32 := Scalar.divsi v110 c2_i32_485
  let c1_i32_491 : BitVec 32 := 1#32
  let v761 : BitVec 32 := Scalar.subi v746 c1_i32_491
  let v762 : BitVec 32 := Scalar.select v760 v761 v746
  let v763 : BitVec 32 := Scalar.addi v762 c0_i32_492
  let v764 : Index := Scalar.indexCast v763
  let c0_493 : Index := 0#32
  let c0_494 : Index := 0#32
  ![v764.toNat, 0, 0]
def k0_off4 (k0_t1 : Fin k0_t1_loop.trips) : Fin 2 → Nat :=
  let c20_i32 : BitVec 32 := 20#32
  let c0_i32_59 : BitVec 32 := 0#32
  let c4_i32 : BitVec 32 := 4#32
  let c0_i32 : BitVec 32 := 0#32
  let c1_i32 : BitVec 32 := 1#32
  let arg9 : BitVec 32 := Scf.iv c0_i32 c1_i32 k0_t1
  let v107 : BitVec 32 := Scalar.muli c4_i32 arg9
  let c4_i32_58 : BitVec 32 := 4#32
  let v108 : BitVec 32 := Scalar.subi v107 c4_i32_58
  let v109 : BitVec 32 := Scalar.maxsi c0_i32_59 v108
  let v110 : BitVec 32 := Scalar.minsi c20_i32 v109
  let c64_i32 : BitVec 32 := 64#32
  let v113 : BitVec 32 := Scalar.muli v110 c64_i32
  let v114 : BitVec 32 := v113
  let v802 : Index := Scalar.indexCast v114
  let c0_512 : Index := 0#32
  ![v802.toNat, 0]
def k0_mult3 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32_519 : BitVec 32 := 256#32
  let v811 : BitVec 32 := Scalar.muli arg9 c256_i32_519
  v811
def k0_mult4 (k0_t1 : Fin k0_t1_loop.trips) : BitVec 32 :=
  let c20_i32_518 : BitVec 32 := 20#32
  let c0_i32_517 : BitVec 32 := 0#32
  let c4_i32_515 : BitVec 32 := 4#32
  let c0_i32 : BitVec 32 := 0#32
  let c1_i32 : BitVec 32 := 1#32
  let arg9 : BitVec 32 := Scf.iv c0_i32 c1_i32 k0_t1
  let v807 : BitVec 32 := Scalar.muli c4_i32_515 arg9
  let c4_i32_516 : BitVec 32 := 4#32
  let v808 : BitVec 32 := Scalar.subi v807 c4_i32_516
  let v809 : BitVec 32 := Scalar.maxsi c0_i32_517 v808
  let v810 : BitVec 32 := Scalar.minsi c20_i32_518 v809
  let c64_i32_520 : BitVec 32 := 64#32
  let v813 : BitVec 32 := Scalar.muli v810 c64_i32_520
  v813
def k0_off5 (k0_t1 : Fin k0_t1_loop.trips) (c0_i32_523 : BitVec 32) (c0_i32_522 : BitVec 32) : Fin 4 → Nat :=
  let c1_881 : Index := 1#32
  let c20_i32_518 : BitVec 32 := 20#32
  let c0_i32_517 : BitVec 32 := 0#32
  let c4_i32_515 : BitVec 32 := 4#32
  let c0_i32 : BitVec 32 := 0#32
  let c1_i32 : BitVec 32 := 1#32
  let arg9 : BitVec 32 := Scf.iv c0_i32 c1_i32 k0_t1
  let v807 : BitVec 32 := Scalar.muli c4_i32_515 arg9
  let c4_i32_516 : BitVec 32 := 4#32
  let v808 : BitVec 32 := Scalar.subi v807 c4_i32_516
  let v809 : BitVec 32 := Scalar.maxsi c0_i32_517 v808
  let v810 : BitVec 32 := Scalar.minsi c20_i32_518 v809
  let v817 : BitVec 32 := Scalar.addi v810 c0_i32_523
  let c24_i32_526 : BitVec 32 := 24#32
  let c0_i32_525 : BitVec 32 := 0#32
  let c4_i32_521 : BitVec 32 := 4#32
  let v815 : BitVec 32 := Scalar.muli c4_i32_521 arg9
  let v816 : BitVec 32 := Scalar.addi v815 c0_i32_522
  let c4_i32_524 : BitVec 32 := 4#32
  let v818 : BitVec 32 := Scalar.subi v816 c4_i32_524
  let v819 : BitVec 32 := Scalar.maxsi c0_i32_525 v818
  let v820 : BitVec 32 := Scalar.minsi c24_i32_526 v819
  let v821 : BitVec 1 := Scalar.cmpi .sge v817 v820
  let c8_i32_527 : BitVec 32 := 8#32
  let v822 : BitVec 32 := Scalar.addi v820 c8_i32_527
  let v823 : BitVec 1 := Scalar.cmpi .slt v817 v822
  let v824 : BitVec 1 := Scalar.andi v821 v823
  let c1_i32_528 : BitVec 32 := 1#32
  let v825 : BitVec 32 := Scalar.addi v817 c1_i32_528
  let v826 : BitVec 1 := Scalar.cmpi .sge v825 v820
  let c1_i32_529 : BitVec 32 := 1#32
  let v827 : BitVec 32 := Scalar.addi v817 c1_i32_529
  let c8_i32_530 : BitVec 32 := 8#32
  let v828 : BitVec 32 := Scalar.addi v820 c8_i32_530
  let v829 : BitVec 1 := Scalar.cmpi .slt v827 v828
  let v830 : BitVec 1 := Scalar.andi v826 v829
  let v831 : BitVec 1 := Scalar.andi v824 v830
  let v832 : BitVec 32 := Scalar.subi v817 v816
  let c8_i32_531 : BitVec 32 := 8#32
  let v833 : BitVec 32 := Scalar.addi v832 c8_i32_531
  let c1_i32_532 : BitVec 32 := 1#32
  let v834 : BitVec 32 := Scalar.subi v833 c1_i32_532
  let c14_i32_535 : BitVec 32 := 14#32
  let c15_i32_533 : BitVec 32 := 15#32
  let c16_i32_534 : BitVec 32 := 16#32
  let v835 : BitVec 32 := Scalar.select v824 c15_i32_533 c16_i32_534
  let v836 : BitVec 32 := Scalar.select v830 c14_i32_535 v835
  let v837 : BitVec 32 := Scalar.select v831 v834 v836
  let v1367 : Index := Scalar.indexCast v837
  let c0_882 : Index := 0#32
  let c0_883 : Index := 0#32
  ![1, v1367.toNat, 0, 0]
def k0_off6 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32_519 : BitVec 32 := 256#32
  let v811 : BitVec 32 := Scalar.muli arg9 c256_i32_519
  let v812 : BitVec 32 := v811
  let v1444 : Index := Scalar.indexCast v812
  let c64 : Index := 64#32
  ![v1444.toNat, 64]
def k0_off7 (k0_t1 : Fin k0_t1_loop.trips) (c0_i32_960 : BitVec 32) : Fin 3 → Nat :=
  let c20_i32_518 : BitVec 32 := 20#32
  let c0_i32_517 : BitVec 32 := 0#32
  let c4_i32_515 : BitVec 32 := 4#32
  let c0_i32 : BitVec 32 := 0#32
  let c1_i32 : BitVec 32 := 1#32
  let arg9 : BitVec 32 := Scf.iv c0_i32 c1_i32 k0_t1
  let v807 : BitVec 32 := Scalar.muli c4_i32_515 arg9
  let c4_i32_516 : BitVec 32 := 4#32
  let v808 : BitVec 32 := Scalar.subi v807 c4_i32_516
  let v809 : BitVec 32 := Scalar.maxsi c0_i32_517 v808
  let v810 : BitVec 32 := Scalar.minsi c20_i32_518 v809
  let c0_i32_954 : BitVec 32 := 0#32
  let v1447 : BitVec 1 := Scalar.cmpi .sgt v810 c0_i32_954
  let v1448 : BitVec 32 := Scalar.extui v1447
  let c0_i32_955 : BitVec 32 := 0#32
  let v1449 : BitVec 1 := Scalar.cmpi .slt v810 c0_i32_955
  let v1450 : BitVec 32 := Scalar.extui v1449
  let v1451 : BitVec 32 := Scalar.subi v1448 v1450
  let c2_i32_953 : BitVec 32 := 2#32
  let c0_i32_956 : BitVec 32 := 0#32
  let v1452 : BitVec 1 := Scalar.cmpi .sgt c2_i32_953 c0_i32_956
  let v1453 : BitVec 32 := Scalar.extui v1452
  let c0_i32_957 : BitVec 32 := 0#32
  let v1454 : BitVec 1 := Scalar.cmpi .slt c2_i32_953 c0_i32_957
  let v1455 : BitVec 32 := Scalar.extui v1454
  let v1456 : BitVec 32 := Scalar.subi v1453 v1455
  let v1457 : BitVec 1 := Scalar.cmpi .ne v1451 v1456
  let v1458 : BitVec 32 := Scalar.remsi v810 c2_i32_953
  let c0_i32_958 : BitVec 32 := 0#32
  let v1459 : BitVec 1 := Scalar.cmpi .ne v1458 c0_i32_958
  let v1460 : BitVec 1 := Scalar.andi v1457 v1459
  let v1446 : BitVec 32 := Scalar.divsi v810 c2_i32_953
  let c1_i32_959 : BitVec 32 := 1#32
  let v1461 : BitVec 32 := Scalar.subi v1446 c1_i32_959
  let v1462 : BitVec 32 := Scalar.select v1460 v1461 v1446
  let v1463 : BitVec 32 := Scalar.addi v1462 c0_i32_960
  let v1464 : Index := Scalar.indexCast v1463
  let c64_961 : Index := 64#32
  let c0_962 : Index := 0#32
  ![v1464.toNat, 64, 0]
def k0_off8 (k0_t1 : Fin k0_t1_loop.trips) : Fin 2 → Nat :=
  let c20_i32_518 : BitVec 32 := 20#32
  let c0_i32_517 : BitVec 32 := 0#32
  let c4_i32_515 : BitVec 32 := 4#32
  let c0_i32 : BitVec 32 := 0#32
  let c1_i32 : BitVec 32 := 1#32
  let arg9 : BitVec 32 := Scf.iv c0_i32 c1_i32 k0_t1
  let v807 : BitVec 32 := Scalar.muli c4_i32_515 arg9
  let c4_i32_516 : BitVec 32 := 4#32
  let v808 : BitVec 32 := Scalar.subi v807 c4_i32_516
  let v809 : BitVec 32 := Scalar.maxsi c0_i32_517 v808
  let v810 : BitVec 32 := Scalar.minsi c20_i32_518 v809
  let c64_i32_520 : BitVec 32 := 64#32
  let v813 : BitVec 32 := Scalar.muli v810 c64_i32_520
  let v814 : BitVec 32 := v813
  let v1502 : Index := Scalar.indexCast v814
  let c64_982 : Index := 64#32
  ![v1502.toNat, 64]
def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x17x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S2048x5120 : Shape := ⟨2, ![2048, 5120]⟩
abbrev S16x15x31 : Shape := ⟨3, ![16, 15, 31]⟩
abbrev S2048x1024 : Shape := ⟨2, ![2048, 1024]⟩
abbrev S2048x16x64 : Shape := ⟨3, ![2048, 16, 64]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S16x2048x2048 : Shape := ⟨3, ![16, 2048, 2048]⟩
abbrev S2048x2048x1 : Shape := ⟨3, ![2048, 2048, 1]⟩
abbrev S2048x2048x2 : Shape := ⟨3, ![2048, 2048, 2]⟩
abbrev S1x2048x2048 : Shape := ⟨3, ![1, 2048, 2048]⟩
abbrev S16x2048 : Shape := ⟨2, ![16, 2048]⟩
abbrev S16x2048x1 : Shape := ⟨3, ![16, 2048, 1]⟩
abbrev S16x64x2048 : Shape := ⟨3, ![16, 64, 2048]⟩

abbrev nBuf : Space → Nat
  | .hbm => 184
  | .vmem => 0
  | .smem => 0
  | _ => 0

abbrev hbmTy0_0 (i : Nat) : BufTy := match i % 128 with
  | 0 => ⟨S2048x5120, .f32⟩
  | 1 => ⟨S16x15x31, .f32⟩
  | 2 => ⟨S2048x1024, .f32⟩
  | 3 => ⟨S2048x1024, .f32⟩
  | 4 => ⟨S2048x1024, .f32⟩
  | 5 => ⟨S2048x16x64, .f32⟩
  | 6 => ⟨S2048x16x64, .f32⟩
  | 7 => ⟨S2048x16x64, .f32⟩
  | 8 => ⟨S2048, .i32⟩
  | 9 => ⟨S_, .i32⟩
  | 10 => ⟨S_, .i32⟩
  | 11 => ⟨S2048, .i32⟩
  | 12 => ⟨S2048, .i32⟩
  | 13 => ⟨S2048, .i32⟩
  | 14 => ⟨S_, .i32⟩
  | 15 => ⟨S2048, .i32⟩
  | 16 => ⟨S2048, .i1⟩
  | 17 => ⟨S2048, .i32⟩
  | 18 => ⟨S2048, .i32⟩
  | 19 => ⟨S_, .i32⟩
  | 20 => ⟨S2048, .i32⟩
  | 21 => ⟨S2048, .i1⟩
  | 22 => ⟨S2048, .i1⟩
  | 23 => ⟨S_, .i32⟩
  | 24 => ⟨S2048, .i32⟩
  | 25 => ⟨S2048, .i32⟩
  | 26 => ⟨S2048, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S2048, .i32⟩
  | 34 => ⟨S2048, .i32⟩
  | 35 => ⟨S_, .i32⟩
  | 36 => ⟨S2048, .i32⟩
  | 37 => ⟨S2048, .i1⟩
  | 38 => ⟨S_, .i32⟩
  | 39 => ⟨S2048, .i32⟩
  | 40 => ⟨S2048, .i1⟩
  | 41 => ⟨S_, .i32⟩
  | 42 => ⟨S_, .i1⟩
  | 43 => ⟨S2048, .i1⟩
  | 44 => ⟨S2048, .i1⟩
  | 45 => ⟨S2048, .i1⟩
  | 46 => ⟨S2048, .i32⟩
  | 47 => ⟨S2048, .i32⟩
  | 48 => ⟨S2048, .i32⟩
  | 49 => ⟨S_, .i32⟩
  | 50 => ⟨S2048, .i32⟩
  | 51 => ⟨S2048, .i32⟩
  | 52 => ⟨S_, .i32⟩
  | 53 => ⟨S_, .i32⟩
  | 54 => ⟨S_, .i32⟩
  | 55 => ⟨S2048, .i32⟩
  | 56 => ⟨S2048, .i32⟩
  | 57 => ⟨S_, .i32⟩
  | 58 => ⟨S2048, .i32⟩
  | 59 => ⟨S2048, .i32⟩
  | 60 => ⟨S_, .i32⟩
  | 61 => ⟨S2048, .i32⟩
  | 62 => ⟨S2048, .i32⟩
  | 63 => ⟨S_, .i32⟩
  | 64 => ⟨S_, .i32⟩
  | 65 => ⟨S_, .i32⟩
  | 66 => ⟨S2048, .i32⟩
  | 67 => ⟨S2048, .i32⟩
  | 68 => ⟨S_, .i32⟩
  | 69 => ⟨S2048, .i32⟩
  | 70 => ⟨S2048, .i32⟩
  | 71 => ⟨S1x2048, .i32⟩
  | 72 => ⟨S2048x1, .i32⟩
  | 73 => ⟨S2048x2048, .i32⟩
  | 74 => ⟨S2048x2048, .i32⟩
  | 75 => ⟨S2048x2048, .i1⟩
  | 76 => ⟨S1x2048, .i32⟩
  | 77 => ⟨S2048x1, .i32⟩
  | 78 => ⟨S_, .i32⟩
  | 79 => ⟨S2048x1, .i32⟩
  | 80 => ⟨S2048x1, .i32⟩
  | 81 => ⟨S2048x2048, .i32⟩
  | 82 => ⟨S2048x2048, .i32⟩
  | 83 => ⟨S2048x2048, .i1⟩
  | 84 => ⟨S2048x2048, .i1⟩
  | 85 => ⟨S1x2048, .i32⟩
  | 86 => ⟨S2048x1, .i32⟩
  | 87 => ⟨S2048x2048, .i32⟩
  | 88 => ⟨S2048x2048, .i32⟩
  | 89 => ⟨S2048x2048, .i1⟩
  | 90 => ⟨S2048x2048, .i1⟩
  | 91 => ⟨S1x2048, .i32⟩
  | 92 => ⟨S2048x1, .i32⟩
  | 93 => ⟨S_, .i32⟩
  | 94 => ⟨S2048x1, .i32⟩
  | 95 => ⟨S2048x1, .i32⟩
  | 96 => ⟨S2048x2048, .i32⟩
  | 97 => ⟨S2048x2048, .i32⟩
  | 98 => ⟨S2048x2048, .i1⟩
  | 99 => ⟨S2048x2048, .i1⟩
  | 100 => ⟨S1x2048, .i32⟩
  | 101 => ⟨S2048x1, .i32⟩
  | 102 => ⟨S2048x2048, .i32⟩
  | 103 => ⟨S2048x2048, .i32⟩
  | 104 => ⟨S2048x2048, .i32⟩
  | 105 => ⟨S_, .i32⟩
  | 106 => ⟨S2048x2048, .i32⟩
  | 107 => ⟨S2048x2048, .i32⟩
  | 108 => ⟨S_, .i32⟩
  | 109 => ⟨S2048x2048, .i32⟩
  | 110 => ⟨S2048x2048, .i32⟩
  | 111 => ⟨S_, .i32⟩
  | 112 => ⟨S_, .i32⟩
  | 113 => ⟨S_, .i32⟩
  | 114 => ⟨S2048x2048, .i32⟩
  | 115 => ⟨S2048x2048, .i32⟩
  | 116 => ⟨S_, .i32⟩
  | 117 => ⟨S2048x2048, .i32⟩
  | 118 => ⟨S2048x2048, .i32⟩
  | 119 => ⟨S1x2048, .i32⟩
  | 120 => ⟨S2048x1, .i32⟩
  | 121 => ⟨S2048x2048, .i32⟩
  | 122 => ⟨S2048x2048, .i32⟩
  | 123 => ⟨S2048x2048, .i32⟩
  | 124 => ⟨S_, .i32⟩
  | 125 => ⟨S2048x2048, .i32⟩
  | 126 => ⟨S2048x2048, .i32⟩
  | 127 => ⟨S_, .i32⟩
  | _ => ⟨S2048x5120, .f32⟩

abbrev hbmTy0_1 (i : Nat) : BufTy := match i % 128 with
  | 0 => ⟨S2048x2048, .i32⟩
  | 1 => ⟨S2048x2048, .i32⟩
  | 2 => ⟨S_, .i32⟩
  | 3 => ⟨S_, .i32⟩
  | 4 => ⟨S_, .i32⟩
  | 5 => ⟨S2048x2048, .i32⟩
  | 6 => ⟨S2048x2048, .i32⟩
  | 7 => ⟨S_, .i32⟩
  | 8 => ⟨S2048x2048, .i32⟩
  | 9 => ⟨S2048x2048, .i32⟩
  | 10 => ⟨S_, .f32⟩
  | 11 => ⟨S2048x16x64, .f32⟩
  | 12 => ⟨S2048x16x64, .f32⟩
  | 13 => ⟨S16x2048x2048, .f32⟩
  | 14 => ⟨S_, .i32⟩
  | 15 => ⟨S2048x2048, .i32⟩
  | 16 => ⟨S2048x2048, .i1⟩
  | 17 => ⟨S_, .i32⟩
  | 18 => ⟨S2048x2048, .i32⟩
  | 19 => ⟨S2048x2048, .i32⟩
  | 20 => ⟨S2048x2048, .i32⟩
  | 21 => ⟨S_, .i32⟩
  | 22 => ⟨S2048x2048, .i32⟩
  | 23 => ⟨S2048x2048, .i1⟩
  | 24 => ⟨S_, .i32⟩
  | 25 => ⟨S2048x2048, .i32⟩
  | 26 => ⟨S2048x2048, .i32⟩
  | 27 => ⟨S2048x2048, .i32⟩
  | 28 => ⟨S2048x2048x1, .i32⟩
  | 29 => ⟨S2048x2048x1, .i32⟩
  | 30 => ⟨S2048x2048x2, .i32⟩
  | 31 => ⟨S16x2048x2048, .f32⟩
  | 32 => ⟨S16x2048x2048, .f32⟩
  | 33 => ⟨S1x2048x2048, .i1⟩
  | 34 => ⟨S_, .f32⟩
  | 35 => ⟨S_, .f32⟩
  | 36 => ⟨S16x2048x2048, .i1⟩
  | 37 => ⟨S16x2048x2048, .f32⟩
  | 38 => ⟨S16x2048x2048, .f32⟩
  | 39 => ⟨S_, .f32⟩
  | 40 => ⟨S16x2048, .f32⟩
  | 41 => ⟨S_, .f32⟩
  | 42 => ⟨S16x2048, .f32⟩
  | 43 => ⟨S16x2048, .f32⟩
  | 44 => ⟨S16x2048x1, .f32⟩
  | 45 => ⟨S16x2048x2048, .f32⟩
  | 46 => ⟨S16x2048x2048, .f32⟩
  | 47 => ⟨S16x2048x2048, .f32⟩
  | 48 => ⟨S_, .f32⟩
  | 49 => ⟨S16x2048, .f32⟩
  | 50 => ⟨S16x2048x1, .f32⟩
  | 51 => ⟨S16x2048x2048, .f32⟩
  | 52 => ⟨S16x2048x2048, .f32⟩
  | 53 => ⟨S16x64x2048, .f32⟩
  | 54 => ⟨S2048x16x64, .f32⟩
  | 55 => ⟨S2048x1024, .f32⟩
  | _ => ⟨S2048x5120, .f32⟩

abbrev hbmTy (i : Nat) : BufTy := match i / 128 with
  | 0 => hbmTy0_0 i
  | 1 => hbmTy0_1 i
  | _ => ⟨S2048x5120, .f32⟩

abbrev bufTy : (tb : Table) → Fin (tcTables nBuf tb) → BufTy
  | .hbm, ⟨i, _⟩ => hbmTy i
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v7 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v8 : Ref sig .tc := ⟨.hbm, 48, rfl⟩
abbrev main_c_1 : Ref sig .tc := ⟨.hbm, 49, rfl⟩
abbrev main_v9 : Ref sig .tc := ⟨.hbm, 50, rfl⟩
abbrev main_v10 : Ref sig .tc := ⟨.hbm, 51, rfl⟩
abbrev main_c_2 : Ref sig .tc := ⟨.hbm, 52, rfl⟩
abbrev main_c_3 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v11 : Ref sig .tc := ⟨.hbm, 59, rfl⟩
abbrev main_c_4 : Ref sig .tc := ⟨.hbm, 60, rfl⟩
abbrev main_v12 : Ref sig .tc := ⟨.hbm, 61, rfl⟩
abbrev main_v13 : Ref sig .tc := ⟨.hbm, 62, rfl⟩
abbrev main_c_5 : Ref sig .tc := ⟨.hbm, 63, rfl⟩
abbrev main_c_6 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_c_7 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_c_8 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_c_9 : Ref sig .tc := ⟨.hbm, 105, rfl⟩
abbrev main_v47 : Ref sig .tc := ⟨.hbm, 106, rfl⟩
abbrev main_v48 : Ref sig .tc := ⟨.hbm, 107, rfl⟩
abbrev main_c_10 : Ref sig .tc := ⟨.hbm, 108, rfl⟩
abbrev main_v49 : Ref sig .tc := ⟨.hbm, 109, rfl⟩
abbrev main_v50 : Ref sig .tc := ⟨.hbm, 110, rfl⟩
abbrev main_c_11 : Ref sig .tc := ⟨.hbm, 111, rfl⟩
abbrev main_c_12 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_c_13 : Ref sig .tc := ⟨.hbm, 124, rfl⟩
abbrev main_v57 : Ref sig .tc := ⟨.hbm, 125, rfl⟩
abbrev main_v58 : Ref sig .tc := ⟨.hbm, 126, rfl⟩
abbrev main_c_14 : Ref sig .tc := ⟨.hbm, 127, rfl⟩
abbrev main_v59 : Ref sig .tc := ⟨.hbm, 128, rfl⟩
abbrev main_v60 : Ref sig .tc := ⟨.hbm, 129, rfl⟩
abbrev main_c_15 : Ref sig .tc := ⟨.hbm, 130, rfl⟩
abbrev main_c_16 : Ref sig .tc := ⟨.hbm, 131, rfl⟩
abbrev main_call5_v0 : Ref sig .tc := ⟨.hbm, 132, rfl⟩
abbrev main_call5_v1 : Ref sig .tc := ⟨.hbm, 133, rfl⟩
abbrev main_call5_v2 : Ref sig .tc := ⟨.hbm, 134, rfl⟩
abbrev main_call5_v3 : Ref sig .tc := ⟨.hbm, 135, rfl⟩
abbrev main_call5_v4 : Ref sig .tc := ⟨.hbm, 136, rfl⟩
abbrev main_v61 : Ref sig .tc := ⟨.hbm, 137, rfl⟩
abbrev main_cst : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_c_17 : Ref sig .tc := ⟨.hbm, 142, rfl⟩
abbrev main_v65 : Ref sig .tc := ⟨.hbm, 143, rfl⟩
abbrev main_v66 : Ref sig .tc := ⟨.hbm, 144, rfl⟩
abbrev main_c_18 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_c_19 : Ref sig .tc := ⟨.hbm, 149, rfl⟩
abbrev main_v70 : Ref sig .tc := ⟨.hbm, 150, rfl⟩
abbrev main_v71 : Ref sig .tc := ⟨.hbm, 151, rfl⟩
abbrev main_c_20 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_cst_21 : Ref sig .tc := ⟨.hbm, 162, rfl⟩
abbrev main_call6_v0 : Ref sig .tc := ⟨.hbm, 163, rfl⟩
abbrev main_call6_v1 : Ref sig .tc := ⟨.hbm, 164, rfl⟩
abbrev main_call6_v2 : Ref sig .tc := ⟨.hbm, 165, rfl⟩
abbrev main_v81 : Ref sig .tc := ⟨.hbm, 166, rfl⟩
abbrev main_cst_22 : Ref sig .tc := ⟨.hbm, 167, rfl⟩
abbrev main_v82 : Ref sig .tc := ⟨.hbm, 168, rfl⟩
abbrev main_cst_23 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_cst_24 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩

abbrev nD : Nat := 1
abbrev τ : Topo := Topo.v7x

variable {F : FTy → Type} [FloatOps F]
-- ==== Kernel7.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel8.lean ====
abbrev S2048x1024 : Shape := ⟨2, ![2048, 1024]⟩
abbrev S1x1024 : Shape := ⟨2, ![1, 1024]⟩
abbrev S2048x2048 : Shape := ⟨2, ![2048, 2048]⟩
abbrev S256x1024 : Shape := ⟨2, ![256, 1024]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩
abbrev S1024x256 : Shape := ⟨2, ![1024, 256]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x2048, .bf16⟩
  | .hbm, ⟨5, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x2048, .bf16⟩
  | .local _ .vmem, ⟨7, _⟩ => ⟨S256x2048, .bf16⟩
  | .local _ .vmem, ⟨8, _⟩ => ⟨S2048x256, .bf16⟩
  | .local _ .vmem, ⟨9, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x2048, .f32⟩
  | .hbm, ⟨35, _⟩ => ⟨S2048x2048, .bf16⟩
  | .hbm, ⟨36, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel9.lean ====
abbrev S2048x2048 : Shape := ⟨2, ![2048, 2048]⟩
abbrev S2048x11264 : Shape := ⟨2, ![2048, 11264]⟩
abbrev S11264x2048 : Shape := ⟨2, ![11264, 2048]⟩
abbrev S2x5632x2048 : Shape := ⟨3, ![2, 5632, 2048]⟩
abbrev S2048x5632 : Shape := ⟨2, ![2048, 5632]⟩
abbrev S5632x2048 : Shape := ⟨2, ![5632, 2048]⟩
abbrev S1024x2048 : Shape := ⟨2, ![1024, 2048]⟩
abbrev S2x512x2048 : Shape := ⟨3, ![2, 512, 2048]⟩
abbrev S1024x512 : Shape := ⟨2, ![1024, 512]⟩
abbrev S512x1024 : Shape := ⟨2, ![512, 1024]⟩
abbrev S1x512x2048 : Shape := ⟨3, ![1, 512, 2048]⟩
abbrev S512x2048 : Shape := ⟨2, ![512, 2048]⟩

abbrev nBuf : Space → Nat
  | .hbm => 10
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x2048, .bf16⟩
  | .hbm, ⟨3, _⟩ => ⟨S11264x2048, .f32⟩
  | .hbm, ⟨4, _⟩ => ⟨S11264x2048, .bf16⟩
  | .hbm, ⟨5, _⟩ => ⟨S2x5632x2048, .bf16⟩
  | .hbm, ⟨6, _⟩ => ⟨S2048x5632, .bf16⟩
  | .hbm, ⟨7, _⟩ => ⟨S2048x5632, .bf16⟩
  | .hbm, ⟨8, _⟩ => ⟨S2048x5632, .bf16⟩
  | .hbm, ⟨9, _⟩ => ⟨S5632x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2x512x2048, .bf16⟩
  | .local _ .vmem, ⟨3, _⟩ => ⟨S2x512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S512x1024, .bf16⟩
  | .local _ .vmem, ⟨11, _⟩ => ⟨S512x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev main_v4_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S2048x2048 : Shape := ⟨2, ![2048, 2048]⟩
abbrev S2048x11264 : Shape := ⟨2, ![2048, 11264]⟩
abbrev S2048x5632 : Shape := ⟨2, ![2048, 5632]⟩
abbrev S_ : Shape := ⟨0, ![]⟩
abbrev S5632x2048 : Shape := ⟨2, ![5632, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x11264, .f32⟩
  | .hbm, ⟨3, _⟩ => ⟨S2048x5632, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S_, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S2048x5632, .bf16⟩
  | .hbm, ⟨16, _⟩ => ⟨S2048x5632, .bf16⟩
  | .hbm, ⟨17, _⟩ => ⟨S2048x5632, .bf16⟩
  | .hbm, ⟨18, _⟩ => ⟨S5632x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Kernel10.lean ====
abbrev S2048x5120 : Shape := ⟨2, ![2048, 5120]⟩
abbrev S4x1024 : Shape := ⟨2, ![4, 1024]⟩
abbrev S1024 : Shape := ⟨1, ![1024]⟩
abbrev S2x2x16x64x64 : Shape := ⟨5, ![2, 2, 16, 64, 64]⟩
abbrev S2x2x16x64 : Shape := ⟨4, ![2, 2, 16, 64]⟩
abbrev S2x1024 : Shape := ⟨2, ![2, 1024]⟩
abbrev S2048x1024 : Shape := ⟨2, ![2048, 1024]⟩
abbrev S4x8x2x64x64 : Shape := ⟨5, ![4, 8, 2, 64, 64]⟩
abbrev S4x8x1x64x64 : Shape := ⟨5, ![4, 8, 1, 64, 64]⟩
abbrev S4x8x64x64 : Shape := ⟨4, ![4, 8, 64, 64]⟩
abbrev S_ : Shape := ⟨0, ![]⟩
abbrev S4x8x64x128 : Shape := ⟨4, ![4, 8, 64, 128]⟩
abbrev S4x8x128x128 : Shape := ⟨4, ![4, 8, 128, 128]⟩
abbrev S1x1024 : Shape := ⟨2, ![1, 1024]⟩
abbrev S2051x1024 : Shape := ⟨2, ![2051, 1024]⟩
abbrev S2048x16x64 : Shape := ⟨3, ![2048, 16, 64]⟩
abbrev S16x2x2x64x2048 : Shape := ⟨5, ![16, 2, 2, 64, 2048]⟩
abbrev S2x2x2048x16x64 : Shape := ⟨5, ![2, 2, 2048, 16, 64]⟩
abbrev S2x2x1x16x64 : Shape := ⟨5, ![2, 2, 1, 16, 64]⟩
abbrev S2x2x2048x1024 : Shape := ⟨4, ![2, 2, 2048, 1024]⟩
abbrev S1x2x2048x1024 : Shape := ⟨4, ![1, 2, 2048, 1024]⟩
abbrev S2x2048x1024 : Shape := ⟨3, ![2, 2048, 1024]⟩
abbrev S2x1x1024 : Shape := ⟨3, ![2, 1, 1024]⟩
abbrev S1x2048x1024 : Shape := ⟨3, ![1, 2048, 1024]⟩
abbrev S2047x1024 : Shape := ⟨2, ![2047, 1024]⟩
abbrev S2046x1024 : Shape := ⟨2, ![2046, 1024]⟩
abbrev S2044x1024 : Shape := ⟨2, ![2044, 1024]⟩
abbrev S8x1024 : Shape := ⟨2, ![8, 1024]⟩
abbrev S2040x1024 : Shape := ⟨2, ![2040, 1024]⟩
abbrev S16x1024 : Shape := ⟨2, ![16, 1024]⟩
abbrev S2032x1024 : Shape := ⟨2, ![2032, 1024]⟩
abbrev S32x1024 : Shape := ⟨2, ![32, 1024]⟩
abbrev S2016x1024 : Shape := ⟨2, ![2016, 1024]⟩
abbrev S64x1024 : Shape := ⟨2, ![64, 1024]⟩
abbrev S1984x1024 : Shape := ⟨2, ![1984, 1024]⟩
abbrev S128x1024 : Shape := ⟨2, ![128, 1024]⟩
abbrev S1920x1024 : Shape := ⟨2, ![1920, 1024]⟩
abbrev S256x1024 : Shape := ⟨2, ![256, 1024]⟩
abbrev S1792x1024 : Shape := ⟨2, ![1792, 1024]⟩
abbrev S512x1024 : Shape := ⟨2, ![512, 1024]⟩
abbrev S1536x1024 : Shape := ⟨2, ![1536, 1024]⟩
abbrev S1024x1024 : Shape := ⟨2, ![1024, 1024]⟩
abbrev S2x1024x2048 : Shape := ⟨3, ![2, 1024, 2048]⟩
abbrev S2048x128 : Shape := ⟨2, ![2048, 128]⟩
abbrev S4x128 : Shape := ⟨2, ![4, 128]⟩
abbrev S1x128 : Shape := ⟨2, ![1, 128]⟩
abbrev S4x1x128x128 : Shape := ⟨4, ![4, 1, 128, 128]⟩
abbrev S2x128 : Shape := ⟨2, ![2, 128]⟩
abbrev S2x128x2048 : Shape := ⟨3, ![2, 128, 2048]⟩
abbrev S2064x128 : Shape := ⟨2, ![2064, 128]⟩
abbrev S8x128 : Shape := ⟨2, ![8, 128]⟩
abbrev S1x1x128x128 : Shape := ⟨4, ![1, 1, 128, 128]⟩
abbrev S128x128 : Shape := ⟨2, ![128, 128]⟩
abbrev S128x2048 : Shape := ⟨2, ![128, 2048]⟩
abbrev S1x128x2048 : Shape := ⟨3, ![1, 128, 2048]⟩
abbrev S128 : Shape := ⟨1, ![128]⟩

abbrev nBuf : Space → Nat
  | .hbm => 420
  | .vmem => 44
  | .smem => 0
  | _ => 0

abbrev hbmTy0_0 (i : Nat) : BufTy := match i % 128 with
  | 0 => ⟨S2048x5120, .f32⟩
  | 1 => ⟨S4x1024, .f32⟩
  | 2 => ⟨S1024, .f32⟩
  | 3 => ⟨S2x2x16x64x64, .f32⟩
  | 4 => ⟨S2x2x16x64, .f32⟩
  | 5 => ⟨S2x1024, .f32⟩
  | 6 => ⟨S2048x1024, .f32⟩
  | 7 => ⟨S4x8x2x64x64, .f32⟩
  | 8 => ⟨S4x8x1x64x64, .f32⟩
  | 9 => ⟨S4x8x64x64, .f32⟩
  | 10 => ⟨S_, .f32⟩
  | 11 => ⟨S4x8x64x64, .f32⟩
  | 12 => ⟨S4x8x1x64x64, .f32⟩
  | 13 => ⟨S4x8x64x64, .f32⟩
  | 14 => ⟨S4x8x64x128, .f32⟩
  | 15 => ⟨S4x8x1x64x64, .f32⟩
  | 16 => ⟨S4x8x64x64, .f32⟩
  | 17 => ⟨S4x8x64x128, .f32⟩
  | 18 => ⟨S4x8x128x128, .f32⟩
  | 19 => ⟨S4x8x128x128, .bf16⟩
  | 20 => ⟨S4x1024, .f32⟩
  | 21 => ⟨S2048x1024, .f32⟩
  | 22 => ⟨S_, .f32⟩
  | 23 => ⟨S2x1024, .f32⟩
  | 24 => ⟨S_, .f32⟩
  | 25 => ⟨S1x1024, .f32⟩
  | 26 => ⟨S2051x1024, .f32⟩
  | 27 => ⟨S2048x1024, .f32⟩
  | 28 => ⟨S1x1024, .f32⟩
  | 29 => ⟨S1024, .f32⟩
  | 30 => ⟨S1x1024, .f32⟩
  | 31 => ⟨S2048x1024, .f32⟩
  | 32 => ⟨S2048x1024, .f32⟩
  | 33 => ⟨S_, .f32⟩
  | 34 => ⟨S2048x1024, .f32⟩
  | 35 => ⟨S2048x1024, .f32⟩
  | 36 => ⟨S2048x1024, .f32⟩
  | 37 => ⟨S1x1024, .f32⟩
  | 38 => ⟨S1024, .f32⟩
  | 39 => ⟨S1x1024, .f32⟩
  | 40 => ⟨S2048x1024, .f32⟩
  | 41 => ⟨S2048x1024, .f32⟩
  | 42 => ⟨S2048x1024, .f32⟩
  | 43 => ⟨S2048x1024, .f32⟩
  | 44 => ⟨S1x1024, .f32⟩
  | 45 => ⟨S1024, .f32⟩
  | 46 => ⟨S1x1024, .f32⟩
  | 47 => ⟨S2048x1024, .f32⟩
  | 48 => ⟨S2048x1024, .f32⟩
  | 49 => ⟨S2048x1024, .f32⟩
  | 50 => ⟨S2048x1024, .f32⟩
  | 51 => ⟨S1x1024, .f32⟩
  | 52 => ⟨S1024, .f32⟩
  | 53 => ⟨S1x1024, .f32⟩
  | 54 => ⟨S2048x1024, .f32⟩
  | 55 => ⟨S2048x1024, .f32⟩
  | 56 => ⟨S2048x1024, .f32⟩
  | 57 => ⟨S1x1024, .f32⟩
  | 58 => ⟨S2048x1024, .f32⟩
  | 59 => ⟨S2048x1024, .f32⟩
  | 60 => ⟨S2048x16x64, .f32⟩
  | 61 => ⟨S16x2x2x64x2048, .f32⟩
  | 62 => ⟨S2x2x2048x16x64, .f32⟩
  | 63 => ⟨S2x2x1x16x64, .f32⟩
  | 64 => ⟨S2x2x2048x16x64, .f32⟩
  | 65 => ⟨S2x2x2048x16x64, .f32⟩
  | 66 => ⟨S2x2x2048x16x64, .f32⟩
  | 67 => ⟨S2x2x2048x16x64, .f32⟩
  | 68 => ⟨S_, .f32⟩
  | 69 => ⟨S2x2x2048x16x64, .f32⟩
  | 70 => ⟨S2x2x2048x16x64, .f32⟩
  | 71 => ⟨S_, .f32⟩
  | 72 => ⟨S2x2x2048x16x64, .f32⟩
  | 73 => ⟨S2x2x2048x16x64, .f32⟩
  | 74 => ⟨S2x2x2048x1024, .f32⟩
  | 75 => ⟨S2x2x2048x1024, .f32⟩
  | 76 => ⟨S1x2x2048x1024, .f32⟩
  | 77 => ⟨S2x2048x1024, .f32⟩
  | 78 => ⟨S1x2x2048x1024, .f32⟩
  | 79 => ⟨S2x2048x1024, .f32⟩
  | 80 => ⟨S_, .f32⟩
  | 81 => ⟨S2x2048x1024, .f32⟩
  | 82 => ⟨S2x2048x1024, .f32⟩
  | 83 => ⟨S2x1024, .f32⟩
  | 84 => ⟨S_, .f32⟩
  | 85 => ⟨S2x1024, .f32⟩
  | 86 => ⟨S2x1024, .f32⟩
  | 87 => ⟨S2x1024, .f32⟩
  | 88 => ⟨S2x1024, .f32⟩
  | 89 => ⟨S2x1024, .i1⟩
  | 90 => ⟨S2x1024, .f32⟩
  | 91 => ⟨S2x1024, .f32⟩
  | 92 => ⟨S2x1024, .f32⟩
  | 93 => ⟨S2x1024, .f32⟩
  | 94 => ⟨S2x1024, .f32⟩
  | 95 => ⟨S2x1024, .f32⟩
  | 96 => ⟨S2x1024, .f32⟩
  | 97 => ⟨S2x1024, .f32⟩
  | 98 => ⟨S2x1x1024, .f32⟩
  | 99 => ⟨S2x2048x1024, .f32⟩
  | 100 => ⟨S2x2048x1024, .f32⟩
  | 101 => ⟨S_, .f32⟩
  | 102 => ⟨S2x2048x1024, .f32⟩
  | 103 => ⟨S2x2048x1024, .f32⟩
  | 104 => ⟨S2x2048x1024, .f32⟩
  | 105 => ⟨S_, .f32⟩
  | 106 => ⟨S2x2048x1024, .f32⟩
  | 107 => ⟨S2x2048x1024, .f32⟩
  | 108 => ⟨S2x2048x1024, .f32⟩
  | 109 => ⟨S1x2048x1024, .f32⟩
  | 110 => ⟨S2x2048x1024, .f32⟩
  | 111 => ⟨S2x2048x1024, .f32⟩
  | 112 => ⟨S2x2048x1024, .f32⟩
  | 113 => ⟨S2x2048x1024, .f32⟩
  | 114 => ⟨S1x2048x1024, .f32⟩
  | 115 => ⟨S2048x1024, .f32⟩
  | 116 => ⟨S1x2048x1024, .f32⟩
  | 117 => ⟨S2048x1024, .f32⟩
  | 118 => ⟨S1x1024, .f32⟩
  | 119 => ⟨S_, .f32⟩
  | 120 => ⟨S1x1024, .f32⟩
  | 121 => ⟨S2047x1024, .f32⟩
  | 122 => ⟨S2048x1024, .f32⟩
  | 123 => ⟨S2048x1024, .f32⟩
  | 124 => ⟨S1x1024, .f32⟩
  | 125 => ⟨S_, .f32⟩
  | 126 => ⟨S1x1024, .f32⟩
  | 127 => ⟨S2047x1024, .f32⟩
  | _ => ⟨S2048x5120, .f32⟩

abbrev hbmTy0_1 (i : Nat) : BufTy := match i % 128 with
  | 0 => ⟨S2048x1024, .f32⟩
  | 1 => ⟨S2048x1024, .f32⟩
  | 2 => ⟨S2048x1024, .f32⟩
  | 3 => ⟨S2x1024, .f32⟩
  | 4 => ⟨S_, .f32⟩
  | 5 => ⟨S2x1024, .f32⟩
  | 6 => ⟨S2046x1024, .f32⟩
  | 7 => ⟨S2048x1024, .f32⟩
  | 8 => ⟨S2048x1024, .f32⟩
  | 9 => ⟨S2x1024, .f32⟩
  | 10 => ⟨S_, .f32⟩
  | 11 => ⟨S2x1024, .f32⟩
  | 12 => ⟨S2046x1024, .f32⟩
  | 13 => ⟨S2048x1024, .f32⟩
  | 14 => ⟨S2048x1024, .f32⟩
  | 15 => ⟨S2048x1024, .f32⟩
  | 16 => ⟨S4x1024, .f32⟩
  | 17 => ⟨S_, .f32⟩
  | 18 => ⟨S4x1024, .f32⟩
  | 19 => ⟨S2044x1024, .f32⟩
  | 20 => ⟨S2048x1024, .f32⟩
  | 21 => ⟨S2048x1024, .f32⟩
  | 22 => ⟨S4x1024, .f32⟩
  | 23 => ⟨S_, .f32⟩
  | 24 => ⟨S4x1024, .f32⟩
  | 25 => ⟨S2044x1024, .f32⟩
  | 26 => ⟨S2048x1024, .f32⟩
  | 27 => ⟨S2048x1024, .f32⟩
  | 28 => ⟨S2048x1024, .f32⟩
  | 29 => ⟨S8x1024, .f32⟩
  | 30 => ⟨S_, .f32⟩
  | 31 => ⟨S8x1024, .f32⟩
  | 32 => ⟨S2040x1024, .f32⟩
  | 33 => ⟨S2048x1024, .f32⟩
  | 34 => ⟨S2048x1024, .f32⟩
  | 35 => ⟨S8x1024, .f32⟩
  | 36 => ⟨S_, .f32⟩
  | 37 => ⟨S8x1024, .f32⟩
  | 38 => ⟨S2040x1024, .f32⟩
  | 39 => ⟨S2048x1024, .f32⟩
  | 40 => ⟨S2048x1024, .f32⟩
  | 41 => ⟨S2048x1024, .f32⟩
  | 42 => ⟨S16x1024, .f32⟩
  | 43 => ⟨S_, .f32⟩
  | 44 => ⟨S16x1024, .f32⟩
  | 45 => ⟨S2032x1024, .f32⟩
  | 46 => ⟨S2048x1024, .f32⟩
  | 47 => ⟨S2048x1024, .f32⟩
  | 48 => ⟨S16x1024, .f32⟩
  | 49 => ⟨S_, .f32⟩
  | 50 => ⟨S16x1024, .f32⟩
  | 51 => ⟨S2032x1024, .f32⟩
  | 52 => ⟨S2048x1024, .f32⟩
  | 53 => ⟨S2048x1024, .f32⟩
  | 54 => ⟨S2048x1024, .f32⟩
  | 55 => ⟨S32x1024, .f32⟩
  | 56 => ⟨S_, .f32⟩
  | 57 => ⟨S32x1024, .f32⟩
  | 58 => ⟨S2016x1024, .f32⟩
  | 59 => ⟨S2048x1024, .f32⟩
  | 60 => ⟨S2048x1024, .f32⟩
  | 61 => ⟨S32x1024, .f32⟩
  | 62 => ⟨S_, .f32⟩
  | 63 => ⟨S32x1024, .f32⟩
  | 64 => ⟨S2016x1024, .f32⟩
  | 65 => ⟨S2048x1024, .f32⟩
  | 66 => ⟨S2048x1024, .f32⟩
  | 67 => ⟨S2048x1024, .f32⟩
  | 68 => ⟨S64x1024, .f32⟩
  | 69 => ⟨S_, .f32⟩
  | 70 => ⟨S64x1024, .f32⟩
  | 71 => ⟨S1984x1024, .f32⟩
  | 72 => ⟨S2048x1024, .f32⟩
  | 73 => ⟨S2048x1024, .f32⟩
  | 74 => ⟨S64x1024, .f32⟩
  | 75 => ⟨S_, .f32⟩
  | 76 => ⟨S64x1024, .f32⟩
  | 77 => ⟨S1984x1024, .f32⟩
  | 78 => ⟨S2048x1024, .f32⟩
  | 79 => ⟨S2048x1024, .f32⟩
  | 80 => ⟨S2048x1024, .f32⟩
  | 81 => ⟨S128x1024, .f32⟩
  | 82 => ⟨S_, .f32⟩
  | 83 => ⟨S128x1024, .f32⟩
  | 84 => ⟨S1920x1024, .f32⟩
  | 85 => ⟨S2048x1024, .f32⟩
  | 86 => ⟨S2048x1024, .f32⟩
  | 87 => ⟨S128x1024, .f32⟩
  | 88 => ⟨S_, .f32⟩
  | 89 => ⟨S128x1024, .f32⟩
  | 90 => ⟨S1920x1024, .f32⟩
  | 91 => ⟨S2048x1024, .f32⟩
  | 92 => ⟨S2048x1024, .f32⟩
  | 93 => ⟨S2048x1024, .f32⟩
  | 94 => ⟨S256x1024, .f32⟩
  | 95 => ⟨S_, .f32⟩
  | 96 => ⟨S256x1024, .f32⟩
  | 97 => ⟨S1792x1024, .f32⟩
  | 98 => ⟨S2048x1024, .f32⟩
  | 99 => ⟨S2048x1024, .f32⟩
  | 100 => ⟨S256x1024, .f32⟩
  | 101 => ⟨S_, .f32⟩
  | 102 => ⟨S256x1024, .f32⟩
  | 103 => ⟨S1792x1024, .f32⟩
  | 104 => ⟨S2048x1024, .f32⟩
  | 105 => ⟨S2048x1024, .f32⟩
  | 106 => ⟨S2048x1024, .f32⟩
  | 107 => ⟨S512x1024, .f32⟩
  | 108 => ⟨S_, .f32⟩
  | 109 => ⟨S512x1024, .f32⟩
  | 110 => ⟨S1536x1024, .f32⟩
  | 111 => ⟨S2048x1024, .f32⟩
  | 112 => ⟨S2048x1024, .f32⟩
  | 113 => ⟨S512x1024, .f32⟩
  | 114 => ⟨S_, .f32⟩
  | 115 => ⟨S512x1024, .f32⟩
  | 116 => ⟨S1536x1024, .f32⟩
  | 117 => ⟨S2048x1024, .f32⟩
  | 118 => ⟨S2048x1024, .f32⟩
  | 119 => ⟨S2048x1024, .f32⟩
  | 120 => ⟨S1024x1024, .f32⟩
  | 121 => ⟨S_, .f32⟩
  | 122 => ⟨S1024x1024, .f32⟩
  | 123 => ⟨S1024x1024, .f32⟩
  | 124 => ⟨S2048x1024, .f32⟩
  | 125 => ⟨S2048x1024, .f32⟩
  | 126 => ⟨S1024x1024, .f32⟩
  | 127 => ⟨S_, .f32⟩
  | _ => ⟨S2048x5120, .f32⟩

abbrev hbmTy0_2 (i : Nat) : BufTy := match i % 128 with
  | 0 => ⟨S1024x1024, .f32⟩
  | 1 => ⟨S1024x1024, .f32⟩
  | 2 => ⟨S2048x1024, .f32⟩
  | 3 => ⟨S2048x1024, .f32⟩
  | 4 => ⟨S2048x1024, .f32⟩
  | 5 => ⟨S1x2048x1024, .f32⟩
  | 6 => ⟨S1x2048x1024, .f32⟩
  | 7 => ⟨S2048x1024, .f32⟩
  | 8 => ⟨S1x2048x1024, .f32⟩
  | 9 => ⟨S1x2048x1024, .f32⟩
  | 10 => ⟨S2048x1024, .f32⟩
  | 11 => ⟨S1x1024, .f32⟩
  | 12 => ⟨S_, .f32⟩
  | 13 => ⟨S1x1024, .f32⟩
  | 14 => ⟨S2047x1024, .f32⟩
  | 15 => ⟨S2048x1024, .f32⟩
  | 16 => ⟨S2048x1024, .f32⟩
  | 17 => ⟨S1x1024, .f32⟩
  | 18 => ⟨S_, .f32⟩
  | 19 => ⟨S1x1024, .f32⟩
  | 20 => ⟨S2047x1024, .f32⟩
  | 21 => ⟨S2048x1024, .f32⟩
  | 22 => ⟨S2048x1024, .f32⟩
  | 23 => ⟨S2048x1024, .f32⟩
  | 24 => ⟨S2x1024, .f32⟩
  | 25 => ⟨S_, .f32⟩
  | 26 => ⟨S2x1024, .f32⟩
  | 27 => ⟨S2046x1024, .f32⟩
  | 28 => ⟨S2048x1024, .f32⟩
  | 29 => ⟨S2048x1024, .f32⟩
  | 30 => ⟨S2x1024, .f32⟩
  | 31 => ⟨S_, .f32⟩
  | 32 => ⟨S2x1024, .f32⟩
  | 33 => ⟨S2046x1024, .f32⟩
  | 34 => ⟨S2048x1024, .f32⟩
  | 35 => ⟨S2048x1024, .f32⟩
  | 36 => ⟨S2048x1024, .f32⟩
  | 37 => ⟨S4x1024, .f32⟩
  | 38 => ⟨S_, .f32⟩
  | 39 => ⟨S4x1024, .f32⟩
  | 40 => ⟨S2044x1024, .f32⟩
  | 41 => ⟨S2048x1024, .f32⟩
  | 42 => ⟨S2048x1024, .f32⟩
  | 43 => ⟨S4x1024, .f32⟩
  | 44 => ⟨S_, .f32⟩
  | 45 => ⟨S4x1024, .f32⟩
  | 46 => ⟨S2044x1024, .f32⟩
  | 47 => ⟨S2048x1024, .f32⟩
  | 48 => ⟨S2048x1024, .f32⟩
  | 49 => ⟨S2048x1024, .f32⟩
  | 50 => ⟨S8x1024, .f32⟩
  | 51 => ⟨S_, .f32⟩
  | 52 => ⟨S8x1024, .f32⟩
  | 53 => ⟨S2040x1024, .f32⟩
  | 54 => ⟨S2048x1024, .f32⟩
  | 55 => ⟨S2048x1024, .f32⟩
  | 56 => ⟨S8x1024, .f32⟩
  | 57 => ⟨S_, .f32⟩
  | 58 => ⟨S8x1024, .f32⟩
  | 59 => ⟨S2040x1024, .f32⟩
  | 60 => ⟨S2048x1024, .f32⟩
  | 61 => ⟨S2048x1024, .f32⟩
  | 62 => ⟨S2048x1024, .f32⟩
  | 63 => ⟨S16x1024, .f32⟩
  | 64 => ⟨S_, .f32⟩
  | 65 => ⟨S16x1024, .f32⟩
  | 66 => ⟨S2032x1024, .f32⟩
  | 67 => ⟨S2048x1024, .f32⟩
  | 68 => ⟨S2048x1024, .f32⟩
  | 69 => ⟨S16x1024, .f32⟩
  | 70 => ⟨S_, .f32⟩
  | 71 => ⟨S16x1024, .f32⟩
  | 72 => ⟨S2032x1024, .f32⟩
  | 73 => ⟨S2048x1024, .f32⟩
  | 74 => ⟨S2048x1024, .f32⟩
  | 75 => ⟨S2048x1024, .f32⟩
  | 76 => ⟨S32x1024, .f32⟩
  | 77 => ⟨S_, .f32⟩
  | 78 => ⟨S32x1024, .f32⟩
  | 79 => ⟨S2016x1024, .f32⟩
  | 80 => ⟨S2048x1024, .f32⟩
  | 81 => ⟨S2048x1024, .f32⟩
  | 82 => ⟨S32x1024, .f32⟩
  | 83 => ⟨S_, .f32⟩
  | 84 => ⟨S32x1024, .f32⟩
  | 85 => ⟨S2016x1024, .f32⟩
  | 86 => ⟨S2048x1024, .f32⟩
  | 87 => ⟨S2048x1024, .f32⟩
  | 88 => ⟨S2048x1024, .f32⟩
  | 89 => ⟨S64x1024, .f32⟩
  | 90 => ⟨S_, .f32⟩
  | 91 => ⟨S64x1024, .f32⟩
  | 92 => ⟨S1984x1024, .f32⟩
  | 93 => ⟨S2048x1024, .f32⟩
  | 94 => ⟨S2048x1024, .f32⟩
  | 95 => ⟨S64x1024, .f32⟩
  | 96 => ⟨S_, .f32⟩
  | 97 => ⟨S64x1024, .f32⟩
  | 98 => ⟨S1984x1024, .f32⟩
  | 99 => ⟨S2048x1024, .f32⟩
  | 100 => ⟨S2048x1024, .f32⟩
  | 101 => ⟨S2048x1024, .f32⟩
  | 102 => ⟨S128x1024, .f32⟩
  | 103 => ⟨S_, .f32⟩
  | 104 => ⟨S128x1024, .f32⟩
  | 105 => ⟨S1920x1024, .f32⟩
  | 106 => ⟨S2048x1024, .f32⟩
  | 107 => ⟨S2048x1024, .f32⟩
  | 108 => ⟨S128x1024, .f32⟩
  | 109 => ⟨S_, .f32⟩
  | 110 => ⟨S128x1024, .f32⟩
  | 111 => ⟨S1920x1024, .f32⟩
  | 112 => ⟨S2048x1024, .f32⟩
  | 113 => ⟨S2048x1024, .f32⟩
  | 114 => ⟨S2048x1024, .f32⟩
  | 115 => ⟨S256x1024, .f32⟩
  | 116 => ⟨S_, .f32⟩
  | 117 => ⟨S256x1024, .f32⟩
  | 118 => ⟨S1792x1024, .f32⟩
  | 119 => ⟨S2048x1024, .f32⟩
  | 120 => ⟨S2048x1024, .f32⟩
  | 121 => ⟨S256x1024, .f32⟩
  | 122 => ⟨S_, .f32⟩
  | 123 => ⟨S256x1024, .f32⟩
  | 124 => ⟨S1792x1024, .f32⟩
  | 125 => ⟨S2048x1024, .f32⟩
  | 126 => ⟨S2048x1024, .f32⟩
  | 127 => ⟨S2048x1024, .f32⟩
  | _ => ⟨S2048x5120, .f32⟩

abbrev hbmTy0_3 (i : Nat) : BufTy := match i % 128 with
  | 0 => ⟨S512x1024, .f32⟩
  | 1 => ⟨S_, .f32⟩
  | 2 => ⟨S512x1024, .f32⟩
  | 3 => ⟨S1536x1024, .f32⟩
  | 4 => ⟨S2048x1024, .f32⟩
  | 5 => ⟨S2048x1024, .f32⟩
  | 6 => ⟨S512x1024, .f32⟩
  | 7 => ⟨S_, .f32⟩
  | 8 => ⟨S512x1024, .f32⟩
  | 9 => ⟨S1536x1024, .f32⟩
  | 10 => ⟨S2048x1024, .f32⟩
  | 11 => ⟨S2048x1024, .f32⟩
  | 12 => ⟨S2048x1024, .f32⟩
  | 13 => ⟨S1024x1024, .f32⟩
  | 14 => ⟨S_, .f32⟩
  | 15 => ⟨S1024x1024, .f32⟩
  | 16 => ⟨S1024x1024, .f32⟩
  | 17 => ⟨S2048x1024, .f32⟩
  | 18 => ⟨S2048x1024, .f32⟩
  | 19 => ⟨S1024x1024, .f32⟩
  | 20 => ⟨S_, .f32⟩
  | 21 => ⟨S1024x1024, .f32⟩
  | 22 => ⟨S1024x1024, .f32⟩
  | 23 => ⟨S2048x1024, .f32⟩
  | 24 => ⟨S2048x1024, .f32⟩
  | 25 => ⟨S2048x1024, .f32⟩
  | 26 => ⟨S2048x1024, .f32⟩
  | 27 => ⟨S1x1024, .f32⟩
  | 28 => ⟨S2048x1024, .bf16⟩
  | 29 => ⟨S2048x1024, .bf16⟩
  | 30 => ⟨S2x1024x2048, .bf16⟩
  | 31 => ⟨S4x1024, .f32⟩
  | 32 => ⟨S1x1024, .f32⟩
  | 33 => ⟨S4x8x128x128, .f32⟩
  | 34 => ⟨S4x1024, .f32⟩
  | 35 => ⟨S2x1024, .f32⟩
  | _ => ⟨S2048x5120, .f32⟩

abbrev hbmTy (i : Nat) : BufTy := match i / 128 with
  | 0 => hbmTy0_0 i
  | 1 => hbmTy0_1 i
  | 2 => hbmTy0_2 i
  | 3 => hbmTy0_3 i
  | _ => ⟨S2048x5120, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S4x1x128x128, .bf16⟩
  | .local _ .vmem, ⟨9, _⟩ => ⟨S4x1x128x128, .bf16⟩
  | .local _ .vmem, ⟨10, _⟩ => ⟨S4x128, .f32⟩
  | .local _ .vmem, ⟨11, _⟩ => ⟨S4x128, .f32⟩
  | .local _ .vmem, ⟨12, _⟩ => ⟨S2x128, .f32⟩
  | .local _ .vmem, ⟨13, _⟩ => ⟨S2x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S2x128x2048, .bf16⟩
  | .local _ .vmem, ⟨25, _⟩ => ⟨S2x128x2048, .bf16⟩
  | .local _ .vmem, ⟨26, _⟩ => ⟨S4x128, .f32⟩
  | .local _ .vmem, ⟨27, _⟩ => ⟨S4x128, .f32⟩
  | .local _ .vmem, ⟨28, _⟩ => ⟨S1x128, .f32⟩
  | .local _ .vmem, ⟨29, _⟩ => ⟨S1x128, .f32⟩
  | .local _ .vmem, ⟨30, _⟩ => ⟨S4x1x128x128, .f32⟩
  | .local _ .vmem, ⟨31, _⟩ => ⟨S4x1x128x128, .f32⟩
  | .local _ .vmem, ⟨32, _⟩ => ⟨S4x128, .f32⟩
  | .local _ .vmem, ⟨33, _⟩ => ⟨S4x128, .f32⟩
  | .local _ .vmem, ⟨34, _⟩ => ⟨S2x128, .f32⟩
  | .local _ .vmem, ⟨35, _⟩ => ⟨S2x128, .f32⟩
  | .local _ .vmem, ⟨36, _⟩ => ⟨S2064x128, .f32⟩
  | .local _ .vmem, ⟨37, _⟩ => ⟨S2064x128, .f32⟩
  | .local _ .vmem, ⟨38, _⟩ => ⟨S2064x128, .f32⟩
  | .local _ .vmem, ⟨39, _⟩ => ⟨S2048x128, .f32⟩
  | .local _ .vmem, ⟨40, _⟩ => ⟨S2048x128, .f32⟩
  | .local _ .vmem, ⟨41, _⟩ => ⟨S2048x128, .f32⟩
  | .local _ .vmem, ⟨42, _⟩ => ⟨S2048x128, .f32⟩
  | .local _ .vmem, ⟨43, _⟩ => ⟨S2048x128, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_3 : Ref sig .tc := ⟨.hbm, 68, rfl⟩
abbrev main_v57 : Ref sig .tc := ⟨.hbm, 69, rfl⟩
abbrev main_v58 : Ref sig .tc := ⟨.hbm, 70, rfl⟩
abbrev main_cst_4 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_5 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_call0_cst : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_v5 : Ref sig .tc := ⟨.hbm, 90, rfl⟩
abbrev main_call0_v6 : Ref sig .tc := ⟨.hbm, 91, rfl⟩
abbrev main_call0_v7 : Ref sig .tc := ⟨.hbm, 92, rfl⟩
abbrev main_call0_v8 : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_6 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_7 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_8 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_9 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_10 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_11 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_12 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_cst_13 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_cst_14 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_cst_15 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_16 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_cst_17 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_cst_18 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_cst_19 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_cst_20 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_cst_21 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_cst_22 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_cst_23 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_cst_24 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_cst_25 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_cst_26 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_cst_27 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_cst_28 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_cst_29 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_cst_30 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_cst_31 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_cst_32 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_cst_33 : Ref sig .tc := ⟨.hbm, 287, rfl⟩
abbrev main_v233 : Ref sig .tc := ⟨.hbm, 288, rfl⟩
abbrev main_v234 : Ref sig .tc := ⟨.hbm, 289, rfl⟩
abbrev main_v235 : Ref sig .tc := ⟨.hbm, 290, rfl⟩
abbrev main_v236 : Ref sig .tc := ⟨.hbm, 291, rfl⟩
abbrev main_v237 : Ref sig .tc := ⟨.hbm, 292, rfl⟩
abbrev main_v238 : Ref sig .tc := ⟨.hbm, 293, rfl⟩
abbrev main_cst_34 : Ref sig .tc := ⟨.hbm, 294, rfl⟩
abbrev main_v239 : Ref sig .tc := ⟨.hbm, 295, rfl⟩
abbrev main_v240 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_cst_35 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_cst_36 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_cst_37 : Ref sig .tc := ⟨.hbm, 313, rfl⟩
abbrev main_v255 : Ref sig .tc := ⟨.hbm, 314, rfl⟩
abbrev main_v256 : Ref sig .tc := ⟨.hbm, 315, rfl⟩
abbrev main_v257 : Ref sig .tc := ⟨.hbm, 316, rfl⟩
abbrev main_v258 : Ref sig .tc := ⟨.hbm, 317, rfl⟩
abbrev main_v259 : Ref sig .tc := ⟨.hbm, 318, rfl⟩
abbrev main_v260 : Ref sig .tc := ⟨.hbm, 319, rfl⟩
abbrev main_cst_38 : Ref sig .tc := ⟨.hbm, 320, rfl⟩
abbrev main_v261 : Ref sig .tc := ⟨.hbm, 321, rfl⟩
abbrev main_v262 : Ref sig .tc := ⟨.hbm, 322, rfl⟩
abbrev main_v263 : Ref sig .tc := ⟨.hbm, 323, rfl⟩
abbrev main_v264 : Ref sig .tc := ⟨.hbm, 324, rfl⟩
abbrev main_v265 : Ref sig .tc := ⟨.hbm, 325, rfl⟩
abbrev main_cst_39 : Ref sig .tc := ⟨.hbm, 326, rfl⟩
abbrev main_v266 : Ref sig .tc := ⟨.hbm, 327, rfl⟩
abbrev main_v267 : Ref sig .tc := ⟨.hbm, 328, rfl⟩
abbrev main_v268 : Ref sig .tc := ⟨.hbm, 329, rfl⟩
abbrev main_v269 : Ref sig .tc := ⟨.hbm, 330, rfl⟩
abbrev main_v270 : Ref sig .tc := ⟨.hbm, 331, rfl⟩
abbrev main_v271 : Ref sig .tc := ⟨.hbm, 332, rfl⟩
abbrev main_cst_40 : Ref sig .tc := ⟨.hbm, 333, rfl⟩
abbrev main_v272 : Ref sig .tc := ⟨.hbm, 334, rfl⟩
abbrev main_v273 : Ref sig .tc := ⟨.hbm, 335, rfl⟩
abbrev main_v274 : Ref sig .tc := ⟨.hbm, 336, rfl⟩
abbrev main_v275 : Ref sig .tc := ⟨.hbm, 337, rfl⟩
abbrev main_v276 : Ref sig .tc := ⟨.hbm, 338, rfl⟩
abbrev main_cst_41 : Ref sig .tc := ⟨.hbm, 339, rfl⟩
abbrev main_v277 : Ref sig .tc := ⟨.hbm, 340, rfl⟩
abbrev main_v278 : Ref sig .tc := ⟨.hbm, 341, rfl⟩
abbrev main_v279 : Ref sig .tc := ⟨.hbm, 342, rfl⟩
abbrev main_v280 : Ref sig .tc := ⟨.hbm, 343, rfl⟩
abbrev main_v281 : Ref sig .tc := ⟨.hbm, 344, rfl⟩
abbrev main_v282 : Ref sig .tc := ⟨.hbm, 345, rfl⟩
abbrev main_cst_42 : Ref sig .tc := ⟨.hbm, 346, rfl⟩
abbrev main_v283 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩
abbrev main_v287 : Ref sig .tc := ⟨.hbm, 351, rfl⟩
abbrev main_cst_43 : Ref sig .tc := ⟨.hbm, 352, rfl⟩
abbrev main_v288 : Ref sig .tc := ⟨.hbm, 353, rfl⟩
abbrev main_v289 : Ref sig .tc := ⟨.hbm, 354, rfl⟩
abbrev main_v290 : Ref sig .tc := ⟨.hbm, 355, rfl⟩
abbrev main_v291 : Ref sig .tc := ⟨.hbm, 356, rfl⟩
abbrev main_v292 : Ref sig .tc := ⟨.hbm, 357, rfl⟩
abbrev main_v293 : Ref sig .tc := ⟨.hbm, 358, rfl⟩
abbrev main_cst_44 : Ref sig .tc := ⟨.hbm, 359, rfl⟩
abbrev main_v294 : Ref sig .tc := ⟨.hbm, 360, rfl⟩
abbrev main_v295 : Ref sig .tc := ⟨.hbm, 361, rfl⟩
abbrev main_v296 : Ref sig .tc := ⟨.hbm, 362, rfl⟩
abbrev main_v297 : Ref sig .tc := ⟨.hbm, 363, rfl⟩
abbrev main_v298 : Ref sig .tc := ⟨.hbm, 364, rfl⟩
abbrev main_cst_45 : Ref sig .tc := ⟨.hbm, 365, rfl⟩
abbrev main_v299 : Ref sig .tc := ⟨.hbm, 366, rfl⟩
abbrev main_v300 : Ref sig .tc := ⟨.hbm, 367, rfl⟩
abbrev main_v301 : Ref sig .tc := ⟨.hbm, 368, rfl⟩
abbrev main_v302 : Ref sig .tc := ⟨.hbm, 369, rfl⟩
abbrev main_v303 : Ref sig .tc := ⟨.hbm, 370, rfl⟩
abbrev main_v304 : Ref sig .tc := ⟨.hbm, 371, rfl⟩
abbrev main_cst_46 : Ref sig .tc := ⟨.hbm, 372, rfl⟩
abbrev main_v305 : Ref sig .tc := ⟨.hbm, 373, rfl⟩
abbrev main_v306 : Ref sig .tc := ⟨.hbm, 374, rfl⟩
abbrev main_v307 : Ref sig .tc := ⟨.hbm, 375, rfl⟩
abbrev main_v308 : Ref sig .tc := ⟨.hbm, 376, rfl⟩
abbrev main_v309 : Ref sig .tc := ⟨.hbm, 377, rfl⟩
abbrev main_cst_47 : Ref sig .tc := ⟨.hbm, 378, rfl⟩
abbrev main_v310 : Ref sig .tc := ⟨.hbm, 379, rfl⟩
abbrev main_v311 : Ref sig .tc := ⟨.hbm, 380, rfl⟩
abbrev main_v312 : Ref sig .tc := ⟨.hbm, 381, rfl⟩
abbrev main_v313 : Ref sig .tc := ⟨.hbm, 382, rfl⟩
abbrev main_v314 : Ref sig .tc := ⟨.hbm, 383, rfl⟩
abbrev main_v315 : Ref sig .tc := ⟨.hbm, 384, rfl⟩
abbrev main_cst_48 : Ref sig .tc := ⟨.hbm, 385, rfl⟩
abbrev main_v316 : Ref sig .tc := ⟨.hbm, 386, rfl⟩
abbrev main_v317 : Ref sig .tc := ⟨.hbm, 387, rfl⟩
abbrev main_v318 : Ref sig .tc := ⟨.hbm, 388, rfl⟩
abbrev main_v319 : Ref sig .tc := ⟨.hbm, 389, rfl⟩
abbrev main_v320 : Ref sig .tc := ⟨.hbm, 390, rfl⟩
abbrev main_cst_49 : Ref sig .tc := ⟨.hbm, 391, rfl⟩
abbrev main_v321 : Ref sig .tc := ⟨.hbm, 392, rfl⟩
abbrev main_v322 : Ref sig .tc := ⟨.hbm, 393, rfl⟩
abbrev main_v323 : Ref sig .tc := ⟨.hbm, 394, rfl⟩
abbrev main_v324 : Ref sig .tc := ⟨.hbm, 395, rfl⟩
abbrev main_v325 : Ref sig .tc := ⟨.hbm, 396, rfl⟩
abbrev main_v326 : Ref sig .tc := ⟨.hbm, 397, rfl⟩
abbrev main_cst_50 : Ref sig .tc := ⟨.hbm, 398, rfl⟩
abbrev main_v327 : Ref sig .tc := ⟨.hbm, 399, rfl⟩
abbrev main_v328 : Ref sig .tc := ⟨.hbm, 400, rfl⟩
abbrev main_v329 : Ref sig .tc := ⟨.hbm, 401, rfl⟩
abbrev main_v330 : Ref sig .tc := ⟨.hbm, 402, rfl⟩
abbrev main_v331 : Ref sig .tc := ⟨.hbm, 403, rfl⟩
abbrev main_cst_51 : Ref sig .tc := ⟨.hbm, 404, rfl⟩
abbrev main_v332 : Ref sig .tc := ⟨.hbm, 405, rfl⟩
abbrev main_v333 : Ref sig .tc := ⟨.hbm, 406, rfl⟩
abbrev main_v334 : Ref sig .tc := ⟨.hbm, 407, rfl⟩
abbrev main_v335 : Ref sig .tc := ⟨.hbm, 408, rfl⟩
abbrev main_v336 : Ref sig .tc := ⟨.hbm, 409, rfl⟩
abbrev main_v337 : Ref sig .tc := ⟨.hbm, 410, rfl⟩
abbrev main_v338 : Ref sig .tc := ⟨.hbm, 411, rfl⟩
abbrev main_v339_0 : Ref sig .tc := ⟨.hbm, 412, rfl⟩
abbrev main_v339_1 : Ref sig .tc := ⟨.hbm, 413, rfl⟩
abbrev main_v339_2 : Ref sig .tc := ⟨.hbm, 414, rfl⟩
abbrev main_v339_3 : Ref sig .tc := ⟨.hbm, 415, rfl⟩
abbrev main_v339_4 : Ref sig .tc := ⟨.hbm, 416, rfl⟩
abbrev main_v339_5 : Ref sig .tc := ⟨.hbm, 417, rfl⟩
abbrev main_v339_6 : Ref sig .tc := ⟨.hbm, 418, rfl⟩
abbrev main_v339_7 : Ref sig .tc := ⟨.hbm, 419, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_scratch5 : Ref sig .tc := ⟨.vmem, 41, rfl⟩
abbrev cc0_scratch6 : Ref sig .tc := ⟨.vmem, 42, rfl⟩
abbrev cc0_scratch7 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c256_i32 : BitVec 32 := 256#32
  let v284 : BitVec 32 := Scalar.addi c0_i32 c256_i32
  let c1_i32 : BitVec 32 := 1#32
  ⟨c0_i32, v284, c1_i32⟩
def k0_mult1 (k0_t1 : Fin k0_t1_loop.trips) : BitVec 32 :=
  let c0_i32 : BitVec 32 := 0#32
  let c1_i32 : BitVec 32 := 1#32
  let arg27 : BitVec 32 := Scf.iv c0_i32 c1_i32 k0_t1
  let c8_i32 : BitVec 32 := 8#32
  let v513 : BitVec 32 := Scalar.muli arg27 c8_i32
  v513
def k0_mult2 (k0_t1 : Fin k0_t1_loop.trips) : BitVec 32 :=
  let c2040_i32 : BitVec 32 := 2040#32
  let c0_i32 : BitVec 32 := 0#32
  let c1_i32 : BitVec 32 := 1#32
  let arg27 : BitVec 32 := Scf.iv c0_i32 c1_i32 k0_t1
  let c8_i32_310 : BitVec 32 := 8#32
  let v515 : BitVec 32 := Scalar.muli arg27 c8_i32_310
  let v516 : BitVec 32 := Scalar.subi c2040_i32 v515
  v516
def k0_off1 (k0_t1 : Fin k0_t1_loop.trips) : Fin 2 → Nat :=
  let c0_i32 : BitVec 32 := 0#32
  let c1_i32 : BitVec 32 := 1#32
  let arg27 : BitVec 32 := Scf.iv c0_i32 c1_i32 k0_t1
  let c8_i32 : BitVec 32 := 8#32
  let v513 : BitVec 32 := Scalar.muli arg27 c8_i32
  let v514 : BitVec 32 := v513
  let v518 : Index := Scalar.indexCast v514
  let c0_311 : Index := 0#32
  ![v518.toNat, 0]
def k0_off2 (k0_t1 : Fin k0_t1_loop.trips) : Fin 2 → Nat :=
  let c2040_i32 : BitVec 32 := 2040#32
  let c0_i32 : BitVec 32 := 0#32
  let c1_i32 : BitVec 32 := 1#32
  let arg27 : BitVec 32 := Scf.iv c0_i32 c1_i32 k0_t1
  let c8_i32_310 : BitVec 32 := 8#32
  let v515 : BitVec 32 := Scalar.muli arg27 c8_i32_310
  let v516 : BitVec 32 := Scalar.subi c2040_i32 v515
  let v517 : BitVec 32 := v516
  let v556 : Index := Scalar.indexCast v517
  let c0_321 : Index := 0#32
  ![v556.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference10Ideal.lean ====
abbrev S2048x5120 : Shape := ⟨2, ![2048, 5120]⟩
abbrev S4x1024 : Shape := ⟨2, ![4, 1024]⟩
abbrev S1024 : Shape := ⟨1, ![1024]⟩
abbrev S2x2x16x64x64 : Shape := ⟨5, ![2, 2, 16, 64, 64]⟩
abbrev S2x2x16x64 : Shape := ⟨4, ![2, 2, 16, 64]⟩
abbrev S2x1024 : Shape := ⟨2, ![2, 1024]⟩
abbrev S2048x1024 : Shape := ⟨2, ![2048, 1024]⟩
abbrev S_ : Shape := ⟨0, ![]⟩
abbrev S1x1024 : Shape := ⟨2, ![1, 1024]⟩
abbrev S2051x1024 : Shape := ⟨2, ![2051, 1024]⟩
abbrev S2048x16x64 : Shape := ⟨3, ![2048, 16, 64]⟩
abbrev S16x2x2x64x2048 : Shape := ⟨5, ![16, 2, 2, 64, 2048]⟩
abbrev S2x2x2048x16x64 : Shape := ⟨5, ![2, 2, 2048, 16, 64]⟩
abbrev S2x2x1x16x64 : Shape := ⟨5, ![2, 2, 1, 16, 64]⟩
abbrev S2x2x2048x1024 : Shape := ⟨4, ![2, 2, 2048, 1024]⟩
abbrev S1x2x2048x1024 : Shape := ⟨4, ![1, 2, 2048, 1024]⟩
abbrev S2x2048x1024 : Shape := ⟨3, ![2, 2048, 1024]⟩
abbrev S2x1x1024 : Shape := ⟨3, ![2, 1, 1024]⟩
abbrev S1x2048x1024 : Shape := ⟨3, ![1, 2048, 1024]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x1x1024 : Shape := ⟨3, ![2048, 1, 1024]⟩
abbrev S2048x2048x1024 : Shape := ⟨3, ![2048, 2048, 1024]⟩
abbrev S1024x2048 : Shape := ⟨2, ![1024, 2048]⟩
abbrev S16x2048x64 : Shape := ⟨3, ![16, 2048, 64]⟩
abbrev S16x2x2x64x64 : Shape := ⟨5, ![16, 2, 2, 64, 64]⟩
abbrev S1x1024x2048 : Shape := ⟨3, ![1, 1024, 2048]⟩
abbrev S2x1024x2048 : Shape := ⟨3, ![2, 1024, 2048]⟩
abbrev S4x8x2x64x64 : Shape := ⟨5, ![4, 8, 2, 64, 64]⟩
abbrev S4x8x1x64x64 : Shape := ⟨5, ![4, 8, 1, 64, 64]⟩
abbrev S4x8x64x64 : Shape := ⟨4, ![4, 8, 64, 64]⟩
abbrev S4x8x64x128 : Shape := ⟨4, ![4, 8, 64, 128]⟩
abbrev S4x8x128x128 : Shape := ⟨4, ![4, 8, 128, 128]⟩

abbrev nBuf : Space → Nat
  | .hbm => 461
  | .vmem => 0
  | .smem => 0
  | _ => 0

abbrev hbmTy0_0 (i : Nat) : BufTy := match i % 128 with
  | 0 => ⟨S2048x5120, .f32⟩
  | 1 => ⟨S4x1024, .f32⟩
  | 2 => ⟨S1024, .f32⟩
  | 3 => ⟨S2x2x16x64x64, .f32⟩
  | 4 => ⟨S2x2x16x64, .f32⟩
  | 5 => ⟨S2x1024, .f32⟩
  | 6 => ⟨S2048x1024, .f32⟩
  | 7 => ⟨S2048x1024, .f32⟩
  | 8 => ⟨S2048x1024, .f32⟩
  | 9 => ⟨S_, .f32⟩
  | 10 => ⟨S2x1024, .f32⟩
  | 11 => ⟨S_, .f32⟩
  | 12 => ⟨S1x1024, .f32⟩
  | 13 => ⟨S2051x1024, .f32⟩
  | 14 => ⟨S_, .f32⟩
  | 15 => ⟨S2x1024, .f32⟩
  | 16 => ⟨S_, .f32⟩
  | 17 => ⟨S1x1024, .f32⟩
  | 18 => ⟨S2048x1024, .f32⟩
  | 19 => ⟨S1x1024, .f32⟩
  | 20 => ⟨S1024, .f32⟩
  | 21 => ⟨S1x1024, .f32⟩
  | 22 => ⟨S2048x1024, .f32⟩
  | 23 => ⟨S2048x1024, .f32⟩
  | 24 => ⟨S_, .f32⟩
  | 25 => ⟨S2048x1024, .f32⟩
  | 26 => ⟨S2048x1024, .f32⟩
  | 27 => ⟨S2048x1024, .f32⟩
  | 28 => ⟨S1x1024, .f32⟩
  | 29 => ⟨S1024, .f32⟩
  | 30 => ⟨S1x1024, .f32⟩
  | 31 => ⟨S2048x1024, .f32⟩
  | 32 => ⟨S2048x1024, .f32⟩
  | 33 => ⟨S2048x1024, .f32⟩
  | 34 => ⟨S2048x1024, .f32⟩
  | 35 => ⟨S1x1024, .f32⟩
  | 36 => ⟨S1024, .f32⟩
  | 37 => ⟨S1x1024, .f32⟩
  | 38 => ⟨S2048x1024, .f32⟩
  | 39 => ⟨S2048x1024, .f32⟩
  | 40 => ⟨S2048x1024, .f32⟩
  | 41 => ⟨S2048x1024, .f32⟩
  | 42 => ⟨S1x1024, .f32⟩
  | 43 => ⟨S1024, .f32⟩
  | 44 => ⟨S1x1024, .f32⟩
  | 45 => ⟨S2048x1024, .f32⟩
  | 46 => ⟨S2048x1024, .f32⟩
  | 47 => ⟨S2048x1024, .f32⟩
  | 48 => ⟨S1x1024, .f32⟩
  | 49 => ⟨S2048x1024, .f32⟩
  | 50 => ⟨S2048x1024, .f32⟩
  | 51 => ⟨S2048x16x64, .f32⟩
  | 52 => ⟨S16x2x2x64x2048, .f32⟩
  | 53 => ⟨S2x2x2048x16x64, .f32⟩
  | 54 => ⟨S2x2x1x16x64, .f32⟩
  | 55 => ⟨S2x2x2048x16x64, .f32⟩
  | 56 => ⟨S2x2x2048x16x64, .f32⟩
  | 57 => ⟨S2x2x2048x16x64, .f32⟩
  | 58 => ⟨S2x2x2048x16x64, .f32⟩
  | 59 => ⟨S_, .f32⟩
  | 60 => ⟨S2x2x2048x16x64, .f32⟩
  | 61 => ⟨S2x2x2048x16x64, .f32⟩
  | 62 => ⟨S_, .f32⟩
  | 63 => ⟨S2x2x2048x16x64, .f32⟩
  | 64 => ⟨S2x2x2048x16x64, .f32⟩
  | 65 => ⟨S_, .f32⟩
  | 66 => ⟨S2x2x2048x16x64, .f32⟩
  | 67 => ⟨S2x2x2048x16x64, .f32⟩
  | 68 => ⟨S2x2x2048x16x64, .f32⟩
  | 69 => ⟨S2x2x2048x1024, .f32⟩
  | 70 => ⟨S2x2x2048x1024, .f32⟩
  | 71 => ⟨S1x2x2048x1024, .f32⟩
  | 72 => ⟨S2x2048x1024, .f32⟩
  | 73 => ⟨S1x2x2048x1024, .f32⟩
  | 74 => ⟨S2x2048x1024, .f32⟩
  | 75 => ⟨S_, .f32⟩
  | 76 => ⟨S2x2048x1024, .f32⟩
  | 77 => ⟨S2x2048x1024, .f32⟩
  | 78 => ⟨S2x1024, .f32⟩
  | 79 => ⟨S_, .f32⟩
  | 80 => ⟨S2x1024, .f32⟩
  | 81 => ⟨S2x1024, .f32⟩
  | 82 => ⟨S2x1024, .f32⟩
  | 83 => ⟨S2x1024, .f32⟩
  | 84 => ⟨S2x1024, .i1⟩
  | 85 => ⟨S2x1024, .f32⟩
  | 86 => ⟨S2x1024, .f32⟩
  | 87 => ⟨S2x1024, .f32⟩
  | 88 => ⟨S2x1024, .f32⟩
  | 89 => ⟨S2x1024, .f32⟩
  | 90 => ⟨S2x1024, .f32⟩
  | 91 => ⟨S2x1024, .f32⟩
  | 92 => ⟨S2x1024, .f32⟩
  | 93 => ⟨S_, .f32⟩
  | 94 => ⟨S2x1024, .f32⟩
  | 95 => ⟨S2x1024, .i1⟩
  | 96 => ⟨S_, .f32⟩
  | 97 => ⟨S2x1024, .f32⟩
  | 98 => ⟨S2x1024, .f32⟩
  | 99 => ⟨S_, .f32⟩
  | 100 => ⟨S2x1024, .f32⟩
  | 101 => ⟨S2x1024, .i1⟩
  | 102 => ⟨S_, .f32⟩
  | 103 => ⟨S2x1024, .f32⟩
  | 104 => ⟨S2x1024, .f32⟩
  | 105 => ⟨S2x1024, .f32⟩
  | 106 => ⟨S2x1024, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S2x1024, .f32⟩
  | 115 => ⟨S2x1024, .i1⟩
  | 116 => ⟨S_, .f32⟩
  | 117 => ⟨S2x1024, .f32⟩
  | 118 => ⟨S2x1024, .f32⟩
  | 119 => ⟨S2x1024, .f32⟩
  | 120 => ⟨S2x1024, .f32⟩
  | 121 => ⟨S2x1024, .f32⟩
  | 122 => ⟨S_, .f32⟩
  | 123 => ⟨S2x1024, .f32⟩
  | 124 => ⟨S2x1024, .f32⟩
  | 125 => ⟨S2x1x1024, .f32⟩
  | 126 => ⟨S2x2048x1024, .f32⟩
  | 127 => ⟨S2x2048x1024, .f32⟩
  | _ => ⟨S2048x5120, .f32⟩

abbrev hbmTy0_1 (i : Nat) : BufTy := match i % 128 with
  | 0 => ⟨S_, .f32⟩
  | 1 => ⟨S2x2048x1024, .f32⟩
  | 2 => ⟨S2x2048x1024, .f32⟩
  | 3 => ⟨S2x2048x1024, .f32⟩
  | 4 => ⟨S_, .f32⟩
  | 5 => ⟨S2x2048x1024, .f32⟩
  | 6 => ⟨S2x2048x1024, .f32⟩
  | 7 => ⟨S2x2048x1024, .f32⟩
  | 8 => ⟨S_, .f32⟩
  | 9 => ⟨S2x2048x1024, .f32⟩
  | 10 => ⟨S2x2048x1024, .f32⟩
  | 11 => ⟨S1x2048x1024, .f32⟩
  | 12 => ⟨S2x2048x1024, .f32⟩
  | 13 => ⟨S2x2048x1024, .f32⟩
  | 14 => ⟨S2x2048x1024, .f32⟩
  | 15 => ⟨S1x2048x1024, .f32⟩
  | 16 => ⟨S2048x1024, .f32⟩
  | 17 => ⟨S1x2048x1024, .f32⟩
  | 18 => ⟨S2048x1024, .f32⟩
  | 19 => ⟨S2048, .i32⟩
  | 20 => ⟨S2048x1, .i32⟩
  | 21 => ⟨S1x2048, .i32⟩
  | 22 => ⟨S2048x2048, .i32⟩
  | 23 => ⟨S2048x2048, .i32⟩
  | 24 => ⟨S2048x2048, .i1⟩
  | 25 => ⟨S2048x2048, .f32⟩
  | 26 => ⟨S2048x1024, .f32⟩
  | 27 => ⟨S2048x2048x1, .i1⟩
  | 28 => ⟨S2048x1x1024, .f32⟩
  | 29 => ⟨S1x2048x1024, .f32⟩
  | 30 => ⟨S2048x2048x1024, .f32⟩
  | 31 => ⟨S2048x2048x1024, .f32⟩
  | 32 => ⟨S2048x2048x1024, .f32⟩
  | 33 => ⟨S_, .f32⟩
  | 34 => ⟨S_, .f32⟩
  | 35 => ⟨S2048x2048x1024, .i1⟩
  | 36 => ⟨S2048x2048x1024, .f32⟩
  | 37 => ⟨S2048x2048x1024, .f32⟩
  | 38 => ⟨S_, .f32⟩
  | 39 => ⟨S2048x2048x1024, .f32⟩
  | 40 => ⟨S2048x2048x1024, .f32⟩
  | 41 => ⟨S1x2048x1024, .f32⟩
  | 42 => ⟨S2048x2048x1024, .f32⟩
  | 43 => ⟨S2048x2048x1024, .f32⟩
  | 44 => ⟨S_, .f32⟩
  | 45 => ⟨S2048x1024, .f32⟩
  | 46 => ⟨S1x2048x1024, .f32⟩
  | 47 => ⟨S1x2048x1024, .f32⟩
  | 48 => ⟨S2048x1024, .f32⟩
  | 49 => ⟨S1x2048x1024, .f32⟩
  | 50 => ⟨S1x2048x1024, .f32⟩
  | 51 => ⟨S2048x1024, .f32⟩
  | 52 => ⟨S2048, .i32⟩
  | 53 => ⟨S2048x1, .i32⟩
  | 54 => ⟨S1x2048, .i32⟩
  | 55 => ⟨S2048x2048, .i32⟩
  | 56 => ⟨S2048x2048, .i32⟩
  | 57 => ⟨S2048x2048, .i1⟩
  | 58 => ⟨S2048x2048, .f32⟩
  | 59 => ⟨S2048x1024, .f32⟩
  | 60 => ⟨S2048x2048x1, .i1⟩
  | 61 => ⟨S2048x1x1024, .f32⟩
  | 62 => ⟨S1x2048x1024, .f32⟩
  | 63 => ⟨S2048x2048x1024, .f32⟩
  | 64 => ⟨S2048x2048x1024, .f32⟩
  | 65 => ⟨S2048x2048x1024, .f32⟩
  | 66 => ⟨S_, .f32⟩
  | 67 => ⟨S_, .f32⟩
  | 68 => ⟨S2048x2048x1024, .i1⟩
  | 69 => ⟨S2048x2048x1024, .f32⟩
  | 70 => ⟨S2048x2048x1024, .f32⟩
  | 71 => ⟨S_, .f32⟩
  | 72 => ⟨S2048x2048x1024, .f32⟩
  | 73 => ⟨S2048x2048x1024, .f32⟩
  | 74 => ⟨S1x2048x1024, .f32⟩
  | 75 => ⟨S2048x2048x1024, .f32⟩
  | 76 => ⟨S2048x2048x1024, .f32⟩
  | 77 => ⟨S_, .f32⟩
  | 78 => ⟨S2048x1024, .f32⟩
  | 79 => ⟨S2048x1024, .f32⟩
  | 80 => ⟨S2048x1024, .f32⟩
  | 81 => ⟨S2048x1024, .f32⟩
  | 82 => ⟨S2048x1024, .f32⟩
  | 83 => ⟨S_, .f32⟩
  | 84 => ⟨S2048x1024, .f32⟩
  | 85 => ⟨S2048x1024, .f32⟩
  | 86 => ⟨S_, .f32⟩
  | 87 => ⟨S2048x1024, .f32⟩
  | 88 => ⟨S2048x1024, .f32⟩
  | 89 => ⟨S2048x1024, .f32⟩
  | 90 => ⟨S_, .f32⟩
  | 91 => ⟨S2048x1024, .f32⟩
  | 92 => ⟨S2048x1024, .f32⟩
  | 93 => ⟨S2048x1024, .f32⟩
  | 94 => ⟨S_, .f32⟩
  | 95 => ⟨S2048x1024, .f32⟩
  | 96 => ⟨S2048x1024, .f32⟩
  | 97 => ⟨S_, .f32⟩
  | 98 => ⟨S2048x1024, .f32⟩
  | 99 => ⟨S2048x1024, .f32⟩
  | 100 => ⟨S2048x1024, .f32⟩
  | 101 => ⟨S_, .f32⟩
  | 102 => ⟨S2048x1024, .f32⟩
  | 103 => ⟨S2048x1024, .f32⟩
  | 104 => ⟨S_, .f32⟩
  | 105 => ⟨S2048x1024, .f32⟩
  | 106 => ⟨S2048x1024, .f32⟩
  | 107 => ⟨S2048x1024, .f32⟩
  | 108 => ⟨S2048x1024, .f32⟩
  | 109 => ⟨S2048x1024, .f32⟩
  | 110 => ⟨S2048x1024, .f32⟩
  | 111 => ⟨S2048x1024, .f32⟩
  | 112 => ⟨S2048x1024, .f32⟩
  | 113 => ⟨S2048x1024, .f32⟩
  | 114 => ⟨S_, .f32⟩
  | 115 => ⟨S2048x1024, .f32⟩
  | 116 => ⟨S2048x1024, .f32⟩
  | 117 => ⟨S2048x1024, .f32⟩
  | 118 => ⟨S_, .f32⟩
  | 119 => ⟨S2048x1024, .f32⟩
  | 120 => ⟨S2048x1024, .f32⟩
  | 121 => ⟨S2048x1024, .f32⟩
  | 122 => ⟨S_, .f32⟩
  | 123 => ⟨S2048x1024, .f32⟩
  | 124 => ⟨S2048x1024, .f32⟩
  | 125 => ⟨S2048x1024, .f32⟩
  | 126 => ⟨S2048x1024, .f32⟩
  | 127 => ⟨S2048x1024, .f32⟩
  | _ => ⟨S2048x5120, .f32⟩

abbrev hbmTy0_2 (i : Nat) : BufTy := match i % 128 with
  | 0 => ⟨S2048x2048x1024, .f32⟩
  | 1 => ⟨S2048x2048x1024, .f32⟩
  | 2 => ⟨S_, .f32⟩
  | 3 => ⟨S2048x1024, .f32⟩
  | 4 => ⟨S1x2048x1024, .f32⟩
  | 5 => ⟨S2048x2048x1024, .f32⟩
  | 6 => ⟨S2048x2048x1024, .f32⟩
  | 7 => ⟨S_, .f32⟩
  | 8 => ⟨S2048x1024, .f32⟩
  | 9 => ⟨S2048x2048x1024, .f32⟩
  | 10 => ⟨S_, .f32⟩
  | 11 => ⟨S2048x2048x1024, .f32⟩
  | 12 => ⟨S2048x2048x1024, .f32⟩
  | 13 => ⟨S_, .f32⟩
  | 14 => ⟨S2048x1024, .f32⟩
  | 15 => ⟨S2048x1x1024, .f32⟩
  | 16 => ⟨S2048x2048x1024, .f32⟩
  | 17 => ⟨S_, .f32⟩
  | 18 => ⟨S2048x1024, .f32⟩
  | 19 => ⟨S1x2048x1024, .f32⟩
  | 20 => ⟨S_, .f32⟩
  | 21 => ⟨S2048x1024, .f32⟩
  | 22 => ⟨S_, .f32⟩
  | 23 => ⟨S2048x1024, .f32⟩
  | 24 => ⟨S2048x1024, .f32⟩
  | 25 => ⟨S1024x2048, .f32⟩
  | 26 => ⟨S2048x1024, .f32⟩
  | 27 => ⟨S1x2048x1024, .f32⟩
  | 28 => ⟨S1x2048x1024, .f32⟩
  | 29 => ⟨S_, .f32⟩
  | 30 => ⟨S2x2048x1024, .f32⟩
  | 31 => ⟨S1x2048x1024, .f32⟩
  | 32 => ⟨S1x2048x1024, .f32⟩
  | 33 => ⟨S_, .f32⟩
  | 34 => ⟨S2x2048x1024, .f32⟩
  | 35 => ⟨S2048x2048x1024, .f32⟩
  | 36 => ⟨S2048x2048x1024, .f32⟩
  | 37 => ⟨S_, .f32⟩
  | 38 => ⟨S2048x1024, .f32⟩
  | 39 => ⟨S1x2048x1024, .f32⟩
  | 40 => ⟨S2048x2048x1024, .f32⟩
  | 41 => ⟨S2048x2048x1024, .f32⟩
  | 42 => ⟨S_, .f32⟩
  | 43 => ⟨S2048x1024, .f32⟩
  | 44 => ⟨S2048x2048x1024, .f32⟩
  | 45 => ⟨S_, .f32⟩
  | 46 => ⟨S2048x2048x1024, .f32⟩
  | 47 => ⟨S2048x2048x1024, .f32⟩
  | 48 => ⟨S_, .f32⟩
  | 49 => ⟨S2048x1024, .f32⟩
  | 50 => ⟨S2048x1x1024, .f32⟩
  | 51 => ⟨S2048x2048x1024, .f32⟩
  | 52 => ⟨S_, .f32⟩
  | 53 => ⟨S2048x1024, .f32⟩
  | 54 => ⟨S1x2048x1024, .f32⟩
  | 55 => ⟨S_, .f32⟩
  | 56 => ⟨S2048x1024, .f32⟩
  | 57 => ⟨S_, .f32⟩
  | 58 => ⟨S2048x1024, .f32⟩
  | 59 => ⟨S2048x1024, .f32⟩
  | 60 => ⟨S1024x2048, .f32⟩
  | 61 => ⟨S2048x1024, .f32⟩
  | 62 => ⟨S1x2048x1024, .f32⟩
  | 63 => ⟨S_, .f32⟩
  | 64 => ⟨S2x2048x1024, .f32⟩
  | 65 => ⟨S2x2048x1024, .f32⟩
  | 66 => ⟨S1x2048x1024, .f32⟩
  | 67 => ⟨S_, .f32⟩
  | 68 => ⟨S2x2048x1024, .f32⟩
  | 69 => ⟨S2x2048x1024, .f32⟩
  | 70 => ⟨S2x2048x1024, .f32⟩
  | 71 => ⟨S2x2048x1024, .f32⟩
  | 72 => ⟨S2x2048x1024, .f32⟩
  | 73 => ⟨S_, .f32⟩
  | 74 => ⟨S2048x1024, .f32⟩
  | 75 => ⟨S1x2048x1024, .f32⟩
  | 76 => ⟨S2x2048x1024, .f32⟩
  | 77 => ⟨S2x2048x1024, .f32⟩
  | 78 => ⟨S_, .f32⟩
  | 79 => ⟨S2048x1024, .f32⟩
  | 80 => ⟨S2x2048x1024, .f32⟩
  | 81 => ⟨S2x2048x1024, .f32⟩
  | 82 => ⟨S2x2048x1024, .f32⟩
  | 83 => ⟨S_, .f32⟩
  | 84 => ⟨S2x2048x1024, .f32⟩
  | 85 => ⟨S2x2048x1024, .f32⟩
  | 86 => ⟨S2x2048x1024, .f32⟩
  | 87 => ⟨S2x2048x1024, .f32⟩
  | 88 => ⟨S_, .f32⟩
  | 89 => ⟨S2x1024, .f32⟩
  | 90 => ⟨S2x1x1024, .f32⟩
  | 91 => ⟨S2x2048x1024, .f32⟩
  | 92 => ⟨S2x2048x1024, .f32⟩
  | 93 => ⟨S_, .f32⟩
  | 94 => ⟨S2x1024, .f32⟩
  | 95 => ⟨S2x1024, .f32⟩
  | 96 => ⟨S2x1024, .f32⟩
  | 97 => ⟨S_, .f32⟩
  | 98 => ⟨S2x2048x1024, .f32⟩
  | 99 => ⟨S2x2048x1024, .f32⟩
  | 100 => ⟨S1x2x2048x1024, .f32⟩
  | 101 => ⟨S1x2x2048x1024, .f32⟩
  | 102 => ⟨S2x2x2048x1024, .f32⟩
  | 103 => ⟨S2x2x2048x1024, .f32⟩
  | 104 => ⟨S2x2x2048x16x64, .f32⟩
  | 105 => ⟨S2x2x2048x16x64, .f32⟩
  | 106 => ⟨S_, .f32⟩
  | 107 => ⟨S2x2x16x64, .f32⟩
  | 108 => ⟨S2x2x1x16x64, .f32⟩
  | 109 => ⟨S_, .f32⟩
  | 110 => ⟨S2x2x16x64, .f32⟩
  | 111 => ⟨S16x2x2x64x2048, .f32⟩
  | 112 => ⟨S16x2048x64, .f32⟩
  | 113 => ⟨S2048x16x64, .f32⟩
  | 114 => ⟨S16x2x2x64x64, .f32⟩
  | 115 => ⟨S2x2x16x64x64, .f32⟩
  | 116 => ⟨S2048x1024, .f32⟩
  | 117 => ⟨S2048x1024, .f32⟩
  | 118 => ⟨S_, .f32⟩
  | 119 => ⟨S1024, .f32⟩
  | 120 => ⟨S1x1024, .f32⟩
  | 121 => ⟨S_, .f32⟩
  | 122 => ⟨S1024, .f32⟩
  | 123 => ⟨S2048x1024, .f32⟩
  | 124 => ⟨S_, .f32⟩
  | 125 => ⟨S1024, .f32⟩
  | 126 => ⟨S1x1024, .f32⟩
  | 127 => ⟨S2048x1024, .f32⟩
  | _ => ⟨S2048x5120, .f32⟩

abbrev hbmTy0_3 (i : Nat) : BufTy := match i % 128 with
  | 0 => ⟨S2048x1024, .f32⟩
  | 1 => ⟨S_, .f32⟩
  | 2 => ⟨S1024, .f32⟩
  | 3 => ⟨S1x1024, .f32⟩
  | 4 => ⟨S_, .f32⟩
  | 5 => ⟨S4x1024, .f32⟩
  | 6 => ⟨S_, .f32⟩
  | 7 => ⟨S2051x1024, .f32⟩
  | 8 => ⟨S2048x1024, .f32⟩
  | 9 => ⟨S_, .f32⟩
  | 10 => ⟨S1024, .f32⟩
  | 11 => ⟨S1x1024, .f32⟩
  | 12 => ⟨S2048x1024, .f32⟩
  | 13 => ⟨S2048x1024, .f32⟩
  | 14 => ⟨S_, .f32⟩
  | 15 => ⟨S1024, .f32⟩
  | 16 => ⟨S1x1024, .f32⟩
  | 17 => ⟨S_, .f32⟩
  | 18 => ⟨S4x1024, .f32⟩
  | 19 => ⟨S4x1024, .f32⟩
  | 20 => ⟨S_, .f32⟩
  | 21 => ⟨S2051x1024, .f32⟩
  | 22 => ⟨S2051x1024, .f32⟩
  | 23 => ⟨S2048x1024, .f32⟩
  | 24 => ⟨S_, .f32⟩
  | 25 => ⟨S1024, .f32⟩
  | 26 => ⟨S1x1024, .f32⟩
  | 27 => ⟨S2048x1024, .f32⟩
  | 28 => ⟨S2048x1024, .f32⟩
  | 29 => ⟨S_, .f32⟩
  | 30 => ⟨S1024, .f32⟩
  | 31 => ⟨S1x1024, .f32⟩
  | 32 => ⟨S_, .f32⟩
  | 33 => ⟨S4x1024, .f32⟩
  | 34 => ⟨S4x1024, .f32⟩
  | 35 => ⟨S_, .f32⟩
  | 36 => ⟨S2051x1024, .f32⟩
  | 37 => ⟨S2051x1024, .f32⟩
  | 38 => ⟨S2048x1024, .f32⟩
  | 39 => ⟨S_, .f32⟩
  | 40 => ⟨S1024, .f32⟩
  | 41 => ⟨S1x1024, .f32⟩
  | 42 => ⟨S2048x1024, .f32⟩
  | 43 => ⟨S2048x1024, .f32⟩
  | 44 => ⟨S_, .f32⟩
  | 45 => ⟨S1024, .f32⟩
  | 46 => ⟨S1x1024, .f32⟩
  | 47 => ⟨S_, .f32⟩
  | 48 => ⟨S4x1024, .f32⟩
  | 49 => ⟨S4x1024, .f32⟩
  | 50 => ⟨S_, .f32⟩
  | 51 => ⟨S2051x1024, .f32⟩
  | 52 => ⟨S2051x1024, .f32⟩
  | 53 => ⟨S2x1024, .f32⟩
  | 54 => ⟨S2048x1024, .f32⟩
  | 55 => ⟨S1x1024, .f32⟩
  | 56 => ⟨S2048x1024, .bf16⟩
  | 57 => ⟨S2048x1024, .bf16⟩
  | 58 => ⟨S1024x2048, .bf16⟩
  | 59 => ⟨S1024x2048, .bf16⟩
  | 60 => ⟨S1x1024x2048, .bf16⟩
  | 61 => ⟨S1x1024x2048, .bf16⟩
  | 62 => ⟨S2x1024x2048, .bf16⟩
  | 63 => ⟨S1x1024, .f32⟩
  | 64 => ⟨S4x8x2x64x64, .f32⟩
  | 65 => ⟨S4x8x1x64x64, .f32⟩
  | 66 => ⟨S4x8x64x64, .f32⟩
  | 67 => ⟨S_, .f32⟩
  | 68 => ⟨S4x8x64x64, .f32⟩
  | 69 => ⟨S4x8x1x64x64, .f32⟩
  | 70 => ⟨S4x8x64x64, .f32⟩
  | 71 => ⟨S4x8x64x128, .f32⟩
  | 72 => ⟨S4x8x1x64x64, .f32⟩
  | 73 => ⟨S4x8x64x64, .f32⟩
  | 74 => ⟨S4x8x64x128, .f32⟩
  | 75 => ⟨S4x8x128x128, .f32⟩
  | 76 => ⟨S4x1024, .f32⟩
  | _ => ⟨S2048x5120, .f32⟩

abbrev hbmTy (i : Nat) : BufTy := match i / 128 with
  | 0 => hbmTy0_0 i
  | 1 => hbmTy0_1 i
  | 2 => hbmTy0_2 i
  | 3 => hbmTy0_3 i
  | _ => ⟨S2048x5120, .f32⟩

abbrev bufTy : (tb : Table) → Fin (tcTables nBuf tb) → BufTy
  | .hbm, ⟨i, _⟩ => hbmTy i
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_cst_5 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_7 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_call0_cst : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_v8 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_v63_0 : Ref sig .tc := ⟨.hbm, 92, rfl⟩
abbrev main_call0_cst_0 : Ref sig .tc := ⟨.hbm, 93, rfl⟩
abbrev main_call0_v13 : Ref sig .tc := ⟨.hbm, 94, rfl⟩
abbrev main_call0_v14 : Ref sig .tc := ⟨.hbm, 95, rfl⟩
abbrev main_call0_cst_1 : Ref sig .tc := ⟨.hbm, 96, rfl⟩
abbrev main_call0_v15 : Ref sig .tc := ⟨.hbm, 97, rfl⟩
abbrev main_call0_v16 : Ref sig .tc := ⟨.hbm, 98, rfl⟩
abbrev main_call0_cst_2 : Ref sig .tc := ⟨.hbm, 99, rfl⟩
abbrev main_call0_v17 : Ref sig .tc := ⟨.hbm, 100, rfl⟩
abbrev main_call0_v18 : Ref sig .tc := ⟨.hbm, 101, rfl⟩
abbrev main_call0_cst_3 : Ref sig .tc := ⟨.hbm, 102, rfl⟩
abbrev main_call0_v19 : Ref sig .tc := ⟨.hbm, 103, rfl⟩
abbrev main_call0_v20 : Ref sig .tc := ⟨.hbm, 104, rfl⟩
abbrev main_call0_v21 : Ref sig .tc := ⟨.hbm, 105, rfl⟩
abbrev main_v63_1 : Ref sig .tc := ⟨.hbm, 106, rfl⟩
abbrev main_call0_cst_4 : Ref sig .tc := ⟨.hbm, 107, rfl⟩
abbrev main_call0_cst_5 : Ref sig .tc := ⟨.hbm, 108, rfl⟩
abbrev main_call0_v23 : Ref sig .tc := ⟨.hbm, 109, rfl⟩
abbrev main_call0_cst_6 : Ref sig .tc := ⟨.hbm, 110, rfl⟩
abbrev main_call0_cst_7 : Ref sig .tc := ⟨.hbm, 111, rfl⟩
abbrev main_call0_v24 : Ref sig .tc := ⟨.hbm, 112, rfl⟩
abbrev main_call0_cst_8 : Ref sig .tc := ⟨.hbm, 113, rfl⟩
abbrev main_call0_v25 : Ref sig .tc := ⟨.hbm, 114, rfl⟩
abbrev main_call0_v26 : Ref sig .tc := ⟨.hbm, 115, rfl⟩
abbrev main_call0_cst_9 : Ref sig .tc := ⟨.hbm, 116, rfl⟩
abbrev main_call0_v27 : Ref sig .tc := ⟨.hbm, 117, rfl⟩
abbrev main_call0_v28 : Ref sig .tc := ⟨.hbm, 118, rfl⟩
abbrev main_call0_v29 : Ref sig .tc := ⟨.hbm, 119, rfl⟩
abbrev main_call0_v30 : Ref sig .tc := ⟨.hbm, 120, rfl⟩
abbrev main_call0_v31 : Ref sig .tc := ⟨.hbm, 121, rfl⟩
abbrev main_call0_cst_10 : Ref sig .tc := ⟨.hbm, 122, rfl⟩
abbrev main_call0_v32 : Ref sig .tc := ⟨.hbm, 123, rfl⟩
abbrev main_v63_2 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_8 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_9 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_cst_10 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_cst_11 : Ref sig .tc := ⟨.hbm, 161, rfl⟩
abbrev main_call1_v0 : Ref sig .tc := ⟨.hbm, 162, rfl⟩
abbrev main_v97_1 : Ref sig .tc := ⟨.hbm, 163, rfl⟩
abbrev main_call1_v2 : Ref sig .tc := ⟨.hbm, 164, rfl⟩
abbrev main_v97_0 : Ref sig .tc := ⟨.hbm, 165, rfl⟩
abbrev main_call1_cst : Ref sig .tc := ⟨.hbm, 166, rfl⟩
abbrev main_v97_2 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_cst_12 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_cst_13 : Ref sig .tc := ⟨.hbm, 194, rfl⟩
abbrev main_call2_v0 : Ref sig .tc := ⟨.hbm, 195, rfl⟩
abbrev main_v123_1 : Ref sig .tc := ⟨.hbm, 196, rfl⟩
abbrev main_call2_v2 : Ref sig .tc := ⟨.hbm, 197, rfl⟩
abbrev main_v123_0 : Ref sig .tc := ⟨.hbm, 198, rfl⟩
abbrev main_call2_cst : Ref sig .tc := ⟨.hbm, 199, rfl⟩
abbrev main_v123_2 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_cst_14 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_cst_15 : Ref sig .tc := ⟨.hbm, 211, rfl⟩
abbrev main_v133 : Ref sig .tc := ⟨.hbm, 212, rfl⟩
abbrev main_v134 : Ref sig .tc := ⟨.hbm, 213, rfl⟩
abbrev main_cst_16 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_cst_17 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_cst_18 : Ref sig .tc := ⟨.hbm, 222, rfl⟩
abbrev main_v141 : Ref sig .tc := ⟨.hbm, 223, rfl⟩
abbrev main_v142 : Ref sig .tc := ⟨.hbm, 224, rfl⟩
abbrev main_cst_19 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_cst_20 : Ref sig .tc := ⟨.hbm, 229, rfl⟩
abbrev main_v146 : Ref sig .tc := ⟨.hbm, 230, rfl⟩
abbrev main_v147 : Ref sig .tc := ⟨.hbm, 231, rfl⟩
abbrev main_cst_21 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_cst_22 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_cst_23 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_cst_24 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_cst_25 : Ref sig .tc := ⟨.hbm, 258, rfl⟩
abbrev main_v170 : Ref sig .tc := ⟨.hbm, 259, rfl⟩
abbrev main_v171 : Ref sig .tc := ⟨.hbm, 260, rfl⟩
abbrev main_v172 : Ref sig .tc := ⟨.hbm, 261, rfl⟩
abbrev main_v173 : Ref sig .tc := ⟨.hbm, 262, rfl⟩
abbrev main_cst_26 : Ref sig .tc := ⟨.hbm, 263, rfl⟩
abbrev main_v174 : Ref sig .tc := ⟨.hbm, 264, rfl⟩
abbrev main_v175 : Ref sig .tc := ⟨.hbm, 265, rfl⟩
abbrev main_call3_cst : Ref sig .tc := ⟨.hbm, 266, rfl⟩
abbrev main_call3_v0 : Ref sig .tc := ⟨.hbm, 267, rfl⟩
abbrev main_v176 : Ref sig .tc := ⟨.hbm, 268, rfl⟩
abbrev main_cst_27 : Ref sig .tc := ⟨.hbm, 269, rfl⟩
abbrev main_v177 : Ref sig .tc := ⟨.hbm, 270, rfl⟩
abbrev main_v178 : Ref sig .tc := ⟨.hbm, 271, rfl⟩
abbrev main_v179 : Ref sig .tc := ⟨.hbm, 272, rfl⟩
abbrev main_cst_28 : Ref sig .tc := ⟨.hbm, 273, rfl⟩
abbrev main_v180 : Ref sig .tc := ⟨.hbm, 274, rfl⟩
abbrev main_v181 : Ref sig .tc := ⟨.hbm, 275, rfl⟩
abbrev main_cst_29 : Ref sig .tc := ⟨.hbm, 276, rfl⟩
abbrev main_v182 : Ref sig .tc := ⟨.hbm, 277, rfl⟩
abbrev main_cst_30 : Ref sig .tc := ⟨.hbm, 278, rfl⟩
abbrev main_v183 : Ref sig .tc := ⟨.hbm, 279, rfl⟩
abbrev main_v184 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_cst_31 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_cst_32 : Ref sig .tc := ⟨.hbm, 289, rfl⟩
abbrev main_v192 : Ref sig .tc := ⟨.hbm, 290, rfl⟩
abbrev main_v193 : Ref sig .tc := ⟨.hbm, 291, rfl⟩
abbrev main_v194 : Ref sig .tc := ⟨.hbm, 292, rfl⟩
abbrev main_cst_33 : Ref sig .tc := ⟨.hbm, 293, rfl⟩
abbrev main_v195 : Ref sig .tc := ⟨.hbm, 294, rfl⟩
abbrev main_v196 : Ref sig .tc := ⟨.hbm, 295, rfl⟩
abbrev main_v197 : Ref sig .tc := ⟨.hbm, 296, rfl⟩
abbrev main_v198 : Ref sig .tc := ⟨.hbm, 297, rfl⟩
abbrev main_cst_34 : Ref sig .tc := ⟨.hbm, 298, rfl⟩
abbrev main_v199 : Ref sig .tc := ⟨.hbm, 299, rfl⟩
abbrev main_v200 : Ref sig .tc := ⟨.hbm, 300, rfl⟩
abbrev main_call4_cst : Ref sig .tc := ⟨.hbm, 301, rfl⟩
abbrev main_call4_v0 : Ref sig .tc := ⟨.hbm, 302, rfl⟩
abbrev main_v201 : Ref sig .tc := ⟨.hbm, 303, rfl⟩
abbrev main_cst_35 : Ref sig .tc := ⟨.hbm, 304, rfl⟩
abbrev main_v202 : Ref sig .tc := ⟨.hbm, 305, rfl⟩
abbrev main_v203 : Ref sig .tc := ⟨.hbm, 306, rfl⟩
abbrev main_v204 : Ref sig .tc := ⟨.hbm, 307, rfl⟩
abbrev main_cst_36 : Ref sig .tc := ⟨.hbm, 308, rfl⟩
abbrev main_v205 : Ref sig .tc := ⟨.hbm, 309, rfl⟩
abbrev main_v206 : Ref sig .tc := ⟨.hbm, 310, rfl⟩
abbrev main_cst_37 : Ref sig .tc := ⟨.hbm, 311, rfl⟩
abbrev main_v207 : Ref sig .tc := ⟨.hbm, 312, rfl⟩
abbrev main_cst_38 : Ref sig .tc := ⟨.hbm, 313, rfl⟩
abbrev main_v208 : Ref sig .tc := ⟨.hbm, 314, rfl⟩
abbrev main_v209 : Ref sig .tc := ⟨.hbm, 315, rfl⟩
abbrev main_v210 : Ref sig .tc := ⟨.hbm, 316, rfl⟩
abbrev main_v211 : Ref sig .tc := ⟨.hbm, 317, rfl⟩
abbrev main_v212 : Ref sig .tc := ⟨.hbm, 318, rfl⟩
abbrev main_cst_39 : Ref sig .tc := ⟨.hbm, 319, rfl⟩
abbrev main_v213 : Ref sig .tc := ⟨.hbm, 320, rfl⟩
abbrev main_v214 : Ref sig .tc := ⟨.hbm, 321, rfl⟩
abbrev main_v215 : Ref sig .tc := ⟨.hbm, 322, rfl⟩
abbrev main_cst_40 : Ref sig .tc := ⟨.hbm, 323, rfl⟩
abbrev main_v216 : Ref sig .tc := ⟨.hbm, 324, rfl⟩
abbrev main_v217 : Ref sig .tc := ⟨.hbm, 325, rfl⟩
abbrev main_v218 : Ref sig .tc := ⟨.hbm, 326, rfl⟩
abbrev main_v219 : Ref sig .tc := ⟨.hbm, 327, rfl⟩
abbrev main_v220 : Ref sig .tc := ⟨.hbm, 328, rfl⟩
abbrev main_cst_41 : Ref sig .tc := ⟨.hbm, 329, rfl⟩
abbrev main_v221 : Ref sig .tc := ⟨.hbm, 330, rfl⟩
abbrev main_v222 : Ref sig .tc := ⟨.hbm, 331, rfl⟩
abbrev main_v223 : Ref sig .tc := ⟨.hbm, 332, rfl⟩
abbrev main_v224 : Ref sig .tc := ⟨.hbm, 333, rfl⟩
abbrev main_cst_42 : Ref sig .tc := ⟨.hbm, 334, rfl⟩
abbrev main_v225 : Ref sig .tc := ⟨.hbm, 335, rfl⟩
abbrev main_v226 : Ref sig .tc := ⟨.hbm, 336, rfl⟩
abbrev main_v227 : Ref sig .tc := ⟨.hbm, 337, rfl⟩
abbrev main_v228 : Ref sig .tc := ⟨.hbm, 338, rfl⟩
abbrev main_cst_43 : Ref sig .tc := ⟨.hbm, 339, rfl⟩
abbrev main_v229 : Ref sig .tc := ⟨.hbm, 340, rfl⟩
abbrev main_v230 : Ref sig .tc := ⟨.hbm, 341, rfl⟩
abbrev main_v231 : Ref sig .tc := ⟨.hbm, 342, rfl⟩
abbrev main_v232 : Ref sig .tc := ⟨.hbm, 343, rfl⟩
abbrev main_cst_44 : Ref sig .tc := ⟨.hbm, 344, rfl⟩
abbrev main_v233 : Ref sig .tc := ⟨.hbm, 345, rfl⟩
abbrev main_v234 : Ref sig .tc := ⟨.hbm, 346, rfl⟩
abbrev main_v235 : Ref sig .tc := ⟨.hbm, 347, rfl⟩
abbrev main_v236 : Ref sig .tc := ⟨.hbm, 348, rfl⟩
abbrev main_cst_45 : Ref sig .tc := ⟨.hbm, 349, rfl⟩
abbrev main_v237 : Ref sig .tc := ⟨.hbm, 350, rfl⟩
abbrev main_v238 : Ref sig .tc := ⟨.hbm, 351, rfl⟩
abbrev main_v239 : Ref sig .tc := ⟨.hbm, 352, rfl⟩
abbrev main_cst_46 : Ref sig .tc := ⟨.hbm, 353, rfl⟩
abbrev main_v240 : Ref sig .tc := ⟨.hbm, 354, rfl⟩
abbrev main_v241 : Ref sig .tc := ⟨.hbm, 355, rfl⟩
abbrev main_v242 : Ref sig .tc := ⟨.hbm, 356, rfl⟩
abbrev main_v243 : Ref sig .tc := ⟨.hbm, 357, rfl⟩
abbrev main_v244 : Ref sig .tc := ⟨.hbm, 358, rfl⟩
abbrev main_v245 : Ref sig .tc := ⟨.hbm, 359, rfl⟩
abbrev main_v246 : Ref sig .tc := ⟨.hbm, 360, rfl⟩
abbrev main_v247 : Ref sig .tc := ⟨.hbm, 361, rfl⟩
abbrev main_cst_47 : Ref sig .tc := ⟨.hbm, 362, rfl⟩
abbrev main_v248 : Ref sig .tc := ⟨.hbm, 363, rfl⟩
abbrev main_v249 : Ref sig .tc := ⟨.hbm, 364, rfl⟩
abbrev main_cst_48 : Ref sig .tc := ⟨.hbm, 365, rfl⟩
abbrev main_v250 : Ref sig .tc := ⟨.hbm, 366, rfl⟩
abbrev main_v251 : Ref sig .tc := ⟨.hbm, 367, rfl⟩
abbrev main_v252 : Ref sig .tc := ⟨.hbm, 368, rfl⟩
abbrev main_v253 : Ref sig .tc := ⟨.hbm, 369, rfl⟩
abbrev main_v254 : Ref sig .tc := ⟨.hbm, 370, rfl⟩
abbrev main_v255 : Ref sig .tc := ⟨.hbm, 371, rfl⟩
abbrev main_v256 : Ref sig .tc := ⟨.hbm, 372, rfl⟩
abbrev main_v257 : Ref sig .tc := ⟨.hbm, 373, rfl⟩
abbrev main_cst_49 : Ref sig .tc := ⟨.hbm, 374, rfl⟩
abbrev main_v258 : Ref sig .tc := ⟨.hbm, 375, rfl⟩
abbrev main_v259 : Ref sig .tc := ⟨.hbm, 376, rfl⟩
abbrev main_cst_50 : Ref sig .tc := ⟨.hbm, 377, rfl⟩
abbrev main_v260 : Ref sig .tc := ⟨.hbm, 378, rfl⟩
abbrev main_v261 : Ref sig .tc := ⟨.hbm, 379, rfl⟩
abbrev main_cst_51 : Ref sig .tc := ⟨.hbm, 380, rfl⟩
abbrev main_v262 : Ref sig .tc := ⟨.hbm, 381, rfl⟩
abbrev main_v263 : Ref sig .tc := ⟨.hbm, 382, rfl⟩
abbrev main_v264 : Ref sig .tc := ⟨.hbm, 383, rfl⟩
abbrev main_v265 : Ref sig .tc := ⟨.hbm, 384, rfl⟩
abbrev main_cst_52 : Ref sig .tc := ⟨.hbm, 385, rfl⟩
abbrev main_v266 : Ref sig .tc := ⟨.hbm, 386, rfl⟩
abbrev main_v267 : Ref sig .tc := ⟨.hbm, 387, rfl⟩
abbrev main_cst_53 : Ref sig .tc := ⟨.hbm, 388, rfl⟩
abbrev main_v268 : Ref sig .tc := ⟨.hbm, 389, rfl⟩
abbrev main_cst_54 : Ref sig .tc := ⟨.hbm, 390, rfl⟩
abbrev main_v269 : Ref sig .tc := ⟨.hbm, 391, rfl⟩
abbrev main_v270 : Ref sig .tc := ⟨.hbm, 392, rfl⟩
abbrev main_cst_55 : Ref sig .tc := ⟨.hbm, 393, rfl⟩
abbrev main_v271 : Ref sig .tc := ⟨.hbm, 394, rfl⟩
abbrev main_v272 : Ref sig .tc := ⟨.hbm, 395, rfl⟩
abbrev main_v273 : Ref sig .tc := ⟨.hbm, 396, rfl⟩
abbrev main_v274 : Ref sig .tc := ⟨.hbm, 397, rfl⟩
abbrev main_cst_56 : Ref sig .tc := ⟨.hbm, 398, rfl⟩
abbrev main_v275 : Ref sig .tc := ⟨.hbm, 399, rfl⟩
abbrev main_v276 : Ref sig .tc := ⟨.hbm, 400, rfl⟩
abbrev main_cst_57 : Ref sig .tc := ⟨.hbm, 401, rfl⟩
abbrev main_v277 : Ref sig .tc := ⟨.hbm, 402, rfl⟩
abbrev main_v278 : Ref sig .tc := ⟨.hbm, 403, rfl⟩
abbrev main_cst_58 : Ref sig .tc := ⟨.hbm, 404, rfl⟩
abbrev main_v279 : Ref sig .tc := ⟨.hbm, 405, rfl⟩
abbrev main_v280 : Ref sig .tc := ⟨.hbm, 406, rfl⟩
abbrev main_v281 : Ref sig .tc := ⟨.hbm, 407, rfl⟩
abbrev main_cst_59 : Ref sig .tc := ⟨.hbm, 408, rfl⟩
abbrev main_v282 : Ref sig .tc := ⟨.hbm, 409, rfl⟩
abbrev main_v283 : Ref sig .tc := ⟨.hbm, 410, rfl⟩
abbrev main_v284 : Ref sig .tc := ⟨.hbm, 411, rfl⟩
abbrev main_v285 : Ref sig .tc := ⟨.hbm, 412, rfl⟩
abbrev main_cst_60 : Ref sig .tc := ⟨.hbm, 413, rfl⟩
abbrev main_v286 : Ref sig .tc := ⟨.hbm, 414, rfl⟩
abbrev main_v287 : Ref sig .tc := ⟨.hbm, 415, rfl⟩
abbrev main_cst_61 : Ref sig .tc := ⟨.hbm, 416, rfl⟩
abbrev main_v288 : Ref sig .tc := ⟨.hbm, 417, rfl⟩
abbrev main_v289 : Ref sig .tc := ⟨.hbm, 418, rfl⟩
abbrev main_cst_62 : Ref sig .tc := ⟨.hbm, 419, rfl⟩
abbrev main_v290 : Ref sig .tc := ⟨.hbm, 420, rfl⟩
abbrev main_v291 : Ref sig .tc := ⟨.hbm, 421, rfl⟩
abbrev main_v292 : Ref sig .tc := ⟨.hbm, 422, rfl⟩
abbrev main_cst_63 : Ref sig .tc := ⟨.hbm, 423, rfl⟩
abbrev main_v293 : Ref sig .tc := ⟨.hbm, 424, rfl⟩
abbrev main_v294 : Ref sig .tc := ⟨.hbm, 425, rfl⟩
abbrev main_v295 : Ref sig .tc := ⟨.hbm, 426, rfl⟩
abbrev main_v296 : Ref sig .tc := ⟨.hbm, 427, rfl⟩
abbrev main_cst_64 : Ref sig .tc := ⟨.hbm, 428, rfl⟩
abbrev main_v297 : Ref sig .tc := ⟨.hbm, 429, rfl⟩
abbrev main_v298 : Ref sig .tc := ⟨.hbm, 430, rfl⟩
abbrev main_cst_65 : Ref sig .tc := ⟨.hbm, 431, rfl⟩
abbrev main_v299 : Ref sig .tc := ⟨.hbm, 432, rfl⟩
abbrev main_v300 : Ref sig .tc := ⟨.hbm, 433, rfl⟩
abbrev main_cst_66 : Ref sig .tc := ⟨.hbm, 434, rfl⟩
abbrev main_v301 : Ref sig .tc := ⟨.hbm, 435, rfl⟩
abbrev main_v302 : Ref sig .tc := ⟨.hbm, 436, rfl⟩
abbrev main_v303 : Ref sig .tc := ⟨.hbm, 437, rfl⟩
abbrev main_v304 : Ref sig .tc := ⟨.hbm, 438, rfl⟩
abbrev main_v305 : Ref sig .tc := ⟨.hbm, 439, rfl⟩
abbrev main_v306 : Ref sig .tc := ⟨.hbm, 440, rfl⟩
abbrev main_v307 : Ref sig .tc := ⟨.hbm, 441, rfl⟩
abbrev main_v308 : Ref sig .tc := ⟨.hbm, 442, rfl⟩
abbrev main_v309 : Ref sig .tc := ⟨.hbm, 443, rfl⟩
abbrev main_v310 : Ref sig .tc := ⟨.hbm, 444, rfl⟩
abbrev main_v311 : Ref sig .tc := ⟨.hbm, 445, rfl⟩
abbrev main_v312 : Ref sig .tc := ⟨.hbm, 446, rfl⟩
abbrev main_v313 : Ref sig .tc := ⟨.hbm, 447, rfl⟩
abbrev main_v314 : Ref sig .tc := ⟨.hbm, 448, rfl⟩
abbrev main_v315 : Ref sig .tc := ⟨.hbm, 449, rfl⟩
abbrev main_v316 : Ref sig .tc := ⟨.hbm, 450, rfl⟩
abbrev main_cst_67 : Ref sig .tc := ⟨.hbm, 451, rfl⟩
abbrev main_v317 : Ref sig .tc := ⟨.hbm, 452, rfl⟩
abbrev main_v318 : Ref sig .tc := ⟨.hbm, 453, rfl⟩
abbrev main_v319 : Ref sig .tc := ⟨.hbm, 454, rfl⟩
abbrev main_v320 : Ref sig .tc := ⟨.hbm, 455, rfl⟩
abbrev main_v321 : Ref sig .tc := ⟨.hbm, 456, rfl⟩
abbrev main_v322 : Ref sig .tc := ⟨.hbm, 457, rfl⟩
abbrev main_v323 : Ref sig .tc := ⟨.hbm, 458, rfl⟩
abbrev main_v324 : Ref sig .tc := ⟨.hbm, 459, rfl⟩
abbrev main_v325 : Ref sig .tc := ⟨.hbm, 460, rfl⟩

abbrev nD : Nat := 1
abbrev τ : Topo := Topo.v7x

variable {F : FTy → Type} [FloatOps F]
-- ==== Kernel11.lean ====
abbrev S11264x2048 : Shape := ⟨2, ![11264, 2048]⟩
abbrev S2048x2048 : Shape := ⟨2, ![2048, 2048]⟩
abbrev S512x2048 : Shape := ⟨2, ![512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S11264x2048, .f32⟩
  | .hbm, ⟨1, _⟩ => ⟨S2048x2048, .f32⟩
  | .hbm, ⟨2, _⟩ => ⟨S11264x2048, .bf16⟩
  | .hbm, ⟨3, _⟩ => ⟨S2048x2048, .bf16⟩
  | .hbm, ⟨4, _⟩ => ⟨S11264x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S11264x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![22, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S11264x2048 : Shape := ⟨2, ![11264, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S11264x2048, .f32⟩
  | .hbm, ⟨1, _⟩ => ⟨S2048x2048, .f32⟩
  | .hbm, ⟨2, _⟩ => ⟨S11264x2048, .f32⟩
  | .hbm, ⟨3, _⟩ => ⟨S11264x2048, .bf16⟩
  | _, _ => ⟨S11264x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S704x2048 : Shape := ⟨2, ![704, 2048]⟩
abbrev S2816x2048 : Shape := ⟨2, ![2816, 2048]⟩
abbrev S4x704x2048 : Shape := ⟨3, ![4, 704, 2048]⟩
abbrev S64x2048 : Shape := ⟨2, ![64, 2048]⟩
abbrev S4x64x2048 : Shape := ⟨3, ![4, 64, 2048]⟩
abbrev S1x64x2048 : Shape := ⟨3, ![1, 64, 2048]⟩

abbrev nBuf : Space → Nat
  | .hbm => 10
  | .vmem => 16
  | .smem => 0
  | _ => 0

abbrev bufTy : (tb : Table) → Fin (tcTables nBuf tb) → BufTy
  | .hbm, ⟨0, _⟩ => ⟨S704x2048, .f32⟩
  | .hbm, ⟨1, _⟩ => ⟨S2816x2048, .f32⟩
  | .hbm, ⟨2, _⟩ => ⟨S704x2048, .f32⟩
  | .hbm, ⟨3, _⟩ => ⟨S704x2048, .f32⟩
  | .hbm, ⟨4, _⟩ => ⟨S2816x2048, .bf16⟩
  | .hbm, ⟨5, _⟩ => ⟨S4x704x2048, .bf16⟩
  | .hbm, ⟨6, _⟩ => ⟨S704x2048, .f32⟩
  | .hbm, ⟨7, _⟩ => ⟨S704x2048, .f32⟩
  | .hbm, ⟨8, _⟩ => ⟨S704x2048, .f32⟩
  | .hbm, ⟨9, _⟩ => ⟨S704x2048, .f32⟩
  | .local _ .vmem, ⟨0, _⟩ => ⟨S64x2048, .f32⟩
  | .local _ .vmem, ⟨1, _⟩ => ⟨S64x2048, .f32⟩
  | .local _ .vmem, ⟨2, _⟩ => ⟨S4x64x2048, .bf16⟩
  | .local _ .vmem, ⟨3, _⟩ => ⟨S4x64x2048, .bf16⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S704x2048 : Shape := ⟨2, ![704, 2048]⟩
abbrev S2816x2048 : Shape := ⟨2, ![2816, 2048]⟩
abbrev S4x704x2048 : Shape := ⟨3, ![4, 704, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S704x2048, .f32⟩
  | .hbm, ⟨1, _⟩ => ⟨S2816x2048, .f32⟩
  | .hbm, ⟨2, _⟩ => ⟨S704x2048, .f32⟩
  | .hbm, ⟨3, _⟩ => ⟨S704x2048, .f32⟩
  | .hbm, ⟨4, _⟩ => ⟨S2816x2048, .bf16⟩
  | .hbm, ⟨5, _⟩ => ⟨S2816x2048, .f32⟩
  | .hbm, ⟨6, _⟩ => ⟨S4x704x2048, .f32⟩
  | .hbm, ⟨7, _⟩ => ⟨S_, .f32⟩
  | .hbm, ⟨8, _⟩ => ⟨S704x2048, .f32⟩
  | .hbm, ⟨9, _⟩ => ⟨S_, .f32⟩
  | .hbm, ⟨10, _⟩ => ⟨S704x2048, .f32⟩
  | .hbm, ⟨11, _⟩ => ⟨S704x2048, .f32⟩
  | .hbm, ⟨12, _⟩ => ⟨S_, .f32⟩
  | .hbm, ⟨13, _⟩ => ⟨S704x2048, .f32⟩
  | .hbm, ⟨14, _⟩ => ⟨S704x2048, .f32⟩
  | .hbm, ⟨15, _⟩ => ⟨S704x2048, .f32⟩
  | .hbm, ⟨16, _⟩ => ⟨S_, .f32⟩
  | .hbm, ⟨17, _⟩ => ⟨S704x2048, .f32⟩
  | .hbm, ⟨18, _⟩ => ⟨S704x2048, .f32⟩
  | .hbm, ⟨19, _⟩ => ⟨S704x2048, .f32⟩
  | .hbm, ⟨20, _⟩ => ⟨S_, .f32⟩
  | .hbm, ⟨21, _⟩ => ⟨S704x2048, .f32⟩
  | .hbm, ⟨22, _⟩ => ⟨S704x2048, .f32⟩
  | .hbm, ⟨23, _⟩ => ⟨S704x2048, .f32⟩
  | .hbm, ⟨24, _⟩ => ⟨S_, .f32⟩
  | .hbm, ⟨25, _⟩ => ⟨S704x2048, .f32⟩
  | .hbm, ⟨26, _⟩ => ⟨S704x2048, .f32⟩
  | .hbm, ⟨27, _⟩ => ⟨S_, .f32⟩
  | .hbm, ⟨28, _⟩ => ⟨S704x2048, .f32⟩
  | .hbm, ⟨29, _⟩ => ⟨S704x2048, .f32⟩
  | .hbm, ⟨30, _⟩ => ⟨S704x2048, .f32⟩
  | .hbm, ⟨31, _⟩ => ⟨S_, .f32⟩
  | .hbm, ⟨32, _⟩ => ⟨S704x2048, .f32⟩
  | .hbm, ⟨33, _⟩ => ⟨S704x2048, .f32⟩
  | .hbm, ⟨34, _⟩ => ⟨S704x2048, .f32⟩
  | .hbm, ⟨35, _⟩ => ⟨S_, .f32⟩
  | .hbm, ⟨36, _⟩ => ⟨S704x2048, .f32⟩
  | .hbm, ⟨37, _⟩ => ⟨S704x2048, .f32⟩
  | .hbm, ⟨38, _⟩ => ⟨S704x2048, .f32⟩
  | .hbm, ⟨39, _⟩ => ⟨S_, .f32⟩
  | .hbm, ⟨40, _⟩ => ⟨S704x2048, .f32⟩
  | .hbm, ⟨41, _⟩ => ⟨S704x2048, .f32⟩
  | _, _ => ⟨S704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel13.lean ====
abbrev S2048x5120 : Shape := ⟨2, ![2048, 5120]⟩
abbrev S4x1024 : Shape := ⟨2, ![4, 1024]⟩
abbrev S1024 : Shape := ⟨1, ![1024]⟩
abbrev S2x2x16x64x64 : Shape := ⟨5, ![2, 2, 16, 64, 64]⟩
abbrev S2x2x16x64 : Shape := ⟨4, ![2, 2, 16, 64]⟩
abbrev S2x1024 : Shape := ⟨2, ![2, 1024]⟩
abbrev S4x8x2x64x64 : Shape := ⟨5, ![4, 8, 2, 64, 64]⟩
abbrev S4x8x1x64x64 : Shape := ⟨5, ![4, 8, 1, 64, 64]⟩
abbrev S4x8x64x64 : Shape := ⟨4, ![4, 8, 64, 64]⟩
abbrev S_ : Shape := ⟨0, ![]⟩
abbrev S4x8x64x128 : Shape := ⟨4, ![4, 8, 64, 128]⟩
abbrev S4x8x128x128 : Shape := ⟨4, ![4, 8, 128, 128]⟩
abbrev S1x1024 : Shape := ⟨2, ![1, 1024]⟩
abbrev S2048x1024 : Shape := ⟨2, ![2048, 1024]⟩
abbrev S2048x128 : Shape := ⟨2, ![2048, 128]⟩
abbrev S4x128 : Shape := ⟨2, ![4, 128]⟩
abbrev S1x128 : Shape := ⟨2, ![1, 128]⟩
abbrev S4x1x128x128 : Shape := ⟨4, ![4, 1, 128, 128]⟩
abbrev S2x128 : Shape := ⟨2, ![2, 128]⟩
abbrev S2064x128 : Shape := ⟨2, ![2064, 128]⟩
abbrev S8x128 : Shape := ⟨2, ![8, 128]⟩
abbrev S1x1x128x128 : Shape := ⟨4, ![1, 1, 128, 128]⟩
abbrev S128x128 : Shape := ⟨2, ![128, 128]⟩

abbrev nBuf : Space → Nat
  | .hbm => 24
  | .vmem => 25
  | .smem => 0
  | _ => 0

abbrev bufTy : (tb : Table) → Fin (tcTables nBuf tb) → BufTy
  | .hbm, ⟨0, _⟩ => ⟨S2048x5120, .f32⟩
  | .hbm, ⟨1, _⟩ => ⟨S4x1024, .f32⟩
  | .hbm, ⟨2, _⟩ => ⟨S1024, .f32⟩
  | .hbm, ⟨3, _⟩ => ⟨S2x2x16x64x64, .f32⟩
  | .hbm, ⟨4, _⟩ => ⟨S2x2x16x64, .f32⟩
  | .hbm, ⟨5, _⟩ => ⟨S2x1024, .f32⟩
  | .hbm, ⟨6, _⟩ => ⟨S4x8x2x64x64, .f32⟩
  | .hbm, ⟨7, _⟩ => ⟨S4x8x1x64x64, .f32⟩
  | .hbm, ⟨8, _⟩ => ⟨S4x8x64x64, .f32⟩
  | .hbm, ⟨9, _⟩ => ⟨S_, .f32⟩
  | .hbm, ⟨10, _⟩ => ⟨S4x8x64x64, .f32⟩
  | .hbm, ⟨11, _⟩ => ⟨S4x8x1x64x64, .f32⟩
  | .hbm, ⟨12, _⟩ => ⟨S4x8x64x64, .f32⟩
  | .hbm, ⟨13, _⟩ => ⟨S4x8x64x128, .f32⟩
  | .hbm, ⟨14, _⟩ => ⟨S4x8x1x64x64, .f32⟩
  | .hbm, ⟨15, _⟩ => ⟨S4x8x64x64, .f32⟩
  | .hbm, ⟨16, _⟩ => ⟨S4x8x64x128, .f32⟩
  | .hbm, ⟨17, _⟩ => ⟨S4x8x128x128, .f32⟩
  | .hbm, ⟨18, _⟩ => ⟨S4x8x128x128, .bf16⟩
  | .hbm, ⟨19, _⟩ => ⟨S1x1024, .f32⟩
  | .hbm, ⟨20, _⟩ => ⟨S4x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S4x1x128x128, .bf16⟩
  | .local _ .vmem, ⟨9, _⟩ => ⟨S4x1x128x128, .bf16⟩
  | .local _ .vmem, ⟨10, _⟩ => ⟨S4x128, .f32⟩
  | .local _ .vmem, ⟨11, _⟩ => ⟨S4x128, .f32⟩
  | .local _ .vmem, ⟨12, _⟩ => ⟨S2x128, .f32⟩
  | .local _ .vmem, ⟨13, _⟩ => ⟨S2x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2064x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c256_i32 : BitVec 32 := 256#32
  let v217 : BitVec 32 := Scalar.addi c0_i32 c256_i32
  let c1_i32 : BitVec 32 := 1#32
  ⟨c0_i32, v217, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c8_i32 : BitVec 32 := 8#32
  let v240 : BitVec 32 := Scalar.muli arg16 c8_i32
  v240
def k0_mult2 (k0_t1 : Fin k0_t1_loop.trips) : BitVec 32 :=
  let c2040_i32 : BitVec 32 := 2040#32
  let c0_i32 : BitVec 32 := 0#32
  let c1_i32 : BitVec 32 := 1#32
  let arg16 : BitVec 32 := Scf.iv c0_i32 c1_i32 k0_t1
  let c8_i32_120 : BitVec 32 := 8#32
  let v242 : BitVec 32 := Scalar.muli arg16 c8_i32_120
  let v243 : BitVec 32 := Scalar.subi c2040_i32 v242
  v243
def k0_off1 (k0_t1 : Fin k0_t1_loop.trips) : Fin 2 → Nat :=
  let c0_i32 : BitVec 32 := 0#32
  let c1_i32 : BitVec 32 := 1#32
  let arg16 : BitVec 32 := Scf.iv c0_i32 c1_i32 k0_t1
  let c8_i32 : BitVec 32 := 8#32
  let v240 : BitVec 32 := Scalar.muli arg16 c8_i32
  let v241 : BitVec 32 := v240
  let v245 : Index := Scalar.indexCast v241
  let c0_121 : Index := 0#32
  ![v245.toNat, 0]
def k0_off2 (k0_t1 : Fin k0_t1_loop.trips) : Fin 2 → Nat :=
  let c2040_i32 : BitVec 32 := 2040#32
  let c0_i32 : BitVec 32 := 0#32
  let c1_i32 : BitVec 32 := 1#32
  let arg16 : BitVec 32 := Scf.iv c0_i32 c1_i32 k0_t1
  let c8_i32_120 : BitVec 32 := 8#32
  let v242 : BitVec 32 := Scalar.muli arg16 c8_i32_120
  let v243 : BitVec 32 := Scalar.subi c2040_i32 v242
  let v244 : BitVec 32 := v243
  let v281 : Index := Scalar.indexCast v244
  let c0_131 : Index := 0#32
  ![v281.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference13Ideal.lean ====
abbrev S2048x5120 : Shape := ⟨2, ![2048, 5120]⟩
abbrev S4x1024 : Shape := ⟨2, ![4, 1024]⟩
abbrev S1024 : Shape := ⟨1, ![1024]⟩
abbrev S2x2x16x64x64 : Shape := ⟨5, ![2, 2, 16, 64, 64]⟩
abbrev S2x2x16x64 : Shape := ⟨4, ![2, 2, 16, 64]⟩
abbrev S2x1024 : Shape := ⟨2, ![2, 1024]⟩
abbrev S2048x1024 : Shape := ⟨2, ![2048, 1024]⟩
abbrev S_ : Shape := ⟨0, ![]⟩
abbrev S1x1024 : Shape := ⟨2, ![1, 1024]⟩
abbrev S2051x1024 : Shape := ⟨2, ![2051, 1024]⟩
abbrev S2048x16x64 : Shape := ⟨3, ![2048, 16, 64]⟩
abbrev S16x2x2x64x2048 : Shape := ⟨5, ![16, 2, 2, 64, 2048]⟩
abbrev S2x2x2048x16x64 : Shape := ⟨5, ![2, 2, 2048, 16, 64]⟩
abbrev S2x2x1x16x64 : Shape := ⟨5, ![2, 2, 1, 16, 64]⟩
abbrev S2x2x2048x1024 : Shape := ⟨4, ![2, 2, 2048, 1024]⟩
abbrev S1x2x2048x1024 : Shape := ⟨4, ![1, 2, 2048, 1024]⟩
abbrev S2x2048x1024 : Shape := ⟨3, ![2, 2048, 1024]⟩
abbrev S2x1x1024 : Shape := ⟨3, ![2, 1, 1024]⟩
abbrev S1x2048x1024 : Shape := ⟨3, ![1, 2048, 1024]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x1x1024 : Shape := ⟨3, ![2048, 1, 1024]⟩
abbrev S2048x2048x1024 : Shape := ⟨3, ![2048, 2048, 1024]⟩

abbrev nBuf : Space → Nat
  | .hbm => 179
  | .vmem => 0
  | .smem => 0
  | _ => 0

abbrev hbmTy0_0 (i : Nat) : BufTy := match i % 128 with
  | 0 => ⟨S2048x5120, .f32⟩
  | 1 => ⟨S4x1024, .f32⟩
  | 2 => ⟨S1024, .f32⟩
  | 3 => ⟨S2x2x16x64x64, .f32⟩
  | 4 => ⟨S2x2x16x64, .f32⟩
  | 5 => ⟨S2x1024, .f32⟩
  | 6 => ⟨S2048x1024, .f32⟩
  | 7 => ⟨S_, .f32⟩
  | 8 => ⟨S2x1024, .f32⟩
  | 9 => ⟨S_, .f32⟩
  | 10 => ⟨S1x1024, .f32⟩
  | 11 => ⟨S2051x1024, .f32⟩
  | 12 => ⟨S2048x1024, .f32⟩
  | 13 => ⟨S1x1024, .f32⟩
  | 14 => ⟨S1024, .f32⟩
  | 15 => ⟨S1x1024, .f32⟩
  | 16 => ⟨S2048x1024, .f32⟩
  | 17 => ⟨S2048x1024, .f32⟩
  | 18 => ⟨S_, .f32⟩
  | 19 => ⟨S2048x1024, .f32⟩
  | 20 => ⟨S2048x1024, .f32⟩
  | 21 => ⟨S2048x1024, .f32⟩
  | 22 => ⟨S1x1024, .f32⟩
  | 23 => ⟨S1024, .f32⟩
  | 24 => ⟨S1x1024, .f32⟩
  | 25 => ⟨S2048x1024, .f32⟩
  | 26 => ⟨S2048x1024, .f32⟩
  | 27 => ⟨S2048x1024, .f32⟩
  | 28 => ⟨S2048x1024, .f32⟩
  | 29 => ⟨S1x1024, .f32⟩
  | 30 => ⟨S1024, .f32⟩
  | 31 => ⟨S1x1024, .f32⟩
  | 32 => ⟨S2048x1024, .f32⟩
  | 33 => ⟨S2048x1024, .f32⟩
  | 34 => ⟨S2048x1024, .f32⟩
  | 35 => ⟨S2048x1024, .f32⟩
  | 36 => ⟨S1x1024, .f32⟩
  | 37 => ⟨S1024, .f32⟩
  | 38 => ⟨S1x1024, .f32⟩
  | 39 => ⟨S2048x1024, .f32⟩
  | 40 => ⟨S2048x1024, .f32⟩
  | 41 => ⟨S2048x1024, .f32⟩
  | 42 => ⟨S1x1024, .f32⟩
  | 43 => ⟨S2048x1024, .f32⟩
  | 44 => ⟨S2048x1024, .f32⟩
  | 45 => ⟨S2048x16x64, .f32⟩
  | 46 => ⟨S16x2x2x64x2048, .f32⟩
  | 47 => ⟨S2x2x2048x16x64, .f32⟩
  | 48 => ⟨S2x2x1x16x64, .f32⟩
  | 49 => ⟨S2x2x2048x16x64, .f32⟩
  | 50 => ⟨S2x2x2048x16x64, .f32⟩
  | 51 => ⟨S2x2x2048x16x64, .f32⟩
  | 52 => ⟨S2x2x2048x16x64, .f32⟩
  | 53 => ⟨S_, .f32⟩
  | 54 => ⟨S2x2x2048x16x64, .f32⟩
  | 55 => ⟨S2x2x2048x16x64, .f32⟩
  | 56 => ⟨S_, .f32⟩
  | 57 => ⟨S2x2x2048x16x64, .f32⟩
  | 58 => ⟨S2x2x2048x16x64, .f32⟩
  | 59 => ⟨S2x2x2048x1024, .f32⟩
  | 60 => ⟨S2x2x2048x1024, .f32⟩
  | 61 => ⟨S1x2x2048x1024, .f32⟩
  | 62 => ⟨S2x2048x1024, .f32⟩
  | 63 => ⟨S1x2x2048x1024, .f32⟩
  | 64 => ⟨S2x2048x1024, .f32⟩
  | 65 => ⟨S_, .f32⟩
  | 66 => ⟨S2x2048x1024, .f32⟩
  | 67 => ⟨S2x2048x1024, .f32⟩
  | 68 => ⟨S2x1024, .f32⟩
  | 69 => ⟨S_, .f32⟩
  | 70 => ⟨S2x1024, .f32⟩
  | 71 => ⟨S2x1024, .f32⟩
  | 72 => ⟨S2x1024, .f32⟩
  | 73 => ⟨S2x1024, .f32⟩
  | 74 => ⟨S2x1024, .i1⟩
  | 75 => ⟨S2x1024, .f32⟩
  | 76 => ⟨S2x1024, .f32⟩
  | 77 => ⟨S2x1024, .f32⟩
  | 78 => ⟨S2x1024, .f32⟩
  | 79 => ⟨S2x1024, .f32⟩
  | 80 => ⟨S2x1024, .f32⟩
  | 81 => ⟨S2x1024, .f32⟩
  | 82 => ⟨S2x1024, .f32⟩
  | 83 => ⟨S2x1x1024, .f32⟩
  | 84 => ⟨S2x2048x1024, .f32⟩
  | 85 => ⟨S2x2048x1024, .f32⟩
  | 86 => ⟨S_, .f32⟩
  | 87 => ⟨S2x2048x1024, .f32⟩
  | 88 => ⟨S2x2048x1024, .f32⟩
  | 89 => ⟨S2x2048x1024, .f32⟩
  | 90 => ⟨S_, .f32⟩
  | 91 => ⟨S2x2048x1024, .f32⟩
  | 92 => ⟨S2x2048x1024, .f32⟩
  | 93 => ⟨S2x2048x1024, .f32⟩
  | 94 => ⟨S1x2048x1024, .f32⟩
  | 95 => ⟨S2x2048x1024, .f32⟩
  | 96 => ⟨S2x2048x1024, .f32⟩
  | 97 => ⟨S2x2048x1024, .f32⟩
  | 98 => ⟨S1x2048x1024, .f32⟩
  | 99 => ⟨S2048x1024, .f32⟩
  | 100 => ⟨S1x2048x1024, .f32⟩
  | 101 => ⟨S2048x1024, .f32⟩
  | 102 => ⟨S2048, .i32⟩
  | 103 => ⟨S2048x1, .i32⟩
  | 104 => ⟨S1x2048, .i32⟩
  | 105 => ⟨S2048x2048, .i32⟩
  | 106 => ⟨S2048x2048, .i32⟩
  | 107 => ⟨S2048x2048, .i1⟩
  | 108 => ⟨S2048x2048, .f32⟩
  | 109 => ⟨S2048x1024, .f32⟩
  | 110 => ⟨S2048x2048x1, .i1⟩
  | 111 => ⟨S2048x1x1024, .f32⟩
  | 112 => ⟨S1x2048x1024, .f32⟩
  | 113 => ⟨S2048x2048x1024, .f32⟩
  | 114 => ⟨S2048x2048x1024, .f32⟩
  | 115 => ⟨S2048x2048x1024, .f32⟩
  | 116 => ⟨S_, .f32⟩
  | 117 => ⟨S_, .f32⟩
  | 118 => ⟨S2048x2048x1024, .i1⟩
  | 119 => ⟨S2048x2048x1024, .f32⟩
  | 120 => ⟨S2048x2048x1024, .f32⟩
  | 121 => ⟨S2048x2048x1024, .f32⟩
  | 122 => ⟨S1x2048x1024, .f32⟩
  | 123 => ⟨S2048x2048x1024, .f32⟩
  | 124 => ⟨S2048x2048x1024, .f32⟩
  | 125 => ⟨S_, .f32⟩
  | 126 => ⟨S2048x1024, .f32⟩
  | 127 => ⟨S1x2048x1024, .f32⟩
  | _ => ⟨S2048x5120, .f32⟩

abbrev hbmTy0_1 (i : Nat) : BufTy := match i % 128 with
  | 0 => ⟨S1x2048x1024, .f32⟩
  | 1 => ⟨S2048x1024, .f32⟩
  | 2 => ⟨S1x2048x1024, .f32⟩
  | 3 => ⟨S1x2048x1024, .f32⟩
  | 4 => ⟨S2048x1024, .f32⟩
  | 5 => ⟨S2048, .i32⟩
  | 6 => ⟨S2048x1, .i32⟩
  | 7 => ⟨S1x2048, .i32⟩
  | 8 => ⟨S2048x2048, .i32⟩
  | 9 => ⟨S2048x2048, .i32⟩
  | 10 => ⟨S2048x2048, .i1⟩
  | 11 => ⟨S2048x2048, .f32⟩
  | 12 => ⟨S2048x1024, .f32⟩
  | 13 => ⟨S2048x2048x1, .i1⟩
  | 14 => ⟨S2048x1x1024, .f32⟩
  | 15 => ⟨S1x2048x1024, .f32⟩
  | 16 => ⟨S2048x2048x1024, .f32⟩
  | 17 => ⟨S2048x2048x1024, .f32⟩
  | 18 => ⟨S2048x2048x1024, .f32⟩
  | 19 => ⟨S_, .f32⟩
  | 20 => ⟨S_, .f32⟩
  | 21 => ⟨S2048x2048x1024, .i1⟩
  | 22 => ⟨S2048x2048x1024, .f32⟩
  | 23 => ⟨S2048x2048x1024, .f32⟩
  | 24 => ⟨S2048x2048x1024, .f32⟩
  | 25 => ⟨S1x2048x1024, .f32⟩
  | 26 => ⟨S2048x2048x1024, .f32⟩
  | 27 => ⟨S2048x2048x1024, .f32⟩
  | 28 => ⟨S_, .f32⟩
  | 29 => ⟨S2048x1024, .f32⟩
  | 30 => ⟨S2048x1024, .f32⟩
  | 31 => ⟨S2048x1024, .f32⟩
  | 32 => ⟨S2048x1024, .f32⟩
  | 33 => ⟨S2048x1024, .f32⟩
  | 34 => ⟨S_, .f32⟩
  | 35 => ⟨S2048x1024, .f32⟩
  | 36 => ⟨S2048x1024, .f32⟩
  | 37 => ⟨S2048x1024, .f32⟩
  | 38 => ⟨S_, .f32⟩
  | 39 => ⟨S2048x1024, .f32⟩
  | 40 => ⟨S2048x1024, .f32⟩
  | 41 => ⟨S2048x1024, .f32⟩
  | 42 => ⟨S_, .f32⟩
  | 43 => ⟨S2048x1024, .f32⟩
  | 44 => ⟨S2048x1024, .f32⟩
  | 45 => ⟨S_, .f32⟩
  | 46 => ⟨S2048x1024, .f32⟩
  | 47 => ⟨S2048x1024, .f32⟩
  | 48 => ⟨S2048x1024, .f32⟩
  | 49 => ⟨S2048x1024, .f32⟩
  | 50 => ⟨S2048x1024, .f32⟩
  | _ => ⟨S2048x5120, .f32⟩

abbrev hbmTy (i : Nat) : BufTy := match i / 128 with
  | 0 => hbmTy0_0 i
  | 1 => hbmTy0_1 i
  | _ => ⟨S2048x5120, .f32⟩

abbrev bufTy : (tb : Table) → Fin (tcTables nBuf tb) → BufTy
  | .hbm, ⟨i, _⟩ => hbmTy i
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_2 : Ref sig .tc := ⟨.hbm, 53, rfl⟩
abbrev main_v44 : Ref sig .tc := ⟨.hbm, 54, rfl⟩
abbrev main_v45 : Ref sig .tc := ⟨.hbm, 55, rfl⟩
abbrev main_cst_3 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_4 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_5 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_6 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_7 : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_8 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_9 : Ref sig .tc := ⟨.hbm, 147, rfl⟩
abbrev main_call2_v0 : Ref sig .tc := ⟨.hbm, 148, rfl⟩
abbrev main_call2_v1 : Ref sig .tc := ⟨.hbm, 149, rfl⟩
abbrev main_call2_v2 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_cst_10 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_11 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_cst_12 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_cst_13 : Ref sig .tc := ⟨.hbm, 170, rfl⟩
abbrev main_v131 : Ref sig .tc := ⟨.hbm, 171, rfl⟩
abbrev main_v132 : Ref sig .tc := ⟨.hbm, 172, rfl⟩
abbrev main_cst_14 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩

abbrev nD : Nat := 1
abbrev τ : Topo := Topo.v7x

variable {F : FTy → Type} [FloatOps F]
-- ==== Kernel14.lean ====
abbrev S2048x1408 : Shape := ⟨2, ![2048, 1408]⟩
abbrev S4x2048x1408 : Shape := ⟨3, ![4, 2048, 1408]⟩
abbrev S4x1408x2048 : Shape := ⟨3, ![4, 1408, 2048]⟩
abbrev S4x704x2048 : Shape := ⟨3, ![4, 704, 2048]⟩
abbrev S2816x2048 : Shape := ⟨2, ![2816, 2048]⟩
abbrev S256x1408 : Shape := ⟨2, ![256, 1408]⟩
abbrev S4x704x256 : Shape := ⟨3, ![4, 704, 256]⟩
abbrev S1x704x256 : Shape := ⟨3, ![1, 704, 256]⟩
abbrev S704x256 : Shape := ⟨2, ![704, 256]⟩
abbrev S1408x256 : Shape := ⟨2, ![1408, 256]⟩

abbrev nBuf : Space → Nat
  | .hbm => 16
  | .vmem => 18
  | .smem => 0
  | _ => 0

abbrev bufTy : (tb : Table) → Fin (tcTables nBuf tb) → BufTy
  | .hbm, ⟨0, _⟩ => ⟨S2048x1408, .f32⟩
  | .hbm, ⟨1, _⟩ => ⟨S4x2048x1408, .f32⟩
  | .hbm, ⟨2, _⟩ => ⟨S2048x1408, .f32⟩
  | .hbm, ⟨3, _⟩ => ⟨S2048x1408, .f32⟩
  | .hbm, ⟨4, _⟩ => ⟨S4x2048x1408, .bf16⟩
  | .hbm, ⟨5, _⟩ => ⟨S4x1408x2048, .bf16⟩
  | .hbm, ⟨6, _⟩ => ⟨S4x704x2048, .bf16⟩
  | .hbm, ⟨7, _⟩ => ⟨S4x704x2048, .bf16⟩
  | .hbm, ⟨8, _⟩ => ⟨S2816x2048, .bf16⟩
  | .hbm, ⟨9, _⟩ => ⟨S2816x2048, .bf16⟩
  | .hbm, ⟨10, _⟩ => ⟨S4x704x2048, .bf16⟩
  | .hbm, ⟨11, _⟩ => ⟨S4x704x2048, .bf16⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S4x704x256, .bf16⟩
  | .local _ .vmem, ⟨7, _⟩ => ⟨S4x704x256, .bf16⟩
  | .local _ .vmem, ⟨8, _⟩ => ⟨S4x704x256, .bf16⟩
  | .local _ .vmem, ⟨9, _⟩ => ⟨S4x704x256, .bf16⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x704x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x704x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S2048x1408 : Shape := ⟨2, ![2048, 1408]⟩
abbrev S4x2048x1408 : Shape := ⟨3, ![4, 2048, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S4x2048x1408, .f32⟩
  | .hbm, ⟨2, _⟩ => ⟨S2048x1408, .f32⟩
  | .hbm, ⟨3, _⟩ => ⟨S2048x1408, .f32⟩
  | .hbm, ⟨4, _⟩ => ⟨S4x2048x1408, .bf16⟩
  | .hbm, ⟨5, _⟩ => ⟨S4x2048x1408, .f32⟩
  | .hbm, ⟨6, _⟩ => ⟨S_, .f32⟩
  | .hbm, ⟨7, _⟩ => ⟨S2048x1408, .f32⟩
  | .hbm, ⟨8, _⟩ => ⟨S_, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S2048x1408, .f32⟩
  | .hbm, ⟨23, _⟩ => ⟨S_, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | .hbm, ⟨37, _⟩ => ⟨S2048x1408, .f32⟩
  | .hbm, ⟨38, _⟩ => ⟨S_, .f32⟩
  | .hbm, ⟨39, _⟩ => ⟨S2048x1408, .f32⟩
  | .hbm, ⟨40, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel15.lean ====
abbrev S8x1x2048 : Shape := ⟨3, ![8, 1, 2048]⟩
abbrev S8x2048 : Shape := ⟨2, ![8, 2048]⟩
abbrev S_ : Shape := ⟨0, ![]⟩
abbrev S8x16x128 : Shape := ⟨3, ![8, 16, 128]⟩
abbrev S128x128 : Shape := ⟨2, ![128, 128]⟩
abbrev S16x128 : Shape := ⟨2, ![16, 128]⟩
abbrev S1x16x128 : Shape := ⟨3, ![1, 16, 128]⟩

abbrev nBuf : Space → Nat
  | .hbm => 9
  | .vmem => 2
  | .smem => 0
  | _ => 0

abbrev bufTy : (tb : Table) → Fin (tcTables nBuf tb) → BufTy
  | .hbm, ⟨0, _⟩ => ⟨S8x1x2048, .f32⟩
  | .hbm, ⟨1, _⟩ => ⟨S8x2048, .f32⟩
  | .hbm, ⟨2, _⟩ => ⟨S_, .i32⟩
  | .hbm, ⟨3, _⟩ => ⟨S_, .f32⟩
  | .hbm, ⟨4, _⟩ => ⟨S8x2048, .f32⟩
  | .hbm, ⟨5, _⟩ => ⟨S8x16x128, .f32⟩
  | .hbm, ⟨6, _⟩ => ⟨S128x128, .f32⟩
  | .hbm, ⟨7, _⟩ => ⟨S8x16x128, .f32⟩
  | .hbm, ⟨8, _⟩ => ⟨S16x128, .f32⟩
  | .local _ .vmem, ⟨0, _⟩ => ⟨S8x16x128, .f32⟩
  | .local _ .vmem, ⟨1, _⟩ => ⟨S16x128, .f32⟩
  | _, _ => ⟨S8x1x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference15Ideal.lean ====
abbrev S8x1x2048 : Shape := ⟨3, ![8, 1, 2048]⟩
abbrev S_ : Shape := ⟨0, ![]⟩
abbrev S1x2048 : Shape := ⟨2, ![1, 2048]⟩
abbrev S16x128 : Shape := ⟨2, ![16, 128]⟩

abbrev nBuf : Space → Nat
  | .hbm => 4
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S_, .f32⟩
  | .hbm, ⟨2, _⟩ => ⟨S1x2048, .f32⟩
  | .hbm, ⟨3, _⟩ => ⟨S16x128, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Reals.lean ====
/-
  Finite extended reals: what the ideal operations give on coerced reals, stated so that `simp only` pushes every
  coercion outward and leaves an identity of real numbers.
-/
module

public import Idealize.ShloMosaic.PureOps.Ideal
public import Idealize.ShloMosaic.Lib.Pointwise
public import Mathlib.Tactic.Ring
public import Mathlib.Tactic.FieldSimp
public import Mathlib.Tactic.Linarith
public import Mathlib.Tactic.Positivity

@[expose] public section

noncomputable section

open Idealize.ShloMosaic

namespace Cert.Reals

theorem mul' (a b : ℝ) : (a : EReal) * (b : EReal) = ((a * b : ℝ) : EReal) := (EReal.coe_mul a b).symm
theorem add' (a b : ℝ) : (a : EReal) + (b : EReal) = ((a + b : ℝ) : EReal) := (EReal.coe_add a b).symm
theorem sub' (a b : ℝ) : (a : EReal) - (b : EReal) = ((a - b : ℝ) : EReal) := (EReal.coe_sub a b).symm
theorem neg' (a : ℝ) : -(a : EReal) = ((-a : ℝ) : EReal) := (EReal.coe_neg a).symm

theorem sum' {ι : Type*} (s : Finset ι) (f : ι → ℝ) :
    (∑ k ∈ s, (f k : EReal)) = ((∑ k ∈ s, f k : ℝ) : EReal) := by
  classical
  induction s using Finset.induction_on with
  | empty => simp
  | insert a s ha ih => rw [Finset.sum_insert ha, Finset.sum_insert ha, ih, add']

theorem div' (a : ℝ) {b : ℝ} (hb : b ≠ 0) : Ideal.div (a : EReal) (b : EReal) = ((a / b : ℝ) : EReal) := by
  rw [Ideal.div_coe hb, mul', mul_one_div]

theorem rsqrt' {a : ℝ} (ha : 0 < a) : Ideal.rsqrt (a : EReal) = (((√a)⁻¹ : ℝ) : EReal) := by
  show (if a < 0 then (⊥ : EReal) else if a = 0 then ⊤ else (((√a)⁻¹ : ℝ) : EReal)) = _
  rw [if_neg (not_lt.mpr ha.le), if_neg ha.ne']

/-- A sum over `a` blocks of `b` terms each is the sum over all of them, in any commutative monoid. -/
theorem sum_blocks {M : Type*} [AddCommMonoid M] (f : ℕ → M) (b : ℕ) :
    ∀ a : ℕ, (∑ s ∈ Finset.range a, ∑ x : Fin b, f (b * s + x)) = ∑ R ∈ Finset.range (b * a), f R
  | 0 => by simp
  | a + 1 => by
    rw [Finset.sum_range_succ, sum_blocks f b a, Nat.mul_succ, Finset.sum_range_add,
      Fin.sum_univ_eq_sum_range (fun x => f (b * a + x)) b]

/-- A function on `Fin n` continued by zero. -/
def ext0 {M : Type*} [Zero M] {n : ℕ} (f : Fin n → M) (k : ℕ) : M := if h : k < n then f ⟨k, h⟩ else 0

theorem ext0_of_lt {M : Type*} [Zero M] {n : ℕ} (f : Fin n → M) {k : ℕ} (h : k < n) : ext0 f k = f ⟨k, h⟩ := dif_pos h

theorem sum_ext0 {M : Type*} [AddCommMonoid M] {n : ℕ} (f : Fin n → M) :
    (∑ R ∈ Finset.range n, ext0 f R) = ∑ R : Fin n, f R := by
  rw [← Fin.sum_univ_eq_sum_range (fun k => ext0 f k) n]
  exact Finset.sum_congr rfl fun k _ => ext0_of_lt f k.isLt

/-! The programs' constants. -/

theorem lit_2048 : Ideal.ofBits .f32 0x45000000#32 = ((2048 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_inf : Ideal.ofBits .f32 0x7F800000#32 = ⊤ := by
  simp [Ideal.ofBits, Ideal.ieee]

/-- A value whose absolute value compares below infinity is a real. -/
theorem real_of_lt {x : EReal} (h : BitVec.ofBool (decide
    (@FloatOps.absf Ideal _ .f32 x < Ideal.ofBits .f32 0x7F800000#32)) = 1#1) : ((x.toReal : ℝ) : EReal) = x := by
  rw [lit_inf] at h
  have h' : max x (-x) < ⊤ := by
    by_contra hn
    rw [show @FloatOps.absf Ideal _ .f32 x = max x (-x) from rfl] at h
    rw [decide_eq_false hn] at h
    exact absurd h (by decide)
  refine EReal.coe_toReal ?_ ?_
  · rintro rfl; simp at h'
  · rintro rfl; simp at h'

/-- The normalisation's epsilon. -/
def eps : ℝ := (8796093 : ℝ) * 2 ^ (-43 : ℤ)
theorem eps_pos : 0 < eps := by unfold eps; positivity
theorem lit_eps : Ideal.ofBits .f32 0x358637BD#32 = (eps : EReal) := by
  simp [Ideal.ofBits, Ideal.ieee, eps, -EReal.coe_mul]

end Cert.Reals

end
-- ==== Proof.RmsMath.lean ====
/-
  The gradient of a root-mean-square normalisation of a row: the kernels' form and the chain rule's, as functions of the
  row and of the number `w` its sums are divided by, equal on rows of real numbers.
-/
module

public import proofs.«01_k».proof.Proof.Reals

@[expose] public section

noncomputable section

open Idealize.ShloMosaic Cert.Reals

namespace Cert.Rms

/-- The mean of a row's squares, plus epsilon. -/
def meanSq (w : EReal) {n : ℕ} (h : Fin n → EReal) : EReal :=
  Ideal.div (∑ x, h x * h x) w + Ideal.ofBits .f32 0x358637BD#32

/-- One over the root mean square of a row. -/
def rstd (w : EReal) {n : ℕ} (h : Fin n → EReal) : EReal := Ideal.rsqrt (meanSq w h)

/-- The kernels' gradient of the normalised row at column `j`. -/
def dxK (w : EReal) {n : ℕ} (du h g : Fin n → EReal) (j : Fin n) : EReal :=
  rstd w h * (du j * g j - h j * rstd w h * Ideal.div (∑ x, du x * g x * (h x * rstd w h)) w)

/-- The chain rule's factor of the row itself: the gradient through the mean of the squares, halved. -/
def viaMean (w : EReal) {n : ℕ} (du h g : Fin n → EReal) : EReal :=
  ∑ _x : Fin 1,
    Ideal.div ((∑ x, h x * (du x * g x)) * (Ideal.ofBits .f32 0xBF000000#32 * Ideal.div (rstd w h) (meanSq w h))) w

/-- The chain rule's gradient at column `j`: through the product, and twice through the square. -/
def dxR (w : EReal) {n : ℕ} (du h g : Fin n → EReal) (j : Fin n) : EReal :=
  du j * g j * rstd w h + h j * viaMean w du h g + viaMean w du h g * h j

/-- The mean of a real row's squares, plus epsilon, is a positive real. -/
theorem meanSq_coe {w : ℝ} (hw : 0 < w) {n : ℕ} (h : Fin n → ℝ) :
    ∃ s : ℝ, 0 < s ∧ meanSq (w : EReal) (fun k => (h k : EReal)) = (s : EReal) := by
  refine ⟨(∑ x, h x * h x) / w + eps, ?_, ?_⟩
  · have : 0 ≤ ∑ x, h x * h x := Finset.sum_nonneg fun x _ => mul_self_nonneg _
    have := eps_pos
    positivity
  · unfold meanSq
    simp only [mul', sum', lit_eps, div' _ hw.ne', add']

theorem dxK_eq_dxR {w : ℝ} (hw : 0 < w) {n : ℕ} (du h g : Fin n → ℝ) (j : Fin n) :
    dxK (w : EReal) (fun k => (du k : EReal)) (fun k => (h k : EReal)) (fun k => (g k : EReal)) j
      = dxR (w : EReal) (fun k => (du k : EReal)) (fun k => (h k : EReal)) (fun k => (g k : EReal)) j := by
  obtain ⟨s, hs, e⟩ := meanSq_coe hw h
  unfold dxK dxR viaMean rstd
  simp only [e, rsqrt' hs, mul', sum', add', sub', lit_neg_half, div' _ hw.ne', div' _ hs.ne',
    Finset.sum_const, Finset.card_univ, Fintype.card_fin, one_smul]
  refine congrArg _ ?_
  have hr : (√s)⁻¹ * (√s)⁻¹ = 1 / s := by
    rw [← mul_inv, Real.mul_self_sqrt hs.le, one_div]
  have hsum : (∑ x, du x * g x * (h x * (√s)⁻¹)) = (∑ x, h x * (du x * g x)) * (√s)⁻¹ := by
    rw [Finset.sum_mul]; exact Finset.sum_congr rfl fun x _ => by ring
  rw [hsum]
  generalize (√s)⁻¹ = r at *
  generalize (∑ x, h x * (du x * g x)) = T
  rw [show r / s = r * (r * r) by rw [hr]; ring]
  ring

end Cert.Rms
end
-- ==== Proof.NormValue.lean ====
/-
  What the norm's backward kernel leaves in its three results: the block of each grid point read as rows of the whole
  arrays, the gain's gradient as the sum over all rows.
-/
module
public import proofs.«01_k».proof.Proof.RmsMath
public import proofs.«01_k».proof.Proof.Gen.KernelIdeal.Value
@[expose] public section
set_option maxRecDepth 16384
noncomputable section
open Idealize.ShloMosaic Idealize.ShloMosaic.TcCoe Idealize.SL.Sem
open Idealize.ShloMosaic.Pipeline (Dat)
namespace Cert.KernelIdeal.NormValue
open Cert.KernelIdeal Cert.KernelIdeal.Gen Cert.Reals Cert.Rms

theorem hz : (![0, 0] : Fin 2 → Nat) = fun _ => 0 := funext fun a => by fin_cases a <;> rfl

/-- The number a row's sums are divided by. -/
abbrev w : EReal := Ideal.ofBits .f32 0x45000000#32

theorem pay6_apply (h : Vec Ideal S256x2048 .f32) (g : Vec Ideal S1x2048 .f32) (du r : Vec Ideal S256x2048 .f32)
    (i : Fin 256) (j : Fin 2048) : k0_pay6 h g du r (ix2 i j)
      = r (ix2 i j) + dxK w (fun k => du (ix2 i k)) (fun k => h (ix2 i k)) (fun k => g (ix2 0 k)) j := by
  pointwise! [k0_pay6, k0_pay4, k0_pay3]

theorem pay7_apply (h : Vec Ideal S256x2048 .f32) (g : Vec Ideal S1x2048 .f32) (du r : Vec Ideal S256x2048 .f32)
    (i : Fin 256) (j : Fin 2048) : k0_pay7 h g du r (ix2 i j)
      = Ideal.ofBits .f32 0x3F000000#32 * k0_pay6 h g du r (ix2 i j) := by
  pointwise! [k0_pay7]

theorem pay5_apply (h du : Vec Ideal S256x2048 .f32) (i : Fin 1) (j : Fin 2048) : k0_pay5 h du (ix2 i j)
      = ∑ x, du (ix2 x j) * (h (ix2 x j) * rstd w fun k => h (ix2 x k)) := by
  pointwise! [k0_pay5, k0_pay4, k0_pay3]

variable (m : (ℓ : Loc nD τ sig) → Buf (Elt Ideal) ℓ)

theorem after4 (c : Dev nD) (t : Fin cfg0.N) : (outsAt0 m c t.val t.isLt).1
    = k0_pay6 (iblk m c 1 t) (iblk m c 2 t) (iblk m c 0 t) (iblk m c 3 t) := by
  by_cases h0 : t.val % 8 = 0
  · rw [outsAt0_A m c t h0]
    unfold out0_A_4
    rw [View.read_writes_eq_canon _ _ _ (fun y => cover0_A_4 (y := y) ..)]
    unfold kernelRun0_A
    dsimp only
    rw [View.canon_unit_zero hz]
    simp only [View.readAt_eq_ld, (hs0_0 t).read_unread, (hs0_1 t).read_unread, (hs0_2 t).read_unread,
      (hs0_3 t).read_unread, View.ld_unit_zero (S := S256x2048) hz, View.ld_unit_zero (S := S1x2048) hz]
  · rw [outsAt0_B m c t h0]
    unfold out0_B_4
    rw [View.read_writes_eq_canon _ _ _ (fun y => cover0_B_4 (y := y) ..)]
    unfold kernelRun0_B
    dsimp only
    rw [View.canon_unit_zero hz]
    simp only [View.readAt_eq_ld, (hs0_0 t).read_unread, (hs0_1 t).read_unread, (hs0_2 t).read_unread,
      (hs0_3 t).read_unread, View.ld_unit_zero (S := S256x2048) hz, View.ld_unit_zero (S := S1x2048) hz]

theorem after5 (c : Dev nD) (t : Fin cfg0.N) : (outsAt0 m c t.val t.isLt).2.1
    = k0_pay7 (iblk m c 1 t) (iblk m c 2 t) (iblk m c 0 t) (iblk m c 3 t) := by
  by_cases h0 : t.val % 8 = 0
  · rw [outsAt0_A m c t h0]
    unfold out0_A_5
    rw [View.read_writes_eq_canon _ _ _ (fun y => cover0_A_5 (y := y) ..)]
    unfold kernelRun0_A
    dsimp only
    sl_unfold_words
    rw [View.canon_unit_zero hz]
    simp only [View.readAt_eq_ld, (hs0_0 t).read_unread, (hs0_1 t).read_unread, (hs0_2 t).read_unread,
      (hs0_3 t).read_unread, View.ld_unit_zero (S := S256x2048) hz, View.ld_unit_zero (S := S1x2048) hz]
  · rw [outsAt0_B m c t h0]
    unfold out0_B_5
    rw [View.read_writes_eq_canon _ _ _ (fun y => cover0_B_5 (y := y) ..)]
    unfold kernelRun0_B
    dsimp only
    sl_unfold_words
    rw [View.canon_unit_zero hz]
    simp only [View.readAt_eq_ld, (hs0_0 t).read_unread, (hs0_1 t).read_unread, (hs0_2 t).read_unread,
      (hs0_3 t).read_unread, View.ld_unit_zero (S := S256x2048) hz, View.ld_unit_zero (S := S1x2048) hz]

theorem after6_A (c : Dev nD) (t : Fin cfg0.N) (h0 : t.val % 8 = 0) : (outsAt0 m c t.val t.isLt).2.2
    = k0_pay1 (k0_pay5 (iblk m c 1 t) (iblk m c 0 t)) (k0_pay2 (F := Ideal)) := by
  rw [outsAt0_A m c t h0]
  unfold out0_A_6
  rw [View.read_writes_eq_canon _ _ _ (fun y => cover0_A_6 (y := y) ..)]
  unfold kernelRun0_A
  dsimp only
  sl_unfold_words
  rw [View.canon_cons_unit_zero (S := S1x2048) hz, View.readCov_unit_zero (S := S1x2048) _ hz]
  simp only [View.readAt_eq_ld, (hs0_0 t).read_unread, (hs0_1 t).read_unread,
    View.ld_unit_zero (S := S256x2048) hz]

theorem after6_B (c : Dev nD) (t : Fin cfg0.N) (h0 : ¬t.val % 8 = 0) : (outsAt0 m c t.val t.isLt).2.2
    = k0_pay1 (k0_pay5 (iblk m c 1 t) (iblk m c 0 t))
      (outsAt0 m c (t.val - 1) (Nat.lt_of_le_of_lt (Nat.sub_le _ _) t.isLt)).2.2 := by
  rw [outsAt0_B m c t h0]
  unfold out0_B_6
  rw [View.read_writes_eq_canon _ _ _ (fun y => cover0_B_6 (y := y) ..)]
  unfold kernelRun0_B
  dsimp only
  sl_unfold_words
  rw [View.canon_unit_zero hz]
  simp only [View.readAt_eq_ld, (hs0_0 t).read_unread, (hs0_1 t).read_unread,
    (hs0_6 t).read_unread, View.ld_unit_zero (S := S256x2048) hz, View.ld_unit_zero (S := S1x2048) hz]

/-! The arguments as the call finds them, and the rows a grid point reads. -/

abbrev aDu (c : Dev nD) : Vec Ideal S2048x2048 .f32 := m ((c : Thread nD τ).loc main_arg0)
abbrev aH (c : Dev nD) : Vec Ideal S2048x2048 .f32 := m ((c : Thread nD τ).loc main_arg1)
abbrev aG (c : Dev nD) : Vec Ideal S1x2048 .f32 := m ((c : Thread nD τ).loc main_arg2)
abbrev aR (c : Dev nD) : Vec Ideal S2048x2048 .f32 := m ((c : Thread nD τ).loc main_arg3)

/-- Row `i` of block `t`. -/
def row (t : Fin cfg0.N) (i : Fin 256) : Fin 2048 :=
  ⟨256 * t.val + i.val, by have : cfg0.N = 8 := N_0; have := t.isLt; have := i.isLt; omega⟩

theorem index0 : ∀ t : Fin cfg0.N, (win0_0.index t 0 = t.val ∧ win0_0.index t 1 = 0)
    ∧ (win0_1.index t 0 = t.val ∧ win0_1.index t 1 = 0) ∧ (win0_2.index t 0 = 0 ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = 0 ∧ win0_6.index t 1 = 0) := by
  show ∀ t : Fin grid0.N, _
  decide +kernel

theorem iblk0_apply (c : Dev nD) (t : Fin cfg0.N) (i : Fin 256) (k : Fin 2048) :
    (iblk m c 0 t : Vec Ideal S256x2048 .f32) (ix2 i k) = aDu m c (ix2 (row t i) k) := by
  unfold iblk
  rw [View.read_apply]
  refine congrArg (m ((c : Thread nD τ).loc main_arg0)) (funext fun a => Fin.ext ?_)
  match a with
  | ⟨0, _⟩ => show win0_0.index t 0 * 256 + 1 * i.val = 256 * t.val + i.val; rw [(index0 t).1.1]; omega
  | ⟨1, _⟩ => show win0_0.index t 1 * 2048 + 1 * k.val = k.val; rw [(index0 t).1.2]; omega

theorem iblk1_apply (c : Dev nD) (t : Fin cfg0.N) (i : Fin 256) (k : Fin 2048) :
    (iblk m c 1 t : Vec Ideal S256x2048 .f32) (ix2 i k) = aH m c (ix2 (row t i) k) := by
  unfold iblk
  rw [View.read_apply]
  refine congrArg (m ((c : Thread nD τ).loc main_arg1)) (funext fun a => Fin.ext ?_)
  match a with
  | ⟨0, _⟩ => show win0_1.index t 0 * 256 + 1 * i.val = 256 * t.val + i.val; rw [(index0 t).2.1.1]; omega
  | ⟨1, _⟩ => show win0_1.index t 1 * 2048 + 1 * k.val = k.val; rw [(index0 t).2.1.2]; omega

theorem iblk3_apply (c : Dev nD) (t : Fin cfg0.N) (i : Fin 256) (k : Fin 2048) :
    (iblk m c 3 t : Vec Ideal S256x2048 .f32) (ix2 i k) = aR m c (ix2 (row t i) k) := by
  unfold iblk
  rw [View.read_apply]
  refine congrArg (m ((c : Thread nD τ).loc main_arg3)) (funext fun a => Fin.ext ?_)
  match a with
  | ⟨0, _⟩ => show win0_3.index t 0 * 256 + 1 * i.val = 256 * t.val + i.val; rw [(index0 t).2.2.2.1.1]; omega
  | ⟨1, _⟩ => show win0_3.index t 1 * 2048 + 1 * k.val = k.val; rw [(index0 t).2.2.2.1.2]; omega

theorem iblk2_apply (c : Dev nD) (t : Fin cfg0.N) (i : Fin 1) (k : Fin 2048) :
    (iblk m c 2 t : Vec Ideal S1x2048 .f32) (ix2 i k) = aG m c (ix2 i k) := by
  unfold iblk
  rw [View.read_apply]
  refine congrArg (m ((c : Thread nD τ).loc main_arg2)) (funext fun a => Fin.ext ?_)
  match a with
  | ⟨0, _⟩ => show win0_2.index t 0 * 1 + 1 * i.val = i.val; rw [(index0 t).2.2.1.1]; omega
  | ⟨1, _⟩ => show win0_2.index t 1 * 2048 + 1 * k.val = k.val; rw [(index0 t).2.2.1.2]; omega

/-! What the three result arrays end holding. -/

/-- The new gradient at row `i`, column `j`. -/
def dhK (c : Dev nD) (i j : Fin 2048) : EReal :=
  aR m c (ix2 i j) + dxK w (fun k => aDu m c (ix2 i k)) (fun k => aH m c (ix2 i k)) (fun k => aG m c (ix2 0 k)) j

/-- Row `i`'s part of the gain's gradient at column `j`. -/
def dgTerm (c : Dev nD) (j i : Fin 2048) : EReal :=
  aDu m c (ix2 i j) * (aH m c (ix2 i j) * rstd w fun k => aH m c (ix2 i k))

def G4 (c : Dev nD) : Vec Ideal S2048x2048 .f32 := fun j => dhK m c (j 0) (j 1)
def G5 (c : Dev nD) : Vec Ideal S2048x2048 .bf16 := fun j => Ideal.ofBits .f32 0x3F000000#32 * dhK m c (j 0) (j 1)
def G6 (c : Dev nD) : Vec Ideal S1x2048 .f32 := fun j => ∑ i : Fin 2048, dgTerm m c (j 1) i

theorem pay6_row (c : Dev nD) (t : Fin cfg0.N) (i : Fin 256) (k : Fin 2048) :
    k0_pay6 (iblk m c 1 t) (iblk m c 2 t) (iblk m c 0 t) (iblk m c 3 t) (ix2 i k) = dhK m c (row t i) k := by
  rw [pay6_apply]
  simp only [iblk0_apply, iblk1_apply, iblk2_apply, iblk3_apply]
  rfl

theorem eq_ix2 {a b : Nat} (j : (⟨2, ![a, b]⟩ : Shape).Idx) : ∃ (x : Fin a) (y : Fin b), j = ix2 x y :=
  ⟨j 0, j 1, funext fun x => by match x with | ⟨0, _⟩ => rfl | ⟨1, _⟩ => rfl⟩

/-- The point and the row within its block that hold row `i`. -/
theorem exists_row (i : Fin 2048) : ∃ (t : Fin cfg0.N) (r : Fin 256), row t r = i :=
  ⟨⟨i.val / 256, by have : cfg0.N = 8 := N_0; have := i.isLt; omega⟩, ⟨i.val % 256, by omega⟩,
    Fin.ext (Nat.div_add_mod _ _)⟩

theorem emb4 (t : Fin cfg0.N) (i : Fin 256) (k : Fin 2048) :
    (((cfg0.win 4).blk t).view.emb (ix2 i k : S256x2048.Idx) : S2048x2048.Idx) = ix2 (row t i) k :=
  funext fun a => Fin.ext (by
    match a with
    | ⟨0, _⟩ => show win0_4.index t 0 * 256 + 1 * i.val = 256 * t.val + i.val; rw [(index0 t).2.2.2.2.1.1]; omega
    | ⟨1, _⟩ => show win0_4.index t 1 * 2048 + 1 * k.val = k.val; rw [(index0 t).2.2.2.2.1.2]; omega)

theorem final4 (c : Dev nD) : (dats m 0 c).arrAt 4 cfg0.N = G4 m c := by
  refine (dats m 0 c).arrAt_eq_of_cover 4 (G4 m c) (fun t _ => funext fun y => ?_) fun i => ?_
  · rw [Value.flushed4, after4, View.read_apply]
    obtain ⟨a, b, rfl⟩ := eq_ix2 (a := 256) (b := 2048) y
    exact (pay6_row m c t a b).trans (congrArg (G4 m c) (emb4 t a b)).symm
  · obtain ⟨a, b, rfl⟩ := eq_ix2 (a := 2048) (b := 2048) i
    obtain ⟨t, r, rfl⟩ := exists_row a
    exact ⟨t, flush0_4 t, emb4 t r b ▸ View.emb_mem_set _ _⟩

theorem pay7_row (c : Dev nD) (t : Fin cfg0.N) (i : Fin 256) (k : Fin 2048) :
    k0_pay7 (iblk m c 1 t) (iblk m c 2 t) (iblk m c 0 t) (iblk m c 3 t) (ix2 i k)
      = Ideal.ofBits .f32 0x3F000000#32 * dhK m c (row t i) k := by
  rw [pay7_apply, pay6_row]

theorem emb5 (t : Fin cfg0.N) (i : Fin 256) (k : Fin 2048) :
    (((cfg0.win 5).blk t).view.emb (ix2 i k : S256x2048.Idx) : S2048x2048.Idx) = ix2 (row t i) k :=
  funext fun a => Fin.ext (by
    match a with
    | ⟨0, _⟩ => show win0_5.index t 0 * 256 + 1 * i.val = 256 * t.val + i.val; rw [(index0 t).2.2.2.2.2.1.1]; omega
    | ⟨1, _⟩ => show win0_5.index t 1 * 2048 + 1 * k.val = k.val; rw [(index0 t).2.2.2.2.2.1.2]; omega)

theorem final5 (c : Dev nD) : (dats m 0 c).arrAt 5 cfg0.N = G5 m c := by
  refine (dats m 0 c).arrAt_eq_of_cover 5 (G5 m c) (fun t _ => funext fun y => ?_) fun i => ?_
  · rw [Value.flushed5, after5, View.read_apply]
    obtain ⟨a, b, rfl⟩ := eq_ix2 (a := 256) (b := 2048) y
    exact (pay7_row m c t a b).trans (congrArg (G5 m c) (emb5 t a b)).symm
  · obtain ⟨a, b, rfl⟩ := eq_ix2 (a := 2048) (b := 2048) i
    obtain ⟨t, r, rfl⟩ := exists_row a
    exact ⟨t, flush0_5 t, emb5 t r b ▸ View.emb_mem_set _ _⟩

theorem pay5_row (c : Dev nD) (t : Fin cfg0.N) (i : Fin 1) (j : Fin 2048) :
    k0_pay5 (iblk m c 1 t) (iblk m c 0 t) (ix2 i j) = ∑ x : Fin 256, ext0 (dgTerm m c j) (256 * t.val + x.val) := by
  rw [pay5_apply]
  refine Finset.sum_congr rfl fun x _ => ?_
  rw [show ext0 (dgTerm m c j) (256 * t.val + x.val) = dgTerm m c j (row t x) from ext0_of_lt _ (row t x).isLt]
  simp only [iblk0_apply, iblk1_apply]
  rfl

/-- After point `n` the gain's gradient holds the sum over the rows of the blocks up to `n`. -/
theorem acc6 (c : Dev nD) (i : Fin 1) (j : Fin 2048) : ∀ (n : ℕ) (h : n < cfg0.N), (outsAt0 m c n h).2.2 (ix2 i j)
    = ∑ s ∈ Finset.range (n + 1), ∑ x : Fin 256, ext0 (dgTerm m c j) (256 * s + x.val)
  | 0, h => by
    rw [after6_A m c ⟨0, h⟩ rfl, Finset.sum_range_one]
    refine Eq.trans ?_ (pay5_row m c ⟨0, h⟩ i j)
    pointwise [k0_pay1, k0_pay2]
  | n + 1, h => by
    have hN : cfg0.N = 8 := N_0
    have hB : ¬(⟨n + 1, h⟩ : Fin cfg0.N).val % 8 = 0 := by dsimp only; omega
    rw [after6_B m c ⟨n + 1, h⟩ hB, Finset.sum_range_succ, ← acc6 c i j n (by omega), ← pay5_row m c ⟨n + 1, h⟩ i j]
    pointwise! [k0_pay1]

theorem emb6 (t : Fin cfg0.N) (i : Fin 1) (k : Fin 2048) :
    (((cfg0.win 6).blk t).view.emb (ix2 i k : S1x2048.Idx) : S1x2048.Idx) = ix2 i k :=
  funext fun a => Fin.ext (by
    match a with
    | ⟨0, _⟩ => show win0_6.index t 0 * 1 + 1 * i.val = i.val; rw [(index0 t).2.2.2.2.2.2.1]; omega
    | ⟨1, _⟩ => show win0_6.index t 1 * 2048 + 1 * k.val = k.val; rw [(index0 t).2.2.2.2.2.2.2]; omega)

theorem final6 (c : Dev nD) : (dats m 0 c).arrAt 6 cfg0.N = G6 m c := by
  refine (dats m 0 c).arrAt_eq_of_cover 6 (G6 m c) (fun t ht => funext fun y => ?_) fun i => ?_
  · obtain ⟨a, b, rfl⟩ := eq_ix2 (a := 1) (b := 2048) y
    rw [Value.flushed6, View.read_apply]
    have hN : cfg0.N = 8 := N_0
    have h7 : t.val = 7 := by have := (flush0_6 t).mp ht; have := t.isLt; omega
    refine (acc6 m c a b t.val t.isLt).trans (Eq.trans ?_ (congrArg (G6 m c) (emb6 t a b)).symm)
    rw [sum_blocks, h7]
    exact sum_ext0 _
  · obtain ⟨a, b, rfl⟩ := eq_ix2 (a := 1) (b := 2048) i
    have hN : cfg0.N = 8 := N_0
    exact ⟨⟨7, by omega⟩, (flush0_6 _).mpr rfl, emb6 ⟨7, by omega⟩ a b ▸ View.emb_mem_set _ _⟩

end Cert.KernelIdeal.NormValue
end
-- ==== Proof.NormClaim.lean ====
/-
  The norm's backward call against the chain rule: both results read element by element, and equal where the
  arguments are real numbers.
-/
module

public import proofs.«01_k».proof.Defs
public import proofs.«01_k».proof.Proof.NormValue
public import proofs.«01_k».proof.Proof.Gen.Kernel
public import proofs.«01_k».proof.Proof.Gen.Kernel.Frame
public import proofs.«01_k».proof.Proof.Gen.ReferenceIdeal.Read
public import Idealize.ShloMosaic.Lib.Quiescent

@[expose] public section

set_option maxRecDepth 16384

noncomputable section

open Idealize.ShloMosaic Idealize.ShloMosaic.TcCoe Idealize.SL.Sem
open Cert.Reals Cert.Rms

namespace Cert.ReferenceIdeal.NormValue

open Cert.ReferenceIdeal Cert.ReferenceIdeal.Gen Cert.ReferenceIdeal.Read
open Cert.KernelIdeal.NormValue (w)

variable (du h r : Vec Ideal S2048x2048 .f32) (g : Vec Ideal S1x2048 .f32)

theorem v34_apply (i j : Fin 2048) : val_main_v34 (F := Ideal) du h g r (ix2 i j)
    = r (ix2 i j) + dxR w (fun k => du (ix2 i k)) (fun k => h (ix2 i k)) (fun k => g (ix2 0 k)) j := by
  pointwise! [val_main_v34, val_main_v33, val_main_v32, val_main_v31, val_main_v30, val_main_v29, val_main_v28,
    val_main_v27, val_main_v26, val_main_v25, val_main_v24, val_main_v23, val_main_v22, val_main_v21, val_main_v20,
    val_main_v19, val_main_v18, val_main_v10, val_main_v9, val_main_v8, val_main_v7, val_main_v6, val_main_v5,
    val_main_v4, val_main_v3, val_main_v2, val_main_v1, val_main_v0, val_main_cst, val_main_cst_0, val_main_cst_1,
    val_main_cst_2, val_main_cst_3, val_main_cst_4, val_main_cst_5, val_main_cst_6]

theorem v37_apply (i j : Fin 2048) : val_main_v37 (F := Ideal) du h g r (ix2 i j)
    = Ideal.ofBits .f32 0x3F000000#32 * val_main_v34 (F := Ideal) du h g r (ix2 i j) := by
  pointwise! [val_main_v37, val_main_v36, val_main_v35, val_main_cst_7]

theorem v17_apply (i : Fin 1) (j : Fin 2048) : val_main_v17 (F := Ideal) du h (ix2 i j)
    = ∑ x, h (ix2 x j) * rstd w (fun k => h (ix2 x k)) * du (ix2 x j) := by
  pointwise! [val_main_v17, val_main_v16, val_main_v15, val_main_v12, val_main_v11, val_main_v7, val_main_v6,
    val_main_v5, val_main_v4, val_main_v3, val_main_v2, val_main_v1, val_main_v0, val_main_cst, val_main_cst_0,
    val_main_cst_1, val_main_cst_2, val_main_cst_3]

end Cert.ReferenceIdeal.NormValue

namespace Cert.NormClaim

theorem pre_facts : Cert.Pre_norm_finite.Facts where
  bcast_S_S2048x2048 := by decide
  bcast_S_S1x2048 := by decide

instance : Cert.Pre_norm_finite.Facts := pre_facts

open Cert.KernelIdeal Cert.KernelIdeal.Gen Cert.KernelIdeal.NormValue

variable (m : (ℓ : Loc nD τ sig) → Buf (Elt Ideal) ℓ)

/-- Under the precondition the three arguments it names hold real numbers. -/
theorem reals (h : Cert.Pre_KernelIdeal_norm_finite m) (c : Dev nD) :
    (∀ i j, ((aDu m c (ix2 i j)).toReal : EReal) = aDu m c (ix2 i j))
    ∧ (∀ i j, ((aH m c (ix2 i j)).toReal : EReal) = aH m c (ix2 i j))
    ∧ (∀ i j, ((aG m c (ix2 i j)).toReal : EReal) = aG m c (ix2 i j)) := by
  refine ⟨fun i j => ?_, fun i j => ?_, fun i j => ?_⟩
  · have e := congrFun (h c).1 (ix2 i j)
    dsimp only [Cert.Pre_norm_finite.fn] at e
    pointwise at e
    exact real_of_lt e
  · have e := congrFun (h c).2.1 (ix2 i j)
    dsimp only [Cert.Pre_norm_finite.fn] at e
    pointwise at e
    exact real_of_lt e
  · have e := congrFun (h c).2.2 (ix2 i j)
    dsimp only [Cert.Pre_norm_finite.fn] at e
    pointwise at e
    exact real_of_lt e

open Cert.ReferenceIdeal.Read Cert.ReferenceIdeal.NormValue

theorem dx_eq (h : Cert.Pre_KernelIdeal_norm_finite m) (c : Dev nD) (i j : Fin 2048) :
    dhK m c i j = val_main_v34 (F := Ideal) (aDu m c) (aH m c) (aG m c) (aR m c) (ix2 i j) := by
  rw [v34_apply]
  unfold dhK
  obtain ⟨h0, h1, h2⟩ := reals m h c
  rw [← funext (h0 i), ← funext (h1 i), ← funext (h2 0), show w = ((2048 : ℝ) : EReal) from lit_2048,
    dxK_eq_dxR (by norm_num)]

theorem result0 (h : Cert.Pre_KernelIdeal_norm_finite m) (c : Dev nD) :
    G4 m c = val_main_v34 (F := Ideal) (aDu m c) (aH m c) (aG m c) (aR m c) := by
  funext j
  obtain ⟨a, b, rfl⟩ := eq_ix2 (a := 2048) (b := 2048) j
  exact dx_eq m h c a b

theorem result1 (h : Cert.Pre_KernelIdeal_norm_finite m) (c : Dev nD) :
    G5 m c = val_main_v37 (F := Ideal) (aDu m c) (aH m c) (aG m c) (aR m c) := by
  funext j
  obtain ⟨a, b, rfl⟩ := eq_ix2 (a := 2048) (b := 2048) j
  rw [v37_apply, ← dx_eq m h c a b]
  rfl

theorem result2 (c : Dev nD) : G6 m c = val_main_v17 (F := Ideal) (aDu m c) (aH m c) := by
  funext j
  obtain ⟨a, b, rfl⟩ := eq_ix2 (a := 1) (b := 2048) j
  rw [v17_apply]
  exact Finset.sum_congr rfl fun x _ => mul_comm _ _

/-- The reference's frame: its run read at the arguments; it declares no semaphore. -/
theorem reference_frame : Cert.quiescent_ReferenceIdeal := fun m ρ _ =>
  (θ_run (Cert.ReferenceIdeal.defs (F := Ideal)) _ _).mono (fun r h => And.intro (fun c => (h c).2.2.2)
    (Idealize.ShloMosaic.sem_eq_zero_of_no_sems (by decide) r.2)) (Cert.ReferenceIdeal.Value.run (F := Ideal) m ρ)

theorem algebraic : Cert.algebraic_KernelIdeal_ReferenceIdeal_pre_norm_finite := by
  intro m ρ m' ρ' hpre hag
  refine ⟨fun c => G4 m c, fun c => G5 m c, fun c => G6 m c, ?_, ?_⟩
  · refine (θ_run Cert.KernelIdeal.defs _ _).mono (fun r h c => ?_) (Cert.KernelIdeal.Value.run_blocks m ρ)
    obtain ⟨h0, h1, h2, ha⟩ := h c
    exact ⟨h0.trans (final4 m c), h1.trans (final5 m c), h2.trans (final6 m c), ha⟩
  · refine (θ_run Cert.ReferenceIdeal.defs _ _).mono (fun r h c => ?_) (Cert.ReferenceIdeal.Value.run (F := Ideal) m' ρ')
    obtain ⟨h0, h1, h2, ha⟩ := h c
    obtain ⟨e0, e1, e2, e3⟩ := hag c
    refine ⟨h0.trans ?_, h1.trans ?_, h2.trans ?_, ha⟩
    · rw [val_main_v34_eq, e0, e1, e2, e3]; exact (result0 m hpre c).symm
    · rw [val_main_v37_eq, e0, e1, e2, e3]; exact (result1 m hpre c).symm
    · rw [val_main_v17_eq, e0, e1]; exact (result2 m c).symm

end Cert.NormClaim

end
-- ==== Proof.AttnLoop.lean ====
module

public import proofs.«01_k».proof.Proof.Gen.Kernel2Ideal.Loops
public import Mathlib.Tactic.FinCases
public import Idealize.ShloMosaic.Lib.WritesUnit

@[expose] public section

set_option maxRecDepth 8192
set_option maxHeartbeats 4000000

noncomputable section

namespace Cert.Kernel2Ideal.AttnLoop

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (𝒱 : Variants) (c : Dev nD) (bd : Option 𝒱.V) (i : grid0.Coords)
    (a1 : Memref sig .tc .vmem S2048x128 .f32) (k1 : a1.IsWhole)
    (a2 : Memref sig .tc .vmem S2048x128 .f32) (k2 : a2.IsWhole)
    (a3 : Memref sig .tc .vmem S2048x128 .f32) (k3 : a3.IsWhole)
    (a4 : Memref sig .tc .vmem S2x17x64x128 .f32) (k4 : a4.IsWhole)
    (a5 : Memref sig .tc .vmem S2048x128 .f32) (k5 : a5.IsWhole)
    (a6 : Memref sig .tc .vmem S2048x128 .bf16) (k6 : a6.IsWhole)
    (a7 : Memref sig .tc .vmem S2048x128 .bf16) (k7 : a7.IsWhole)
    (a8 : Memref sig .tc .vmem S2048x128 .bf16) (k8 : a8.IsWhole)
    (a9 : Memref sig .tc .vmem S3x128x2048 .bf16) (k9 : a9.IsWhole)
    (a10 : Memref sig .tc .vmem S2x17x64x128 .f32) (k10 : a10.IsWhole)
    (a11 : Memref sig .tc .vmem S2048x128 .f32) (k11 : a11.IsWhole)
    (a12 : Memref sig .tc .vmem S2048x128 .f32) (k12 : a12.IsWhole)
    (a13 : Memref sig .tc .vmem S2048x128 .f32) (k13 : a13.IsWhole)
    (a14 : Memref sig .tc .vmem S2048x128 .bf16) (k14 : a14.IsWhole)
    (a15 : Memref sig .tc .vmem S2048x128 .bf16) (k15 : a15.IsWhole)
    (a16 : Memref sig .tc .vmem S2048x128 .bf16) (k16 : a16.IsWhole)
    (a17 : Memref sig .tc .vmem S2048x128 .bf16) (k17 : a17.IsWhole)
    (a18 : Memref sig .tc .vmem S16x128x128 .bf16) (k18 : a18.IsWhole)
    (a19 : Memref sig .tc .vmem S16x128x128 .bf16) (k19 : a19.IsWhole)
    (v208 : FVec F S128x128 .bf16)
    (X4 : BufTy.Contents (Elt F) a4.view.ty) (X14 : BufTy.Contents (Elt F) a14.view.ty) (X15 : BufTy.Contents (Elt F) a15.view.ty) (X17 : BufTy.Contents (Elt F) a17.view.ty) (X18 : BufTy.Contents (Elt F) a18.view.ty) (X19 : BufTy.Contents (Elt F) a19.view.ty)

/-- The table entry a row and a key pair use at a trip, for each of the two heads, as the printed chain computes it. -/
@[irreducible] def ent1 (k : Fin k0_t1_loop.trips) (a b : BitVec 32) : ℕ := k0_off1 k a b 1
@[irreducible] def ent5 (k : Fin k0_t1_loop.trips) (a b : BitVec 32) : ℕ := k0_off5 k a b 1

instance (k : Fin k0_t1_loop.trips) (a b : BitVec 32) : ClosedOff (k0_off1 k a b) :=
  ⟨![0, ent1 k a b, 0, 0], by unfold ent1; funext x; fin_cases x <;> rfl⟩
instance (k : Fin k0_t1_loop.trips) (a b : BitVec 32) : ClosedOff (k0_off5 k a b) :=
  ⟨![1, ent5 k a b, 0, 0], by unfold ent5; funext x; fin_cases x <;> rfl⟩

/-- The first key row of a trip's band. -/
abbrev bandRow (k : Fin k0_t1_loop.trips) : ℕ := min (4 * k.val - 4) 20
theorem off4_eq : ∀ k : Fin k0_t1_loop.trips, k0_off4 k = ![64 * bandRow k, 0] := by decide +kernel
theorem off8_eq : ∀ k : Fin k0_t1_loop.trips, k0_off8 k = ![64 * bandRow k, 64] := by decide +kernel
instance (k : Fin k0_t1_loop.trips) : ClosedOff (k0_off4 k) := ⟨_, off4_eq k⟩
instance (k : Fin k0_t1_loop.trips) : ClosedOff (k0_off8 k) := ⟨_, off8_eq k⟩

/-- What a trip touches: the operands it reads, and the four buffers it writes. -/
abbrev Trip (f10 : BufTy.Contents (Elt F) a10.view.ty) (f11 : BufTy.Contents (Elt F) a11.view.ty) (f12 : BufTy.Contents (Elt F) a12.view.ty) (f13 : BufTy.Contents (Elt F) a13.view.ty) : sProp 𝕄G :=
  iprop((a4.view.loc (c : Thread nD τ) ↦[a4.view.set]{fullShare} X4) ∗ (a14.view.loc (c : Thread nD τ) ↦[a14.view.set]{fullShare} X14) ∗ (a15.view.loc (c : Thread nD τ) ↦[a15.view.set]{fullShare} X15) ∗ (a17.view.loc (c : Thread nD τ) ↦[a17.view.set]{fullShare} X17) ∗ (a18.view.loc (c : Thread nD τ) ↦[a18.view.set]{fullShare} X18) ∗ (a19.view.loc (c : Thread nD τ) ↦[a19.view.set]{fullShare} X19) ∗ (a10.view.loc (c : Thread nD τ) ↦[a10.view.set]{fullShare} f10) ∗ (a11.view.loc (c : Thread nD τ) ↦[a11.view.set]{fullShare} f11) ∗ (a12.view.loc (c : Thread nD τ) ↦[a12.view.set]{fullShare} f12) ∗ (a13.view.loc (c : Thread nD τ) ↦[a13.view.set]{fullShare} f13))

/-- One trip at a symbolic `k`: the pieces it writes, as functions of what the buffers held. -/
@[irreducible] def trip (k : Fin k0_t1_loop.trips) :
    Σ' (L10 : BufTy.Contents (Elt F) a10.view.ty → List (View.Piece (Elt F) S2x17x64x128 .f32))
       (L11 : List (View.Piece (Elt F) S2048x128 .f32))
       (L12 : BufTy.Contents (Elt F) a12.view.ty → List (View.Piece (Elt F) S2048x128 .f32)),
      { L13 : BufTy.Contents (Elt F) a13.view.ty → List (View.Piece (Elt F) S2048x128 .f32) // ∀ (E : Set ℕ) (f10 : BufTy.Contents (Elt F) a10.view.ty) (f11 : BufTy.Contents (Elt F) a11.view.ty) (f12 : BufTy.Contents (Elt F) a12.view.ty) (f13 : BufTy.Contents (Elt F) a13.view.ty),
      Trip c a4 a10 a11 a12 a13 a14 a15 a17 a18 a19 X4 X14 X15 X17 X18 X19 f10 f11 f12 f13
      ⊢ wp frame (wpE (defs₀ (F := F)) 𝒱 (c : Thread nD τ) bd) E (k0_t1_body (F := F) i a1 k1 a2 k2 a3 k3 a4 k4 a5 k5 a6 k6 a7 k7 a8 k8 a9 k9 a10 k10 a11 k11 a12 k12 a13 k13 a14 k14 a15 k15 a16 k16 a17 k17 a18 k18 a19 k19 v208 k ())
          (fun _ => Trip c a4 a10 a11 a12 a13 a14 a15 a17 a18 a19 X4 X14 X15 X17 X18 X19 (a10.view.writes (Elt F) f10 (L10 f10))
            (a11.view.writes (Elt F) f11 L11) (a12.view.writes (Elt F) f12 (L12 f12)) (a13.view.writes (Elt F) f13 (L13 f13))) } := by
  refine ⟨?_, ?_, ?_, ?_, fun E f10 f11 f12 f13 => ?run⟩
  case run =>
    unfold k0_t1_body
    iintro ⟨HR4, HR14, HR15, HR17, HR18, HR19, HW10, HW11, HW12, HW13⟩
    sl_exec
    sl_step
    sl_close

/-- What the four written buffers hold: the table gradients and the three accumulators. -/
abbrev State : Type := BufTy.Contents (Elt F) a10.view.ty × BufTy.Contents (Elt F) a11.view.ty × BufTy.Contents (Elt F) a12.view.ty × BufTy.Contents (Elt F) a13.view.ty

/-- The buffers after trip `k`, from what they held before it (past the last trip, as they were). -/
@[irreducible] def stStep (k : ℕ) (s : State (F := F) a10 a11 a12 a13) : State (F := F) a10 a11 a12 a13 :=
  if h : k < k0_t1_loop.trips then
    (a10.view.writes (Elt F) s.1 ((trip 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 ⟨k, h⟩).1 s.1),
     a11.view.writes (Elt F) s.2.1 (trip 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 ⟨k, h⟩).2.1,
     a12.view.writes (Elt F) s.2.2.1 ((trip 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 ⟨k, h⟩).2.2.1 s.2.2.1),
     a13.view.writes (Elt F) s.2.2.2 ((trip 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 ⟨k, h⟩).2.2.2.1 s.2.2.2))
  else s

/-- The buffers before trip `k`, from what they held at the loop's entry. -/
def st (G : State (F := F) a10 a11 a12 a13) : ℕ → State (F := F) a10 a11 a12 a13
  | 0 => G
  | k + 1 => stStep 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 k (st G k)

theorem st_succ (G : State (F := F) a10 a11 a12 a13) (k : Fin k0_t1_loop.trips) :
    st 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 G (k.val + 1)
      = (a10.view.writes (Elt F) (st 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 G k.val).1 ((trip 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 k).1 (st 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 G k.val).1),
         a11.view.writes (Elt F) (st 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 G k.val).2.1 (trip 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 k).2.1,
         a12.view.writes (Elt F) (st 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 G k.val).2.2.1 ((trip 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 k).2.2.1 (st 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 G k.val).2.2.1),
         a13.view.writes (Elt F) (st 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 G k.val).2.2.2 ((trip 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 k).2.2.2.1 (st 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 G k.val).2.2.2)) := by
  rw [st.eq_2]; unfold stStep; exact dif_pos k.isLt

/-- A sequence spelled by cases on its argument. -/
theorem rec_eq {α : Type} (f : ℕ → α) (x : α) (h : x = f 0) (k : ℕ) :
    (Nat.rec (motive := fun _ => α) x (fun j _ => f (j + 1)) k : α) = f k := by
  cases k with
  | zero => exact h
  | succ k => rfl

set_option warn.classDefReducibility false in
/-- The loop by its invariant: what is read stays, what is written is the state of the trips before. -/
@[sl_loop] def loopInv (E : Set ℕ) (G10 : BufTy.Contents (Elt F) a10.view.ty) (G11 : BufTy.Contents (Elt F) a11.view.ty) (G12 : BufTy.Contents (Elt F) a12.view.ty) (G13 : BufTy.Contents (Elt F) a13.view.ty) :
    LoopInvTy_k0_t1 (F := F) Unit ℕ (UR sig nD τ) ℕ 𝒱 c bd E i a1 k1 a2 k2 a3 k3 a4 k4 a5 k5 a6 k6 a7 k7 a8 k8 a9 k9 a10 k10 a11 k11 a12 k12 a13 k13 a14 k14 a15 k15 a16 k16 a17 k17 a18 k18 a19 k19 v208 where
  inv k _ := iprop((a4.view.loc (c : Thread nD τ) ↦[a4.view.set]{fullShare} X4) ∗ (a14.view.loc (c : Thread nD τ) ↦[a14.view.set]{fullShare} X14) ∗ (a15.view.loc (c : Thread nD τ) ↦[a15.view.set]{fullShare} X15) ∗ (a17.view.loc (c : Thread nD τ) ↦[a17.view.set]{fullShare} X17) ∗ (a18.view.loc (c : Thread nD τ) ↦[a18.view.set]{fullShare} X18) ∗ (a19.view.loc (c : Thread nD τ) ↦[a19.view.set]{fullShare} X19) ∗ (∃ f, (a10.view.loc (c : Thread nD τ) ↦[a10.view.set]{fullShare} f) ∗ ⌜f = Nat.rec (motive := fun _ => BufTy.Contents (Elt F) a10.view.ty) G10 (fun j _ => (st 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 (G10, G11, G12, G13) (j + 1)).1) k⌝) ∗ (∃ f, (a11.view.loc (c : Thread nD τ) ↦[a11.view.set]{fullShare} f) ∗ ⌜f = Nat.rec (motive := fun _ => BufTy.Contents (Elt F) a11.view.ty) G11 (fun j _ => (st 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 (G10, G11, G12, G13) (j + 1)).2.1) k⌝) ∗ (∃ f, (a12.view.loc (c : Thread nD τ) ↦[a12.view.set]{fullShare} f) ∗ ⌜f = Nat.rec (motive := fun _ => BufTy.Contents (Elt F) a12.view.ty) G12 (fun j _ => (st 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 (G10, G11, G12, G13) (j + 1)).2.2.1) k⌝) ∗ (∃ f, (a13.view.loc (c : Thread nD τ) ↦[a13.view.set]{fullShare} f) ∗ ⌜f = Nat.rec (motive := fun _ => BufTy.Contents (Elt F) a13.view.ty) G13 (fun j _ => (st 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 (G10, G11, G12, G13) (j + 1)).2.2.2) k⌝))
  step k _ := by
    iintro ⟨HR4, HR14, HR15, HR17, HR18, HR19, ⟨%f10, HW10, %h10⟩, ⟨%f11, HW11, %h11⟩, ⟨%f12, HW12, %h12⟩, ⟨%f13, HW13, %h13⟩⟩
    replace h10 := h10.trans (rec_eq (fun j => (st 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 (G10, G11, G12, G13) j).1) _ rfl k.val)
    replace h11 := h11.trans (rec_eq (fun j => (st 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 (G10, G11, G12, G13) j).2.1) _ rfl k.val)
    replace h12 := h12.trans (rec_eq (fun j => (st 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 (G10, G11, G12, G13) j).2.2.1) _ rfl k.val)
    replace h13 := h13.trans (rec_eq (fun j => (st 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 (G10, G11, G12, G13) j).2.2.2) _ rfl k.val)
    iapply (wp_wand_r Idealize.ShloMosaic.frame (wpE (defs₀ (F := F)) 𝒱 (c : Thread nD τ) bd) E)
    isplitl [HR4 HR14 HR15 HR17 HR18 HR19 HW10 HW11 HW12 HW13]
    · iapply ((trip 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 k).2.2.2.2 E f10 f11 f12 f13)
      isplitl [HR4]; · iexact HR4
      isplitl [HR14]; · iexact HR14
      isplitl [HR15]; · iexact HR15
      isplitl [HR17]; · iexact HR17
      isplitl [HR18]; · iexact HR18
      isplitl [HR19]; · iexact HR19
      isplitl [HW10]; · iexact HW10
      isplitl [HW11]; · iexact HW11
      isplitl [HW12]; · iexact HW12
      iexact HW13
    · iintro %yld ⟨HR4, HR14, HR15, HR17, HR18, HR19, HW10, HW11, HW12, HW13⟩
      isplitl [HR4]; · iexact HR4
      isplitl [HR14]; · iexact HR14
      isplitl [HR15]; · iexact HR15
      isplitl [HR17]; · iexact HR17
      isplitl [HR18]; · iexact HR18
      isplitl [HR19]; · iexact HR19
      isplitl [HW10]
      · iexists _; isplitl [HW10]; · iexact HW10
        ipureintro; rw [h10]; dsimp only; rw [st_succ]
      isplitl [HW11]
      · iexists _; isplitl [HW11]; · iexact HW11
        ipureintro; rw [h11]; dsimp only; rw [st_succ]
      isplitl [HW12]
      · iexists _; isplitl [HW12]; · iexact HW12
        ipureintro; rw [h12]; dsimp only; rw [st_succ]
      iexists _; isplitl [HW13]; · iexact HW13
      ipureintro; rw [h13]; dsimp only; rw [st_succ]

/-! ## The accumulator that is not cleared first

The dq accumulator is not zeroed before the loop: every row is written by its own trip. So what the loop
leaves in it does not depend on what it held. -/

theorem trip_L11 (k : Fin k0_t1_loop.trips) : ∃ w6 w2, (trip 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 k).2.1
    = [⟨Rect.unit (k0_off6 k) ![256, 64] (k0_off6_inb k), w6⟩, ⟨Rect.unit (k0_off2 k) ![256, 64] (k0_off2_inb k), w2⟩] := by
  unfold trip; exact ⟨_, _, rfl⟩

/-- Two entry states that differ in the dq accumulator only lead to the same table gradients and dk, dv accumulators. -/
theorem st_indep (G : State (F := F) a10 a11 a12 a13) (g11 : BufTy.Contents (Elt F) a11.view.ty) (k : ℕ) :
    (st 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 G k).1 = (st 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 (G.1, g11, G.2.2) k).1
      ∧ (st 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 G k).2.2 = (st 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 (G.1, g11, G.2.2) k).2.2 := by
  induction k with
  | zero => exact ⟨rfl, rfl⟩
  | succ k ih =>
    rw [st.eq_2, st.eq_2]; unfold stStep
    by_cases h : k < k0_t1_loop.trips
    · simp only [dif_pos h, ih.1, ih.2]; exact ⟨trivial, trivial⟩
    · simp only [dif_neg h]; exact ih

/-- and the rows of the dq accumulator the trips so far have written read the same. -/
theorem st_indep_dq (G : State (F := F) a10 a11 a12 a13) (g11 : BufTy.Contents (Elt F) a11.view.ty) (k : ℕ) (hk : k ≤ k0_t1_loop.trips)
    (y : S2048x128.Idx) (hy : (y (0 : Fin 2)).val < 256 * k) :
    a11.view.read (Elt F) (st 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 G k).2.1 y
      = a11.view.read (Elt F) (st 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 (G.1, g11, G.2.2) k).2.1 y := by
  induction k with
  | zero => omega
  | succ k ih =>
    have h : k < k0_t1_loop.trips := hk
    rw [st.eq_2, st.eq_2]; unfold stStep
    simp only [dif_pos h]
    obtain ⟨w6, w2, e⟩ := trip_L11 𝒱 c bd i a1 k1 a2 k2 a3 k3 a4 k4 a5 k5 a6 k6 a7 k7 a8 k8 a9 k9 a10 k10 a11 k11 a12 k12 a13 k13 a14 k14 a15 k15 a16 k16 a17 k17 a18 k18 a19 k19 v208 X4 X14 X15 X17 X18 X19 ⟨k, h⟩
    rw [e]
    conv_lhs => rw [View.read_writes_cons_unit _ _ _ _ _ _ (k0_off6_eq _)]
    conv_rhs => rw [View.read_writes_cons_unit _ _ _ _ _ _ (k0_off6_eq _)]
    split
    · rfl
    rename_i n6
    conv_lhs => rw [View.read_writes_cons_unit _ _ _ _ _ _ (k0_off2_eq _)]
    conv_rhs => rw [View.read_writes_cons_unit _ _ _ _ _ _ (k0_off2_eq _)]
    split
    · rfl
    rename_i n2
    refine ih h.le (by_contra fun hge => ?_)
    have hc : (y (1 : Fin 2)).val < 128 := (y (1 : Fin 2)).isLt
    rcases Nat.lt_or_ge (y (1 : Fin 2)).val 64 with hlt | hlt
    · exact n2 (Fin.forall_fin_two.mpr ⟨⟨by show 256 * k ≤ _; omega, by show _ < 256 * k + 256; omega⟩,
        ⟨Nat.zero_le _, by show _ < 0 + 64; omega⟩⟩)
    · exact n6 (Fin.forall_fin_two.mpr ⟨⟨by show 256 * k ≤ _; omega, by show _ < 256 * k + 256; omega⟩,
        ⟨by show 64 ≤ _; omega, by show _ < 64 + 64; omega⟩⟩)

end Cert.Kernel2Ideal.AttnLoop

end
-- ==== Proof.AttnRun.lean ====
module

public import proofs.«01_k».proof.Proof.Gen.Kernel2Ideal.Frame
public import proofs.«01_k».proof.Proof.AttnLoop

@[expose] public section

set_option maxRecDepth 16384

noncomputable section

namespace Cert.Kernel2Ideal.AttnRun

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
    (a1 : Memref sig .tc .vmem S2048x128 .f32) (h1 : a1.IsWhole)
    (a2 : Memref sig .tc .vmem S2048x128 .f32) (h2 : a2.IsWhole)
    (a3 : Memref sig .tc .vmem S2048x128 .f32) (h3 : a3.IsWhole)
    (a4 : Memref sig .tc .vmem S2x17x64x128 .f32) (h4 : a4.IsWhole)
    (a5 : Memref sig .tc .vmem S2048x128 .f32) (h5 : a5.IsWhole)
    (a6 : Memref sig .tc .vmem S2048x128 .bf16) (h6 : a6.IsWhole)
    (a7 : Memref sig .tc .vmem S2048x128 .bf16) (h7 : a7.IsWhole)
    (a8 : Memref sig .tc .vmem S2048x128 .bf16) (h8 : a8.IsWhole)
    (a9 : Memref sig .tc .vmem S3x128x2048 .bf16) (h9 : a9.IsWhole)
    (a10 : Memref sig .tc .vmem S2x17x64x128 .f32) (h10 : a10.IsWhole)
    (a11 : Memref sig .tc .vmem S2048x128 .f32) (h11 : a11.IsWhole)
    (a12 : Memref sig .tc .vmem S2048x128 .f32) (h12 : a12.IsWhole)
    (a13 : Memref sig .tc .vmem S2048x128 .f32) (h13 : a13.IsWhole)
    (a14 : Memref sig .tc .vmem S2048x128 .bf16) (h14 : a14.IsWhole)
    (a15 : Memref sig .tc .vmem S2048x128 .bf16) (h15 : a15.IsWhole)
    (a16 : Memref sig .tc .vmem S2048x128 .bf16) (h16 : a16.IsWhole)
    (a17 : Memref sig .tc .vmem S2048x128 .bf16) (h17 : a17.IsWhole)
    (a18 : Memref sig .tc .vmem S16x128x128 .bf16) (h18 : a18.IsWhole)
    (a19 : Memref sig .tc .vmem S16x128x128 .bf16) (h19 : a19.IsWhole)
    (x1 : Vec F S2048x128 .f32) (x2 : Vec F S2048x128 .f32) (x3 : Vec F S2048x128 .f32) (x4 : Vec F S2x17x64x128 .f32) (x5 : Vec F S2048x128 .f32)
    (f10 : BufTy.Contents (Elt F) a10.view.ty) (f11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) (f16 : BufTy.Contents (Elt F) a16.view.ty) (f17 : BufTy.Contents (Elt F) a17.view.ty) (f18 : BufTy.Contents (Elt F) a18.view.ty) (f19 : BufTy.Contents (Elt F) a19.view.ty)

set_option maxHeartbeats 8000000 in
/-- The body's run: what it writes into the four gradient outputs, as pieces, and what the table
    gradient's buffer ends with, whatever the scratch buffers held. -/
def run :
    Σ' (L6 : List (View.Piece (Elt F) S2048x128 .bf16)) (L7 : List (View.Piece (Elt F) S2048x128 .bf16))
       (L8 : List (View.Piece (Elt F) S2048x128 .bf16)) (L9 : List (View.Piece (Elt F) S3x128x2048 .bf16)),
      { C10 : BufTy.Contents (Elt F) a10.view.ty // ∀ (E : Set ℕ) (K : PUnit → sProp 𝕄G),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ f, (a6.view.loc (c : Thread nD τ) ↦[a6.view.set]{fullShare} f)) ∗ (∃ f, (a7.view.loc (c : Thread nD τ) ↦[a7.view.set]{fullShare} f)) ∗ (∃ f, (a8.view.loc (c : Thread nD τ) ↦[a8.view.set]{fullShare} f)) ∗ (∃ f, (a9.view.loc (c : Thread nD τ) ↦[a9.view.set]{fullShare} f)) ∗ (a10.view.loc (c : Thread nD τ) ↦[a10.view.set]{fullShare} f10) ∗ (a11.view.loc (c : Thread nD τ) ↦[a11.view.set]{fullShare} f11) ∗ (a12.view.loc (c : Thread nD τ) ↦[a12.view.set]{fullShare} f12) ∗ (a13.view.loc (c : Thread nD τ) ↦[a13.view.set]{fullShare} f13) ∗ (a14.view.loc (c : Thread nD τ) ↦[a14.view.set]{fullShare} f14) ∗ (a15.view.loc (c : Thread nD τ) ↦[a15.view.set]{fullShare} f15) ∗ (a16.view.loc (c : Thread nD τ) ↦[a16.view.set]{fullShare} f16) ∗ (a17.view.loc (c : Thread nD τ) ↦[a17.view.set]{fullShare} f17) ∗ (a18.view.loc (c : Thread nD τ) ↦[a18.view.set]{fullShare} f18) ∗ (a19.view.loc (c : Thread nD τ) ↦[a19.view.set]{fullShare} f19)
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ f, (a6.view.loc (c : Thread nD τ) ↦[a6.view.set]{fullShare} a6.view.writes (Elt F) f L6)) ∗ (∃ f, (a7.view.loc (c : Thread nD τ) ↦[a7.view.set]{fullShare} a7.view.writes (Elt F) f L7)) ∗ (∃ f, (a8.view.loc (c : Thread nD τ) ↦[a8.view.set]{fullShare} a8.view.writes (Elt F) f L8)) ∗ (∃ f, (a9.view.loc (c : Thread nD τ) ↦[a9.view.set]{fullShare} a9.view.writes (Elt F) f L9)) ∗ (a10.view.loc (c : Thread nD τ) ↦[a10.view.set]{fullShare} C10) ∗ (∃ f, (a11.view.loc (c : Thread nD τ) ↦[a11.view.set]{fullShare} f)) ∗ (∃ f, (a12.view.loc (c : Thread nD τ) ↦[a12.view.set]{fullShare} f)) ∗ (∃ f, (a13.view.loc (c : Thread nD τ) ↦[a13.view.set]{fullShare} f)) ∗ (∃ f, (a14.view.loc (c : Thread nD τ) ↦[a14.view.set]{fullShare} f)) ∗ (∃ f, (a15.view.loc (c : Thread nD τ) ↦[a15.view.set]{fullShare} f)) ∗ (∃ f, (a16.view.loc (c : Thread nD τ) ↦[a16.view.set]{fullShare} f)) ∗ (∃ f, (a17.view.loc (c : Thread nD τ) ↦[a17.view.set]{fullShare} f)) ∗ (∃ f, (a18.view.loc (c : Thread nD τ) ↦[a18.view.set]{fullShare} f)) ∗ (∃ f, (a19.view.loc (c : Thread nD τ) ↦[a19.view.set]{fullShare} f))) -∗ K ⟨⟩))
          ⊢ wp frame (wpE (defs₀ (F := F)) Variants.none c none) E (cc0_attn_bwd i a1 h1 a2 h2 a3 h3 a4 h4 a5 h5 a6 h6 a7 h7 a8 h8 a9 h9 a10 h10 a11 h11 a12 h12 a13 h13 a14 h14 a15 h15 a16 h16 a17 h17 a18 h18 a19 h19) K } := by
  refine ⟨?_, ?_, ?_, ?_, ?_, fun E K => ?run⟩
  case run =>
    simp only [cc0_attn_bwd_eq_skeleton]; unfold cc0_attn_bwd_skel
    simp only [k0_part57_eq_skeleton, k0_part58_eq_skeleton, k0_part59_eq_skeleton, k0_part60_eq_skeleton, k0_part61_eq_skeleton, k0_part62_eq_skeleton, k0_part63_eq_skeleton, k0_part64_eq_skeleton]
    unfold owns
    iintro ⟨⟨%g1, %hg1, H1⟩, ⟨%g2, %hg2, H2⟩, ⟨%g3, %hg3, H3⟩, ⟨%g4, %hg4, H4⟩, ⟨%g5, %hg5, H5⟩, ⟨%f6, H6⟩, ⟨%f7, H7⟩, ⟨%f8, H8⟩, ⟨%f9, H9⟩, H10, H11, H12, H13, H14, H15, H16, H17, H18, H19, Hk⟩
    obtain rfl := h1.eq_unread hg1; obtain rfl := h2.eq_unread hg2; obtain rfl := h3.eq_unread hg3; obtain rfl := h4.eq_unread hg4; obtain rfl := h5.eq_unread hg5
    sl_exec
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    isplitl [H8]; · iexists _; iexact H8
    isplitl [H9]; · iexists _; iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

/-- The four accumulators as the loop enters: the table's, dk's and dv's cleared. -/
def entry : AttnLoop.State (F := F) a10 a11 a12 a13 :=
  (a10.view.writes (Elt F) (a10.view.junk) run.sl.H10_1, f11, a12.view.writes (Elt F) (a12.view.junk) run.sl.H12_1, a13.view.writes (Elt F) (a13.view.junk) run.sl.H13_1)

/-- The state before trip `k` of the loop as the body enters it: the bands cast, the accumulators cleared. -/
def stage (k : ℕ) : AttnLoop.State (F := F) a10 a11 a12 a13 :=
  AttnLoop.st Variants.none c none i a1 h1 a2 h2 a3 h3 a4 h4 a5 h5 a6 h6 a7 h7 a8 h8 a9 h9 a10 h10 a11 h11 a12 h12 a13 h13 a14 h14 a15 h15 a16 h16 a17 h17 a18 h18 a19 h19 (run.sl.r_6 c a3 h3 x3) (h4.unread x4)
    (a14.view.writes (Elt F) (a14.view.junk) (run.sl.H14_1 c a1 h1 x1)) (a15.view.writes (Elt F) (a15.view.junk) (run.sl.H15_1 c a2 h2 x2))
    (a17.view.writes (Elt F) (a17.view.junk) (run.sl.H17_1 c a5 h5 x5)) (a18.view.writes (Elt F) (a18.view.junk) (run.sl.H18_16 c a2 h2 x2)) (a19.view.writes (Elt F) (a19.view.junk) (run.sl.H19_16 c a3 h3 x3))
    (entry a10 a11 a12 a13 f11) k

theorem v223_eq : run.sl.v223 c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 = a11.view.readAt (Elt F) (Rect.unit (s := S2048x128) ![0, 0] S2048x128.size inb_S2048x128_S2048x128_0_0).toLoadRect (stage c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 8).2.1 := rfl
theorem v231_eq : run.sl.v231 c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 = a12.view.readAt (Elt F) (Rect.unit (s := S2048x128) ![0, 0] S2048x128.size inb_S2048x128_S2048x128_0_0).toLoadRect (stage c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 8).2.2.1 := rfl
theorem v239_eq : run.sl.v239 c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 = a13.view.readAt (Elt F) (Rect.unit (s := S2048x128) ![0, 0] S2048x128.size inb_S2048x128_S2048x128_0_0).toLoadRect (stage c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 8).2.2.2 := rfl

set_option maxHeartbeats 2000000 in
theorem stage_indep (g11 : BufTy.Contents (Elt F) a11.view.ty) (k : ℕ) :
    (stage c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 k).1 = (stage c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 g11 k).1 ∧ (stage c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 k).2.2 = (stage c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 g11 k).2.2 :=
  by unfold stage; exact AttnLoop.st_indep (G := entry a10 a11 a12 a13 f11) (g11 := g11) ..

set_option maxHeartbeats 2000000 in
theorem v223_indep (g11 : BufTy.Contents (Elt F) a11.view.ty) : run.sl.v223 c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 = run.sl.v223 c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 g11 := by
  rw [v223_eq, v223_eq]
  funext y
  exact AttnLoop.st_indep_dq (G := entry a10 a11 a12 a13 f11) (g11 := g11) (hk := by decide) (hy := lt_of_lt_of_eq (Fin.isLt _) rfl) ..

theorem v231_indep (g11 : BufTy.Contents (Elt F) a11.view.ty) : run.sl.v231 c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 = run.sl.v231 c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 g11 := by
  rw [v231_eq, v231_eq, (stage_indep c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 g11 8).2]

theorem v239_indep (g11 : BufTy.Contents (Elt F) a11.view.ty) : run.sl.v239 c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 = run.sl.v239 c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 g11 := by
  rw [v239_eq, v239_eq, (stage_indep c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 g11 8).2]

theorem run_L6 (g10 : BufTy.Contents (Elt F) a10.view.ty) (g11 : BufTy.Contents (Elt F) a11.view.ty) (g12 : BufTy.Contents (Elt F) a12.view.ty) (g13 : BufTy.Contents (Elt F) a13.view.ty) (g14 : BufTy.Contents (Elt F) a14.view.ty) (g15 : BufTy.Contents (Elt F) a15.view.ty) (g16 : BufTy.Contents (Elt F) a16.view.ty) (g17 : BufTy.Contents (Elt F) a17.view.ty) (g18 : BufTy.Contents (Elt F) a18.view.ty) (g19 : BufTy.Contents (Elt F) a19.view.ty) : (run c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f10 f11 f12 f13 f14 f15 f16 f17 f18 f19).1 = (run c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 g10 g11 g12 g13 g14 g15 g16 g17 g18 g19).1 := by
  unfold run; dsimp only; rw [v223_indep c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 g11]

theorem run_L7 (g10 : BufTy.Contents (Elt F) a10.view.ty) (g11 : BufTy.Contents (Elt F) a11.view.ty) (g12 : BufTy.Contents (Elt F) a12.view.ty) (g13 : BufTy.Contents (Elt F) a13.view.ty) (g14 : BufTy.Contents (Elt F) a14.view.ty) (g15 : BufTy.Contents (Elt F) a15.view.ty) (g16 : BufTy.Contents (Elt F) a16.view.ty) (g17 : BufTy.Contents (Elt F) a17.view.ty) (g18 : BufTy.Contents (Elt F) a18.view.ty) (g19 : BufTy.Contents (Elt F) a19.view.ty) : (run c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f10 f11 f12 f13 f14 f15 f16 f17 f18 f19).2.1 = (run c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 g10 g11 g12 g13 g14 g15 g16 g17 g18 g19).2.1 := by
  unfold run; dsimp only; rw [v231_indep c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 g11]

theorem run_L8 (g10 : BufTy.Contents (Elt F) a10.view.ty) (g11 : BufTy.Contents (Elt F) a11.view.ty) (g12 : BufTy.Contents (Elt F) a12.view.ty) (g13 : BufTy.Contents (Elt F) a13.view.ty) (g14 : BufTy.Contents (Elt F) a14.view.ty) (g15 : BufTy.Contents (Elt F) a15.view.ty) (g16 : BufTy.Contents (Elt F) a16.view.ty) (g17 : BufTy.Contents (Elt F) a17.view.ty) (g18 : BufTy.Contents (Elt F) a18.view.ty) (g19 : BufTy.Contents (Elt F) a19.view.ty) : (run c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f10 f11 f12 f13 f14 f15 f16 f17 f18 f19).2.2.1 = (run c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 g10 g11 g12 g13 g14 g15 g16 g17 g18 g19).2.2.1 := by
  unfold run; dsimp only; rw [v239_indep c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 g11]

theorem run_L9 (g10 : BufTy.Contents (Elt F) a10.view.ty) (g11 : BufTy.Contents (Elt F) a11.view.ty) (g12 : BufTy.Contents (Elt F) a12.view.ty) (g13 : BufTy.Contents (Elt F) a13.view.ty) (g14 : BufTy.Contents (Elt F) a14.view.ty) (g15 : BufTy.Contents (Elt F) a15.view.ty) (g16 : BufTy.Contents (Elt F) a16.view.ty) (g17 : BufTy.Contents (Elt F) a17.view.ty) (g18 : BufTy.Contents (Elt F) a18.view.ty) (g19 : BufTy.Contents (Elt F) a19.view.ty) : (run c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f10 f11 f12 f13 f14 f15 f16 f17 f18 f19).2.2.2.1 = (run c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 g10 g11 g12 g13 g14 g15 g16 g17 g18 g19).2.2.2.1 := by
  unfold run; dsimp only; rw [v223_indep c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 g11, v231_indep c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 g11, v239_indep c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 g11]

theorem run_C10 (g10 : BufTy.Contents (Elt F) a10.view.ty) (g11 : BufTy.Contents (Elt F) a11.view.ty) (g12 : BufTy.Contents (Elt F) a12.view.ty) (g13 : BufTy.Contents (Elt F) a13.view.ty) (g14 : BufTy.Contents (Elt F) a14.view.ty) (g15 : BufTy.Contents (Elt F) a15.view.ty) (g16 : BufTy.Contents (Elt F) a16.view.ty) (g17 : BufTy.Contents (Elt F) a17.view.ty) (g18 : BufTy.Contents (Elt F) a18.view.ty) (g19 : BufTy.Contents (Elt F) a19.view.ty) : (run c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f10 f11 f12 f13 f14 f15 f16 f17 f18 f19).2.2.2.2.1 = (run c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 g10 g11 g12 g13 g14 g15 g16 g17 g18 g19).2.2.2.2.1 := by
  exact (stage_indep c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 g11 8).1

theorem run_L6_eq : (run c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f10 f11 f12 f13 f14 f15 f16 f17 f18 f19).1 = [⟨(Rect.unit (s := S2048x128) ![0, 0] S2048x128.size inb_S2048x128_S2048x128_0_0), k0_pay150 (a11.view.readAt (Elt F) (Rect.unit (s := S2048x128) ![0, 0] S2048x128.size inb_S2048x128_S2048x128_0_0).toLoadRect (stage c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 8).2.1)⟩] := rfl

theorem run_L7_eq : (run c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f10 f11 f12 f13 f14 f15 f16 f17 f18 f19).2.1 = [⟨(Rect.unit (s := S2048x128) ![0, 0] S2048x128.size inb_S2048x128_S2048x128_0_0), k0_pay152 (a12.view.readAt (Elt F) (Rect.unit (s := S2048x128) ![0, 0] S2048x128.size inb_S2048x128_S2048x128_0_0).toLoadRect (stage c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 8).2.2.1)⟩] := rfl

theorem run_L8_eq : (run c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f10 f11 f12 f13 f14 f15 f16 f17 f18 f19).2.2.1 = [⟨(Rect.unit (s := S2048x128) ![0, 0] S2048x128.size inb_S2048x128_S2048x128_0_0), k0_pay2 (a13.view.readAt (Elt F) (Rect.unit (s := S2048x128) ![0, 0] S2048x128.size inb_S2048x128_S2048x128_0_0).toLoadRect (stage c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 8).2.2.2)⟩] := rfl

theorem run_L9_eq : (run c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f10 f11 f12 f13 f14 f15 f16 f17 f18 f19).2.2.2.1 = [⟨(Rect.unit (s := S3x128x2048) ![2, 0, 0] S1x128x2048.size inb_S3x128x2048_S1x128x2048_2_0_0), k0_pay3 (a13.view.readAt (Elt F) (Rect.unit (s := S2048x128) ![0, 0] S2048x128.size inb_S2048x128_S2048x128_0_0).toLoadRect (stage c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 8).2.2.2)⟩, ⟨(Rect.unit (s := S3x128x2048) ![1, 0, 0] S1x128x2048.size inb_S3x128x2048_S1x128x2048_1_0_0), k0_pay1 (a12.view.readAt (Elt F) (Rect.unit (s := S2048x128) ![0, 0] S2048x128.size inb_S2048x128_S2048x128_0_0).toLoadRect (stage c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 8).2.2.1)⟩, ⟨(Rect.unit (s := S3x128x2048) ![0, 0, 0] S1x128x2048.size inb_S3x128x2048_S1x128x2048_0_0_0), k0_pay151 (a11.view.readAt (Elt F) (Rect.unit (s := S2048x128) ![0, 0] S2048x128.size inb_S2048x128_S2048x128_0_0).toLoadRect (stage c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 8).2.1)⟩] := rfl

theorem run_C10_eq : (run c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f10 f11 f12 f13 f14 f15 f16 f17 f18 f19).2.2.2.2.1 = (stage c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 8).1 := rfl

attribute [irreducible] run

end Cert.Kernel2Ideal.AttnRun

end
-- ==== Proof.AttnFrame.lean ====
module

public import proofs.«01_k».proof.Proof.AttnRun
public import Idealize.ShloMosaic.Lib.Claim

@[expose] public section

set_option maxRecDepth 16384

noncomputable section

namespace Cert.Kernel2Ideal.AttnFrame

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords)
    (a1 : Memref sig .tc .vmem S2048x128 .f32) (h1 : a1.IsWhole)
    (a2 : Memref sig .tc .vmem S2048x128 .f32) (h2 : a2.IsWhole)
    (a3 : Memref sig .tc .vmem S2048x128 .f32) (h3 : a3.IsWhole)
    (a4 : Memref sig .tc .vmem S2x17x64x128 .f32) (h4 : a4.IsWhole)
    (a5 : Memref sig .tc .vmem S2048x128 .f32) (h5 : a5.IsWhole)
    (a6 : Memref sig .tc .vmem S2048x128 .bf16) (h6 : a6.IsWhole)
    (a7 : Memref sig .tc .vmem S2048x128 .bf16) (h7 : a7.IsWhole)
    (a8 : Memref sig .tc .vmem S2048x128 .bf16) (h8 : a8.IsWhole)
    (a9 : Memref sig .tc .vmem S3x128x2048 .bf16) (h9 : a9.IsWhole)
    (a10 : Memref sig .tc .vmem S2x17x64x128 .f32) (h10 : a10.IsWhole)
    (a11 : Memref sig .tc .vmem S2048x128 .f32) (h11 : a11.IsWhole)
    (a12 : Memref sig .tc .vmem S2048x128 .f32) (h12 : a12.IsWhole)
    (a13 : Memref sig .tc .vmem S2048x128 .f32) (h13 : a13.IsWhole)
    (a14 : Memref sig .tc .vmem S2048x128 .bf16) (h14 : a14.IsWhole)
    (a15 : Memref sig .tc .vmem S2048x128 .bf16) (h15 : a15.IsWhole)
    (a16 : Memref sig .tc .vmem S2048x128 .bf16) (h16 : a16.IsWhole)
    (a17 : Memref sig .tc .vmem S2048x128 .bf16) (h17 : a17.IsWhole)
    (a18 : Memref sig .tc .vmem S16x128x128 .bf16) (h18 : a18.IsWhole)
    (a19 : Memref sig .tc .vmem S16x128x128 .bf16) (h19 : a19.IsWhole)
    (x1 : Vec F S2048x128 .f32) (x2 : Vec F S2048x128 .f32) (x3 : Vec F S2048x128 .f32) (x4 : Vec F S2x17x64x128 .f32) (x5 : Vec F S2048x128 .f32)

/-- The run from scratch buffers at fixed contents. -/
abbrev runJ := AttnRun.run (F := F) c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 a10.view.junk a11.view.junk a12.view.junk a13.view.junk a14.view.junk a15.view.junk a16.view.junk a17.view.junk a18.view.junk a19.view.junk

theorem cover6 : ∀ y : S2048x128.Idx, ∃ pc ∈ (runJ c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5).1, y ∈ pc.1.set :=
  fun y => View.cover_of_tiledL _ S2048x128.size (by sl_kernel_rfl) y

/-- What the body leaves in output 5's buffer. -/
def o6 : Vec F S2048x128 .bf16 := a6.view.read (Elt F) (a6.view.writes (Elt F) a6.view.junk (runJ c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5).1)

theorem cover7 : ∀ y : S2048x128.Idx, ∃ pc ∈ (runJ c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5).2.1, y ∈ pc.1.set :=
  fun y => View.cover_of_tiledL _ S2048x128.size (by sl_kernel_rfl) y

/-- What the body leaves in output 6's buffer. -/
def o7 : Vec F S2048x128 .bf16 := a7.view.read (Elt F) (a7.view.writes (Elt F) a7.view.junk (runJ c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5).2.1)

theorem cover8 : ∀ y : S2048x128.Idx, ∃ pc ∈ (runJ c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5).2.2.1, y ∈ pc.1.set :=
  fun y => View.cover_of_tiledL _ S2048x128.size (by sl_kernel_rfl) y

/-- What the body leaves in output 7's buffer. -/
def o8 : Vec F S2048x128 .bf16 := a8.view.read (Elt F) (a8.view.writes (Elt F) a8.view.junk (runJ c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5).2.2.1)

theorem cover9 : ∀ y : S3x128x2048.Idx, ∃ pc ∈ (runJ c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5).2.2.2.1, y ∈ pc.1.set :=
  fun y => View.cover_of_tiledL _ ![1, 128, 2048] (by sl_kernel_rfl) y

/-- What the body leaves in output 8's buffer. -/
def o9 : Vec F S3x128x2048 .bf16 := a9.view.read (Elt F) (a9.view.writes (Elt F) a9.view.junk (runJ c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5).2.2.2.1)

/-- What the body leaves in the table gradient's buffer. -/
def o10 : Vec F S2x17x64x128 .f32 := a10.view.read (Elt F) (runJ c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5).2.2.2.2.1

/-- The body's triple at given pieces. -/
def Triple (f10 : BufTy.Contents (Elt F) a10.view.ty) (f11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) (f16 : BufTy.Contents (Elt F) a16.view.ty) (f17 : BufTy.Contents (Elt F) a17.view.ty) (f18 : BufTy.Contents (Elt F) a18.view.ty) (f19 : BufTy.Contents (Elt F) a19.view.ty) (L6 L7 L8 : List (View.Piece (Elt F) S2048x128 .bf16)) (L9 : List (View.Piece (Elt F) S3x128x2048 .bf16)) (C10 : BufTy.Contents (Elt F) a10.view.ty) : Prop :=
  ∀ (E : Set ℕ) (K : PUnit → sProp 𝕄),
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ f, (a6.view.loc (c : Thread nD τ) ↦[a6.view.set]{fullShare} f)) ∗ (∃ f, (a7.view.loc (c : Thread nD τ) ↦[a7.view.set]{fullShare} f)) ∗ (∃ f, (a8.view.loc (c : Thread nD τ) ↦[a8.view.set]{fullShare} f)) ∗ (∃ f, (a9.view.loc (c : Thread nD τ) ↦[a9.view.set]{fullShare} f)) ∗ (a10.view.loc (c : Thread nD τ) ↦[a10.view.set]{fullShare} f10) ∗ (a11.view.loc (c : Thread nD τ) ↦[a11.view.set]{fullShare} f11) ∗ (a12.view.loc (c : Thread nD τ) ↦[a12.view.set]{fullShare} f12) ∗ (a13.view.loc (c : Thread nD τ) ↦[a13.view.set]{fullShare} f13) ∗ (a14.view.loc (c : Thread nD τ) ↦[a14.view.set]{fullShare} f14) ∗ (a15.view.loc (c : Thread nD τ) ↦[a15.view.set]{fullShare} f15) ∗ (a16.view.loc (c : Thread nD τ) ↦[a16.view.set]{fullShare} f16) ∗ (a17.view.loc (c : Thread nD τ) ↦[a17.view.set]{fullShare} f17) ∗ (a18.view.loc (c : Thread nD τ) ↦[a18.view.set]{fullShare} f18) ∗ (a19.view.loc (c : Thread nD τ) ↦[a19.view.set]{fullShare} f19)
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ f, (a6.view.loc (c : Thread nD τ) ↦[a6.view.set]{fullShare} a6.view.writes (Elt F) f L6)) ∗ (∃ f, (a7.view.loc (c : Thread nD τ) ↦[a7.view.set]{fullShare} a7.view.writes (Elt F) f L7)) ∗ (∃ f, (a8.view.loc (c : Thread nD τ) ↦[a8.view.set]{fullShare} a8.view.writes (Elt F) f L8)) ∗ (∃ f, (a9.view.loc (c : Thread nD τ) ↦[a9.view.set]{fullShare} a9.view.writes (Elt F) f L9)) ∗ (a10.view.loc (c : Thread nD τ) ↦[a10.view.set]{fullShare} C10) ∗ (∃ f, (a11.view.loc (c : Thread nD τ) ↦[a11.view.set]{fullShare} f)) ∗ (∃ f, (a12.view.loc (c : Thread nD τ) ↦[a12.view.set]{fullShare} f)) ∗ (∃ f, (a13.view.loc (c : Thread nD τ) ↦[a13.view.set]{fullShare} f)) ∗ (∃ f, (a14.view.loc (c : Thread nD τ) ↦[a14.view.set]{fullShare} f)) ∗ (∃ f, (a15.view.loc (c : Thread nD τ) ↦[a15.view.set]{fullShare} f)) ∗ (∃ f, (a16.view.loc (c : Thread nD τ) ↦[a16.view.set]{fullShare} f)) ∗ (∃ f, (a17.view.loc (c : Thread nD τ) ↦[a17.view.set]{fullShare} f)) ∗ (∃ f, (a18.view.loc (c : Thread nD τ) ↦[a18.view.set]{fullShare} f)) ∗ (∃ f, (a19.view.loc (c : Thread nD τ) ↦[a19.view.set]{fullShare} f))) -∗ K ⟨⟩))
      ⊢ wp frame (wpE (defs₀ (F := F)) Variants.none c none) E (cc0_attn_bwd i a1 h1 a2 h2 a3 h3 a4 h4 a5 h5 a6 h6 a7 h7 a8 h8 a9 h9 a10 h10 a11 h11 a12 h12 a13 h13 a14 h14 a15 h15 a16 h16 a17 h17 a18 h18 a19 h19) K

theorem triple_f (f10 : BufTy.Contents (Elt F) a10.view.ty) (f11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) (f16 : BufTy.Contents (Elt F) a16.view.ty) (f17 : BufTy.Contents (Elt F) a17.view.ty) (f18 : BufTy.Contents (Elt F) a18.view.ty) (f19 : BufTy.Contents (Elt F) a19.view.ty) (r : _) (hr : r = AttnRun.run c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f10 f11 f12 f13 f14 f15 f16 f17 f18 f19) :
    Triple c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f10 f11 f12 f13 f14 f15 f16 f17 f18 f19 r.1 r.2.1 r.2.2.1 r.2.2.2.1 r.2.2.2.2.1 :=
  by subst hr; exact (AttnRun.run c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f10 f11 f12 f13 f14 f15 f16 f17 f18 f19).2.2.2.2.2

theorem Triple.congr (f10 : BufTy.Contents (Elt F) a10.view.ty) (f11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) (f16 : BufTy.Contents (Elt F) a16.view.ty) (f17 : BufTy.Contents (Elt F) a17.view.ty) (f18 : BufTy.Contents (Elt F) a18.view.ty) (f19 : BufTy.Contents (Elt F) a19.view.ty) {L6 L7 L8 K6 K7 K8 : List (View.Piece (Elt F) S2048x128 .bf16)} {L9 K9 : List (View.Piece (Elt F) S3x128x2048 .bf16)} {C10 K10 : BufTy.Contents (Elt F) a10.view.ty}
    (e6 : L6 = K6) (e7 : L7 = K7) (e8 : L8 = K8) (e9 : L9 = K9) (e10 : C10 = K10)
    (h : Triple c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f10 f11 f12 f13 f14 f15 f16 f17 f18 f19 L6 L7 L8 L9 C10) : Triple c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f10 f11 f12 f13 f14 f15 f16 f17 f18 f19 K6 K7 K8 K9 K10 := by
  subst e6 e7 e8 e9 e10; exact h

theorem triple_J (f10 : BufTy.Contents (Elt F) a10.view.ty) (f11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) (f16 : BufTy.Contents (Elt F) a16.view.ty) (f17 : BufTy.Contents (Elt F) a17.view.ty) (f18 : BufTy.Contents (Elt F) a18.view.ty) (f19 : BufTy.Contents (Elt F) a19.view.ty) (r : _) (hr : r = runJ c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5) :
    Triple c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f10 f11 f12 f13 f14 f15 f16 f17 f18 f19 r.1 r.2.1 r.2.2.1 r.2.2.2.1 r.2.2.2.2.1 := by
  subst hr; exact Triple.congr c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f10 f11 f12 f13 f14 f15 f16 f17 f18 f19 (by apply AttnRun.run_L6) (by apply AttnRun.run_L7) (by apply AttnRun.run_L8) (by apply AttnRun.run_L9) (by apply AttnRun.run_C10) (triple_f c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f10 f11 f12 f13 f14 f15 f16 f17 f18 f19 _ rfl)

set_option maxHeartbeats 1600000 in
/-- The body's triple: the inputs stay, the outputs end at values that depend on the inputs' blocks alone. -/
theorem body_run (E : Set ℕ) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ f, (a6.view.loc (c : Thread nD τ) ↦[a6.view.set]{fullShare} f)) ∗ (∃ f, (a7.view.loc (c : Thread nD τ) ↦[a7.view.set]{fullShare} f)) ∗ (∃ f, (a8.view.loc (c : Thread nD τ) ↦[a8.view.set]{fullShare} f)) ∗ (∃ f, (a9.view.loc (c : Thread nD τ) ↦[a9.view.set]{fullShare} f)) ∗ (∃ f, (a10.view.loc (c : Thread nD τ) ↦[a10.view.set]{fullShare} f)) ∗ (∃ f, (a11.view.loc (c : Thread nD τ) ↦[a11.view.set]{fullShare} f)) ∗ (∃ f, (a12.view.loc (c : Thread nD τ) ↦[a12.view.set]{fullShare} f)) ∗ (∃ f, (a13.view.loc (c : Thread nD τ) ↦[a13.view.set]{fullShare} f)) ∗ (∃ f, (a14.view.loc (c : Thread nD τ) ↦[a14.view.set]{fullShare} f)) ∗ (∃ f, (a15.view.loc (c : Thread nD τ) ↦[a15.view.set]{fullShare} f)) ∗ (∃ f, (a16.view.loc (c : Thread nD τ) ↦[a16.view.set]{fullShare} f)) ∗ (∃ f, (a17.view.loc (c : Thread nD τ) ↦[a17.view.set]{fullShare} f)) ∗ (∃ f, (a18.view.loc (c : Thread nD τ) ↦[a18.view.set]{fullShare} f)) ∗ (∃ f, (a19.view.loc (c : Thread nD τ) ↦[a19.view.set]{fullShare} f))
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (o6 c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5) ∗ owns (c : Thread nD τ) a7 fullShare (o7 c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5) ∗ owns (c : Thread nD τ) a8 fullShare (o8 c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5) ∗ owns (c : Thread nD τ) a9 fullShare (o9 c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5) ∗ owns (c : Thread nD τ) a10 fullShare (o10 c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5) ∗ (∃ f, (a11.view.loc (c : Thread nD τ) ↦[a11.view.set]{fullShare} f)) ∗ (∃ f, (a12.view.loc (c : Thread nD τ) ↦[a12.view.set]{fullShare} f)) ∗ (∃ f, (a13.view.loc (c : Thread nD τ) ↦[a13.view.set]{fullShare} f)) ∗ (∃ f, (a14.view.loc (c : Thread nD τ) ↦[a14.view.set]{fullShare} f)) ∗ (∃ f, (a15.view.loc (c : Thread nD τ) ↦[a15.view.set]{fullShare} f)) ∗ (∃ f, (a16.view.loc (c : Thread nD τ) ↦[a16.view.set]{fullShare} f)) ∗ (∃ f, (a17.view.loc (c : Thread nD τ) ↦[a17.view.set]{fullShare} f)) ∗ (∃ f, (a18.view.loc (c : Thread nD τ) ↦[a18.view.set]{fullShare} f)) ∗ (∃ f, (a19.view.loc (c : Thread nD τ) ↦[a19.view.set]{fullShare} f))) -∗ K ⟨⟩))
      ⊢ wp frame (wpE (defs₀ (F := F)) Variants.none c none) E (cc0_attn_bwd i a1 h1 a2 h2 a3 h3 a4 h4 a5 h5 a6 h6 a7 h7 a8 h8 a9 h9 a10 h10 a11 h11 a12 h12 a13 h13 a14 h14 a15 h15 a16 h16 a17 h17 a18 h18 a19 h19) K := by
  iintro ⟨H1, H2, H3, H4, H5, H6, H7, H8, H9, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, Hk⟩
  have h := triple_J c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f10 f11 f12 f13 f14 f15 f16 f17 f18 f19 _ rfl E K
  iapply h
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H1, H2, H3, H4, H5, ⟨%f6, H6⟩, ⟨%f7, H7⟩, ⟨%f8, H8⟩, ⟨%f9, H9⟩, H10, H11, H12, H13, H14, H15, H16, H17, H18, H19⟩
  iapply Hk
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; unfold o6
    exact View.read_writes_of_cover a6.view _ a6.view a6.view.junk _ (by apply cover6)
  isplitl [H7]
  · unfold owns; iexists _; isplitr
    swap; · iexact H7
    ipureintro; unfold o7
    exact View.read_writes_of_cover a7.view _ a7.view a7.view.junk _ (by apply cover7)
  isplitl [H8]
  · unfold owns; iexists _; isplitr
    swap; · iexact H8
    ipureintro; unfold o8
    exact View.read_writes_of_cover a8.view _ a8.view a8.view.junk _ (by apply cover8)
  isplitl [H9]
  · unfold owns; iexists _; isplitr
    swap; · iexact H9
    ipureintro; unfold o9
    exact View.read_writes_of_cover a9.view _ a9.view a9.view.junk _ (by apply cover9)
  isplitl [H10]
  · unfold owns; iexists _; isplitr
    swap; · iexact H10
    ipureintro; unfold o10; rfl
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

end Body

/-- A memref owned at some value is held at some contents, -/
theorem raw {s : Shape} {e : EltTy} (c : Dev nD) (M : Memref sig .tc .vmem s e) (d) :
    (owns (c : Thread nD τ) M fullShare d : sProp 𝕄) ⊢ iprop(∃ f, (M.view.loc (c : Thread nD τ) ↦[M.view.set]{fullShare} f)) := by
  unfold owns; iintro ⟨%f, %hf, H⟩; iexists f; iexact H

/-- and the other way. -/
theorem unraw {s : Shape} {e : EltTy} (c : Dev nD) (M : Memref sig .tc .vmem s e) :
    (iprop(∃ f, (M.view.loc (c : Thread nD τ) ↦[M.view.set]{fullShare} f)) : sProp 𝕄) ⊢ iprop(∃ d, owns (c : Thread nD τ) M fullShare d) := by
  unfold owns; iintro ⟨%f, H⟩; iexists _; iexists f; isplitr
  · ipureintro; rfl
  iexact H

variable (m : (ℓ : Loc nD τ sig) → Buf (Elt F) ℓ) (ρ : Dev nD → PrngReg)

abbrev ms0 (t : Fin cfg0.N) : Memref sig .tc .vmem S2048x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x17x64x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S3x128x2048 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S2x17x64x128 .f32 := win0_9.stage (cfg0.slots t 9)
abbrev hs9 (t : Fin cfg0.N) : (ms9 t).IsWhole := hstage0_9 ((cfg0.slots t 9).cast nbuf0_9)
abbrev sc0 : Memref sig .tc .vmem S2048x128 .f32 := Memref.whole cc0_scratch0
abbrev sc1 : Memref sig .tc .vmem S2048x128 .f32 := Memref.whole cc0_scratch1
abbrev sc2 : Memref sig .tc .vmem S2048x128 .f32 := Memref.whole cc0_scratch2
abbrev sc3 : Memref sig .tc .vmem S2048x128 .bf16 := Memref.whole cc0_scratch3
abbrev sc4 : Memref sig .tc .vmem S2048x128 .bf16 := Memref.whole cc0_scratch4
abbrev sc5 : Memref sig .tc .vmem S2048x128 .bf16 := Memref.whole cc0_scratch5
abbrev sc6 : Memref sig .tc .vmem S2048x128 .bf16 := Memref.whole cc0_scratch6
abbrev sc7 : Memref sig .tc .vmem S16x128x128 .bf16 := Memref.whole cc0_scratch7
abbrev sc8 : Memref sig .tc .vmem S16x128x128 .bf16 := Memref.whole cc0_scratch8

theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d)) ∗ (∃ r, prngReg c r)) := by
  unfold Pipeline.ΦA; rw [scopedRest0_eq]; simp only [sc0, sc1, sc2, sc3, sc4, sc5, sc6, sc7, sc8, owns_whole]; try rfl

/-- Output 5 after the body at point `t`. -/
def left5 (c : Dev nD) (t : Fin cfg0.N) : Vec F S2048x128 .bf16 := o6 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) (iblk m c 0 t) (iblk m c 1 t) (iblk m c 2 t) (iblk m c 3 t) (iblk m c 4 t)
/-- Output 6 after the body at point `t`. -/
def left6 (c : Dev nD) (t : Fin cfg0.N) : Vec F S2048x128 .bf16 := o7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) (iblk m c 0 t) (iblk m c 1 t) (iblk m c 2 t) (iblk m c 3 t) (iblk m c 4 t)
/-- Output 7 after the body at point `t`. -/
def left7 (c : Dev nD) (t : Fin cfg0.N) : Vec F S2048x128 .bf16 := o8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) (iblk m c 0 t) (iblk m c 1 t) (iblk m c 2 t) (iblk m c 3 t) (iblk m c 4 t)
/-- Output 8 after the body at point `t`. -/
def left8 (c : Dev nD) (t : Fin cfg0.N) : Vec F S3x128x2048 .bf16 := o9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) (iblk m c 0 t) (iblk m c 1 t) (iblk m c 2 t) (iblk m c 3 t) (iblk m c 4 t)
/-- Output 9 after the body at point `t`. -/
def left9 (c : Dev nD) (t : Fin cfg0.N) : Vec F S2x17x64x128 .f32 := o10 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) (iblk m c 0 t) (iblk m c 1 t) (iblk m c 2 t) (iblk m c 3 t) (iblk m c 4 t)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left5 m c t
    | ⟨6, _⟩ => left6 m c t
    | ⟨7, _⟩ => left7 m c t
    | ⟨8, _⟩ => left8 m c t
    | ⟨9, _⟩ => left9 m c t
    | ⟨_ + 10, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = left5 m c t := by dsimp only [dats]
theorem after6 (c : Dev nD) (t : Fin cfg0.N) : (dats m 0 c).after 6 t = left6 m c t := by dsimp only [dats]
theorem after7 (c : Dev nD) (t : Fin cfg0.N) : (dats m 0 c).after 7 t = left7 m c t := by dsimp only [dats]
theorem after8 (c : Dev nD) (t : Fin cfg0.N) : (dats m 0 c).after 8 t = left8 m c t := by dsimp only [dats]
theorem after9 (c : Dev nD) (t : Fin cfg0.N) : (dats m 0 c).after 9 t = left9 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  rw [show (dats m 0 c).Φ t.castSucc = Pipeline.ΦA spec0 c from rfl, PhiA0_eq]
  iintro ⟨⟨⟨⟨%e0, HS0⟩, ⟨%e1, HS1⟩, ⟨%e2, HS2⟩, ⟨%e3, HS3⟩, ⟨%e4, HS4⟩, ⟨%e5, HS5⟩, ⟨%e6, HS6⟩, ⟨%e7, HS7⟩, ⟨%e8, HS8⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iapply raw; iexact H5
  isplitl [H6]; · iapply raw; iexact H6
  isplitl [H7]; · iapply raw; iexact H7
  isplitl [H8]; · iapply raw; iexact H8
  isplitl [H9]; · iapply raw; iexact H9
  isplitl [HS0]; · iapply raw; iexact HS0
  isplitl [HS1]; · iapply raw; iexact HS1
  isplitl [HS2]; · iapply raw; iexact HS2
  isplitl [HS3]; · iapply raw; iexact HS3
  isplitl [HS4]; · iapply raw; iexact HS4
  isplitl [HS5]; · iapply raw; iexact HS5
  isplitl [HS6]; · iapply raw; iexact HS6
  isplitl [HS7]; · iapply raw; iexact HS7
  isplitl [HS8]; · iapply raw; iexact HS8
  iintro ⟨H0, H1, H2, H3, H4, H5, H6, H7, H8, H9, HS0, HS1, HS2, HS3, HS4, HS5, HS6, HS7, HS8⟩
  isplitl [HS0 HS1 HS2 HS3 HS4 HS5 HS6 HS7 HS8 Hg]
  · isplitl [HS0 HS1 HS2 HS3 HS4 HS5 HS6 HS7 HS8]
    · isplitl [HS0]; · iapply unraw; iexact HS0
      isplitl [HS1]; · iapply unraw; iexact HS1
      isplitl [HS2]; · iapply unraw; iexact HS2
      isplitl [HS3]; · iapply unraw; iexact HS3
      isplitl [HS4]; · iapply unraw; iexact HS4
      isplitl [HS5]; · iapply unraw; iexact HS5
      isplitl [HS6]; · iapply unraw; iexact HS6
      isplitl [HS7]; · iapply unraw; iexact HS7
      iapply unraw; iexact HS8
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame at any values: the arguments end as they were, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel2Ideal.AttnFrame

end
-- ==== Proof.AttnMath.lean ====
/-
  The gradients of a neighbourhood attention on a 32 by 64 grid, as real numbers, and the two ways of writing a row of
  them: the kernel's, over the softmax's probabilities, and the chain rule's, through the quotient of exponentials.
-/
module

public import proofs.«01_k».proof.Proof.Reals

@[expose] public section

noncomputable section

open Idealize.ShloMosaic Cert.Reals

namespace Cert.Attn

/-! The window: the first row and column a query attends, clamped to the grid. -/

def rowLo (r : ℕ) : ℕ := min (r - 4) 24
def colLo (c : ℕ) : ℕ := min (c - 8) 48

/-- Key `y` lies in the window of query `t`. -/
def Inside (t y : ℕ) : Prop :=
  (rowLo (t / 64) ≤ y / 64 ∧ y / 64 < rowLo (t / 64) + 8) ∧ colLo (t % 64) ≤ y % 64 ∧ y % 64 < colLo (t % 64) + 16

instance (t y : ℕ) : Decidable (Inside t y) := by unfold Inside; infer_instance

theorem inside_self {t : ℕ} (h : t < 2048) : Inside t t := by
  unfold Inside rowLo colLo; omega

/-- The row and the column of the relative-position table for query `t` and key `y`. -/
def relRow (t y : ℕ) : Fin 15 := ⟨min (y / 64 + 7 - t / 64) 14, by omega⟩
def relCol (t y : ℕ) : Fin 31 := ⟨min (y % 64 + 15 - t % 64) 30, by omega⟩

/-- The attention's arrays by token, head and lane: queries, keys, values, the result's gradient; and the table. -/
structure Data where
  q : Fin 2048 → Fin 16 → Fin 64 → ℝ
  k : Fin 2048 → Fin 16 → Fin 64 → ℝ
  v : Fin 2048 → Fin 16 → Fin 64 → ℝ
  o : Fin 2048 → Fin 16 → Fin 64 → ℝ
  b : Fin 16 → Fin 15 → Fin 31 → ℝ

namespace Data

variable (D : Data) (h : Fin 16)

def score (t y : Fin 2048) : ℝ := (∑ d, D.q t h d * D.k y h d) * (1 / 8) + D.b h (relRow t y) (relCol t y)
def wt (t y : Fin 2048) : ℝ := if Inside t y then Real.exp (D.score h t y) else 0
def den (t : Fin 2048) : ℝ := ∑ y, D.wt h t y
def pr (t y : Fin 2048) : ℝ := D.wt h t y / D.den h t
def dp (t y : Fin 2048) : ℝ := ∑ d, D.o t h d * D.v y h d
def mean (t : Fin 2048) : ℝ := ∑ y, D.dp h t y * D.pr h t y
def ds (t y : Fin 2048) : ℝ := D.pr h t y * (D.dp h t y - D.mean h t)
def dq (t : Fin 2048) (d : Fin 64) : ℝ := ∑ y, D.ds h t y * (1 / 8) * D.k y h d
def dk (y : Fin 2048) (d : Fin 64) : ℝ := ∑ t, D.ds h t y * (1 / 8) * D.q t h d
def dv (y : Fin 2048) (d : Fin 64) : ℝ := ∑ t, D.pr h t y * D.o t h d

theorem pr_outside {t y : Fin 2048} (hn : ¬Inside t y) : D.pr h t y = 0 := by
  unfold pr wt; rw [if_neg hn, zero_div]
theorem ds_outside {t y : Fin 2048} (hn : ¬Inside t y) : D.ds h t y = 0 := by
  unfold ds; rw [pr_outside D h hn, zero_mul]

end Data

/-! One row of weights. -/

/-- The row's entries: the scores inside the window, minus infinity outside. -/
def masked {n : ℕ} (I : Fin n → Prop) [DecidablePred I] (z : Fin n → ℝ) (j : Fin n) : EReal :=
  if I j then ((z j : ℝ) : EReal) else ⊥

def rowMax {n : ℕ} (z : Fin n → EReal) : EReal := Finset.univ.fold max (Ideal.ofBits .f32 0xFF800000#32) z

/-- The softmax of a row as the kernel writes it. -/
def soft {n : ℕ} (z : Fin n → EReal) (j : Fin n) : EReal :=
  Ideal.div (Ideal.exp (z j - rowMax z)) (∑ x, Ideal.exp (z x - rowMax z))

/-- The softmax's gradient as the kernel writes it. -/
def softGrad {n : ℕ} (p dp : Fin n → EReal) (j : Fin n) : EReal := p j * (dp j - ∑ x, dp x * p x)

theorem lit_ninf : Ideal.ofBits .f32 0xFF800000#32 = ⊥ := by
  simp [Ideal.ofBits, Ideal.ieee]
theorem lit_eighth : Ideal.ofBits .f32 0x3E000000#32 = ((1 / 8 : ℝ) : EReal) := by
  simp [Ideal.ofBits, Ideal.ieee, -EReal.coe_mul]; norm_num

section row

variable {n : ℕ} (I : Fin n → Prop) [DecidablePred I] (z : Fin n → ℝ)

theorem rowMax_real (hI : ∃ j, I j) : ∃ M : ℝ, rowMax (masked I z) = (M : EReal) := by
  obtain ⟨j, hj⟩ := hI
  have e : rowMax (masked I z) = Finset.univ.sup (masked I z) := by unfold rowMax; rw [lit_ninf]; rfl
  obtain ⟨i, -, hi⟩ := Finset.exists_mem_eq_sup Finset.univ ⟨j, Finset.mem_univ j⟩ (masked I z)
  have hle : masked I z j ≤ masked I z i := hi ▸ Finset.le_sup (f := masked I z) (Finset.mem_univ j)
  rw [e, hi]
  unfold masked at hle ⊢
  rw [if_pos hj] at hle
  split_ifs at hle ⊢ with h
  · exact ⟨_, rfl⟩
  · exact absurd hle (by simp)

/-- The unnormalised weights of a row. -/
def weight (j : Fin n) : ℝ := if I j then Real.exp (z j) else 0

theorem weight_nonneg (j : Fin n) : 0 ≤ weight I z j := by
  unfold weight; split_ifs
  · exact (Real.exp_pos _).le
  · exact le_rfl

theorem weight_sum_pos (hI : ∃ j, I j) : 0 < ∑ j, weight I z j := by
  obtain ⟨j, hj⟩ := hI
  refine Finset.sum_pos' (fun i _ => weight_nonneg I z i) ⟨j, Finset.mem_univ j, ?_⟩
  unfold weight; rw [if_pos hj]; exact Real.exp_pos _

theorem exp_masked (M : ℝ) (j : Fin n) : Ideal.exp (masked I z j - (M : EReal))
    = ((weight I z j * Real.exp (-M) : ℝ) : EReal) := by
  unfold masked weight
  split_ifs
  · rw [sub', Ideal.exp_coe, ← Real.exp_add, sub_eq_add_neg]
  · rw [EReal.bot_sub, Ideal.exp_bot, zero_mul, EReal.coe_zero]

theorem soft_masked (hI : ∃ j, I j) (j : Fin n) : soft (masked I z) j
    = ((weight I z j / ∑ x, weight I z x : ℝ) : EReal) := by
  obtain ⟨M, hM⟩ := rowMax_real I z hI
  have hS := weight_sum_pos I z hI
  have hE := Real.exp_pos (-M)
  unfold soft
  simp only [hM, exp_masked, sum', ← Finset.sum_mul]
  rw [div' _ (mul_pos hS hE).ne', mul_div_mul_right _ _ hE.ne']

theorem softGrad_coe (p dp : Fin n → ℝ) (j : Fin n) :
    softGrad (fun x => (p x : EReal)) (fun x => (dp x : EReal)) j = ((p j * (dp j - ∑ x, dp x * p x) : ℝ) : EReal) := by
  unfold softGrad
  simp only [mul', sum', sub']

/-- The chain rule's gradient of a row of scores, `e` the exponentials: through the quotient, once through its
    numerator and once through its denominator. -/
def chainGrad (e dp : Fin n → EReal) (j : Fin n) : EReal :=
  (Ideal.div (dp j) (∑ x, e x) + ∑ _u : Fin 1, -∑ x, dp x * Ideal.div 1 ((∑ y, e y) * ∑ y, e y) * e x) * e j

theorem chainGrad_coe (w dp : Fin n → ℝ) (E : ℝ) (hE : 0 < E) (hS : 0 < ∑ x, w x) (j : Fin n) :
    chainGrad (fun x => ((w x * E : ℝ) : EReal)) (fun x => (dp x : EReal)) j
      = ((w j / (∑ x, w x) * (dp j - ∑ x, dp x * (w x / ∑ y, w y)) : ℝ) : EReal) := by
  have hT := (mul_pos hS hE).ne'
  unfold chainGrad
  simp only [sum', ← Finset.sum_mul, mul', div' _ hT, ← EReal.coe_one, div' _ (mul_ne_zero hT hT), neg', add',
    Finset.sum_const, Finset.card_univ, Fintype.card_fin, one_smul]
  refine congrArg _ ?_
  generalize hw : (∑ x, w x) = S at *
  have e1 : (∑ x, dp x * (1 / (S * E * (S * E))) * (w x * E)) = (∑ x, dp x * w x) * (1 / (S * S * E)) := by
    rw [Finset.sum_mul]; refine Finset.sum_congr rfl fun x _ => ?_; field_simp
  have e2 : (∑ x, dp x * (w x / S)) = (∑ x, dp x * w x) * (1 / S) := by
    rw [Finset.sum_mul]; refine Finset.sum_congr rfl fun x _ => ?_; field_simp
  rw [e1, e2]
  field_simp
  ring

end row

/-- A sum over all keys of a function that vanishes outside a band is the sum over the band. -/
theorem sum_band {n : ℕ} (b : ℕ) (hb : b + n ≤ 2048) (f : Fin 2048 → ℝ)
    (hf : ∀ y : Fin 2048, ¬(b ≤ y.val ∧ y.val < b + n) → f y = 0) :
    (∑ j : Fin n, f ⟨b + j.val, by have := j.isLt; omega⟩) = ∑ y, f y := by
  refine Fintype.sum_of_injective (fun j : Fin n => (⟨b + j.val, by have := j.isLt; omega⟩ : Fin 2048))
    (fun i j h => Fin.ext (by have := congrArg Fin.val h; dsimp only at this; omega)) _ _ (fun y hy => hf y ?_) (fun _ => rfl)
  rintro ⟨h1, h2⟩
  exact hy ⟨⟨y.val - b, by omega⟩, Fin.ext (by dsimp only; omega)⟩

/-! The band of keys a block of four grid rows loads: twelve rows from `bandLo`. -/

def bandLo (m : ℕ) : ℕ := 64 * min (4 * m - 4) 20

theorem bandLo_le {m : ℕ} : bandLo m + 768 ≤ 2048 := by unfold bandLo; omega

theorem inside_band {m x : ℕ} (hx : x < 256) (hm : m < 8) {y : ℕ} (h : Inside (256 * m + x) y) :
    bandLo m ≤ y ∧ y < bandLo m + 768 := by
  unfold Inside rowLo at h; unfold bandLo; omega

end Cert.Attn

end
-- ==== Proof.AttnPay.lean ====
/-
  The kernel's block computations on real arguments: one block of 256 queries against its band of 768 keys.
-/
module
public import proofs.«01_k».proof.Proof.Gen.Kernel2Ideal.Skeleton
public import proofs.«01_k».proof.Proof.AttnMath
public import Idealize.ShloMosaic.Lib.Pointwise
@[expose] public section
set_option maxRecDepth 16384
noncomputable section
open Idealize.ShloMosaic Idealize.ShloMosaic.TcCoe
namespace Cert.Kernel2Ideal.AttnPay
open Cert.Kernel2Ideal Cert.Kernel2Ideal.Gen
open Cert.Attn Cert.Reals

/-- Query `x` of block `m`, and key `j` of its band. -/
def qu (m : Fin 8) (x : Fin 256) : Fin 2048 := ⟨256 * m.val + x.val, by omega⟩
def ke (m : Fin 8) (j : Fin 768) : Fin 2048 := ⟨bandLo m.val + j.val, by have := bandLo_le (m := m.val); omega⟩

/-- The bias entry, minus infinity outside the window. -/
def biasAt (D : Data) (h : Fin 16) (t y : Fin 2048) : EReal :=
  if Inside t y then ((D.b h (relRow t y) (relCol t y) : ℝ) : EReal) else ⊥

/-! ### Sums over the queries, block by block -/

/-- The sum over the queries of the first `n` blocks. -/
def upto (f : Fin 2048 → ℝ) (n : ℕ) : ℝ := ∑ t, if t.val < 256 * n then f t else 0

theorem upto_zero (f : Fin 2048 → ℝ) : upto f 0 = 0 :=
  Finset.sum_eq_zero fun t _ => if_neg (by omega)

theorem upto_eight (f : Fin 2048 → ℝ) : upto f 8 = ∑ t, f t :=
  Finset.sum_congr rfl fun t _ => if_pos (by omega)

theorem upto_succ (f : Fin 2048 → ℝ) (m : Fin 8) : upto f (m.val + 1) = upto f m.val + ∑ x, f (qu m x) := by
  have e : (∑ x, f (qu m x)) = ∑ t : Fin 2048, if 256 * m.val ≤ t.val ∧ t.val < 256 * m.val + 256 then f t else 0 := by
    rw [← sum_band (n := 256) (256 * m.val) (by omega) _ (fun y hy => if_neg hy)]
    refine Finset.sum_congr rfl fun x _ => ?_
    rw [if_pos ⟨by dsimp only; omega, by dsimp only; omega⟩]
    rfl
  rw [e]
  unfold upto
  rw [← Finset.sum_add_distrib]
  refine Finset.sum_congr rfl fun t _ => ?_
  by_cases h1 : t.val < 256 * m.val
  · rw [if_pos (by omega), if_pos h1, if_neg (by omega), add_zero]
  · by_cases h2 : t.val < 256 * m.val + 256
    · rw [if_pos (by omega), if_neg h1, if_pos ⟨by omega, h2⟩, zero_add]
    · rw [if_neg (by omega), if_neg h1, if_neg (by omega), add_zero]

/-! ### The band's keys, in six pieces of 128 -/

variable (a0 a1 a2 a3 a4 a5 : Vec Ideal S1x64x128 .bf16)

/-- Column `j` of the six pieces one after the other. -/
def pick (d : Fin 64) (j : Fin 768) : EReal :=
  if h : j.val < 128 then a0 (ix3 0 d ⟨j.val, h⟩)
  else if h : j.val - 128 < 128 then a1 (ix3 0 d ⟨j.val - 128, h⟩)
  else if h : j.val - 128 - 128 < 128 then a2 (ix3 0 d ⟨j.val - 128 - 128, h⟩)
  else if h : j.val - 128 - 128 - 128 < 128 then a3 (ix3 0 d ⟨j.val - 128 - 128 - 128, h⟩)
  else if h : j.val - 128 - 128 - 128 - 128 < 128 then a4 (ix3 0 d ⟨j.val - 128 - 128 - 128 - 128, h⟩)
  else a5 (ix3 0 d ⟨j.val - 128 - 128 - 128 - 128 - 128, by omega⟩)

/-- The six pieces hold the columns of `g`. -/
structure Holds (g : Fin 64 → Fin 768 → EReal) : Prop where
  h0 : ∀ d (l : Fin 128), a0 (ix3 0 d l) = g d ⟨l.val, by omega⟩
  h1 : ∀ d (l : Fin 128), a1 (ix3 0 d l) = g d ⟨128 + l.val, by omega⟩
  h2 : ∀ d (l : Fin 128), a2 (ix3 0 d l) = g d ⟨256 + l.val, by omega⟩
  h3 : ∀ d (l : Fin 128), a3 (ix3 0 d l) = g d ⟨384 + l.val, by omega⟩
  h4 : ∀ d (l : Fin 128), a4 (ix3 0 d l) = g d ⟨512 + l.val, by omega⟩
  h5 : ∀ d (l : Fin 128), a5 (ix3 0 d l) = g d ⟨640 + l.val, by omega⟩

variable {a0 a1 a2 a3 a4 a5}

theorem Holds.pick {g : Fin 64 → Fin 768 → EReal} (H : Holds a0 a1 a2 a3 a4 a5 g) (d : Fin 64) (j : Fin 768) :
    pick a0 a1 a2 a3 a4 a5 d j = g d j := by
  unfold AttnPay.pick
  split_ifs
  · rw [H.h0]
  · rw [H.h1]; exact congrArg _ (Fin.ext (by dsimp only; omega))
  · rw [H.h2]; exact congrArg _ (Fin.ext (by dsimp only; omega))
  · rw [H.h3]; exact congrArg _ (Fin.ext (by dsimp only; omega))
  · rw [H.h4]; exact congrArg _ (Fin.ext (by dsimp only; omega))
  · rw [H.h5]; exact congrArg _ (Fin.ext (by dsimp only; omega))

/-! ### What the printed computations are -/

variable (T P S : FVec Ideal S256x768 .f32) (q o : Vec Ideal S256x64 .bf16) (k : Vec Ideal S768x64 .bf16) (acc : Vec Ideal S768x64 .f32)

/-- A row of biased scores. -/
def scores (T : FVec Ideal S256x768 .f32) (q : Vec Ideal S256x64 .bf16) (K : Fin 64 → Fin 768 → EReal) (x : Fin 256) (j : Fin 768) : EReal :=
  (∑ d, q (ix2 x d) * K d j) * Ideal.ofBits .f32 0x3E000000#32 + T (ix2 x j)

theorem pay20_apply (x : Fin 256) (j : Fin 768) : k0_pay20 (F := Ideal) T q (shapeCast S64x128 a0 (by decide))
    (shapeCast S64x128 a1 (by decide)) (shapeCast S64x128 a2 (by decide)) (shapeCast S64x128 a3 (by decide))
    (shapeCast S64x128 a4 (by decide)) a5 (ix2 x j) = soft (scores T q (pick a0 a1 a2 a3 a4 a5) x) j := by
  unfold soft rowMax scores pick
  pointwise [k0_pay20]

theorem pay65_apply (x : Fin 256) (j : Fin 768) :
    k0_pay65 (F := Ideal) T q a0 a1 a2 a3 a4 a5 (ix2 x j) = scores T q (pick a0 a1 a2 a3 a4 a5) x j := by
  unfold scores pick
  pointwise [k0_pay65]

theorem pay66_apply (x : Fin 256) :
    k0_pay66 (F := Ideal) T q a0 a1 a2 a3 a4 a5 (ix2 x 0) = rowMax (scores T q (pick a0 a1 a2 a3 a4 a5) x) := by
  unfold rowMax scores pick
  pointwise [k0_pay66, k0_pay65]

theorem pay67_apply (M : FVec Ideal S256x1 .f32) (x : Fin 256) (j : Fin 768) (hM : M (ix2 x 0) = rowMax fun j => T (ix2 x j)) :
    k0_pay67 (F := Ideal) T M (ix2 x j) = soft (fun j => T (ix2 x j)) j := by
  unfold soft
  rw [← hM]
  pointwise [k0_pay67]

/-- A row of products of the cotangent with the band's values. -/
def prods (o : Vec Ideal S256x64 .bf16) (V : Fin 64 → Fin 768 → EReal) (x : Fin 256) (j : Fin 768) : EReal := ∑ d, o (ix2 x d) * V d j

theorem pay22_apply (x : Fin 256) (j : Fin 768) : k0_pay22 (F := Ideal) P o (k0_pay21 a0) a1 a2 a3 a4 a5 (ix2 x j)
    = softGrad (fun j => P (ix2 x j)) (prods o (pick a0 a1 a2 a3 a4 a5) x) j := by
  unfold softGrad prods pick
  pointwise [k0_pay22, k0_pay21]

theorem pay71_apply (x : Fin 256) (j : Fin 768) :
    k0_pay71 (F := Ideal) P o (k0_pay68 a0) (k0_pay69 a1) (k0_pay70 a2) a3 a4 a5 (ix2 x j)
    = softGrad (fun j => P (ix2 x j)) (prods o (pick a0 a1 a2 a3 a4 a5) x) j := by
  unfold softGrad prods pick
  pointwise [k0_pay71, k0_pay68, k0_pay69, k0_pay70]

theorem pay53_apply (x : Fin 256) (d : Fin 64) : k0_pay53 (F := Ideal) S k (ix2 x d)
    = ∑ j, S (ix2 x j) * Ideal.ofBits .f32 0x3E000000#32 * k (ix2 j d) := by
  pointwise [k0_pay53, k0_pay52]

theorem pay101_apply (x : Fin 256) (d : Fin 64) : k0_pay101 (F := Ideal) (k0_pay100 S k) (ix2 x d)
    = ∑ j, S (ix2 x j) * Ideal.ofBits .f32 0x3E000000#32 * k (ix2 j d) := by
  pointwise [k0_pay101, k0_pay100, k0_pay99]

theorem pay54_apply (j : Fin 768) (d : Fin 64) : k0_pay54 (F := Ideal) q S acc (ix2 j d)
    = acc (ix2 j d) + ∑ x, S (ix2 x j) * Ideal.ofBits .f32 0x3E000000#32 * q (ix2 x d) := by
  pointwise [k0_pay54, k0_pay52]

theorem pay148_apply (j : Fin 768) (d : Fin 64) : k0_pay148 (F := Ideal) q (k0_pay99 S) acc (ix2 j d)
    = acc (ix2 j d) + ∑ x, S (ix2 x j) * Ideal.ofBits .f32 0x3E000000#32 * q (ix2 x d) := by
  pointwise [k0_pay148, k0_pay99]

theorem pay55_apply (j : Fin 768) (d : Fin 64) : k0_pay55 (F := Ideal) P o acc (ix2 j d)
    = acc (ix2 j d) + ∑ x, P (ix2 x j) * o (ix2 x d) := by
  pointwise [k0_pay55]

theorem pay149_apply (j : Fin 768) (d : Fin 64) : k0_pay149 (F := Ideal) P o acc (ix2 j d)
    = acc (ix2 j d) + ∑ x, P (ix2 x j) * o (ix2 x d) := by
  pointwise [k0_pay149]

/-! ### On real arguments -/

variable (D : Data) (h : Fin 16) (m : Fin 8)
variable {T P S q o k acc}

/-- The block's queries, its cotangents, and its band's keys and values. -/
def IsQ (q : Vec Ideal S256x64 .bf16) (g : Fin 2048 → Fin 16 → Fin 64 → ℝ) : Prop := ∀ x d, q (ix2 x d) = (g (qu m x) h d : EReal)
def band (g : Fin 2048 → Fin 16 → Fin 64 → ℝ) (d : Fin 64) (j : Fin 768) : EReal := (g (ke m j) h d : EReal)

theorem ke_of_inside {x : Fin 256} {y : Fin 2048} (hy : Inside (qu m x) y) : bandLo m.val ≤ y.val ∧ y.val < bandLo m.val + 768 :=
  inside_band x.isLt m.isLt hy

/-- A sum over the band is a sum over all keys, of what vanishes outside the window. -/
theorem sum_keys (x : Fin 256) (f : Fin 2048 → ℝ) (hf : ∀ y : Fin 2048, ¬Inside (qu m x) y → f y = 0) :
    (∑ j, f (ke m j)) = ∑ y, f y :=
  sum_band (bandLo m.val) bandLo_le f fun y hy => hf y fun hi => hy (ke_of_inside m hi)

theorem scores_coe (hT : ∀ x j, T (ix2 x j) = biasAt D h (qu m x) (ke m j)) (hq : IsQ h m q D.q)
    (K : Fin 64 → Fin 768 → EReal) (hK : K = band h m D.k) (x : Fin 256) :
    scores T q K x = masked (fun j : Fin 768 => Inside (qu m x) (ke m j)) (fun j => D.score h (qu m x) (ke m j)) := by
  subst hK
  funext j
  unfold scores masked biasAt band at *
  rw [hT]
  simp only [hq x, mul', sum', lit_eighth]
  split_ifs
  · rw [add']; rfl
  · exact EReal.add_bot _

theorem soft_coe (x : Fin 256) (j : Fin 768) :
    soft (masked (fun j : Fin 768 => Inside (qu m x) (ke m j)) (fun j => D.score h (qu m x) (ke m j))) j
      = (D.pr h (qu m x) (ke m j) : EReal) := by
  have hs := ke_of_inside m (inside_self (qu m x).isLt)
  rw [soft_masked _ _ ⟨⟨(qu m x).val - bandLo m.val, by omega⟩, ?_⟩]
  · refine congrArg _ (congrArg₂ _ rfl ?_)
    exact sum_keys m x (fun y => D.wt h (qu m x) y) fun y hy => if_neg hy
  · rw [show ke m ⟨(qu m x).val - bandLo m.val, by omega⟩ = qu m x from Fin.ext (by unfold ke; dsimp only; omega)]
    exact inside_self (qu m x).isLt

theorem softGrad_pr (hP : ∀ x j, P (ix2 x j) = (D.pr h (qu m x) (ke m j) : EReal)) (ho : IsQ h m o D.o)
    (V : Fin 64 → Fin 768 → EReal) (hV : V = band h m D.v) (x : Fin 256) (j : Fin 768) :
    softGrad (fun j => P (ix2 x j)) (prods o V x) j = (D.ds h (qu m x) (ke m j) : EReal) := by
  subst hV
  have e : prods o (band h m D.v) x = fun j => (D.dp h (qu m x) (ke m j) : EReal) := by
    funext j
    unfold prods band
    simp only [ho x, mul', sum']
    rfl
  rw [e]
  simp only [hP]
  rw [softGrad_coe]
  refine congrArg _ (congrArg _ (congrArg _ ?_))
  exact sum_keys m x (fun y => D.dp h (qu m x) y * D.pr h (qu m x) y) fun y hy => by rw [D.pr_outside h hy, mul_zero]

theorem p0 (hT : ∀ x j, T (ix2 x j) = biasAt D h (qu m x) (ke m j)) (hq : IsQ h m q D.q)
    (hK : Holds a0 a1 a2 a3 a4 a5 (band h m D.k)) (x : Fin 256) (j : Fin 768) :
    k0_pay20 (F := Ideal) T q (shapeCast S64x128 a0 (by decide)) (shapeCast S64x128 a1 (by decide))
      (shapeCast S64x128 a2 (by decide)) (shapeCast S64x128 a3 (by decide)) (shapeCast S64x128 a4 (by decide)) a5 (ix2 x j)
      = (D.pr h (qu m x) (ke m j) : EReal) := by
  rw [pay20_apply, scores_coe D h m hT hq _ (funext fun d => funext fun j => hK.pick d j), soft_coe]

theorem p1 (hT : ∀ x j, T (ix2 x j) = biasAt D h (qu m x) (ke m j)) (hq : IsQ h m q D.q)
    (hK : Holds a0 a1 a2 a3 a4 a5 (band h m D.k)) (x : Fin 256) (j : Fin 768) :
    k0_pay67 (F := Ideal) (k0_pay65 T q a0 a1 a2 a3 a4 a5) (k0_pay66 T q a0 a1 a2 a3 a4 a5) (ix2 x j)
      = (D.pr h (qu m x) (ke m j) : EReal) := by
  have e : (fun j => k0_pay65 (F := Ideal) T q a0 a1 a2 a3 a4 a5 (ix2 x j)) = scores T q (pick a0 a1 a2 a3 a4 a5) x :=
    funext fun j => pay65_apply T q x j
  rw [pay67_apply _ _ _ _ ((pay66_apply T q x).trans (congrArg rowMax e.symm)), e,
    scores_coe D h m hT hq _ (funext fun d => funext fun j => hK.pick d j), soft_coe]

theorem ds0 (hP : ∀ x j, P (ix2 x j) = (D.pr h (qu m x) (ke m j) : EReal)) (ho : IsQ h m o D.o)
    (hV : Holds a0 a1 a2 a3 a4 a5 (band h m D.v)) (x : Fin 256) (j : Fin 768) :
    k0_pay22 (F := Ideal) P o (k0_pay21 a0) a1 a2 a3 a4 a5 (ix2 x j) = (D.ds h (qu m x) (ke m j) : EReal) := by
  rw [pay22_apply, softGrad_pr D h m hP ho _ (funext fun d => funext fun j => hV.pick d j)]

theorem ds1 (hP : ∀ x j, P (ix2 x j) = (D.pr h (qu m x) (ke m j) : EReal)) (ho : IsQ h m o D.o)
    (hV : Holds a0 a1 a2 a3 a4 a5 (band h m D.v)) (x : Fin 256) (j : Fin 768) :
    k0_pay71 (F := Ideal) P o (k0_pay68 a0) (k0_pay69 a1) (k0_pay70 a2) a3 a4 a5 (ix2 x j)
      = (D.ds h (qu m x) (ke m j) : EReal) := by
  rw [pay71_apply, softGrad_pr D h m hP ho _ (funext fun d => funext fun j => hV.pick d j)]

/-- The block's rows of the queries' gradient. -/
theorem dq_sum (hS : ∀ x j, S (ix2 x j) = (D.ds h (qu m x) (ke m j) : EReal))
    (hk : ∀ j d, k (ix2 j d) = (D.k (ke m j) h d : EReal)) (x : Fin 256) (d : Fin 64) :
    (∑ j, S (ix2 x j) * Ideal.ofBits .f32 0x3E000000#32 * k (ix2 j d)) = (D.dq h (qu m x) d : EReal) := by
  simp only [hS, hk, lit_eighth, mul', sum']
  refine congrArg _ ?_
  exact sum_keys m x (fun y => D.ds h (qu m x) y * (1 / 8) * D.k y h d) fun y hy => by
    rw [D.ds_outside h hy, zero_mul, zero_mul]

/-- One term of the keys' gradient, and of the values'. -/
def dkTerm (y : Fin 2048) (d : Fin 64) (t : Fin 2048) : ℝ := D.ds h t y * (1 / 8) * D.q t h d
def dvTerm (y : Fin 2048) (d : Fin 64) (t : Fin 2048) : ℝ := D.pr h t y * D.o t h d

theorem dk_sum (hS : ∀ x j, S (ix2 x j) = (D.ds h (qu m x) (ke m j) : EReal)) (hq : IsQ h m q D.q)
    (j : Fin 768) (d : Fin 64) (ha : acc (ix2 j d) = (upto (dkTerm D h (ke m j) d) m.val : EReal)) :
    acc (ix2 j d) + (∑ x, S (ix2 x j) * Ideal.ofBits .f32 0x3E000000#32 * q (ix2 x d))
      = (upto (dkTerm D h (ke m j) d) (m.val + 1) : EReal) := by
  unfold IsQ at hq
  rw [ha]
  simp only [hS, hq, lit_eighth, mul', sum', add', upto_succ]
  rfl

theorem dv_sum (hP : ∀ x j, P (ix2 x j) = (D.pr h (qu m x) (ke m j) : EReal)) (ho : IsQ h m o D.o)
    (j : Fin 768) (d : Fin 64) (ha : acc (ix2 j d) = (upto (dvTerm D h (ke m j) d) m.val : EReal)) :
    acc (ix2 j d) + (∑ x, P (ix2 x j) * o (ix2 x d)) = (upto (dvTerm D h (ke m j) d) (m.val + 1) : EReal) := by
  unfold IsQ at ho
  rw [ha]
  simp only [hP, ho, mul', sum', add', upto_succ]
  rfl

/-- A key outside the block's band gains nothing from the block. -/
theorem upto_outside (f : Fin 2048 → ℝ) (y : Fin 2048) (hy : ¬(bandLo m.val ≤ y.val ∧ y.val < bandLo m.val + 768))
    (hf : ∀ t : Fin 2048, ¬Inside t y → f t = 0) : upto f (m.val + 1) = upto f m.val := by
  rw [upto_succ, Finset.sum_eq_zero, add_zero]
  intro x _
  exact hf _ fun hi => hy (ke_of_inside m hi)

theorem dkTerm_outside (y : Fin 2048) (d : Fin 64) (t : Fin 2048) (hn : ¬Inside t y) : dkTerm D h y d t = 0 := by
  unfold dkTerm; rw [D.ds_outside h hn, zero_mul, zero_mul]
theorem dvTerm_outside (y : Fin 2048) (d : Fin 64) (t : Fin 2048) (hn : ¬Inside t y) : dvTerm D h y d t = 0 := by
  unfold dvTerm; rw [D.pr_outside h hn, zero_mul]

end Cert.Kernel2Ideal.AttnPay
-- ==== Proof.AttnTables.lean ====
/-
  The tables of biases the host prepares, read entry by entry.
-/
module
public import proofs.«01_k».proof.Proof.Gen.Kernel2Ideal.Frame
public import proofs.«01_k».proof.Proof.AttnPay
public import Idealize.ShloMosaic.Lib.Claim
public import Idealize.ShloMosaic.Lib.StableHlo.RunRead
@[expose] public section
set_option maxRecDepth 16384
noncomputable section
open Idealize.ShloMosaic Idealize.ShloMosaic.TcCoe
namespace Cert.Kernel2Ideal.AttnTables
open Cert.Kernel2Ideal Cert.Kernel2Ideal.Gen
open Cert.Attn Cert.Reals

variable {F : FTy → Type} [FloatOps F]
variable (m : (ℓ : Loc nD τ sig) → Buf (Elt F) ℓ)

/-- Whether a query's column window holds a key's column. -/
def lowCol : Vec F S64 .i32 :=
  minsi (broadcastInDim S64 ![] bcast_S_S64 (constantI S_ 32 48#32)) (maxsi (broadcastInDim S64 ![] bcast_S_S64 (constantI S_ 32 0#32))
    (subi (iotaInDim S64 32 0) (broadcastInDim S64 ![] bcast_S_S64 (constantI S_ 32 8#32))))

def valid : Vec F S64x64 .i1 :=
  andi (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 (lowCol (F := F)))))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (addi (broadcastInDim S64x1 ![0] bcast_S64_S64x1_0 (lowCol (F := F)))
        (broadcastInDim S64x1 ![] bcast_S_S64x1 (constantI S_ 32 16#32)))))

/-- The column of the relative bias a query's column and a key's column use. -/
def relOf : Vec F S64x64 .i32 :=
  minsi (broadcastInDim S64x64 ![] bcast_S_S64x64 (constantI S_ 32 30#32)) (maxsi (broadcastInDim S64x64 ![] bcast_S_S64x64 (constantI S_ 32 0#32))
    (subi (addi (subi (broadcastInDim S64x64 ![0, 1] bcast_S1x64_S64x64_0_1 (broadcastInDim S1x64 ![1] bcast_S64_S1x64_1 (iotaInDim S64 32 0)))
        (broadcastInDim S64x64 ![0, 1] bcast_S64x1_S64x64_0_1 (broadcastInDim S64x1 ![0] bcast_S64_S64x1_0 (iotaInDim S64 32 0))))
      (broadcastInDim S64x64 ![] bcast_S_S64x64 (constantI S_ 32 16#32))) (broadcastInDim S64x64 ![] bcast_S_S64x64 (constantI S_ 32 1#32))))

def index : Vec F S64x64x1 .i32 :=
  broadcastInDim S64x64x1 ![0, 1] bcast_S64x64_S64x64x1_0_1
    (select (cmpi .slt (relOf (F := F)) (broadcastInDim S64x64 ![] bcast_S_S64x64 (constantI S_ 32 0#32)))
      (addi (relOf (F := F)) (broadcastInDim S64x64 ![] bcast_S_S64x64 (constantI S_ 32 31#32))) (relOf (F := F)))

/-- The biases by relative row, query column and key column, minus infinity outside the column window. -/
def byRow (rpb : Vec F S16x15x31 .f32) : Vec F S16x15x64x64 .f32 :=
  select (broadcastInDim S16x15x64x64 ![0, 1, 2, 3] bcast_S1x1x64x64_S16x15x64x64_0_1_2_3
      (broadcastInDim S1x1x64x64 ![2, 3] bcast_S64x64_S1x1x64x64_2_3 (valid (F := F))))
    (Host.gather gather_S16x15x31_S64x64x1_S16x15x64x64_01_2_n_n_2_2_16151 rpb (index (F := F)))
    (broadcastInDim S16x15x64x64 ![] bcast_S_S16x15x64x64 (constant S_ .f32 0xFF800000#32))

def out : Vec F S16x1x64x64 .f32 := broadcastInDim S16x1x64x64 ![] bcast_S_S16x1x64x64 (constant S_ .f32 0xFF800000#32)

/-- The seventeen tables of a head: two grid rows of keys side by side. -/
def tabs (B : Vec F S16x15x64x64 .f32) : Vec F S16x17x64x128 .f32 :=
  concatenate S16x17x64x128 1
    [⟨S16x14x64x128, concatenate S16x14x64x128 3 [⟨S16x14x64x64, extractStridedSlice S16x14x64x64 ![0, 0, 0, 0] B slices_S16x15x64x64_S16x14x64x64_0_0_0_0⟩,
        ⟨S16x14x64x64, extractStridedSlice S16x14x64x64 ![0, 1, 0, 0] B slices_S16x15x64x64_S16x14x64x64_0_1_0_0⟩] concatenates_S16x14x64x64_S16x14x64x64_S16x14x64x128_d3⟩,
     ⟨S16x1x64x128, concatenate S16x1x64x128 3 [⟨S16x1x64x64, out (F := F)⟩,
        ⟨S16x1x64x64, extractStridedSlice S16x1x64x64 ![0, 3, 0, 0] B slices_S16x15x64x64_S16x1x64x64_0_3_0_0⟩] concatenates_S16x1x64x64_S16x1x64x64_S16x1x64x128_d3⟩,
     ⟨S16x1x64x128, concatenate S16x1x64x128 3 [⟨S16x1x64x64, extractStridedSlice S16x1x64x64 ![0, 10, 0, 0] B slices_S16x15x64x64_S16x1x64x64_0_10_0_0⟩,
        ⟨S16x1x64x64, out (F := F)⟩] concatenates_S16x1x64x64_S16x1x64x64_S16x1x64x128_d3⟩,
     ⟨S16x1x64x128, concatenate S16x1x64x128 3 [⟨S16x1x64x64, out (F := F)⟩,
        ⟨S16x1x64x64, out (F := F)⟩] concatenates_S16x1x64x64_S16x1x64x64_S16x1x64x128_d3⟩]
    concatenates_S16x14x64x128_S16x1x64x128_S16x1x64x128_S16x1x64x128_S16x17x64x128_d1

theorem V_main_v35 (c : Dev nD) : V m c main_v35 = byRow (m ((c : Thread nD τ).loc main_arg1)) := by
  unfold_abbrev_sides
  after_reads_simp
  rfl

theorem concat_two {e : EltTy} {s s1 s2 : Shape} (d : Fin s.rank) {A A' : Vec F s1 e} {B B' : Vec F s2 e}
    (h : Shape.Concatenates [s1, s2] s d) (ha : A = A') (hb : B = B') :
    concatenate s d [⟨s1, A⟩, ⟨s2, B⟩] h = concatenate s d [⟨s1, A'⟩, ⟨s2, B'⟩] h := by subst ha hb; rfl

theorem concat_four {e : EltTy} {s s1 s2 s3 s4 : Shape} (d : Fin s.rank) {A A' : Vec F s1 e} {B B' : Vec F s2 e} {C C' : Vec F s3 e}
    {D D' : Vec F s4 e} (h : Shape.Concatenates [s1, s2, s3, s4] s d) (ha : A = A') (hb : B = B') (hc : C = C') (hd : D = D') :
    concatenate s d [⟨s1, A⟩, ⟨s2, B⟩, ⟨s3, C⟩, ⟨s4, D⟩] h = concatenate s d [⟨s1, A'⟩, ⟨s2, B'⟩, ⟨s3, C'⟩, ⟨s4, D'⟩] h := by
  subst ha hb hc hd; rfl

set_option maxHeartbeats 4000000 in
theorem V_main_v46 (c : Dev nD) : V m c main_v46 = tabs (byRow (m ((c : Thread nD τ).loc main_arg1))) := by
  unfold_abbrev_sides
  after_reads_simp
  unfold tabs
  refine concat_four (F := F) (e := .f32) (s1 := S16x14x64x128) (s2 := S16x1x64x128) (s3 := S16x1x64x128) (s4 := S16x1x64x128) 1 _ ?_ ?_ ?_ ?_
  · change StableHlo.upto _ _ 71 (Proc.tc.devRef main_v40) = _
    after_reads_simp
    refine concat_two (F := F) (e := .f32) (s1 := S16x14x64x64) (s2 := S16x14x64x64) 3 _ ?_ ?_
    · change StableHlo.upto _ _ _ (Proc.tc.devRef main_v38) = _
      after_reads_simp
      rfl
    · change StableHlo.upto _ _ _ (Proc.tc.devRef main_v39) = _
      after_reads_simp
      rfl
  · change StableHlo.upto _ _ 71 (Proc.tc.devRef main_v42) = _
    after_reads_simp
    refine concat_two (F := F) (e := .f32) (s1 := S16x1x64x64) (s2 := S16x1x64x64) 3 _ ?_ ?_
    · change StableHlo.upto _ _ _ (Proc.tc.devRef main_v37) = _
      after_reads_simp
      rfl
    · change StableHlo.upto _ _ _ (Proc.tc.devRef main_v41) = _
      after_reads_simp
      rfl
  · change StableHlo.upto _ _ 71 (Proc.tc.devRef main_v44) = _
    after_reads_simp
    refine concat_two (F := F) (e := .f32) (s1 := S16x1x64x64) (s2 := S16x1x64x64) 3 _ ?_ ?_
    · change StableHlo.upto _ _ _ (Proc.tc.devRef main_v43) = _
      after_reads_simp
      rfl
    · change StableHlo.upto _ _ _ (Proc.tc.devRef main_v37) = _
      after_reads_simp
      rfl
  · change StableHlo.upto _ _ 71 (Proc.tc.devRef main_v45) = _
    after_reads_simp
    refine concat_two (F := F) (e := .f32) (s1 := S16x1x64x64) (s2 := S16x1x64x64) 3 _ ?_ ?_
    · change StableHlo.upto _ _ _ (Proc.tc.devRef main_v37) = _
      after_reads_simp
      rfl
    · change StableHlo.upto _ _ _ (Proc.tc.devRef main_v37) = _
      after_reads_simp
      rfl

end Cert.Kernel2Ideal.AttnTables
-- ==== Proof.AttnEntries.lean ====
/-
  The entries of the bias tables, by head, relative row and column.
-/
module
public import proofs.«01_k».proof.Proof.AttnTables
public import proofs.«01_k».proof.Proof.AttnLoop
@[expose] public section
set_option maxRecDepth 16384
noncomputable section
open Idealize.ShloMosaic Idealize.ShloMosaic.TcCoe
namespace Cert.Kernel2Ideal.AttnEntries
open Cert.Kernel2Ideal Cert.Kernel2Ideal.Gen
open Cert.Attn Cert.Reals AttnTables AttnPay

/-- The relative row of half `u` of entry `e`, if that half lies in the window. -/
def slot (e u : ℕ) : Option (Fin 15) :=
  if e < 14 then (if h : e + u < 15 then some ⟨e + u, h⟩ else none)
  else if e = 14 then (if u = 0 then none else some 3)
  else if e = 15 then (if u = 0 then some 10 else none)
  else none

theorem tabs_apply (B : Vec Ideal S16x15x64x64 .f32) (h : Fin 16) (e : Fin 17) (c : Fin 64) (l : Fin 128) :
    tabs B (ix4 h e c l) = match slot e.val (l.val / 64) with
      | some r => B (ix4 h r c ⟨l.val % 64, by omega⟩)
      | none => ⊥ := by
  pointwise [tabs, out]
  unfold slot
  by_cases h1 : e.val < 14
  · rw [dif_pos h1, if_pos h1]
    by_cases h2 : l.val < 64
    · rw [dif_pos h2]
      have h3 : l.val / 64 = 0 := by omega
      have h4 : l.val % 64 = l.val := by omega
      simp only [h3, h4, Nat.add_zero]
      rw [dif_pos (by omega)]
    · rw [dif_neg h2]
      have h3 : l.val / 64 = 1 := by omega
      have h4 : l.val % 64 = l.val - 64 := by omega
      simp only [h3, h4]
      rw [dif_pos (by omega)]
      simp only [Nat.add_comm]
  · rw [dif_neg h1, if_neg h1]
    have he := e.isLt
    by_cases h2 : l.val < 64
    · have h3 : l.val / 64 = 0 := by omega
      have h4 : l.val % 64 = l.val := by omega
      by_cases h5 : e.val = 14
      · simp only [h5, h3, h2, dif_pos, if_pos, lit_ninf, Nat.sub_self, Nat.zero_lt_one]
      · by_cases h6 : e.val = 15
        · simp [h6, h3, h2, h4]
        · have h7 : e.val = 16 := by omega
          simp [h7, h3, h2, lit_ninf]
    · have h3 : l.val / 64 = 1 := by omega
      have h4 : l.val % 64 = l.val - 64 := by omega
      by_cases h5 : e.val = 14
      · simp [h5, h3, h2, h4]
      · by_cases h6 : e.val = 15
        · simp [h6, h3, h2, lit_ninf]
        · have h7 : e.val = 16 := by omega
          simp [h7, h3, h2, lit_ninf]

theorem cols_in : ∀ c y : Fin 64, IntOp.andi
      (IntOp.cmpi CmpIPredicate.sge (BitVec.ofNat 32 y.val)
        (IntOp.minsi (48#32) (IntOp.maxsi (0#32) (IntOp.subi (BitVec.ofNat 32 c.val) 8#32))))
      (IntOp.cmpi CmpIPredicate.slt (BitVec.ofNat 32 y.val)
        (IntOp.addi (IntOp.minsi (48#32) (IntOp.maxsi (0#32) (IntOp.subi (BitVec.ofNat 32 c.val) 8#32))) 16#32))
      = if colLo c.val ≤ y.val ∧ y.val < colLo c.val + 16 then 1#1 else 0#1 := by decide +kernel

theorem cols_rel : ∀ a b : Fin 64, Scalar.select
    (IntOp.cmpi .slt (IntOp.minsi 30#32 (IntOp.maxsi 0#32 (IntOp.subi (IntOp.addi (IntOp.subi (BitVec.ofNat 32 b.val) (BitVec.ofNat 32 a.val)) 16#32) 1#32))) 0#32)
    (IntOp.addi (IntOp.minsi 30#32 (IntOp.maxsi 0#32 (IntOp.subi (IntOp.addi (IntOp.subi (BitVec.ofNat 32 b.val) (BitVec.ofNat 32 a.val)) 16#32) 1#32))) 31#32)
    (IntOp.minsi 30#32 (IntOp.maxsi 0#32 (IntOp.subi (IntOp.addi (IntOp.subi (BitVec.ofNat 32 b.val) (BitVec.ofNat 32 a.val)) 16#32) 1#32)))
      = BitVec.ofNat 32 (min (b.val + 15 - a.val) 30) := by decide +kernel

theorem valid_apply (c y : Fin 64) : valid (F := Ideal) (ix2 c y) = if colLo c.val ≤ y.val ∧ y.val < colLo c.val + 16 then 1#1 else 0#1 := by
  rw [← cols_in]
  pointwise [valid, lowCol]
theorem index_apply (c y : Fin 64) : index (F := Ideal) (ix3 c y 0) = BitVec.ofNat 32 (min (y.val + 15 - c.val) 30) := by
  rw [← cols_rel]
  pointwise [index, relOf]

theorem toNat_col (r : Fin 31) : min (BitVec.ofNat 32 r.val).toInt.toNat 30 = r.val := by revert r; decide +kernel

local notation "gd" => gather_S16x15x31_S64x64x1_S16x15x64x64_01_2_n_n_2_2_16151
variable (rpb : Vec Ideal S16x15x31 .f32) (h : Fin 16) (r : Fin 15) (c y : Fin 64)

theorem start2 : GatherDims.start gd (ix4 h r c y) (index (F := Ideal)) (2 : Fin 3) = min (y.val + 15 - c.val) 30 := by
  unfold GatherDims.start
  rw [dif_pos (show (2 : Fin S16x15x31.rank) ∈ GatherDims.startIndexMap gd from (by decide : (2 : Fin 3) ∈ ([2] : List (Fin 3))))]
  have hs : GatherDims.siIdx gd (ix4 h r c y) ⟨List.idxOf (2 : Fin 3) (GatherDims.startIndexMap gd),
      List.idxOf_lt_length_iff.2 (show (2 : Fin 3) ∈ ([2] : List (Fin 3)) by decide)⟩ = ix3 c y 0 := by
    funext b; refine Fin.ext ?_
    match b with
    | ⟨0, _⟩ => rfl
    | ⟨1, _⟩ => rfl
    | ⟨2, _⟩ => rfl
  rw [hs, index_apply]
  exact toNat_col ⟨_, by omega⟩

theorem start_rest (a : Fin 3) (ha : a ∉ ([2] : List (Fin 3))) : GatherDims.start gd (ix4 h r c y) (index (F := Ideal)) a = 0 := by
  unfold GatherDims.start
  rw [dif_neg (show a ∉ GatherDims.startIndexMap gd from ha)]

theorem gather_apply : Host.gather gd rpb (index (F := Ideal)) (ix4 h r c y) = rpb (ix3 h r ⟨min (y.val + 15 - c.val) 30, by omega⟩) := by
  unfold Host.gather
  refine congrArg rpb (funext fun a => Fin.ext ?_)
  show GatherDims.start gd _ (index (F := Ideal)) a + GatherDims.batchCoord gd _ a + GatherDims.offCoord gd _ a = _
  rw [GatherDims.batchCoord_eq_zero _ _ _ List.not_mem_nil]
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [start_rest _ _ _ _ _ (by decide)]
    simp only [Nat.zero_add]
    unfold GatherDims.offCoord
    rw [dif_pos ((GatherDims.mem_sKept _ _).mpr ⟨show (0 : Fin 3) ∉ ([2] : List (Fin 3)) by decide, List.not_mem_nil⟩)]
    rfl
  · rw [start_rest _ _ _ _ _ (by decide)]
    simp only [Nat.zero_add]
    unfold GatherDims.offCoord
    rw [dif_pos ((GatherDims.mem_sKept _ _).mpr ⟨show (1 : Fin 3) ∉ ([2] : List (Fin 3)) by decide, List.not_mem_nil⟩)]
    rfl
  · rw [start2, GatherDims.offCoord_eq_zero _ _ _ (fun e => ((GatherDims.mem_sKept _ _).mp e).1 (show (2 : Fin 3) ∈ ([2] : List (Fin 3)) by decide))]
    rfl

theorem byRow_apply : byRow (F := Ideal) rpb (ix4 h r c y)
    = if colLo c.val ≤ y.val ∧ y.val < colLo c.val + 16 then rpb (ix3 h r ⟨min (y.val + 15 - c.val) 30, by omega⟩) else ⊥ := by
  have hg := gather_apply rpb h r c y
  have hv := valid_apply c y
  unfold byRow
  generalize Host.gather gd rpb (index (F := Ideal)) = G at hg
  generalize valid (F := Ideal) = V at hv
  pointwise
  rw [hg, hv, lit_ninf]
  split_ifs <;> rfl

/-! ### The entry of a grid row of queries and a pair of grid rows of keys -/

def entOf (k i g : ℕ) : ℕ :=
  let lo := rowLo (4 * k + i)
  let K := min (4 * k - 4) 20 + 2 * g
  if (lo ≤ K ∧ K < lo + 8) ∧ (lo ≤ K + 1 ∧ K + 1 < lo + 8) then K + 7 - (4 * k + i)
  else if lo ≤ K + 1 ∧ K + 1 < lo + 8 then 14 else if lo ≤ K ∧ K < lo + 8 then 15 else 16

theorem entOf_lt : ∀ (k : Fin 8) (i : Fin 4) (g : Fin 6), entOf k.val i.val g.val < 17 := by decide +kernel

theorem ent1_eq : ∀ (k : Fin k0_t1_loop.trips) (i : Fin 4) (g : Fin 6),
    AttnLoop.ent1 k (BitVec.ofNat 32 (2 * g.val)) (BitVec.ofNat 32 i.val) = entOf k.val i.val g.val := by
  unfold AttnLoop.ent1; decide +kernel
theorem ent5_eq : ∀ (k : Fin k0_t1_loop.trips) (i : Fin 4) (g : Fin 6),
    AttnLoop.ent5 k (BitVec.ofNat 32 (2 * g.val)) (BitVec.ofNat 32 i.val) = entOf k.val i.val g.val := by
  unfold AttnLoop.ent5; decide +kernel

theorem slot_entOf : ∀ (k : Fin 8) (i : Fin 4) (g : Fin 6) (u : Fin 2), slot (entOf k.val i.val g.val) u.val
    = if rowLo (4 * k.val + i.val) ≤ min (4 * k.val - 4) 20 + 2 * g.val + u.val ∧ min (4 * k.val - 4) 20 + 2 * g.val + u.val < rowLo (4 * k.val + i.val) + 8
      then some ⟨min (min (4 * k.val - 4) 20 + 2 * g.val + u.val + 7 - (4 * k.val + i.val)) 14, by omega⟩ else none := by decide +kernel

/-- The table entry of query row `i` and key pair `g` of block `k` holds the biases, minus infinity outside the window. -/
theorem entry_bias (D : Data) (hD : ∀ r c, ((D.b h r c : ℝ) : EReal) = rpb (ix3 h r c)) (k : Fin 8) (i : Fin 4) (g : Fin 6) (l : Fin 128) :
    tabs (byRow (F := Ideal) rpb) (ix4 h ⟨entOf k.val i.val g.val, entOf_lt k i g⟩ c l)
      = biasAt D h (qu k ⟨64 * i.val + c.val, by omega⟩) (ke k ⟨128 * g.val + l.val, by omega⟩) := by
  rw [tabs_apply, slot_entOf k i g ⟨l.val / 64, by omega⟩]
  unfold biasAt
  rw [hD]
  unfold relRow relCol Inside
  have e1 : (qu k ⟨64 * i.val + c.val, by omega⟩).val / 64 = 4 * k.val + i.val := by unfold qu; dsimp only; omega
  have e2 : (qu k ⟨64 * i.val + c.val, by omega⟩).val % 64 = c.val := by unfold qu; dsimp only; omega
  have e3 : (ke k ⟨128 * g.val + l.val, by omega⟩).val / 64 = min (4 * k.val - 4) 20 + 2 * g.val + l.val / 64 := by unfold ke bandLo; dsimp only; omega
  have e4 : (ke k ⟨128 * g.val + l.val, by omega⟩).val % 64 = l.val % 64 := by unfold ke bandLo; dsimp only; omega
  simp only [e1, e2, e3, e4]
  by_cases hr : rowLo (4 * k.val + i.val) ≤ min (4 * k.val - 4) 20 + 2 * g.val + l.val / 64 ∧ min (4 * k.val - 4) 20 + 2 * g.val + l.val / 64 < rowLo (4 * k.val + i.val) + 8
  · rw [if_pos hr]
    dsimp only
    rw [byRow_apply]
    simp only [hr, true_and, and_self]
  · rw [if_neg hr]
    dsimp only
    rw [if_neg (fun h => hr h.1)]

end Cert.Kernel2Ideal.AttnEntries
-- ==== Proof.AttnTrip.lean ====
/-
  What one trip of the attention's loop computes, for each of the two heads, from what its buffers read.
-/
module
public import proofs.«01_k».proof.Proof.AttnEntries
@[expose] public section
set_option maxRecDepth 16384
noncomputable section
open Idealize.ShloMosaic Idealize.ShloMosaic.TcCoe
namespace Cert.Kernel2Ideal.AttnTrip
open Cert.Kernel2Ideal Cert.Kernel2Ideal.Gen
open Cert.Attn Cert.Reals AttnTables AttnEntries AttnPay AttnLoop.trip

/-- A trip's number, counted to eight. -/
abbrev k8 (k : Fin k0_t1_loop.trips) : Fin 8 := ⟨k.val, k.isLt⟩
/-- Lane `d` of the block's head `s`. -/
def lan (s : Fin 2) (d : Fin 64) : Fin 128 := ⟨64 * s.val + d.val, by omega⟩

theorem load_eq {sig : RefSig} {κ : Kind} {sp : Space} {s : Shape} {e : EltTy} {Val : EltTy → Type} (v : View sig κ sp s e)
    (f : v.ty.Contents Val) {off off' size : Fin s.rank → ℕ} (inb : ∀ a, off a + size a ≤ s.size a) (h : off = off')
    (x : (Rect.unit off size inb).shape.Idx) (y : s.Idx) (hx : ∀ a, (y a).val = off' a + (x a).val) :
    v.readAt Val (Rect.unit off size inb).toLoadRect f x = v.read Val f y := by
  subst h
  exact congrArg (v.read Val f) (funext fun a => Fin.ext (by
    show off a + 1 * (x a).val = (y a).val
    rw [hx a, Nat.one_mul]))

theorem off3_eq : ∀ (k : Fin k0_t1_loop.trips) (n : Fin 6), k0_off3 k (BitVec.ofNat 32 n.val) = ![AttnLoop.bandRow k / 2 + n.val, 0, 0] := by
  decide +kernel
theorem off7_eq : ∀ (k : Fin k0_t1_loop.trips) (n : Fin 6), k0_off7 k (BitVec.ofNat 32 n.val) = ![AttnLoop.bandRow k / 2 + n.val, 64, 0] := by
  decide +kernel

variable {sg : RefSig}
variable {arg4 : Memref sig .tc .vmem S2x17x64x128 .f32} {arg14 arg15 arg17 : Memref sig .tc .vmem S2048x128 .bf16}
  {arg18 arg19 : Memref sig .tc .vmem S16x128x128 .bf16}
  {X4 : BufTy.Contents (Elt Ideal) arg4.view.ty} {X14 : BufTy.Contents (Elt Ideal) arg14.view.ty} {X15 : BufTy.Contents (Elt Ideal) arg15.view.ty}
  {X17 : BufTy.Contents (Elt Ideal) arg17.view.ty} {X18 : BufTy.Contents (Elt Ideal) arg18.view.ty} {X19 : BufTy.Contents (Elt Ideal) arg19.view.ty}
  {D : Data} {hd : Fin 2 → Fin 16}

/-- A buffer of rows holds the two heads of `g`. -/
def Rows (arg : Memref sg .tc .vmem S2048x128 .bf16) (X : BufTy.Contents (Elt Ideal) arg.view.ty) (hd : Fin 2 → Fin 16)
    (g : Fin 2048 → Fin 16 → Fin 64 → ℝ) : Prop :=
  ∀ t s d, arg.view.read (Elt Ideal) X (ix2 t (lan s d)) = (g t (hd s) d : EReal)
/-- A buffer of transposed blocks holds the two heads of `g`. -/
def Cols (arg : Memref sg .tc .vmem S16x128x128 .bf16) (X : BufTy.Contents (Elt Ideal) arg.view.ty) (hd : Fin 2 → Fin 16)
    (g : Fin 2048 → Fin 16 → Fin 64 → ℝ) : Prop :=
  ∀ (n : Fin 16) s d (l : Fin 128), arg.view.read (Elt Ideal) X (ix3 n (lan s d) l) = (g ⟨128 * n.val + l.val, by omega⟩ (hd s) d : EReal)
/-- The buffer of tables holds the two heads' tables of `D`. -/
def Tabs (arg : Memref sg .tc .vmem S2x17x64x128 .f32) (X : BufTy.Contents (Elt Ideal) arg.view.ty) (hd : Fin 2 → Fin 16) (D : Data) : Prop :=
  ∀ (s : Fin 2) (k : Fin 8) (i : Fin 4) (g : Fin 6) (c : Fin 64) (l : Fin 128),
    arg.view.read (Elt Ideal) X (ix4 s ⟨entOf k.val i.val g.val, entOf_lt k i g⟩ c l)
      = biasAt D (hd s) (qu k ⟨64 * i.val + c.val, by omega⟩) (ke k ⟨128 * g.val + l.val, by omega⟩)

variable (k : Fin k0_t1_loop.trips)

theorem isQ0 {arg : Memref sg .tc .vmem S2048x128 .bf16} {X : BufTy.Contents (Elt Ideal) arg.view.ty} {g} (H : Rows arg X hd g) :
    IsQ (hd 0) (k8 k) (arg.view.readAt (Elt Ideal) (Rect.unit (s := S2048x128) (k0_off2 k) S256x64.size (k0_off2_inb k)).toLoadRect X) g := fun x d =>
  (load_eq arg.view X (k0_off2_inb k) (k0_off2_eq k) (ix2 x d) (ix2 (qu (k8 k) x) (lan 0 d))
    (Fin.forall_fin_two.mpr ⟨rfl, rfl⟩)).trans (H _ _ _)
theorem isQ1 {arg : Memref sg .tc .vmem S2048x128 .bf16} {X : BufTy.Contents (Elt Ideal) arg.view.ty} {g} (H : Rows arg X hd g) :
    IsQ (hd 1) (k8 k) (arg.view.readAt (Elt Ideal) (Rect.unit (s := S2048x128) (k0_off6 k) S256x64.size (k0_off6_inb k)).toLoadRect X) g := fun x d =>
  (load_eq arg.view X (k0_off6_inb k) (k0_off6_eq k) (ix2 x d) (ix2 (qu (k8 k) x) (lan 1 d))
    (Fin.forall_fin_two.mpr ⟨rfl, rfl⟩)).trans (H _ _ _)

theorem rows0 {arg : Memref sg .tc .vmem S2048x128 .bf16} {X : BufTy.Contents (Elt Ideal) arg.view.ty} {g} (H : Rows arg X hd g) (j : Fin 768) (d : Fin 64) :
    arg.view.readAt (Elt Ideal) (Rect.unit (s := S2048x128) (k0_off4 k) S768x64.size (k0_off4_inb k)).toLoadRect X (ix2 j d) = (g (ke (k8 k) j) (hd 0) d : EReal) :=
  (load_eq arg.view X (k0_off4_inb k) (AttnLoop.off4_eq k) (ix2 j d) (ix2 (ke (k8 k) j) (lan 0 d))
    (Fin.forall_fin_two.mpr ⟨rfl, rfl⟩)).trans (H _ _ _)
theorem rows1 {arg : Memref sg .tc .vmem S2048x128 .bf16} {X : BufTy.Contents (Elt Ideal) arg.view.ty} {g} (H : Rows arg X hd g) (j : Fin 768) (d : Fin 64) :
    arg.view.readAt (Elt Ideal) (Rect.unit (s := S2048x128) (k0_off8 k) S768x64.size (k0_off8_inb k)).toLoadRect X (ix2 j d) = (g (ke (k8 k) j) (hd 1) d : EReal) :=
  (load_eq arg.view X (k0_off8_inb k) (AttnLoop.off8_eq k) (ix2 j d) (ix2 (ke (k8 k) j) (lan 1 d))
    (Fin.forall_fin_two.mpr ⟨rfl, rfl⟩)).trans (H _ _ _)

theorem cols0 {arg : Memref sg .tc .vmem S16x128x128 .bf16} {X : BufTy.Contents (Elt Ideal) arg.view.ty} {g} (H : Cols arg X hd g)
    (n : Fin 6) (inb : ∀ a, k0_off3 k (BitVec.ofNat 32 n.val) a + S1x64x128.size a ≤ S16x128x128.size a) (d : Fin 64) (l : Fin 128) :
    arg.view.readAt (Elt Ideal) (Rect.unit (s := S16x128x128) (k0_off3 k (BitVec.ofNat 32 n.val)) S1x64x128.size inb).toLoadRect X (ix3 0 d l)
      = band (hd 0) (k8 k) g d ⟨128 * n.val + l.val, by omega⟩ := by
  have hk := k.isLt
  have ht : k0_t1_loop.trips = 8 := rfl
  have hb : AttnLoop.bandRow k / 2 + n.val < 16 := by unfold AttnLoop.bandRow; omega
  refine (load_eq arg.view X inb (off3_eq k n) (ix3 0 d l) (ix3 ⟨_, hb⟩ (lan 0 d) l) fun a => ?_).trans ((H _ _ _ _).trans ?_)
  · match a with
    | ⟨0, _⟩ => rfl
    | ⟨1, _⟩ => rfl
    | ⟨2, _⟩ => show l.val = 0 + l.val; omega
  · unfold band
    refine congrArg (fun t => ((g t (hd 0) d : ℝ) : EReal)) (Fin.ext ?_)
    unfold ke bandLo AttnLoop.bandRow; dsimp only; omega
theorem cols1 {arg : Memref sg .tc .vmem S16x128x128 .bf16} {X : BufTy.Contents (Elt Ideal) arg.view.ty} {g} (H : Cols arg X hd g)
    (n : Fin 6) (inb : ∀ a, k0_off7 k (BitVec.ofNat 32 n.val) a + S1x64x128.size a ≤ S16x128x128.size a) (d : Fin 64) (l : Fin 128) :
    arg.view.readAt (Elt Ideal) (Rect.unit (s := S16x128x128) (k0_off7 k (BitVec.ofNat 32 n.val)) S1x64x128.size inb).toLoadRect X (ix3 0 d l)
      = band (hd 1) (k8 k) g d ⟨128 * n.val + l.val, by omega⟩ := by
  have hk := k.isLt
  have ht : k0_t1_loop.trips = 8 := rfl
  have hb : AttnLoop.bandRow k / 2 + n.val < 16 := by unfold AttnLoop.bandRow; omega
  refine (load_eq arg.view X inb (off7_eq k n) (ix3 0 d l) (ix3 ⟨_, hb⟩ (lan 1 d) l) fun a => ?_).trans ((H _ _ _ _).trans ?_)
  · match a with
    | ⟨0, _⟩ => rfl
    | ⟨1, _⟩ => rfl
    | ⟨2, _⟩ => show l.val = 0 + l.val; omega
  · unfold band
    refine congrArg (fun t => ((g t (hd 1) d : ℝ) : EReal)) (Fin.ext ?_)
    unfold ke bandLo AttnLoop.bandRow; dsimp only; omega

/-! ### The block's biases -/

theorem cast_apply (a : Vec Ideal S1x1x64x128 .f32) (h) (c : Fin 64) (l : Fin 128) : shapeCast S64x128 a h (ix2 c l) = a (ix4 0 0 c l) := by
  pointwise

theorem leaf0 {arg4 : Memref sg .tc .vmem S2x17x64x128 .f32} {X4 : BufTy.Contents (Elt Ideal) arg4.view.ty} (H : Tabs arg4 X4 hd D) (i : Fin 4) (g : Fin 6)
    (inb : ∀ a, k0_off1 k (BitVec.ofNat 32 (2 * g.val)) (BitVec.ofNat 32 i.val) a + S1x1x64x128.size a ≤ S2x17x64x128.size a) (h) (c : Fin 64) (l : Fin 128) :
    shapeCast S64x128 (arg4.view.readAt (Elt Ideal) (Rect.unit (s := S2x17x64x128) (k0_off1 k (BitVec.ofNat 32 (2 * g.val)) (BitVec.ofNat 32 i.val)) S1x1x64x128.size inb).toLoadRect X4) h (ix2 c l)
      = biasAt D (hd 0) (qu (k8 k) ⟨64 * i.val + c.val, by omega⟩) (ke (k8 k) ⟨128 * g.val + l.val, by omega⟩) := by
  refine (cast_apply _ h c l).trans ((load_eq arg4.view X4 inb (off' := ![0, entOf k.val i.val g.val, 0, 0]) ?_ (ix4 0 0 c l)
    (ix4 0 ⟨_, entOf_lt (k8 k) i g⟩ c l) fun a => ?_).trans (H 0 (k8 k) i g c l))
  · rw [← ent1_eq k i g]; unfold AttnLoop.ent1; funext x; fin_cases x <;> rfl
  · match a with
    | ⟨0, _⟩ => rfl
    | ⟨1, _⟩ => rfl
    | ⟨2, _⟩ => show c.val = 0 + c.val; omega
    | ⟨3, _⟩ => show l.val = 0 + l.val; omega
theorem leaf1 {arg4 : Memref sg .tc .vmem S2x17x64x128 .f32} {X4 : BufTy.Contents (Elt Ideal) arg4.view.ty} (H : Tabs arg4 X4 hd D) (i : Fin 4) (g : Fin 6)
    (inb : ∀ a, k0_off5 k (BitVec.ofNat 32 (2 * g.val)) (BitVec.ofNat 32 i.val) a + S1x1x64x128.size a ≤ S2x17x64x128.size a) (h) (c : Fin 64) (l : Fin 128) :
    shapeCast S64x128 (arg4.view.readAt (Elt Ideal) (Rect.unit (s := S2x17x64x128) (k0_off5 k (BitVec.ofNat 32 (2 * g.val)) (BitVec.ofNat 32 i.val)) S1x1x64x128.size inb).toLoadRect X4) h (ix2 c l)
      = biasAt D (hd 1) (qu (k8 k) ⟨64 * i.val + c.val, by omega⟩) (ke (k8 k) ⟨128 * g.val + l.val, by omega⟩) := by
  refine (cast_apply _ h c l).trans ((load_eq arg4.view X4 inb (off' := ![1, entOf k.val i.val g.val, 0, 0]) ?_ (ix4 0 0 c l)
    (ix4 1 ⟨_, entOf_lt (k8 k) i g⟩ c l) fun a => ?_).trans (H 1 (k8 k) i g c l))
  · rw [← ent5_eq k i g]; unfold AttnLoop.ent5; funext x; fin_cases x <;> rfl
  · match a with
    | ⟨0, _⟩ => rfl
    | ⟨1, _⟩ => rfl
    | ⟨2, _⟩ => show c.val = 0 + c.val; omega
    | ⟨3, _⟩ => show l.val = 0 + l.val; omega

variable {a0 a1 a2 a3 a4 a5 : Vec Ideal S64x128 .f32} {b0 b1 b2 b3 : Vec Ideal S64x768 .f32}

theorem cat6 (f : Fin 64 → Fin 768 → EReal) (h) (h0 : ∀ c (l : Fin 128), a0 (ix2 c l) = f c ⟨128 * (0 : Fin 6).val + l.val, by omega⟩)
    (h1 : ∀ c (l : Fin 128), a1 (ix2 c l) = f c ⟨128 * (1 : Fin 6).val + l.val, by omega⟩)
    (h2 : ∀ c (l : Fin 128), a2 (ix2 c l) = f c ⟨128 * (2 : Fin 6).val + l.val, by omega⟩)
    (h3 : ∀ c (l : Fin 128), a3 (ix2 c l) = f c ⟨128 * (3 : Fin 6).val + l.val, by omega⟩)
    (h4 : ∀ c (l : Fin 128), a4 (ix2 c l) = f c ⟨128 * (4 : Fin 6).val + l.val, by omega⟩)
    (h5 : ∀ c (l : Fin 128), a5 (ix2 c l) = f c ⟨128 * (5 : Fin 6).val + l.val, by omega⟩) (c : Fin 64) (j : Fin 768) :
    concatenate S64x768 1 [⟨S64x128, a0⟩, ⟨S64x128, a1⟩, ⟨S64x128, a2⟩, ⟨S64x128, a3⟩, ⟨S64x128, a4⟩, ⟨S64x128, a5⟩] h (ix2 c j) = f c j := by
  pointwise
  simp only [h0, h1, h2, h3, h4, h5]
  split_ifs <;> exact congrArg _ (Fin.ext (by dsimp only [Fin.isValue]; omega))

theorem cat4 (f : Fin 256 → Fin 768 → EReal) (h) (h0 : ∀ (c : Fin 64) j, b0 (ix2 c j) = f ⟨64 * (0 : Fin 4).val + c.val, by omega⟩ j)
    (h1 : ∀ (c : Fin 64) j, b1 (ix2 c j) = f ⟨64 * (1 : Fin 4).val + c.val, by omega⟩ j)
    (h2 : ∀ (c : Fin 64) j, b2 (ix2 c j) = f ⟨64 * (2 : Fin 4).val + c.val, by omega⟩ j)
    (h3 : ∀ (c : Fin 64) j, b3 (ix2 c j) = f ⟨64 * (3 : Fin 4).val + c.val, by omega⟩ j) (x : Fin 256) (j : Fin 768) :
    concatenate S256x768 0 [⟨S64x768, b0⟩, ⟨S64x768, b1⟩, ⟨S64x768, b2⟩, ⟨S64x768, b3⟩] h (ix2 x j) = f x j := by
  pointwise
  simp only [h0, h1, h2, h3]
  split_ifs <;> exact congrArg (fun x => f x j) (Fin.ext (by dsimp only [Fin.isValue]; omega))

theorem tables0 (H : Tabs arg4 X4 hd D) (x : Fin 256) (j : Fin 768) :
    sl.v883 (F := Ideal) arg4 X4 k (ix2 x j) = biasAt D (hd 0) (qu (k8 k) x) (ke (k8 k) j) := by
  unfold sl.v883
  refine cat4 (fun x j => biasAt D (hd 0) (qu (k8 k) x) (ke (k8 k) j)) _ ?_ ?_ ?_ ?_ x j
  · exact cat6 (fun c j => biasAt D (hd 0) (qu (k8 k) ⟨64 * (0 : Fin 4).val + c.val, by omega⟩) (ke (k8 k) j)) _ (leaf0 k H 0 0 _ _)
      (leaf0 k H 0 1 _ _) (leaf0 k H 0 2 _ _) (leaf0 k H 0 3 _ _) (leaf0 k H 0 4 _ _) (leaf0 k H 0 5 _ _)
  · exact cat6 (fun c j => biasAt D (hd 0) (qu (k8 k) ⟨64 * (1 : Fin 4).val + c.val, by omega⟩) (ke (k8 k) j)) _ (leaf0 k H 1 0 _ _)
      (leaf0 k H 1 1 _ _) (leaf0 k H 1 2 _ _) (leaf0 k H 1 3 _ _) (leaf0 k H 1 4 _ _) (leaf0 k H 1 5 _ _)
  · exact cat6 (fun c j => biasAt D (hd 0) (qu (k8 k) ⟨64 * (2 : Fin 4).val + c.val, by omega⟩) (ke (k8 k) j)) _ (leaf0 k H 2 0 _ _)
      (leaf0 k H 2 1 _ _) (leaf0 k H 2 2 _ _) (leaf0 k H 2 3 _ _) (leaf0 k H 2 4 _ _) (leaf0 k H 2 5 _ _)
  · exact cat6 (fun c j => biasAt D (hd 0) (qu (k8 k) ⟨64 * (3 : Fin 4).val + c.val, by omega⟩) (ke (k8 k) j)) _ (leaf0 k H 3 0 _ _)
      (leaf0 k H 3 1 _ _) (leaf0 k H 3 2 _ _) (leaf0 k H 3 3 _ _) (leaf0 k H 3 4 _ _) (leaf0 k H 3 5 _ _)

theorem tables1 (H : Tabs arg4 X4 hd D) (x : Fin 256) (j : Fin 768) :
    sl.v1871 (F := Ideal) arg4 X4 k (ix2 x j) = biasAt D (hd 1) (qu (k8 k) x) (ke (k8 k) j) := by
  unfold sl.v1871
  refine cat4 (fun x j => biasAt D (hd 1) (qu (k8 k) x) (ke (k8 k) j)) _ ?_ ?_ ?_ ?_ x j
  · exact cat6 (fun c j => biasAt D (hd 1) (qu (k8 k) ⟨64 * (0 : Fin 4).val + c.val, by omega⟩) (ke (k8 k) j)) _ (leaf1 k H 0 0 _ _)
      (leaf1 k H 0 1 _ _) (leaf1 k H 0 2 _ _) (leaf1 k H 0 3 _ _) (leaf1 k H 0 4 _ _) (leaf1 k H 0 5 _ _)
  · exact cat6 (fun c j => biasAt D (hd 1) (qu (k8 k) ⟨64 * (1 : Fin 4).val + c.val, by omega⟩) (ke (k8 k) j)) _ (leaf1 k H 1 0 _ _)
      (leaf1 k H 1 1 _ _) (leaf1 k H 1 2 _ _) (leaf1 k H 1 3 _ _) (leaf1 k H 1 4 _ _) (leaf1 k H 1 5 _ _)
  · exact cat6 (fun c j => biasAt D (hd 1) (qu (k8 k) ⟨64 * (2 : Fin 4).val + c.val, by omega⟩) (ke (k8 k) j)) _ (leaf1 k H 2 0 _ _)
      (leaf1 k H 2 1 _ _) (leaf1 k H 2 2 _ _) (leaf1 k H 2 3 _ _) (leaf1 k H 2 4 _ _) (leaf1 k H 2 5 _ _)
  · exact cat6 (fun c j => biasAt D (hd 1) (qu (k8 k) ⟨64 * (3 : Fin 4).val + c.val, by omega⟩) (ke (k8 k) j)) _ (leaf1 k H 3 0 _ _)
      (leaf1 k H 3 1 _ _) (leaf1 k H 3 2 _ _) (leaf1 k H 3 3 _ _) (leaf1 k H 3 4 _ _) (leaf1 k H 3 5 _ _)

theorem holds0 {arg : Memref sg .tc .vmem S16x128x128 .bf16} {X : BufTy.Contents (Elt Ideal) arg.view.ty} {g} (H : Cols arg X hd g) :
    Holds (arg.view.readAt (Elt Ideal) (Rect.unit (s := S16x128x128) (k0_off3 k 0#32) S1x64x128.size (k0_off3_inb k 0)).toLoadRect X)
      (arg.view.readAt (Elt Ideal) (Rect.unit (s := S16x128x128) (k0_off3 k 1#32) S1x64x128.size (k0_off3_inb k 1)).toLoadRect X)
      (arg.view.readAt (Elt Ideal) (Rect.unit (s := S16x128x128) (k0_off3 k 2#32) S1x64x128.size (k0_off3_inb k 2)).toLoadRect X)
      (arg.view.readAt (Elt Ideal) (Rect.unit (s := S16x128x128) (k0_off3 k 3#32) S1x64x128.size (k0_off3_inb k 3)).toLoadRect X)
      (arg.view.readAt (Elt Ideal) (Rect.unit (s := S16x128x128) (k0_off3 k 4#32) S1x64x128.size (k0_off3_inb k 4)).toLoadRect X)
      (arg.view.readAt (Elt Ideal) (Rect.unit (s := S16x128x128) (k0_off3 k 5#32) S1x64x128.size (k0_off3_inb k 5)).toLoadRect X) (band (hd 0) (k8 k) g) :=
  ⟨fun d l => (cols0 k H 0 _ d l).trans (congrArg _ (Fin.ext (by simp))), cols0 k H 1 _, cols0 k H 2 _, cols0 k H 3 _, cols0 k H 4 _, cols0 k H 5 _⟩

theorem holds1 {arg : Memref sg .tc .vmem S16x128x128 .bf16} {X : BufTy.Contents (Elt Ideal) arg.view.ty} {g} (H : Cols arg X hd g) :
    Holds (arg.view.readAt (Elt Ideal) (Rect.unit (s := S16x128x128) (k0_off7 k 0#32) S1x64x128.size (k0_off7_inb k 0)).toLoadRect X)
      (arg.view.readAt (Elt Ideal) (Rect.unit (s := S16x128x128) (k0_off7 k 1#32) S1x64x128.size (k0_off7_inb k 1)).toLoadRect X)
      (arg.view.readAt (Elt Ideal) (Rect.unit (s := S16x128x128) (k0_off7 k 2#32) S1x64x128.size (k0_off7_inb k 2)).toLoadRect X)
      (arg.view.readAt (Elt Ideal) (Rect.unit (s := S16x128x128) (k0_off7 k 3#32) S1x64x128.size (k0_off7_inb k 3)).toLoadRect X)
      (arg.view.readAt (Elt Ideal) (Rect.unit (s := S16x128x128) (k0_off7 k 4#32) S1x64x128.size (k0_off7_inb k 4)).toLoadRect X)
      (arg.view.readAt (Elt Ideal) (Rect.unit (s := S16x128x128) (k0_off7 k 5#32) S1x64x128.size (k0_off7_inb k 5)).toLoadRect X) (band (hd 1) (k8 k) g) :=
  ⟨fun d l => (cols1 k H 0 _ d l).trans (congrArg _ (Fin.ext (by simp))), cols1 k H 1 _, cols1 k H 2 _, cols1 k H 3 _, cols1 k H 4 _, cols1 k H 5 _⟩

variable (HT : Tabs arg4 X4 hd D) (Hq : Rows arg14 X14 hd D.q) (Hk : Rows arg15 X15 hd D.k) (Ho : Rows arg17 X17 hd D.o)
  (HK : Cols arg18 X18 hd D.k) (HV : Cols arg19 X19 hd D.v)
include HT Hq HK

theorem pr0 (x : Fin 256) (j : Fin 768) :
    sl.r_1 (F := Ideal) arg4 arg14 arg18 X4 X14 X18 k (ix2 x j) = (D.pr (hd 0) (qu (k8 k) x) (ke (k8 k) j) : EReal) :=
  p0 D (hd 0) (k8 k) (tables0 k HT) (isQ0 k Hq) (holds0 k HK) x j

theorem pr1 (x : Fin 256) (j : Fin 768) :
    sl.r_14 (F := Ideal) arg4 arg14 arg18 X4 X14 X18 k (ix2 x j) = (D.pr (hd 1) (qu (k8 k) x) (ke (k8 k) j) : EReal) :=
  p1 D (hd 1) (k8 k) (tables1 k HT) (isQ1 k Hq) (holds1 k HK) x j

include Ho HV

theorem gr0 (x : Fin 256) (j : Fin 768) :
    sl.r_4 (F := Ideal) arg4 arg14 arg17 arg18 arg19 X4 X14 X17 X18 X19 k (ix2 x j) = (D.ds (hd 0) (qu (k8 k) x) (ke (k8 k) j) : EReal) :=
  ds0 D (hd 0) (k8 k) (pr0 k HT Hq HK) (isQ0 k Ho) (holds0 k HV) x j

theorem gr1 (x : Fin 256) (j : Fin 768) :
    sl.r_19 (F := Ideal) arg4 arg14 arg17 arg18 arg19 X4 X14 X17 X18 X19 k (ix2 x j) = (D.ds (hd 1) (qu (k8 k) x) (ke (k8 k) j) : EReal) :=
  ds1 D (hd 1) (k8 k) (pr1 k HT Hq HK) (isQ1 k Ho) (holds1 k HV) x j

end Cert.Kernel2Ideal.AttnTrip
-- ==== Proof.AttnStep.lean ====
/-
  The attention's loop keeps its invariant: after the first blocks of queries the accumulators hold the sums over them.
-/
module
public import proofs.«01_k».proof.Proof.AttnTrip
@[expose] public section
set_option maxRecDepth 16384
noncomputable section
open Idealize.ShloMosaic Idealize.ShloMosaic.TcCoe
namespace Cert.Kernel2Ideal.AttnStep
open Cert.Kernel2Ideal Cert.Kernel2Ideal.Gen
open Cert.Attn Cert.Reals AttnTables AttnEntries AttnPay AttnTrip AttnLoop.trip

/-- A list of two pieces, the two heads' columns of `n` rows from row `R`. -/
theorem put2 {κ : Kind} {sp : Space} {e : EltTy} {Val : EltTy → Type} (v : View sig κ sp S2048x128 e) (f : v.ty.Contents Val) {n R : ℕ}
    {o1 o0 : Fin 2 → ℕ} (inb1 : ∀ a, o1 a + (![n, 64] : Fin 2 → ℕ) a ≤ S2048x128.size a) (inb0 : ∀ a, o0 a + (![n, 64] : Fin 2 → ℕ) a ≤ S2048x128.size a)
    (h1 : o1 = ![R, 64]) (h0 : o0 = ![R, 0]) (w1 w0 : (⟨2, ![n, 64]⟩ : Shape).Idx → Val e) (t : Fin 2048) (s : Fin 2) (d : Fin 64) :
    v.read Val (v.writes Val f [⟨Rect.unit (s := S2048x128) o1 ![n, 64] inb1, w1⟩, ⟨Rect.unit (s := S2048x128) o0 ![n, 64] inb0, w0⟩]) (ix2 t (lan s d))
      = if h : R ≤ t.val ∧ t.val < R + n then (if s = 0 then w0 (ix2 ⟨t.val - R, by omega⟩ d) else w1 (ix2 ⟨t.val - R, by omega⟩ d))
        else v.read Val f (ix2 t (lan s d)) := by
  have hd := d.isLt
  by_cases hr : R ≤ t.val ∧ t.val < R + n
  · rw [dif_pos hr]
    by_cases hs : s = 0
    · subst hs
      rw [if_pos rfl]
      refine (View.read_writes_cons_unit_of_not_mem v f inb1 w1 _ _ h1 1 (Or.inl ?_)).trans
        (View.read_writes_cons_unit_of_mem v f inb0 w0 [] _ (ix2 ⟨t.val - R, by omega⟩ d) h0 (Fin.forall_fin_two.mpr ⟨?_, ?_⟩))
      · show 64 * 0 + d.val < 64; omega
      · show t.val = R + (t.val - R); omega
      · rfl
    · have hs1 : s = 1 := by omega
      subst hs1
      rw [if_neg hs]
      refine View.read_writes_cons_unit_of_mem v f inb1 w1 _ _ (ix2 ⟨t.val - R, by omega⟩ d) h1 (Fin.forall_fin_two.mpr ⟨?_, ?_⟩)
      · show t.val = R + (t.val - R); omega
      · rfl
  · rw [dif_neg hr]
    refine (View.read_writes_cons_unit_of_not_mem v f inb1 w1 _ _ h1 0 ?_).trans
      (View.read_writes_cons_unit_of_not_mem v f inb0 w0 [] _ h0 0 ?_)
    · show t.val < R ∨ R + n ≤ t.val; omega
    · show t.val < R ∨ R + n ≤ t.val; omega

/-- After `n` blocks of queries. -/
structure Inv (a11 a12 a13 : Memref sig .tc .vmem S2048x128 .f32) (hd : Fin 2 → Fin 16) (D : Data) (n : ℕ)
    (f11 : BufTy.Contents (Elt Ideal) a11.view.ty) (f12 : BufTy.Contents (Elt Ideal) a12.view.ty)
    (f13 : BufTy.Contents (Elt Ideal) a13.view.ty) : Prop where
  dq : ∀ (t : Fin 2048) s d, t.val < 256 * n → a11.view.read (Elt Ideal) f11 (ix2 t (lan s d)) = (D.dq (hd s) t d : EReal)
  dk : ∀ y s d, a12.view.read (Elt Ideal) f12 (ix2 y (lan s d)) = (upto (dkTerm D (hd s) y d) n : EReal)
  dv : ∀ y s d, a13.view.read (Elt Ideal) f13 (ix2 y (lan s d)) = (upto (dvTerm D (hd s) y d) n : EReal)

section
attribute [local irreducible] View.writes

variable {a4 : Memref sig .tc .vmem S2x17x64x128 .f32} {a14 a15 a17 : Memref sig .tc .vmem S2048x128 .bf16}
  {a18 a19 : Memref sig .tc .vmem S16x128x128 .bf16} {a11 a12 a13 : Memref sig .tc .vmem S2048x128 .f32}
  {X4 : BufTy.Contents (Elt Ideal) a4.view.ty} {X14 : BufTy.Contents (Elt Ideal) a14.view.ty} {X15 : BufTy.Contents (Elt Ideal) a15.view.ty}
  {X17 : BufTy.Contents (Elt Ideal) a17.view.ty} {X18 : BufTy.Contents (Elt Ideal) a18.view.ty} {X19 : BufTy.Contents (Elt Ideal) a19.view.ty}
  {D : Data} {hd : Fin 2 → Fin 16} (k : Fin k0_t1_loop.trips)

/-- A buffer of rows holds `g`, reading the block's band of either head. -/
theorem acc0 {arg : Memref sig .tc .vmem S2048x128 .f32} {f : BufTy.Contents (Elt Ideal) arg.view.ty} {g : Fin 2048 → Fin 2 → Fin 64 → ℝ}
    (H : ∀ y s d, arg.view.read (Elt Ideal) f (ix2 y (lan s d)) = (g y s d : EReal)) (j : Fin 768) (d : Fin 64) :
    arg.view.readAt (Elt Ideal) (Rect.unit (s := S2048x128) (k0_off4 k) S768x64.size (k0_off4_inb k)).toLoadRect f (ix2 j d) = (g (ke (k8 k) j) 0 d : EReal) :=
  (load_eq arg.view f (k0_off4_inb k) (AttnLoop.off4_eq k) (ix2 j d) (ix2 (ke (k8 k) j) (lan 0 d))
    (Fin.forall_fin_two.mpr ⟨rfl, rfl⟩)).trans (H _ _ _)
theorem acc1 {arg : Memref sig .tc .vmem S2048x128 .f32} {f : BufTy.Contents (Elt Ideal) arg.view.ty} {g : Fin 2048 → Fin 2 → Fin 64 → ℝ}
    (H : ∀ y s d, arg.view.read (Elt Ideal) f (ix2 y (lan s d)) = (g y s d : EReal)) (j : Fin 768) (d : Fin 64) :
    arg.view.readAt (Elt Ideal) (Rect.unit (s := S2048x128) (k0_off8 k) S768x64.size (k0_off8_inb k)).toLoadRect f (ix2 j d) = (g (ke (k8 k) j) 1 d : EReal) :=
  (load_eq arg.view f (k0_off8_inb k) (AttnLoop.off8_eq k) (ix2 j d) (ix2 (ke (k8 k) j) (lan 1 d))
    (Fin.forall_fin_two.mpr ⟨rfl, rfl⟩)).trans (H _ _ _)

/-- The pieces a trip writes to the three accumulators. -/
abbrev L11 (a4 : Memref sig .tc .vmem S2x17x64x128 .f32) (a14 a15 a17 : Memref sig .tc .vmem S2048x128 .bf16)
    (a18 a19 : Memref sig .tc .vmem S16x128x128 .bf16)
    (X4 : BufTy.Contents (Elt Ideal) a4.view.ty) (X14 : BufTy.Contents (Elt Ideal) a14.view.ty) (X15 : BufTy.Contents (Elt Ideal) a15.view.ty)
    (X17 : BufTy.Contents (Elt Ideal) a17.view.ty) (X18 : BufTy.Contents (Elt Ideal) a18.view.ty) (X19 : BufTy.Contents (Elt Ideal) a19.view.ty)
    : List (View.Piece (Elt Ideal) S2048x128 .f32) :=
  [⟨Rect.unit (s := S2048x128) (k0_off6 k) ![256, 64] (k0_off6_inb k), sl.r_28 (F := Ideal) a4 a14 a15 a17 a18 a19 X4 X14 X15 X17 X18 X19 k⟩,
   ⟨Rect.unit (s := S2048x128) (k0_off2 k) ![256, 64] (k0_off2_inb k), k0_pay53 (F := Ideal) (sl.r_4 a4 a14 a17 a18 a19 X4 X14 X17 X18 X19 k)
      (a15.view.readAt (Elt Ideal) (Rect.unit (s := S2048x128) (k0_off4 k) S768x64.size (k0_off4_inb k)).toLoadRect X15)⟩]
abbrev L12 (a4 : Memref sig .tc .vmem S2x17x64x128 .f32) (a14 a17 : Memref sig .tc .vmem S2048x128 .bf16)
    (a18 a19 : Memref sig .tc .vmem S16x128x128 .bf16) (a12 : Memref sig .tc .vmem S2048x128 .f32)
    (X4 : BufTy.Contents (Elt Ideal) a4.view.ty) (X14 : BufTy.Contents (Elt Ideal) a14.view.ty)
    (X17 : BufTy.Contents (Elt Ideal) a17.view.ty) (X18 : BufTy.Contents (Elt Ideal) a18.view.ty) (X19 : BufTy.Contents (Elt Ideal) a19.view.ty)
    (f : BufTy.Contents (Elt Ideal) a12.view.ty) : List (View.Piece (Elt Ideal) S2048x128 .f32) :=
  [⟨Rect.unit (s := S2048x128) (k0_off8 k) ![768, 64] (k0_off8_inb k), k0_pay148 (F := Ideal) (sl.r_11 a14 X14 k) (sl.r_26 a4 a14 a17 a18 a19 X4 X14 X17 X18 X19 k)
      (sl.v2207 a12 k f)⟩,
   ⟨Rect.unit (s := S2048x128) (k0_off4 k) ![768, 64] (k0_off4_inb k), k0_pay54 (F := Ideal) (sl.r a14 X14 k) (sl.r_4 a4 a14 a17 a18 a19 X4 X14 X17 X18 X19 k)
      (a12.view.readAt (Elt Ideal) (Rect.unit (s := S2048x128) (k0_off4 k) S768x64.size (k0_off4_inb k)).toLoadRect f)⟩]
abbrev L13 (a4 : Memref sig .tc .vmem S2x17x64x128 .f32) (a14 a17 : Memref sig .tc .vmem S2048x128 .bf16)
    (a18 : Memref sig .tc .vmem S16x128x128 .bf16) (a13 : Memref sig .tc .vmem S2048x128 .f32)
    (X4 : BufTy.Contents (Elt Ideal) a4.view.ty) (X14 : BufTy.Contents (Elt Ideal) a14.view.ty)
    (X17 : BufTy.Contents (Elt Ideal) a17.view.ty) (X18 : BufTy.Contents (Elt Ideal) a18.view.ty)
    (f : BufTy.Contents (Elt Ideal) a13.view.ty) : List (View.Piece (Elt Ideal) S2048x128 .f32) :=
  [⟨Rect.unit (s := S2048x128) (k0_off8 k) ![768, 64] (k0_off8_inb k), k0_pay149 (F := Ideal) (sl.r_14 a4 a14 a18 X4 X14 X18 k) (sl.r_15 a17 X17 k)
      (sl.v2215 a13 k f)⟩,
   ⟨Rect.unit (s := S2048x128) (k0_off4 k) ![768, 64] (k0_off4_inb k), k0_pay55 (F := Ideal) (sl.r_1 a4 a14 a18 X4 X14 X18 k) (sl.r_2 a17 X17 k)
      (a13.view.readAt (Elt Ideal) (Rect.unit (s := S2048x128) (k0_off4 k) S768x64.size (k0_off4_inb k)).toLoadRect f)⟩]

theorem step (HT : Tabs a4 X4 hd D) (Hq : Rows a14 X14 hd D.q) (Hk : Rows a15 X15 hd D.k) (Ho : Rows a17 X17 hd D.o)
    (HK : Cols a18 X18 hd D.k) (HV : Cols a19 X19 hd D.v)
    {f11 : BufTy.Contents (Elt Ideal) a11.view.ty} {f12 : BufTy.Contents (Elt Ideal) a12.view.ty} {f13 : BufTy.Contents (Elt Ideal) a13.view.ty}
    (I : Inv a11 a12 a13 hd D k.val f11 f12 f13) :
    Inv a11 a12 a13 hd D (k.val + 1) (a11.view.writes (Elt Ideal) f11 (L11 k a4 a14 a15 a17 a18 a19 X4 X14 X15 X17 X18 X19))
      (a12.view.writes (Elt Ideal) f12 (L12 k a4 a14 a17 a18 a19 a12 X4 X14 X17 X18 X19 f12))
      (a13.view.writes (Elt Ideal) f13 (L13 k a4 a14 a17 a18 a13 X4 X14 X17 X18 f13)) where
  dq t s d ht := by
    refine (put2 a11.view f11 (k0_off6_inb k) (k0_off2_inb k) (k0_off6_eq k) (k0_off2_eq k) _ _ t s d).trans ?_
    by_cases hr : 256 * k.val ≤ t.val ∧ t.val < 256 * k.val + 256
    · rw [dif_pos hr]
      obtain ⟨x, rfl⟩ : ∃ x : Fin 256, t = qu (k8 k) x := ⟨⟨t.val - 256 * k.val, by omega⟩, Fin.ext (by unfold qu; dsimp only; omega)⟩
      have hx : (⟨(qu (k8 k) x).val - 256 * k.val, by omega⟩ : Fin 256) = x := Fin.ext (by unfold qu; dsimp only; omega)
      rw [hx]
      match s with
      | ⟨0, _⟩ => exact (pay53_apply _ _ x d).trans (dq_sum D (hd 0) (k8 k) (gr0 k HT Hq Ho HK HV) (rows0 k Hk) x d)
      | ⟨1, _⟩ => exact (pay101_apply _ _ x d).trans (dq_sum D (hd 1) (k8 k) (gr1 k HT Hq Ho HK HV) (rows1 k Hk) x d)
    · rw [dif_neg hr]
      exact I.dq t s d (by omega)
  dk y s d := by
    refine (put2 a12.view f12 (k0_off8_inb k) (k0_off4_inb k) (AttnLoop.off8_eq k) (AttnLoop.off4_eq k) _ _ y s d).trans ?_
    have hb : bandLo k.val = 64 * AttnLoop.bandRow k := rfl
    by_cases hr : 64 * AttnLoop.bandRow k ≤ y.val ∧ y.val < 64 * AttnLoop.bandRow k + 768
    · rw [dif_pos hr]
      obtain ⟨j, rfl⟩ : ∃ j : Fin 768, y = ke (k8 k) j := ⟨⟨y.val - 64 * AttnLoop.bandRow k, by omega⟩, Fin.ext (by unfold ke; dsimp only; omega)⟩
      have hj : (⟨(ke (k8 k) j).val - 64 * AttnLoop.bandRow k, by omega⟩ : Fin 768) = j := Fin.ext (by unfold ke; dsimp only; omega)
      rw [hj]
      match s with
      | ⟨0, _⟩ => exact (pay54_apply _ _ _ j d).trans (dk_sum D (hd 0) (k8 k) (gr0 k HT Hq Ho HK HV) (isQ0 k Hq) j d (acc0 k (g := fun y s d => upto (dkTerm D (hd s) y d) k.val) I.dk j d))
      | ⟨1, _⟩ => exact (pay148_apply _ _ _ j d).trans (dk_sum D (hd 1) (k8 k) (gr1 k HT Hq Ho HK HV) (isQ1 k Hq) j d (acc1 k (g := fun y s d => upto (dkTerm D (hd s) y d) k.val) I.dk j d))
    · rw [dif_neg hr, I.dk y s d]
      exact congrArg _ (upto_outside (k8 k) (dkTerm D (hd s) y d) y hr (dkTerm_outside D (hd s) y d)).symm
  dv y s d := by
    refine (put2 a13.view f13 (k0_off8_inb k) (k0_off4_inb k) (AttnLoop.off8_eq k) (AttnLoop.off4_eq k) _ _ y s d).trans ?_
    have hb : bandLo k.val = 64 * AttnLoop.bandRow k := rfl
    by_cases hr : 64 * AttnLoop.bandRow k ≤ y.val ∧ y.val < 64 * AttnLoop.bandRow k + 768
    · rw [dif_pos hr]
      obtain ⟨j, rfl⟩ : ∃ j : Fin 768, y = ke (k8 k) j := ⟨⟨y.val - 64 * AttnLoop.bandRow k, by omega⟩, Fin.ext (by unfold ke; dsimp only; omega)⟩
      have hj : (⟨(ke (k8 k) j).val - 64 * AttnLoop.bandRow k, by omega⟩ : Fin 768) = j := Fin.ext (by unfold ke; dsimp only; omega)
      rw [hj]
      match s with
      | ⟨0, _⟩ => exact (pay55_apply _ _ _ j d).trans (dv_sum D (hd 0) (k8 k) (pr0 k HT Hq HK) (isQ0 k Ho) j d (acc0 k (g := fun y s d => upto (dvTerm D (hd s) y d) k.val) I.dv j d))
      | ⟨1, _⟩ => exact (pay149_apply _ _ _ j d).trans (dv_sum D (hd 1) (k8 k) (pr1 k HT Hq HK) (isQ1 k Ho) j d (acc1 k (g := fun y s d => upto (dvTerm D (hd s) y d) k.val) I.dv j d))
    · rw [dif_neg hr, I.dv y s d]
      exact congrArg _ (upto_outside (k8 k) (dvTerm D (hd s) y d) y hr (dvTerm_outside D (hd s) y d)).symm

theorem of_eq {n : ℕ} {p q : BufTy.Contents (Elt Ideal) a11.view.ty × BufTy.Contents (Elt Ideal) a12.view.ty × BufTy.Contents (Elt Ideal) a13.view.ty}
    (e : p = q) (I : Inv a11 a12 a13 hd D n q.1 q.2.1 q.2.2) : Inv a11 a12 a13 hd D n p.1 p.2.1 p.2.2 := by
  subst e; exact I

theorem pieces_eq {f11 : BufTy.Contents (Elt Ideal) a11.view.ty} {f12 : BufTy.Contents (Elt Ideal) a12.view.ty} {f13 : BufTy.Contents (Elt Ideal) a13.view.ty}
    {l1 l1' : List (View.Piece (Elt Ideal) S2048x128 .f32)} {l2 l2' : BufTy.Contents (Elt Ideal) a12.view.ty → List (View.Piece (Elt Ideal) S2048x128 .f32)}
    {l3 l3' : BufTy.Contents (Elt Ideal) a13.view.ty → List (View.Piece (Elt Ideal) S2048x128 .f32)} (e1 : l1 = l1') (e2 : l2 = l2') (e3 : l3 = l3') :
    (a11.view.writes (Elt Ideal) f11 l1, a12.view.writes (Elt Ideal) f12 (l2 f12), a13.view.writes (Elt Ideal) f13 (l3 f13))
      = (a11.view.writes (Elt Ideal) f11 l1', a12.view.writes (Elt Ideal) f12 (l2' f12), a13.view.writes (Elt Ideal) f13 (l3' f13)) := by
  subst e1 e2 e3; rfl

/-- A sequence of states, each a trip's pieces over the one before, keeps the invariant. -/
theorem inv_seq {a10 : Memref sig .tc .vmem S2x17x64x128 .f32} (S : ℕ → AttnLoop.State (F := Ideal) a10 a11 a12 a13)
    (HT : Tabs a4 X4 hd D) (Hq : Rows a14 X14 hd D.q) (Hk : Rows a15 X15 hd D.k) (Ho : Rows a17 X17 hd D.o)
    (HK : Cols a18 X18 hd D.k) (HV : Cols a19 X19 hd D.v)
    (H12 : ∀ y, a12.view.read (Elt Ideal) (S 0).2.2.1 y = 0) (H13 : ∀ y, a13.view.read (Elt Ideal) (S 0).2.2.2 y = 0)
    (hS : ∀ k : Fin k0_t1_loop.trips, (S (k.val + 1)).2 = (a11.view.writes (Elt Ideal) (S k.val).2.1 (L11 k a4 a14 a15 a17 a18 a19 X4 X14 X15 X17 X18 X19),
      a12.view.writes (Elt Ideal) (S k.val).2.2.1 (L12 k a4 a14 a17 a18 a19 a12 X4 X14 X17 X18 X19 (S k.val).2.2.1),
      a13.view.writes (Elt Ideal) (S k.val).2.2.2 (L13 k a4 a14 a17 a18 a13 X4 X14 X17 X18 (S k.val).2.2.2))) :
    ∀ n ≤ 8, Inv a11 a12 a13 hd D n (S n).2.1 (S n).2.2.1 (S n).2.2.2 := by
  intro n
  induction n with
  | zero => exact fun _ => ⟨fun t s d h => absurd h (Nat.not_lt_zero _), fun y s d => (H12 _).trans (by rw [upto_zero]; rfl),
      fun y s d => (H13 _).trans (by rw [upto_zero]; rfl)⟩
  | succ n ih =>
    intro h
    have hn : n < k0_t1_loop.trips := h
    have I := step ⟨n, hn⟩ HT Hq Hk Ho HK HV (ih (Nat.le_of_succ_le h))
    have e := hS ⟨n, hn⟩
    exact of_eq (p := (S (n + 1)).2) e I

end

/-! ### The loop's states -/

variable (𝒱 : Variants) (c : Dev nD) (bd : Option 𝒱.V) (i : grid0.Coords)
    (a1 : Memref sig .tc .vmem S2048x128 .f32) (q1 : a1.IsWhole)
    (a2 : Memref sig .tc .vmem S2048x128 .f32) (q2 : a2.IsWhole)
    (a3 : Memref sig .tc .vmem S2048x128 .f32) (q3 : a3.IsWhole)
    (a4 : Memref sig .tc .vmem S2x17x64x128 .f32) (q4 : a4.IsWhole)
    (a5 : Memref sig .tc .vmem S2048x128 .f32) (q5 : a5.IsWhole)
    (a6 : Memref sig .tc .vmem S2048x128 .bf16) (q6 : a6.IsWhole)
    (a7 : Memref sig .tc .vmem S2048x128 .bf16) (q7 : a7.IsWhole)
    (a8 : Memref sig .tc .vmem S2048x128 .bf16) (q8 : a8.IsWhole)
    (a9 : Memref sig .tc .vmem S3x128x2048 .bf16) (q9 : a9.IsWhole)
    (a10 : Memref sig .tc .vmem S2x17x64x128 .f32) (q10 : a10.IsWhole)
    (a11 : Memref sig .tc .vmem S2048x128 .f32) (q11 : a11.IsWhole)
    (a12 : Memref sig .tc .vmem S2048x128 .f32) (q12 : a12.IsWhole)
    (a13 : Memref sig .tc .vmem S2048x128 .f32) (q13 : a13.IsWhole)
    (a14 : Memref sig .tc .vmem S2048x128 .bf16) (q14 : a14.IsWhole)
    (a15 : Memref sig .tc .vmem S2048x128 .bf16) (q15 : a15.IsWhole)
    (a16 : Memref sig .tc .vmem S2048x128 .bf16) (q16 : a16.IsWhole)
    (a17 : Memref sig .tc .vmem S2048x128 .bf16) (q17 : a17.IsWhole)
    (a18 : Memref sig .tc .vmem S16x128x128 .bf16) (q18 : a18.IsWhole)
    (a19 : Memref sig .tc .vmem S16x128x128 .bf16) (q19 : a19.IsWhole)
    (v208 : FVec Ideal S128x128 .bf16)
    (X4 : BufTy.Contents (Elt Ideal) a4.view.ty) (X14 : BufTy.Contents (Elt Ideal) a14.view.ty) (X15 : BufTy.Contents (Elt Ideal) a15.view.ty) (X17 : BufTy.Contents (Elt Ideal) a17.view.ty) (X18 : BufTy.Contents (Elt Ideal) a18.view.ty) (X19 : BufTy.Contents (Elt Ideal) a19.view.ty)

theorem trip_L (k : Fin k0_t1_loop.trips) :
    (AttnLoop.trip 𝒱 c bd i a1 q1 a2 q2 a3 q3 a4 q4 a5 q5 a6 q6 a7 q7 a8 q8 a9 q9 a10 q10 a11 q11 a12 q12 a13 q13 a14 q14 a15 q15 a16 q16 a17 q17 a18 q18 a19 q19 v208 X4 X14 X15 X17 X18 X19 k).2.1 = L11 k a4 a14 a15 a17 a18 a19 X4 X14 X15 X17 X18 X19
      ∧ (AttnLoop.trip 𝒱 c bd i a1 q1 a2 q2 a3 q3 a4 q4 a5 q5 a6 q6 a7 q7 a8 q8 a9 q9 a10 q10 a11 q11 a12 q12 a13 q13 a14 q14 a15 q15 a16 q16 a17 q17 a18 q18 a19 q19 v208 X4 X14 X15 X17 X18 X19 k).2.2.1 = L12 k a4 a14 a17 a18 a19 a12 X4 X14 X17 X18 X19
      ∧ (AttnLoop.trip 𝒱 c bd i a1 q1 a2 q2 a3 q3 a4 q4 a5 q5 a6 q6 a7 q7 a8 q8 a9 q9 a10 q10 a11 q11 a12 q12 a13 q13 a14 q14 a15 q15 a16 q16 a17 q17 a18 q18 a19 q19 v208 X4 X14 X15 X17 X18 X19 k).2.2.2.1 = L13 k a4 a14 a17 a18 a13 X4 X14 X17 X18 := by
  unfold AttnLoop.trip; exact ⟨rfl, rfl, rfl⟩

variable {D : Data} {hd : Fin 2 → Fin 16}

theorem st_step (G : AttnLoop.State (F := Ideal) a10 a11 a12 a13) (k : Fin k0_t1_loop.trips) :
    (AttnLoop.st 𝒱 c bd i a1 q1 a2 q2 a3 q3 a4 q4 a5 q5 a6 q6 a7 q7 a8 q8 a9 q9 a10 q10 a11 q11 a12 q12 a13 q13 a14 q14 a15 q15 a16 q16 a17 q17 a18 q18 a19 q19 v208 X4 X14 X15 X17 X18 X19 G (k.val + 1)).2 = (a11.view.writes (Elt Ideal) (AttnLoop.st 𝒱 c bd i a1 q1 a2 q2 a3 q3 a4 q4 a5 q5 a6 q6 a7 q7 a8 q8 a9 q9 a10 q10 a11 q11 a12 q12 a13 q13 a14 q14 a15 q15 a16 q16 a17 q17 a18 q18 a19 q19 v208 X4 X14 X15 X17 X18 X19 G k.val).2.1 (L11 k a4 a14 a15 a17 a18 a19 X4 X14 X15 X17 X18 X19),
      a12.view.writes (Elt Ideal) (AttnLoop.st 𝒱 c bd i a1 q1 a2 q2 a3 q3 a4 q4 a5 q5 a6 q6 a7 q7 a8 q8 a9 q9 a10 q10 a11 q11 a12 q12 a13 q13 a14 q14 a15 q15 a16 q16 a17 q17 a18 q18 a19 q19 v208 X4 X14 X15 X17 X18 X19 G k.val).2.2.1 (L12 k a4 a14 a17 a18 a19 a12 X4 X14 X17 X18 X19 (AttnLoop.st 𝒱 c bd i a1 q1 a2 q2 a3 q3 a4 q4 a5 q5 a6 q6 a7 q7 a8 q8 a9 q9 a10 q10 a11 q11 a12 q12 a13 q13 a14 q14 a15 q15 a16 q16 a17 q17 a18 q18 a19 q19 v208 X4 X14 X15 X17 X18 X19 G k.val).2.2.1),
      a13.view.writes (Elt Ideal) (AttnLoop.st 𝒱 c bd i a1 q1 a2 q2 a3 q3 a4 q4 a5 q5 a6 q6 a7 q7 a8 q8 a9 q9 a10 q10 a11 q11 a12 q12 a13 q13 a14 q14 a15 q15 a16 q16 a17 q17 a18 q18 a19 q19 v208 X4 X14 X15 X17 X18 X19 G k.val).2.2.2 (L13 k a4 a14 a17 a18 a13 X4 X14 X17 X18 (AttnLoop.st 𝒱 c bd i a1 q1 a2 q2 a3 q3 a4 q4 a5 q5 a6 q6 a7 q7 a8 q8 a9 q9 a10 q10 a11 q11 a12 q12 a13 q13 a14 q14 a15 q15 a16 q16 a17 q17 a18 q18 a19 q19 v208 X4 X14 X15 X17 X18 X19 G k.val).2.2.2)) := by
  have t := trip_L 𝒱 c bd i a1 q1 a2 q2 a3 q3 a4 q4 a5 q5 a6 q6 a7 q7 a8 q8 a9 q9 a10 q10 a11 q11 a12 q12 a13 q13 a14 q14 a15 q15 a16 q16 a17 q17 a18 q18 a19 q19 v208 X4 X14 X15 X17 X18 X19 k
  exact (congrArg Prod.snd (AttnLoop.st_succ 𝒱 c bd i a1 q1 a2 q2 a3 q3 a4 q4 a5 q5 a6 q6 a7 q7 a8 q8 a9 q9 a10 q10 a11 q11 a12 q12 a13 q13 a14 q14 a15 q15 a16 q16 a17 q17 a18 q18 a19 q19 v208 X4 X14 X15 X17 X18 X19 G k)).trans (pieces_eq t.1 t.2.1 t.2.2)

end Cert.Kernel2Ideal.AttnStep
-- ==== Proof.AttnBuf.lean ====
/-
  What the attention's scratch buffers read once the body has filled them: the bands cast, the blocks transposed.
-/
module
public import proofs.«01_k».proof.Proof.AttnRun
public import proofs.«01_k».proof.Proof.AttnStep
@[expose] public section
set_option maxRecDepth 16384
noncomputable section
open Idealize.ShloMosaic Idealize.ShloMosaic.TcCoe
namespace Cert.Kernel2Ideal.AttnBuf
open Cert.Kernel2Ideal Cert.Kernel2Ideal.Gen
open Cert.Attn Cert.Reals AttnPay AttnTrip

variable {sg : RefSig}

/-- A load of a whole buffer's contents reads the contents there. -/
theorem load_whole {e : EltTy} {s : Shape} {arg : Memref sg .tc .vmem s e} (harg : arg.IsWhole) (x : Vec Ideal s e)
    {off off' size : Fin s.rank → ℕ} (inb : ∀ a, off a + size a ≤ s.size a) (h : off = off')
    (y : (Rect.unit off size inb).shape.Idx) (z : s.Idx) (hy : ∀ a, (z a).val = off' a + (y a).val) :
    arg.view.readAt (Elt Ideal) (Rect.unit off size inb).toLoadRect (harg.unread x) y = x z :=
  (load_eq arg.view _ inb h y z hy).trans (congrFun (harg.read_unread x) z)

/-- A buffer of rows overwritten whole reads what was stored. -/
theorem put_full {e : EltTy} (arg : Memref sg .tc .vmem S2048x128 e) (f : BufTy.Contents (Elt Ideal) arg.view.ty)
    (inb) (w : S2048x128.Idx → Elt Ideal e) (t : Fin 2048) (j : Fin 128) :
    arg.view.read (Elt Ideal) (arg.view.writes (Elt Ideal) f [⟨Rect.unit (s := S2048x128) ![0, 0] S2048x128.size inb, w⟩]) (ix2 t j) = w (ix2 t j) :=
  View.read_writes_cons_unit_of_mem arg.view f inb w [] _ (ix2 t j) rfl
    (Fin.forall_fin_two.mpr ⟨(Nat.zero_add _).symm, (Nat.zero_add _).symm⟩)

/-- One more plane of a buffer of planes. -/
theorem put_plane {e : EltTy} (arg : Memref sg .tc .vmem S16x128x128 e) (f : BufTy.Contents (Elt Ideal) arg.view.ty) (n : ℕ)
    (inb) (w : S1x128x128.Idx → Elt Ideal e) (L) (g : Fin 16 → Fin 128 → Fin 128 → Elt Ideal e)
    (hL : ∀ (k : Fin 16) a b, k.val < n → arg.view.read (Elt Ideal) (arg.view.writes (Elt Ideal) f L) (ix3 k a b) = g k a b)
    (hw : ∀ k : Fin 16, k.val = n → ∀ a b, w (ix3 0 a b) = g k a b) (k : Fin 16) (a b : Fin 128) (hk : k.val < n + 1) :
    arg.view.read (Elt Ideal) (arg.view.writes (Elt Ideal) f (⟨Rect.unit (s := S16x128x128) ![n, 0, 0] S1x128x128.size inb, w⟩ :: L)) (ix3 k a b) = g k a b := by
  by_cases h : k.val = n
  · refine (View.read_writes_cons_unit_of_mem arg.view f inb w L _ (ix3 0 a b) rfl fun x => ?_).trans (hw k h a b)
    match x with
    | ⟨0, _⟩ => exact h
    | ⟨1, _⟩ => exact (Nat.zero_add _).symm
    | ⟨2, _⟩ => exact (Nat.zero_add _).symm
  · refine (View.read_writes_cons_unit_of_not_mem arg.view f inb w L _ rfl 0 (Or.inl ?_)).trans (hL k a b (by omega))
    show k.val < n; omega

theorem pay102_apply (v : Vec Ideal S2048x128 .f32) (t : Fin 2048) (j : Fin 128) : k0_pay102 v (ix2 t j) = v (ix2 t j) := by
  pointwise [k0_pay102]
theorem pay103_apply (v : Vec Ideal S2048x128 .f32) (t : Fin 2048) (j : Fin 128) : k0_pay103 v (ix2 t j) = v (ix2 t j) := by
  pointwise [k0_pay103]
theorem pay105_apply (v : Vec Ideal S2048x128 .f32) (t : Fin 2048) (j : Fin 128) : k0_pay105 v (ix2 t j) = v (ix2 t j) := by
  pointwise [k0_pay105]
theorem pay145_apply (t : Fin 2048) (j : Fin 128) : k0_pay145 (F := Ideal) (ix2 t j) = 0 := by
  pointwise [k0_pay145]
theorem pay106_apply (v : Vec Ideal S128x128 .f32) (a b : Fin 128) : k0_pay106 v (ix3 0 a b) = v (ix2 b a) := by
  pointwise [k0_pay106]

section
variable {hd : Fin 2 → Fin 16} {g : Fin 2048 → Fin 16 → Fin 64 → ℝ} (c : Dev nD)

theorem rows14 (arg1 : Memref sig .tc .vmem S2048x128 .f32) (harg1 : arg1.IsWhole) (x1 : Vec Ideal S2048x128 .f32)
    (arg14 : Memref sig .tc .vmem S2048x128 .bf16) (h : ∀ t s d, x1 (ix2 t (lan s d)) = (g t (hd s) d : EReal)) :
    Rows arg14 (arg14.view.writes (Elt Ideal) arg14.view.junk (AttnRun.run.sl.H14_1 c arg1 harg1 x1)) hd g := fun t s d =>
  (put_full arg14 _ _ _ _ _).trans ((pay102_apply _ _ _).trans ((load_whole harg1 x1 _ rfl _ _
    (Fin.forall_fin_two.mpr ⟨(Nat.zero_add _).symm, (Nat.zero_add _).symm⟩)).trans (h t s d)))

/-- Sixteen blocks of 128 rows, each transposed. -/
def blocks (x : Vec Ideal S2048x128 .f32) (n : Fin 16) (a b : Fin 128) : EReal := x (ix2 ⟨128 * n.val + b.val, by omega⟩ a)

/-- A plane's payload: the block of rows, transposed. -/
theorem plane {arg : Memref sg .tc .vmem S2048x128 .f32} (harg : arg.IsWhole) (x : Vec Ideal S2048x128 .f32) {off : Fin 2 → ℕ}
    (inb : ∀ a, off a + S128x128.size a ≤ S2048x128.size a) (n : ℕ) (h : off = ![128 * n, 0]) (k : Fin 16) (hk : k.val = n) (a b : Fin 128) :
    k0_pay106 (arg.view.readAt (Elt Ideal) (Rect.unit (s := S2048x128) off S128x128.size inb).toLoadRect (harg.unread x)) (ix3 0 a b)
      = blocks x k a b :=
  (pay106_apply _ a b).trans (load_whole harg x inb h _ _ (Fin.forall_fin_two.mpr ⟨congrArg (fun n => 128 * n + b.val) hk, (Nat.zero_add _).symm⟩))

theorem cols18 (arg2 : Memref sig .tc .vmem S2048x128 .f32) (harg2 : arg2.IsWhole) (x2 : Vec Ideal S2048x128 .f32)
    (arg18 : Memref sig .tc .vmem S16x128x128 .bf16) (h : ∀ t s d, x2 (ix2 t (lan s d)) = (g t (hd s) d : EReal)) :
    Cols arg18 (arg18.view.writes (Elt Ideal) arg18.view.junk (AttnRun.run.sl.H18_16 c arg2 harg2 x2)) hd g := fun n s d l => by
  refine Eq.trans ?_ (h _ s d)
  have hn := n.isLt
  revert hn
  generalize lan s d = j
  refine fun hn => put_plane arg18 arg18.view.junk 15 _ _ _ (blocks x2) ?_ (plane harg2 x2 _ 15 rfl) n j l hn
  iterate 15 refine fun k a b hk => put_plane arg18 arg18.view.junk _ _ _ _ (blocks x2) ?_ (plane harg2 x2 _ _ rfl) k a b hk
  exact fun _ _ _ h => absurd h (Nat.not_lt_zero _)

theorem cols19 (arg3 : Memref sig .tc .vmem S2048x128 .f32) (harg3 : arg3.IsWhole) (x3 : Vec Ideal S2048x128 .f32)
    (arg19 : Memref sig .tc .vmem S16x128x128 .bf16) (h : ∀ t s d, x3 (ix2 t (lan s d)) = (g t (hd s) d : EReal)) :
    Cols arg19 (arg19.view.writes (Elt Ideal) arg19.view.junk (AttnRun.run.sl.H19_16 c arg3 harg3 x3)) hd g := fun n s d l => by
  refine Eq.trans ?_ (h _ s d)
  have hn := n.isLt
  revert hn
  generalize lan s d = j
  refine fun hn => put_plane arg19 arg19.view.junk 15 _ _ _ (blocks x3) ?_ (plane harg3 x3 _ 15 rfl) n j l hn
  iterate 15 refine fun k a b hk => put_plane arg19 arg19.view.junk _ _ _ _ (blocks x3) ?_ (plane harg3 x3 _ _ rfl) k a b hk
  exact fun _ _ _ h => absurd h (Nat.not_lt_zero _)

theorem rows15 (arg2 : Memref sig .tc .vmem S2048x128 .f32) (harg2 : arg2.IsWhole) (x2 : Vec Ideal S2048x128 .f32)
    (arg15 : Memref sig .tc .vmem S2048x128 .bf16) (h : ∀ t s d, x2 (ix2 t (lan s d)) = (g t (hd s) d : EReal)) :
    Rows arg15 (arg15.view.writes (Elt Ideal) arg15.view.junk (AttnRun.run.sl.H15_1 c arg2 harg2 x2)) hd g :=
  rows14 c arg2 harg2 x2 arg15 h

theorem rows17 (arg5 : Memref sig .tc .vmem S2048x128 .f32) (harg5 : arg5.IsWhole) (x5 : Vec Ideal S2048x128 .f32)
    (arg17 : Memref sig .tc .vmem S2048x128 .bf16) (h : ∀ t s d, x5 (ix2 t (lan s d)) = (g t (hd s) d : EReal)) :
    Rows arg17 (arg17.view.writes (Elt Ideal) arg17.view.junk (AttnRun.run.sl.H17_1 c arg5 harg5 x5)) hd g :=
  rows14 c arg5 harg5 x5 arg17 h

theorem tabs4 {D : Data} (arg4 : Memref sg .tc .vmem S2x17x64x128 .f32) (harg4 : arg4.IsWhole) (x4 : Vec Ideal S2x17x64x128 .f32)
    (h : ∀ (s : Fin 2) (k : Fin 8) (i : Fin 4) (g : Fin 6) (c : Fin 64) (l : Fin 128),
      x4 (ix4 s ⟨AttnEntries.entOf k.val i.val g.val, AttnEntries.entOf_lt k i g⟩ c l)
        = biasAt D (hd s) (qu k ⟨64 * i.val + c.val, by omega⟩) (ke k ⟨128 * g.val + l.val, by omega⟩)) :
    Tabs arg4 (harg4.unread x4) hd D := fun s k i g c l =>
  (congrFun (harg4.read_unread x4) _).trans (h s k i g c l)

theorem zero12 (arg12 : Memref sig .tc .vmem S2048x128 .f32) (y : S2048x128.Idx) :
    arg12.view.read (Elt Ideal) (arg12.view.writes (Elt Ideal) arg12.view.junk AttnRun.run.sl.H12_1) y = 0 := by
  rw [eq_ix2 y]
  exact (put_full arg12 _ _ _ _ _).trans (pay145_apply _ _)

theorem zero13 (arg13 : Memref sig .tc .vmem S2048x128 .f32) (y : S2048x128.Idx) :
    arg13.view.read (Elt Ideal) (arg13.view.writes (Elt Ideal) arg13.view.junk AttnRun.run.sl.H13_1) y = 0 :=
  zero12 arg13 y

end
end Cert.Kernel2Ideal.AttnBuf
-- ==== Proof.AttnLeft.lean ====
/-
  What one block of the attention leaves in its outputs: the two heads' gradients.
-/
module
public import proofs.«01_k».proof.Proof.AttnFrame
public import proofs.«01_k».proof.Proof.AttnBuf
@[expose] public section
set_option maxRecDepth 16384
noncomputable section
open Idealize.ShloMosaic Idealize.ShloMosaic.TcCoe
namespace Cert.Kernel2Ideal.AttnLeft
open Cert.Kernel2Ideal Cert.Kernel2Ideal.Gen
open Cert.Attn Cert.Reals AttnPay AttnTrip AttnStep AttnBuf AttnEntries

/-- The blocks hold the two heads of the data. -/
structure In (hd : Fin 2 → Fin 16) (D : Data) (x1 x2 x3 : Vec Ideal S2048x128 .f32) (x4 : Vec Ideal S2x17x64x128 .f32)
    (x5 : Vec Ideal S2048x128 .f32) : Prop where
  q : ∀ t s d, x1 (ix2 t (lan s d)) = (D.q t (hd s) d : EReal)
  k : ∀ t s d, x2 (ix2 t (lan s d)) = (D.k t (hd s) d : EReal)
  v : ∀ t s d, x3 (ix2 t (lan s d)) = (D.v t (hd s) d : EReal)
  o : ∀ t s d, x5 (ix2 t (lan s d)) = (D.o t (hd s) d : EReal)
  b : ∀ (s : Fin 2) (k : Fin 8) (i : Fin 4) (g : Fin 6) (c : Fin 64) (l : Fin 128),
      x4 (ix4 s ⟨entOf k.val i.val g.val, entOf_lt k i g⟩ c l)
        = biasAt D (hd s) (qu k ⟨64 * i.val + c.val, by omega⟩) (ke k ⟨128 * g.val + l.val, by omega⟩)

variable (c : Dev nD) (i : grid0.Coords)
    (a1 : Memref sig .tc .vmem S2048x128 .f32) (h1 : a1.IsWhole)
    (a2 : Memref sig .tc .vmem S2048x128 .f32) (h2 : a2.IsWhole)
    (a3 : Memref sig .tc .vmem S2048x128 .f32) (h3 : a3.IsWhole)
    (a4 : Memref sig .tc .vmem S2x17x64x128 .f32) (h4 : a4.IsWhole)
    (a5 : Memref sig .tc .vmem S2048x128 .f32) (h5 : a5.IsWhole)
    (a6 : Memref sig .tc .vmem S2048x128 .bf16) (h6 : a6.IsWhole)
    (a7 : Memref sig .tc .vmem S2048x128 .bf16) (h7 : a7.IsWhole)
    (a8 : Memref sig .tc .vmem S2048x128 .bf16) (h8 : a8.IsWhole)
    (a9 : Memref sig .tc .vmem S3x128x2048 .bf16) (h9 : a9.IsWhole)
    (a10 : Memref sig .tc .vmem S2x17x64x128 .f32) (h10 : a10.IsWhole)
    (a11 : Memref sig .tc .vmem S2048x128 .f32) (h11 : a11.IsWhole)
    (a12 : Memref sig .tc .vmem S2048x128 .f32) (h12 : a12.IsWhole)
    (a13 : Memref sig .tc .vmem S2048x128 .f32) (h13 : a13.IsWhole)
    (a14 : Memref sig .tc .vmem S2048x128 .bf16) (h14 : a14.IsWhole)
    (a15 : Memref sig .tc .vmem S2048x128 .bf16) (h15 : a15.IsWhole)
    (a16 : Memref sig .tc .vmem S2048x128 .bf16) (h16 : a16.IsWhole)
    (a17 : Memref sig .tc .vmem S2048x128 .bf16) (h17 : a17.IsWhole)
    (a18 : Memref sig .tc .vmem S16x128x128 .bf16) (h18 : a18.IsWhole)
    (a19 : Memref sig .tc .vmem S16x128x128 .bf16) (h19 : a19.IsWhole)
    (x1 : Vec Ideal S2048x128 .f32) (x2 : Vec Ideal S2048x128 .f32) (x3 : Vec Ideal S2048x128 .f32) (x4 : Vec Ideal S2x17x64x128 .f32) (x5 : Vec Ideal S2048x128 .f32)
    {hd : Fin 2 → Fin 16} {D : Data} (H : In hd D x1 x2 x3 x4 x5)

include H in
set_option maxHeartbeats 1000000 in
theorem inv (f11 : BufTy.Contents (Elt Ideal) a11.view.ty) :
    Inv a11 a12 a13 hd D 8 (AttnRun.stage c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 8).2.1 (AttnRun.stage c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 8).2.2.1 (AttnRun.stage c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11 8).2.2.2 := by
  refine inv_seq (AttnRun.stage c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 f11) (tabs4 a4 h4 x4 H.b) (rows14 c a1 h1 x1 a14 H.q) (rows15 c a2 h2 x2 a15 H.k)
    (rows17 c a5 h5 x5 a17 H.o) (cols18 c a2 h2 x2 a18 H.k) (cols19 c a3 h3 x3 a19 H.v) ?_ ?_ ?_ 8 (Nat.le_refl 8)
  · exact zero12 a12
  · exact zero13 a13
  · intro k
    unfold AttnRun.stage
    exact st_step ..

omit H

theorem pay150_apply (v : Vec Ideal S2048x128 .f32) (t : Fin 2048) (j : Fin 128) : k0_pay150 v (ix2 t j) = v (ix2 t j) := by
  pointwise [k0_pay150]
theorem pay152_apply (v : Vec Ideal S2048x128 .f32) (t : Fin 2048) (j : Fin 128) : k0_pay152 v (ix2 t j) = v (ix2 t j) := by
  pointwise [k0_pay152]
theorem pay2_apply (v : Vec Ideal S2048x128 .f32) (t : Fin 2048) (j : Fin 128) : k0_pay2 v (ix2 t j) = v (ix2 t j) := by
  pointwise [k0_pay2]
theorem pay151_apply (v : Vec Ideal S2048x128 .f32) (t : Fin 2048) (j : Fin 128) : k0_pay151 v (ix3 0 j t) = v (ix2 t j) := by
  pointwise [k0_pay151]
theorem pay1_apply (v : Vec Ideal S2048x128 .f32) (t : Fin 2048) (j : Fin 128) : k0_pay1 v (ix3 0 j t) = v (ix2 t j) := by
  pointwise [k0_pay1]
theorem pay3_apply (v : Vec Ideal S2048x128 .f32) (t : Fin 2048) (j : Fin 128) : k0_pay3 v (ix3 0 j t) = v (ix2 t j) := by
  pointwise [k0_pay3]

/-- A load of the whole buffer. -/
theorem load_full {arg : Memref sig .tc .vmem S2048x128 .f32} (f : BufTy.Contents (Elt Ideal) arg.view.ty) (inb) (t : Fin 2048) (j : Fin 128) :
    arg.view.readAt (Elt Ideal) (Rect.unit (s := S2048x128) ![0, 0] S2048x128.size inb).toLoadRect f (ix2 t j)
      = arg.view.read (Elt Ideal) f (ix2 t j) :=
  load_eq arg.view f inb rfl (ix2 t j) (ix2 t j) (Fin.forall_fin_two.mpr ⟨(Nat.zero_add _).symm, (Nat.zero_add _).symm⟩)

/-- The three gradients stacked, each transposed. -/
theorem put3 (arg : Memref sig .tc .vmem S3x128x2048 .bf16) (f : BufTy.Contents (Elt Ideal) arg.view.ty) (i2 i1 i0)
    (w2 w1 w0 : S1x128x2048.Idx → Elt Ideal .bf16) (a : Fin 3) (j : Fin 128) (t : Fin 2048) :
    arg.view.read (Elt Ideal) (arg.view.writes (Elt Ideal) f [⟨Rect.unit (s := S3x128x2048) ![2, 0, 0] S1x128x2048.size i2, w2⟩,
        ⟨Rect.unit (s := S3x128x2048) ![1, 0, 0] S1x128x2048.size i1, w1⟩, ⟨Rect.unit (s := S3x128x2048) ![0, 0, 0] S1x128x2048.size i0, w0⟩]) (ix3 a j t)
      = if a.val < 1 then w0 (ix3 0 j t) else if a.val < 2 then w1 (ix3 0 j t) else w2 (ix3 0 j t) := by
  have hin : ∀ n : ℕ, a.val = n → ∀ x : Fin 3, (ix3 a j t x).val = (![n, 0, 0] : Fin 3 → ℕ) x + ((ix3 (0 : Fin 1) j t : S1x128x2048.Idx) x).val := fun n h x => by
    match x with
    | ⟨0, _⟩ => exact h
    | ⟨1, _⟩ => exact (Nat.zero_add _).symm
    | ⟨2, _⟩ => exact (Nat.zero_add _).symm
  have hout : ∀ n : ℕ, a.val ≠ n → (ix3 a j t 0).val < (![n, 0, 0] : Fin 3 → ℕ) 0 ∨ (![n, 0, 0] : Fin 3 → ℕ) 0 + S1x128x2048.size 0 ≤ (ix3 a j t 0).val := fun n h => by
    show a.val < n ∨ n + 1 ≤ a.val
    omega
  split
  · rename_i h
    exact (View.read_writes_cons_unit_of_not_mem arg.view f i2 w2 _ _ rfl 0 (hout 2 (by omega))).trans
      ((View.read_writes_cons_unit_of_not_mem arg.view f i1 w1 _ _ rfl 0 (hout 1 (by omega))).trans
        (View.read_writes_cons_unit_of_mem arg.view f i0 w0 _ _ (ix3 0 j t) rfl (hin 0 (by omega))))
  · split
    · exact (View.read_writes_cons_unit_of_not_mem arg.view f i2 w2 _ _ rfl 0 (hout 2 (by omega))).trans
        (View.read_writes_cons_unit_of_mem arg.view f i1 w1 _ _ (ix3 0 j t) rfl (hin 1 (by omega)))
    · exact View.read_writes_cons_unit_of_mem arg.view f i2 w2 _ _ (ix3 0 j t) rfl (hin 2 (by omega))

theorem of_list {s : Shape} {e : EltTy} (arg : Memref sig .tc .vmem s e) {L L' : List (View.Piece (Elt Ideal) s e)} (h : L = L') (y : s.Idx) :
    arg.view.read (Elt Ideal) (arg.view.writes (Elt Ideal) arg.view.junk L) y = arg.view.read (Elt Ideal) (arg.view.writes (Elt Ideal) arg.view.junk L') y := by
  rw [h]

include H

theorem o6_apply (t : Fin 2048) (s : Fin 2) (d : Fin 64) :
    AttnFrame.o6 c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 (ix2 t (lan s d)) = (D.dq (hd s) t d : EReal) := by
  have I := inv c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 H a11.view.junk
  unfold AttnFrame.o6 AttnFrame.runJ
  refine (of_list a6 (AttnRun.run_L6_eq c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 _ _ _ _ _ _ _ _ _ _) _).trans ((put_full a6 _ _ _ _ _).trans ((pay150_apply _ _ _).trans ((load_full _ _ _ _).trans ?_)))
  exact I.dq t s d (show t.val < 2048 from t.isLt)

theorem o7_apply (t : Fin 2048) (s : Fin 2) (d : Fin 64) :
    AttnFrame.o7 c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 (ix2 t (lan s d)) = (D.dk (hd s) t d : EReal) := by
  have I := inv c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 H a11.view.junk
  unfold AttnFrame.o7 AttnFrame.runJ
  refine (of_list a7 (AttnRun.run_L7_eq c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 _ _ _ _ _ _ _ _ _ _) _).trans ((put_full a7 _ _ _ _ _).trans ((pay152_apply _ _ _).trans ((load_full _ _ _ _).trans ?_)))
  exact ((I.dk t s d).trans (congrArg _ (upto_eight _)))

theorem o8_apply (t : Fin 2048) (s : Fin 2) (d : Fin 64) :
    AttnFrame.o8 c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 (ix2 t (lan s d)) = (D.dv (hd s) t d : EReal) := by
  have I := inv c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 H a11.view.junk
  unfold AttnFrame.o8 AttnFrame.runJ
  refine (of_list a8 (AttnRun.run_L8_eq c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 _ _ _ _ _ _ _ _ _ _) _).trans ((put_full a8 _ _ _ _ _).trans ((pay2_apply _ _ _).trans ((load_full _ _ _ _).trans ?_)))
  exact ((I.dv t s d).trans (congrArg _ (upto_eight _)))

theorem o9_apply (a : Fin 3) (t : Fin 2048) (s : Fin 2) (d : Fin 64) :
    AttnFrame.o9 c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 (ix3 a (lan s d) t)
      = if a.val < 1 then (D.dq (hd s) t d : EReal) else if a.val < 2 then (D.dk (hd s) t d : EReal) else (D.dv (hd s) t d : EReal) := by
  have I := inv c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 H a11.view.junk
  unfold AttnFrame.o9 AttnFrame.runJ
  refine (of_list a9 (AttnRun.run_L9_eq c i a1 h1 a2 h2 a3 h3 a4 h4 a5 h5 a6 h6 a7 h7 a8 h8 a9 h9 a10 h10 a11 h11 a12 h12 a13 h13 a14 h14 a15 h15 a16 h16 a17 h17 a18 h18 a19 h19 x1 x2 x3 x4 x5 _ _ _ _ _ _ _ _ _ _) _).trans ((put3 a9 _ _ _ _ _ _ _ _ _ _).trans ?_)
  refine if_congr Iff.rfl ?_ (if_congr Iff.rfl ?_ ?_)
  · exact (pay151_apply _ _ _).trans ((load_full _ _ _ _).trans (I.dq t s d (show t.val < 2048 from t.isLt)))
  · exact (pay1_apply _ _ _).trans ((load_full _ _ _ _).trans ((I.dk t s d).trans (congrArg _ (upto_eight _))))
  · exact (pay3_apply _ _ _).trans ((load_full _ _ _ _).trans ((I.dv t s d).trans (congrArg _ (upto_eight _))))

end Cert.Kernel2Ideal.AttnLeft
-- ==== Proof.AttnRef.lean ====
module
public import proofs.«01_k».proof.Proof.AttnMath
public import proofs.«01_k».proof.Proof.Gen.Reference2Ideal.Read
@[expose] public section
set_option maxRecDepth 16384
noncomputable section
open Idealize.ShloMosaic Idealize.ShloMosaic.TcCoe
namespace Cert.Reference2Ideal.AttnRef
open Cert.Reference2Ideal Cert.Reference2Ideal.Gen Cert.Reference2Ideal.Read
open Cert.Attn
theorem v7_apply (t : Fin 2048) : val_main_v7 (F := Ideal) (ix1 t) = BitVec.ofNat 32 (t.val / 64) := by
  pointwise [val_main_v7, val_main_call0_v13, val_main_call0_v12, val_main_call0_c_0, val_main_call0_v11, val_main_call0_v10, val_main_call0_v9, val_main_call0_c, val_main_call0_v8, val_main_call0_v7, val_main_call0_v6, val_main_call0_v5, val_main_call0_v4, val_main_call0_v3, val_main_call0_v2, val_main_call0_v1, val_main_call0_v0, val_main_c, val_main_v6]
  revert t
  decide +kernel
theorem v8_apply (t : Fin 2048) : val_main_v8 (F := Ideal) (ix1 t) = BitVec.ofNat 32 (t.val % 64) := by
  pointwise [val_main_v8, val_main_call1_v14, val_main_call1_v13, val_main_call1_v12, val_main_call1_v11, val_main_call1_v10, val_main_call1_v9, val_main_call1_c_3, val_main_call1_v8, val_main_call1_v7, val_main_call1_c_2, val_main_call1_v6, val_main_call1_v5, val_main_call1_c_1, val_main_call1_v4, val_main_call1_v3, val_main_call1_v2, val_main_call1_c_0, val_main_call1_v1, val_main_call1_c, val_main_call1_v0, val_main_c_0, val_main_v6]
  revert t
  decide +kernel
theorem v11_apply (t : Fin 2048) : val_main_v11 (F := Ideal) (ix1 t) = BitVec.ofNat 32 (rowLo (t.val / 64)) := by
  pointwise [val_main_v11, val_main_call2_v4, val_main_call2_v3, val_main_c_3, val_main_call2_v2, val_main_call2_v1,
    val_main_call2_v0, val_main_c_2, val_main_v10, val_main_v9, val_main_c_1]
  rw [v7_apply]
  revert t
  decide +kernel

theorem v14_apply (t : Fin 2048) : val_main_v14 (F := Ideal) (ix1 t) = BitVec.ofNat 32 (colLo (t.val % 64)) := by
  pointwise [val_main_v14, val_main_call3_v4, val_main_call3_v3, val_main_c_6, val_main_call3_v2, val_main_call3_v1,
    val_main_call3_v0, val_main_c_5, val_main_v13, val_main_v12, val_main_c_4]
  rw [v8_apply]
  revert t
  decide +kernel

theorem rows_in : ∀ a b : Fin 32, IntOp.andi (IntOp.cmpi .sge (BitVec.ofNat 32 b.val) (BitVec.ofNat 32 (rowLo a.val)))
    (IntOp.cmpi .slt (BitVec.ofNat 32 b.val) (IntOp.addi (BitVec.ofNat 32 (rowLo a.val)) 8#32))
      = BitVec.ofBool (decide (rowLo a.val ≤ b.val ∧ b.val < rowLo a.val + 8)) := by decide +kernel

theorem cols_in : ∀ a b : Fin 64, IntOp.andi (IntOp.cmpi .sge (BitVec.ofNat 32 b.val) (BitVec.ofNat 32 (colLo a.val)))
    (IntOp.cmpi .slt (BitVec.ofNat 32 b.val) (IntOp.addi (BitVec.ofNat 32 (colLo a.val)) 16#32))
      = BitVec.ofBool (decide (colLo a.val ≤ b.val ∧ b.val < colLo a.val + 16)) := by decide +kernel

theorem andi_assoc (a b c : BitVec 1) : IntOp.andi (IntOp.andi a b) c = IntOp.andi a (IntOp.andi b c) := by
  revert a b c; decide
theorem andi_ofBool (a b : Bool) : IntOp.andi (BitVec.ofBool a) (BitVec.ofBool b) = BitVec.ofBool (a && b) := by
  revert a b; decide

theorem v41_apply (t y : Fin 2048) : val_main_v41 (F := Ideal) (ix2 t y) = BitVec.ofBool (decide (Inside t.val y.val)) := by
  pointwise [val_main_v41, val_main_v40, val_main_v39, val_main_v38, val_main_v37, val_main_v36, val_main_c_8, val_main_v35,
    val_main_v34, val_main_v33, val_main_v32, val_main_v31, val_main_v30, val_main_v29, val_main_v28, val_main_v27,
    val_main_v26, val_main_v25, val_main_v24, val_main_v23, val_main_v22, val_main_c_7, val_main_v21, val_main_v20,
    val_main_v19, val_main_v18, val_main_v17, val_main_v16, val_main_v15]
  rw [v7_apply, v8_apply, v11_apply, v14_apply, andi_assoc,
    rows_in ⟨t.val / 64, by omega⟩ ⟨y.val / 64, by omega⟩, cols_in ⟨t.val % 64, by omega⟩ ⟨y.val % 64, by omega⟩, andi_ofBool]
  refine congrArg _ ?_
  rw [← Bool.decide_and]
  exact decide_eq_decide.mpr Iff.rfl

theorem rows_rel : ∀ a b : Fin 32, Scalar.select
    (IntOp.cmpi .slt (IntOp.minsi 14#32 (IntOp.maxsi 0#32 (IntOp.subi (IntOp.addi (IntOp.subi (BitVec.ofNat 32 b.val) (BitVec.ofNat 32 a.val)) 8#32) 1#32))) 0#32)
    (IntOp.addi (IntOp.minsi 14#32 (IntOp.maxsi 0#32 (IntOp.subi (IntOp.addi (IntOp.subi (BitVec.ofNat 32 b.val) (BitVec.ofNat 32 a.val)) 8#32) 1#32))) 15#32)
    (IntOp.minsi 14#32 (IntOp.maxsi 0#32 (IntOp.subi (IntOp.addi (IntOp.subi (BitVec.ofNat 32 b.val) (BitVec.ofNat 32 a.val)) 8#32) 1#32)))
      = BitVec.ofNat 32 (min (b.val + 7 - a.val) 14) := by decide +kernel

theorem v69_apply (t y : Fin 2048) : val_main_v69 (F := Ideal) (ix2 t y) = BitVec.ofNat 32 (relRow t y).val := by
  refine Eq.trans ?_ (rows_rel ⟨t.val / 64, by omega⟩ ⟨y.val / 64, by omega⟩)
  pointwise [val_main_v69, val_main_v68, val_main_v67, val_main_c_18, val_main_v66, val_main_v65, val_main_c_17, val_main_v51,
    val_main_call4_v4, val_main_call4_v3, val_main_call4_v2, val_main_call4_v1, val_main_call4_v0, val_main_c_11, val_main_c_12, val_main_v50,
    val_main_v49, val_main_c_10, val_main_v48, val_main_v47, val_main_c_9, val_main_v46, val_main_v45, val_main_v44, val_main_v43, val_main_v42]
  rw [v7_apply, v7_apply]
  rfl

theorem cols_rel : ∀ a b : Fin 64, Scalar.select
    (IntOp.cmpi .slt (IntOp.minsi 30#32 (IntOp.maxsi 0#32 (IntOp.subi (IntOp.addi (IntOp.subi (BitVec.ofNat 32 b.val) (BitVec.ofNat 32 a.val)) 16#32) 1#32))) 0#32)
    (IntOp.addi (IntOp.minsi 30#32 (IntOp.maxsi 0#32 (IntOp.subi (IntOp.addi (IntOp.subi (BitVec.ofNat 32 b.val) (BitVec.ofNat 32 a.val)) 16#32) 1#32))) 31#32)
    (IntOp.minsi 30#32 (IntOp.maxsi 0#32 (IntOp.subi (IntOp.addi (IntOp.subi (BitVec.ofNat 32 b.val) (BitVec.ofNat 32 a.val)) 16#32) 1#32)))
      = BitVec.ofNat 32 (min (b.val + 15 - a.val) 30) := by decide +kernel

theorem v74_apply (t y : Fin 2048) : val_main_v74 (F := Ideal) (ix2 t y) = BitVec.ofNat 32 (relCol t y).val := by
  refine Eq.trans ?_ (cols_rel ⟨t.val % 64, by omega⟩ ⟨y.val % 64, by omega⟩)
  pointwise [val_main_v74, val_main_v73, val_main_v72, val_main_c_20, val_main_v71, val_main_v70, val_main_c_19, val_main_v61,
    val_main_call5_v4, val_main_call5_v3, val_main_call5_v2, val_main_call5_v1, val_main_call5_v0, val_main_c_15, val_main_c_16, val_main_v60,
    val_main_v59, val_main_c_14, val_main_v58, val_main_v57, val_main_c_13, val_main_v56, val_main_v55, val_main_v54, val_main_v53, val_main_v52]
  rw [v8_apply, v8_apply]
  rfl

theorem v77_apply0 (t y : Fin 2048) : val_main_v77 (F := Ideal) (ix3 t y 0) = BitVec.ofNat 32 (relRow t y).val := by
  rw [← v69_apply]
  pointwise [val_main_v77, val_main_v76, val_main_v75]
theorem v77_apply1 (t y : Fin 2048) : val_main_v77 (F := Ideal) (ix3 t y 1) = BitVec.ofNat 32 (relCol t y).val := by
  rw [← v74_apply]
  pointwise [val_main_v77, val_main_v76, val_main_v75]

variable (p : Vec Ideal S2048x5120 .f32) (rpb : Vec Ideal S16x15x31 .f32) (dy : Vec Ideal S2048x1024 .f32)
variable (h : Fin 16) (t y : Fin 2048) (d : Fin 64)

local notation "gd" => gather_S16x15x31_S2048x2048x2_S16x2048x2048_0_12_n_n_12_2_1611

theorem toNat_row (r : Fin 15) : min (BitVec.ofNat 32 r.val).toInt.toNat 14 = r.val := by revert r; decide +kernel
theorem toNat_col (r : Fin 31) : min (BitVec.ofNat 32 r.val).toInt.toNat 30 = r.val := by revert r; decide +kernel

theorem start1 : GatherDims.start gd (ix3 h t y) (val_main_v77 (F := Ideal)) (1 : Fin 3) = (relRow t y).val := by
  unfold GatherDims.start
  rw [dif_pos (show (1 : Fin S16x15x31.rank) ∈ GatherDims.startIndexMap gd from (by decide : (1 : Fin 3) ∈ ([1, 2] : List (Fin 3))))]
  have hs : GatherDims.siIdx gd (ix3 h t y) ⟨List.idxOf (1 : Fin 3) (GatherDims.startIndexMap gd),
      List.idxOf_lt_length_iff.2 (show (1 : Fin 3) ∈ ([1, 2] : List (Fin 3)) by decide)⟩ = ix3 t y 0 := by
    funext b; refine Fin.ext ?_
    match b with
    | ⟨0, _⟩ => rfl
    | ⟨1, _⟩ => rfl
    | ⟨2, _⟩ => rfl
  rw [hs, v77_apply0]
  exact toNat_row _

theorem start2 : GatherDims.start gd (ix3 h t y) (val_main_v77 (F := Ideal)) (2 : Fin 3) = (relCol t y).val := by
  unfold GatherDims.start
  rw [dif_pos (show (2 : Fin S16x15x31.rank) ∈ GatherDims.startIndexMap gd from (by decide : (2 : Fin 3) ∈ ([1, 2] : List (Fin 3))))]
  have hs : GatherDims.siIdx gd (ix3 h t y) ⟨List.idxOf (2 : Fin 3) (GatherDims.startIndexMap gd),
      List.idxOf_lt_length_iff.2 (show (2 : Fin 3) ∈ ([1, 2] : List (Fin 3)) by decide)⟩ = ix3 t y 1 := by
    funext b; refine Fin.ext ?_
    match b with
    | ⟨0, _⟩ => rfl
    | ⟨1, _⟩ => rfl
    | ⟨2, _⟩ => rfl
  rw [hs, v77_apply1]
  exact toNat_col _

theorem start0 : GatherDims.start gd (ix3 h t y) (val_main_v77 (F := Ideal)) (0 : Fin 3) = 0 := by
  unfold GatherDims.start
  rw [dif_neg (show (0 : Fin S16x15x31.rank) ∉ GatherDims.startIndexMap gd from (by decide : (0 : Fin 3) ∉ ([1, 2] : List (Fin 3))))]

theorem v78_apply : val_main_v78 (F := Ideal) rpb (ix3 h t y) = rpb (ix3 h (relRow t y) (relCol t y)) := by
  unfold val_main_v78 Host.gather
  refine congrArg rpb (funext fun a => Fin.ext ?_)
  show GatherDims.start gd _ (val_main_v77 (F := Ideal)) a + GatherDims.batchCoord gd _ a + GatherDims.offCoord gd _ a = _
  rw [GatherDims.batchCoord_eq_zero _ _ _ List.not_mem_nil]
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [start0]
    simp only [Nat.zero_add]
    unfold GatherDims.offCoord
    rw [dif_pos ((GatherDims.mem_sKept _ _).mpr ⟨show (0 : Fin 3) ∉ ([1, 2] : List (Fin 3)) by decide, List.not_mem_nil⟩)]
    rfl
  · rw [start1, GatherDims.offCoord_eq_zero _ _ _ (fun e => ((GatherDims.mem_sKept _ _).mp e).1 (show (1 : Fin 3) ∈ ([1, 2] : List (Fin 3)) by decide))]
    rfl
  · rw [start2, GatherDims.offCoord_eq_zero _ _ _ (fun e => ((GatherDims.mem_sKept _ _).mp e).1 (show (2 : Fin 3) ∈ ([1, 2] : List (Fin 3)) by decide))]
    rfl

end Cert.Reference2Ideal.AttnRef
-- ==== Proof.AttnRefValue.lean ====
/-
  The reference's attention gradients, read element by element on real arguments.
-/
module
public import proofs.«01_k».proof.Proof.AttnRef
@[expose] public section
set_option maxRecDepth 16384
noncomputable section
open Idealize.ShloMosaic Idealize.ShloMosaic.TcCoe
namespace Cert.Reference2Ideal.AttnRef
open Cert.Reference2Ideal Cert.Reference2Ideal.Gen Cert.Reference2Ideal.Read
open Cert.Attn Cert.Reals

/-- A maximum folded over a list is the start or one of the list's values. -/
theorem foldl_max_mem {ι : Type*} (f : ι → EReal) : ∀ (l : List ι) (a : EReal),
    l.foldl (fun r n => max r (f n)) a = a ∨ ∃ n ∈ l, l.foldl (fun r n => max r (f n)) a = f n
  | [], a => Or.inl rfl
  | n :: l, a => by
    rcases foldl_max_mem f l (max a (f n)) with h | ⟨k, hk, h⟩
    · rcases max_choice a (f n) with e | e
      · exact Or.inl (h.trans e)
      · exact Or.inr ⟨n, List.mem_cons_self, h.trans e⟩
    · exact Or.inr ⟨k, List.mem_cons_of_mem _ hk, h⟩

theorem le_foldl_max {ι : Type*} (f : ι → EReal) : ∀ (l : List ι) (a : EReal),
    a ≤ l.foldl (fun r n => max r (f n)) a ∧ ∀ n ∈ l, f n ≤ l.foldl (fun r n => max r (f n)) a
  | [], a => ⟨le_rfl, fun _ h => absurd h List.not_mem_nil⟩
  | n :: l, a => by
    obtain ⟨h1, h2⟩ := le_foldl_max f l (max a (f n))
    refine ⟨(le_max_left _ _).trans h1, fun k hk => ?_⟩
    rcases List.mem_cons.mp hk with rfl | hk
    · exact (le_max_right _ _).trans h1
    · exact h2 k hk

variable (p : Vec Ideal S2048x5120 .f32) (rpb : Vec Ideal S16x15x31 .f32) (dy : Vec Ideal S2048x1024 .f32)
variable (h : Fin 16) (t y : Fin 2048) (d : Fin 64)

/-- The projection's column of lane `d` of head `h` in part `n`: queries, keys, values in parts 2, 3, 4. -/
def col (n : ℕ) (hn : n < 5) (h : Fin 16) (d : Fin 64) : Fin 5120 :=
  ⟨1024 * n + (h.val * 64 + d.val), by have := h.isLt; have := d.isLt; omega⟩

/-- The column of lane `d` of head `h`. -/
def lane (h : Fin 16) (d : Fin 64) : Fin 1024 := ⟨h.val * 64 + d.val, by have := h.isLt; have := d.isLt; omega⟩

/-- The real arrays the arguments hold. -/
def dat : Data where
  q t h d := (p (ix2 t (col 2 (by omega) h d))).toReal
  k t h d := (p (ix2 t (col 3 (by omega) h d))).toReal
  v t h d := (p (ix2 t (col 4 (by omega) h d))).toReal
  o t h d := (dy (ix2 t (lane h d))).toReal
  b h r c := (rpb (ix3 h r c)).toReal

theorem v3_apply : val_main_v3 (F := Ideal) p (ix3 t h d) = p (ix2 t (col 2 (by omega) h d)) := by
  pointwise! [val_main_v3, val_main_v0]
theorem v4_apply : val_main_v4 (F := Ideal) p (ix3 t h d) = p (ix2 t (col 3 (by omega) h d)) := by
  pointwise! [val_main_v4, val_main_v1]
theorem v5_apply : val_main_v5 (F := Ideal) p (ix3 t h d) = p (ix2 t (col 4 (by omega) h d)) := by
  pointwise! [val_main_v5, val_main_v2]
theorem v113_apply : val_main_v113 (F := Ideal) dy (ix3 t h d) = dy (ix2 t (lane h d)) := by
  pointwise! [val_main_v113]

structure Real : Prop where
  p : ∀ i j, ((p (ix2 i j)).toReal : EReal) = p (ix2 i j)
  r : ∀ i j k, ((rpb (ix3 i j k)).toReal : EReal) = rpb (ix3 i j k)
  d : ∀ i j, ((dy (ix2 i j)).toReal : EReal) = dy (ix2 i j)

variable {p rpb dy} (H : Real p rpb dy)
include H

local notation "D" => dat p rpb dy

theorem v3_coe : val_main_v3 (F := Ideal) p (ix3 t h d) = ((D).q t h d : EReal) := (v3_apply p h t d).trans (H.p _ _).symm
theorem v4_coe : val_main_v4 (F := Ideal) p (ix3 t h d) = ((D).k t h d : EReal) := (v4_apply p h t d).trans (H.p _ _).symm
theorem v5_coe : val_main_v5 (F := Ideal) p (ix3 t h d) = ((D).v t h d : EReal) := (v5_apply p h t d).trans (H.p _ _).symm
theorem v113_coe : val_main_v113 (F := Ideal) dy (ix3 t h d) = ((D).o t h d : EReal) := (v113_apply dy h t d).trans (H.d _ _).symm

theorem v79_coe : val_main_v79 (F := Ideal) p rpb (ix3 h t y) = ((D).score h t y : EReal) := by
  have e : val_main_v79 (F := Ideal) p rpb (ix3 h t y)
      = (∑ x, val_main_v3 (F := Ideal) p (ix3 t h x) * Ideal.ofBits .f32 0x3E000000#32 * val_main_v4 (F := Ideal) p (ix3 y h x))
        + val_main_v78 (F := Ideal) rpb (ix3 h t y) := by
    pointwise [val_main_v79, val_main_v64, val_main_v63, val_main_v62, val_main_cst]
  rw [e, v78_apply, ← H.r]
  simp only [v3_coe (H := H), v4_coe (H := H), lit_eighth, mul', sum', add']
  unfold Data.score
  rw [Finset.sum_mul]
  refine congrArg _ (congrArg₂ _ (Finset.sum_congr rfl fun x _ => by ring) rfl)

theorem v81_coe : val_main_v81_0 (F := Ideal) p rpb (ix3 h t y) = masked (fun y : Fin 2048 => Inside t y) ((D).score h t) y := by
  have e : val_main_v81_0 (F := Ideal) p rpb (ix3 h t y)
      = Scalar.select (val_main_v41 (F := Ideal) (ix2 t y)) (val_main_v79 (F := Ideal) p rpb (ix3 h t y)) (Ideal.ofBits .f32 0xFF800000#32) := by
    pointwise [val_main_v81_0, val_main_call6_v2, val_main_call6_v0, val_main_cst_21, val_main_v81_1, val_main_v80]
    rfl
  rw [e, v41_apply, v79_coe h t y (H := H), lit_ninf]
  unfold masked
  by_cases hi : Inside t.val y.val
  · rw [if_pos hi, decide_eq_true hi]; rfl
  · rw [if_neg hi, decide_eq_false hi]; rfl

theorem v82_real : ∃ M : ℝ, val_main_v82 (F := Ideal) p rpb (ix2 h t) = (M : EReal) := by
  unfold val_main_v82 Host.reduce
  rw [show val_main_cst_22 (F := Ideal) (Shape.Idx.first h_S_) = (⊥ : EReal) from lit_ninf]
  set l := ((List.finRange S16x2048x2048.numel).filter fun n =>
    reducesTo_S16x2048x2048_S16x2048_d2.drop (S16x2048x2048.rowMajor.symm n) = ix2 h t) with hl
  have hmem : S16x2048x2048.rowMajor (ix3 h t t) ∈ l := by
    rw [hl, List.mem_filter]
    refine ⟨List.mem_finRange _, decide_eq_true ?_⟩
    rw [Equiv.symm_apply_apply]
    funext a
    match a with
    | ⟨0, _⟩ => rfl
    | ⟨1, _⟩ => rfl
  have hle := (le_foldl_max (fun n => val_main_v81_0 (F := Ideal) p rpb (S16x2048x2048.rowMajor.symm n)) l ⊥).2 _ hmem
  rw [Equiv.symm_apply_apply, v81_coe h t t (H := H)] at hle
  unfold masked at hle
  rw [if_pos (inside_self t.isLt)] at hle
  rcases foldl_max_mem (fun n => val_main_v81_0 (F := Ideal) p rpb (S16x2048x2048.rowMajor.symm n)) l ⊥ with e | ⟨n, -, e⟩
  · exact absurd (hle.trans e.le) (by simp)
  · have hr : ∀ i, val_main_v81_0 (F := Ideal) p rpb i = ⊥ ∨ ∃ r : ℝ, val_main_v81_0 (F := Ideal) p rpb i = (r : EReal) := by
      intro i
      obtain ⟨a, b, c, rfl⟩ : ∃ (a : Fin 16) (b c : Fin 2048), i = ix3 a b c :=
        ⟨i 0, i 1, i 2, funext fun x => by match x with | ⟨0, _⟩ => rfl | ⟨1, _⟩ => rfl | ⟨2, _⟩ => rfl⟩
      rw [v81_coe a b c (H := H)]
      unfold masked
      split_ifs
      · exact Or.inr ⟨_, rfl⟩
      · exact Or.inl rfl
    rcases hr (S16x2048x2048.rowMajor.symm n) with eb | ⟨r, er⟩
    · exact absurd (hle.trans (e.trans eb).le) (by simp)
    · exact ⟨r, e.trans er⟩

omit H in
theorem v88_apply : val_main_v88 (F := Ideal) (ix2 h t) = ⊥ := by
  rw [← lit_ninf]
  pointwise [val_main_v88, val_main_cst_24]

omit H in
theorem v99_apply : val_main_v99 (F := Ideal) p rpb (ix3 h t 0) = val_main_v89 (F := Ideal) p rpb (ix2 h t) := by
  unfold val_main_v99
  generalize val_main_v89 (F := Ideal) p rpb = m
  pointwise []

omit H in
theorem v100_apply : val_main_v100 (F := Ideal) p rpb (ix3 h t y) = val_main_v99 (F := Ideal) p rpb (ix3 h t 0) := by
  unfold val_main_v100
  generalize val_main_v99 (F := Ideal) p rpb = m
  pointwise []

omit H in
theorem exp_at (x : FVec Ideal S16x2048x2048 .f32) (i) : Host.exp x i = Ideal.exp (x i) := rfl
omit H in
theorem sub_at (x z : FVec Ideal S16x2048x2048 .f32) (i) : subf x z i = x i - z i := rfl
omit H in
theorem max_at (x z : FVec Ideal S16x2048 .f32) (i) : maximumf x z i = max (x i) (z i) := rfl

omit H in
theorem v102_apply : val_main_v102 (F := Ideal) p rpb (ix3 h t y)
    = Ideal.exp (val_main_v81_0 (F := Ideal) p rpb (ix3 h t y) - max ⊥ (val_main_v82 (F := Ideal) p rpb (ix2 h t))) := by
  rw [val_main_v102, exp_at, val_main_v101, sub_at, v100_apply, v99_apply, val_main_v89, max_at, v88_apply]

/-- The exponentials of a row, a common positive factor aside. -/
theorem v102_coe : ∃ E : ℝ, 0 < E ∧ ∀ y, val_main_v102 (F := Ideal) p rpb (ix3 h t y) = (((D).wt h t y * E : ℝ) : EReal) := by
  obtain ⟨M, hM⟩ := v82_real h t (H := H)
  refine ⟨Real.exp (-M), Real.exp_pos _, fun y => ?_⟩
  rw [v102_apply, hM, max_eq_right bot_le, v81_coe h t y (H := H), exp_masked]
  unfold weight Data.wt
  rfl

theorem v115_coe : val_main_v115 (F := Ideal) p dy (ix3 h t y) = ((D).dp h t y : EReal) := by
  have e : val_main_v115 (F := Ideal) p dy (ix3 h t y) = ∑ x, val_main_v113 (F := Ideal) dy (ix3 t h x) * val_main_v5 (F := Ideal) p (ix3 y h x) := by
    pointwise [val_main_v115, val_main_v114]
  rw [e]
  simp only [v113_coe (H := H), v5_coe (H := H), mul', sum']
  rfl

theorem den_pos : 0 < (D).den h t :=
  weight_sum_pos (fun y : Fin 2048 => Inside t y) ((D).score h t) ⟨t, inside_self t.isLt⟩

theorem v106_coe : val_main_v106 (F := Ideal) p rpb (ix3 h t y) = ((D).pr h t y : EReal) := by
  obtain ⟨E, hE, e⟩ := v102_coe h t (H := H)
  have e1 : val_main_v106 (F := Ideal) p rpb (ix3 h t y) = Ideal.div (val_main_v102 (F := Ideal) p rpb (ix3 h t y))
      (∑ x, val_main_v102 (F := Ideal) p rpb (ix3 h t x)) := by
    pointwise [val_main_v106, val_main_v105, val_main_v104, val_main_v103, val_main_cst_30]
  have hS := den_pos h t (H := H)
  rw [e1]
  simp only [e, sum', ← Finset.sum_mul]
  change Ideal.div _ (((D).den h t * E : ℝ) : EReal) = _
  rw [div' _ (mul_pos hS hE).ne', mul_div_mul_right _ _ hE.ne']
  rfl

theorem v130_coe : val_main_v130 (F := Ideal) p rpb dy (ix3 h t y) = ((D).ds h t y : EReal) := by
  obtain ⟨E, hE, e⟩ := v102_coe h t (H := H)
  have e1 : val_main_v130 (F := Ideal) p rpb dy (ix3 h t y) = Scalar.select (val_main_v41 (F := Ideal) (ix2 t y))
      (chainGrad (fun x => val_main_v102 (F := Ideal) p rpb (ix3 h t x)) (fun x => val_main_v115 (F := Ideal) p dy (ix3 h t x)) y) 0 := by
    unfold chainGrad
    pointwise [val_main_v130, val_main_v129, val_main_v128, val_main_v127, val_main_v126, val_main_cst_33, val_main_v125,
      val_main_v124, val_main_v123, val_main_v122, val_main_v121, val_main_cst_32, val_main_v120, val_main_v119,
      val_main_v118, val_main_v109, val_main_v108, val_main_cst_31, val_main_v107, val_main_v104, val_main_v103,
      val_main_cst_30, val_main_call7_v0, val_main_call7_cst, val_main_v81_1, val_main_v80]
  rw [e1, v41_apply]
  by_cases hi : Inside t.val y.val
  · rw [decide_eq_true hi]
    change chainGrad (fun x => val_main_v102 (F := Ideal) p rpb (ix3 h t x)) (fun x => val_main_v115 (F := Ideal) p dy (ix3 h t x)) y = _
    simp only [e, v115_coe (H := H)]
    exact chainGrad_coe _ _ E hE (den_pos h t (H := H)) y
  · rw [decide_eq_false hi, Data.ds_outside _ _ hi]
    rfl

theorem v136_coe : val_main_v136 (F := Ideal) p rpb dy (ix3 t h d) = ((D).dq h t d : EReal) := by
  have e : val_main_v136 (F := Ideal) p rpb dy (ix3 t h d) = (∑ x, val_main_v130 (F := Ideal) p rpb dy (ix3 h t x)
      * val_main_v4 (F := Ideal) p (ix3 x h d)) * Ideal.ofBits .f32 0x3E000000#32 := by
    pointwise [val_main_v136, val_main_v134, val_main_v133, val_main_v135, val_main_cst_34]
  rw [e]
  simp only [v130_coe (H := H), v4_coe (H := H), lit_eighth, mul', sum']
  unfold Data.dq
  rw [Finset.sum_mul]
  exact congrArg _ (Finset.sum_congr rfl fun x _ => by ring)

theorem v132_coe : val_main_v132 (F := Ideal) p rpb dy (ix3 y h d) = ((D).dk h y d : EReal) := by
  have e : val_main_v132 (F := Ideal) p rpb dy (ix3 y h d) = ∑ x, val_main_v130 (F := Ideal) p rpb dy (ix3 h x y)
      * (val_main_v3 (F := Ideal) p (ix3 x h d) * Ideal.ofBits .f32 0x3E000000#32) := by
    pointwise [val_main_v132, val_main_v131, val_main_v63, val_main_v62, val_main_cst]
  rw [e]
  simp only [v130_coe (H := H), v3_coe (H := H), lit_eighth, mul', sum']
  unfold Data.dk
  exact congrArg _ (Finset.sum_congr rfl fun x _ => by ring)

theorem v117_coe : val_main_v117 (F := Ideal) p rpb dy (ix3 y h d) = ((D).dv h y d : EReal) := by
  have e : val_main_v117 (F := Ideal) p rpb dy (ix3 y h d) = ∑ x, val_main_v113 (F := Ideal) dy (ix3 x h d)
      * val_main_v106 (F := Ideal) p rpb (ix3 h x y) := by
    pointwise [val_main_v117, val_main_v116, val_main_v114]
  rw [e]
  simp only [v113_coe (H := H), v106_coe (H := H), mul', sum']
  unfold Data.dv
  exact congrArg _ (Finset.sum_congr rfl fun x _ => by ring)

omit H in
theorem head_lane (j : Fin 1024) : ∃ (h : Fin 16) (d : Fin 64), j = lane h d :=
  ⟨⟨j.val / 64, by omega⟩, ⟨j.val % 64, by omega⟩, Fin.ext (by unfold lane; dsimp only; omega)⟩

omit H in
theorem lane_head : (lane h d).val / 64 = h.val := by unfold lane; have := d.isLt; dsimp only; omega
omit H in
theorem lane_rest : (lane h d).val % 64 = d.val := by unfold lane; have := d.isLt; dsimp only; omega

theorem v140_coe : val_main_v140 (F := Ideal) p rpb dy (ix2 t (lane h d)) = ((D).dq h t d : EReal) := by
  rw [← v136_coe h t d (H := H)]
  pointwise [val_main_v140, val_main_v139]
  simp only [lane_head, lane_rest]

theorem v141_coe : val_main_v141 (F := Ideal) p rpb dy (ix2 t (lane h d)) = ((D).dk h t d : EReal) := by
  rw [← v132_coe h t d (H := H)]
  pointwise [val_main_v141, val_main_v138]
  simp only [lane_head, lane_rest]

theorem v142_coe : val_main_v142 (F := Ideal) p rpb dy (ix2 t (lane h d)) = ((D).dv h t d : EReal) := by
  rw [← v117_coe h t d (H := H)]
  pointwise [val_main_v142, val_main_v137]
  simp only [lane_head, lane_rest]

omit H in
theorem v149_apply (a : Fin 3) (j : Fin 1024) : val_main_v149 (F := Ideal) p rpb dy (ix3 a j t)
    = if a.val < 1 then val_main_v140 (F := Ideal) p rpb dy (ix2 t j) else if a.val < 2 then
        val_main_v141 (F := Ideal) p rpb dy (ix2 t j) else val_main_v142 (F := Ideal) p rpb dy (ix2 t j) := by
  pointwise [val_main_v149, val_main_v148, val_main_v147, val_main_v146, val_main_v145, val_main_v144, val_main_v143]
  split_ifs <;> first | rfl | omega

end Cert.Reference2Ideal.AttnRef
-- ==== Proof.AttnValue.lean ====
/-
  The attention's backward call: what its result arrays end holding, against the reference's own values.
-/
module
public import proofs.«01_k».proof.Proof.AttnLeft
public import proofs.«01_k».proof.Proof.AttnRefValue
@[expose] public section
set_option maxRecDepth 16384
noncomputable section
open Idealize.ShloMosaic Idealize.ShloMosaic.TcCoe
namespace Cert.Kernel2Ideal.AttnValue
open Cert.Kernel2Ideal Cert.Kernel2Ideal.Gen
open Cert.Attn Cert.Reals AttnTables AttnEntries AttnPay AttnTrip AttnFrame
open Cert.Reference2Ideal.AttnRef Cert.Reference2Ideal.Read

variable (m : (ℓ : Loc nD τ sig) → Buf (Elt Ideal) ℓ)

/-- The three arguments on device `c`. -/
abbrev aP (c : Dev nD) : Vec Ideal S2048x5120 .f32 := m ((c : Thread nD τ).loc main_arg0)
abbrev aR (c : Dev nD) : Vec Ideal S16x15x31 .f32 := m ((c : Thread nD τ).loc main_arg1)
abbrev aD (c : Dev nD) : Vec Ideal S2048x1024 .f32 := m ((c : Thread nD τ).loc main_arg2)

/-- Block `t`'s heads. -/
def hd (t : Fin cfg0.N) (s : Fin 2) : Fin 16 := ⟨2 * t.val + s.val, by have : cfg0.N = 8 := N_0; omega⟩

theorem index0 : ∀ t : Fin cfg0.N, (win0_0.index t 0 = 0 ∧ win0_0.index t 1 = 16 + t.val)
    ∧ (win0_1.index t 0 = 0 ∧ win0_1.index t 1 = 24 + t.val) ∧ (win0_2.index t 0 = 0 ∧ win0_2.index t 1 = 32 + t.val)
    ∧ (win0_3.index t 0 = t.val ∧ win0_3.index t 1 = 0 ∧ win0_3.index t 2 = 0 ∧ win0_3.index t 3 = 0)
    ∧ (win0_4.index t 0 = 0 ∧ win0_4.index t 1 = t.val) ∧ (win0_5.index t 0 = 0 ∧ win0_5.index t 1 = t.val)
    ∧ (win0_6.index t 0 = 0 ∧ win0_6.index t 1 = t.val) ∧ (win0_7.index t 0 = 0 ∧ win0_7.index t 1 = t.val)
    ∧ (win0_8.index t 0 = 0 ∧ win0_8.index t 1 = t.val ∧ win0_8.index t 2 = 0) := by
  show ∀ t : Fin grid0.N, _
  decide +kernel

theorem hd_val (t : Fin cfg0.N) (s : Fin 2) : (hd t s).val = 2 * t.val + s.val := rfl
theorem lan_val (s : Fin 2) (d : Fin 64) : (lan s d).val = 64 * s.val + d.val := rfl
theorem lane_val (h : Fin 16) (d : Fin 64) : (lane h d).val = h.val * 64 + d.val := rfl
theorem col_val (n : ℕ) (hn : n < 5) (h : Fin 16) (d : Fin 64) : (col n hn h d).val = 1024 * n + (h.val * 64 + d.val) := rfl

theorem exists_ix2 {a b : ℕ} (y : (⟨2, ![a, b]⟩ : Shape).Idx) : ∃ i j, ix2 i j = y := ⟨_, _, (eq_ix2 y).symm⟩
theorem exists_ix3 {a b c : ℕ} (y : (⟨3, ![a, b, c]⟩ : Shape).Idx) : ∃ i j k, ix3 i j k = y := ⟨_, _, _, (eq_ix3 y).symm⟩
theorem exists_lan (j : Fin 128) : ∃ s d, lan s d = j :=
  ⟨⟨j.val / 64, by omega⟩, ⟨j.val % 64, by omega⟩, Fin.ext (Nat.div_add_mod _ _)⟩
theorem exists_lane (j : Fin 1024) : ∃ t s d, lane (hd t s) d = j :=
  ⟨⟨j.val / 128, by have : cfg0.N = 8 := N_0; omega⟩, ⟨j.val / 64 % 2, by omega⟩, ⟨j.val % 64, by omega⟩, Fin.ext (by
    rw [lane_val, hd_val]; dsimp only; omega)⟩

theorem iblk0_apply (c : Dev nD) (t : Fin cfg0.N) (i : Fin 2048) (s : Fin 2) (d : Fin 64) :
    (iblk m c 0 t : Vec Ideal S2048x128 .f32) (ix2 i (lan s d)) = aP m c (ix2 i (col 2 (by omega) (hd t s) d)) := by
  unfold iblk
  rw [View.read_apply]
  refine (congrArg (V m c main_arg0) (funext fun a => Fin.ext ?_)).trans (congrFun (V_main_arg0 m c) _)
  match a with
  | ⟨0, _⟩ => show win0_0.index t 0 * 2048 + 1 * i.val = i.val; rw [(index0 t).1.1]; omega
  | ⟨1, _⟩ => show win0_0.index t 1 * 128 + 1 * (lan s d).val = (col 2 (by omega) (hd t s) d).val; rw [(index0 t).1.2, lan_val, col_val, hd_val]; omega

theorem iblk1_apply (c : Dev nD) (t : Fin cfg0.N) (i : Fin 2048) (s : Fin 2) (d : Fin 64) :
    (iblk m c 1 t : Vec Ideal S2048x128 .f32) (ix2 i (lan s d)) = aP m c (ix2 i (col 3 (by omega) (hd t s) d)) := by
  unfold iblk
  rw [View.read_apply]
  refine (congrArg (V m c main_arg0) (funext fun a => Fin.ext ?_)).trans (congrFun (V_main_arg0 m c) _)
  match a with
  | ⟨0, _⟩ => show win0_1.index t 0 * 2048 + 1 * i.val = i.val; rw [(index0 t).2.1.1]; omega
  | ⟨1, _⟩ => show win0_1.index t 1 * 128 + 1 * (lan s d).val = (col 3 (by omega) (hd t s) d).val; rw [(index0 t).2.1.2, lan_val, col_val, hd_val]; omega

theorem iblk2_apply (c : Dev nD) (t : Fin cfg0.N) (i : Fin 2048) (s : Fin 2) (d : Fin 64) :
    (iblk m c 2 t : Vec Ideal S2048x128 .f32) (ix2 i (lan s d)) = aP m c (ix2 i (col 4 (by omega) (hd t s) d)) := by
  unfold iblk
  rw [View.read_apply]
  refine (congrArg (V m c main_arg0) (funext fun a => Fin.ext ?_)).trans (congrFun (V_main_arg0 m c) _)
  match a with
  | ⟨0, _⟩ => show win0_2.index t 0 * 2048 + 1 * i.val = i.val; rw [(index0 t).2.2.1.1]; omega
  | ⟨1, _⟩ => show win0_2.index t 1 * 128 + 1 * (lan s d).val = (col 4 (by omega) (hd t s) d).val; rw [(index0 t).2.2.1.2, lan_val, col_val, hd_val]; omega

theorem iblk4_apply (c : Dev nD) (t : Fin cfg0.N) (i : Fin 2048) (s : Fin 2) (d : Fin 64) :
    (iblk m c 4 t : Vec Ideal S2048x128 .f32) (ix2 i (lan s d)) = aD m c (ix2 i (lane (hd t s) d)) := by
  unfold iblk
  rw [View.read_apply]
  refine (congrArg (V m c main_arg2) (funext fun a => Fin.ext ?_)).trans (congrFun (V_main_arg2 m c) _)
  match a with
  | ⟨0, _⟩ => show win0_4.index t 0 * 2048 + 1 * i.val = i.val; rw [(index0 t).2.2.2.2.1.1]; omega
  | ⟨1, _⟩ => show win0_4.index t 1 * 128 + 1 * (lan s d).val = (lane (hd t s) d).val; rw [(index0 t).2.2.2.2.1.2, lan_val, lane_val, hd_val]; omega

theorem iblk3_apply (c : Dev nD) (t : Fin cfg0.N) (s : Fin 2) (e : Fin 17) (a : Fin 64) (l : Fin 128) :
    (iblk m c 3 t : Vec Ideal S2x17x64x128 .f32) (ix4 s e a l) = tabs (byRow (aR m c)) (ix4 (hd t s) e a l) := by
  unfold iblk
  rw [View.read_apply]
  refine (congrArg (V m c main_v46) (funext fun x => Fin.ext ?_)).trans (congrFun (V_main_v46 m c) _)
  match x with
  | ⟨0, _⟩ => show win0_3.index t 0 * 2 + 1 * s.val = (hd t s).val; rw [(index0 t).2.2.2.1.1, hd_val]; omega
  | ⟨1, _⟩ => show win0_3.index t 1 * 17 + 1 * e.val = e.val; rw [(index0 t).2.2.2.1.2.1]; omega
  | ⟨2, _⟩ => show win0_3.index t 2 * 64 + 1 * a.val = a.val; rw [(index0 t).2.2.2.1.2.2.1]; omega
  | ⟨3, _⟩ => show win0_3.index t 3 * 128 + 1 * l.val = l.val; rw [(index0 t).2.2.2.1.2.2.2]; omega

variable {c : Dev nD} (H : Real (aP m c) (aR m c) (aD m c))
include H

theorem holds (t : Fin cfg0.N) : AttnLeft.In (hd t) (dat (aP m c) (aR m c) (aD m c)) (iblk m c 0 t) (iblk m c 1 t) (iblk m c 2 t)
    (iblk m c 3 t) (iblk m c 4 t) where
  q i s d := (iblk0_apply m c t i s d).trans (H.p _ _).symm
  k i s d := (iblk1_apply m c t i s d).trans (H.p _ _).symm
  v i s d := (iblk2_apply m c t i s d).trans (H.p _ _).symm
  o i s d := (iblk4_apply m c t i s d).trans (H.d _ _).symm
  b s k i g a l := (iblk3_apply m c t s _ a l).trans
    (entry_bias (aR m c) (hd t s) a (dat (aP m c) (aR m c) (aD m c)) (fun r x => H.r _ _ _) k i g l)

theorem left5_apply (t : Fin cfg0.N) (i : Fin 2048) (s : Fin 2) (d : Fin 64) :
    left5 m c t (ix2 i (lan s d)) = ((dat (aP m c) (aR m c) (aD m c)).dq (hd t s) i d : EReal) := by
  unfold left5
  exact AttnLeft.o6_apply _ _ _ _ _ _ _ _ _ _ _ _ _ _ _ _ _ _ _ _ _ _ _ _ _ _ _ _ _ _ _ _ _ _ _ _ _ _ _ _ _ _ _ _ _ (holds m H t) i s d

omit H in
theorem emb5 (t : Fin cfg0.N) (i : Fin 2048) (s : Fin 2) (d : Fin 64) :
    (((cfg0.win 5).blk t).view.emb (ix2 i (lan s d) : S2048x128.Idx) : S2048x1024.Idx) = ix2 i (lane (hd t s) d) :=
  funext fun a => Fin.ext (by
    match a with
    | ⟨0, _⟩ => show win0_5.index t 0 * 2048 + 1 * i.val = i.val; rw [(index0 t).2.2.2.2.2.1.1]; omega
    | ⟨1, _⟩ => show win0_5.index t 1 * 128 + 1 * (lan s d).val = (lane (hd t s) d).val; rw [(index0 t).2.2.2.2.2.1.2, lan_val, lane_val, hd_val]; omega)

theorem final5 : (dats m 0 c).arrAt 5 cfg0.N = val_main_v140 (F := Ideal) (aP m c) (aR m c) (aD m c) := by
  refine (dats m 0 c).arrAt_eq_of_cover 5 _ (fun t _ => funext fun y => ?_) fun j => ?_
  · rw [show (dats m 0 c).flushed 5 t = (cfg0.win 5).cut (grid0.coords t) (left5 m c t) from
      congrArg ((cfg0.win 5).cut (grid0.coords t)) (after5 m c t), View.read_apply]
    obtain ⟨a, b, rfl⟩ := exists_ix2 (a := 2048) (b := 128) y
    obtain ⟨s, d, rfl⟩ := exists_lan b
    exact ((left5_apply m H t a s d).trans (v140_coe (H := H) ..).symm).trans (congrArg (val_main_v140 (F := Ideal) _ _ _) (emb5 t a s d)).symm
  · obtain ⟨a, b, rfl⟩ := exists_ix2 (a := 2048) (b := 1024) j
    obtain ⟨t, s, d, rfl⟩ := exists_lane b
    exact ⟨t, flush0_5 t, emb5 t a s d ▸ View.emb_mem_set _ _⟩

theorem left6_apply (t : Fin cfg0.N) (i : Fin 2048) (s : Fin 2) (d : Fin 64) :
    left6 m c t (ix2 i (lan s d)) = ((dat (aP m c) (aR m c) (aD m c)).dk (hd t s) i d : EReal) := by
  unfold left6
  exact AttnLeft.o7_apply _ _ _ _ _ _ _ _ _ _ _ _ _ _ _ _ _ _ _ _ _ _ _ _ _ _ _ _ _ _ _ _ _ _ _ _ _ _ _ _ _ _ _ _ _ (holds m H t) i s d

omit H in
theorem emb6 (t : Fin cfg0.N) (i : Fin 2048) (s : Fin 2) (d : Fin 64) :
    (((cfg0.win 6).blk t).view.emb (ix2 i (lan s d) : S2048x128.Idx) : S2048x1024.Idx) = ix2 i (lane (hd t s) d) :=
  funext fun a => Fin.ext (by
    match a with
    | ⟨0, _⟩ => show win0_6.index t 0 * 2048 + 1 * i.val = i.val; rw [(index0 t).2.2.2.2.2.2.1.1]; omega
    | ⟨1, _⟩ => show win0_6.index t 1 * 128 + 1 * (lan s d).val = (lane (hd t s) d).val; rw [(index0 t).2.2.2.2.2.2.1.2, lan_val, lane_val, hd_val]; omega)

theorem final6 : (dats m 0 c).arrAt 6 cfg0.N = val_main_v141 (F := Ideal) (aP m c) (aR m c) (aD m c) := by
  refine (dats m 0 c).arrAt_eq_of_cover 6 _ (fun t _ => funext fun y => ?_) fun j => ?_
  · rw [show (dats m 0 c).flushed 6 t = (cfg0.win 6).cut (grid0.coords t) (left6 m c t) from
      congrArg ((cfg0.win 6).cut (grid0.coords t)) (after6 m c t), View.read_apply]
    obtain ⟨a, b, rfl⟩ := exists_ix2 (a := 2048) (b := 128) y
    obtain ⟨s, d, rfl⟩ := exists_lan b
    exact ((left6_apply m H t a s d).trans (v141_coe (H := H) ..).symm).trans (congrArg (val_main_v141 (F := Ideal) _ _ _) (emb6 t a s d)).symm
  · obtain ⟨a, b, rfl⟩ := exists_ix2 (a := 2048) (b := 1024) j
    obtain ⟨t, s, d, rfl⟩ := exists_lane b
    exact ⟨t, flush0_6 t, emb6 t a s d ▸ View.emb_mem_set _ _⟩

theorem left7_apply (t : Fin cfg0.N) (i : Fin 2048) (s : Fin 2) (d : Fin 64) :
    left7 m c t (ix2 i (lan s d)) = ((dat (aP m c) (aR m c) (aD m c)).dv (hd t s) i d : EReal) := by
  unfold left7
  exact AttnLeft.o8_apply _ _ _ _ _ _ _ _ _ _ _ _ _ _ _ _ _ _ _ _ _ _ _ _ _ _ _ _ _ _ _ _ _ _ _ _ _ _ _ _ _ _ _ _ _ (holds m H t) i s d

omit H in
theorem emb7 (t : Fin cfg0.N) (i : Fin 2048) (s : Fin 2) (d : Fin 64) :
    (((cfg0.win 7).blk t).view.emb (ix2 i (lan s d) : S2048x128.Idx) : S2048x1024.Idx) = ix2 i (lane (hd t s) d) :=
  funext fun a => Fin.ext (by
    match a with
    | ⟨0, _⟩ => show win0_7.index t 0 * 2048 + 1 * i.val = i.val; rw [(index0 t).2.2.2.2.2.2.2.1.1]; omega
    | ⟨1, _⟩ => show win0_7.index t 1 * 128 + 1 * (lan s d).val = (lane (hd t s) d).val; rw [(index0 t).2.2.2.2.2.2.2.1.2, lan_val, lane_val, hd_val]; omega)

theorem final7 : (dats m 0 c).arrAt 7 cfg0.N = val_main_v142 (F := Ideal) (aP m c) (aR m c) (aD m c) := by
  refine (dats m 0 c).arrAt_eq_of_cover 7 _ (fun t _ => funext fun y => ?_) fun j => ?_
  · rw [show (dats m 0 c).flushed 7 t = (cfg0.win 7).cut (grid0.coords t) (left7 m c t) from
      congrArg ((cfg0.win 7).cut (grid0.coords t)) (after7 m c t), View.read_apply]
    obtain ⟨a, b, rfl⟩ := exists_ix2 (a := 2048) (b := 128) y
    obtain ⟨s, d, rfl⟩ := exists_lan b
    exact ((left7_apply m H t a s d).trans (v142_coe (H := H) ..).symm).trans (congrArg (val_main_v142 (F := Ideal) _ _ _) (emb7 t a s d)).symm
  · obtain ⟨a, b, rfl⟩ := exists_ix2 (a := 2048) (b := 1024) j
    obtain ⟨t, s, d, rfl⟩ := exists_lane b
    exact ⟨t, flush0_7 t, emb7 t a s d ▸ View.emb_mem_set _ _⟩

theorem left8_apply (t : Fin cfg0.N) (a : Fin 3) (i : Fin 2048) (s : Fin 2) (d : Fin 64) :
    left8 m c t (ix3 a (lan s d) i) = val_main_v149 (F := Ideal) (aP m c) (aR m c) (aD m c) (ix3 a (lane (hd t s) d) i) := by
  rw [v149_apply, v140_coe (H := H), v141_coe (H := H), v142_coe (H := H)]
  unfold left8
  exact AttnLeft.o9_apply _ _ _ _ _ _ _ _ _ _ _ _ _ _ _ _ _ _ _ _ _ _ _ _ _ _ _ _ _ _ _ _ _ _ _ _ _ _ _ _ _ _ _ _ _ (holds m H t) a i s d

omit H in
theorem emb8 (t : Fin cfg0.N) (x : Fin 3) (s : Fin 2) (d : Fin 64) (i : Fin 2048) :
    (((cfg0.win 8).blk t).view.emb (ix3 x (lan s d) i : S3x128x2048.Idx) : S3x1024x2048.Idx) = ix3 x (lane (hd t s) d) i :=
  funext fun a => Fin.ext (by
    match a with
    | ⟨0, _⟩ => show win0_8.index t 0 * 3 + 1 * x.val = x.val; rw [(index0 t).2.2.2.2.2.2.2.2.1]; omega
    | ⟨1, _⟩ => show win0_8.index t 1 * 128 + 1 * (lan s d).val = (lane (hd t s) d).val; rw [(index0 t).2.2.2.2.2.2.2.2.2.1, lan_val, lane_val, hd_val]; omega
    | ⟨2, _⟩ => show win0_8.index t 2 * 2048 + 1 * i.val = i.val; rw [(index0 t).2.2.2.2.2.2.2.2.2.2]; omega)

theorem final8 : (dats m 0 c).arrAt 8 cfg0.N = val_main_v149 (F := Ideal) (aP m c) (aR m c) (aD m c) := by
  refine (dats m 0 c).arrAt_eq_of_cover 8 _ (fun t _ => funext fun y => ?_) fun j => ?_
  · rw [show (dats m 0 c).flushed 8 t = (cfg0.win 8).cut (grid0.coords t) (left8 m c t) from
      congrArg ((cfg0.win 8).cut (grid0.coords t)) (after8 m c t), View.read_apply]
    obtain ⟨x, b, i, rfl⟩ := exists_ix3 (a := 3) (b := 128) (c := 2048) y
    obtain ⟨s, d, rfl⟩ := exists_lan b
    exact (left8_apply m H t x i s d).trans (congrArg (val_main_v149 (F := Ideal) _ _ _) (emb8 t x s d i)).symm
  · obtain ⟨x, b, i, rfl⟩ := exists_ix3 (a := 3) (b := 1024) (c := 2048) j
    obtain ⟨t, s, d, rfl⟩ := exists_lane b
    exact ⟨t, flush0_8 t, emb8 t x s d i ▸ View.emb_mem_set _ _⟩

end Cert.Kernel2Ideal.AttnValue
-- ==== Proof.AttnClaim.lean ====
/-
  The attention's backward call against the chain rule: the three gradients and their transposes, equal where the
  arguments are real numbers.
-/
module

public import proofs.«01_k».proof.Defs
public import proofs.«01_k».proof.Proof.AttnValue
public import proofs.«01_k».proof.Proof.Gen.Kernel2
public import proofs.«01_k».proof.Proof.Gen.Reference2Ideal.Read
public import Idealize.ShloMosaic.Lib.Quiescent

@[expose] public section

set_option maxRecDepth 16384

noncomputable section

open Idealize.ShloMosaic Idealize.ShloMosaic.TcCoe Idealize.SL.Sem
open Cert.Reals

namespace Cert.AttnClaim

theorem pre_facts : Cert.Pre_attn_finite.Facts where
  bcast_S_S2048x5120 := by decide
  bcast_S_S16x15x31 := by decide
  bcast_S_S2048x1024 := by decide

instance : Cert.Pre_attn_finite.Facts := pre_facts

open Cert.Kernel2Ideal Cert.Kernel2Ideal.Gen Cert.Kernel2Ideal.AttnValue Cert.Kernel2Ideal.AttnFrame

variable (m : (ℓ : Loc nD τ sig) → Buf (Elt Ideal) ℓ)

/-- Under the precondition the arguments hold real numbers. -/
theorem reals (h : Cert.Pre_Kernel2Ideal_attn_finite m) (c : Dev nD) :
    Cert.Reference2Ideal.AttnRef.Real (aP m c) (aR m c) (aD m c) where
  p i j := by
    have e := congrFun (h c).1 (ix2 i j)
    dsimp only [Cert.Pre_attn_finite.fn] at e
    pointwise at e
    exact real_of_lt e
  r i j k := by
    have e := congrFun (h c).2.1 (ix3 i j k)
    dsimp only [Cert.Pre_attn_finite.fn] at e
    pointwise at e
    exact real_of_lt e
  d i j := by
    have e := congrFun (h c).2.2 (ix2 i j)
    dsimp only [Cert.Pre_attn_finite.fn] at e
    pointwise at e
    exact real_of_lt e

/-- The kernel's frame on bits: its idealization is the same text, so the one run stands for both. -/
theorem kernel_frame : Cert.quiescent_Kernel2 :=
  Eq.mp (by sl_kernel_rfl) (fun m ρ (_ : True) => AttnFrame.frame (F := Bits) m ρ)

theorem reference_frame : Cert.quiescent_Reference2Ideal := fun m ρ _ =>
  (θ_run (Cert.Reference2Ideal.defs (F := Ideal)) _ _).mono (fun r h => And.intro (fun c => (h c).2.2.2.2)
    (Idealize.ShloMosaic.sem_eq_zero_of_no_sems (by decide) r.2)) (Cert.Reference2Ideal.Value.run (F := Ideal) m ρ)

open Cert.Reference2Ideal.Read

theorem congr3 {α β γ δ : Sort*} (f : α → β → γ → δ) {a a' : α} {b b' : β} {c c' : γ} (ha : a = a') (hb : b = b') (hc : c = c') :
    f a b c = f a' b' c' := by rw [ha, hb, hc]

theorem algebraic : Cert.algebraic_Kernel2Ideal_Reference2Ideal_pre_attn_finite := by
  intro m ρ m' ρ' hpre hag
  refine ⟨fun c => val_main_v140 (F := Ideal) (aP m c) (aR m c) (aD m c), fun c => val_main_v141 (F := Ideal) (aP m c) (aR m c) (aD m c),
    fun c => val_main_v142 (F := Ideal) (aP m c) (aR m c) (aD m c), fun c => val_main_v149 (F := Ideal) (aP m c) (aR m c) (aD m c), ?_, ?_⟩
  · refine (θ_run Cert.Kernel2Ideal.defs _ _).mono (fun r h c => ?_)
      (θ_run_and (run_main (F := Ideal) m ρ) (AttnFrame.frame (F := Ideal) m ρ))
    have H := reals m hpre c
    exact ⟨((h.1 c).1 5).trans (final5 m H), ((h.1 c).1 6).trans (final6 m H), ((h.1 c).1 7).trans (final7 m H),
      ((h.1 c).1 8).trans (final8 m H), h.2.1 c⟩
  · refine (θ_run Cert.Reference2Ideal.defs _ _).mono (fun r h c => ?_) (Cert.Reference2Ideal.Value.run (F := Ideal) m' ρ')
    obtain ⟨h0, h1, h2, h3, ha⟩ := h c
    obtain ⟨e0, e1, e2⟩ := hag c
    exact ⟨h0.trans ((val_main_v140_eq _).trans (congr3 _ e0 e1 e2)), h1.trans ((val_main_v141_eq _).trans (congr3 _ e0 e1 e2)),
      h2.trans ((val_main_v142_eq _).trans (congr3 _ e0 e1 e2)), h3.trans ((val_main_v149_eq _).trans (congr3 _ e0 e1 e2)), ha⟩

end Cert.AttnClaim

end
-- ==== Proof.MixValue.lean ====
/-
  What the backward call of the two norms of the mixer's output leaves in its four results: each half's gradient read as
  rows of the whole arrays, each gain's gradient as the sum over all rows.
-/
module
public import proofs.«01_k».proof.Proof.RmsMath
public import proofs.«01_k».proof.Proof.Gen.Kernel3Ideal.Value
@[expose] public section
set_option maxRecDepth 16384
noncomputable section
open Idealize.ShloMosaic Idealize.ShloMosaic.TcCoe Idealize.SL.Sem
open Idealize.ShloMosaic.Pipeline (Dat)
namespace Cert.Kernel3Ideal.MixValue
open Cert.Kernel3Ideal Cert.Kernel3Ideal.Gen Cert.Reals Cert.Rms

theorem hz : (![0, 0] : Fin 2 → Nat) = fun _ => 0 := funext fun a => by fin_cases a <;> rfl

/-- The number a row's sums are divided by. -/
abbrev w : EReal := Ideal.ofBits .f32 0x44800000#32

theorem payA_apply (h : Vec Ideal S256x1024 .f32) (g : Vec Ideal S1x1024 .f32) (du : Vec Ideal S256x1024 .f32)
    (i : Fin 256) (j : Fin 1024) : k0_pay10 h g du (ix2 i j)
      = dxK w (fun k => du (ix2 i k)) (fun k => h (ix2 i k)) (fun k => g (ix2 0 k)) j := by
  pointwise! [k0_pay10, k0_pay9, k0_pay8]

theorem payB_apply (h : Vec Ideal S256x1024 .f32) (g : Vec Ideal S1x1024 .f32) (du : Vec Ideal S256x1024 .f32)
    (i : Fin 256) (j : Fin 1024) : k0_pay3 h g du (k0_pay12 h) (ix2 i j)
      = dxK w (fun k => du (ix2 i k)) (fun k => h (ix2 i k)) (fun k => g (ix2 0 k)) j := by
  pointwise! [k0_pay3, k0_pay2, k0_pay1, k0_pay12]

/-- A block row's part of a gain's gradient. -/
def term (h du : Vec Ideal S256x1024 .f32) (j : Fin 1024) (x : Fin 256) : EReal :=
  du (ix2 x j) * (h (ix2 x j) * rstd w fun k => h (ix2 x k))

theorem payGA_apply (h du : Vec Ideal S256x1024 .f32) (a : Vec Ideal S1x1024 .f32) (i : Fin 1) (j : Fin 1024) :
    k0_pay4 (k0_pay11 h du) a (ix2 i j)
      = a (ix2 i j) + ∑ x, term h du j x := by
  pointwise! [k0_pay4, k0_pay11, k0_pay9, k0_pay8]

theorem payGB_apply (h du : Vec Ideal S256x1024 .f32) (a : Vec Ideal S1x1024 .f32) (i : Fin 1) (j : Fin 1024) :
    k0_pay5 h du (k0_pay12 h) a (ix2 i j)
      = a (ix2 i j) + ∑ x, term h du j x := by
  pointwise! [k0_pay5, k0_pay2, k0_pay1, k0_pay12]

theorem zeroA (i : Fin 1) (j : Fin 1024) : k0_pay6 (F := Ideal) (ix2 i j) = 0 := by pointwise! [k0_pay6]
theorem zeroB (i : Fin 1) (j : Fin 1024) : k0_pay7 (F := Ideal) (ix2 i j) = 0 := by pointwise! [k0_pay7]

/-- The left and the right half of a row's columns. -/
def lo (j : Fin 1024) : Fin 2048 := ⟨j.val, by omega⟩
def hi (j : Fin 1024) : Fin 2048 := ⟨1024 + j.val, by omega⟩
def left (x : Vec Ideal S256x2048 .f32) : Vec Ideal S256x1024 .f32 := fun j => x (ix2 (j 0) (lo (j 1)))
def right (x : Vec Ideal S256x2048 .f32) : Vec Ideal S256x1024 .f32 := fun j => x (ix2 (j 0) (hi (j 1)))

theorem ld_left (x : Vec Ideal S256x2048 .f32) (inb) :
    View.ld (S := S256x2048) x (Rect.unit (s := S256x2048) ![0, 0] ![256, 1024] inb) = left x :=
  funext fun j => congrArg x (funext fun a => Fin.ext (by
    match a with
    | ⟨0, _⟩ => show 0 + 1 * (j 0).val = (j 0).val; omega
    | ⟨1, _⟩ => show 0 + 1 * (j 1).val = (j 1).val; omega))

theorem ld_right (x : Vec Ideal S256x2048 .f32) (inb) :
    View.ld (S := S256x2048) x (Rect.unit (s := S256x2048) ![0, 1024] ![256, 1024] inb) = right x :=
  funext fun j => congrArg x (funext fun a => Fin.ext (by
    match a with
    | ⟨0, _⟩ => show 0 + 1 * (j 0).val = (j 0).val; omega
    | ⟨1, _⟩ => show 1024 + 1 * (j 1).val = 1024 + (j 1).val; omega))

variable (m : (ℓ : Loc nD τ sig) → Buf (Elt Ideal) ℓ)

theorem after5 (c : Dev nD) (t : Fin cfg0.N) : (outsAt0 m c t.val t.isLt).1
    = k0_pay10 (iblk m c 1 t) (iblk m c 3 t) (left (iblk m c 0 t)) := by
  by_cases h0 : t.val % 8 = 0
  · rw [outsAt0_A m c t h0]
    unfold out0_A_5
    rw [View.read_writes_eq_canon _ _ _ (fun y => cover0_A_5 (y := y) ..)]
    unfold kernelRun0_A
    dsimp only
    sl_unfold_words
    rw [View.canon_unit_zero hz]
    simp only [View.readAt_eq_ld, (hs0_0 t).read_unread, (hs0_1 t).read_unread, (hs0_2 t).read_unread,
      (hs0_3 t).read_unread, (hs0_4 t).read_unread, View.ld_unit_zero (S := S256x1024) hz,
      View.ld_unit_zero (S := S1x1024) hz, ld_left, ld_right]
  · rw [outsAt0_B m c t h0]
    unfold out0_B_5
    rw [View.read_writes_eq_canon _ _ _ (fun y => cover0_B_5 (y := y) ..)]
    unfold kernelRun0_B
    dsimp only
    sl_unfold_words
    rw [View.canon_unit_zero hz]
    simp only [View.readAt_eq_ld, (hs0_0 t).read_unread, (hs0_1 t).read_unread, (hs0_2 t).read_unread,
      (hs0_3 t).read_unread, (hs0_4 t).read_unread, View.ld_unit_zero (S := S256x1024) hz,
      View.ld_unit_zero (S := S1x1024) hz, ld_left, ld_right]

theorem after6 (c : Dev nD) (t : Fin cfg0.N) : (outsAt0 m c t.val t.isLt).2.1
    = k0_pay3 (iblk m c 2 t) (iblk m c 4 t) (right (iblk m c 0 t)) (k0_pay12 (iblk m c 2 t)) := by
  by_cases h0 : t.val % 8 = 0
  · rw [outsAt0_A m c t h0]
    unfold out0_A_6
    rw [View.read_writes_eq_canon _ _ _ (fun y => cover0_A_6 (y := y) ..)]
    unfold kernelRun0_A
    dsimp only
    sl_unfold_words
    rw [View.canon_unit_zero hz]
    simp only [View.readAt_eq_ld, (hs0_0 t).read_unread, (hs0_1 t).read_unread, (hs0_2 t).read_unread,
      (hs0_3 t).read_unread, (hs0_4 t).read_unread, View.ld_unit_zero (S := S256x1024) hz,
      View.ld_unit_zero (S := S1x1024) hz, ld_left, ld_right]
  · rw [outsAt0_B m c t h0]
    unfold out0_B_6
    rw [View.read_writes_eq_canon _ _ _ (fun y => cover0_B_6 (y := y) ..)]
    unfold kernelRun0_B
    dsimp only
    sl_unfold_words
    rw [View.canon_unit_zero hz]
    simp only [View.readAt_eq_ld, (hs0_0 t).read_unread, (hs0_1 t).read_unread, (hs0_2 t).read_unread,
      (hs0_3 t).read_unread, (hs0_4 t).read_unread, View.ld_unit_zero (S := S256x1024) hz,
      View.ld_unit_zero (S := S1x1024) hz, ld_left, ld_right]

theorem after7_A (c : Dev nD) (t : Fin cfg0.N) (h0 : t.val % 8 = 0) : (outsAt0 m c t.val t.isLt).2.2.1
    = k0_pay4 (k0_pay11 (iblk m c 1 t) (left (iblk m c 0 t))) (k0_pay6 (F := Ideal)) := by
  rw [outsAt0_A m c t h0]
  unfold out0_A_7
  rw [View.read_writes_eq_canon _ _ _ (fun y => cover0_A_7 (y := y) ..)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread,
    View.ld_unit_zero (S := S256x1024) hz, ld_left, ld_right]

theorem after7_B (c : Dev nD) (t : Fin cfg0.N) (h0 : ¬t.val % 8 = 0) : (outsAt0 m c t.val t.isLt).2.2.1
    = k0_pay4 (k0_pay11 (iblk m c 1 t) (left (iblk m c 0 t))) (outsAt0 m c (t.val - 1) (Nat.lt_of_le_of_lt (Nat.sub_le _ _) t.isLt)).2.2.1 := by
  rw [outsAt0_B m c t h0]
  unfold out0_B_7
  rw [View.read_writes_eq_canon _ _ _ (fun y => cover0_B_7 (y := y) ..)]
  unfold kernelRun0_B
  dsimp only
  sl_unfold_words
  rw [View.canon_unit_zero hz]
  simp only [View.readAt_eq_ld, (hs0_0 t).read_unread, (hs0_1 t).read_unread, (hs0_2 t).read_unread,
    (hs0_7 t).read_unread, View.ld_unit_zero (S := S256x1024) hz, View.ld_unit_zero (S := S1x1024) hz, ld_left, ld_right]

theorem after8_A (c : Dev nD) (t : Fin cfg0.N) (h0 : t.val % 8 = 0) : (outsAt0 m c t.val t.isLt).2.2.2
    = k0_pay5 (iblk m c 2 t) (right (iblk m c 0 t)) (k0_pay12 (iblk m c 2 t)) (k0_pay7 (F := Ideal)) := by
  rw [outsAt0_A m c t h0]
  unfold out0_A_8
  rw [View.read_writes_eq_canon _ _ _ (fun y => cover0_A_8 (y := y) ..)]
  unfold kernelRun0_A
  dsimp only
  sl_unfold_words
  rw [View.canon_cons_unit_zero (S := S1x1024) hz, View.readCov_unit_zero (S := S1x1024) _ hz]
  simp only [View.readAt_eq_ld, (hs0_0 t).read_unread, (hs0_1 t).read_unread, (hs0_2 t).read_unread,
    View.ld_unit_zero (S := S256x1024) hz, ld_left, ld_right]

theorem after8_B (c : Dev nD) (t : Fin cfg0.N) (h0 : ¬t.val % 8 = 0) : (outsAt0 m c t.val t.isLt).2.2.2
    = k0_pay5 (iblk m c 2 t) (right (iblk m c 0 t)) (k0_pay12 (iblk m c 2 t)) (outsAt0 m c (t.val - 1) (Nat.lt_of_le_of_lt (Nat.sub_le _ _) t.isLt)).2.2.2 := by
  rw [outsAt0_B m c t h0]
  unfold out0_B_8
  rw [View.read_writes_eq_canon _ _ _ (fun y => cover0_B_8 (y := y) ..)]
  unfold kernelRun0_B
  dsimp only
  sl_unfold_words
  rw [View.canon_unit_zero hz]
  simp only [View.readAt_eq_ld, (hs0_0 t).read_unread, (hs0_1 t).read_unread, (hs0_2 t).read_unread,
    (hs0_8 t).read_unread, View.ld_unit_zero (S := S256x1024) hz, View.ld_unit_zero (S := S1x1024) hz, ld_left, ld_right]

/-! The arguments as the call finds them, and the rows a grid point reads. -/

abbrev aDy (c : Dev nD) : Vec Ideal S2048x2048 .f32 := m ((c : Thread nD τ).loc main_arg0)
abbrev aYa (c : Dev nD) : Vec Ideal S2048x1024 .f32 := m ((c : Thread nD τ).loc main_arg1)
abbrev aYb (c : Dev nD) : Vec Ideal S2048x1024 .f32 := m ((c : Thread nD τ).loc main_arg2)
abbrev aGa (c : Dev nD) : Vec Ideal S1x1024 .f32 := m ((c : Thread nD τ).loc main_arg3)
abbrev aGb (c : Dev nD) : Vec Ideal S1x1024 .f32 := m ((c : Thread nD τ).loc main_arg4)

/-- Row `i` of block `t`. -/
def row (t : Fin cfg0.N) (i : Fin 256) : Fin 2048 :=
  ⟨256 * t.val + i.val, by have : cfg0.N = 8 := N_0; have := t.isLt; have := i.isLt; omega⟩

theorem exists_row (i : Fin 2048) : ∃ (t : Fin cfg0.N) (r : Fin 256), row t r = i :=
  ⟨⟨i.val / 256, by have : cfg0.N = 8 := N_0; have := i.isLt; omega⟩, ⟨i.val % 256, by omega⟩,
    Fin.ext (Nat.div_add_mod _ _)⟩

theorem index0 : ∀ t : Fin cfg0.N, (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = 0 ∧ win0_3.index t 1 = 0) ∧ (win0_4.index t 0 = 0 ∧ win0_4.index t 1 = 0)
    ∧ (win0_5.index t 0 = t.val ∧ win0_5.index t 1 = 0) ∧ (win0_6.index t 0 = t.val ∧ win0_6.index t 1 = 0)
    ∧ (win0_7.index t 0 = 0 ∧ win0_7.index t 1 = 0) ∧ (win0_8.index t 0 = 0 ∧ win0_8.index t 1 = 0) := by
  show ∀ t : Fin grid0.N, _
  decide +kernel

theorem iblk0_apply (c : Dev nD) (t : Fin cfg0.N) (i : Fin 256) (k : Fin 2048) :
    (iblk m c 0 t : Vec Ideal S256x2048 .f32) (ix2 i k) = aDy m c (ix2 (row t i) k) := by
  unfold iblk
  rw [View.read_apply]
  refine congrArg (m ((c : Thread nD τ).loc main_arg0)) (funext fun a => Fin.ext ?_)
  match a with
  | ⟨0, _⟩ => show win0_0.index t 0 * 256 + 1 * i.val = 256 * t.val + i.val; rw [(index0 t).1.1]; omega
  | ⟨1, _⟩ => show win0_0.index t 1 * 2048 + 1 * k.val = k.val; rw [(index0 t).1.2]; omega

theorem iblk1_apply (c : Dev nD) (t : Fin cfg0.N) (i : Fin 256) (k : Fin 1024) :
    (iblk m c 1 t : Vec Ideal S256x1024 .f32) (ix2 i k) = aYa m c (ix2 (row t i) k) := by
  unfold iblk
  rw [View.read_apply]
  refine congrArg (m ((c : Thread nD τ).loc main_arg1)) (funext fun a => Fin.ext ?_)
  match a with
  | ⟨0, _⟩ => show win0_1.index t 0 * 256 + 1 * i.val = 256 * t.val + i.val; rw [(index0 t).2.1.1]; omega
  | ⟨1, _⟩ => show win0_1.index t 1 * 1024 + 1 * k.val = k.val; rw [(index0 t).2.1.2]; omega

theorem iblk2_apply (c : Dev nD) (t : Fin cfg0.N) (i : Fin 256) (k : Fin 1024) :
    (iblk m c 2 t : Vec Ideal S256x1024 .f32) (ix2 i k) = aYb m c (ix2 (row t i) k) := by
  unfold iblk
  rw [View.read_apply]
  refine congrArg (m ((c : Thread nD τ).loc main_arg2)) (funext fun a => Fin.ext ?_)
  match a with
  | ⟨0, _⟩ => show win0_2.index t 0 * 256 + 1 * i.val = 256 * t.val + i.val; rw [(index0 t).2.2.1.1]; omega
  | ⟨1, _⟩ => show win0_2.index t 1 * 1024 + 1 * k.val = k.val; rw [(index0 t).2.2.1.2]; omega

theorem iblk3_apply (c : Dev nD) (t : Fin cfg0.N) (i : Fin 1) (k : Fin 1024) :
    (iblk m c 3 t : Vec Ideal S1x1024 .f32) (ix2 i k) = aGa m c (ix2 (i) k) := by
  unfold iblk
  rw [View.read_apply]
  refine congrArg (m ((c : Thread nD τ).loc main_arg3)) (funext fun a => Fin.ext ?_)
  match a with
  | ⟨0, _⟩ => show win0_3.index t 0 * 1 + 1 * i.val = i.val; rw [(index0 t).2.2.2.1.1]; omega
  | ⟨1, _⟩ => show win0_3.index t 1 * 1024 + 1 * k.val = k.val; rw [(index0 t).2.2.2.1.2]; omega

theorem iblk4_apply (c : Dev nD) (t : Fin cfg0.N) (i : Fin 1) (k : Fin 1024) :
    (iblk m c 4 t : Vec Ideal S1x1024 .f32) (ix2 i k) = aGb m c (ix2 (i) k) := by
  unfold iblk
  rw [View.read_apply]
  refine congrArg (m ((c : Thread nD τ).loc main_arg4)) (funext fun a => Fin.ext ?_)
  match a with
  | ⟨0, _⟩ => show win0_4.index t 0 * 1 + 1 * i.val = i.val; rw [(index0 t).2.2.2.2.1.1]; omega
  | ⟨1, _⟩ => show win0_4.index t 1 * 1024 + 1 * k.val = k.val; rw [(index0 t).2.2.2.2.1.2]; omega

theorem left_apply (c : Dev nD) (t : Fin cfg0.N) (i : Fin 256) (k : Fin 1024) :
    left (iblk m c 0 t) (ix2 i k) = aDy m c (ix2 (row t i) (lo k)) := iblk0_apply m c t i (lo k)

theorem right_apply (c : Dev nD) (t : Fin cfg0.N) (i : Fin 256) (k : Fin 1024) :
    right (iblk m c 0 t) (ix2 i k) = aDy m c (ix2 (row t i) (hi k)) := iblk0_apply m c t i (hi k)

/-! What the four result arrays end holding. -/

/-- Row `i`'s gradient at column `j`, of the half whose columns are `half`. -/
def dxOf (dy : Vec Ideal S2048x2048 .f32) (y : Vec Ideal S2048x1024 .f32) (g : Vec Ideal S1x1024 .f32)
    (half : Fin 1024 → Fin 2048) (i : Fin 2048) (j : Fin 1024) : EReal :=
  dxK w (fun k => dy (ix2 i (half k))) (fun k => y (ix2 i k)) (fun k => g (ix2 0 k)) j

/-- Row `i`'s part of the half's gain's gradient at column `j`. -/
def dgOf (dy : Vec Ideal S2048x2048 .f32) (y : Vec Ideal S2048x1024 .f32) (half : Fin 1024 → Fin 2048)
    (j : Fin 1024) (i : Fin 2048) : EReal :=
  dy (ix2 i (half j)) * (y (ix2 i j) * rstd w fun k => y (ix2 i k))

def G5 (c : Dev nD) : Vec Ideal S2048x1024 .f32 := fun j => dxOf (aDy m c) (aYa m c) (aGa m c) lo (j 0) (j 1)
def G6 (c : Dev nD) : Vec Ideal S2048x1024 .f32 := fun j => dxOf (aDy m c) (aYb m c) (aGb m c) hi (j 0) (j 1)
def G7 (c : Dev nD) : Vec Ideal S1x1024 .f32 := fun j => ∑ i, dgOf (aDy m c) (aYa m c) lo (j 1) i
def G8 (c : Dev nD) : Vec Ideal S1x1024 .f32 := fun j => ∑ i, dgOf (aDy m c) (aYb m c) hi (j 1) i

theorem exists_ix2 {a b : Nat} (j : (⟨2, ![a, b]⟩ : Shape).Idx) : ∃ (x : Fin a) (y : Fin b), j = ix2 x y :=
  ⟨j 0, j 1, funext fun x => by match x with | ⟨0, _⟩ => rfl | ⟨1, _⟩ => rfl⟩

theorem emb5 (t : Fin cfg0.N) (i : Fin 256) (k : Fin 1024) :
    (((cfg0.win 5).blk t).view.emb (ix2 i k : S256x1024.Idx) : S2048x1024.Idx) = ix2 (row t i) k :=
  funext fun a => Fin.ext (by
    match a with
    | ⟨0, _⟩ => show win0_5.index t 0 * 256 + 1 * i.val = 256 * t.val + i.val; rw [(index0 t).2.2.2.2.2.1.1]; omega
    | ⟨1, _⟩ => show win0_5.index t 1 * 1024 + 1 * k.val = k.val; rw [(index0 t).2.2.2.2.2.1.2]; omega)

theorem final5 (c : Dev nD) : (dats m 0 c).arrAt 5 cfg0.N = G5 m c := by
  refine (dats m 0 c).arrAt_eq_of_cover 5 (G5 m c) (fun t _ => funext fun y => ?_) fun i => ?_
  · rw [Value.flushed5, after5, View.read_apply]
    obtain ⟨a, b, rfl⟩ := exists_ix2 (a := 256) (b := 1024) y
    refine Eq.trans ?_ (congrArg (G5 m c) (emb5 t a b)).symm
    refine (payA_apply _ _ _ a b).trans ?_
    simp only [left_apply, iblk1_apply, iblk3_apply]
    rfl
  · obtain ⟨a, b, rfl⟩ := exists_ix2 (a := 2048) (b := 1024) i
    obtain ⟨t, r, rfl⟩ := exists_row a
    exact ⟨t, flush0_5 t, emb5 t r b ▸ View.emb_mem_set _ _⟩

theorem emb6 (t : Fin cfg0.N) (i : Fin 256) (k : Fin 1024) :
    (((cfg0.win 6).blk t).view.emb (ix2 i k : S256x1024.Idx) : S2048x1024.Idx) = ix2 (row t i) k :=
  funext fun a => Fin.ext (by
    match a with
    | ⟨0, _⟩ => show win0_6.index t 0 * 256 + 1 * i.val = 256 * t.val + i.val; rw [(index0 t).2.2.2.2.2.2.1.1]; omega
    | ⟨1, _⟩ => show win0_6.index t 1 * 1024 + 1 * k.val = k.val; rw [(index0 t).2.2.2.2.2.2.1.2]; omega)

theorem final6 (c : Dev nD) : (dats m 0 c).arrAt 6 cfg0.N = G6 m c := by
  refine (dats m 0 c).arrAt_eq_of_cover 6 (G6 m c) (fun t _ => funext fun y => ?_) fun i => ?_
  · rw [Value.flushed6, after6, View.read_apply]
    obtain ⟨a, b, rfl⟩ := exists_ix2 (a := 256) (b := 1024) y
    refine Eq.trans ?_ (congrArg (G6 m c) (emb6 t a b)).symm
    refine (payB_apply _ _ _ a b).trans ?_
    simp only [right_apply, iblk2_apply, iblk4_apply]
    rfl
  · obtain ⟨a, b, rfl⟩ := exists_ix2 (a := 2048) (b := 1024) i
    obtain ⟨t, r, rfl⟩ := exists_row a
    exact ⟨t, flush0_6 t, emb6 t r b ▸ View.emb_mem_set _ _⟩

/-- A block's part of a gain's gradient. -/
theorem block_sum (dy : Vec Ideal S2048x2048 .f32) (y : Vec Ideal S2048x1024 .f32) (half : Fin 1024 → Fin 2048)
    (t : Fin cfg0.N) (j : Fin 1024) :
    (∑ x : Fin 256, dgOf dy y half j (row t x)) = ∑ x : Fin 256, ext0 (dgOf dy y half j) (256 * t.val + x.val) :=
  Finset.sum_congr rfl fun x _ => (ext0_of_lt (dgOf dy y half j) (row t x).isLt).symm

theorem row7 (c : Dev nD) (t : Fin cfg0.N) (j : Fin 1024) :
    (∑ x, term (iblk m c 1 t) (left (iblk m c 0 t)) j x)
      = ∑ x : Fin 256, ext0 (dgOf (aDy m c) (aYa m c) lo j) (256 * t.val + x.val) := by
  rw [← block_sum]
  simp only [term, left_apply, iblk1_apply]
  rfl

/-- After point `n` the gain's gradient holds the sum over the rows of the blocks up to `n`. -/
theorem acc7 (c : Dev nD) (i : Fin 1) (j : Fin 1024) : ∀ (n : ℕ) (h : n < cfg0.N), (outsAt0 m c n h).2.2.1 (ix2 i j)
    = ∑ s ∈ Finset.range (n + 1), ∑ x : Fin 256, ext0 (dgOf (aDy m c) (aYa m c) lo j) (256 * s + x.val)
  | 0, h => by
    rw [after7_A m c ⟨0, h⟩ rfl, Finset.sum_range_one, payGA_apply, zeroA, zero_add]
    exact row7 m c ⟨0, h⟩ j
  | n + 1, h => by
    have hN : cfg0.N = 8 := N_0
    have hB : ¬(⟨n + 1, h⟩ : Fin cfg0.N).val % 8 = 0 := by dsimp only; omega
    rw [after7_B m c ⟨n + 1, h⟩ hB, Finset.sum_range_succ, ← acc7 c i j n (by omega), payGA_apply]
    exact congrArg _ (row7 m c ⟨n + 1, h⟩ j)

theorem emb7 (t : Fin cfg0.N) (i : Fin 1) (k : Fin 1024) :
    (((cfg0.win 7).blk t).view.emb (ix2 i k : S1x1024.Idx) : S1x1024.Idx) = ix2 i k :=
  funext fun a => Fin.ext (by
    match a with
    | ⟨0, _⟩ => show win0_7.index t 0 * 1 + 1 * i.val = i.val; rw [(index0 t).2.2.2.2.2.2.2.1.1]; omega
    | ⟨1, _⟩ => show win0_7.index t 1 * 1024 + 1 * k.val = k.val; rw [(index0 t).2.2.2.2.2.2.2.1.2]; omega)

theorem final7 (c : Dev nD) : (dats m 0 c).arrAt 7 cfg0.N = G7 m c := by
  refine (dats m 0 c).arrAt_eq_of_cover 7 (G7 m c) (fun t ht => funext fun y => ?_) fun i => ?_
  · obtain ⟨a, b, rfl⟩ := exists_ix2 (a := 1) (b := 1024) y
    rw [Value.flushed7, View.read_apply]
    have hN : cfg0.N = 8 := N_0
    have h7 : t.val = 7 := by have := (flush0_7 t).mp ht; have := t.isLt; omega
    refine (acc7 m c a b t.val t.isLt).trans (Eq.trans ?_ (congrArg (G7 m c) (emb7 t a b)).symm)
    rw [sum_blocks, h7]
    exact sum_ext0 _
  · obtain ⟨a, b, rfl⟩ := exists_ix2 (a := 1) (b := 1024) i
    have hN : cfg0.N = 8 := N_0
    exact ⟨⟨7, by omega⟩, (flush0_7 _).mpr rfl, emb7 ⟨7, by omega⟩ a b ▸ View.emb_mem_set _ _⟩

theorem row8 (c : Dev nD) (t : Fin cfg0.N) (j : Fin 1024) :
    (∑ x, term (iblk m c 2 t) (right (iblk m c 0 t)) j x)
      = ∑ x : Fin 256, ext0 (dgOf (aDy m c) (aYb m c) hi j) (256 * t.val + x.val) := by
  rw [← block_sum]
  simp only [term, right_apply, iblk2_apply]
  rfl

/-- After point `n` the gain's gradient holds the sum over the rows of the blocks up to `n`. -/
theorem acc8 (c : Dev nD) (i : Fin 1) (j : Fin 1024) : ∀ (n : ℕ) (h : n < cfg0.N), (outsAt0 m c n h).2.2.2 (ix2 i j)
    = ∑ s ∈ Finset.range (n + 1), ∑ x : Fin 256, ext0 (dgOf (aDy m c) (aYb m c) hi j) (256 * s + x.val)
  | 0, h => by
    rw [after8_A m c ⟨0, h⟩ rfl, Finset.sum_range_one, payGB_apply, zeroB, zero_add]
    exact row8 m c ⟨0, h⟩ j
  | n + 1, h => by
    have hN : cfg0.N = 8 := N_0
    have hB : ¬(⟨n + 1, h⟩ : Fin cfg0.N).val % 8 = 0 := by dsimp only; omega
    rw [after8_B m c ⟨n + 1, h⟩ hB, Finset.sum_range_succ, ← acc8 c i j n (by omega), payGB_apply]
    exact congrArg _ (row8 m c ⟨n + 1, h⟩ j)

theorem emb8 (t : Fin cfg0.N) (i : Fin 1) (k : Fin 1024) :
    (((cfg0.win 8).blk t).view.emb (ix2 i k : S1x1024.Idx) : S1x1024.Idx) = ix2 i k :=
  funext fun a => Fin.ext (by
    match a with
    | ⟨0, _⟩ => show win0_8.index t 0 * 1 + 1 * i.val = i.val; rw [(index0 t).2.2.2.2.2.2.2.2.1]; omega
    | ⟨1, _⟩ => show win0_8.index t 1 * 1024 + 1 * k.val = k.val; rw [(index0 t).2.2.2.2.2.2.2.2.2]; omega)

theorem final8 (c : Dev nD) : (dats m 0 c).arrAt 8 cfg0.N = G8 m c := by
  refine (dats m 0 c).arrAt_eq_of_cover 8 (G8 m c) (fun t ht => funext fun y => ?_) fun i => ?_
  · obtain ⟨a, b, rfl⟩ := exists_ix2 (a := 1) (b := 1024) y
    rw [Value.flushed8, View.read_apply]
    have hN : cfg0.N = 8 := N_0
    have h7 : t.val = 7 := by have := (flush0_8 t).mp ht; have := t.isLt; omega
    refine (acc8 m c a b t.val t.isLt).trans (Eq.trans ?_ (congrArg (G8 m c) (emb8 t a b)).symm)
    rw [sum_blocks, h7]
    exact sum_ext0 _
  · obtain ⟨a, b, rfl⟩ := exists_ix2 (a := 1) (b := 1024) i
    have hN : cfg0.N = 8 := N_0
    exact ⟨⟨7, by omega⟩, (flush0_8 _).mpr rfl, emb8 ⟨7, by omega⟩ a b ▸ View.emb_mem_set _ _⟩

end Cert.Kernel3Ideal.MixValue
end
-- ==== Proof.MixClaim.lean ====
/-
  The backward call of the two norms of the mixer's output against the chain rule: the four results read element by
  element, and equal where the arguments are real numbers.
-/
module

public import proofs.«01_k».proof.Defs
public import proofs.«01_k».proof.Proof.MixValue
public import proofs.«01_k».proof.Proof.Gen.Kernel3
public import proofs.«01_k».proof.Proof.Gen.Kernel3.Frame
public import proofs.«01_k».proof.Proof.Gen.Reference3Ideal.Read
public import Idealize.ShloMosaic.Lib.Quiescent

@[expose] public section

set_option maxRecDepth 16384

noncomputable section

open Idealize.ShloMosaic Idealize.ShloMosaic.TcCoe Idealize.SL.Sem
open Cert.Reals Cert.Rms

namespace Cert.Reference3Ideal.MixValue

open Cert.Reference3Ideal Cert.Reference3Ideal.Gen Cert.Reference3Ideal.Read
open Cert.Kernel3Ideal.MixValue (w lo hi)

variable (dy : Vec Ideal S2048x2048 .f32) (y : Vec Ideal S2048x1024 .f32) (g : Vec Ideal S1x1024 .f32)

theorem v70_apply (i : Fin 2048) (j : Fin 1024) : val_main_v70 (F := Ideal) dy y g (ix2 i j)
    = dxR w (fun k => dy (ix2 i (lo k))) (fun k => y (ix2 i k)) (fun k => g (ix2 0 k)) j := by
  pointwise! [
    val_main_v70, val_main_v69, val_main_v68, val_main_v67, val_main_v66, val_main_v65, val_main_cst_14,
    val_main_v64, val_main_v63, val_main_cst_13, val_main_v62, val_main_v61, val_main_v60, val_main_v59,
    val_main_v58, val_main_cst_12, val_main_v57, val_main_v56, val_main_v55, val_main_v31, val_main_v10, val_main_v9,
    val_main_cst_2, val_main_v8, val_main_v7, val_main_v6, val_main_v5, val_main_cst_1, val_main_v4, val_main_v3,
    val_main_cst_0, val_main_v2, val_main_v1, val_main_cst, val_main_v0]

theorem v54_apply (i : Fin 1) (j : Fin 1024) : val_main_v54 (F := Ideal) dy y (ix2 i j)
    = ∑ x, y (ix2 x j) * rstd w (fun k => y (ix2 x k)) * dy (ix2 x (lo j)) := by
  pointwise! [
    val_main_v54, val_main_v53, val_main_cst_11, val_main_v52, val_main_v31, val_main_v12, val_main_v11, val_main_v7,
    val_main_v6, val_main_v5, val_main_cst_1, val_main_v4, val_main_v3, val_main_cst_0, val_main_v2, val_main_v1,
    val_main_cst, val_main_v0]

theorem v51_apply (i : Fin 2048) (j : Fin 1024) : val_main_v51 (F := Ideal) dy y g (ix2 i j)
    = dxR w (fun k => dy (ix2 i (hi k))) (fun k => y (ix2 i k)) (fun k => g (ix2 0 k)) j := by
  pointwise! [
    val_main_v51, val_main_v50, val_main_v49, val_main_v48, val_main_v47, val_main_v46, val_main_cst_10,
    val_main_v45, val_main_v44, val_main_cst_9, val_main_v43, val_main_v42, val_main_v41, val_main_v40, val_main_v39,
    val_main_cst_8, val_main_v38, val_main_v37, val_main_v36, val_main_v32, val_main_v25, val_main_v24,
    val_main_cst_6, val_main_v23, val_main_v22, val_main_v21, val_main_v20, val_main_cst_5, val_main_v19,
    val_main_v18, val_main_cst_4, val_main_v17, val_main_v16, val_main_cst_3, val_main_v15]

theorem v35_apply (i : Fin 1) (j : Fin 1024) : val_main_v35 (F := Ideal) dy y (ix2 i j)
    = ∑ x, y (ix2 x j) * rstd w (fun k => y (ix2 x k)) * dy (ix2 x (hi j)) := by
  pointwise! [
    val_main_v35, val_main_v34, val_main_cst_7, val_main_v33, val_main_v32, val_main_v27, val_main_v26, val_main_v22,
    val_main_v21, val_main_v20, val_main_cst_5, val_main_v19, val_main_v18, val_main_cst_4, val_main_v17,
    val_main_v16, val_main_cst_3, val_main_v15]

end Cert.Reference3Ideal.MixValue

namespace Cert.MixClaim

theorem pre_facts : Cert.Pre_mix_finite.Facts where
  bcast_S_S2048x2048 := by decide
  bcast_S_S2048x1024 := by decide
  bcast_S_S1x1024 := by decide

instance : Cert.Pre_mix_finite.Facts := pre_facts

open Cert.Kernel3Ideal Cert.Kernel3Ideal.Gen Cert.Kernel3Ideal.MixValue

variable (m : (ℓ : Loc nD τ sig) → Buf (Elt Ideal) ℓ)

/-- Under the precondition the arguments hold real numbers. -/
theorem reals (h : Cert.Pre_Kernel3Ideal_mix_finite m) (c : Dev nD) :
    (∀ i j, ((aDy m c (ix2 i j)).toReal : EReal) = aDy m c (ix2 i j))
    ∧ (∀ i j, ((aYa m c (ix2 i j)).toReal : EReal) = aYa m c (ix2 i j))
    ∧ (∀ i j, ((aYb m c (ix2 i j)).toReal : EReal) = aYb m c (ix2 i j))
    ∧ (∀ i j, ((aGa m c (ix2 i j)).toReal : EReal) = aGa m c (ix2 i j))
    ∧ (∀ i j, ((aGb m c (ix2 i j)).toReal : EReal) = aGb m c (ix2 i j)) := by
  obtain ⟨h0, h1, h2, h3, h4⟩ := h c
  refine ⟨fun i j => ?_, fun i j => ?_, fun i j => ?_, fun i j => ?_, fun i j => ?_⟩
  · have e := congrFun h0 (ix2 i j)
    dsimp only [Cert.Pre_mix_finite.fn] at e
    pointwise at e
    exact real_of_lt e
  · have e := congrFun h1 (ix2 i j)
    dsimp only [Cert.Pre_mix_finite.fn] at e
    pointwise at e
    exact real_of_lt e
  · have e := congrFun h2 (ix2 i j)
    dsimp only [Cert.Pre_mix_finite.fn] at e
    pointwise at e
    exact real_of_lt e
  · have e := congrFun h3 (ix2 i j)
    dsimp only [Cert.Pre_mix_finite.fn] at e
    pointwise at e
    exact real_of_lt e
  · have e := congrFun h4 (ix2 i j)
    dsimp only [Cert.Pre_mix_finite.fn] at e
    pointwise at e
    exact real_of_lt e

/-- A half's gradient is the chain rule's on real rows. -/
theorem dxOf_eq (dy : Vec Ideal S2048x2048 .f32) (y : Vec Ideal S2048x1024 .f32) (g : Vec Ideal S1x1024 .f32)
    (h0 : ∀ i j, ((dy (ix2 i j)).toReal : EReal) = dy (ix2 i j)) (h1 : ∀ i j, ((y (ix2 i j)).toReal : EReal) = y (ix2 i j))
    (h2 : ∀ i j, ((g (ix2 i j)).toReal : EReal) = g (ix2 i j)) (half : Fin 1024 → Fin 2048) (i : Fin 2048) (j : Fin 1024) :
    dxOf dy y g half i j = dxR w (fun k => dy (ix2 i (half k))) (fun k => y (ix2 i k)) (fun k => g (ix2 0 k)) j := by
  unfold dxOf
  rw [← funext fun k => h0 i (half k), ← funext (h1 i), ← funext (h2 0),
    show w = ((1024 : ℝ) : EReal) from lit_1024, dxK_eq_dxR (by norm_num)]

open Cert.Reference3Ideal.Read Cert.Reference3Ideal.MixValue

theorem result0 (h : Cert.Pre_Kernel3Ideal_mix_finite m) (c : Dev nD) :
    G5 m c = val_main_v70 (F := Ideal) (aDy m c) (aYa m c) (aGa m c) := by
  obtain ⟨h0, h1, _, h3, _⟩ := reals m h c
  funext j
  obtain ⟨a, b, rfl⟩ := exists_ix2 (a := 2048) (b := 1024) j
  exact (dxOf_eq _ _ _ h0 h1 h3 lo a b).trans (v70_apply _ _ _ a b).symm

theorem result1 (h : Cert.Pre_Kernel3Ideal_mix_finite m) (c : Dev nD) :
    G6 m c = val_main_v51 (F := Ideal) (aDy m c) (aYb m c) (aGb m c) := by
  obtain ⟨h0, _, h2, _, h4⟩ := reals m h c
  funext j
  obtain ⟨a, b, rfl⟩ := exists_ix2 (a := 2048) (b := 1024) j
  exact (dxOf_eq _ _ _ h0 h2 h4 hi a b).trans (v51_apply _ _ _ a b).symm

theorem result2 (c : Dev nD) : G7 m c = val_main_v54 (F := Ideal) (aDy m c) (aYa m c) := by
  funext j
  obtain ⟨a, b, rfl⟩ := exists_ix2 (a := 1) (b := 1024) j
  rw [v54_apply]
  exact Finset.sum_congr rfl fun x _ => mul_comm _ _

theorem result3 (c : Dev nD) : G8 m c = val_main_v35 (F := Ideal) (aDy m c) (aYb m c) := by
  funext j
  obtain ⟨a, b, rfl⟩ := exists_ix2 (a := 1) (b := 1024) j
  rw [v35_apply]
  exact Finset.sum_congr rfl fun x _ => mul_comm _ _

/-- The reference's frame: its run read at the arguments; it declares no semaphore. -/
theorem reference_frame : Cert.quiescent_Reference3Ideal := fun m ρ _ =>
  (θ_run (Cert.Reference3Ideal.defs (F := Ideal)) _ _).mono (fun r h => And.intro (fun c => (h c).2.2.2.2)
    (Idealize.ShloMosaic.sem_eq_zero_of_no_sems (by decide) r.2)) (Cert.Reference3Ideal.Value.run (F := Ideal) m ρ)

theorem algebraic : Cert.algebraic_Kernel3Ideal_Reference3Ideal_pre_mix_finite := by
  intro m ρ m' ρ' hpre hag
  refine ⟨fun c => G5 m c, fun c => G6 m c, fun c => G7 m c, fun c => G8 m c, ?_, ?_⟩
  · refine (θ_run Cert.Kernel3Ideal.defs _ _).mono (fun r h c => ?_) (Cert.Kernel3Ideal.Value.run_blocks m ρ)
    obtain ⟨h0, h1, h2, h3, ha⟩ := h c
    exact ⟨h0.trans (final5 m c), h1.trans (final6 m c), h2.trans (final7 m c), h3.trans (final8 m c), ha⟩
  · refine (θ_run Cert.Reference3Ideal.defs _ _).mono (fun r h c => ?_) (Cert.Reference3Ideal.Value.run (F := Ideal) m' ρ')
    obtain ⟨h0, h1, h2, h3, ha⟩ := h c
    obtain ⟨e0, e1, e2, e3, e4⟩ := hag c
    refine ⟨h0.trans ?_, h1.trans ?_, h2.trans ?_, h3.trans ?_, ha⟩
    · rw [val_main_v70_eq, e0, e1, e3]; exact (result0 m hpre c).symm
    · rw [val_main_v51_eq, e0, e2, e4]; exact (result1 m hpre c).symm
    · rw [val_main_v54_eq, e0, e1]; exact (result2 m c).symm
    · rw [val_main_v35_eq, e0, e2]; exact (result3 m c).symm

end Cert.MixClaim

end
-- ==== Proof.LossValue.lean ====
/-
  What the final norm's and loss's call leaves in its four results: the gradient and its half read as rows of the whole
  arrays, the loss and the gain's gradient as sums over all rows.
-/
module
public import proofs.«01_k».proof.Proof.RmsMath
public import proofs.«01_k».proof.Proof.Gen.Kernel4Ideal.Value
@[expose] public section
set_option maxRecDepth 16384
noncomputable section
open Idealize.ShloMosaic Idealize.ShloMosaic.TcCoe Idealize.SL.Sem
open Idealize.ShloMosaic.Pipeline (Dat)
namespace Cert.Kernel4Ideal.LossValue
open Cert.Kernel4Ideal Cert.Kernel4Ideal.Gen Cert.Reals Cert.Rms

theorem hz : (![0, 0] : Fin 2 → Nat) = fun _ => 0 := funext fun a => by fin_cases a <;> rfl

/-- The number a row's sums are divided by, the halves' factor, and the cotangent's factor. -/
abbrev w : EReal := Ideal.ofBits .f32 0x45000000#32
abbrev half : EReal := Ideal.ofBits .f32 0x3F000000#32
abbrev scale : EReal := Ideal.ofBits .f32 0x3A000000#32

/-- A row's error at column `j`. -/
def err (h g t : Fin 2048 → EReal) (j : Fin 2048) : EReal := h j * rstd w h * g j - t j

/-- A row's mean squared error. -/
def rowLoss (h g t : Fin 2048 → EReal) : EReal := Ideal.div (∑ x, err h g t x * err h g t x) w

/-- A row's gradient at column `j`. -/
def dxOf (h g t : Fin 2048 → EReal) (j : Fin 2048) : EReal := dxK w (fun k => err h g t k * scale) h g j

theorem pay8_apply (h : Vec Ideal S256x2048 .f32) (g : Vec Ideal S1x2048 .f32) (t : Vec Ideal S256x2048 .f32)
    (i : Fin 256) (j : Fin 2048) : k0_pay8 h g t (ix2 i j)
      = err (fun k => h (ix2 i k)) (fun k => g (ix2 0 k)) (fun k => t (ix2 i k)) j := by
  pointwise! [k0_pay8]

theorem pay3_apply (h : Vec Ideal S256x2048 .f32) (g : Vec Ideal S1x2048 .f32) (du : Vec Ideal S256x2048 .f32)
    (i : Fin 256) (j : Fin 2048) : k0_pay3 h g du (k0_pay11 h) (ix2 i j)
      = dxK w (fun k => du (ix2 i k)) (fun k => h (ix2 i k)) (fun k => g (ix2 0 k)) j := by
  pointwise! [k0_pay3, k0_pay2, k0_pay1, k0_pay11]

theorem pay10_apply (h : Vec Ideal S256x2048 .f32) (g : Vec Ideal S1x2048 .f32) (t : Vec Ideal S256x2048 .f32)
    (i : Fin 256) (j : Fin 2048) : k0_pay10 h g t (ix2 i j)
      = err (fun k => h (ix2 i k)) (fun k => g (ix2 0 k)) (fun k => t (ix2 i k)) j * scale := by
  rw [← pay8_apply]
  pointwise! [k0_pay10]

/-- The block of rows' gradient. -/
theorem dx_apply (h : Vec Ideal S256x2048 .f32) (g : Vec Ideal S1x2048 .f32) (t : Vec Ideal S256x2048 .f32)
    (i : Fin 256) (j : Fin 2048) : k0_pay3 h g (k0_pay10 h g t) (k0_pay11 h) (ix2 i j)
      = dxOf (fun k => h (ix2 i k)) (fun k => g (ix2 0 k)) (fun k => t (ix2 i k)) j := by
  rw [pay3_apply]
  simp only [pay10_apply]
  rfl

theorem dxb_apply (h : Vec Ideal S256x2048 .f32) (g : Vec Ideal S1x2048 .f32) (t : Vec Ideal S256x2048 .f32)
    (i : Fin 256) (j : Fin 2048) : k0_pay4 h g (k0_pay10 h g t) (k0_pay11 h) (ix2 i j)
      = half * dxOf (fun k => h (ix2 i k)) (fun k => g (ix2 0 k)) (fun k => t (ix2 i k)) j := by
  rw [← dx_apply]
  pointwise! [k0_pay4]

/-- A row's part of the gain's gradient at column `j`. -/
def dgOf (h g t : Fin 2048 → EReal) (j : Fin 2048) : EReal := err h g t j * scale * (h j * rstd w h)

theorem pay5_apply (h : Vec Ideal S256x2048 .f32) (g : Vec Ideal S1x2048 .f32) (t : Vec Ideal S256x2048 .f32)
    (a : Vec Ideal S1x2048 .f32) (i : Fin 1) (j : Fin 2048) :
    k0_pay5 h (k0_pay10 h g t) (k0_pay11 h) a (ix2 i j)
      = a (ix2 i j) + ∑ x, dgOf (fun k => h (ix2 x k)) (fun k => g (ix2 0 k)) (fun k => t (ix2 x k)) j := by
  unfold dgOf
  simp only [← pay10_apply]
  generalize k0_pay10 h g t = du
  pointwise! [k0_pay5, k0_pay2, k0_pay1, k0_pay11]

theorem pay9_apply (h : Vec Ideal S256x2048 .f32) (g : Vec Ideal S1x2048 .f32) (t : Vec Ideal S256x2048 .f32)
    (a : Vec Ideal S8x128 .f32) (i : Fin 8) (j : Fin 128) : k0_pay9 h g t a (ix2 i j)
      = a (ix2 i j) + half * ∑ x, rowLoss (fun k => h (ix2 x k)) (fun k => g (ix2 0 k)) (fun k => t (ix2 x k)) := by
  unfold rowLoss
  simp only [← pay8_apply]
  unfold k0_pay9
  generalize k0_pay8 h g t = e
  pointwise!

theorem zero6 (i : Fin 1) (j : Fin 2048) : k0_pay6 (F := Ideal) (ix2 i j) = 0 := by pointwise! [k0_pay6]
theorem zero7 (i : Fin 8) (j : Fin 128) : k0_pay7 (F := Ideal) (ix2 i j) = 0 := by pointwise! [k0_pay7]

variable (m : (ℓ : Loc nD τ sig) → Buf (Elt Ideal) ℓ)

/-- The three blocks a grid point reads. -/
abbrev bH (c : Dev nD) (t : Fin cfg0.N) : Vec Ideal S256x2048 .f32 := iblk m c 0 t
abbrev bG (c : Dev nD) (t : Fin cfg0.N) : Vec Ideal S1x2048 .f32 := iblk m c 1 t
abbrev bT (c : Dev nD) (t : Fin cfg0.N) : Vec Ideal S256x2048 .f32 := iblk m c 2 t

theorem after3 (c : Dev nD) (t : Fin cfg0.N) : (outsAt0 m c t.val t.isLt).1
    = k0_pay3 (bH m c t) (bG m c t) (k0_pay10 (bH m c t) (bG m c t) (bT m c t)) (k0_pay11 (bH m c t)) := by
  by_cases h0 : t.val % 8 = 0
  · rw [outsAt0_A m c t h0]
    unfold out0_A_3
    rw [View.read_writes_eq_canon _ _ _ (fun y => cover0_A_3 (y := y) ..)]
    unfold kernelRun0_A
    dsimp only
    sl_unfold_words
    rw [View.canon_unit_zero hz]
    simp only [View.readAt_eq_ld, (hs0_0 t).read_unread, (hs0_1 t).read_unread, (hs0_2 t).read_unread,
      View.ld_unit_zero (S := S256x2048) hz, View.ld_unit_zero (S := S1x2048) hz]
  · rw [outsAt0_B m c t h0]
    unfold out0_B_3
    rw [View.read_writes_eq_canon _ _ _ (fun y => cover0_B_3 (y := y) ..)]
    unfold kernelRun0_B
    dsimp only
    sl_unfold_words
    rw [View.canon_unit_zero hz]
    simp only [View.readAt_eq_ld, (hs0_0 t).read_unread, (hs0_1 t).read_unread, (hs0_2 t).read_unread,
      View.ld_unit_zero (S := S256x2048) hz, View.ld_unit_zero (S := S1x2048) hz]

theorem after4 (c : Dev nD) (t : Fin cfg0.N) : (outsAt0 m c t.val t.isLt).2.1
    = k0_pay4 (bH m c t) (bG m c t) (k0_pay10 (bH m c t) (bG m c t) (bT m c t)) (k0_pay11 (bH m c t)) := by
  by_cases h0 : t.val % 8 = 0
  · rw [outsAt0_A m c t h0]
    unfold out0_A_4
    rw [View.read_writes_eq_canon _ _ _ (fun y => cover0_A_4 (y := y) ..)]
    unfold kernelRun0_A
    dsimp only
    sl_unfold_words
    rw [View.canon_unit_zero hz]
    simp only [View.readAt_eq_ld, (hs0_0 t).read_unread, (hs0_1 t).read_unread, (hs0_2 t).read_unread,
      View.ld_unit_zero (S := S256x2048) hz, View.ld_unit_zero (S := S1x2048) hz]
  · rw [outsAt0_B m c t h0]
    unfold out0_B_4
    rw [View.read_writes_eq_canon _ _ _ (fun y => cover0_B_4 (y := y) ..)]
    unfold kernelRun0_B
    dsimp only
    sl_unfold_words
    rw [View.canon_unit_zero hz]
    simp only [View.readAt_eq_ld, (hs0_0 t).read_unread, (hs0_1 t).read_unread, (hs0_2 t).read_unread,
      View.ld_unit_zero (S := S256x2048) hz, View.ld_unit_zero (S := S1x2048) hz]

theorem after5_A (c : Dev nD) (t : Fin cfg0.N) (h0 : t.val % 8 = 0) : (outsAt0 m c t.val t.isLt).2.2.1
    = k0_pay9 (bH m c t) (bG m c t) (bT m c t) (k0_pay7 (F := Ideal)) := by
  rw [outsAt0_A m c t h0]
  unfold out0_A_5
  rw [View.read_writes_eq_canon _ _ _ (fun y => cover0_A_5 (y := y) ..)]
  unfold kernelRun0_A
  dsimp only
  sl_unfold_words
  rw [View.canon_cons_unit_zero (S := S8x128) hz, View.readCov_unit_zero (S := S8x128) _ hz]
  simp only [View.readAt_eq_ld, (hs0_0 t).read_unread, (hs0_1 t).read_unread, (hs0_2 t).read_unread,
    View.ld_unit_zero (S := S256x2048) hz, View.ld_unit_zero (S := S1x2048) hz]

theorem after5_B (c : Dev nD) (t : Fin cfg0.N) (h0 : ¬t.val % 8 = 0) : (outsAt0 m c t.val t.isLt).2.2.1
    = k0_pay9 (bH m c t) (bG m c t) (bT m c t) (outsAt0 m c (t.val - 1) (Nat.lt_of_le_of_lt (Nat.sub_le _ _) t.isLt)).2.2.1 := by
  rw [outsAt0_B m c t h0]
  unfold out0_B_5
  rw [View.read_writes_eq_canon _ _ _ (fun y => cover0_B_5 (y := y) ..)]
  unfold kernelRun0_B
  dsimp only
  sl_unfold_words
  rw [View.canon_unit_zero hz]
  simp only [View.readAt_eq_ld, (hs0_0 t).read_unread, (hs0_1 t).read_unread, (hs0_2 t).read_unread,
    (hs0_5 t).read_unread, View.ld_unit_zero (S := S256x2048) hz, View.ld_unit_zero (S := S1x2048) hz,
    View.ld_unit_zero (S := S8x128) hz]

theorem after6_A (c : Dev nD) (t : Fin cfg0.N) (h0 : t.val % 8 = 0) : (outsAt0 m c t.val t.isLt).2.2.2
    = k0_pay5 (bH m c t) (k0_pay10 (bH m c t) (bG m c t) (bT m c t)) (k0_pay11 (bH m c t)) (k0_pay6 (F := Ideal)) := by
  rw [outsAt0_A m c t h0]
  unfold out0_A_6
  rw [View.read_writes_eq_canon _ _ _ (fun y => cover0_A_6 (y := y) ..)]
  unfold kernelRun0_A
  dsimp only
  sl_unfold_words
  rw [View.canon_cons_unit_zero (S := S1x2048) hz, View.readCov_unit_zero (S := S1x2048) _ hz]
  simp only [View.readAt_eq_ld, (hs0_0 t).read_unread, (hs0_1 t).read_unread, (hs0_2 t).read_unread,
    View.ld_unit_zero (S := S256x2048) hz, View.ld_unit_zero (S := S1x2048) hz]

theorem after6_B (c : Dev nD) (t : Fin cfg0.N) (h0 : ¬t.val % 8 = 0) : (outsAt0 m c t.val t.isLt).2.2.2
    = k0_pay5 (bH m c t) (k0_pay10 (bH m c t) (bG m c t) (bT m c t)) (k0_pay11 (bH m c t)) (outsAt0 m c (t.val - 1) (Nat.lt_of_le_of_lt (Nat.sub_le _ _) t.isLt)).2.2.2 := by
  rw [outsAt0_B m c t h0]
  unfold out0_B_6
  rw [View.read_writes_eq_canon _ _ _ (fun y => cover0_B_6 (y := y) ..)]
  unfold kernelRun0_B
  dsimp only
  sl_unfold_words
  rw [View.canon_unit_zero hz]
  simp only [View.readAt_eq_ld, (hs0_0 t).read_unread, (hs0_1 t).read_unread, (hs0_2 t).read_unread,
    (hs0_6 t).read_unread, View.ld_unit_zero (S := S256x2048) hz, View.ld_unit_zero (S := S1x2048) hz,
    View.ld_unit_zero (S := S8x128) hz]

/-! The arguments as the call finds them, and the rows a grid point reads. -/

abbrev aH (c : Dev nD) : Vec Ideal S2048x2048 .f32 := m ((c : Thread nD τ).loc main_arg0)
abbrev aG (c : Dev nD) : Vec Ideal S1x2048 .f32 := m ((c : Thread nD τ).loc main_arg1)
abbrev aT (c : Dev nD) : Vec Ideal S2048x2048 .f32 := m ((c : Thread nD τ).loc main_arg2)

/-- Row `i` of block `t`. -/
def row (t : Fin cfg0.N) (i : Fin 256) : Fin 2048 :=
  ⟨256 * t.val + i.val, by have : cfg0.N = 8 := N_0; have := t.isLt; have := i.isLt; omega⟩

theorem exists_row (i : Fin 2048) : ∃ (t : Fin cfg0.N) (r : Fin 256), row t r = i :=
  ⟨⟨i.val / 256, by have : cfg0.N = 8 := N_0; have := i.isLt; omega⟩, ⟨i.val % 256, by omega⟩,
    Fin.ext (Nat.div_add_mod _ _)⟩

theorem index0 : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = 0 ∧ win0_5.index t 1 = 0) ∧ (win0_6.index t 0 = 0 ∧ win0_6.index t 1 = 0) := by
  show ∀ t : Fin grid0.N, _
  decide +kernel

theorem bH_apply (c : Dev nD) (t : Fin cfg0.N) (i : Fin 256) (k : Fin 2048) :
    bH m c t (ix2 i k) = aH m c (ix2 (row t i) k) := by
  unfold bH iblk
  rw [View.read_apply]
  refine congrArg (m ((c : Thread nD τ).loc main_arg0)) (funext fun a => Fin.ext ?_)
  match a with
  | ⟨0, _⟩ => show win0_0.index t 0 * 256 + 1 * i.val = 256 * t.val + i.val; rw [(index0 t).1.1]; omega
  | ⟨1, _⟩ => show win0_0.index t 1 * 2048 + 1 * k.val = k.val; rw [(index0 t).1.2]; omega

theorem bG_apply (c : Dev nD) (t : Fin cfg0.N) (i : Fin 1) (k : Fin 2048) :
    bG m c t (ix2 i k) = aG m c (ix2 (i) k) := by
  unfold bG iblk
  rw [View.read_apply]
  refine congrArg (m ((c : Thread nD τ).loc main_arg1)) (funext fun a => Fin.ext ?_)
  match a with
  | ⟨0, _⟩ => show win0_1.index t 0 * 1 + 1 * i.val = i.val; rw [(index0 t).2.1.1]; omega
  | ⟨1, _⟩ => show win0_1.index t 1 * 2048 + 1 * k.val = k.val; rw [(index0 t).2.1.2]; omega

theorem bT_apply (c : Dev nD) (t : Fin cfg0.N) (i : Fin 256) (k : Fin 2048) :
    bT m c t (ix2 i k) = aT m c (ix2 (row t i) k) := by
  unfold bT iblk
  rw [View.read_apply]
  refine congrArg (m ((c : Thread nD τ).loc main_arg2)) (funext fun a => Fin.ext ?_)
  match a with
  | ⟨0, _⟩ => show win0_2.index t 0 * 256 + 1 * i.val = 256 * t.val + i.val; rw [(index0 t).2.2.1.1]; omega
  | ⟨1, _⟩ => show win0_2.index t 1 * 2048 + 1 * k.val = k.val; rw [(index0 t).2.2.1.2]; omega

/-! What the four result arrays end holding. -/

/-- The rows of the arguments. -/
def rH (c : Dev nD) (i : Fin 2048) : Fin 2048 → EReal := fun k => aH m c (ix2 i k)
def rG (c : Dev nD) : Fin 2048 → EReal := fun k => aG m c (ix2 0 k)
def rT (c : Dev nD) (i : Fin 2048) : Fin 2048 → EReal := fun k => aT m c (ix2 i k)

theorem rowH (c : Dev nD) (t : Fin cfg0.N) (i : Fin 256) : (fun k => bH m c t (ix2 i k)) = rH m c (row t i) :=
  funext fun k => bH_apply m c t i k
theorem rowG (c : Dev nD) (t : Fin cfg0.N) : (fun k => bG m c t (ix2 0 k)) = rG m c := funext fun k => bG_apply m c t 0 k
theorem rowT (c : Dev nD) (t : Fin cfg0.N) (i : Fin 256) : (fun k => bT m c t (ix2 i k)) = rT m c (row t i) :=
  funext fun k => bT_apply m c t i k

def lossTerm (c : Dev nD) (i : Fin 2048) : EReal := rowLoss (rH m c i) (rG m c) (rT m c i)
def dgTerm (c : Dev nD) (j i : Fin 2048) : EReal := dgOf (rH m c i) (rG m c) (rT m c i) j

def G3 (c : Dev nD) : Vec Ideal S2048x2048 .f32 := fun j => dxOf (rH m c (j 0)) (rG m c) (rT m c (j 0)) (j 1)
def G4 (c : Dev nD) : Vec Ideal S2048x2048 .bf16 := fun j => half * dxOf (rH m c (j 0)) (rG m c) (rT m c (j 0)) (j 1)
def G5 (c : Dev nD) : Vec Ideal S8x128 .f32 := fun _ => half * ∑ i, lossTerm m c i
def G6 (c : Dev nD) : Vec Ideal S1x2048 .f32 := fun j => ∑ i, dgTerm m c (j 1) i

theorem exists_ix2 {a b : Nat} (j : (⟨2, ![a, b]⟩ : Shape).Idx) : ∃ (x : Fin a) (y : Fin b), j = ix2 x y :=
  ⟨j 0, j 1, funext fun x => by match x with | ⟨0, _⟩ => rfl | ⟨1, _⟩ => rfl⟩

theorem emb3 (t : Fin cfg0.N) (i : Fin 256) (k : Fin 2048) :
    (((cfg0.win 3).blk t).view.emb (ix2 i k : S256x2048.Idx) : S2048x2048.Idx) = ix2 (row t i) k :=
  funext fun a => Fin.ext (by
    match a with
    | ⟨0, _⟩ => show win0_3.index t 0 * 256 + 1 * i.val = 256 * t.val + i.val; rw [(index0 t).2.2.2.1.1]; omega
    | ⟨1, _⟩ => show win0_3.index t 1 * 2048 + 1 * k.val = k.val; rw [(index0 t).2.2.2.1.2]; omega)

theorem final3 (c : Dev nD) : (dats m 0 c).arrAt 3 cfg0.N = G3 m c := by
  refine (dats m 0 c).arrAt_eq_of_cover 3 (G3 m c) (fun t _ => funext fun y => ?_) fun i => ?_
  · rw [Value.flushed3, after3, View.read_apply]
    obtain ⟨a, b, rfl⟩ := exists_ix2 (a := 256) (b := 2048) y
    refine Eq.trans ?_ (congrArg (G3 m c) (emb3 t a b)).symm
    refine (dx_apply _ _ _ a b).trans ?_
    rw [rowH, rowG, rowT]
    rfl
  · obtain ⟨a, b, rfl⟩ := exists_ix2 (a := 2048) (b := 2048) i
    obtain ⟨t, r, rfl⟩ := exists_row a
    exact ⟨t, flush0_3 t, emb3 t r b ▸ View.emb_mem_set _ _⟩

theorem emb4 (t : Fin cfg0.N) (i : Fin 256) (k : Fin 2048) :
    (((cfg0.win 4).blk t).view.emb (ix2 i k : S256x2048.Idx) : S2048x2048.Idx) = ix2 (row t i) k :=
  funext fun a => Fin.ext (by
    match a with
    | ⟨0, _⟩ => show win0_4.index t 0 * 256 + 1 * i.val = 256 * t.val + i.val; rw [(index0 t).2.2.2.2.1.1]; omega
    | ⟨1, _⟩ => show win0_4.index t 1 * 2048 + 1 * k.val = k.val; rw [(index0 t).2.2.2.2.1.2]; omega)

theorem final4 (c : Dev nD) : (dats m 0 c).arrAt 4 cfg0.N = G4 m c := by
  refine (dats m 0 c).arrAt_eq_of_cover 4 (G4 m c) (fun t _ => funext fun y => ?_) fun i => ?_
  · rw [Value.flushed4, after4, View.read_apply]
    obtain ⟨a, b, rfl⟩ := exists_ix2 (a := 256) (b := 2048) y
    refine Eq.trans ?_ (congrArg (G4 m c) (emb4 t a b)).symm
    refine (dxb_apply _ _ _ a b).trans ?_
    rw [rowH, rowG, rowT]
    rfl
  · obtain ⟨a, b, rfl⟩ := exists_ix2 (a := 2048) (b := 2048) i
    obtain ⟨t, r, rfl⟩ := exists_row a
    exact ⟨t, flush0_4 t, emb4 t r b ▸ View.emb_mem_set _ _⟩

/-- A block's part of the sum over all rows. -/
theorem part5 (c : Dev nD) (t : Fin cfg0.N) :
    (∑ x, rowLoss (fun k => bH m c t (ix2 x k)) (fun k => bG m c t (ix2 0 k)) (fun k => bT m c t (ix2 x k)))
      = ∑ x : Fin 256, ext0 (lossTerm m c) (256 * t.val + x.val) := by
  refine Finset.sum_congr rfl fun x _ => ?_
  rw [rowH, rowG, rowT]
  exact (ext0_of_lt (lossTerm m c) (row t x).isLt).symm

/-- After point `n` the result holds the sum over the rows of the blocks up to `n`. -/
theorem acc5 (c : Dev nD) (i : Fin 8) (j : Fin 128) : ∀ (n : ℕ) (h : n < cfg0.N), (outsAt0 m c n h).2.2.1 (ix2 i j)
    = ∑ s ∈ Finset.range (n + 1), half * ∑ x : Fin 256, ext0 (lossTerm m c) (256 * s + x.val)
  | 0, h => by
    rw [after5_A m c ⟨0, h⟩ rfl, Finset.sum_range_one, pay9_apply, zero7, zero_add, part5]
  | n + 1, h => by
    have hN : cfg0.N = 8 := N_0
    have hB : ¬(⟨n + 1, h⟩ : Fin cfg0.N).val % 8 = 0 := by dsimp only; omega
    rw [after5_B m c ⟨n + 1, h⟩ hB, Finset.sum_range_succ, ← acc5 c i j n (by omega), pay9_apply, part5]
    rfl

theorem emb5 (t : Fin cfg0.N) (i : Fin 8) (k : Fin 128) :
    (((cfg0.win 5).blk t).view.emb (ix2 i k : S8x128.Idx) : S8x128.Idx) = ix2 i k :=
  funext fun a => Fin.ext (by
    match a with
    | ⟨0, _⟩ => show win0_5.index t 0 * 8 + 1 * i.val = i.val; rw [(index0 t).2.2.2.2.2.1.1]; omega
    | ⟨1, _⟩ => show win0_5.index t 1 * 128 + 1 * k.val = k.val; rw [(index0 t).2.2.2.2.2.1.2]; omega)

/-- A nonnegative finite factor leaves a sum. -/
theorem mul_sum {ι : Type*} (a : EReal) (h0 : 0 ≤ a) (h1 : a ≠ ⊤) (s : Finset ι) (f : ι → EReal) :
    (∑ i ∈ s, a * f i) = a * ∑ i ∈ s, f i := by
  classical
  induction s using Finset.induction_on with
  | empty => simp
  | insert i s hi ih =>
    rw [Finset.sum_insert hi, Finset.sum_insert hi, ih, EReal.left_distrib_of_nonneg_of_ne_top h0 h1]

theorem half_sum {ι : Type*} (s : Finset ι) (f : ι → EReal) : (∑ i ∈ s, half * f i) = half * ∑ i ∈ s, f i := by
  rw [show half = ((1 / 2 : ℝ) : EReal) from lit_half]
  exact mul_sum _ (by exact_mod_cast (by norm_num : (0 : ℝ) ≤ 1 / 2)) (EReal.coe_ne_top _) s f

theorem final5 (c : Dev nD) : (dats m 0 c).arrAt 5 cfg0.N = G5 m c := by
  refine (dats m 0 c).arrAt_eq_of_cover 5 (G5 m c) (fun t ht => funext fun y => ?_) fun i => ?_
  · obtain ⟨a, b, rfl⟩ := exists_ix2 (a := 8) (b := 128) y
    rw [Value.flushed5, View.read_apply]
    have hN : cfg0.N = 8 := N_0
    have h7 : t.val = 7 := by have := (flush0_5 t).mp ht; have := t.isLt; omega
    refine (acc5 m c a b t.val t.isLt).trans (Eq.trans ?_ (congrArg (G5 m c) (emb5 t a b)).symm)
    rw [half_sum, sum_blocks, h7]
    exact congrArg _ (sum_ext0 _)
  · obtain ⟨a, b, rfl⟩ := exists_ix2 (a := 8) (b := 128) i
    have hN : cfg0.N = 8 := N_0
    exact ⟨⟨7, by omega⟩, (flush0_5 _).mpr rfl, emb5 ⟨7, by omega⟩ a b ▸ View.emb_mem_set _ _⟩

/-- A block's part of the sum over all rows. -/
theorem part6 (c : Dev nD) (t : Fin cfg0.N) (j : Fin 2048) :
    (∑ x, dgOf (fun k => bH m c t (ix2 x k)) (fun k => bG m c t (ix2 0 k)) (fun k => bT m c t (ix2 x k)) j)
      = ∑ x : Fin 256, ext0 (dgTerm m c j) (256 * t.val + x.val) := by
  refine Finset.sum_congr rfl fun x _ => ?_
  rw [rowH, rowG, rowT]
  exact (ext0_of_lt (dgTerm m c j) (row t x).isLt).symm

/-- After point `n` the result holds the sum over the rows of the blocks up to `n`. -/
theorem acc6 (c : Dev nD) (i : Fin 1) (j : Fin 2048) : ∀ (n : ℕ) (h : n < cfg0.N), (outsAt0 m c n h).2.2.2 (ix2 i j)
    = ∑ s ∈ Finset.range (n + 1), ∑ x : Fin 256, ext0 (dgTerm m c j) (256 * s + x.val)
  | 0, h => by
    rw [after6_A m c ⟨0, h⟩ rfl, Finset.sum_range_one, pay5_apply, zero6, zero_add, part6]
  | n + 1, h => by
    have hN : cfg0.N = 8 := N_0
    have hB : ¬(⟨n + 1, h⟩ : Fin cfg0.N).val % 8 = 0 := by dsimp only; omega
    rw [after6_B m c ⟨n + 1, h⟩ hB, Finset.sum_range_succ, ← acc6 c i j n (by omega), pay5_apply, part6]
    rfl

theorem emb6 (t : Fin cfg0.N) (i : Fin 1) (k : Fin 2048) :
    (((cfg0.win 6).blk t).view.emb (ix2 i k : S1x2048.Idx) : S1x2048.Idx) = ix2 i k :=
  funext fun a => Fin.ext (by
    match a with
    | ⟨0, _⟩ => show win0_6.index t 0 * 1 + 1 * i.val = i.val; rw [(index0 t).2.2.2.2.2.2.1]; omega
    | ⟨1, _⟩ => show win0_6.index t 1 * 2048 + 1 * k.val = k.val; rw [(index0 t).2.2.2.2.2.2.2]; omega)

theorem final6 (c : Dev nD) : (dats m 0 c).arrAt 6 cfg0.N = G6 m c := by
  refine (dats m 0 c).arrAt_eq_of_cover 6 (G6 m c) (fun t ht => funext fun y => ?_) fun i => ?_
  · obtain ⟨a, b, rfl⟩ := exists_ix2 (a := 1) (b := 2048) y
    rw [Value.flushed6, View.read_apply]
    have hN : cfg0.N = 8 := N_0
    have h7 : t.val = 7 := by have := (flush0_6 t).mp ht; have := t.isLt; omega
    refine (acc6 m c a b t.val t.isLt).trans (Eq.trans ?_ (congrArg (G6 m c) (emb6 t a b)).symm)
    rw [sum_blocks, h7]
    exact sum_ext0 _
  · obtain ⟨a, b, rfl⟩ := exists_ix2 (a := 1) (b := 2048) i
    have hN : cfg0.N = 8 := N_0
    exact ⟨⟨7, by omega⟩, (flush0_6 _).mpr rfl, emb6 ⟨7, by omega⟩ a b ▸ View.emb_mem_set _ _⟩

end Cert.Kernel4Ideal.LossValue
end
-- ==== Proof.LossClaim.lean ====
/-
  The final norm's and loss's call against the chain rule: the four results read element by element, and equal where the
  arguments are real numbers.
-/
module

public import proofs.«01_k».proof.Defs
public import proofs.«01_k».proof.Proof.LossValue
public import proofs.«01_k».proof.Proof.Gen.Kernel4
public import proofs.«01_k».proof.Proof.Gen.Kernel4.Frame
public import proofs.«01_k».proof.Proof.Gen.Reference4Ideal.Read
public import Idealize.ShloMosaic.Lib.Quiescent

@[expose] public section

set_option maxRecDepth 16384

noncomputable section

open Idealize.ShloMosaic Idealize.ShloMosaic.TcCoe Idealize.SL.Sem
open Cert.Reals Cert.Rms

namespace Cert.Reference4Ideal.LossValue

open Cert.Reference4Ideal Cert.Reference4Ideal.Gen Cert.Reference4Ideal.Read
open Cert.Kernel4Ideal.LossValue (w half err rowLoss)

/-- The chain rule's gradient of the normalised row at column `j`. -/
def duR (h g t : Fin 2048 → EReal) (j : Fin 2048) : EReal :=
  Ideal.div (half * Ideal.ofBits .f32 0x3F800000#32) w * (Ideal.ofBits .f32 0x40000000#32 * err h g t j)

variable (h t : Vec Ideal S2048x2048 .f32) (g : Vec Ideal S1x2048 .f32)

theorem v15_apply (i j : Fin 2048) : val_main_v15 (F := Ideal) h g t (ix2 i j)
    = err (fun k => h (ix2 i k)) (fun k => g (ix2 0 k)) (fun k => t (ix2 i k)) j := by
  pointwise! [
    val_main_v15, val_main_v14, val_main_v13, val_main_v12, val_main_v11, val_main_v7, val_main_v6, val_main_v5,
    val_main_cst_1, val_main_v4, val_main_v3, val_main_cst_0, val_main_v2, val_main_v1, val_main_cst, val_main_v0]

theorem v29_apply (i j : Fin 2048) : val_main_v29 (F := Ideal) h g t (ix2 i j)
    = duR (fun k => h (ix2 i k)) (fun k => g (ix2 0 k)) (fun k => t (ix2 i k)) j := by
  unfold duR
  rw [← v15_apply]
  pointwise! [
    val_main_v29, val_main_v28, val_main_v27, val_main_v26, val_main_cst_10, val_main_v25, val_main_v24,
    val_main_cst_9, val_main_cst_8, val_main_v18, val_main_v17, val_main_cst_3]

theorem v48_of (i j : Fin 2048) : val_main_v48 (F := Ideal) h g t (ix2 i j)
    = dxR w (fun k => val_main_v29 (F := Ideal) h g t (ix2 i k)) (fun k => h (ix2 i k)) (fun k => g (ix2 0 k)) j := by
  pointwise! [
    val_main_v48, val_main_v47, val_main_v46, val_main_v45, val_main_v44, val_main_v43, val_main_cst_14,
    val_main_v42, val_main_v41, val_main_cst_13, val_main_v40, val_main_v39, val_main_v38, val_main_v37,
    val_main_v36, val_main_cst_12, val_main_v35, val_main_v34, val_main_v33, val_main_v10, val_main_v9,
    val_main_cst_2, val_main_v8, val_main_v7, val_main_v6, val_main_v5, val_main_cst_1, val_main_v4, val_main_v3,
    val_main_cst_0, val_main_v2, val_main_v1, val_main_cst, val_main_v0]

theorem v48_apply (i j : Fin 2048) : val_main_v48 (F := Ideal) h g t (ix2 i j)
    = dxR w (duR (fun k => h (ix2 i k)) (fun k => g (ix2 0 k)) (fun k => t (ix2 i k))) (fun k => h (ix2 i k))
      (fun k => g (ix2 0 k)) j := by
  rw [v48_of]
  simp only [v29_apply]

theorem v51_apply (i j : Fin 2048) : val_main_v51 (F := Ideal) h g t (ix2 i j)
    = half * val_main_v48 (F := Ideal) h g t (ix2 i j) := by
  pointwise! [
    val_main_v51, val_main_v50, val_main_v49, val_main_cst_15]

theorem v32_apply (i : Fin 1) (j : Fin 2048) : val_main_v32 (F := Ideal) h g t (ix2 i j)
    = ∑ x, h (ix2 x j) * rstd w (fun k => h (ix2 x k))
      * duR (fun k => h (ix2 x k)) (fun k => g (ix2 0 k)) (fun k => t (ix2 x k)) j := by
  simp only [← v29_apply]
  pointwise! [
    val_main_v32, val_main_v31, val_main_cst_11, val_main_v30, val_main_v12, val_main_v11, val_main_v7, val_main_v6,
    val_main_v5, val_main_cst_1, val_main_v4, val_main_v3, val_main_cst_0, val_main_v2, val_main_v1, val_main_cst,
    val_main_v0]

theorem v52_apply (i : Fin 8) (j : Fin 128) : val_main_v52 (F := Ideal) h g t (ix2 i j)
    = half * ∑ x, rowLoss (fun k => h (ix2 x k)) (fun k => g (ix2 0 k)) (fun k => t (ix2 x k)) := by
  unfold rowLoss
  simp only [← v15_apply]
  pointwise! [
    val_main_v52, val_main_v23, val_main_cst_7, val_main_v22, val_main_cst_6, val_main_v21, val_main_v20,
    val_main_cst_5, val_main_v19, val_main_cst_4, val_main_v16]

end Cert.Reference4Ideal.LossValue

namespace Cert.LossClaim

theorem pre_facts : Cert.Pre_loss_finite.Facts where
  bcast_S_S2048x2048 := by decide
  bcast_S_S1x2048 := by decide

instance : Cert.Pre_loss_finite.Facts := pre_facts

open Cert.Kernel4Ideal Cert.Kernel4Ideal.Gen Cert.Kernel4Ideal.LossValue

variable (m : (ℓ : Loc nD τ sig) → Buf (Elt Ideal) ℓ)

/-- Under the precondition the arguments hold real numbers. -/
theorem reals (h : Cert.Pre_Kernel4Ideal_loss_finite m) (c : Dev nD) :
    (∀ i k, ((rH m c i k).toReal : EReal) = rH m c i k) ∧ (∀ k, ((rG m c k).toReal : EReal) = rG m c k)
    ∧ (∀ i k, ((rT m c i k).toReal : EReal) = rT m c i k) := by
  obtain ⟨h0, h1, h2⟩ := h c
  refine ⟨fun i j => ?_, fun j => ?_, fun i j => ?_⟩
  · have e := congrFun h0 (ix2 i j)
    dsimp only [Cert.Pre_loss_finite.fn] at e
    pointwise at e
    exact real_of_lt e
  · have e := congrFun h1 (ix2 0 j)
    dsimp only [Cert.Pre_loss_finite.fn] at e
    pointwise at e
    exact real_of_lt e
  · have e := congrFun h2 (ix2 i j)
    dsimp only [Cert.Pre_loss_finite.fn] at e
    pointwise at e
    exact real_of_lt e

open Cert.Reference4Ideal.Read Cert.Reference4Ideal.LossValue

theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_scale : Ideal.ofBits .f32 0x3A000000#32 = ((1 / 2048 : ℝ) : EReal) := by
  simp [Ideal.ofBits, Ideal.ieee, -EReal.coe_mul]; norm_num

/-- A real row's error is real. -/
theorem err_coe (h g t : Fin 2048 → ℝ) : ∃ e : Fin 2048 → ℝ,
    err (fun k => (h k : EReal)) (fun k => (g k : EReal)) (fun k => (t k : EReal)) = fun k => (e k : EReal) := by
  obtain ⟨s, hs, e⟩ := meanSq_coe (show (0 : ℝ) < 2048 by norm_num) h
  refine ⟨fun k => h k * (√s)⁻¹ * g k - t k, funext fun k => ?_⟩
  unfold err rstd
  rw [show w = ((2048 : ℝ) : EReal) from lit_2048]
  simp only [e, rsqrt' hs, mul', sub']

/-- The cotangent both ways: the error over 2048. -/
theorem du_eq (h g t : Fin 2048 → ℝ) : ∃ d : Fin 2048 → ℝ,
    (fun k => err (fun k => (h k : EReal)) (fun k => (g k : EReal)) (fun k => (t k : EReal)) k * scale)
      = (fun k => (d k : EReal))
    ∧ duR (fun k => (h k : EReal)) (fun k => (g k : EReal)) (fun k => (t k : EReal)) = fun k => (d k : EReal) := by
  obtain ⟨e, he⟩ := err_coe h g t
  have h2 : (2048 : ℝ) ≠ 0 := by norm_num
  refine ⟨fun k => e k * (1 / 2048), funext fun k => ?_, funext fun k => ?_⟩
  · rw [he, show scale = _ from lit_scale, mul']
  · unfold duR
    rw [he, show half = _ from lit_half, show w = ((2048 : ℝ) : EReal) from lit_2048, lit_one, lit_two, mul', div' _ h2, mul', mul']
    refine congrArg _ ?_
    ring

theorem dx_eq (hp : Cert.Pre_Kernel4Ideal_loss_finite m) (c : Dev nD) (i j : Fin 2048) :
    dxOf (rH m c i) (rG m c) (rT m c i) j = dxR w (duR (rH m c i) (rG m c) (rT m c i)) (rH m c i) (rG m c) j := by
  obtain ⟨h0, h1, h2⟩ := reals m hp c
  unfold dxOf
  rw [← funext (h0 i), ← funext h1, ← funext (h2 i)]
  obtain ⟨d, e1, e2⟩ := du_eq (fun k => (rH m c i k).toReal) (fun k => (rG m c k).toReal) (fun k => (rT m c i k).toReal)
  rw [e1, e2, show w = ((2048 : ℝ) : EReal) from lit_2048, dxK_eq_dxR (by norm_num)]

theorem dg_eq (hp : Cert.Pre_Kernel4Ideal_loss_finite m) (c : Dev nD) (i j : Fin 2048) :
    dgTerm m c j i = rH m c i j * rstd w (rH m c i) * duR (rH m c i) (rG m c) (rT m c i) j := by
  obtain ⟨h0, h1, h2⟩ := reals m hp c
  unfold dgTerm dgOf
  rw [mul_comm]
  refine congrArg _ ?_
  rw [← funext (h0 i), ← funext h1, ← funext (h2 i)]
  obtain ⟨d, e1, e2⟩ := du_eq (fun k => (rH m c i k).toReal) (fun k => (rG m c k).toReal) (fun k => (rT m c i k).toReal)
  exact (congrFun e1 j).trans (congrFun e2 j).symm

theorem result0 (hp : Cert.Pre_Kernel4Ideal_loss_finite m) (c : Dev nD) :
    G3 m c = val_main_v48 (F := Ideal) (aH m c) (aG m c) (aT m c) := by
  funext j
  obtain ⟨a, b, rfl⟩ := exists_ix2 (a := 2048) (b := 2048) j
  exact (dx_eq m hp c a b).trans (v48_apply _ _ _ a b).symm

theorem result1 (hp : Cert.Pre_Kernel4Ideal_loss_finite m) (c : Dev nD) :
    G4 m c = val_main_v51 (F := Ideal) (aH m c) (aG m c) (aT m c) := by
  funext j
  obtain ⟨a, b, rfl⟩ := exists_ix2 (a := 2048) (b := 2048) j
  exact (congrArg (half * ·) ((dx_eq m hp c a b).trans (v48_apply _ _ _ a b).symm)).trans (v51_apply _ _ _ a b).symm

theorem result2 (c : Dev nD) : G5 m c = val_main_v52 (F := Ideal) (aH m c) (aG m c) (aT m c) := by
  funext j
  obtain ⟨a, b, rfl⟩ := exists_ix2 (a := 8) (b := 128) j
  exact (v52_apply _ _ _ a b).symm

theorem result3 (hp : Cert.Pre_Kernel4Ideal_loss_finite m) (c : Dev nD) :
    G6 m c = val_main_v32 (F := Ideal) (aH m c) (aG m c) (aT m c) := by
  funext j
  obtain ⟨a, b, rfl⟩ := exists_ix2 (a := 1) (b := 2048) j
  exact (Finset.sum_congr rfl fun x _ => dg_eq m hp c x b).trans (v32_apply _ _ _ a b).symm

/-- The reference's frame: its run read at the arguments; it declares no semaphore. -/
theorem reference_frame : Cert.quiescent_Reference4Ideal := fun m ρ _ =>
  (θ_run (Cert.Reference4Ideal.defs (F := Ideal)) _ _).mono (fun r h => And.intro (fun c => (h c).2.2.2.2)
    (Idealize.ShloMosaic.sem_eq_zero_of_no_sems (by decide) r.2)) (Cert.Reference4Ideal.Value.run (F := Ideal) m ρ)

theorem algebraic : Cert.algebraic_Kernel4Ideal_Reference4Ideal_pre_loss_finite := by
  intro m ρ m' ρ' hpre hag
  refine ⟨fun c => G3 m c, fun c => G4 m c, fun c => G5 m c, fun c => G6 m c, ?_, ?_⟩
  · refine (θ_run Cert.Kernel4Ideal.defs _ _).mono (fun r h c => ?_) (Cert.Kernel4Ideal.Value.run_blocks m ρ)
    obtain ⟨h0, h1, h2, h3, ha⟩ := h c
    exact ⟨h0.trans (final3 m c), h1.trans (final4 m c), h2.trans (final5 m c), h3.trans (final6 m c), ha⟩
  · refine (θ_run Cert.Reference4Ideal.defs _ _).mono (fun r h c => ?_) (Cert.Reference4Ideal.Value.run (F := Ideal) m' ρ')
    obtain ⟨h0, h1, h2, h3, ha⟩ := h c
    obtain ⟨e0, e1, e2⟩ := hag c
    refine ⟨h0.trans ?_, h1.trans ?_, h2.trans ?_, h3.trans ?_, ha⟩
    · rw [val_main_v48_eq, e0, e1, e2]; exact (result0 m hpre c).symm
    · rw [val_main_v51_eq, e0, e1, e2]; exact (result1 m hpre c).symm
    · rw [val_main_v52_eq, e0, e1, e2]; exact (result2 m c).symm
    · rw [val_main_v32_eq, e0, e1, e2]; exact (result3 m hpre c).symm

end Cert.LossClaim

end
-- ==== Proof.FfnValue.lean ====
/-
  What the gated feed-forward's backward call leaves in its two results: the gate's two cotangents, and the input's
  gradient as a sum over all hidden columns.
-/
module
public import proofs.«01_k».proof.Proof.Reals
public import proofs.«01_k».proof.Proof.Gen.Kernel5Ideal.Value
public import Idealize.ShloMosaic.PureOps.Ideal
public import Idealize.ShloMosaic.Lib.Claim
public import Idealize.ShloMosaic.Lib.StableHlo.RunRead
@[expose] public section
set_option maxRecDepth 16384
noncomputable section
open Idealize.ShloMosaic Idealize.ShloMosaic.TcCoe Idealize.SL.Sem
open Idealize.ShloMosaic.Pipeline (Dat)
namespace Cert.Kernel5Ideal.FfnValue
open Cert.Kernel5Ideal Cert.Kernel5Ideal.Gen Cert.Reals

theorem hz : (![0, 0] : Fin 2 → Nat) = fun _ => 0 := funext fun a => by fin_cases a <;> rfl

/-- The logistic function, and what the gate hands back to its two inputs from the cotangent `h`. -/
def lg (g : EReal) : EReal := Ideal.div 1 (1 + Ideal.exp (0 - g))
def dgOf (h g u : EReal) : EReal := h * u * (lg g * (1 + g * (1 - lg g)))
def dupOf (h g : EReal) : EReal := h * (g * lg g)

/-- The cotangent of the gated product at a row and a hidden column. -/
def dotRow (d w : Fin 2048 → EReal) : EReal := ∑ x, d x * w x

theorem pay6_apply (g : Vec Ideal S1024x512 .bf16) (i : Fin 1024) (f : Fin 512) :
    k0_pay6 g (ix2 i f) = lg (g (ix2 i f)) := by
  unfold lg
  pointwise! [k0_pay6, k0_pay5]

theorem pay4_apply (d : Vec Ideal S1024x2048 .bf16) (w : Vec Ideal S512x2048 .bf16) (i : Fin 1024) (f : Fin 512) :
    k0_pay4 d w (ix2 i f) = dotRow (fun x => d (ix2 i x)) (fun x => w (ix2 f x)) := by
  unfold dotRow
  pointwise! [k0_pay4]

theorem pay7_apply (d : Vec Ideal S1024x2048 .bf16) (w : Vec Ideal S512x2048 .bf16) (g : Vec Ideal S1024x512 .bf16)
    (i : Fin 1024) (f : Fin 512) : k0_pay7 d w g (ix2 i f)
      = dupOf (dotRow (fun x => d (ix2 i x)) (fun x => w (ix2 f x))) (g (ix2 i f)) := by
  unfold dupOf
  rw [← pay4_apply, ← pay6_apply]
  unfold k0_pay7
  generalize k0_pay4 d w = a
  generalize k0_pay6 g = s
  pointwise! [k0_pay5]

theorem pay8_apply (d : Vec Ideal S1024x2048 .bf16) (w : Vec Ideal S512x2048 .bf16) (g u : Vec Ideal S1024x512 .bf16)
    (i : Fin 1024) (f : Fin 512) : k0_pay8 d w g u (ix2 i f)
      = dgOf (dotRow (fun x => d (ix2 i x)) (fun x => w (ix2 f x))) (g (ix2 i f)) (u (ix2 i f)) := by
  unfold dgOf
  rw [← pay4_apply, ← pay6_apply]
  unfold k0_pay8
  generalize k0_pay4 d w = a
  generalize k0_pay6 g = s
  pointwise! [k0_pay5]

theorem pay9_apply (d : Vec Ideal S1024x2048 .bf16) (w : Vec Ideal S512x2048 .bf16) (g u : Vec Ideal S1024x512 .bf16)
    (z : Fin 1) (f : Fin 512) (i : Fin 1024) : k0_pay9 d w g u (ix3 z f i) = k0_pay8 d w g u (ix2 i f) := by
  unfold k0_pay9
  generalize k0_pay8 d w g u = a
  pointwise!

theorem pay1_apply (d : Vec Ideal S1024x2048 .bf16) (w : Vec Ideal S512x2048 .bf16) (g : Vec Ideal S1024x512 .bf16)
    (z : Fin 1) (f : Fin 512) (i : Fin 1024) : k0_pay1 (k0_pay10 d w g) (ix3 z f i) = k0_pay7 d w g (ix2 i f) := by
  unfold k0_pay10
  generalize k0_pay7 d w g = a
  pointwise! [k0_pay1]

theorem pay2_apply (p q : Vec Ideal S1024x512 .f32) (a : Vec Ideal S1024x2048 .f32) (w0 w1 : Vec Ideal S1x512x2048 .bf16)
    (i : Fin 1024) (j : Fin 2048) : k0_pay2 p q a w0 w1 (ix2 i j)
      = a (ix2 i j) + ((∑ f, q (ix2 i f) * w0 (ix3 0 f j)) + ∑ f, p (ix2 i f) * w1 (ix3 0 f j)) := by
  pointwise! [k0_pay2]

theorem zero3 (i : Fin 1024) (j : Fin 2048) : k0_pay3 (F := Ideal) (ix2 i j) = 0 := by pointwise! [k0_pay3]

variable (m : (ℓ : Loc nD τ sig) → Buf (Elt Ideal) ℓ)

/-- The five blocks a grid point reads, and the two planes of the weights'. -/
abbrev bD (c : Dev nD) (t : Fin cfg0.N) : Vec Ideal S1024x2048 .bf16 := iblk m c 0 t
abbrev bG (c : Dev nD) (t : Fin cfg0.N) : Vec Ideal S1024x512 .bf16 := iblk m c 1 t
abbrev bU (c : Dev nD) (t : Fin cfg0.N) : Vec Ideal S1024x512 .bf16 := iblk m c 2 t
abbrev bW (c : Dev nD) (t : Fin cfg0.N) : Vec Ideal S2x512x2048 .bf16 := iblk m c 3 t
abbrev bO (c : Dev nD) (t : Fin cfg0.N) : Vec Ideal S512x2048 .bf16 := iblk m c 4 t

def plane (p : Fin 2) (x : Vec Ideal S2x512x2048 .bf16) : Vec Ideal S1x512x2048 .bf16 :=
  fun j => x (ix3 p (j 1) (j 2))

theorem ld_plane0 (x : Vec Ideal S2x512x2048 .bf16) (inb) :
    View.ld (S := S2x512x2048) x (Rect.unit (s := S2x512x2048) ![0, 0, 0] ![1, 512, 2048] inb) = plane 0 x :=
  funext fun j => congrArg x (funext fun a => Fin.ext (by
    match a with
    | ⟨0, _⟩ => show 0 + 1 * (j 0).val = 0; have : (j 0).val < 1 := (j 0).isLt; omega
    | ⟨1, _⟩ => show 0 + 1 * (j 1).val = (j 1).val; omega
    | ⟨2, _⟩ => show 0 + 1 * (j 2).val = (j 2).val; omega))

theorem ld_plane1 (x : Vec Ideal S2x512x2048 .bf16) (inb) :
    View.ld (S := S2x512x2048) x (Rect.unit (s := S2x512x2048) ![1, 0, 0] ![1, 512, 2048] inb) = plane 1 x :=
  funext fun j => congrArg x (funext fun a => Fin.ext (by
    match a with
    | ⟨0, _⟩ => show 1 + 1 * (j 0).val = 1; have : (j 0).val < 1 := (j 0).isLt; omega
    | ⟨1, _⟩ => show 0 + 1 * (j 1).val = (j 1).val; omega
    | ⟨2, _⟩ => show 0 + 1 * (j 2).val = (j 2).val; omega))

/-- What a grid point adds to the input's gradient, over what it holds. -/
abbrev step (c : Dev nD) (t : Fin cfg0.N) (a : Vec Ideal S1024x2048 .f32) : Vec Ideal S1024x2048 .f32 :=
  k0_pay2 (k0_pay7 (bD m c t) (bO m c t) (bG m c t)) (k0_pay8 (bD m c t) (bO m c t) (bG m c t) (bU m c t)) a
    (plane 0 (bW m c t)) (plane 1 (bW m c t))

theorem after5_A (c : Dev nD) (t : Fin cfg0.N) (h0 : t.val % 11 = 0) : (outsAt0 m c t.val t.isLt).1
    = step m c t (k0_pay3 (F := Ideal)) := by
  rw [outsAt0_A m c t h0]
  unfold out0_A_5
  rw [View.read_writes_eq_canon _ _ _ (fun y => cover0_A_5 (y := y) ..)]
  unfold kernelRun0_A
  dsimp only
  sl_unfold_words
  rw [View.canon_cons_unit_zero (S := S1024x2048) hz, View.readCov_unit_zero (S := S1024x2048) _ hz]
  simp only [View.readAt_eq_ld, (hs0_0 t).read_unread, (hs0_1 t).read_unread, (hs0_2 t).read_unread,
    (hs0_3 t).read_unread, (hs0_4 t).read_unread,
    View.ld_unit_zero (S := S1024x2048) hz, View.ld_unit_zero (S := S1024x512) hz, View.ld_unit_zero (S := S512x2048) hz,
    ld_plane0, ld_plane1]

theorem after5_B (c : Dev nD) (t : Fin cfg0.N) (h0 : ¬t.val % 11 = 0) : (outsAt0 m c t.val t.isLt).1
    = step m c t (outsAt0 m c (t.val - 1) (Nat.lt_of_le_of_lt (Nat.sub_le _ _) t.isLt)).1 := by
  rw [outsAt0_B m c t h0]
  unfold out0_B_5
  rw [View.read_writes_eq_canon _ _ _ (fun y => cover0_B_5 (y := y) ..)]
  unfold kernelRun0_B
  dsimp only
  sl_unfold_words
  rw [View.canon_unit_zero hz]
  simp only [View.readAt_eq_ld, (hs0_0 t).read_unread, (hs0_1 t).read_unread, (hs0_2 t).read_unread,
    (hs0_3 t).read_unread, (hs0_4 t).read_unread, (hs0_5 t).read_unread,
    View.ld_unit_zero (S := S1024x2048) hz, View.ld_unit_zero (S := S1024x512) hz, View.ld_unit_zero (S := S512x2048) hz,
    ld_plane0, ld_plane1]

/-- The two cotangents a grid point writes: the gate's in plane 0, the other factor's in plane 1. -/
def cots (c : Dev nD) (t : Fin cfg0.N) : Vec Ideal S2x512x1024 .bf16 := fun y =>
  (if (y 0).val = 0 then k0_pay8 (bD m c t) (bO m c t) (bG m c t) (bU m c t) (ix2 (y 2) (y 1))
    else k0_pay7 (bD m c t) (bO m c t) (bG m c t) (ix2 (y 2) (y 1)) : EReal)

theorem exists_ix3 {a b d : Nat} (j : (⟨3, ![a, b, d]⟩ : Shape).Idx) :
    ∃ (x : Fin a) (y : Fin b) (z : Fin d), j = ix3 x y z :=
  ⟨j 0, j 1, j 2, funext fun x => by match x with | ⟨0, _⟩ => rfl | ⟨1, _⟩ => rfl | ⟨2, _⟩ => rfl⟩

/-- Two writes, one to each plane, of what agrees with `G`. -/
theorem pieces_planes (G : Vec Ideal S2x512x1024 .bf16) (w0 w1 : Vec Ideal S1x512x1024 .bf16) (i0 i1)
    (h0 : ∀ f i, w0 (ix3 0 f i) = G (ix3 0 f i)) (h1 : ∀ f i, w1 (ix3 0 f i) = G (ix3 1 f i)) :
    ∀ p ∈ ([⟨Rect.unit (s := S2x512x1024) ![1, 0, 0] S1x512x1024.size i1, w1⟩,
      ⟨Rect.unit (s := S2x512x1024) ![0, 0, 0] S1x512x1024.size i0, w0⟩] : List (View.Piece (Elt Ideal) S2x512x1024 .bf16)),
      ∀ x : p.1.shape.Idx, p.2 x = G (p.1.emb x) := by
  intro p hp x
  rcases List.mem_cons.mp hp with rfl | hp
  · obtain ⟨a, b, d, rfl⟩ := exists_ix3 (a := 1) (b := 512) (d := 1024) x
    obtain rfl : a = 0 := Fin.ext (by omega)
    refine (h1 b d).trans (congrArg G (funext fun k => Fin.ext ?_))
    match k with
    | ⟨0, _⟩ => rfl
    | ⟨1, _⟩ => show b.val = 0 + 1 * b.val; omega
    | ⟨2, _⟩ => show d.val = 0 + 1 * d.val; omega
  · obtain rfl := List.mem_singleton.mp hp
    obtain ⟨a, b, d, rfl⟩ := exists_ix3 (a := 1) (b := 512) (d := 1024) x
    obtain rfl : a = 0 := Fin.ext (by omega)
    refine (h0 b d).trans (congrArg G (funext fun k => Fin.ext ?_))
    match k with
    | ⟨0, _⟩ => rfl
    | ⟨1, _⟩ => show b.val = 0 + 1 * b.val; omega
    | ⟨2, _⟩ => show d.val = 0 + 1 * d.val; omega

/-- Pieces that reach every element and agree with `G` leave `G`. -/
theorem canon_eq (G : Vec Ideal S2x512x1024 .bf16) (L : List (View.Piece (Elt Ideal) S2x512x1024 .bf16))
    (hc : ∀ y : S2x512x1024.Idx, ∃ p ∈ L, y ∈ p.1.set) (hL : ∀ p ∈ L, ∀ x : p.1.shape.Idx, p.2 x = G (p.1.emb x)) :
    View.canon L = G := funext fun y => View.canon_apply_of_pieces G L hL y (hc y)

theorem after6 (c : Dev nD) (t : Fin cfg0.N) : (outsAt0 m c t.val t.isLt).2 = cots m c t := by
  by_cases h0 : t.val % 11 = 0
  · rw [outsAt0_A m c t h0]
    unfold out0_A_6
    rw [View.read_writes_eq_canon _ _ _ (fun y => cover0_A_6 (y := y) ..)]
    rw [canon_eq (cots m c t) _ (fun y => cover0_A_6 (y := y) ..)]
    unfold kernelRun0_A
    dsimp only
    sl_unfold_words
    simp only [View.readAt_eq_ld, (hs0_0 t).read_unread, (hs0_1 t).read_unread, (hs0_2 t).read_unread,
      (hs0_4 t).read_unread,
      View.ld_unit_zero (S := S1024x2048) hz, View.ld_unit_zero (S := S1024x512) hz, View.ld_unit_zero (S := S512x2048) hz]
    exact pieces_planes _ _ _ _ _ (fun f i => pay9_apply _ _ _ _ 0 f i) (fun f i => pay1_apply _ _ _ 0 f i)
  · rw [outsAt0_B m c t h0]
    unfold out0_B_6
    rw [View.read_writes_eq_canon _ _ _ (fun y => cover0_B_6 (y := y) ..)]
    rw [canon_eq (cots m c t) _ (fun y => cover0_B_6 (y := y) ..)]
    unfold kernelRun0_B
    dsimp only
    sl_unfold_words
    simp only [View.readAt_eq_ld, (hs0_0 t).read_unread, (hs0_1 t).read_unread, (hs0_2 t).read_unread,
      (hs0_4 t).read_unread,
      View.ld_unit_zero (S := S1024x2048) hz, View.ld_unit_zero (S := S1024x512) hz, View.ld_unit_zero (S := S512x2048) hz]
    exact pieces_planes _ _ _ _ _ (fun f i => pay9_apply _ _ _ _ 0 f i) (fun f i => pay1_apply _ _ _ 0 f i)

/-! The arrays the grid points read, in terms of the arguments. -/

abbrev aU (c : Dev nD) : Vec Ideal S2048x2048 .f32 := m ((c : Thread nD τ).loc main_arg0)
abbrev aI (c : Dev nD) : Vec Ideal S2048x11264 .f32 := m ((c : Thread nD τ).loc main_arg1)
abbrev aO (c : Dev nD) : Vec Ideal S5632x2048 .f32 := m ((c : Thread nD τ).loc main_arg2)
abbrev aF (c : Dev nD) : Vec Ideal S2048x2048 .f32 := m ((c : Thread nD τ).loc main_arg3)

/-- A hidden column's place in the gate's half and in the other half of the stacked weights. -/
def lo (f : Fin 5632) : Fin 11264 := ⟨f.val, by omega⟩
def hi (f : Fin 5632) : Fin 11264 := ⟨5632 + f.val, by omega⟩
def half (p : Fin 2) (f : Fin 5632) : Fin 11264 := ⟨5632 * p.val + f.val, by omega⟩

/-- The projected input at a row and a stacked column. -/
def pre (c : Dev nD) (i : Fin 2048) (f : Fin 11264) : EReal := ∑ x, aU m c (ix2 i x) * aI m c (ix2 x f)

def proj (u : FVec Ideal S2048x2048 .f32) (w : FVec Ideal S2048x11264 .f32) : FVec Ideal S2048x11264 .bf16 :=
  truncf .bf16 (Host.dotGeneral dot_S2048x2048_S2048x11264_S2048x11264_1_0_0_1_n_n none u w) bitsLt_bf16_f32

theorem V_v2_eq (c : Dev nD) : V m c main_v2
    = extractStridedSlice S2048x5632 ![0, 0] (proj (aU m c) (aI m c)) slices_S2048x11264_S2048x5632_0_0 := by
  unfold_abbrev_sides
  after_reads_simp
  rfl

theorem V_v3_eq (c : Dev nD) : V m c main_v3
    = extractStridedSlice S2048x5632 ![0, 5632] (proj (aU m c) (aI m c)) slices_S2048x11264_S2048x5632_0_5632 := by
  unfold_abbrev_sides
  after_reads_simp
  rfl

theorem V_v4_eq (c : Dev nD) : V m c main_v4 = (truncf .bf16 (aF m c : FVec Ideal S2048x2048 .f32) bitsLt_bf16_f32 : FVec Ideal S2048x2048 .bf16) := by
  unfold_abbrev_sides
  after_reads_simp

theorem V_v7_eq (c : Dev nD) : V m c main_v7 = (truncf .bf16 (aO m c : FVec Ideal S5632x2048 .f32) bitsLt_bf16_f32 : FVec Ideal S5632x2048 .bf16) := by
  unfold_abbrev_sides
  after_reads_simp

theorem V_v8_eq (c : Dev nD) : V m c main_v8 = shapeCast S2x5632x2048
    (truncf .bf16 (transpose S11264x2048 [1, 0] (aI m c) transposes_S2048x11264_S11264x2048_1_0 : FVec Ideal S11264x2048 .f32)
      bitsLt_bf16_f32 : FVec Ideal S11264x2048 .bf16) shapeCasts_S11264x2048_S2x5632x2048 := by
  unfold_abbrev_sides
  after_reads_simp
  rfl

theorem V_v2 (c : Dev nD) (i : Fin 2048) (f : Fin 5632) :
    (V m c main_v2 : Vec Ideal S2048x5632 .bf16) (ix2 i f) = pre m c i (lo f) := by
  refine (congrFun (V_v2_eq m c) _).trans ?_
  unfold pre lo
  generalize aU m c = u
  generalize aI m c = w
  pointwise! [proj]

theorem V_v3 (c : Dev nD) (i : Fin 2048) (f : Fin 5632) :
    (V m c main_v3 : Vec Ideal S2048x5632 .bf16) (ix2 i f) = pre m c i (hi f) := by
  refine (congrFun (V_v3_eq m c) _).trans ?_
  unfold pre hi
  generalize aU m c = u
  generalize aI m c = w
  pointwise! [proj]

theorem V_v8 (c : Dev nD) (p : Fin 2) (f : Fin 5632) (j : Fin 2048) :
    (V m c main_v8 : Vec Ideal S2x5632x2048 .bf16) (ix3 p f j) = aI m c (ix2 j (half p f)) := by
  refine (congrFun (V_v8_eq m c) _).trans ?_
  unfold half
  generalize aI m c = w
  pointwise!

theorem V_v4 (c : Dev nD) (i j : Fin 2048) :
    (V m c main_v4 : Vec Ideal S2048x2048 .bf16) (ix2 i j) = aF m c (ix2 i j) := congrFun (V_v4_eq m c) _
theorem V_v7 (c : Dev nD) (f : Fin 5632) (j : Fin 2048) :
    (V m c main_v7 : Vec Ideal S5632x2048 .bf16) (ix2 f j) = aO m c (ix2 f j) := congrFun (V_v7_eq m c) _

/-- Row `i` of a grid point's rows, and hidden column `f` of its columns. -/
def tok (t : Fin cfg0.N) (i : Fin 1024) : Fin 2048 :=
  ⟨1024 * (t.val / 11) + i.val, by have : cfg0.N = 22 := N_0; have := t.isLt; have := i.isLt; omega⟩
def hid (t : Fin cfg0.N) (f : Fin 512) : Fin 5632 :=
  ⟨512 * (t.val % 11) + f.val, by have := f.isLt; omega⟩

theorem exists_tok (i : Fin 2048) (k : Fin 11) : ∃ (t : Fin cfg0.N) (r : Fin 1024), tok t r = i ∧ t.val % 11 = k.val :=
  ⟨⟨11 * (i.val / 1024) + k.val, by have : cfg0.N = 22 := N_0; have := i.isLt; omega⟩, ⟨i.val % 1024, by omega⟩,
    Fin.ext (by show 1024 * ((11 * (i.val / 1024) + k.val) / 11) + i.val % 1024 = i.val; omega),
    by show (11 * (i.val / 1024) + k.val) % 11 = k.val; omega⟩

theorem index0 : ∀ t : Fin cfg0.N, (win0_0.index t 0 = t.val / 11 ∧ win0_0.index t 1 = 0)
    ∧ (win0_1.index t 0 = t.val / 11 ∧ win0_1.index t 1 = t.val % 11)
    ∧ (win0_2.index t 0 = t.val / 11 ∧ win0_2.index t 1 = t.val % 11)
    ∧ (win0_3.index t 0 = 0 ∧ win0_3.index t 1 = t.val % 11 ∧ win0_3.index t 2 = 0)
    ∧ (win0_4.index t 0 = t.val % 11 ∧ win0_4.index t 1 = 0)
    ∧ (win0_5.index t 0 = t.val / 11 ∧ win0_5.index t 1 = 0)
    ∧ (win0_6.index t 0 = 0 ∧ win0_6.index t 1 = t.val % 11 ∧ win0_6.index t 2 = t.val / 11) := by
  show ∀ t : Fin grid0.N, _
  decide +kernel

theorem bD_apply (c : Dev nD) (t : Fin cfg0.N) (i : Fin 1024) (k : Fin 2048) :
    bD m c t (ix2 i k) = aF m c (ix2 (tok t i) k) := by
  refine Eq.trans ?_ (V_v4 m c _ _)
  unfold bD iblk
  rw [View.read_apply]
  refine congrArg (V m c main_v4) (funext fun a => Fin.ext ?_)
  match a with
  | ⟨0, _⟩ => show win0_0.index t 0 * 1024 + 1 * i.val = 1024 * (t.val / 11) + i.val; rw [(index0 t).1.1]; omega
  | ⟨1, _⟩ => show win0_0.index t 1 * 2048 + 1 * k.val = k.val; rw [(index0 t).1.2]; omega

theorem bG_apply (c : Dev nD) (t : Fin cfg0.N) (i : Fin 1024) (k : Fin 512) :
    bG m c t (ix2 i k) = pre m c (tok t i) (lo (hid t k)) := by
  refine Eq.trans ?_ (V_v2 m c _ _)
  unfold bG iblk
  rw [View.read_apply]
  refine congrArg (V m c main_v2) (funext fun a => Fin.ext ?_)
  match a with
  | ⟨0, _⟩ => show win0_1.index t 0 * 1024 + 1 * i.val = 1024 * (t.val / 11) + i.val; rw [(index0 t).2.1.1]; omega
  | ⟨1, _⟩ => show win0_1.index t 1 * 512 + 1 * k.val = 512 * (t.val % 11) + k.val; rw [(index0 t).2.1.2]; omega

theorem bU_apply (c : Dev nD) (t : Fin cfg0.N) (i : Fin 1024) (k : Fin 512) :
    bU m c t (ix2 i k) = pre m c (tok t i) (hi (hid t k)) := by
  refine Eq.trans ?_ (V_v3 m c _ _)
  unfold bU iblk
  rw [View.read_apply]
  refine congrArg (V m c main_v3) (funext fun a => Fin.ext ?_)
  match a with
  | ⟨0, _⟩ => show win0_2.index t 0 * 1024 + 1 * i.val = 1024 * (t.val / 11) + i.val; rw [(index0 t).2.2.1.1]; omega
  | ⟨1, _⟩ => show win0_2.index t 1 * 512 + 1 * k.val = 512 * (t.val % 11) + k.val; rw [(index0 t).2.2.1.2]; omega

theorem bO_apply (c : Dev nD) (t : Fin cfg0.N) (i : Fin 512) (k : Fin 2048) :
    bO m c t (ix2 i k) = aO m c (ix2 (hid t i) k) := by
  refine Eq.trans ?_ (V_v7 m c _ _)
  unfold bO iblk
  rw [View.read_apply]
  refine congrArg (V m c main_v7) (funext fun a => Fin.ext ?_)
  match a with
  | ⟨0, _⟩ => show win0_4.index t 0 * 512 + 1 * i.val = 512 * (t.val % 11) + i.val; rw [(index0 t).2.2.2.2.1.1]; omega
  | ⟨1, _⟩ => show win0_4.index t 1 * 2048 + 1 * k.val = k.val; rw [(index0 t).2.2.2.2.1.2]; omega

theorem bW_apply (c : Dev nD) (t : Fin cfg0.N) (p : Fin 2) (f : Fin 512) (k : Fin 2048) :
    bW m c t (ix3 p f k) = aI m c (ix2 k (half p (hid t f))) := by
  refine Eq.trans ?_ (V_v8 m c p (hid t f) k)
  unfold bW iblk
  rw [View.read_apply]
  refine congrArg (V m c main_v8) (funext fun a => Fin.ext ?_)
  match a with
  | ⟨0, _⟩ => show win0_3.index t 0 * 2 + 1 * p.val = p.val; rw [(index0 t).2.2.2.1.1]; omega
  | ⟨1, _⟩ => show win0_3.index t 1 * 512 + 1 * f.val = 512 * (t.val % 11) + f.val; rw [(index0 t).2.2.2.1.2.1]; omega
  | ⟨2, _⟩ => show win0_3.index t 2 * 2048 + 1 * k.val = k.val; rw [(index0 t).2.2.2.1.2.2]; omega

/-! What the two results end holding. -/

/-- The cotangent of the gated product, and the two the gate hands back. -/
def dh (c : Dev nD) (i : Fin 2048) (f : Fin 5632) : EReal := dotRow (fun x => aF m c (ix2 i x)) (fun x => aO m c (ix2 f x))
def dGate (c : Dev nD) (i : Fin 2048) (f : Fin 5632) : EReal := dgOf (dh m c i f) (pre m c i (lo f)) (pre m c i (hi f))
def dUp (c : Dev nD) (i : Fin 2048) (f : Fin 5632) : EReal := dupOf (dh m c i f) (pre m c i (lo f))

theorem gate_apply (c : Dev nD) (t : Fin cfg0.N) (i : Fin 1024) (f : Fin 512) :
    k0_pay8 (bD m c t) (bO m c t) (bG m c t) (bU m c t) (ix2 i f) = dGate m c (tok t i) (hid t f) := by
  refine (pay8_apply _ _ _ _ i f).trans ?_
  simp only [bD_apply, bO_apply, bG_apply, bU_apply]
  rfl

theorem up_apply (c : Dev nD) (t : Fin cfg0.N) (i : Fin 1024) (f : Fin 512) :
    k0_pay7 (bD m c t) (bO m c t) (bG m c t) (ix2 i f) = dUp m c (tok t i) (hid t f) := by
  refine (pay7_apply _ _ _ i f).trans ?_
  simp only [bD_apply, bO_apply, bG_apply]
  rfl

/-- A hidden column's part of the input's gradient. -/
def term (c : Dev nD) (i j : Fin 2048) (f : Fin 5632) : EReal :=
  dGate m c i f * aI m c (ix2 j (lo f)) + dUp m c i f * aI m c (ix2 j (hi f))

theorem lo_eq (f : Fin 5632) : half 0 f = lo f := Fin.ext (by show 5632 * 0 + f.val = f.val; omega)
theorem hi_eq (f : Fin 5632) : half 1 f = hi f := Fin.ext (by show 5632 * 1 + f.val = 5632 + f.val; omega)

theorem step_apply (c : Dev nD) (t : Fin cfg0.N) (a : Vec Ideal S1024x2048 .f32) (i : Fin 1024) (j : Fin 2048) :
    step m c t a (ix2 i j) = a (ix2 i j) + ∑ x : Fin 512, ext0 (term m c (tok t i) j) (512 * (t.val % 11) + x.val) := by
  refine (pay2_apply _ _ _ _ _ i j).trans (congrArg _ ?_)
  rw [← Finset.sum_add_distrib]
  refine Finset.sum_congr rfl fun x _ => ?_
  refine Eq.trans ?_ (ext0_of_lt (term m c (tok t i) j) (hid t x).isLt).symm
  unfold term
  rw [← lo_eq, ← hi_eq]
  exact congrArg₂ _ (congrArg₂ _ (gate_apply m c t i x) (bW_apply m c t 0 x j))
    (congrArg₂ _ (up_apply m c t i x) (bW_apply m c t 1 x j))

/-- After point `n` the block of its rows holds the sum over the hidden columns of the points of those rows so far. -/
theorem acc (c : Dev nD) (i : Fin 1024) (j : Fin 2048) : ∀ (n : ℕ) (h : n < cfg0.N), (outsAt0 m c n h).1 (ix2 i j)
    = ∑ s ∈ Finset.range (n % 11 + 1), ∑ x : Fin 512, ext0 (term m c (tok ⟨n, h⟩ i) j) (512 * s + x.val)
  | 0, h => by
    rw [after5_A m c ⟨0, h⟩ rfl, step_apply, zero3, zero_add]
    show _ = ∑ s ∈ Finset.range 1, _
    rw [Finset.sum_range_one]
    rfl
  | n + 1, h => by
    have hN : cfg0.N = 22 := N_0
    by_cases h0 : (n + 1) % 11 = 0
    · rw [after5_A m c ⟨n + 1, h⟩ h0, step_apply, zero3, zero_add]
      dsimp only
      rw [h0, zero_add, Finset.sum_range_one]
    · rw [after5_B m c ⟨n + 1, h⟩ h0, step_apply]
      have e : (n + 1) % 11 = n % 11 + 1 := by omega
      have ht : tok ⟨n, by omega⟩ i = tok ⟨n + 1, h⟩ i :=
        Fin.ext (by show 1024 * (n / 11) + i.val = 1024 * ((n + 1) / 11) + i.val; omega)
      dsimp only
      rw [e, Finset.sum_range_succ _ (n % 11 + 1)]
      refine congrArg (· + _) ((acc c i j n (by omega)).trans ?_)
      rw [ht]

def G5 (c : Dev nD) : Vec Ideal S2048x2048 .f32 := fun y =>
  (∑ f, dGate m c (y 0) f * aI m c (ix2 (y 1) (lo f))) + ∑ f, dUp m c (y 0) f * aI m c (ix2 (y 1) (hi f))
def G6 (c : Dev nD) : Vec Ideal S2x5632x2048 .bf16 := fun y =>
  (if (y 0).val = 0 then dGate m c (y 2) (y 1) else dUp m c (y 2) (y 1) : EReal)

theorem exists_ix2 {a b : Nat} (j : (⟨2, ![a, b]⟩ : Shape).Idx) : ∃ (x : Fin a) (y : Fin b), j = ix2 x y :=
  ⟨j 0, j 1, funext fun x => by match x with | ⟨0, _⟩ => rfl | ⟨1, _⟩ => rfl⟩

theorem emb5 (t : Fin cfg0.N) (i : Fin 1024) (k : Fin 2048) :
    (((cfg0.win 5).blk t).view.emb (ix2 i k : S1024x2048.Idx) : S2048x2048.Idx) = ix2 (tok t i) k :=
  funext fun a => Fin.ext (by
    match a with
    | ⟨0, _⟩ => show win0_5.index t 0 * 1024 + 1 * i.val = 1024 * (t.val / 11) + i.val; rw [(index0 t).2.2.2.2.2.1.1]; omega
    | ⟨1, _⟩ => show win0_5.index t 1 * 2048 + 1 * k.val = k.val; rw [(index0 t).2.2.2.2.2.1.2]; omega)

theorem emb6 (t : Fin cfg0.N) (p : Fin 2) (f : Fin 512) (i : Fin 1024) :
    (((cfg0.win 6).blk t).view.emb (ix3 p f i : S2x512x1024.Idx) : S2x5632x2048.Idx) = ix3 p (hid t f) (tok t i) :=
  funext fun a => Fin.ext (by
    match a with
    | ⟨0, _⟩ => show win0_6.index t 0 * 2 + 1 * p.val = p.val; rw [(index0 t).2.2.2.2.2.2.1]; omega
    | ⟨1, _⟩ => show win0_6.index t 1 * 512 + 1 * f.val = 512 * (t.val % 11) + f.val; rw [(index0 t).2.2.2.2.2.2.2.1]; omega
    | ⟨2, _⟩ => show win0_6.index t 2 * 1024 + 1 * i.val = 1024 * (t.val / 11) + i.val; rw [(index0 t).2.2.2.2.2.2.2.2]; omega)

theorem final5 (c : Dev nD) : (dats m 0 c).arrAt 5 cfg0.N = G5 m c := by
  refine (dats m 0 c).arrAt_eq_of_cover 5 (G5 m c) (fun t ht => funext fun y => ?_) fun i => ?_
  · obtain ⟨a, b, rfl⟩ := exists_ix2 (a := 1024) (b := 2048) y
    rw [Value.flushed5, View.read_apply]
    have h10 : t.val % 11 = 10 := (flush0_5 t).mp ht
    refine (acc m c a b t.val t.isLt).trans (Eq.trans ?_ (congrArg (G5 m c) (emb5 t a b)).symm)
    rw [sum_blocks, h10]
    refine (sum_ext0 _).trans ?_
    exact Finset.sum_add_distrib
  · obtain ⟨a, b, rfl⟩ := exists_ix2 (a := 2048) (b := 2048) i
    obtain ⟨t, r, rfl, h⟩ := exists_tok a 10
    exact ⟨t, (flush0_5 t).mpr h, emb5 t r b ▸ View.emb_mem_set _ _⟩

theorem final6 (c : Dev nD) : (dats m 0 c).arrAt 6 cfg0.N = G6 m c := by
  refine (dats m 0 c).arrAt_eq_of_cover 6 (G6 m c) (fun t _ => funext fun y => ?_) fun i => ?_
  · rw [Value.flushed6, after6, View.read_apply]
    obtain ⟨p, f, i, rfl⟩ := exists_ix3 (a := 2) (b := 512) (d := 1024) y
    refine Eq.trans ?_ (congrArg (G6 m c) (emb6 t p f i)).symm
    show cots m c t (ix3 p f i) = _
    unfold cots G6
    refine ite_congr rfl (fun _ => ?_) (fun _ => ?_)
    · exact gate_apply m c t i f
    · exact up_apply m c t i f
  · obtain ⟨p, f, a, rfl⟩ := exists_ix3 (a := 2) (b := 5632) (d := 2048) i
    obtain ⟨t, r, rfl, h⟩ := exists_tok a ⟨f.val / 512, by have := f.isLt; omega⟩
    have hf : hid t ⟨f.val % 512, by omega⟩ = f :=
      Fin.ext (by show 512 * (t.val % 11) + f.val % 512 = f.val; rw [h]; dsimp only; omega)
    refine ⟨t, flush0_6 t, ?_⟩
    rw [← hf]
    exact emb6 t p _ r ▸ View.emb_mem_set _ _

end Cert.Kernel5Ideal.FfnValue
end
-- ==== Proof.FfnClaim.lean ====
/-
  The gated feed-forward's backward call against the chain rule: both results read element by element, and equal where
  the arguments are real numbers.
-/
module

public import proofs.«01_k».proof.Defs
public import proofs.«01_k».proof.Proof.FfnValue
public import proofs.«01_k».proof.Proof.Gen.Kernel5
public import proofs.«01_k».proof.Proof.Gen.Kernel5.Frame
public import proofs.«01_k».proof.Proof.Gen.Reference5Ideal.Read
public import Idealize.ShloMosaic.Lib.Quiescent

@[expose] public section

set_option maxRecDepth 16384

noncomputable section

open Idealize.ShloMosaic Idealize.ShloMosaic.TcCoe Idealize.SL.Sem
open Cert.Reals

namespace Cert.Reference5Ideal.FfnValue

open Cert.Reference5Ideal Cert.Reference5Ideal.Gen Cert.Reference5Ideal.Read
open Cert.Kernel5Ideal.FfnValue (lg dupOf dotRow lo hi half exists_ix2 exists_ix3)

variable (u : Vec Ideal S2048x2048 .f32) (w : Vec Ideal S2048x11264 .f32) (o : Vec Ideal S5632x2048 .f32)
  (f : Vec Ideal S2048x2048 .f32)

/-- The projected input. -/
def pre (i : Fin 2048) (h : Fin 11264) : EReal := ∑ x, u (ix2 i x) * w (ix2 x h)

theorem v1_apply (i : Fin 2048) (h : Fin 5632) : val_main_v1 (F := Ideal) u w (ix2 i h) = pre u w i (lo h) := by
  unfold pre lo
  pointwise! [
    val_main_v1, val_main_v0]

theorem v2_apply (i : Fin 2048) (h : Fin 5632) : val_main_v2 (F := Ideal) u w (ix2 i h) = pre u w i (hi h) := by
  unfold pre hi
  pointwise! [
    val_main_v2, val_main_v0]

theorem v3_2_apply (i : Fin 2048) (h : Fin 5632) : val_main_v3_2 (F := Ideal) u w (ix2 i h) = lg (pre u w i (lo h)) := by
  unfold lg
  rw [← v1_apply, zero_sub]
  pointwise! [
    val_main_v3_2, val_main_call0_v4, val_main_call0_cst_0, val_main_call0_v3, val_main_call0_v2, val_main_call0_cst,
    val_main_call0_v1, val_main_call0_v0]

theorem v6_apply (i : Fin 2048) (h : Fin 5632) : val_main_v6 (F := Ideal) o f (ix2 i h) = dotRow (fun x => f (ix2 i x)) (fun x => o (ix2 h x)) := by
  unfold dotRow
  pointwise! [
    val_main_v6]

/-- The chain rule through the gate, `h` the cotangent of the product. -/
def dgR (h g u : EReal) : EReal := h * u * lg g + g * (h * u) * (lg g * (1 - lg g))

theorem v9_apply (i : Fin 2048) (h : Fin 5632) : val_main_v9 (F := Ideal) u w o f (ix2 i h)
    = dgR (dotRow (fun x => f (ix2 i x)) (fun x => o (ix2 h x))) (pre u w i (lo h)) (pre u w i (hi h)) := by
  unfold dgR
  rw [← v6_apply, ← v3_2_apply, ← v1_apply, ← v2_apply]
  pointwise! [
    val_main_v9, val_main_call1_v2, val_main_call1_v1, val_main_call1_v0, val_main_v8, val_main_v3_1,
    val_main_call0_v7, val_main_call0_v6, val_main_call0_cst_1]

theorem v7_apply (i : Fin 2048) (h : Fin 5632) : val_main_v7 (F := Ideal) u w o f (ix2 i h)
    = dupOf (dotRow (fun x => f (ix2 i x)) (fun x => o (ix2 h x))) (pre u w i (lo h)) := by
  unfold dupOf
  rw [← v6_apply, ← v3_2_apply, ← v1_apply, mul_comm]
  pointwise! [
    val_main_v7, val_main_v3_0]

theorem v10_lo (i : Fin 2048) (h : Fin 5632) : val_main_v10 (F := Ideal) u w o f (ix2 i (lo h))
    = val_main_v9 (F := Ideal) u w o f (ix2 i h) := by
  unfold val_main_v10
  generalize val_main_v9 (F := Ideal) u w o f = a
  generalize val_main_v7 (F := Ideal) u w o f = b
  unfold lo
  pointwise!

theorem v10_hi (i : Fin 2048) (h : Fin 5632) : val_main_v10 (F := Ideal) u w o f (ix2 i (hi h))
    = val_main_v7 (F := Ideal) u w o f (ix2 i h) := by
  unfold val_main_v10
  generalize val_main_v9 (F := Ideal) u w o f = a
  generalize val_main_v7 (F := Ideal) u w o f = b
  unfold hi
  pointwise!

theorem v11_of (i j : Fin 2048) : val_main_v11 (F := Ideal) u w o f (ix2 i j)
    = ∑ h, val_main_v10 (F := Ideal) u w o f (ix2 i h) * w (ix2 j h) := by
  unfold val_main_v11
  generalize val_main_v10 (F := Ideal) u w o f = a
  pointwise!

/-- A sum over the stacked columns is one over each half. -/
theorem sum_halves (t : Fin 11264 → EReal) : (∑ h, t h) = (∑ h, t (lo h)) + ∑ h, t (hi h) :=
  Fin.sum_univ_add (a := 5632) (b := 5632) t

theorem v11_apply (i j : Fin 2048) : val_main_v11 (F := Ideal) u w o f (ix2 i j)
    = (∑ h, val_main_v9 (F := Ideal) u w o f (ix2 i h) * w (ix2 j (lo h)))
      + ∑ h, val_main_v7 (F := Ideal) u w o f (ix2 i h) * w (ix2 j (hi h)) := by
  rw [v11_of, sum_halves]
  simp only [v10_lo, v10_hi]

theorem v19_of0 (h : Fin 5632) (i : Fin 2048) : val_main_v19 (F := Ideal) u w o f (ix3 0 h i)
    = val_main_v10 (F := Ideal) u w o f (ix2 i (lo h)) := by
  unfold lo
  pointwise! [
    val_main_v19, val_main_v18, val_main_v17, val_main_v16, val_main_v15, val_main_v14, val_main_v13, val_main_v12]

theorem v19_of1 (h : Fin 5632) (i : Fin 2048) : val_main_v19 (F := Ideal) u w o f (ix3 1 h i)
    = val_main_v10 (F := Ideal) u w o f (ix2 i (hi h)) := by
  unfold hi
  pointwise! [
    val_main_v19, val_main_v18, val_main_v17, val_main_v16, val_main_v15, val_main_v14, val_main_v13, val_main_v12]

end Cert.Reference5Ideal.FfnValue

namespace Cert.FfnClaim

theorem pre_facts : Cert.Pre_ffn_finite.Facts where
  bcast_S_S2048x2048 := by decide
  bcast_S_S2048x11264 := by decide
  bcast_S_S5632x2048 := by decide

instance : Cert.Pre_ffn_finite.Facts := pre_facts

open Cert.Kernel5Ideal Cert.Kernel5Ideal.Gen Cert.Kernel5Ideal.FfnValue

variable (m : (ℓ : Loc nD τ sig) → Buf (Elt Ideal) ℓ)

/-- Under the precondition the arguments hold real numbers. -/
theorem reals (h : Cert.Pre_Kernel5Ideal_ffn_finite m) (c : Dev nD) :
    (∀ i k, ((aU m c (ix2 i k)).toReal : EReal) = aU m c (ix2 i k)) ∧ (∀ i k, ((aI m c (ix2 i k)).toReal : EReal) = aI m c (ix2 i k))
    ∧ (∀ i k, ((aO m c (ix2 i k)).toReal : EReal) = aO m c (ix2 i k)) ∧ (∀ i k, ((aF m c (ix2 i k)).toReal : EReal) = aF m c (ix2 i k)) := by
  obtain ⟨h0, h1, h2, h3⟩ := h c
  refine ⟨fun i j => ?_, fun i j => ?_, fun i j => ?_, fun i j => ?_⟩
  · have e := congrFun h0 (ix2 i j)
    dsimp only [Cert.Pre_ffn_finite.fn] at e
    pointwise at e
    exact real_of_lt e
  · have e := congrFun h1 (ix2 i j)
    dsimp only [Cert.Pre_ffn_finite.fn] at e
    pointwise at e
    exact real_of_lt e
  · have e := congrFun h2 (ix2 i j)
    dsimp only [Cert.Pre_ffn_finite.fn] at e
    pointwise at e
    exact real_of_lt e
  · have e := congrFun h3 (ix2 i j)
    dsimp only [Cert.Pre_ffn_finite.fn] at e
    pointwise at e
    exact real_of_lt e

open Cert.Reference5Ideal.Read
open Cert.Reference5Ideal.FfnValue (dgR v9_apply v7_apply v10_lo v10_hi v11_apply v19_of0 v19_of1)

/-- A sum of products of real numbers is one. -/
theorem sum_real {n : ℕ} (a b : Fin n → EReal) (ha : ∀ x, ((a x).toReal : EReal) = a x) (hb : ∀ x, ((b x).toReal : EReal) = b x) :
    ∃ r : ℝ, (∑ x, a x * b x) = (r : EReal) :=
  ⟨∑ x, (a x).toReal * (b x).toReal, by
    rw [← sum']
    exact Finset.sum_congr rfl fun x _ => by rw [← mul', ha, hb]⟩

theorem lg_coe (g : ℝ) : ∃ s : ℝ, lg (g : EReal) = (s : EReal) := by
  have h : (1 : ℝ) + Real.exp (0 - g) ≠ 0 := by positivity
  refine ⟨1 / (1 + Real.exp (0 - g)), ?_⟩
  unfold lg
  rw [← EReal.coe_one, ← EReal.coe_zero, sub', Ideal.exp_coe, add', div' _ h]

theorem dg_eq (h g u : ℝ) : dgOf (h : EReal) (g : EReal) (u : EReal) = dgR (h : EReal) (g : EReal) (u : EReal) := by
  obtain ⟨s, e⟩ := lg_coe g
  unfold dgOf dgR
  rw [e, ← EReal.coe_one]
  simp only [mul', sub', add']
  refine congrArg _ ?_
  ring

theorem gate_eq (hp : Cert.Pre_Kernel5Ideal_ffn_finite m) (c : Dev nD) (i : Fin 2048) (h : Fin 5632) :
    dGate m c i h = val_main_v9 (F := Ideal) (aU m c) (aI m c) (aO m c) (aF m c) (ix2 i h) := by
  obtain ⟨hU, hI, hO, hF⟩ := reals m hp c
  obtain ⟨d, ed⟩ := sum_real (fun x => aF m c (ix2 i x)) (fun x => aO m c (ix2 h x)) (hF i) (hO h)
  obtain ⟨g, eg⟩ := sum_real (fun x => aU m c (ix2 i x)) (fun x => aI m c (ix2 x (lo h))) (hU i) (fun x => hI x _)
  obtain ⟨v, ev⟩ := sum_real (fun x => aU m c (ix2 i x)) (fun x => aI m c (ix2 x (hi h))) (hU i) (fun x => hI x _)
  refine Eq.trans ?_ (v9_apply _ _ _ _ i h).symm
  unfold dGate dh pre Cert.Reference5Ideal.FfnValue.pre dotRow
  rw [ed, eg, ev]
  exact dg_eq d g v

theorem up_eq (c : Dev nD) (i : Fin 2048) (h : Fin 5632) :
    dUp m c i h = val_main_v7 (F := Ideal) (aU m c) (aI m c) (aO m c) (aF m c) (ix2 i h) := (v7_apply _ _ _ _ i h).symm

theorem result0 (hp : Cert.Pre_Kernel5Ideal_ffn_finite m) (c : Dev nD) :
    G5 m c = val_main_v11 (F := Ideal) (aU m c) (aI m c) (aO m c) (aF m c) := by
  funext y
  obtain ⟨a, b, rfl⟩ := exists_ix2 (a := 2048) (b := 2048) y
  refine Eq.trans ?_ (v11_apply _ _ _ _ a b).symm
  exact congrArg₂ _ (Finset.sum_congr rfl fun h _ => congrArg (· * _) (gate_eq m hp c a h))
    (Finset.sum_congr rfl fun h _ => congrArg (· * _) (up_eq m c a h))

theorem result1 (hp : Cert.Pre_Kernel5Ideal_ffn_finite m) (c : Dev nD) :
    G6 m c = val_main_v19 (F := Ideal) (aU m c) (aI m c) (aO m c) (aF m c) := by
  funext y
  obtain ⟨p, f, i, rfl⟩ := exists_ix3 (a := 2) (b := 5632) (d := 2048) y
  match p with
  | ⟨0, _⟩ => exact (gate_eq m hp c i f).trans ((v19_of0 _ _ _ _ f i).trans (v10_lo _ _ _ _ i f)).symm
  | ⟨1, _⟩ => exact (up_eq m c i f).trans ((v19_of1 _ _ _ _ f i).trans (v10_hi _ _ _ _ i f)).symm

/-- The reference's frame: its run read at the arguments; it declares no semaphore. -/
theorem reference_frame : Cert.quiescent_Reference5Ideal := fun m ρ _ =>
  (θ_run (Cert.Reference5Ideal.defs (F := Ideal)) _ _).mono (fun r h => And.intro (fun c => (h c).2.2)
    (Idealize.ShloMosaic.sem_eq_zero_of_no_sems (by decide) r.2)) (Cert.Reference5Ideal.Value.run (F := Ideal) m ρ)

theorem congr4 {α β γ δ ε : Type*} (g : α → β → γ → δ → ε) {a a' b b' c c' d d'} (ha : a = a') (hb : b = b') (hc : c = c')
    (hd : d = d') : g a b c d = g a' b' c' d' := by rw [ha, hb, hc, hd]

theorem algebraic : Cert.algebraic_Kernel5Ideal_Reference5Ideal_pre_ffn_finite := by
  intro m ρ m' ρ' hpre hag
  refine ⟨fun c => G5 m c, fun c => G6 m c, ?_, ?_⟩
  · refine (θ_run Cert.Kernel5Ideal.defs _ _).mono (fun r h c => ?_) (Cert.Kernel5Ideal.Value.run_blocks m ρ)
    obtain ⟨h0, h1, ha⟩ := h c
    exact ⟨h0.trans (final5 m c), h1.trans (final6 m c), ha⟩
  · refine (θ_run Cert.Reference5Ideal.defs _ _).mono (fun r h c => ?_) (Cert.Reference5Ideal.Value.run (F := Ideal) m' ρ')
    obtain ⟨h0, h1, ha⟩ := h c
    obtain ⟨e0, e1, e2, e3⟩ := hag c
    refine ⟨h0.trans ?_, h1.trans ?_, ha⟩
    · exact (val_main_v11_eq _ _ _ _).trans ((congr4 _ e0 e1 e2 e3).trans (result0 m hpre c).symm)
    · exact (val_main_v19_eq _ _).trans ((congr4 _ e0 e1 e2 e3).trans (result1 m hpre c).symm)

end Cert.FfnClaim

end
-- ==== Proof.AttnFwdTrip.lean ====
/-
  The attention's forward call: what one block of queries stores, and what the whole loop leaves in its output.
-/
module
public import proofs.«01_k».proof.Proof.Gen.Kernel6Ideal.Value
public import proofs.«01_k».proof.Proof.AttnBuf
@[expose] public section
set_option maxRecDepth 16384
noncomputable section
open Idealize.ShloMosaic Idealize.ShloMosaic.TcCoe Idealize.ShloMosaic.Tactic
namespace Cert.Attn.Data

/-- The attention's own result: the values weighed by the probabilities. -/
def out (D : Data) (h : Fin 16) (t : Fin 2048) (d : Fin 64) : ℝ := ∑ y, D.pr h t y * D.v y h d

end Cert.Attn.Data

namespace Cert.Kernel6Ideal.AttnFwdTrip
open Cert.Kernel6Ideal Cert.Kernel6Ideal.Gen
open Cert.Attn Cert.Reals
open Cert.Kernel2Ideal.AttnPay Cert.Kernel2Ideal.AttnTrip Cert.Kernel2Ideal.AttnBuf

theorem pay4_apply (P : FVec Ideal S256x768 .bf16) (v : Vec Ideal S768x64 .bf16) (x : Fin 256) (d : Fin 64) :
    k0_pay4 (F := Ideal) P v (constant S256x64 .f32 0x00000000#32) (ix2 x d) = ∑ j, P (ix2 x j) * v (ix2 j d) := by
  pointwise [k0_pay4]

/-- The block's rows of the result. -/
theorem out_sum (D : Data) (h : Fin 16) (m : Fin 8) {P : FVec Ideal S256x768 .bf16} {v : Vec Ideal S768x64 .bf16}
    (hP : ∀ x j, P (ix2 x j) = (D.pr h (qu m x) (ke m j) : EReal)) (hv : ∀ j d, v (ix2 j d) = (D.v (ke m j) h d : EReal))
    (x : Fin 256) (d : Fin 64) : k0_pay4 (F := Ideal) P v (constant S256x64 .f32 0x00000000#32) (ix2 x d) = (D.out h (qu m x) d : EReal) := by
  rw [pay4_apply]
  simp only [hP, hv, mul', sum']
  exact congrArg _ (sum_keys m x (fun y => D.pr h (qu m x) y * D.v y h d) fun y hy => by rw [D.pr_outside h hy, zero_mul])

variable {arg4 : Memref sig .tc .vmem S2x17x64x128 .f32} {arg6 arg7 : Memref sig .tc .vmem S2048x128 .bf16}
  {arg8 : Memref sig .tc .vmem S16x128x128 .bf16}
  {X4 : BufTy.Contents (Elt Ideal) arg4.view.ty} {X6 : BufTy.Contents (Elt Ideal) arg6.view.ty}
  {X7 : BufTy.Contents (Elt Ideal) arg7.view.ty} {X8 : BufTy.Contents (Elt Ideal) arg8.view.ty}
  {D : Data} {hd : Fin 2 → Fin 16} (k : Fin k0_t1_loop.trips)
  (HT : Tabs arg4 X4 hd D) (Hq : Rows arg6 X6 hd D.q) (Hv : Rows arg7 X7 hd D.v) (HK : Cols arg8 X8 hd D.k)

include HT in
theorem tables0 (x : Fin 256) (j : Fin 768) :
    trip_k0_t1.sl.v743 (F := Ideal) arg4 X4 k (ix2 x j) = biasAt D (hd 0) (qu (k8 k) x) (ke (k8 k) j) := by
  unfold trip_k0_t1.sl.v743
  refine cat4 (fun x j => biasAt D (hd 0) (qu (k8 k) x) (ke (k8 k) j)) _ ?_ ?_ ?_ ?_ x j
  · exact cat6 (fun c j => biasAt D (hd 0) (qu (k8 k) ⟨64 * (0 : Fin 4).val + c.val, by omega⟩) (ke (k8 k) j)) _ (leaf0 k HT 0 0 _ _)
      (leaf0 k HT 0 1 _ _) (leaf0 k HT 0 2 _ _) (leaf0 k HT 0 3 _ _) (leaf0 k HT 0 4 _ _) (leaf0 k HT 0 5 _ _)
  · exact cat6 (fun c j => biasAt D (hd 0) (qu (k8 k) ⟨64 * (1 : Fin 4).val + c.val, by omega⟩) (ke (k8 k) j)) _ (leaf0 k HT 1 0 _ _)
      (leaf0 k HT 1 1 _ _) (leaf0 k HT 1 2 _ _) (leaf0 k HT 1 3 _ _) (leaf0 k HT 1 4 _ _) (leaf0 k HT 1 5 _ _)
  · exact cat6 (fun c j => biasAt D (hd 0) (qu (k8 k) ⟨64 * (2 : Fin 4).val + c.val, by omega⟩) (ke (k8 k) j)) _ (leaf0 k HT 2 0 _ _)
      (leaf0 k HT 2 1 _ _) (leaf0 k HT 2 2 _ _) (leaf0 k HT 2 3 _ _) (leaf0 k HT 2 4 _ _) (leaf0 k HT 2 5 _ _)
  · exact cat6 (fun c j => biasAt D (hd 0) (qu (k8 k) ⟨64 * (3 : Fin 4).val + c.val, by omega⟩) (ke (k8 k) j)) _ (leaf0 k HT 3 0 _ _)
      (leaf0 k HT 3 1 _ _) (leaf0 k HT 3 2 _ _) (leaf0 k HT 3 3 _ _) (leaf0 k HT 3 4 _ _) (leaf0 k HT 3 5 _ _)

include HT in
theorem tables1 (x : Fin 256) (j : Fin 768) :
    trip_k0_t1.sl.v1443 (F := Ideal) arg4 X4 k (ix2 x j) = biasAt D (hd 1) (qu (k8 k) x) (ke (k8 k) j) := by
  unfold trip_k0_t1.sl.v1443
  refine cat4 (fun x j => biasAt D (hd 1) (qu (k8 k) x) (ke (k8 k) j)) _ ?_ ?_ ?_ ?_ x j
  · exact cat6 (fun c j => biasAt D (hd 1) (qu (k8 k) ⟨64 * (0 : Fin 4).val + c.val, by omega⟩) (ke (k8 k) j)) _ (leaf1 k HT 0 0 _ _)
      (leaf1 k HT 0 1 _ _) (leaf1 k HT 0 2 _ _) (leaf1 k HT 0 3 _ _) (leaf1 k HT 0 4 _ _) (leaf1 k HT 0 5 _ _)
  · exact cat6 (fun c j => biasAt D (hd 1) (qu (k8 k) ⟨64 * (1 : Fin 4).val + c.val, by omega⟩) (ke (k8 k) j)) _ (leaf1 k HT 1 0 _ _)
      (leaf1 k HT 1 1 _ _) (leaf1 k HT 1 2 _ _) (leaf1 k HT 1 3 _ _) (leaf1 k HT 1 4 _ _) (leaf1 k HT 1 5 _ _)
  · exact cat6 (fun c j => biasAt D (hd 1) (qu (k8 k) ⟨64 * (2 : Fin 4).val + c.val, by omega⟩) (ke (k8 k) j)) _ (leaf1 k HT 2 0 _ _)
      (leaf1 k HT 2 1 _ _) (leaf1 k HT 2 2 _ _) (leaf1 k HT 2 3 _ _) (leaf1 k HT 2 4 _ _) (leaf1 k HT 2 5 _ _)
  · exact cat6 (fun c j => biasAt D (hd 1) (qu (k8 k) ⟨64 * (3 : Fin 4).val + c.val, by omega⟩) (ke (k8 k) j)) _ (leaf1 k HT 3 0 _ _)
      (leaf1 k HT 3 1 _ _) (leaf1 k HT 3 2 _ _) (leaf1 k HT 3 3 _ _) (leaf1 k HT 3 4 _ _) (leaf1 k HT 3 5 _ _)

/-- The second head's probabilities are the first head's computation. -/
theorem pay31_eq (T : FVec Ideal S256x768 .f32) (q : Vec Ideal S256x64 .bf16) (a0 a1 a2 a3 a4 a5 : Vec Ideal S1x64x128 .bf16) :
    k0_pay31 (F := Ideal) T q a0 a1 a2 a3 a4 a5 = Cert.Kernel2Ideal.Gen.k0_pay20 (F := Ideal) T q (shapeCast S64x128 a0 (by decide)) (shapeCast S64x128 a1 (by decide))
      (shapeCast S64x128 a2 (by decide)) (shapeCast S64x128 a3 (by decide)) (shapeCast S64x128 a4 (by decide)) a5 := rfl

theorem pay21_eq (T : FVec Ideal S256x768 .f32) (q : Vec Ideal S256x64 .bf16) (a0 a1 a2 a3 a4 : FVec Ideal S64x128 .bf16) (a5 : Vec Ideal S1x64x128 .bf16)
    (v : Vec Ideal S768x64 .bf16) : k0_pay21 (F := Ideal) T q a0 a1 a2 a3 a4 a5 v
      = k0_pay4 (F := Ideal) (Cert.Kernel2Ideal.Gen.k0_pay20 (F := Ideal) T q a0 a1 a2 a3 a4 a5) v (constant S256x64 .f32 0x00000000#32) := rfl

include HT Hq Hv HK

theorem out0 (x : Fin 256) (d : Fin 64) (inb5 inb4) :
    k0_pay21 (F := Ideal) (trip_k0_t1.sl.v743 arg4 X4 k) (trip_k0_t1.sl.r arg6 X6 k) (trip_k0_t1.sl.v766 arg8 X8 k)
      (trip_k0_t1.sl.v770 arg8 X8 k) (trip_k0_t1.sl.v774 arg8 X8 k) (trip_k0_t1.sl.v778 arg8 X8 k) (trip_k0_t1.sl.v782 arg8 X8 k)
      (View.readAt (Elt Ideal) arg8.view (Rect.unit (s := S16x128x128) (k0_off3 k 5#32) S1x64x128.size inb5).toLoadRect X8)
      (View.readAt (Elt Ideal) arg7.view (Rect.unit (s := S2048x128) (k0_off4 k) S768x64.size inb4).toLoadRect X7) (ix2 x d)
      = (D.out (hd 0) (qu (k8 k) x) d : EReal) := by
  rw [pay21_eq]
  exact out_sum D (hd 0) (k8 k) (p0 D (hd 0) (k8 k) (tables0 k HT) (isQ0 k Hq) (holds0 k HK)) (rows0 k Hv) x d

theorem out1 (x : Fin 256) (d : Fin 64) :
    k0_pay4 (F := Ideal) (trip_k0_t1.sl.r_2 arg4 arg6 arg8 X4 X6 X8 k) (trip_k0_t1.sl.r_3 arg7 X7 k) trip_k0_t1.sl.cst_983 (ix2 x d)
      = (D.out (hd 1) (qu (k8 k) x) d : EReal) := by
  unfold trip_k0_t1.sl.r_2
  rw [pay31_eq]
  exact out_sum D (hd 1) (k8 k) (p0 D (hd 1) (k8 k) (tables1 k HT) (isQ1 k Hq) (holds1 k HK)) (rows1 k Hv) x d

/-- What the block of rows holds in the end. -/
def left (D : Data) (hd : Fin 2 → Fin 16) : Vec Ideal S2048x128 .f32 := fun y =>
  (D.out (hd ⟨(y 1).val / 64, by have : (y 1).val < 128 := (y 1).isLt; omega⟩) (y 0) ⟨(y 1).val % 64, by omega⟩ : EReal)

omit HT Hq Hv HK in
theorem left_apply (t : Fin 2048) (s : Fin 2) (d : Fin 64) : left D hd (ix2 t (lan s d)) = (D.out (hd s) t d : EReal) := by
  have h1 : (⟨(lan s d).val / 64, by omega⟩ : Fin 2) = s := Fin.ext (by show (64 * s.val + d.val) / 64 = s.val; omega)
  have h2 : (⟨(lan s d).val % 64, by omega⟩ : Fin 64) = d := Fin.ext (by show (64 * s.val + d.val) % 64 = d.val; omega)
  show (D.out (hd ⟨(lan s d).val / 64, by omega⟩) t ⟨(lan s d).val % 64, by omega⟩ : EReal) = _
  rw [h1, h2]

omit HT Hq Hv HK in
theorem emb_eq {off off' : Fin 2 → ℕ} (inb : ∀ a, off a + S256x64.size a ≤ S2048x128.size a) (h : off = off') (x : Fin 256) (d : Fin 64) (t : Fin 2048) (s : Fin 2)
    (h0 : t.val = off' 0 + x.val) (h1 : (lan s d).val = off' 1 + d.val) :
    ((Rect.unit (s := S2048x128) off S256x64.size inb).emb (ix2 x d : S256x64.Idx) : S2048x128.Idx) = ix2 t (lan s d) := by
  subst h
  refine funext fun a => Fin.ext ?_
  match a with
  | ⟨0, _⟩ => show off 0 + 1 * x.val = t.val; omega
  | ⟨1, _⟩ => show off 1 + 1 * d.val = (lan s d).val; omega

variable (𝒱 : Variants) (c : Dev nD) (bd : Option 𝒱.V) (i : grid0.Coords)
    (arg1 : Memref sig .tc .vmem S2048x128 .f32) (harg1 : arg1.IsWhole)
    (arg2 : Memref sig .tc .vmem S2048x128 .f32) (harg2 : arg2.IsWhole)
    (arg3 : Memref sig .tc .vmem S2048x128 .f32) (harg3 : arg3.IsWhole) (harg4 : arg4.IsWhole)
    (arg5 : Memref sig .tc .vmem S2048x128 .f32) (harg5 : arg5.IsWhole)
    (harg6 : arg6.IsWhole) (harg7 : arg7.IsWhole) (harg8 : arg8.IsWhole)

/-- One trip stores the two heads' rows of the block. -/
theorem pieces : ∀ p ∈ tripL_k0_t1 (F := Ideal) 𝒱 c bd i arg1 harg1 arg2 harg2 arg3 harg3 arg4 harg4 arg5 harg5 arg6 harg6 arg7 harg7 arg8 harg8 X4 X6 X7 X8 k,
    ∀ x : p.1.shape.Idx, p.2 x = left D hd (p.1.emb x) := by
  unfold tripL_k0_t1 trip_k0_t1
  intro p hp
  rcases List.mem_cons.mp hp with rfl | hp
  · intro x
    obtain ⟨a, b, rfl⟩ := (⟨x 0, x 1, eq_ix2 x⟩ : ∃ (a : Fin 256) (b : Fin 64), x = ix2 a b)
    refine (out1 k HT Hq Hv HK a b).trans ?_
    refine (left_apply (D := D) (hd := hd) (qu (k8 k) a) 1 b).symm.trans (congrArg (left D hd) (emb_eq (Cert.Kernel2Ideal.Gen.k0_off6_inb k) (Cert.Kernel2Ideal.Gen.k0_off6_eq k) a b _ 1 rfl rfl).symm)
  · obtain rfl := List.mem_singleton.mp hp
    intro x
    obtain ⟨a, b, rfl⟩ := (⟨x 0, x 1, eq_ix2 x⟩ : ∃ (a : Fin 256) (b : Fin 64), x = ix2 a b)
    refine (out0 k HT Hq Hv HK a b _ _).trans ?_
    refine (left_apply (D := D) (hd := hd) (qu (k8 k) a) 0 b).symm.trans (congrArg (left D hd) (emb_eq (Cert.Kernel2Ideal.Gen.k0_off2_inb k) (Cert.Kernel2Ideal.Gen.k0_off2_eq k) a b _ 0 rfl rfl).symm)

theorem all_pieces : ∀ n : ℕ, n ≤ k0_t1_loop.trips → ∀ p ∈ pb_k0_t1 (F := Ideal) 𝒱 c bd i arg1 harg1 arg2 harg2 arg3 harg3 arg4 harg4 arg5 harg5 arg6 harg6 arg7 harg7 arg8 harg8 X4 X6 X7 X8 n,
    ∀ x : p.1.shape.Idx, p.2 x = left D hd (p.1.emb x)
  | 0, _, p, hp => by rw [pb_k0_t1] at hp; exact absurd hp List.not_mem_nil
  | n + 1, hn, p, hp => by
    rw [pb_k0_t1_succ (k := ⟨n, hn⟩)] at hp
    rcases List.mem_append.mp hp with h | h
    · exact pieces ⟨n, hn⟩ HT Hq Hv HK 𝒱 c bd i arg1 harg1 arg2 harg2 arg3 harg3 harg4 arg5 harg5 harg6 harg7 harg8 p h
    · exact all_pieces n (Nat.le_of_succ_le hn) p h

end Cert.Kernel6Ideal.AttnFwdTrip
-- ==== Proof.AttnFwdValue.lean ====
/-
  The attention's forward call: what its result array ends holding, against the reference's own value.
-/
module
public import proofs.«01_k».proof.Proof.AttnFwdTrip
public import proofs.«01_k».proof.Proof.AttnValue
public import proofs.«01_k».proof.Proof.Gen.Reference6Ideal.Read
@[expose] public section
set_option maxRecDepth 16384
noncomputable section
open Idealize.ShloMosaic Idealize.ShloMosaic.TcCoe Idealize.ShloMosaic.Tactic

namespace Cert.Reference6Ideal.AttnFwdRef
open Cert.Reference6Ideal Cert.Reference6Ideal.Read
open Cert.Attn Cert.Reals
open Cert.Reference2Ideal.AttnRef

/-- The forward call reads no cotangent. -/
abbrev none3 : Vec Ideal S2048x1024 .f32 := fun _ => 0

variable {p : Vec Ideal S2048x5120 .f32} {rpb : Vec Ideal S16x15x31 .f32} (h : Fin 16) (t y : Fin 2048) (d : Fin 64)

theorem v79_eq : val_main_v79 (F := Ideal) p rpb = Cert.Reference2Ideal.Read.val_main_v79 (F := Ideal) p rpb := rfl
theorem v81_eq : val_main_v81 (F := Ideal) p rpb = Cert.Reference2Ideal.Read.val_main_v81_0 (F := Ideal) p rpb := by
  unfold val_main_v81 Cert.Reference2Ideal.Read.val_main_v81_0
  rw [v79_eq]
  rfl
theorem v88_eq : val_main_v88 (F := Ideal) p rpb = Cert.Reference2Ideal.Read.val_main_v102 (F := Ideal) p rpb := by
  unfold val_main_v88 val_main_v87 val_main_v86 val_main_v85 val_main_v84 val_main_v82
    Cert.Reference2Ideal.Read.val_main_v102 Cert.Reference2Ideal.Read.val_main_v101 Cert.Reference2Ideal.Read.val_main_v100
    Cert.Reference2Ideal.Read.val_main_v99 Cert.Reference2Ideal.Read.val_main_v89 Cert.Reference2Ideal.Read.val_main_v82
  rw [v81_eq]
  rfl
theorem v92_eq : val_main_v92 (F := Ideal) p rpb = Cert.Reference2Ideal.Read.val_main_v106 (F := Ideal) p rpb := by
  unfold val_main_v92 val_main_v91 val_main_v90 val_main_v89
    Cert.Reference2Ideal.Read.val_main_v106 Cert.Reference2Ideal.Read.val_main_v105 Cert.Reference2Ideal.Read.val_main_v104
    Cert.Reference2Ideal.Read.val_main_v103
  rw [v88_eq]
  rfl
theorem v5_eq : val_main_v5 (F := Ideal) p = Cert.Reference2Ideal.Read.val_main_v5 (F := Ideal) p := rfl

theorem v95_apply : val_main_v95 (F := Ideal) p rpb (ix2 t (lane h d)) = val_main_v94 (F := Ideal) p rpb (ix3 t h d) := by
  unfold val_main_v95 lane
  generalize val_main_v94 (F := Ideal) p rpb = a
  pointwise!

theorem v94_apply : val_main_v94 (F := Ideal) p rpb (ix3 t h d)
    = ∑ y, val_main_v5 (F := Ideal) p (ix3 y h d) * val_main_v92 (F := Ideal) p rpb (ix3 h t y) := by
  unfold val_main_v94 val_main_v93
  generalize val_main_v92 (F := Ideal) p rpb = a
  generalize val_main_v5 (F := Ideal) p = b
  pointwise!

theorem v95_coe (H : Real p rpb none3) : val_main_v95 (F := Ideal) p rpb (ix2 t (lane h d)) = ((dat p rpb none3).out h t d : EReal) := by
  rw [v95_apply, v94_apply, v92_eq, v5_eq]
  simp only [v106_coe (H := H), v5_coe (H := H), mul', sum']
  exact congrArg _ (Finset.sum_congr rfl fun y _ => mul_comm _ _)

end Cert.Reference6Ideal.AttnFwdRef

namespace Cert.Kernel6Ideal.AttnFwdValue
open Cert.Kernel6Ideal Cert.Kernel6Ideal.Gen
open Cert.Attn Cert.Reals
open Cert.Kernel2Ideal.AttnTables Cert.Kernel2Ideal.AttnEntries Cert.Kernel2Ideal.AttnPay Cert.Kernel2Ideal.AttnTrip Cert.Kernel2Ideal.AttnBuf
open Cert.Reference2Ideal.AttnRef Cert.Reference6Ideal.Read Cert.Reference6Ideal.AttnFwdRef AttnFwdTrip
open Cert.Kernel2Ideal.AttnValue (lan_val lane_val col_val exists_ix2 exists_lan)

section
variable {F : FTy → Type} [FloatOps F] (m : (ℓ : Loc nD τ sig) → Buf (Elt F) ℓ)

set_option maxHeartbeats 4000000 in
theorem V_main_v46 (c : Dev nD) : V m c main_v46 = tabs (byRow (m ((c : Thread nD τ).loc main_arg1))) := by
  unfold_abbrev_sides
  after_reads_simp
  unfold tabs
  refine concat_four (F := F) (e := .f32) (s1 := S16x14x64x128) (s2 := S16x1x64x128) (s3 := S16x1x64x128) (s4 := S16x1x64x128) 1 _ ?_ ?_ ?_ ?_
  · change StableHlo.upto _ _ 71 (Proc.tc.devRef main_v40) = _
    after_reads_simp
    refine concat_two (F := F) (e := .f32) (s1 := S16x14x64x64) (s2 := S16x14x64x64) 3 _ ?_ ?_
    · change StableHlo.upto _ _ _ (Proc.tc.devRef main_v38) = _
      after_reads_simp
      rfl
    · change StableHlo.upto _ _ _ (Proc.tc.devRef main_v39) = _
      after_reads_simp
      rfl
  · change StableHlo.upto _ _ 71 (Proc.tc.devRef main_v42) = _
    after_reads_simp
    refine concat_two (F := F) (e := .f32) (s1 := S16x1x64x64) (s2 := S16x1x64x64) 3 _ ?_ ?_
    · change StableHlo.upto _ _ _ (Proc.tc.devRef main_v37) = _
      after_reads_simp
      rfl
    · change StableHlo.upto _ _ _ (Proc.tc.devRef main_v41) = _
      after_reads_simp
      rfl
  · change StableHlo.upto _ _ 71 (Proc.tc.devRef main_v44) = _
    after_reads_simp
    refine concat_two (F := F) (e := .f32) (s1 := S16x1x64x64) (s2 := S16x1x64x64) 3 _ ?_ ?_
    · change StableHlo.upto _ _ _ (Proc.tc.devRef main_v43) = _
      after_reads_simp
      rfl
    · change StableHlo.upto _ _ _ (Proc.tc.devRef main_v37) = _
      after_reads_simp
      rfl
  · change StableHlo.upto _ _ 71 (Proc.tc.devRef main_v45) = _
    after_reads_simp
    refine concat_two (F := F) (e := .f32) (s1 := S16x1x64x64) (s2 := S16x1x64x64) 3 _ ?_ ?_
    · change StableHlo.upto _ _ _ (Proc.tc.devRef main_v37) = _
      after_reads_simp
      rfl
    · change StableHlo.upto _ _ _ (Proc.tc.devRef main_v37) = _
      after_reads_simp
      rfl

end

section
variable {hd : Fin 2 → Fin 16} {g : Fin 2048 → Fin 16 → Fin 64 → ℝ} (c : Dev nD)

theorem pay32_apply (v : Vec Ideal S2048x128 .f32) (t : Fin 2048) (j : Fin 128) : k0_pay32 v (ix2 t j) = v (ix2 t j) := by
  pointwise [k0_pay32]

theorem rows6 (a1 : Memref sig .tc .vmem S2048x128 .f32) (k1 : a1.IsWhole) (x1 : Vec Ideal S2048x128 .f32)
    (a6 : Memref sig .tc .vmem S2048x128 .bf16) (h : ∀ t s d, x1 (ix2 t (lan s d)) = (g t (hd s) d : EReal)) :
    Rows a6 (a6.view.writes (Elt Ideal) a6.view.junk (kernelRun0_A.sl.HS0_1 c a1 k1 x1)) hd g := fun t s d =>
  (put_full a6 _ _ _ _ _).trans ((pay32_apply _ _ _).trans ((load_whole k1 x1 _ rfl _ _
    (Fin.forall_fin_two.mpr ⟨(Nat.zero_add _).symm, (Nat.zero_add _).symm⟩)).trans (h t s d)))

theorem rows7 (a3 : Memref sig .tc .vmem S2048x128 .f32) (k3 : a3.IsWhole) (x3 : Vec Ideal S2048x128 .f32)
    (a7 : Memref sig .tc .vmem S2048x128 .bf16) (h : ∀ t s d, x3 (ix2 t (lan s d)) = (g t (hd s) d : EReal)) :
    Rows a7 (a7.view.writes (Elt Ideal) a7.view.junk (kernelRun0_A.sl.HS1_1 c a3 k3 x3)) hd g := fun t s d =>
  (put_full a7 _ _ _ _ _).trans ((pay32_apply _ _ _).trans ((load_whole k3 x3 _ rfl _ _
    (Fin.forall_fin_two.mpr ⟨(Nat.zero_add _).symm, (Nat.zero_add _).symm⟩)).trans (h t s d)))

theorem cols8 (a2 : Memref sig .tc .vmem S2048x128 .f32) (k2 : a2.IsWhole) (x2 : Vec Ideal S2048x128 .f32)
    (a8 : Memref sig .tc .vmem S16x128x128 .bf16) (h : ∀ t s d, x2 (ix2 t (lan s d)) = (g t (hd s) d : EReal)) :
    Cols a8 (a8.view.writes (Elt Ideal) a8.view.junk (kernelRun0_A.sl.HS2_16 c a2 k2 x2)) hd g := fun n s d l => by
  refine Eq.trans ?_ (h _ s d)
  have hn := n.isLt
  revert hn
  generalize lan s d = j
  refine fun hn => put_plane a8 a8.view.junk 15 _ _ _ (blocks x2) ?_ (plane k2 x2 _ 15 rfl) n j l hn
  iterate 15 refine fun k a b hk => put_plane a8 a8.view.junk _ _ _ _ (blocks x2) ?_ (plane k2 x2 _ _ rfl) k a b hk
  exact fun _ _ _ h => absurd h (Nat.not_lt_zero _)

theorem canon_eq {s : Shape} {e : EltTy} {L : List (View.Piece (Elt Ideal) s e)} (G : s.Idx → Elt Ideal e)
    (hc : ∀ y : s.Idx, ∃ p ∈ L, y ∈ p.1.set) (hL : ∀ p ∈ L, ∀ x : p.1.shape.Idx, p.2 x = G (p.1.emb x)) : View.canon L = G :=
  funext fun y => View.canon_apply_of_pieces G L hL y (hc y)

/-- What the windows' blocks hold. -/
structure In (hd : Fin 2 → Fin 16) (D : Data) (x0 x1 x2 : Vec Ideal S2048x128 .f32) (x3 : Vec Ideal S2x17x64x128 .f32) : Prop where
  q : ∀ i s d, x0 (ix2 i (lan s d)) = (D.q i (hd s) d : EReal)
  k : ∀ i s d, x1 (ix2 i (lan s d)) = (D.k i (hd s) d : EReal)
  v : ∀ i s d, x2 (ix2 i (lan s d)) = (D.v i (hd s) d : EReal)
  b : ∀ (s : Fin 2) (k : Fin 8) (i : Fin 4) (g : Fin 6) (c : Fin 64) (l : Fin 128),
      x3 (ix4 s ⟨entOf k.val i.val g.val, entOf_lt k i g⟩ c l)
        = biasAt D (hd s) (qu k ⟨64 * i.val + c.val, by omega⟩) (ke k ⟨128 * g.val + l.val, by omega⟩)

theorem o4_eq {D : Data} {x0 x1 x2 : Vec Ideal S2048x128 .f32} {x3 : Vec Ideal S2x17x64x128 .f32} (h : In hd D x0 x1 x2 x3) (i : grid0.Coords)
    (a1 : Memref sig .tc .vmem S2048x128 .f32) (k1 : a1.IsWhole) (a2 : Memref sig .tc .vmem S2048x128 .f32) (k2 : a2.IsWhole)
    (a3 : Memref sig .tc .vmem S2048x128 .f32) (k3 : a3.IsWhole) (a4 : Memref sig .tc .vmem S2x17x64x128 .f32) (k4 : a4.IsWhole)
    (a5 : Memref sig .tc .vmem S2048x128 .f32) (k5 : a5.IsWhole) (a6 : Memref sig .tc .vmem S2048x128 .bf16) (k6 : a6.IsWhole)
    (a7 : Memref sig .tc .vmem S2048x128 .bf16) (k7 : a7.IsWhole) (a8 : Memref sig .tc .vmem S16x128x128 .bf16) (k8 : a8.IsWhole) :
    out0_A_4 (F := Ideal) c i a1 k1 a2 k2 a3 k3 a4 k4 a5 k5 a6 k6 a7 k7 a8 k8 x0 x1 x2 x3 = left D hd := by
  unfold out0_A_4
  rw [View.read_writes_eq_canon _ _ _ (fun y => cover0_A_4 c i a1 k1 a2 k2 a3 k3 a4 k4 a5 k5 a6 k6 a7 k7 a8 k8 x0 x1 x2 x3 y)]
  rw [canon_eq (left D hd) (fun y => cover0_A_4 c i a1 k1 a2 k2 a3 k3 a4 k4 a5 k5 a6 k6 a7 k7 a8 k8 x0 x1 x2 x3 y)]
  unfold kernelRun0_A
  exact all_pieces (tabs4 a4 k4 x3 h.b) (rows6 c a1 k1 x0 a6 h.q) (rows7 c a3 k3 x2 a7 h.v) (cols8 c a2 k2 x1 a8 h.k)
    Variants.none c none i a1 k1 a2 k2 a3 k3 k4 a5 k5 k6 k7 k8 _ le_rfl

end

variable (m : (ℓ : Loc nD τ sig) → Buf (Elt Ideal) ℓ)

/-- The two arguments on device `c`. -/
abbrev aP (c : Dev nD) : Vec Ideal S2048x5120 .f32 := m ((c : Thread nD τ).loc main_arg0)
abbrev aR (c : Dev nD) : Vec Ideal S16x15x31 .f32 := m ((c : Thread nD τ).loc main_arg1)

/-- Block `t`'s heads. -/
def hd (t : Fin cfg0.N) (s : Fin 2) : Fin 16 := ⟨2 * t.val + s.val, by have : cfg0.N = 8 := N_0; omega⟩

theorem index0 : ∀ t : Fin cfg0.N, (win0_0.index t 0 = 0 ∧ win0_0.index t 1 = 16 + t.val)
    ∧ (win0_1.index t 0 = 0 ∧ win0_1.index t 1 = 24 + t.val) ∧ (win0_2.index t 0 = 0 ∧ win0_2.index t 1 = 32 + t.val)
    ∧ (win0_3.index t 0 = t.val ∧ win0_3.index t 1 = 0 ∧ win0_3.index t 2 = 0 ∧ win0_3.index t 3 = 0)
    ∧ (win0_4.index t 0 = 0 ∧ win0_4.index t 1 = t.val) := by
  show ∀ t : Fin grid0.N, _
  decide +kernel

theorem hd_val (t : Fin cfg0.N) (s : Fin 2) : (hd t s).val = 2 * t.val + s.val := rfl
theorem exists_lane (j : Fin 1024) : ∃ t s d, lane (hd t s) d = j :=
  ⟨⟨j.val / 128, by have : cfg0.N = 8 := N_0; omega⟩, ⟨j.val / 64 % 2, by omega⟩, ⟨j.val % 64, by omega⟩, Fin.ext (by
    rw [lane_val, hd_val]; dsimp only; omega)⟩

theorem iblk0_apply (c : Dev nD) (t : Fin cfg0.N) (i : Fin 2048) (s : Fin 2) (d : Fin 64) :
    (iblk m c 0 t : Vec Ideal S2048x128 .f32) (ix2 i (lan s d)) = aP m c (ix2 i (col 2 (by omega) (hd t s) d)) := by
  unfold iblk
  rw [View.read_apply]
  refine (congrArg (V m c main_arg0) (funext fun a => Fin.ext ?_)).trans (congrFun (V_main_arg0 m c) _)
  match a with
  | ⟨0, _⟩ => show win0_0.index t 0 * 2048 + 1 * i.val = i.val; rw [(index0 t).1.1]; omega
  | ⟨1, _⟩ => show win0_0.index t 1 * 128 + 1 * (lan s d).val = (col 2 (by omega) (hd t s) d).val; rw [(index0 t).1.2, lan_val, col_val, hd_val]; omega

theorem iblk1_apply (c : Dev nD) (t : Fin cfg0.N) (i : Fin 2048) (s : Fin 2) (d : Fin 64) :
    (iblk m c 1 t : Vec Ideal S2048x128 .f32) (ix2 i (lan s d)) = aP m c (ix2 i (col 3 (by omega) (hd t s) d)) := by
  unfold iblk
  rw [View.read_apply]
  refine (congrArg (V m c main_arg0) (funext fun a => Fin.ext ?_)).trans (congrFun (V_main_arg0 m c) _)
  match a with
  | ⟨0, _⟩ => show win0_1.index t 0 * 2048 + 1 * i.val = i.val; rw [(index0 t).2.1.1]; omega
  | ⟨1, _⟩ => show win0_1.index t 1 * 128 + 1 * (lan s d).val = (col 3 (by omega) (hd t s) d).val; rw [(index0 t).2.1.2, lan_val, col_val, hd_val]; omega

theorem iblk2_apply (c : Dev nD) (t : Fin cfg0.N) (i : Fin 2048) (s : Fin 2) (d : Fin 64) :
    (iblk m c 2 t : Vec Ideal S2048x128 .f32) (ix2 i (lan s d)) = aP m c (ix2 i (col 4 (by omega) (hd t s) d)) := by
  unfold iblk
  rw [View.read_apply]
  refine (congrArg (V m c main_arg0) (funext fun a => Fin.ext ?_)).trans (congrFun (V_main_arg0 m c) _)
  match a with
  | ⟨0, _⟩ => show win0_2.index t 0 * 2048 + 1 * i.val = i.val; rw [(index0 t).2.2.1.1]; omega
  | ⟨1, _⟩ => show win0_2.index t 1 * 128 + 1 * (lan s d).val = (col 4 (by omega) (hd t s) d).val; rw [(index0 t).2.2.1.2, lan_val, col_val, hd_val]; omega

theorem iblk3_apply (c : Dev nD) (t : Fin cfg0.N) (s : Fin 2) (e : Fin 17) (a : Fin 64) (l : Fin 128) :
    (iblk m c 3 t : Vec Ideal S2x17x64x128 .f32) (ix4 s e a l) = tabs (byRow (aR m c)) (ix4 (hd t s) e a l) := by
  unfold iblk
  rw [View.read_apply]
  refine (congrArg (V m c main_v46) (funext fun x => Fin.ext ?_)).trans (congrFun (V_main_v46 m c) _)
  match x with
  | ⟨0, _⟩ => show win0_3.index t 0 * 2 + 1 * s.val = (hd t s).val; rw [(index0 t).2.2.2.1.1, hd_val]; omega
  | ⟨1, _⟩ => show win0_3.index t 1 * 17 + 1 * e.val = e.val; rw [(index0 t).2.2.2.1.2.1]; omega
  | ⟨2, _⟩ => show win0_3.index t 2 * 64 + 1 * a.val = a.val; rw [(index0 t).2.2.2.1.2.2.1]; omega
  | ⟨3, _⟩ => show win0_3.index t 3 * 128 + 1 * l.val = l.val; rw [(index0 t).2.2.2.1.2.2.2]; omega

variable {c : Dev nD} (H : Real (aP m c) (aR m c) none3)
include H

theorem holds (t : Fin cfg0.N) : In (hd t) (dat (aP m c) (aR m c) none3) (iblk m c 0 t) (iblk m c 1 t) (iblk m c 2 t) (iblk m c 3 t) where
  q i s d := (iblk0_apply m c t i s d).trans (H.p _ _).symm
  k i s d := (iblk1_apply m c t i s d).trans (H.p _ _).symm
  v i s d := (iblk2_apply m c t i s d).trans (H.p _ _).symm
  b s k i g a l := (iblk3_apply m c t s _ a l).trans
    (entry_bias (aR m c) (hd t s) a (dat (aP m c) (aR m c) none3) (fun r x => H.r _ _ _) k i g l)

omit H in
theorem emb4 (t : Fin cfg0.N) (i : Fin 2048) (s : Fin 2) (d : Fin 64) :
    (((cfg0.win 4).blk t).view.emb (ix2 i (lan s d) : S2048x128.Idx) : S2048x1024.Idx) = ix2 i (lane (hd t s) d) :=
  funext fun a => Fin.ext (by
    match a with
    | ⟨0, _⟩ => show win0_4.index t 0 * 2048 + 1 * i.val = i.val; rw [(index0 t).2.2.2.2.1]; omega
    | ⟨1, _⟩ => show win0_4.index t 1 * 128 + 1 * (lan s d).val = (lane (hd t s) d).val; rw [(index0 t).2.2.2.2.2, lan_val, lane_val, hd_val]; omega)

theorem final4 : (dats m 0 c).arrAt 4 cfg0.N = val_main_v95 (F := Ideal) (aP m c) (aR m c) := by
  refine (dats m 0 c).arrAt_eq_of_cover 4 _ (fun t _ => funext fun y => ?_) fun j => ?_
  · rw [show (dats m 0 c).flushed 4 t = (cfg0.win 4).cut (grid0.coords t) (left (dat (aP m c) (aR m c) none3) (hd t)) from
      (Value.flushed4_A m c t).trans (congrArg ((cfg0.win 4).cut (grid0.coords t)) (o4_eq c (holds m H t) ..)), View.read_apply]
    obtain ⟨a, b, rfl⟩ := exists_ix2 (a := 2048) (b := 128) y
    obtain ⟨s, d, rfl⟩ := exists_lan b
    exact ((left_apply a s d).trans (v95_coe (H := H) ..).symm).trans (congrArg (val_main_v95 (F := Ideal) _ _) (emb4 t a s d)).symm
  · obtain ⟨a, b, rfl⟩ := exists_ix2 (a := 2048) (b := 1024) j
    obtain ⟨t, s, d, rfl⟩ := exists_lane b
    exact ⟨t, flush0_4 t, emb4 t a s d ▸ View.emb_mem_set _ _⟩

end Cert.Kernel6Ideal.AttnFwdValue
-- ==== Proof.AttnFwdClaim.lean ====
/-
  The attention's forward call against its formula: the result, equal where the arguments are real numbers.
-/
module

public import proofs.«01_k».proof.Defs
public import proofs.«01_k».proof.Proof.AttnFwdValue
public import proofs.«01_k».proof.Proof.Gen.Kernel6
public import proofs.«01_k».proof.Proof.Gen.Reference6Ideal.Read
public import Idealize.ShloMosaic.Lib.Quiescent

@[expose] public section

set_option maxRecDepth 16384

noncomputable section

open Idealize.ShloMosaic Idealize.ShloMosaic.TcCoe Idealize.SL.Sem
open Cert.Reals

namespace Cert.AttnFwdClaim

theorem pre_facts : Cert.Pre_attn_fwd_finite.Facts where
  bcast_S_S2048x5120 := by decide
  bcast_S_S16x15x31 := by decide

instance : Cert.Pre_attn_fwd_finite.Facts := pre_facts

open Cert.Kernel6Ideal Cert.Kernel6Ideal.Gen Cert.Kernel6Ideal.AttnFwdValue

variable (m : (ℓ : Loc nD τ sig) → Buf (Elt Ideal) ℓ)

/-- Under the precondition the arguments hold real numbers. -/
theorem reals (h : Cert.Pre_Kernel6Ideal_attn_fwd_finite m) (c : Dev nD) :
    Cert.Reference2Ideal.AttnRef.Real (aP m c) (aR m c) Cert.Reference6Ideal.AttnFwdRef.none3 where
  p i j := by
    have e := congrFun (h c).1 (ix2 i j)
    dsimp only [Cert.Pre_attn_fwd_finite.fn] at e
    pointwise at e
    exact real_of_lt e
  r i j k := by
    have e := congrFun (h c).2 (ix3 i j k)
    dsimp only [Cert.Pre_attn_fwd_finite.fn] at e
    pointwise at e
    exact real_of_lt e
  d i j := rfl

theorem reference_frame : Cert.quiescent_Reference6Ideal := fun m ρ _ =>
  (θ_run (Cert.Reference6Ideal.defs (F := Ideal)) _ _).mono (fun r h => And.intro (fun c => (h c).2)
    (Idealize.ShloMosaic.sem_eq_zero_of_no_sems (by decide) r.2)) (Cert.Reference6Ideal.Value.run (F := Ideal) m ρ)

open Cert.Reference6Ideal.Read

theorem algebraic : Cert.algebraic_Kernel6Ideal_Reference6Ideal_pre_attn_fwd_finite := by
  intro m ρ m' ρ' hpre hag
  refine ⟨fun c => val_main_v95 (F := Ideal) (aP m c) (aR m c), ?_, ?_⟩
  · refine (θ_run Cert.Kernel6Ideal.defs _ _).mono (fun r h c => ?_) (Value.run_blocks (F := Ideal) m ρ)
    exact ⟨(h c).1.trans (final4 m (reals m hpre c)), (h c).2⟩
  · refine (θ_run Cert.Reference6Ideal.defs _ _).mono (fun r h c => ?_) (Cert.Reference6Ideal.Value.run (F := Ideal) m' ρ')
    obtain ⟨h0, ha⟩ := h c
    obtain ⟨e0, e1⟩ := hag c
    exact ⟨h0.trans ((val_main_v95_eq _).trans (congrArg₂ _ e0 e1)), ha⟩

end Cert.AttnFwdClaim

end
-- ==== Proof.NormFwd.lean ====
/-
  The norm's forward call against the norm written plainly: both read element by element, equal for all arguments.
-/
module

public import proofs.«01_k».proof.Defs
public import proofs.«01_k».proof.Proof.RmsMath
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Read
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Cert.Reals Cert.Rms

namespace Cert.NormFwd

theorem hz : (![0, 0] : Fin 2 → Nat) = fun _ => 0 := funext fun a => by fin_cases a <;> rfl

theorem eq_ix2 {a b : Nat} (j : (⟨2, ![a, b]⟩ : Shape).Idx) : ∃ (x : Fin a) (y : Fin b), j = ix2 x y :=
  ⟨j 0, j 1, funext fun x => by match x with | ⟨0, _⟩ => rfl | ⟨1, _⟩ => rfl⟩

/-- A row over its root mean square, times the gain. -/
def nrm {n : ℕ} (h g : Fin n → EReal) (j : Fin n) : EReal := h j * rstd (Ideal.ofBits .f32 0x45000000#32) h * g j

section Kernel
open Cert.Kernel7Ideal Cert.Kernel7Ideal.Gen

theorem pay1_apply (h : Vec Ideal S256x2048 .f32) (g : Vec Ideal S1x2048 .f32) (i : Fin 256) (j : Fin 2048) :
    k0_pay1 h g (ix2 i j) = nrm (fun k => h (ix2 i k)) (fun k => g (ix2 0 k)) j := by
  pointwise! [k0_pay1]

variable (m : (ℓ : Loc nD τ sig) → Buf (Elt Ideal) ℓ)

abbrev aH (c : Dev nD) : Vec Ideal S2048x2048 .f32 := m ((c : Thread nD τ).loc main_arg0)
abbrev aG (c : Dev nD) : Vec Ideal S1x2048 .f32 := m ((c : Thread nD τ).loc main_arg1)

theorem out_eq (h : Vec Ideal S256x2048 .f32) (g : Vec Ideal S1x2048 .f32) : out0_2 h g = k0_pay1 h g := by
  unfold out0_2
  rw [View.canon_unit_zero hz]
  simp only [View.ld_unit_zero (S := S256x2048) hz, View.ld_unit_zero (S := S1x2048) hz]

/-- Row `i` of block `t`. -/
def row (t : Fin cfg0.N) (i : Fin 256) : Fin 2048 :=
  ⟨256 * t.val + i.val, by have : cfg0.N = 8 := N_0; have := t.isLt; have := i.isLt; omega⟩

theorem exists_row (i : Fin 2048) : ∃ (t : Fin cfg0.N) (r : Fin 256), row t r = i :=
  ⟨⟨i.val / 256, by have : cfg0.N = 8 := N_0; have := i.isLt; omega⟩, ⟨i.val % 256, by omega⟩,
    Fin.ext (Nat.div_add_mod _ _)⟩

theorem index0 : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0) := by
  show ∀ t : Fin grid0.N, _
  decide +kernel

theorem iblk0_apply (c : Dev nD) (t : Fin cfg0.N) (i : Fin 256) (k : Fin 2048) :
    (iblk m c 0 t : Vec Ideal S256x2048 .f32) (ix2 i k) = aH m c (ix2 (row t i) k) := by
  unfold iblk
  rw [View.read_apply]
  refine congrArg (m ((c : Thread nD τ).loc main_arg0)) (funext fun a => Fin.ext ?_)
  match a with
  | ⟨0, _⟩ => show win0_0.index t 0 * 256 + 1 * i.val = 256 * t.val + i.val; rw [(index0 t).1.1]; omega
  | ⟨1, _⟩ => show win0_0.index t 1 * 2048 + 1 * k.val = k.val; rw [(index0 t).1.2]; omega

theorem iblk1_apply (c : Dev nD) (t : Fin cfg0.N) (i : Fin 1) (k : Fin 2048) :
    (iblk m c 1 t : Vec Ideal S1x2048 .f32) (ix2 i k) = aG m c (ix2 i k) := by
  unfold iblk
  rw [View.read_apply]
  refine congrArg (m ((c : Thread nD τ).loc main_arg1)) (funext fun a => Fin.ext ?_)
  match a with
  | ⟨0, _⟩ => show win0_1.index t 0 * 1 + 1 * i.val = i.val; rw [(index0 t).2.1.1]; omega
  | ⟨1, _⟩ => show win0_1.index t 1 * 2048 + 1 * k.val = k.val; rw [(index0 t).2.1.2]; omega

/-- The normalised rows. -/
def G2 (c : Dev nD) : Vec Ideal S2048x2048 .bf16 :=
  fun j => nrm (fun k => aH m c (ix2 (j 0) k)) (fun k => aG m c (ix2 0 k)) (j 1)

theorem out_row (c : Dev nD) (t : Fin cfg0.N) (i : Fin 256) (k : Fin 2048) :
    out0_2 (F := Ideal) (iblk m c 0 t) (iblk m c 1 t) (ix2 i k) = G2 m c (ix2 (row t i) k) := by
  rw [out_eq, pay1_apply]
  simp only [iblk0_apply, iblk1_apply]
  rfl

theorem emb2 (t : Fin cfg0.N) (i : Fin 256) (k : Fin 2048) :
    (((cfg0.win 2).blk t).view.emb (ix2 i k : S256x2048.Idx) : S2048x2048.Idx) = ix2 (row t i) k :=
  funext fun a => Fin.ext (by
    match a with
    | ⟨0, _⟩ => show win0_2.index t 0 * 256 + 1 * i.val = 256 * t.val + i.val; rw [(index0 t).2.2.1]; omega
    | ⟨1, _⟩ => show win0_2.index t 1 * 2048 + 1 * k.val = k.val; rw [(index0 t).2.2.2]; omega)

theorem final2 (c : Dev nD) : (dats m 0 c).arrAt 2 cfg0.N = G2 m c := by
  refine (dats m 0 c).arrAt_eq_of_cover 2 (G2 m c) (fun t _ => funext fun y => ?_) fun i => ?_
  · rw [Value.flushed2, View.read_apply]
    obtain ⟨a, b, rfl⟩ := eq_ix2 (a := 256) (b := 2048) y
    exact (out_row m c t a b).trans (congrArg (G2 m c) (emb2 t a b)).symm
  · obtain ⟨a, b, rfl⟩ := eq_ix2 (a := 2048) (b := 2048) i
    obtain ⟨t, r, rfl⟩ := exists_row a
    exact ⟨t, flush0_2 t, emb2 t r b ▸ View.emb_mem_set _ _⟩

end Kernel

open Cert.Reference7Ideal.Read in
theorem v12_apply (h : Vec Ideal Cert.Reference7Ideal.S2048x2048 .f32) (g : Vec Ideal Cert.Reference7Ideal.S1x2048 .f32)
    (i j : Fin 2048) : val_main_v12 (F := Ideal) h g (ix2 i j)
      = nrm (fun k => h (ix2 i k)) (fun k => g (ix2 0 k)) j := by
  pointwise! [val_main_v12, val_main_v11, val_main_v10, val_main_v9, val_main_v8, val_main_v7, val_main_v6,
    val_main_v5, val_main_v4, val_main_v3, val_main_v2, val_main_v1, val_main_v0, val_main_cst, val_main_cst_0,
    val_main_cst_1]

/-- The reference's frame: its run read at the arguments; it declares no semaphore. -/
theorem reference_frame : Cert.quiescent_Reference7Ideal := fun m ρ _ =>
  (θ_run (Cert.Reference7Ideal.defs (F := Ideal)) _ _).mono (fun r h => And.intro (fun c => (h c).2)
    (Idealize.ShloMosaic.sem_eq_zero_of_no_sems (by decide) r.2)) (Cert.Reference7Ideal.Value.run (F := Ideal) m ρ)

theorem algebraic : Cert.algebraic_Kernel7Ideal_Reference7Ideal := by
  intro m ρ m' ρ' _ hag
  refine ⟨fun c => G2 m c, ?_, ?_⟩
  · refine (θ_run Cert.Kernel7Ideal.defs _ _).mono (fun r h c => ?_) (Cert.Kernel7Ideal.Value.run_blocks m ρ)
    exact ⟨(h c).1.trans (final2 m c), (h c).2⟩
  · refine (θ_run Cert.Reference7Ideal.defs _ _).mono (fun r h c => ?_) (Cert.Reference7Ideal.Value.run (F := Ideal) m' ρ')
    refine ⟨(h c).1.trans ?_, (h c).2⟩
    rw [Cert.Reference7Ideal.Read.val_main_v12_eq, (hag c).1, (hag c).2]
    funext j
    obtain ⟨a, b, rfl⟩ := eq_ix2 (a := 2048) (b := 2048) j
    exact v12_apply _ _ a b

end Cert.NormFwd

end
-- ==== Proof.MixFwd.lean ====
/-
  The forward call of the two norms of the mixer's output, and of their transpose, against the norms written plainly.
-/
module

public import proofs.«01_k».proof.Defs
public import proofs.«01_k».proof.Proof.RmsMath
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Read
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Cert.Reals Cert.Rms

namespace Cert.MixFwd

theorem hz : (![0, 0] : Fin 2 → Nat) = fun _ => 0 := funext fun a => by fin_cases a <;> rfl

theorem eq_ix2 {a b : Nat} (j : (⟨2, ![a, b]⟩ : Shape).Idx) : ∃ (x : Fin a) (y : Fin b), j = ix2 x y :=
  ⟨j 0, j 1, funext fun x => by match x with | ⟨0, _⟩ => rfl | ⟨1, _⟩ => rfl⟩

/-- A row over its root mean square, times the gain. -/
def nrm {n : ℕ} (h g : Fin n → EReal) (j : Fin n) : EReal := h j * rstd (Ideal.ofBits .f32 0x44800000#32) h * g j

section Kernel
open Cert.Kernel8Ideal Cert.Kernel8Ideal.Gen

theorem pay2_apply (h : Vec Ideal S256x1024 .f32) (g : Vec Ideal S1x1024 .f32) (i : Fin 256) (j : Fin 1024) :
    k0_pay2 h g (ix2 i j) = nrm (fun k => h (ix2 i k)) (fun k => g (ix2 0 k)) j := by
  pointwise! [k0_pay2]

theorem pay5_apply (h : Vec Ideal S256x1024 .f32) (g : Vec Ideal S1x1024 .f32) (i : Fin 256) (j : Fin 1024) :
    k0_pay5 h g (ix2 i j) = nrm (fun k => h (ix2 i k)) (fun k => g (ix2 0 k)) j := by
  pointwise! [k0_pay5]

theorem pay4_apply (h : Vec Ideal S256x1024 .f32) (g : Vec Ideal S1x1024 .f32) (j : Fin 1024) (i : Fin 256) :
    k0_pay4 h g (ix2 j i) = nrm (fun k => h (ix2 i k)) (fun k => g (ix2 0 k)) j := by
  rw [← pay2_apply]
  unfold k0_pay4
  generalize k0_pay2 h g = a
  pointwise!

theorem pay17_apply (h : Vec Ideal S256x1024 .f32) (g : Vec Ideal S1x1024 .f32) (j : Fin 1024) (i : Fin 256) :
    k0_pay1 (k0_pay7 h g) (ix2 j i) = nrm (fun k => h (ix2 i k)) (fun k => g (ix2 0 k)) j := by
  rw [← pay5_apply]
  unfold k0_pay7
  generalize k0_pay5 h g = a
  pointwise! [k0_pay1]

/-- The two norms side by side: the first's row in the first columns, the second's in the others. -/
def both (ya yb ga gb : Fin 1024 → EReal) (j : Fin 2048) : EReal :=
  if h : j.val < 1024 then nrm ya ga ⟨j.val, h⟩ else nrm yb gb ⟨j.val - 1024, by omega⟩

theorem both_lo (ya yb ga gb : Fin 1024 → EReal) (j : Fin 2048) (k : Fin 1024) (e : j.val = k.val) :
    both ya yb ga gb j = nrm ya ga k := by
  unfold both
  rw [dif_pos (by omega)]
  exact congrArg _ (Fin.ext e)

theorem both_hi (ya yb ga gb : Fin 1024 → EReal) (j : Fin 2048) (k : Fin 1024) (e : j.val = 1024 + k.val) :
    both ya yb ga gb j = nrm yb gb k := by
  unfold both
  rw [dif_neg (by omega)]
  exact congrArg _ (Fin.ext (by show j.val - 1024 = k.val; omega))

/-- What a grid point writes, from the rows it reads. -/
def wide (ya yb : Vec Ideal S256x1024 .f32) (ga gb : Vec Ideal S1x1024 .f32) (i : Fin 256) (j : Fin 2048) : EReal :=
  both (fun k => ya (ix2 i k)) (fun k => yb (ix2 i k)) (fun k => ga (ix2 0 k)) (fun k => gb (ix2 0 k)) j

def wideRows (ya yb : Vec Ideal S256x1024 .f32) (ga gb : Vec Ideal S1x1024 .f32) : Vec Ideal S256x2048 .bf16 :=
  fun y => wide ya yb ga gb (y 0) (y 1)
def wideCols (ya yb : Vec Ideal S256x1024 .f32) (ga gb : Vec Ideal S1x1024 .f32) : Vec Ideal S2048x256 .bf16 :=
  fun y => wide ya yb ga gb (y 1) (y 0)

theorem out4_eq (ya yb : Vec Ideal S256x1024 .f32) (ga gb : Vec Ideal S1x1024 .f32) :
    out0_4 ya yb ga gb = wideRows ya yb ga gb := by
  funext y
  unfold out0_4
  refine View.canon_apply_of_pieces (wideRows ya yb ga gb) _ (fun p hp x => ?_) y (cover0_4 _ _ y)
  simp only [View.ld_unit_zero (S := S256x1024) hz, View.ld_unit_zero (S := S1x1024) hz] at hp
  rcases List.mem_cons.mp hp with rfl | hp
  · obtain ⟨a, b, rfl⟩ := eq_ix2 (a := 256) (b := 1024) x
    have ea : (⟨0 + 1 * a.val, by omega⟩ : Fin 256) = a := Fin.ext (by show 0 + 1 * a.val = a.val; omega)
    refine (pay5_apply yb gb a b).trans (Eq.symm ?_)
    show wide ya yb ga gb ⟨0 + 1 * a.val, _⟩ ⟨1024 + 1 * b.val, _⟩ = _
    rw [ea]
    exact both_hi _ _ _ _ _ b (by show 1024 + 1 * b.val = 1024 + b.val; omega)
  · obtain rfl := List.mem_singleton.mp hp
    obtain ⟨a, b, rfl⟩ := eq_ix2 (a := 256) (b := 1024) x
    have ea : (⟨0 + 1 * a.val, by omega⟩ : Fin 256) = a := Fin.ext (by show 0 + 1 * a.val = a.val; omega)
    refine (pay2_apply ya ga a b).trans (Eq.symm ?_)
    show wide ya yb ga gb ⟨0 + 1 * a.val, _⟩ ⟨0 + 1 * b.val, _⟩ = _
    rw [ea]
    exact both_lo _ _ _ _ _ b (by show 0 + 1 * b.val = b.val; omega)

theorem out5_eq (ya yb : Vec Ideal S256x1024 .f32) (ga gb : Vec Ideal S1x1024 .f32) :
    out0_5 ya yb ga gb = wideCols ya yb ga gb := by
  funext y
  unfold out0_5
  refine View.canon_apply_of_pieces (wideCols ya yb ga gb) _ (fun p hp x => ?_) y (cover0_5 _ _ y)
  simp only [View.ld_unit_zero (S := S256x1024) hz, View.ld_unit_zero (S := S1x1024) hz] at hp
  rcases List.mem_cons.mp hp with rfl | hp
  · obtain ⟨b, a, rfl⟩ := eq_ix2 (a := 1024) (b := 256) x
    have ea : (⟨0 + 1 * a.val, by omega⟩ : Fin 256) = a := Fin.ext (by show 0 + 1 * a.val = a.val; omega)
    refine (pay17_apply yb gb b a).trans (Eq.symm ?_)
    show wide ya yb ga gb ⟨0 + 1 * a.val, _⟩ ⟨1024 + 1 * b.val, _⟩ = _
    rw [ea]
    exact both_hi _ _ _ _ _ b (by show 1024 + 1 * b.val = 1024 + b.val; omega)
  · obtain rfl := List.mem_singleton.mp hp
    obtain ⟨b, a, rfl⟩ := eq_ix2 (a := 1024) (b := 256) x
    have ea : (⟨0 + 1 * a.val, by omega⟩ : Fin 256) = a := Fin.ext (by show 0 + 1 * a.val = a.val; omega)
    refine (pay4_apply ya ga b a).trans (Eq.symm ?_)
    show wide ya yb ga gb ⟨0 + 1 * a.val, _⟩ ⟨0 + 1 * b.val, _⟩ = _
    rw [ea]
    exact both_lo _ _ _ _ _ b (by show 0 + 1 * b.val = b.val; omega)

variable (m : (ℓ : Loc nD τ sig) → Buf (Elt Ideal) ℓ)

abbrev aYa (c : Dev nD) : Vec Ideal S2048x1024 .f32 := m ((c : Thread nD τ).loc main_arg0)
abbrev aYb (c : Dev nD) : Vec Ideal S2048x1024 .f32 := m ((c : Thread nD τ).loc main_arg1)
abbrev aGa (c : Dev nD) : Vec Ideal S1x1024 .f32 := m ((c : Thread nD τ).loc main_arg2)
abbrev aGb (c : Dev nD) : Vec Ideal S1x1024 .f32 := m ((c : Thread nD τ).loc main_arg3)

/-- Row `i` of block `t`. -/
def row (t : Fin cfg0.N) (i : Fin 256) : Fin 2048 :=
  ⟨256 * t.val + i.val, by have : cfg0.N = 8 := N_0; have := t.isLt; have := i.isLt; omega⟩

theorem exists_row (i : Fin 2048) : ∃ (t : Fin cfg0.N) (r : Fin 256), row t r = i :=
  ⟨⟨i.val / 256, by have : cfg0.N = 8 := N_0; have := i.isLt; omega⟩, ⟨i.val % 256, by omega⟩,
    Fin.ext (Nat.div_add_mod _ _)⟩

theorem index0 : ∀ t : Fin cfg0.N, (win0_0.index t 0 = t.val ∧ win0_0.index t 1 = 0)
    ∧ (win0_1.index t 0 = t.val ∧ win0_1.index t 1 = 0) ∧ (win0_2.index t 0 = 0 ∧ win0_2.index t 1 = 0)
    ∧ (win0_3.index t 0 = 0 ∧ win0_3.index t 1 = 0) ∧ (win0_4.index t 0 = t.val ∧ win0_4.index t 1 = 0)
    ∧ (win0_5.index t 0 = 0 ∧ win0_5.index t 1 = t.val) := by
  show ∀ t : Fin grid0.N, _
  decide +kernel

theorem iblk0_apply (c : Dev nD) (t : Fin cfg0.N) (i : Fin 256) (k : Fin 1024) :
    (iblk m c 0 t : Vec Ideal S256x1024 .f32) (ix2 i k) = aYa m c (ix2 (row t i) k) := by
  unfold iblk
  rw [View.read_apply]
  refine congrArg (m ((c : Thread nD τ).loc main_arg0)) (funext fun a => Fin.ext ?_)
  match a with
  | ⟨0, _⟩ => show win0_0.index t 0 * 256 + 1 * i.val = 256 * t.val + i.val; rw [(index0 t).1.1]; omega
  | ⟨1, _⟩ => show win0_0.index t 1 * 1024 + 1 * k.val = k.val; rw [(index0 t).1.2]; omega

theorem iblk1_apply (c : Dev nD) (t : Fin cfg0.N) (i : Fin 256) (k : Fin 1024) :
    (iblk m c 1 t : Vec Ideal S256x1024 .f32) (ix2 i k) = aYb m c (ix2 (row t i) k) := by
  unfold iblk
  rw [View.read_apply]
  refine congrArg (m ((c : Thread nD τ).loc main_arg1)) (funext fun a => Fin.ext ?_)
  match a with
  | ⟨0, _⟩ => show win0_1.index t 0 * 256 + 1 * i.val = 256 * t.val + i.val; rw [(index0 t).2.1.1]; omega
  | ⟨1, _⟩ => show win0_1.index t 1 * 1024 + 1 * k.val = k.val; rw [(index0 t).2.1.2]; omega

theorem iblk2_apply (c : Dev nD) (t : Fin cfg0.N) (i : Fin 1) (k : Fin 1024) :
    (iblk m c 2 t : Vec Ideal S1x1024 .f32) (ix2 i k) = aGa m c (ix2 i k) := by
  unfold iblk
  rw [View.read_apply]
  refine congrArg (m ((c : Thread nD τ).loc main_arg2)) (funext fun a => Fin.ext ?_)
  match a with
  | ⟨0, _⟩ => show win0_2.index t 0 * 1 + 1 * i.val = i.val; rw [(index0 t).2.2.1.1]; omega
  | ⟨1, _⟩ => show win0_2.index t 1 * 1024 + 1 * k.val = k.val; rw [(index0 t).2.2.1.2]; omega

theorem iblk3_apply (c : Dev nD) (t : Fin cfg0.N) (i : Fin 1) (k : Fin 1024) :
    (iblk m c 3 t : Vec Ideal S1x1024 .f32) (ix2 i k) = aGb m c (ix2 i k) := by
  unfold iblk
  rw [View.read_apply]
  refine congrArg (m ((c : Thread nD τ).loc main_arg3)) (funext fun a => Fin.ext ?_)
  match a with
  | ⟨0, _⟩ => show win0_3.index t 0 * 1 + 1 * i.val = i.val; rw [(index0 t).2.2.2.1.1]; omega
  | ⟨1, _⟩ => show win0_3.index t 1 * 1024 + 1 * k.val = k.val; rw [(index0 t).2.2.2.1.2]; omega

/-- The two norms side by side at row `i`, column `j`, from the whole arguments. -/
def full (ya yb : Vec Ideal S2048x1024 .f32) (ga gb : Vec Ideal S1x1024 .f32) (i j : Fin 2048) : EReal :=
  both (fun k => ya (ix2 i k)) (fun k => yb (ix2 i k)) (fun k => ga (ix2 0 k)) (fun k => gb (ix2 0 k)) j

def G4 (c : Dev nD) : Vec Ideal S2048x2048 .bf16 := fun j => full (aYa m c) (aYb m c) (aGa m c) (aGb m c) (j 0) (j 1)
def G5 (c : Dev nD) : Vec Ideal S2048x2048 .bf16 := fun j => full (aYa m c) (aYb m c) (aGa m c) (aGb m c) (j 1) (j 0)

theorem wide_row (c : Dev nD) (t : Fin cfg0.N) (i : Fin 256) (j : Fin 2048) :
    wide (iblk m c 0 t) (iblk m c 1 t) (iblk m c 2 t) (iblk m c 3 t) i j
      = full (aYa m c) (aYb m c) (aGa m c) (aGb m c) (row t i) j := by
  unfold wide full
  simp only [iblk0_apply, iblk1_apply, iblk2_apply, iblk3_apply]

theorem emb4 (t : Fin cfg0.N) (i : Fin 256) (k : Fin 2048) :
    (((cfg0.win 4).blk t).view.emb (ix2 i k : S256x2048.Idx) : S2048x2048.Idx) = ix2 (row t i) k :=
  funext fun a => Fin.ext (by
    match a with
    | ⟨0, _⟩ => show win0_4.index t 0 * 256 + 1 * i.val = 256 * t.val + i.val; rw [(index0 t).2.2.2.2.1.1]; omega
    | ⟨1, _⟩ => show win0_4.index t 1 * 2048 + 1 * k.val = k.val; rw [(index0 t).2.2.2.2.1.2]; omega)

theorem emb5 (t : Fin cfg0.N) (k : Fin 2048) (i : Fin 256) :
    (((cfg0.win 5).blk t).view.emb (ix2 k i : S2048x256.Idx) : S2048x2048.Idx) = ix2 k (row t i) :=
  funext fun a => Fin.ext (by
    match a with
    | ⟨0, _⟩ => show win0_5.index t 0 * 2048 + 1 * k.val = k.val; rw [(index0 t).2.2.2.2.2.1]; omega
    | ⟨1, _⟩ => show win0_5.index t 1 * 256 + 1 * i.val = 256 * t.val + i.val; rw [(index0 t).2.2.2.2.2.2]; omega)

theorem final4 (c : Dev nD) : (dats m 0 c).arrAt 4 cfg0.N = G4 m c := by
  refine (dats m 0 c).arrAt_eq_of_cover 4 (G4 m c) (fun t _ => funext fun y => ?_) fun i => ?_
  · rw [Value.flushed4, out4_eq, View.read_apply]
    obtain ⟨a, b, rfl⟩ := eq_ix2 (a := 256) (b := 2048) y
    exact (wide_row m c t a b).trans (congrArg (G4 m c) (emb4 t a b)).symm
  · obtain ⟨a, b, rfl⟩ := eq_ix2 (a := 2048) (b := 2048) i
    obtain ⟨t, r, rfl⟩ := exists_row a
    exact ⟨t, flush0_4 t, emb4 t r b ▸ View.emb_mem_set _ _⟩

theorem final5 (c : Dev nD) : (dats m 0 c).arrAt 5 cfg0.N = G5 m c := by
  refine (dats m 0 c).arrAt_eq_of_cover 5 (G5 m c) (fun t _ => funext fun y => ?_) fun i => ?_
  · rw [Value.flushed5, out5_eq, View.read_apply]
    obtain ⟨b, a, rfl⟩ := eq_ix2 (a := 2048) (b := 256) y
    exact (wide_row m c t a b).trans (congrArg (G5 m c) (emb5 t b a)).symm
  · obtain ⟨b, a, rfl⟩ := eq_ix2 (a := 2048) (b := 2048) i
    obtain ⟨t, r, rfl⟩ := exists_row a
    exact ⟨t, flush0_5 t, emb5 t b r ▸ View.emb_mem_set _ _⟩

end Kernel

section Reference
open Cert.Reference8Ideal Cert.Reference8Ideal.Gen Cert.Reference8Ideal.Read

variable (ya yb : Vec Ideal S2048x1024 .f32) (ga gb : Vec Ideal S1x1024 .f32)

theorem v11_apply (i : Fin 2048) (j : Fin 1024) : val_main_v11 (F := Ideal) ya ga (ix2 i j)
    = nrm (fun k => ya (ix2 i k)) (fun k => ga (ix2 0 k)) j := by
  pointwise! [val_main_v11, val_main_v10, val_main_v9, val_main_v8, val_main_v7, val_main_v6,
    val_main_v5, val_main_v4, val_main_v3, val_main_v2, val_main_v1, val_main_v0, val_main_cst, val_main_cst_0,
    val_main_cst_1]

theorem v23_apply (i : Fin 2048) (j : Fin 1024) : val_main_v23 (F := Ideal) yb gb (ix2 i j)
    = nrm (fun k => yb (ix2 i k)) (fun k => gb (ix2 0 k)) j := by
  pointwise! [val_main_v23, val_main_v22, val_main_v21, val_main_v20, val_main_v19, val_main_v18, val_main_v17,
    val_main_v16, val_main_v15, val_main_v14, val_main_v13, val_main_v12, val_main_cst_2, val_main_cst_3,
    val_main_cst_4]

theorem v24_lo (i : Fin 2048) (j : Fin 1024) : val_main_v24 (F := Ideal) ya yb ga gb (ix2 i ⟨j.val, by omega⟩)
    = val_main_v11 (F := Ideal) ya ga (ix2 i j) := by
  unfold val_main_v24
  generalize val_main_v11 (F := Ideal) ya ga = a
  generalize val_main_v23 (F := Ideal) yb gb = b
  pointwise!

theorem v24_hi (i : Fin 2048) (j : Fin 1024) : val_main_v24 (F := Ideal) ya yb ga gb (ix2 i ⟨1024 + j.val, by omega⟩)
    = val_main_v23 (F := Ideal) yb gb (ix2 i j) := by
  unfold val_main_v24
  generalize val_main_v11 (F := Ideal) ya ga = a
  generalize val_main_v23 (F := Ideal) yb gb = b
  pointwise!

theorem v24_apply (i j : Fin 2048) : val_main_v24 (F := Ideal) ya yb ga gb (ix2 i j) = full ya yb ga gb i j := by
  unfold full
  by_cases h : j.val < 1024
  · rw [both_lo _ _ _ _ j ⟨j.val, h⟩ rfl, ← v11_apply]
    exact v24_lo ya yb ga gb i ⟨j.val, h⟩
  · have e : j.val = 1024 + (j.val - 1024) := by omega
    rw [both_hi _ _ _ _ j ⟨j.val - 1024, by omega⟩ e, ← v23_apply]
    refine Eq.trans (congrArg _ ?_) (v24_hi ya yb ga gb i ⟨j.val - 1024, by omega⟩)
    exact congrArg (ix2 i) (Fin.ext e)

theorem v25_apply (i j : Fin 2048) : val_main_v25 (F := Ideal) ya yb ga gb (ix2 i j) = full ya yb ga gb i j := by
  rw [← v24_apply]
  rfl

theorem v26_apply (i j : Fin 2048) : val_main_v26 (F := Ideal) ya yb ga gb (ix2 i j) = full ya yb ga gb j i := by
  rw [← v25_apply]
  unfold val_main_v26
  generalize val_main_v25 (F := Ideal) ya yb ga gb = a
  pointwise!

end Reference

/-- The reference's frame: its run read at the arguments; it declares no semaphore. -/
theorem reference_frame : Cert.quiescent_Reference8Ideal := fun m ρ _ =>
  (θ_run (Cert.Reference8Ideal.defs (F := Ideal)) _ _).mono (fun r h => And.intro (fun c => (h c).2.2)
    (Idealize.ShloMosaic.sem_eq_zero_of_no_sems (by decide) r.2)) (Cert.Reference8Ideal.Value.run (F := Ideal) m ρ)

theorem algebraic : Cert.algebraic_Kernel8Ideal_Reference8Ideal := by
  intro m ρ m' ρ' _ hag
  refine ⟨fun c => G4 m c, fun c => G5 m c, ?_, ?_⟩
  · refine (θ_run Cert.Kernel8Ideal.defs _ _).mono (fun r h c => ?_) (Cert.Kernel8Ideal.Value.run_blocks m ρ)
    exact ⟨(h c).1.trans (final4 m c), (h c).2.1.trans (final5 m c), (h c).2.2⟩
  · refine (θ_run Cert.Reference8Ideal.defs _ _).mono (fun r h c => ?_) (Cert.Reference8Ideal.Value.run (F := Ideal) m' ρ')
    obtain ⟨h0, h1, ha⟩ := h c
    obtain ⟨e0, e1, e2, e3⟩ := hag c
    refine ⟨h0.trans ?_, h1.trans ?_, ha⟩
    · rw [Cert.Reference8Ideal.Read.val_main_v25_eq, e0, e1, e2, e3]
      funext j
      obtain ⟨a, b, rfl⟩ := eq_ix2 (a := 2048) (b := 2048) j
      exact v25_apply _ _ _ _ a b
    · rw [Cert.Reference8Ideal.Read.val_main_v26_eq, e0, e1, e2, e3]
      funext j
      obtain ⟨a, b, rfl⟩ := eq_ix2 (a := 2048) (b := 2048) j
      exact v26_apply _ _ _ _ a b

end Cert.MixFwd

end
-- ==== Proof.FfnFwd.lean ====
/-
  The gated feed-forward's forward call against the gate written plainly: the gate's two inputs, their gated product
  and its transpose.
-/
module

public import proofs.«01_k».proof.Defs
public import proofs.«01_k».proof.Proof.Reals
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal.Read
public import Idealize.ShloMosaic.Lib.Quiescent
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open Cert.Reals

namespace Cert.FfnFwd

theorem hz : (![0, 0] : Fin 2 → Nat) = fun _ => 0 := funext fun a => by fin_cases a <;> rfl

theorem eq_ix2 {a b : Nat} (j : (⟨2, ![a, b]⟩ : Shape).Idx) : ∃ (x : Fin a) (y : Fin b), j = ix2 x y :=
  ⟨j 0, j 1, funext fun x => by match x with | ⟨0, _⟩ => rfl | ⟨1, _⟩ => rfl⟩

/-- The logistic function, and a row of one array against a row of another. -/
def lg (g : EReal) : EReal := Ideal.div 1 (1 + Ideal.exp (0 - g))
def dotRow (d w : Fin 2048 → EReal) : EReal := ∑ x, d x * w x

section Kernel
open Cert.Kernel9Ideal Cert.Kernel9Ideal.Gen

theorem pay2_apply (d : Vec Ideal S1024x2048 .bf16) (w : Vec Ideal S1x512x2048 .bf16) (i : Fin 1024) (f : Fin 512) :
    k0_pay2 d w (ix2 i f) = dotRow (fun x => d (ix2 i x)) (fun x => w (ix3 0 f x)) := by
  unfold dotRow
  pointwise! [k0_pay2, k0_pay1]

theorem pay3_apply (d : Vec Ideal S1024x2048 .bf16) (w : Vec Ideal S1x512x2048 .bf16) (i : Fin 1024) (f : Fin 512) :
    k0_pay3 d w (ix2 i f) = dotRow (fun x => d (ix2 i x)) (fun x => w (ix3 0 f x)) := by
  unfold dotRow
  pointwise! [k0_pay3, k0_pay1]

/-- The gated product. -/
def gated (g u : EReal) : EReal := g * lg g * u

theorem pay6_apply (d : Vec Ideal S1024x2048 .bf16) (w0 w1 : Vec Ideal S1x512x2048 .bf16) (i : Fin 1024) (f : Fin 512) :
    k0_pay6 d w0 w1 (ix2 i f) = gated (k0_pay2 d w0 (ix2 i f)) (k0_pay3 d w1 (ix2 i f)) := by
  unfold gated lg k0_pay6
  generalize k0_pay2 d w0 = a
  generalize k0_pay3 d w1 = b
  pointwise!

theorem pay8_apply (d : Vec Ideal S1024x2048 .bf16) (w0 w1 : Vec Ideal S1x512x2048 .bf16) (f : Fin 512) (i : Fin 1024) :
    k0_pay8 d w0 w1 (ix2 f i) = k0_pay6 d w0 w1 (ix2 i f) := by
  unfold k0_pay8
  generalize k0_pay6 d w0 w1 = a
  pointwise!

def plane (p : Fin 2) (x : Vec Ideal S2x512x2048 .bf16) : Vec Ideal S1x512x2048 .bf16 :=
  fun j => x (ix3 p (j 1) (j 2))

theorem ld_plane0 (x : Vec Ideal S2x512x2048 .bf16) : View.ld x r0_1 = plane 0 x :=
  funext fun j => congrArg x (funext fun a => Fin.ext (by
    match a with
    | ⟨0, _⟩ => show 0 + 1 * (j 0).val = 0; have : (j 0).val < 1 := (j 0).isLt; omega
    | ⟨1, _⟩ => show 0 + 1 * (j 1).val = (j 1).val; omega
    | ⟨2, _⟩ => show 0 + 1 * (j 2).val = (j 2).val; omega))

theorem ld_plane1 (x : Vec Ideal S2x512x2048 .bf16) : View.ld x r0_2 = plane 1 x :=
  funext fun j => congrArg x (funext fun a => Fin.ext (by
    match a with
    | ⟨0, _⟩ => show 1 + 1 * (j 0).val = 1; have : (j 0).val < 1 := (j 0).isLt; omega
    | ⟨1, _⟩ => show 0 + 1 * (j 1).val = (j 1).val; omega
    | ⟨2, _⟩ => show 0 + 1 * (j 2).val = (j 2).val; omega))

variable (d : Vec Ideal S1024x2048 .bf16) (w : Vec Ideal S2x512x2048 .bf16)

theorem out2_eq : out0_2 d w = k0_pay4 d (plane 0 w) := by
  unfold out0_2
  rw [View.canon_unit_zero hz]
  simp only [View.ld_unit_zero (S := S1024x2048) hz, ld_plane0]
theorem out3_eq : out0_3 d w = k0_pay5 d (plane 1 w) := by
  unfold out0_3
  rw [View.canon_unit_zero hz]
  simp only [View.ld_unit_zero (S := S1024x2048) hz, ld_plane1]
theorem out4_eq : out0_4 d w = k0_pay7 d (plane 0 w) (plane 1 w) := by
  unfold out0_4
  rw [View.canon_unit_zero hz]
  simp only [View.ld_unit_zero (S := S1024x2048) hz, ld_plane0, ld_plane1]
theorem out5_eq : out0_5 d w = k0_pay8 d (plane 0 w) (plane 1 w) := by
  unfold out0_5
  rw [View.canon_unit_zero hz]
  simp only [View.ld_unit_zero (S := S1024x2048) hz, ld_plane0, ld_plane1]

/-- A row of the block against a row of one plane of the weights'. -/
def dotPlane (p : Fin 2) (i : Fin 1024) (f : Fin 512) : EReal := dotRow (fun x => d (ix2 i x)) (fun x => w (ix3 p f x))

theorem out2_apply (i : Fin 1024) (f : Fin 512) : out0_2 d w (ix2 i f) = dotPlane d w 0 i f := by
  rw [out2_eq]
  exact pay2_apply d (plane 0 w) i f
theorem out3_apply (i : Fin 1024) (f : Fin 512) : out0_3 d w (ix2 i f) = dotPlane d w 1 i f := by
  rw [out3_eq]
  exact pay3_apply d (plane 1 w) i f
theorem hidden_apply (i : Fin 1024) (f : Fin 512) :
    k0_pay6 d (plane 0 w) (plane 1 w) (ix2 i f) = gated (dotPlane d w 0 i f) (dotPlane d w 1 i f) := by
  rw [pay6_apply, pay2_apply, pay3_apply]
  rfl
theorem out4_apply (i : Fin 1024) (f : Fin 512) :
    out0_4 d w (ix2 i f) = gated (dotPlane d w 0 i f) (dotPlane d w 1 i f) := by
  rw [out4_eq]
  exact hidden_apply d w i f
theorem out5_apply (f : Fin 512) (i : Fin 1024) :
    out0_5 d w (ix2 f i) = gated (dotPlane d w 0 i f) (dotPlane d w 1 i f) := by
  rw [out5_eq, pay8_apply]
  exact hidden_apply d w i f

variable (m : (ℓ : Loc nD τ sig) → Buf (Elt Ideal) ℓ)

abbrev aU (c : Dev nD) : Vec Ideal S2048x2048 .f32 := m ((c : Thread nD τ).loc main_arg0)
abbrev aI (c : Dev nD) : Vec Ideal S2048x11264 .f32 := m ((c : Thread nD τ).loc main_arg1)

/-- A hidden column's place in one of the two halves of the stacked weights. -/
def half (p : Fin 2) (f : Fin 5632) : Fin 11264 := ⟨5632 * p.val + f.val, by omega⟩

theorem V_v0_eq (c : Dev nD) : V m c main_v0
    = (truncf .bf16 (aU m c : FVec Ideal S2048x2048 .f32) bitsLt_bf16_f32 : FVec Ideal S2048x2048 .bf16) := by
  unfold_abbrev_sides
  after_reads_simp

theorem V_v3_eq (c : Dev nD) : V m c main_v3 = shapeCast S2x5632x2048
    (truncf .bf16 (transpose S11264x2048 [1, 0] (aI m c) transposes_S2048x11264_S11264x2048_1_0 : FVec Ideal S11264x2048 .f32)
      bitsLt_bf16_f32 : FVec Ideal S11264x2048 .bf16) shapeCasts_S11264x2048_S2x5632x2048 := by
  unfold_abbrev_sides
  after_reads_simp
  rfl

theorem V_v0 (c : Dev nD) (i j : Fin 2048) :
    (V m c main_v0 : Vec Ideal S2048x2048 .bf16) (ix2 i j) = aU m c (ix2 i j) := congrFun (V_v0_eq m c) _

theorem V_v3 (c : Dev nD) (p : Fin 2) (f : Fin 5632) (j : Fin 2048) :
    (V m c main_v3 : Vec Ideal S2x5632x2048 .bf16) (ix3 p f j) = aI m c (ix2 j (half p f)) := by
  refine (congrFun (V_v3_eq m c) _).trans ?_
  unfold half
  generalize aI m c = w
  pointwise!

/-- Row `i` of a grid point's rows, and hidden column `f` of its columns. -/
def tok (t : Fin cfg0.N) (i : Fin 1024) : Fin 2048 :=
  ⟨1024 * (t.val / 11) + i.val, by have : cfg0.N = 22 := N_0; have := t.isLt; have := i.isLt; omega⟩
def hid (t : Fin cfg0.N) (f : Fin 512) : Fin 5632 :=
  ⟨512 * (t.val % 11) + f.val, by have := f.isLt; omega⟩

/-- The grid point that holds row `i` and hidden column `f`. -/
theorem exists_pt (i : Fin 2048) (f : Fin 5632) :
    ∃ (t : Fin cfg0.N) (r : Fin 1024) (q : Fin 512), tok t r = i ∧ hid t q = f :=
  ⟨⟨11 * (i.val / 1024) + f.val / 512, by have : cfg0.N = 22 := N_0; have := i.isLt; have := f.isLt; omega⟩,
    ⟨i.val % 1024, by omega⟩, ⟨f.val % 512, by omega⟩,
    Fin.ext (by
      show 1024 * ((11 * (i.val / 1024) + f.val / 512) / 11) + i.val % 1024 = i.val; have := f.isLt; omega),
    Fin.ext (by
      show 512 * ((11 * (i.val / 1024) + f.val / 512) % 11) + f.val % 512 = f.val; have := f.isLt; omega)⟩

theorem index0 : ∀ t : Fin cfg0.N, (win0_0.index t 0 = t.val / 11 ∧ win0_0.index t 1 = 0)
    ∧ (win0_1.index t 0 = 0 ∧ win0_1.index t 1 = t.val % 11 ∧ win0_1.index t 2 = 0)
    ∧ (win0_2.index t 0 = t.val / 11 ∧ win0_2.index t 1 = t.val % 11)
    ∧ (win0_3.index t 0 = t.val / 11 ∧ win0_3.index t 1 = t.val % 11)
    ∧ (win0_4.index t 0 = t.val / 11 ∧ win0_4.index t 1 = t.val % 11)
    ∧ (win0_5.index t 0 = t.val % 11 ∧ win0_5.index t 1 = t.val / 11) := by
  show ∀ t : Fin grid0.N, _
  decide +kernel

theorem iblk0_apply (c : Dev nD) (t : Fin cfg0.N) (i : Fin 1024) (k : Fin 2048) :
    (iblk m c 0 t : Vec Ideal S1024x2048 .bf16) (ix2 i k) = aU m c (ix2 (tok t i) k) := by
  refine Eq.trans ?_ (V_v0 m c _ _)
  unfold iblk
  rw [View.read_apply]
  refine congrArg (V m c main_v0) (funext fun a => Fin.ext ?_)
  match a with
  | ⟨0, _⟩ => show win0_0.index t 0 * 1024 + 1 * i.val = 1024 * (t.val / 11) + i.val; rw [(index0 t).1.1]; omega
  | ⟨1, _⟩ => show win0_0.index t 1 * 2048 + 1 * k.val = k.val; rw [(index0 t).1.2]; omega

theorem iblk1_apply (c : Dev nD) (t : Fin cfg0.N) (p : Fin 2) (f : Fin 512) (k : Fin 2048) :
    (iblk m c 1 t : Vec Ideal S2x512x2048 .bf16) (ix3 p f k) = aI m c (ix2 k (half p (hid t f))) := by
  refine Eq.trans ?_ (V_v3 m c _ _ _)
  unfold iblk
  rw [View.read_apply]
  refine congrArg (V m c main_v3) (funext fun a => Fin.ext ?_)
  match a with
  | ⟨0, _⟩ => show win0_1.index t 0 * 2 + 1 * p.val = p.val; rw [(index0 t).2.1.1]; omega
  | ⟨1, _⟩ => show win0_1.index t 1 * 512 + 1 * f.val = 512 * (t.val % 11) + f.val; rw [(index0 t).2.1.2.1]; omega
  | ⟨2, _⟩ => show win0_1.index t 2 * 2048 + 1 * k.val = k.val; rw [(index0 t).2.1.2.2]; omega

/-- The projected input in one of the two halves, at a row and a hidden column. -/
def pre (u : Vec Ideal S2048x2048 .f32) (w : Vec Ideal S2048x11264 .f32) (p : Fin 2) (i : Fin 2048) (f : Fin 5632) : EReal :=
  dotRow (fun x => u (ix2 i x)) (fun x => w (ix2 x (half p f)))

theorem dot_row (c : Dev nD) (t : Fin cfg0.N) (p : Fin 2) (i : Fin 1024) (f : Fin 512) :
    dotPlane (iblk m c 0 t) (iblk m c 1 t) p i f = pre (aU m c) (aI m c) p (tok t i) (hid t f) := by
  unfold dotPlane pre
  simp only [iblk0_apply, iblk1_apply]

def G2 (c : Dev nD) : Vec Ideal S2048x5632 .bf16 := fun j => pre (aU m c) (aI m c) 0 (j 0) (j 1)
def G3 (c : Dev nD) : Vec Ideal S2048x5632 .bf16 := fun j => pre (aU m c) (aI m c) 1 (j 0) (j 1)
def G4 (c : Dev nD) : Vec Ideal S2048x5632 .bf16 :=
  fun j => gated (pre (aU m c) (aI m c) 0 (j 0) (j 1)) (pre (aU m c) (aI m c) 1 (j 0) (j 1))
def G5 (c : Dev nD) : Vec Ideal S5632x2048 .bf16 :=
  fun j => gated (pre (aU m c) (aI m c) 0 (j 1) (j 0)) (pre (aU m c) (aI m c) 1 (j 1) (j 0))

theorem emb2 (t : Fin cfg0.N) (i : Fin 1024) (k : Fin 512) :
    (((cfg0.win 2).blk t).view.emb (ix2 i k : S1024x512.Idx) : S2048x5632.Idx) = ix2 (tok t i) (hid t k) :=
  funext fun a => Fin.ext (by
    match a with
    | ⟨0, _⟩ => show win0_2.index t 0 * 1024 + 1 * i.val = 1024 * (t.val / 11) + i.val; rw [(index0 t).2.2.1.1]; omega
    | ⟨1, _⟩ => show win0_2.index t 1 * 512 + 1 * k.val = 512 * (t.val % 11) + k.val; rw [(index0 t).2.2.1.2]; omega)

theorem final2 (c : Dev nD) : (dats m 0 c).arrAt 2 cfg0.N = G2 m c := by
  refine (dats m 0 c).arrAt_eq_of_cover 2 (G2 m c) (fun t _ => funext fun y => ?_) fun i => ?_
  · rw [Value.flushed2, View.read_apply]
    obtain ⟨a, b, rfl⟩ := eq_ix2 (a := 1024) (b := 512) y
    refine ((out2_apply (iblk m c 0 t) (iblk m c 1 t) a b).trans ?_).trans (congrArg (G2 m c) (emb2 t a b)).symm
    rw [dot_row]
    rfl
  · obtain ⟨a, b, rfl⟩ := eq_ix2 (a := 2048) (b := 5632) i
    obtain ⟨t, r, q, rfl, rfl⟩ := exists_pt a b
    exact ⟨t, flush0_2 t, emb2 t r q ▸ View.emb_mem_set _ _⟩

theorem emb3 (t : Fin cfg0.N) (i : Fin 1024) (k : Fin 512) :
    (((cfg0.win 3).blk t).view.emb (ix2 i k : S1024x512.Idx) : S2048x5632.Idx) = ix2 (tok t i) (hid t k) :=
  funext fun a => Fin.ext (by
    match a with
    | ⟨0, _⟩ => show win0_3.index t 0 * 1024 + 1 * i.val = 1024 * (t.val / 11) + i.val; rw [(index0 t).2.2.2.1.1]; omega
    | ⟨1, _⟩ => show win0_3.index t 1 * 512 + 1 * k.val = 512 * (t.val % 11) + k.val; rw [(index0 t).2.2.2.1.2]; omega)

theorem final3 (c : Dev nD) : (dats m 0 c).arrAt 3 cfg0.N = G3 m c := by
  refine (dats m 0 c).arrAt_eq_of_cover 3 (G3 m c) (fun t _ => funext fun y => ?_) fun i => ?_
  · rw [Value.flushed3, View.read_apply]
    obtain ⟨a, b, rfl⟩ := eq_ix2 (a := 1024) (b := 512) y
    refine ((out3_apply (iblk m c 0 t) (iblk m c 1 t) a b).trans ?_).trans (congrArg (G3 m c) (emb3 t a b)).symm
    rw [dot_row]
    rfl
  · obtain ⟨a, b, rfl⟩ := eq_ix2 (a := 2048) (b := 5632) i
    obtain ⟨t, r, q, rfl, rfl⟩ := exists_pt a b
    exact ⟨t, flush0_3 t, emb3 t r q ▸ View.emb_mem_set _ _⟩

theorem emb4 (t : Fin cfg0.N) (i : Fin 1024) (k : Fin 512) :
    (((cfg0.win 4).blk t).view.emb (ix2 i k : S1024x512.Idx) : S2048x5632.Idx) = ix2 (tok t i) (hid t k) :=
  funext fun a => Fin.ext (by
    match a with
    | ⟨0, _⟩ => show win0_4.index t 0 * 1024 + 1 * i.val = 1024 * (t.val / 11) + i.val; rw [(index0 t).2.2.2.2.1.1]; omega
    | ⟨1, _⟩ => show win0_4.index t 1 * 512 + 1 * k.val = 512 * (t.val % 11) + k.val; rw [(index0 t).2.2.2.2.1.2]; omega)

theorem final4 (c : Dev nD) : (dats m 0 c).arrAt 4 cfg0.N = G4 m c := by
  refine (dats m 0 c).arrAt_eq_of_cover 4 (G4 m c) (fun t _ => funext fun y => ?_) fun i => ?_
  · rw [Value.flushed4, View.read_apply]
    obtain ⟨a, b, rfl⟩ := eq_ix2 (a := 1024) (b := 512) y
    refine ((out4_apply (iblk m c 0 t) (iblk m c 1 t) a b).trans ?_).trans (congrArg (G4 m c) (emb4 t a b)).symm
    rw [dot_row, dot_row]
    rfl
  · obtain ⟨a, b, rfl⟩ := eq_ix2 (a := 2048) (b := 5632) i
    obtain ⟨t, r, q, rfl, rfl⟩ := exists_pt a b
    exact ⟨t, flush0_4 t, emb4 t r q ▸ View.emb_mem_set _ _⟩

theorem emb5 (t : Fin cfg0.N) (k : Fin 512) (i : Fin 1024) :
    (((cfg0.win 5).blk t).view.emb (ix2 k i : S512x1024.Idx) : S5632x2048.Idx) = ix2 (hid t k) (tok t i) :=
  funext fun a => Fin.ext (by
    match a with
    | ⟨0, _⟩ => show win0_5.index t 0 * 512 + 1 * k.val = 512 * (t.val % 11) + k.val; rw [(index0 t).2.2.2.2.2.1]; omega
    | ⟨1, _⟩ => show win0_5.index t 1 * 1024 + 1 * i.val = 1024 * (t.val / 11) + i.val; rw [(index0 t).2.2.2.2.2.2]; omega)

theorem final5 (c : Dev nD) : (dats m 0 c).arrAt 5 cfg0.N = G5 m c := by
  refine (dats m 0 c).arrAt_eq_of_cover 5 (G5 m c) (fun t _ => funext fun y => ?_) fun i => ?_
  · rw [Value.flushed5, View.read_apply]
    obtain ⟨b, a, rfl⟩ := eq_ix2 (a := 512) (b := 1024) y
    refine ((out5_apply (iblk m c 0 t) (iblk m c 1 t) b a).trans ?_).trans (congrArg (G5 m c) (emb5 t b a)).symm
    rw [dot_row, dot_row]
    rfl
  · obtain ⟨b, a, rfl⟩ := eq_ix2 (a := 5632) (b := 2048) i
    obtain ⟨t, r, q, rfl, rfl⟩ := exists_pt a b
    exact ⟨t, flush0_5 t, emb5 t q r ▸ View.emb_mem_set _ _⟩

end Kernel

section Reference
open Cert.Reference9Ideal Cert.Reference9Ideal.Gen Cert.Reference9Ideal.Read

variable (u : Vec Ideal S2048x2048 .f32) (w : Vec Ideal S2048x11264 .f32)

theorem v1_apply (i : Fin 2048) (f : Fin 5632) : val_main_v1 (F := Ideal) u w (ix2 i f) = pre u w 0 i f := by
  unfold pre dotRow half
  pointwise! [val_main_v1, val_main_v0]

theorem v2_apply (i : Fin 2048) (f : Fin 5632) : val_main_v2 (F := Ideal) u w (ix2 i f) = pre u w 1 i f := by
  unfold pre dotRow half
  pointwise! [val_main_v2, val_main_v0]

theorem logistic_apply (i : Fin 2048) (f : Fin 5632) :
    val_main_call0_v5 (F := Ideal) u w (ix2 i f) = lg (val_main_v1 (F := Ideal) u w (ix2 i f)) := by
  unfold lg
  rw [zero_sub]
  pointwise! [val_main_call0_v5, val_main_call0_v4, val_main_call0_cst_0, val_main_call0_v3, val_main_call0_v2,
    val_main_call0_cst, val_main_call0_v1, val_main_call0_v0]

theorem v5_apply (i : Fin 2048) (f : Fin 5632) :
    val_main_v5 (F := Ideal) u w (ix2 i f) = gated (pre u w 0 i f) (pre u w 1 i f) := by
  unfold gated
  rw [← v1_apply, ← v2_apply, ← logistic_apply]
  rfl

theorem v8_apply (f : Fin 5632) (i : Fin 2048) :
    val_main_v8 (F := Ideal) u w (ix2 f i) = gated (pre u w 0 i f) (pre u w 1 i f) := by
  rw [← v5_apply]
  unfold val_main_v8
  generalize val_main_v5 (F := Ideal) u w = a
  pointwise!

end Reference

/-- The reference's frame: its run read at the arguments; it declares no semaphore. -/
theorem reference_frame : Cert.quiescent_Reference9Ideal := fun m ρ _ =>
  (θ_run (Cert.Reference9Ideal.defs (F := Ideal)) _ _).mono (fun r h => And.intro (fun c => (h c).2.2.2.2)
    (Idealize.ShloMosaic.sem_eq_zero_of_no_sems (by decide) r.2)) (Cert.Reference9Ideal.Value.run (F := Ideal) m ρ)

theorem algebraic : Cert.algebraic_Kernel9Ideal_Reference9Ideal := by
  intro m ρ m' ρ' _ hag
  refine ⟨fun c => G2 m c, fun c => G3 m c, fun c => G4 m c, fun c => G5 m c, ?_, ?_⟩
  · refine (θ_run Cert.Kernel9Ideal.defs _ _).mono (fun r h c => ?_) (Cert.Kernel9Ideal.Value.run_blocks m ρ)
    obtain ⟨h0, h1, h2, h3, ha⟩ := h c
    exact ⟨h0.trans (final2 m c), h1.trans (final3 m c), h2.trans (final4 m c), h3.trans (final5 m c), ha⟩
  · refine (θ_run Cert.Reference9Ideal.defs _ _).mono (fun r h c => ?_) (Cert.Reference9Ideal.Value.run (F := Ideal) m' ρ')
    obtain ⟨h0, h1, h2, h3, ha⟩ := h c
    obtain ⟨e0, e1⟩ := hag c
    refine ⟨h0.trans ?_, h1.trans ?_, h2.trans ?_, h3.trans ?_, ha⟩
    · rw [Cert.Reference9Ideal.Read.val_main_v6_eq, e0, e1]
      funext j
      obtain ⟨a, b, rfl⟩ := eq_ix2 (a := 2048) (b := 5632) j
      exact v1_apply _ _ a b
    · rw [Cert.Reference9Ideal.Read.val_main_v7_eq, e0, e1]
      funext j
      obtain ⟨a, b, rfl⟩ := eq_ix2 (a := 2048) (b := 5632) j
      exact v2_apply _ _ a b
    · rw [Cert.Reference9Ideal.Read.val_main_v5_eq, e0, e1]
      funext j
      obtain ⟨a, b, rfl⟩ := eq_ix2 (a := 2048) (b := 5632) j
      exact v5_apply _ _ a b
    · rw [Cert.Reference9Ideal.Read.val_main_v8_eq, e0, e1]
      funext j
      obtain ⟨b, a, rfl⟩ := eq_ix2 (a := 5632) (b := 2048) j
      exact v8_apply _ _ b a

end Cert.FfnFwd

end
-- ==== Proof.LruRun.lean ====
module

public import proofs.«01_k».proof.Proof.Gen.Kernel10Ideal.Frame
public import proofs.«01_k».proof.Proof.Gen.Kernel10Ideal.Loops
public import Idealize.ShloMosaic.Lib.WritesUnit

@[expose] public section

set_option maxRecDepth 16384

noncomputable section

namespace Cert.Kernel10Ideal.LruRun

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
    (a1 : Memref sig .tc .vmem S2048x128 .f32) (k1 : a1.IsWhole)
    (a2 : Memref sig .tc .vmem S2048x128 .f32) (k2 : a2.IsWhole)
    (a3 : Memref sig .tc .vmem S4x128 .f32) (k3 : a3.IsWhole)
    (a4 : Memref sig .tc .vmem S1x128 .f32) (k4 : a4.IsWhole)
    (a5 : Memref sig .tc .vmem S4x1x128x128 .bf16) (k5 : a5.IsWhole)
    (a6 : Memref sig .tc .vmem S4x128 .f32) (k6 : a6.IsWhole)
    (a7 : Memref sig .tc .vmem S2x128 .f32) (k7 : a7.IsWhole)
    (a8 : Memref sig .tc .vmem S2048x128 .f32) (k8 : a8.IsWhole)
    (a9 : Memref sig .tc .vmem S2048x128 .f32) (k9 : a9.IsWhole)
    (a10 : Memref sig .tc .vmem S2048x128 .f32) (k10 : a10.IsWhole)
    (a11 : Memref sig .tc .vmem S2048x128 .bf16) (k11 : a11.IsWhole)
    (a12 : Memref sig .tc .vmem S2048x128 .bf16) (k12 : a12.IsWhole)
    (a13 : Memref sig .tc .vmem S2x128x2048 .bf16) (k13 : a13.IsWhole)
    (a14 : Memref sig .tc .vmem S4x128 .f32) (k14 : a14.IsWhole)
    (a15 : Memref sig .tc .vmem S1x128 .f32) (k15 : a15.IsWhole)
    (a16 : Memref sig .tc .vmem S4x1x128x128 .f32) (k16 : a16.IsWhole)
    (a17 : Memref sig .tc .vmem S4x128 .f32) (k17 : a17.IsWhole)
    (a18 : Memref sig .tc .vmem S2x128 .f32) (k18 : a18.IsWhole)
    (a19 : Memref sig .tc .vmem S2064x128 .f32) (k19 : a19.IsWhole)
    (a20 : Memref sig .tc .vmem S2064x128 .f32) (k20 : a20.IsWhole)
    (a21 : Memref sig .tc .vmem S2064x128 .f32) (k21 : a21.IsWhole)
    (a22 : Memref sig .tc .vmem S2048x128 .f32) (k22 : a22.IsWhole)
    (a23 : Memref sig .tc .vmem S2048x128 .f32) (k23 : a23.IsWhole)
    (a24 : Memref sig .tc .vmem S2048x128 .f32) (k24 : a24.IsWhole)
    (a25 : Memref sig .tc .vmem S2048x128 .f32) (k25 : a25.IsWhole)
    (a26 : Memref sig .tc .vmem S2048x128 .f32) (k26 : a26.IsWhole)
    (x1 : Vec F S2048x128 .f32) (x2 : Vec F S2048x128 .f32) (x3 : Vec F S4x128 .f32) (x4 : Vec F S1x128 .f32) (x5 : Vec F S4x1x128x128 .bf16) (x6 : Vec F S4x128 .f32) (x7 : Vec F S2x128 .f32) (x8 : Vec F S2048x128 .f32) (x9 : Vec F S2048x128 .f32) (x10 : Vec F S2048x128 .f32)
    (f19 : BufTy.Contents (Elt F) a19.view.ty) (f20 : BufTy.Contents (Elt F) a20.view.ty) (f21 : BufTy.Contents (Elt F) a21.view.ty) (f22 : BufTy.Contents (Elt F) a22.view.ty) (f23 : BufTy.Contents (Elt F) a23.view.ty) (f24 : BufTy.Contents (Elt F) a24.view.ty) (f25 : BufTy.Contents (Elt F) a25.view.ty) (f26 : BufTy.Contents (Elt F) a26.view.ty)

set_option maxHeartbeats 16000000 in
/-- The body's run: what it writes into the eight gradient outputs, as pieces, whatever the scratch buffers held. -/
def run :
    Σ' (L11 : List (View.Piece (Elt F) S2048x128 .bf16)) (L12 : List (View.Piece (Elt F) S2048x128 .bf16)) (L13 : List (View.Piece (Elt F) S2x128x2048 .bf16)) (L14 : List (View.Piece (Elt F) S4x128 .f32)) (L15 : List (View.Piece (Elt F) S1x128 .f32)) (L16 : List (View.Piece (Elt F) S4x1x128x128 .f32)) (L17 : List (View.Piece (Elt F) S4x128 .f32)),
      { L18 : List (View.Piece (Elt F) S2x128 .f32) // ∀ (E : Set ℕ) (K : PUnit → sProp 𝕄G),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ f, (a11.view.loc (c : Thread nD τ) ↦[a11.view.set]{fullShare} f)) ∗ (∃ f, (a12.view.loc (c : Thread nD τ) ↦[a12.view.set]{fullShare} f)) ∗ (∃ f, (a13.view.loc (c : Thread nD τ) ↦[a13.view.set]{fullShare} f)) ∗ (∃ f, (a14.view.loc (c : Thread nD τ) ↦[a14.view.set]{fullShare} f)) ∗ (∃ f, (a15.view.loc (c : Thread nD τ) ↦[a15.view.set]{fullShare} f)) ∗ (∃ f, (a16.view.loc (c : Thread nD τ) ↦[a16.view.set]{fullShare} f)) ∗ (∃ f, (a17.view.loc (c : Thread nD τ) ↦[a17.view.set]{fullShare} f)) ∗ (∃ f, (a18.view.loc (c : Thread nD τ) ↦[a18.view.set]{fullShare} f)) ∗ (a19.view.loc (c : Thread nD τ) ↦[a19.view.set]{fullShare} f19) ∗ (a20.view.loc (c : Thread nD τ) ↦[a20.view.set]{fullShare} f20) ∗ (a21.view.loc (c : Thread nD τ) ↦[a21.view.set]{fullShare} f21) ∗ (a22.view.loc (c : Thread nD τ) ↦[a22.view.set]{fullShare} f22) ∗ (a23.view.loc (c : Thread nD τ) ↦[a23.view.set]{fullShare} f23) ∗ (a24.view.loc (c : Thread nD τ) ↦[a24.view.set]{fullShare} f24) ∗ (a25.view.loc (c : Thread nD τ) ↦[a25.view.set]{fullShare} f25) ∗ (a26.view.loc (c : Thread nD τ) ↦[a26.view.set]{fullShare} f26)
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ f, (a11.view.loc (c : Thread nD τ) ↦[a11.view.set]{fullShare} a11.view.writes (Elt F) f L11)) ∗ (∃ f, (a12.view.loc (c : Thread nD τ) ↦[a12.view.set]{fullShare} a12.view.writes (Elt F) f L12)) ∗ (∃ f, (a13.view.loc (c : Thread nD τ) ↦[a13.view.set]{fullShare} a13.view.writes (Elt F) f L13)) ∗ (∃ f, (a14.view.loc (c : Thread nD τ) ↦[a14.view.set]{fullShare} a14.view.writes (Elt F) f L14)) ∗ (∃ f, (a15.view.loc (c : Thread nD τ) ↦[a15.view.set]{fullShare} a15.view.writes (Elt F) f L15)) ∗ (∃ f, (a16.view.loc (c : Thread nD τ) ↦[a16.view.set]{fullShare} a16.view.writes (Elt F) f L16)) ∗ (∃ f, (a17.view.loc (c : Thread nD τ) ↦[a17.view.set]{fullShare} a17.view.writes (Elt F) f L17)) ∗ (∃ f, (a18.view.loc (c : Thread nD τ) ↦[a18.view.set]{fullShare} a18.view.writes (Elt F) f L18)) ∗ (∃ f, (a19.view.loc (c : Thread nD τ) ↦[a19.view.set]{fullShare} f)) ∗ (∃ f, (a20.view.loc (c : Thread nD τ) ↦[a20.view.set]{fullShare} f)) ∗ (∃ f, (a21.view.loc (c : Thread nD τ) ↦[a21.view.set]{fullShare} f)) ∗ (∃ f, (a22.view.loc (c : Thread nD τ) ↦[a22.view.set]{fullShare} f)) ∗ (∃ f, (a23.view.loc (c : Thread nD τ) ↦[a23.view.set]{fullShare} f)) ∗ (∃ f, (a24.view.loc (c : Thread nD τ) ↦[a24.view.set]{fullShare} f)) ∗ (∃ f, (a25.view.loc (c : Thread nD τ) ↦[a25.view.set]{fullShare} f)) ∗ (∃ f, (a26.view.loc (c : Thread nD τ) ↦[a26.view.set]{fullShare} f))) -∗ K ⟨⟩))
          ⊢ wp frame (wpE (defs₀ (F := F)) Variants.none c none) E (cc0_lru_bwd i a1 k1 a2 k2 a3 k3 a4 k4 a5 k5 a6 k6 a7 k7 a8 k8 a9 k9 a10 k10 a11 k11 a12 k12 a13 k13 a14 k14 a15 k15 a16 k16 a17 k17 a18 k18 a19 k19 a20 k20 a21 k21 a22 k22 a23 k23 a24 k24 a25 k25 a26 k26) K } := by
  refine ⟨?_, ?_, ?_, ?_, ?_, ?_, ?_, ?_, fun E K => ?run⟩
  case run =>
    simp only [cc0_lru_bwd_eq_skeleton]; unfold cc0_lru_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩, ⟨%f11, H11⟩, ⟨%f12, H12⟩, ⟨%f13, H13⟩, ⟨%f14, H14⟩, ⟨%f15, H15⟩, ⟨%f16, H16⟩, ⟨%f17, H17⟩, ⟨%f18, H18⟩, H19, H20, H21, H22, H23, H24, H25, H26, Hk⟩
    obtain rfl := k1.eq_unread hg1; obtain rfl := k2.eq_unread hg2; obtain rfl := k3.eq_unread hg3; obtain rfl := k4.eq_unread hg4; obtain rfl := k5.eq_unread hg5; obtain rfl := k6.eq_unread hg6; obtain rfl := k7.eq_unread hg7; obtain rfl := k8.eq_unread hg8; obtain rfl := k9.eq_unread hg9; obtain rfl := k10.eq_unread hg10
    sl_exec
    sl_step
    iapply Hk
    isplitl [H1]
    · iexists _; isplitr; · ipureintro; exact k1.read_unread _
      iexact H1
    isplitl [H2]
    · iexists _; isplitr; · ipureintro; exact k2.read_unread _
      iexact H2
    isplitl [H3]
    · iexists _; isplitr; · ipureintro; exact k3.read_unread _
      iexact H3
    isplitl [H4]
    · iexists _; isplitr; · ipureintro; exact k4.read_unread _
      iexact H4
    isplitl [H5]
    · iexists _; isplitr; · ipureintro; exact k5.read_unread _
      iexact H5
    isplitl [H6]
    · iexists _; isplitr; · ipureintro; exact k6.read_unread _
      iexact H6
    isplitl [H7]
    · iexists _; isplitr; · ipureintro; exact k7.read_unread _
      iexact H7
    isplitl [H8]
    · iexists _; isplitr; · ipureintro; exact k8.read_unread _
      iexact H8
    isplitl [H9]
    · iexists _; isplitr; · ipureintro; exact k9.read_unread _
      iexact H9
    isplitl [H10]
    · iexists _; isplitr; · ipureintro; exact k10.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact H26

end Cert.Kernel10Ideal.LruRun

end
-- ==== Proof.LruIndep.lean ====
module

public import proofs.«01_k».proof.Proof.LruRun

@[expose] public section

set_option maxRecDepth 16384

noncomputable section

namespace Cert.Kernel10Ideal.LruRun

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD) (i : grid0.Coords)
    (a1 : Memref sig .tc .vmem S2048x128 .f32) (h1 : a1.IsWhole)
    (a2 : Memref sig .tc .vmem S2048x128 .f32) (h2 : a2.IsWhole)
    (a3 : Memref sig .tc .vmem S4x128 .f32) (h3 : a3.IsWhole)
    (a4 : Memref sig .tc .vmem S1x128 .f32) (h4 : a4.IsWhole)
    (a5 : Memref sig .tc .vmem S4x1x128x128 .bf16) (h5 : a5.IsWhole)
    (a6 : Memref sig .tc .vmem S4x128 .f32) (h6 : a6.IsWhole)
    (a7 : Memref sig .tc .vmem S2x128 .f32) (h7 : a7.IsWhole)
    (a8 : Memref sig .tc .vmem S2048x128 .f32) (h8 : a8.IsWhole)
    (a9 : Memref sig .tc .vmem S2048x128 .f32) (h9 : a9.IsWhole)
    (a10 : Memref sig .tc .vmem S2048x128 .f32) (h10 : a10.IsWhole)
    (a11 : Memref sig .tc .vmem S2048x128 .bf16) (h11 : a11.IsWhole)
    (a12 : Memref sig .tc .vmem S2048x128 .bf16) (h12 : a12.IsWhole)
    (a13 : Memref sig .tc .vmem S2x128x2048 .bf16) (h13 : a13.IsWhole)
    (a14 : Memref sig .tc .vmem S4x128 .f32) (h14 : a14.IsWhole)
    (a15 : Memref sig .tc .vmem S1x128 .f32) (h15 : a15.IsWhole)
    (a16 : Memref sig .tc .vmem S4x1x128x128 .f32) (h16 : a16.IsWhole)
    (a17 : Memref sig .tc .vmem S4x128 .f32) (h17 : a17.IsWhole)
    (a18 : Memref sig .tc .vmem S2x128 .f32) (h18 : a18.IsWhole)
    (a19 : Memref sig .tc .vmem S2064x128 .f32) (h19 : a19.IsWhole)
    (a20 : Memref sig .tc .vmem S2064x128 .f32) (h20 : a20.IsWhole)
    (a21 : Memref sig .tc .vmem S2064x128 .f32) (h21 : a21.IsWhole)
    (a22 : Memref sig .tc .vmem S2048x128 .f32) (h22 : a22.IsWhole)
    (a23 : Memref sig .tc .vmem S2048x128 .f32) (h23 : a23.IsWhole)
    (a24 : Memref sig .tc .vmem S2048x128 .f32) (h24 : a24.IsWhole)
    (a25 : Memref sig .tc .vmem S2048x128 .f32) (h25 : a25.IsWhole)
    (a26 : Memref sig .tc .vmem S2048x128 .f32) (h26 : a26.IsWhole)
    (x1 : Vec F S2048x128 .f32) (x2 : Vec F S2048x128 .f32) (x3 : Vec F S4x128 .f32) (x4 : Vec F S1x128 .f32) (x5 : Vec F S4x1x128x128 .bf16) (x6 : Vec F S4x128 .f32) (x7 : Vec F S2x128 .f32) (x8 : Vec F S2048x128 .f32) (x9 : Vec F S2048x128 .f32) (x10 : Vec F S2048x128 .f32)

/-- Reading back rows written eight at a time, one tile a trip, does not depend on what was there before. -/
theorem read_tiles (M : Memref sig .tc .vmem S2048x128 .f32) (L : ℕ → List (View.Piece (Elt F) S2048x128 .f32)) (o : ℕ → ℕ) (N : ℕ)
    (h : ∀ k < N, ∃ (off : Fin 2 → ℕ) (inb : ∀ a, off a + S8x128.size a ≤ S2048x128.size a) (w : _), off = ![o k, 0]
      ∧ L (k + 1) = (⟨Rect.unit (s := S2048x128) off S8x128.size inb, w⟩ : View.Piece (Elt F) S2048x128 .f32) :: L k)
    (ho : ∀ r < 2048, ∃ k < N, o k ≤ r ∧ r < o k + 8) (f g : BufTy.Contents (Elt F) M.view.ty) :
    M.view.read (Elt F) (M.view.writes (Elt F) f (L N)) = M.view.read (Elt F) (M.view.writes (Elt F) g (L N)) := by
  have key : ∀ n ≤ N, ∀ k < n, ∀ y : S2048x128.Idx, o k ≤ (y (0 : Fin 2)).val → (y (0 : Fin 2)).val < o k + 8 →
      ∃ pc ∈ L n, y ∈ pc.1.set := by
    intro n
    induction n with
    | zero => intro _ k hk; omega
    | succ n ih =>
      intro hn k hk y h1 h2
      obtain ⟨off, inb, w, e, eL⟩ := h n hn
      rw [eL]
      by_cases hkn : k = n
      · subst hkn; subst e
        refine ⟨_, List.mem_cons_self .., (Rect.unit (s := S2048x128) _ S8x128.size inb).mem_set.mpr fun a => ?_⟩
        fin_cases a
        · exact ⟨(y (0 : Fin 2)).val - o k, by show _ < 8; omega, by show (y (0 : Fin 2)).val = o k + 1 * ((y (0 : Fin 2)).val - o k); omega⟩
        · exact ⟨(y (1 : Fin 2)).val, (y (1 : Fin 2)).isLt, by show (y (1 : Fin 2)).val = 0 + 1 * (y (1 : Fin 2)).val; omega⟩
      · obtain ⟨pc, hm, hy⟩ := ih (by omega) k (by omega) y h1 h2
        exact ⟨pc, List.mem_cons_of_mem _ hm, hy⟩
  refine View.read_writes_of_cover M.view f M.view g (L N) fun y => ?_
  obtain ⟨k, hk, h1, h2⟩ := ho (y (0 : Fin 2)).val (y (0 : Fin 2)).isLt
  exact key N le_rfl k hk y h1 h2

/-- Every trip adds one tile of the backward recurrence's gradient, from the last rows up, -/
theorem st_rows25 {𝒱 : Variants} {bd : Option 𝒱.V} {v88 v133 : FVec F S2048x128 .f32} {v224 : IVec S8x128 32} {X22 : BufTy.Contents (Elt F) a22.view.ty} {X23 : BufTy.Contents (Elt F) a23.view.ty} {X24 : BufTy.Contents (Elt F) a24.view.ty} {init : FVec F S1x128 .f32 × FVec F S1x128 .f32} (k : Fin k0_t1_loop.trips) :
    ∃ w, (st_k0_t1 (F := F) 𝒱 c bd i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 v88 v133 v224 X22 X23 X24 init (k.val + 1)).2.1 = (⟨Rect.unit (s := S2048x128) (k0_off2 k) S8x128.size (k0_off2_inb k), w⟩ : View.Piece (Elt F) S2048x128 .f32)
      :: (st_k0_t1 (F := F) 𝒱 c bd i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 v88 v133 v224 X22 X23 X24 init k.val).2.1 := by
  rw [st_k0_t1_succ]; dsimp only [tripL_k0_t1]; unfold trip_k0_t1; exact ⟨_, rfl⟩

/-- and one of the forward recurrence's, from the first rows down. -/
theorem st_rows26 {𝒱 : Variants} {bd : Option 𝒱.V} {v88 v133 : FVec F S2048x128 .f32} {v224 : IVec S8x128 32} {X22 : BufTy.Contents (Elt F) a22.view.ty} {X23 : BufTy.Contents (Elt F) a23.view.ty} {X24 : BufTy.Contents (Elt F) a24.view.ty} {init : FVec F S1x128 .f32 × FVec F S1x128 .f32} (k : Fin k0_t1_loop.trips) :
    ∃ w, (st_k0_t1 (F := F) 𝒱 c bd i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 v88 v133 v224 X22 X23 X24 init (k.val + 1)).2.2 = (⟨Rect.unit (s := S2048x128) (k0_off1 k) S8x128.size (k0_off1_inb k), w⟩ : View.Piece (Elt F) S2048x128 .f32)
      :: (st_k0_t1 (F := F) 𝒱 c bd i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 v88 v133 v224 X22 X23 X24 init k.val).2.2 := by
  rw [st_k0_t1_succ]; dsimp only [tripL_k0_t1]; unfold trip_k0_t1; exact ⟨_, rfl⟩

theorem v301_indep (f25 g25 : BufTy.Contents (Elt F) a25.view.ty) : run.sl.v301 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x10 f25 = run.sl.v301 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x10 g25 := by
  unfold run.sl.v301
  funext y
  exact congrFun (read_tiles a25 (fun k => (st_k0_t1 Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 _ _ _ _ _ _ _ k).2.1) (fun k => 2040 - 8 * k) k0_t1_loop.trips
    (fun k hk => by obtain ⟨w, e⟩ := st_rows25 (F := F) c i _ _ _ _ _ _ _ _ _ _ _ _ _ _ _ _ _ _ _ _ _ _ _ _ _ _ _ _ _ _ _ _ _ _ _ _ _ _ _ _ _ _ _ _ _ _ _ _ _ _ _ _ ⟨k, hk⟩; exact ⟨_, _, w, k0_off2_eq ⟨k, hk⟩, e⟩)
    (fun r hr => ⟨255 - r / 8, by show _ < 256; omega, by omega, by omega⟩) f25 g25) _

theorem v384_indep (f26 g26 : BufTy.Contents (Elt F) a26.view.ty) : run.sl.v384 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x10 f26 = run.sl.v384 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x10 g26 := by
  unfold run.sl.v384
  funext y
  exact congrFun (read_tiles a26 (fun k => (st_k0_t1 Variants.none c none i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 _ _ _ _ _ _ _ k).2.2) (fun k => 8 * k) k0_t1_loop.trips
    (fun k hk => by obtain ⟨w, e⟩ := st_rows26 (F := F) c i _ _ _ _ _ _ _ _ _ _ _ _ _ _ _ _ _ _ _ _ _ _ _ _ _ _ _ _ _ _ _ _ _ _ _ _ _ _ _ _ _ _ _ _ _ _ _ _ _ _ _ _ ⟨k, hk⟩; exact ⟨_, _, w, k0_off1_eq ⟨k, hk⟩, e⟩)
    (fun r hr => ⟨r / 8, by show _ < 256; omega, by omega, by omega⟩) f26 g26) _

set_option maxHeartbeats 4000000 in
/-- The run's pieces depend on the inputs alone. -/
theorem run_indep (f19 g19 : BufTy.Contents (Elt F) a19.view.ty) (f20 g20 : BufTy.Contents (Elt F) a20.view.ty) (f21 g21 : BufTy.Contents (Elt F) a21.view.ty) (f22 g22 : BufTy.Contents (Elt F) a22.view.ty) (f23 g23 : BufTy.Contents (Elt F) a23.view.ty) (f24 g24 : BufTy.Contents (Elt F) a24.view.ty) (f25 g25 : BufTy.Contents (Elt F) a25.view.ty) (f26 g26 : BufTy.Contents (Elt F) a26.view.ty) :
    (run c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 f19 f20 f21 f22 f23 f24 f25 f26).1 = (run c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 g19 g20 g21 g22 g23 g24 g25 g26).1
      ∧ (run c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 f19 f20 f21 f22 f23 f24 f25 f26).2.1 = (run c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 g19 g20 g21 g22 g23 g24 g25 g26).2.1
      ∧ (run c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 f19 f20 f21 f22 f23 f24 f25 f26).2.2.1 = (run c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 g19 g20 g21 g22 g23 g24 g25 g26).2.2.1
      ∧ (run c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 f19 f20 f21 f22 f23 f24 f25 f26).2.2.2.1 = (run c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 g19 g20 g21 g22 g23 g24 g25 g26).2.2.2.1
      ∧ (run c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 f19 f20 f21 f22 f23 f24 f25 f26).2.2.2.2.1 = (run c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 g19 g20 g21 g22 g23 g24 g25 g26).2.2.2.2.1
      ∧ (run c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 f19 f20 f21 f22 f23 f24 f25 f26).2.2.2.2.2.1 = (run c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 g19 g20 g21 g22 g23 g24 g25 g26).2.2.2.2.2.1
      ∧ (run c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 f19 f20 f21 f22 f23 f24 f25 f26).2.2.2.2.2.2.1 = (run c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 g19 g20 g21 g22 g23 g24 g25 g26).2.2.2.2.2.2.1
      ∧ (run c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 f19 f20 f21 f22 f23 f24 f25 f26).2.2.2.2.2.2.2.1 = (run c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 g19 g20 g21 g22 g23 g24 g25 g26).2.2.2.2.2.2.2.1 := by
  unfold run; dsimp only
  refine ⟨?_, ?_, ?_, ?_, ?_, ?_, ?_, ?_⟩ <;>
    simp only [run.sl.r_23, run.sl.r_24, run.sl.r_25, run.sl.r_26, run.sl.r_28, run.sl.r_29, run.sl.r_30, run.sl.r_31, run.sl.r_32, run.sl.r_33, run.sl.r_35, run.sl.r_36, run.sl.r_37, run.sl.r_38, run.sl.r_39, run.sl.H21_3, run.sl.v488, run.sl.v492, run.sl.v497, run.sl.v502, v301_indep c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x10 f25 g25, v384_indep c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x10 f26 g26]

end Cert.Kernel10Ideal.LruRun

end
-- ==== Proof.LruFrame.lean ====
module

public import proofs.«01_k».proof.Proof.LruIndep
public import Idealize.ShloMosaic.Lib.Claim

@[expose] public section

set_option maxRecDepth 16384

noncomputable section

namespace Cert.Kernel10Ideal.LruFrame

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a buffer reads after the pieces `L` are written to it. -/
def leftBy {s : Shape} {e : EltTy} (M : Memref sig .tc .vmem s e) (L : List (View.Piece (Elt F) s e)) : Vec F s e :=
  M.view.read (Elt F) (M.view.writes (Elt F) M.view.junk L)

section Body

variable (c : Dev nD) (i : grid0.Coords)
    (a1 : Memref sig .tc .vmem S2048x128 .f32) (h1 : a1.IsWhole)
    (a2 : Memref sig .tc .vmem S2048x128 .f32) (h2 : a2.IsWhole)
    (a3 : Memref sig .tc .vmem S4x128 .f32) (h3 : a3.IsWhole)
    (a4 : Memref sig .tc .vmem S1x128 .f32) (h4 : a4.IsWhole)
    (a5 : Memref sig .tc .vmem S4x1x128x128 .bf16) (h5 : a5.IsWhole)
    (a6 : Memref sig .tc .vmem S4x128 .f32) (h6 : a6.IsWhole)
    (a7 : Memref sig .tc .vmem S2x128 .f32) (h7 : a7.IsWhole)
    (a8 : Memref sig .tc .vmem S2048x128 .f32) (h8 : a8.IsWhole)
    (a9 : Memref sig .tc .vmem S2048x128 .f32) (h9 : a9.IsWhole)
    (a10 : Memref sig .tc .vmem S2048x128 .f32) (h10 : a10.IsWhole)
    (a11 : Memref sig .tc .vmem S2048x128 .bf16) (h11 : a11.IsWhole)
    (a12 : Memref sig .tc .vmem S2048x128 .bf16) (h12 : a12.IsWhole)
    (a13 : Memref sig .tc .vmem S2x128x2048 .bf16) (h13 : a13.IsWhole)
    (a14 : Memref sig .tc .vmem S4x128 .f32) (h14 : a14.IsWhole)
    (a15 : Memref sig .tc .vmem S1x128 .f32) (h15 : a15.IsWhole)
    (a16 : Memref sig .tc .vmem S4x1x128x128 .f32) (h16 : a16.IsWhole)
    (a17 : Memref sig .tc .vmem S4x128 .f32) (h17 : a17.IsWhole)
    (a18 : Memref sig .tc .vmem S2x128 .f32) (h18 : a18.IsWhole)
    (a19 : Memref sig .tc .vmem S2064x128 .f32) (h19 : a19.IsWhole)
    (a20 : Memref sig .tc .vmem S2064x128 .f32) (h20 : a20.IsWhole)
    (a21 : Memref sig .tc .vmem S2064x128 .f32) (h21 : a21.IsWhole)
    (a22 : Memref sig .tc .vmem S2048x128 .f32) (h22 : a22.IsWhole)
    (a23 : Memref sig .tc .vmem S2048x128 .f32) (h23 : a23.IsWhole)
    (a24 : Memref sig .tc .vmem S2048x128 .f32) (h24 : a24.IsWhole)
    (a25 : Memref sig .tc .vmem S2048x128 .f32) (h25 : a25.IsWhole)
    (a26 : Memref sig .tc .vmem S2048x128 .f32) (h26 : a26.IsWhole)
    (x1 : Vec F S2048x128 .f32) (x2 : Vec F S2048x128 .f32) (x3 : Vec F S4x128 .f32) (x4 : Vec F S1x128 .f32) (x5 : Vec F S4x1x128x128 .bf16) (x6 : Vec F S4x128 .f32) (x7 : Vec F S2x128 .f32) (x8 : Vec F S2048x128 .f32) (x9 : Vec F S2048x128 .f32) (x10 : Vec F S2048x128 .f32)

/-- The run from scratch buffers at fixed contents. -/
abbrev runJ := LruRun.run (F := F) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 a19.view.junk a20.view.junk a21.view.junk a22.view.junk a23.view.junk a24.view.junk a25.view.junk a26.view.junk

/-- The body's triple at given pieces. -/
def Triple (f19 : BufTy.Contents (Elt F) a19.view.ty) (f20 : BufTy.Contents (Elt F) a20.view.ty) (f21 : BufTy.Contents (Elt F) a21.view.ty) (f22 : BufTy.Contents (Elt F) a22.view.ty) (f23 : BufTy.Contents (Elt F) a23.view.ty) (f24 : BufTy.Contents (Elt F) a24.view.ty) (f25 : BufTy.Contents (Elt F) a25.view.ty) (f26 : BufTy.Contents (Elt F) a26.view.ty) (L11 : List (View.Piece (Elt F) S2048x128 .bf16)) (L12 : List (View.Piece (Elt F) S2048x128 .bf16)) (L13 : List (View.Piece (Elt F) S2x128x2048 .bf16)) (L14 : List (View.Piece (Elt F) S4x128 .f32)) (L15 : List (View.Piece (Elt F) S1x128 .f32)) (L16 : List (View.Piece (Elt F) S4x1x128x128 .f32)) (L17 : List (View.Piece (Elt F) S4x128 .f32)) (L18 : List (View.Piece (Elt F) S2x128 .f32)) : Prop :=
  ∀ (E : Set ℕ) (K : PUnit → sProp 𝕄),
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ f, (a11.view.loc (c : Thread nD τ) ↦[a11.view.set]{fullShare} f)) ∗ (∃ f, (a12.view.loc (c : Thread nD τ) ↦[a12.view.set]{fullShare} f)) ∗ (∃ f, (a13.view.loc (c : Thread nD τ) ↦[a13.view.set]{fullShare} f)) ∗ (∃ f, (a14.view.loc (c : Thread nD τ) ↦[a14.view.set]{fullShare} f)) ∗ (∃ f, (a15.view.loc (c : Thread nD τ) ↦[a15.view.set]{fullShare} f)) ∗ (∃ f, (a16.view.loc (c : Thread nD τ) ↦[a16.view.set]{fullShare} f)) ∗ (∃ f, (a17.view.loc (c : Thread nD τ) ↦[a17.view.set]{fullShare} f)) ∗ (∃ f, (a18.view.loc (c : Thread nD τ) ↦[a18.view.set]{fullShare} f)) ∗ (a19.view.loc (c : Thread nD τ) ↦[a19.view.set]{fullShare} f19) ∗ (a20.view.loc (c : Thread nD τ) ↦[a20.view.set]{fullShare} f20) ∗ (a21.view.loc (c : Thread nD τ) ↦[a21.view.set]{fullShare} f21) ∗ (a22.view.loc (c : Thread nD τ) ↦[a22.view.set]{fullShare} f22) ∗ (a23.view.loc (c : Thread nD τ) ↦[a23.view.set]{fullShare} f23) ∗ (a24.view.loc (c : Thread nD τ) ↦[a24.view.set]{fullShare} f24) ∗ (a25.view.loc (c : Thread nD τ) ↦[a25.view.set]{fullShare} f25) ∗ (a26.view.loc (c : Thread nD τ) ↦[a26.view.set]{fullShare} f26)
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ f, (a11.view.loc (c : Thread nD τ) ↦[a11.view.set]{fullShare} a11.view.writes (Elt F) f L11)) ∗ (∃ f, (a12.view.loc (c : Thread nD τ) ↦[a12.view.set]{fullShare} a12.view.writes (Elt F) f L12)) ∗ (∃ f, (a13.view.loc (c : Thread nD τ) ↦[a13.view.set]{fullShare} a13.view.writes (Elt F) f L13)) ∗ (∃ f, (a14.view.loc (c : Thread nD τ) ↦[a14.view.set]{fullShare} a14.view.writes (Elt F) f L14)) ∗ (∃ f, (a15.view.loc (c : Thread nD τ) ↦[a15.view.set]{fullShare} a15.view.writes (Elt F) f L15)) ∗ (∃ f, (a16.view.loc (c : Thread nD τ) ↦[a16.view.set]{fullShare} a16.view.writes (Elt F) f L16)) ∗ (∃ f, (a17.view.loc (c : Thread nD τ) ↦[a17.view.set]{fullShare} a17.view.writes (Elt F) f L17)) ∗ (∃ f, (a18.view.loc (c : Thread nD τ) ↦[a18.view.set]{fullShare} a18.view.writes (Elt F) f L18)) ∗ (∃ f, (a19.view.loc (c : Thread nD τ) ↦[a19.view.set]{fullShare} f)) ∗ (∃ f, (a20.view.loc (c : Thread nD τ) ↦[a20.view.set]{fullShare} f)) ∗ (∃ f, (a21.view.loc (c : Thread nD τ) ↦[a21.view.set]{fullShare} f)) ∗ (∃ f, (a22.view.loc (c : Thread nD τ) ↦[a22.view.set]{fullShare} f)) ∗ (∃ f, (a23.view.loc (c : Thread nD τ) ↦[a23.view.set]{fullShare} f)) ∗ (∃ f, (a24.view.loc (c : Thread nD τ) ↦[a24.view.set]{fullShare} f)) ∗ (∃ f, (a25.view.loc (c : Thread nD τ) ↦[a25.view.set]{fullShare} f)) ∗ (∃ f, (a26.view.loc (c : Thread nD τ) ↦[a26.view.set]{fullShare} f))) -∗ K ⟨⟩))
      ⊢ wp frame (wpE (defs₀ (F := F)) Variants.none c none) E (cc0_lru_bwd i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26) K

theorem triple_f (f19 : BufTy.Contents (Elt F) a19.view.ty) (f20 : BufTy.Contents (Elt F) a20.view.ty) (f21 : BufTy.Contents (Elt F) a21.view.ty) (f22 : BufTy.Contents (Elt F) a22.view.ty) (f23 : BufTy.Contents (Elt F) a23.view.ty) (f24 : BufTy.Contents (Elt F) a24.view.ty) (f25 : BufTy.Contents (Elt F) a25.view.ty) (f26 : BufTy.Contents (Elt F) a26.view.ty) (r : _) (hr : r = LruRun.run c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 f19 f20 f21 f22 f23 f24 f25 f26) : Triple c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 f19 f20 f21 f22 f23 f24 f25 f26 r.1 r.2.1 r.2.2.1 r.2.2.2.1 r.2.2.2.2.1 r.2.2.2.2.2.1 r.2.2.2.2.2.2.1 r.2.2.2.2.2.2.2.1 :=
  by subst hr; exact (LruRun.run c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 f19 f20 f21 f22 f23 f24 f25 f26).2.2.2.2.2.2.2.2

theorem Triple.congr (f19 : BufTy.Contents (Elt F) a19.view.ty) (f20 : BufTy.Contents (Elt F) a20.view.ty) (f21 : BufTy.Contents (Elt F) a21.view.ty) (f22 : BufTy.Contents (Elt F) a22.view.ty) (f23 : BufTy.Contents (Elt F) a23.view.ty) (f24 : BufTy.Contents (Elt F) a24.view.ty) (f25 : BufTy.Contents (Elt F) a25.view.ty) (f26 : BufTy.Contents (Elt F) a26.view.ty) {L11 : List (View.Piece (Elt F) S2048x128 .bf16)} {L12 : List (View.Piece (Elt F) S2048x128 .bf16)} {L13 : List (View.Piece (Elt F) S2x128x2048 .bf16)} {L14 : List (View.Piece (Elt F) S4x128 .f32)} {L15 : List (View.Piece (Elt F) S1x128 .f32)} {L16 : List (View.Piece (Elt F) S4x1x128x128 .f32)} {L17 : List (View.Piece (Elt F) S4x128 .f32)} {L18 : List (View.Piece (Elt F) S2x128 .f32)} {K11 : List (View.Piece (Elt F) S2048x128 .bf16)} {K12 : List (View.Piece (Elt F) S2048x128 .bf16)} {K13 : List (View.Piece (Elt F) S2x128x2048 .bf16)} {K14 : List (View.Piece (Elt F) S4x128 .f32)} {K15 : List (View.Piece (Elt F) S1x128 .f32)} {K16 : List (View.Piece (Elt F) S4x1x128x128 .f32)} {K17 : List (View.Piece (Elt F) S4x128 .f32)} {K18 : List (View.Piece (Elt F) S2x128 .f32)}
    (e : L11 = K11 ∧ L12 = K12 ∧ L13 = K13 ∧ L14 = K14 ∧ L15 = K15 ∧ L16 = K16 ∧ L17 = K17 ∧ L18 = K18)
    (h : Triple c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 f19 f20 f21 f22 f23 f24 f25 f26 L11 L12 L13 L14 L15 L16 L17 L18) : Triple c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 f19 f20 f21 f22 f23 f24 f25 f26 K11 K12 K13 K14 K15 K16 K17 K18 := by
  obtain ⟨rfl, rfl, rfl, rfl, rfl, rfl, rfl, rfl⟩ := e; exact h

/-- From scratch buffers at any contents the body writes the pieces of the fixed run. -/
theorem triple (f19 : BufTy.Contents (Elt F) a19.view.ty) (f20 : BufTy.Contents (Elt F) a20.view.ty) (f21 : BufTy.Contents (Elt F) a21.view.ty) (f22 : BufTy.Contents (Elt F) a22.view.ty) (f23 : BufTy.Contents (Elt F) a23.view.ty) (f24 : BufTy.Contents (Elt F) a24.view.ty) (f25 : BufTy.Contents (Elt F) a25.view.ty) (f26 : BufTy.Contents (Elt F) a26.view.ty) (r : _) (hr : r = runJ c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10) : Triple c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 f19 f20 f21 f22 f23 f24 f25 f26 r.1 r.2.1 r.2.2.1 r.2.2.2.1 r.2.2.2.2.1 r.2.2.2.2.2.1 r.2.2.2.2.2.2.1 r.2.2.2.2.2.2.2.1 :=
  by subst hr; exact Triple.congr c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 f19 f20 f21 f22 f23 f24 f25 f26 (LruRun.run_indep c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 f19 a19.view.junk f20 a20.view.junk f21 a21.view.junk f22 a22.view.junk f23 a23.view.junk f24 a24.view.junk f25 a25.view.junk f26 a26.view.junk) (triple_f c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 f19 f20 f21 f22 f23 f24 f25 f26 _ rfl)

theorem cover11 : ∀ y : S2048x128.Idx, ∃ pc ∈ (runJ c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10).1, y ∈ pc.1.set :=
  fun y => View.cover_of_tiledL _ S2048x128.size (by sl_kernel_rfl) y

theorem cover12 : ∀ y : S2048x128.Idx, ∃ pc ∈ (runJ c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10).2.1, y ∈ pc.1.set :=
  fun y => View.cover_of_tiledL _ S2048x128.size (by sl_kernel_rfl) y

theorem cover13 : ∀ y : S2x128x2048.Idx, ∃ pc ∈ (runJ c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10).2.2.1, y ∈ pc.1.set :=
  fun y => View.cover_of_tiledL _ ![1, 128, 2048] (by sl_kernel_rfl) y

theorem cover14 : ∀ y : S4x128.Idx, ∃ pc ∈ (runJ c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10).2.2.2.1, y ∈ pc.1.set :=
  fun y => View.cover_of_tiledL _ ![1, 128] (by sl_kernel_rfl) y

theorem cover15 : ∀ y : S1x128.Idx, ∃ pc ∈ (runJ c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10).2.2.2.2.1, y ∈ pc.1.set :=
  fun y => View.cover_of_tiledL _ S1x128.size (by sl_kernel_rfl) y

theorem cover16 : ∀ y : S4x1x128x128.Idx, ∃ pc ∈ (runJ c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10).2.2.2.2.2.1, y ∈ pc.1.set :=
  fun y => View.cover_of_tiledL _ ![1, 1, 128, 128] (by sl_kernel_rfl) y

theorem cover17 : ∀ y : S4x128.Idx, ∃ pc ∈ (runJ c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10).2.2.2.2.2.2.1, y ∈ pc.1.set :=
  fun y => View.cover_of_tiledL _ ![1, 128] (by sl_kernel_rfl) y

theorem cover18 : ∀ y : S2x128.Idx, ∃ pc ∈ (runJ c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10).2.2.2.2.2.2.2.1, y ∈ pc.1.set :=
  fun y => View.cover_of_tiledL _ ![1, 128] (by sl_kernel_rfl) y

set_option maxHeartbeats 3200000 in
/-- The body's triple: the inputs stay, the outputs end at values that depend on the inputs' blocks alone. -/
theorem body_run (E : Set ℕ) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ f, (a11.view.loc (c : Thread nD τ) ↦[a11.view.set]{fullShare} f)) ∗ (∃ f, (a12.view.loc (c : Thread nD τ) ↦[a12.view.set]{fullShare} f)) ∗ (∃ f, (a13.view.loc (c : Thread nD τ) ↦[a13.view.set]{fullShare} f)) ∗ (∃ f, (a14.view.loc (c : Thread nD τ) ↦[a14.view.set]{fullShare} f)) ∗ (∃ f, (a15.view.loc (c : Thread nD τ) ↦[a15.view.set]{fullShare} f)) ∗ (∃ f, (a16.view.loc (c : Thread nD τ) ↦[a16.view.set]{fullShare} f)) ∗ (∃ f, (a17.view.loc (c : Thread nD τ) ↦[a17.view.set]{fullShare} f)) ∗ (∃ f, (a18.view.loc (c : Thread nD τ) ↦[a18.view.set]{fullShare} f)) ∗ (∃ f, (a19.view.loc (c : Thread nD τ) ↦[a19.view.set]{fullShare} f)) ∗ (∃ f, (a20.view.loc (c : Thread nD τ) ↦[a20.view.set]{fullShare} f)) ∗ (∃ f, (a21.view.loc (c : Thread nD τ) ↦[a21.view.set]{fullShare} f)) ∗ (∃ f, (a22.view.loc (c : Thread nD τ) ↦[a22.view.set]{fullShare} f)) ∗ (∃ f, (a23.view.loc (c : Thread nD τ) ↦[a23.view.set]{fullShare} f)) ∗ (∃ f, (a24.view.loc (c : Thread nD τ) ↦[a24.view.set]{fullShare} f)) ∗ (∃ f, (a25.view.loc (c : Thread nD τ) ↦[a25.view.set]{fullShare} f)) ∗ (∃ f, (a26.view.loc (c : Thread nD τ) ↦[a26.view.set]{fullShare} f))
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare (leftBy a11 (runJ c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10).1) ∗ owns (c : Thread nD τ) a12 fullShare (leftBy a12 (runJ c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10).2.1) ∗ owns (c : Thread nD τ) a13 fullShare (leftBy a13 (runJ c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10).2.2.1) ∗ owns (c : Thread nD τ) a14 fullShare (leftBy a14 (runJ c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10).2.2.2.1) ∗ owns (c : Thread nD τ) a15 fullShare (leftBy a15 (runJ c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10).2.2.2.2.1) ∗ owns (c : Thread nD τ) a16 fullShare (leftBy a16 (runJ c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10).2.2.2.2.2.1) ∗ owns (c : Thread nD τ) a17 fullShare (leftBy a17 (runJ c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10).2.2.2.2.2.2.1) ∗ owns (c : Thread nD τ) a18 fullShare (leftBy a18 (runJ c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10).2.2.2.2.2.2.2.1) ∗ (∃ f, (a19.view.loc (c : Thread nD τ) ↦[a19.view.set]{fullShare} f)) ∗ (∃ f, (a20.view.loc (c : Thread nD τ) ↦[a20.view.set]{fullShare} f)) ∗ (∃ f, (a21.view.loc (c : Thread nD τ) ↦[a21.view.set]{fullShare} f)) ∗ (∃ f, (a22.view.loc (c : Thread nD τ) ↦[a22.view.set]{fullShare} f)) ∗ (∃ f, (a23.view.loc (c : Thread nD τ) ↦[a23.view.set]{fullShare} f)) ∗ (∃ f, (a24.view.loc (c : Thread nD τ) ↦[a24.view.set]{fullShare} f)) ∗ (∃ f, (a25.view.loc (c : Thread nD τ) ↦[a25.view.set]{fullShare} f)) ∗ (∃ f, (a26.view.loc (c : Thread nD τ) ↦[a26.view.set]{fullShare} f))) -∗ K ⟨⟩))
      ⊢ wp frame (wpE (defs₀ (F := F)) Variants.none c none) E (cc0_lru_bwd i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26) K := by
  iintro ⟨H1, H2, H3, H4, H5, H6, H7, H8, H9, H10, H11, H12, H13, H14, H15, H16, H17, H18, ⟨%f19, H19⟩, ⟨%f20, H20⟩, ⟨%f21, H21⟩, ⟨%f22, H22⟩, ⟨%f23, H23⟩, ⟨%f24, H24⟩, ⟨%f25, H25⟩, ⟨%f26, H26⟩, Hk⟩
  have h := triple c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 x1 x2 x3 x4 x5 x6 x7 x8 x9 x10 f19 f20 f21 f22 f23 f24 f25 f26 _ rfl E K
  iapply h
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iintro ⟨H1, H2, H3, H4, H5, H6, H7, H8, H9, H10, ⟨%f11, H11⟩, ⟨%f12, H12⟩, ⟨%f13, H13⟩, ⟨%f14, H14⟩, ⟨%f15, H15⟩, ⟨%f16, H16⟩, ⟨%f17, H17⟩, ⟨%f18, H18⟩, H19, H20, H21, H22, H23, H24, H25, H26⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; unfold leftBy
    exact View.read_writes_of_cover a11.view _ a11.view a11.view.junk _ (by apply cover11)
  isplitl [H12]
  · unfold owns; iexists _; isplitr
    swap; · iexact H12
    ipureintro; unfold leftBy
    exact View.read_writes_of_cover a12.view _ a12.view a12.view.junk _ (by apply cover12)
  isplitl [H13]
  · unfold owns; iexists _; isplitr
    swap; · iexact H13
    ipureintro; unfold leftBy
    exact View.read_writes_of_cover a13.view _ a13.view a13.view.junk _ (by apply cover13)
  isplitl [H14]
  · unfold owns; iexists _; isplitr
    swap; · iexact H14
    ipureintro; unfold leftBy
    exact View.read_writes_of_cover a14.view _ a14.view a14.view.junk _ (by apply cover14)
  isplitl [H15]
  · unfold owns; iexists _; isplitr
    swap; · iexact H15
    ipureintro; unfold leftBy
    exact View.read_writes_of_cover a15.view _ a15.view a15.view.junk _ (by apply cover15)
  isplitl [H16]
  · unfold owns; iexists _; isplitr
    swap; · iexact H16
    ipureintro; unfold leftBy
    exact View.read_writes_of_cover a16.view _ a16.view a16.view.junk _ (by apply cover16)
  isplitl [H17]
  · unfold owns; iexists _; isplitr
    swap; · iexact H17
    ipureintro; unfold leftBy
    exact View.read_writes_of_cover a17.view _ a17.view a17.view.junk _ (by apply cover17)
  isplitl [H18]
  · unfold owns; iexists _; isplitr
    swap; · iexact H18
    ipureintro; unfold leftBy
    exact View.read_writes_of_cover a18.view _ a18.view a18.view.junk _ (by apply cover18)
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

end Body

/-- A memref owned at some value is held at some contents, -/
theorem raw {s : Shape} {e : EltTy} (c : Dev nD) (M : Memref sig .tc .vmem s e) (d) :
    (owns (c : Thread nD τ) M fullShare d : sProp 𝕄) ⊢ iprop(∃ f, (M.view.loc (c : Thread nD τ) ↦[M.view.set]{fullShare} f)) := by
  unfold owns; iintro ⟨%f, %hf, H⟩; iexists f; iexact H

/-- and the other way. -/
theorem unraw {s : Shape} {e : EltTy} (c : Dev nD) (M : Memref sig .tc .vmem s e) :
    (iprop(∃ f, (M.view.loc (c : Thread nD τ) ↦[M.view.set]{fullShare} f)) : sProp 𝕄) ⊢ iprop(∃ d, owns (c : Thread nD τ) M fullShare d) := by
  unfold owns; iintro ⟨%f, H⟩; iexists _; iexists f; isplitr
  · ipureintro; rfl
  iexact H

variable (m : (ℓ : Loc nD τ sig) → Buf (Elt F) ℓ) (ρ : Dev nD → PrngReg)

abbrev ms0 (t : Fin cfg0.N) : Memref sig .tc .vmem S2048x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x1x128x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S4x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S2048x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S2048x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S2048x128 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S2048x128 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S2x128x2048 .bf16 := win0_12.stage (cfg0.slots t 12)
abbrev hs12 (t : Fin cfg0.N) : (ms12 t).IsWhole := hstage0_12 ((cfg0.slots t 12).cast nbuf0_12)
abbrev ms13 (t : Fin cfg0.N) : Memref sig .tc .vmem S4x128 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x128 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S4x1x128x128 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S4x128 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S2x128 .f32 := win0_17.stage (cfg0.slots t 17)
abbrev hs17 (t : Fin cfg0.N) : (ms17 t).IsWhole := hstage0_17 ((cfg0.slots t 17).cast nbuf0_17)
abbrev sc0 : Memref sig .tc .vmem S2064x128 .f32 := Memref.whole cc0_scratch0
abbrev sc1 : Memref sig .tc .vmem S2064x128 .f32 := Memref.whole cc0_scratch1
abbrev sc2 : Memref sig .tc .vmem S2064x128 .f32 := Memref.whole cc0_scratch2
abbrev sc3 : Memref sig .tc .vmem S2048x128 .f32 := Memref.whole cc0_scratch3
abbrev sc4 : Memref sig .tc .vmem S2048x128 .f32 := Memref.whole cc0_scratch4
abbrev sc5 : Memref sig .tc .vmem S2048x128 .f32 := Memref.whole cc0_scratch5
abbrev sc6 : Memref sig .tc .vmem S2048x128 .f32 := Memref.whole cc0_scratch6
abbrev sc7 : Memref sig .tc .vmem S2048x128 .f32 := Memref.whole cc0_scratch7

theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d)) ∗ (∃ r, prngReg c r)) := by
  unfold Pipeline.ΦA; rw [scopedRest0_eq]; simp only [sc0, sc1, sc2, sc3, sc4, sc5, sc6, sc7, owns_whole]; try rfl

/-- The run at point `t`. -/
abbrev runT (c : Dev nD) (t : Fin cfg0.N) := runJ (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t)
/-- Output 10 after the body at point `t`. -/
def left10 (c : Dev nD) (t : Fin cfg0.N) : Vec F S2048x128 .bf16 := leftBy (ms10 t) (runT m c t).1
/-- Output 11 after the body at point `t`. -/
def left11 (c : Dev nD) (t : Fin cfg0.N) : Vec F S2048x128 .bf16 := leftBy (ms11 t) (runT m c t).2.1
/-- Output 12 after the body at point `t`. -/
def left12 (c : Dev nD) (t : Fin cfg0.N) : Vec F S2x128x2048 .bf16 := leftBy (ms12 t) (runT m c t).2.2.1
/-- Output 13 after the body at point `t`. -/
def left13 (c : Dev nD) (t : Fin cfg0.N) : Vec F S4x128 .f32 := leftBy (ms13 t) (runT m c t).2.2.2.1
/-- Output 14 after the body at point `t`. -/
def left14 (c : Dev nD) (t : Fin cfg0.N) : Vec F S1x128 .f32 := leftBy (ms14 t) (runT m c t).2.2.2.2.1
/-- Output 15 after the body at point `t`. -/
def left15 (c : Dev nD) (t : Fin cfg0.N) : Vec F S4x1x128x128 .f32 := leftBy (ms15 t) (runT m c t).2.2.2.2.2.1
/-- Output 16 after the body at point `t`. -/
def left16 (c : Dev nD) (t : Fin cfg0.N) : Vec F S4x128 .f32 := leftBy (ms16 t) (runT m c t).2.2.2.2.2.2.1
/-- Output 17 after the body at point `t`. -/
def left17 (c : Dev nD) (t : Fin cfg0.N) : Vec F S2x128 .f32 := leftBy (ms17 t) (runT m c t).2.2.2.2.2.2.2.1

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => left10 m c t
    | ⟨11, _⟩ => left11 m c t
    | ⟨12, _⟩ => left12 m c t
    | ⟨13, _⟩ => left13 m c t
    | ⟨14, _⟩ => left14 m c t
    | ⟨15, _⟩ => left15 m c t
    | ⟨16, _⟩ => left16 m c t
    | ⟨17, _⟩ => left17 m c t
    | ⟨_ + 18, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = left10 m c t := by dsimp only [dats]
theorem after11 (c : Dev nD) (t : Fin cfg0.N) : (dats m 0 c).after 11 t = left11 m c t := by dsimp only [dats]
theorem after12 (c : Dev nD) (t : Fin cfg0.N) : (dats m 0 c).after 12 t = left12 m c t := by dsimp only [dats]
theorem after13 (c : Dev nD) (t : Fin cfg0.N) : (dats m 0 c).after 13 t = left13 m c t := by dsimp only [dats]
theorem after14 (c : Dev nD) (t : Fin cfg0.N) : (dats m 0 c).after 14 t = left14 m c t := by dsimp only [dats]
theorem after15 (c : Dev nD) (t : Fin cfg0.N) : (dats m 0 c).after 15 t = left15 m c t := by dsimp only [dats]
theorem after16 (c : Dev nD) (t : Fin cfg0.N) : (dats m 0 c).after 16 t = left16 m c t := by dsimp only [dats]
theorem after17 (c : Dev nD) (t : Fin cfg0.N) : (dats m 0 c).after 17 t = left17 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t)
    ∗ owns (c : Thread nD τ) (ms16 t) fullShare ((dats m 0 c).after 16 t)
    ∗ owns (c : Thread nD τ) (ms17 t) fullShare ((dats m 0 c).after 17 t))

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17]
  rw [show (dats m 0 c).Φ t.castSucc = Pipeline.ΦA spec0 c from rfl, PhiA0_eq]
  iintro ⟨⟨⟨⟨%e0, HS0⟩, ⟨%e1, HS1⟩, ⟨%e2, HS2⟩, ⟨%e3, HS3⟩, ⟨%e4, HS4⟩, ⟨%e5, HS5⟩, ⟨%e6, HS6⟩, ⟨%e7, HS7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (body_run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply raw; iexact H10
  isplitl [H11]; · iapply raw; iexact H11
  isplitl [H12]; · iapply raw; iexact H12
  isplitl [H13]; · iapply raw; iexact H13
  isplitl [H14]; · iapply raw; iexact H14
  isplitl [H15]; · iapply raw; iexact H15
  isplitl [H16]; · iapply raw; iexact H16
  isplitl [H17]; · iapply raw; iexact H17
  isplitl [HS0]; · iapply raw; iexact HS0
  isplitl [HS1]; · iapply raw; iexact HS1
  isplitl [HS2]; · iapply raw; iexact HS2
  isplitl [HS3]; · iapply raw; iexact HS3
  isplitl [HS4]; · iapply raw; iexact HS4
  isplitl [HS5]; · iapply raw; iexact HS5
  isplitl [HS6]; · iapply raw; iexact HS6
  isplitl [HS7]; · iapply raw; iexact HS7
  iintro ⟨H0, H1, H2, H3, H4, H5, H6, H7, H8, H9, H10, H11, H12, H13, H14, H15, H16, H17, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]; · iapply unraw; iexact HS0
      isplitl [HS1]; · iapply unraw; iexact HS1
      isplitl [HS2]; · iapply unraw; iexact HS2
      isplitl [HS3]; · iapply unraw; iexact HS3
      isplitl [HS4]; · iapply unraw; iexact HS4
      isplitl [HS5]; · iapply unraw; iexact HS5
      isplitl [HS6]; · iapply unraw; iexact HS6
      iapply unraw; iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame at any values: the arguments end as they were, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Kernel10Ideal.LruFrame

end
-- ==== Proof.LruFrames.lean ====
/-
  The recurrence's backward call: both programs end, and leave their arguments as they were.
-/
module

public import proofs.«01_k».proof.Defs
public import proofs.«01_k».proof.Proof.LruFrame
public import proofs.«01_k».proof.Proof.Gen.Kernel10
public import proofs.«01_k».proof.Proof.Gen.Reference10Ideal.Run
public import Idealize.ShloMosaic.Lib.Quiescent

@[expose] public section

set_option maxRecDepth 16384

open Idealize.ShloMosaic Idealize.SL.Sem Cert.Kernel10Ideal

namespace Cert.LruFrames

/-- The kernel's frame on bits: its idealization is the same text, so the one run stands for both. -/
theorem kernel_frame : Cert.quiescent_Kernel10 :=
  Eq.mp (by sl_kernel_rfl) (fun m ρ (_ : True) => LruFrame.frame (F := Bits) m ρ)

theorem ideal_frame : Cert.quiescent_Kernel10Ideal := fun m ρ _ => LruFrame.frame m ρ

/-- The reference's frame: its run read at the arguments; it declares no semaphore. -/
theorem reference_frame : Cert.quiescent_Reference10Ideal := fun m ρ _ =>
  (θ_run (Cert.Reference10Ideal.defs (F := Ideal)) _ _).mono (fun r h => And.intro (fun c => (h c).2.2.2.2.2.2.2.2)
    (Idealize.ShloMosaic.sem_eq_zero_of_no_sems (by decide) r.2)) (Cert.Reference10Ideal.Value.run (F := Ideal) m ρ)

end Cert.LruFrames
-- ==== Proof.MmProd.lean ====
/-
  The product of the backward pass against the product written plainly: every element is the same sum over the
  contracted index.
-/
module

public import proofs.«01_k».proof.Defs
public import proofs.«01_k».proof.Proof.Reals
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal.Read
public import Idealize.ShloMosaic.Lib.Quiescent
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open Cert.Reals

namespace Cert.MmProd

theorem hz : (![0, 0] : Fin 2 → Nat) = fun _ => 0 := funext fun a => by fin_cases a <;> rfl

theorem eq_ix2 {a b : Nat} (j : (⟨2, ![a, b]⟩ : Shape).Idx) : ∃ (x : Fin a) (y : Fin b), j = ix2 x y :=
  ⟨j 0, j 1, funext fun x => by match x with | ⟨0, _⟩ => rfl | ⟨1, _⟩ => rfl⟩

/-- A row against a column. -/
def dotCol (d w : Fin 2048 → EReal) : EReal := ∑ x, d x * w x

section Kernel
open Cert.Kernel11Ideal Cert.Kernel11Ideal.Gen

theorem pay1_apply (d : Vec Ideal S512x2048 .bf16) (w : Vec Ideal S2048x2048 .bf16) (i : Fin 512) (j : Fin 2048) :
    k0_pay1 d w (ix2 i j) = dotCol (fun x => d (ix2 i x)) (fun x => w (ix2 x j)) := by
  unfold dotCol
  pointwise! [k0_pay1]

theorem out_eq (d : Vec Ideal S512x2048 .bf16) (w : Vec Ideal S2048x2048 .bf16) : out0_2 d w = k0_pay1 d w := by
  unfold out0_2
  rw [View.canon_unit_zero hz]
  simp only [View.ld_unit_zero (S := S512x2048) hz, View.ld_unit_zero (S := S2048x2048) hz]

variable (m : (ℓ : Loc nD τ sig) → Buf (Elt Ideal) ℓ)

abbrev aD (c : Dev nD) : Vec Ideal S11264x2048 .f32 := m ((c : Thread nD τ).loc main_arg0)
abbrev aU (c : Dev nD) : Vec Ideal S2048x2048 .f32 := m ((c : Thread nD τ).loc main_arg1)

theorem V_v0_eq (c : Dev nD) : V m c main_v0
    = (truncf .bf16 (aD m c : FVec Ideal S11264x2048 .f32) bitsLt_bf16_f32 : FVec Ideal S11264x2048 .bf16) := by
  unfold_abbrev_sides
  after_reads_simp

theorem V_v1_eq (c : Dev nD) : V m c main_v1
    = (truncf .bf16 (aU m c : FVec Ideal S2048x2048 .f32) bitsLt_bf16_f32 : FVec Ideal S2048x2048 .bf16) := by
  unfold_abbrev_sides
  after_reads_simp

/-- Row `i` of block `t`. -/
def row (t : Fin cfg0.N) (i : Fin 512) : Fin 11264 :=
  ⟨512 * t.val + i.val, by have : cfg0.N = 22 := N_0; have := t.isLt; have := i.isLt; omega⟩

theorem exists_row (i : Fin 11264) : ∃ (t : Fin cfg0.N) (r : Fin 512), row t r = i :=
  ⟨⟨i.val / 512, by have : cfg0.N = 22 := N_0; have := i.isLt; omega⟩, ⟨i.val % 512, by omega⟩,
    Fin.ext (Nat.div_add_mod _ _)⟩

theorem index0 : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0) := by
  show ∀ t : Fin grid0.N, _
  decide +kernel

theorem iblk0_apply (c : Dev nD) (t : Fin cfg0.N) (i : Fin 512) (k : Fin 2048) :
    (iblk m c 0 t : Vec Ideal S512x2048 .bf16) (ix2 i k) = aD m c (ix2 (row t i) k) := by
  refine Eq.trans ?_ (congrFun (V_v0_eq m c) (ix2 (row t i) k))
  unfold iblk
  rw [View.read_apply]
  refine congrArg (V m c main_v0) (funext fun a => Fin.ext ?_)
  match a with
  | ⟨0, _⟩ => show win0_0.index t 0 * 512 + 1 * i.val = 512 * t.val + i.val; rw [(index0 t).1.1]; omega
  | ⟨1, _⟩ => show win0_0.index t 1 * 2048 + 1 * k.val = k.val; rw [(index0 t).1.2]; omega

theorem iblk1_apply (c : Dev nD) (t : Fin cfg0.N) (i k : Fin 2048) :
    (iblk m c 1 t : Vec Ideal S2048x2048 .bf16) (ix2 i k) = aU m c (ix2 i k) := by
  refine Eq.trans ?_ (congrFun (V_v1_eq m c) (ix2 i k))
  unfold iblk
  rw [View.read_apply]
  refine congrArg (V m c main_v1) (funext fun a => Fin.ext ?_)
  match a with
  | ⟨0, _⟩ => show win0_1.index t 0 * 2048 + 1 * i.val = i.val; rw [(index0 t).2.1.1]; omega
  | ⟨1, _⟩ => show win0_1.index t 1 * 2048 + 1 * k.val = k.val; rw [(index0 t).2.1.2]; omega

/-- The product. -/
def G2 (c : Dev nD) : Vec Ideal S11264x2048 .bf16 :=
  fun j => dotCol (fun x => aD m c (ix2 (j 0) x)) (fun x => aU m c (ix2 x (j 1)))

theorem out_row (c : Dev nD) (t : Fin cfg0.N) (i : Fin 512) (k : Fin 2048) :
    out0_2 (F := Ideal) (iblk m c 0 t) (iblk m c 1 t) (ix2 i k) = G2 m c (ix2 (row t i) k) := by
  rw [out_eq, pay1_apply]
  simp only [iblk0_apply, iblk1_apply]
  rfl

theorem emb2 (t : Fin cfg0.N) (i : Fin 512) (k : Fin 2048) :
    (((cfg0.win 2).blk t).view.emb (ix2 i k : S512x2048.Idx) : S11264x2048.Idx) = ix2 (row t i) k :=
  funext fun a => Fin.ext (by
    match a with
    | ⟨0, _⟩ => show win0_2.index t 0 * 512 + 1 * i.val = 512 * t.val + i.val; rw [(index0 t).2.2.1]; omega
    | ⟨1, _⟩ => show win0_2.index t 1 * 2048 + 1 * k.val = k.val; rw [(index0 t).2.2.2]; omega)

theorem final2 (c : Dev nD) : (dats m 0 c).arrAt 2 cfg0.N = G2 m c := by
  refine (dats m 0 c).arrAt_eq_of_cover 2 (G2 m c) (fun t _ => funext fun y => ?_) fun i => ?_
  · rw [Value.flushed2, View.read_apply]
    obtain ⟨a, b, rfl⟩ := eq_ix2 (a := 512) (b := 2048) y
    exact (out_row m c t a b).trans (congrArg (G2 m c) (emb2 t a b)).symm
  · obtain ⟨a, b, rfl⟩ := eq_ix2 (a := 11264) (b := 2048) i
    obtain ⟨t, r, rfl⟩ := exists_row a
    exact ⟨t, flush0_2 t, emb2 t r b ▸ View.emb_mem_set _ _⟩

end Kernel

open Cert.Reference11Ideal.Read in
theorem v1_apply (d : Vec Ideal Cert.Reference11Ideal.S11264x2048 .f32) (u : Vec Ideal Cert.Reference11Ideal.S2048x2048 .f32)
    (i : Fin 11264) (j : Fin 2048) : val_main_v1 (F := Ideal) d u (ix2 i j)
      = dotCol (fun x => d (ix2 i x)) (fun x => u (ix2 x j)) := by
  unfold dotCol
  pointwise! [val_main_v1, val_main_v0]

/-- The reference's frame: its run read at the arguments; it declares no semaphore. -/
theorem reference_frame : Cert.quiescent_Reference11Ideal := fun m ρ _ =>
  (θ_run (Cert.Reference11Ideal.defs (F := Ideal)) _ _).mono (fun r h => And.intro (fun c => (h c).2)
    (Idealize.ShloMosaic.sem_eq_zero_of_no_sems (by decide) r.2)) (Cert.Reference11Ideal.Value.run (F := Ideal) m ρ)

theorem algebraic : Cert.algebraic_Kernel11Ideal_Reference11Ideal := by
  intro m ρ m' ρ' _ hag
  refine ⟨fun c => G2 m c, ?_, ?_⟩
  · refine (θ_run Cert.Kernel11Ideal.defs _ _).mono (fun r h c => ?_) (Cert.Kernel11Ideal.Value.run_blocks m ρ)
    exact ⟨(h c).1.trans (final2 m c), (h c).2⟩
  · refine (θ_run Cert.Reference11Ideal.defs _ _).mono (fun r h c => ?_) (Cert.Reference11Ideal.Value.run (F := Ideal) m' ρ')
    refine ⟨(h c).1.trans ?_, (h c).2⟩
    rw [Cert.Reference11Ideal.Read.val_main_v1_eq, (hag c).1, (hag c).2]
    funext j
    obtain ⟨a, b, rfl⟩ := eq_ix2 (a := 11264) (b := 2048) j
    exact v1_apply _ _ a b

end Cert.MmProd

end
-- ==== Proof.Adamw.lean ====
/-
  The optimiser's step of one weight against the step written plainly: the four partial gradients' sum, the change of
  the weight and the two moments, element by element.
-/
module

public import proofs.«01_k».proof.Defs
public import proofs.«01_k».proof.Proof.Reals
public import proofs.«01_k».proof.Proof.Gen.Kernel12
public import proofs.«01_k».proof.Proof.Gen.Kernel12.Frame
public import proofs.«01_k».proof.Proof.Gen.Kernel12Ideal.Value
public import proofs.«01_k».proof.Proof.Gen.Reference12Ideal.Read
public import Idealize.ShloMosaic.Lib.Quiescent
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open Cert.Reals

namespace Cert.Adamw

theorem hz : (![0, 0] : Fin 2 → Nat) = fun _ => 0 := funext fun a => by fin_cases a <;> rfl

theorem eq_ix2 {a b : Nat} (j : (⟨2, ![a, b]⟩ : Shape).Idx) : ∃ (x : Fin a) (y : Fin b), j = ix2 x y :=
  ⟨j 0, j 1, funext fun x => by match x with | ⟨0, _⟩ => rfl | ⟨1, _⟩ => rfl⟩

/-- The sum of the four partial gradients. -/
def sum4 (p : Fin 4 → EReal) : EReal := p 0 + p 1 + p 2 + p 3

/-- The two moments after a step, and the weight's change. -/
def newM (g m : EReal) : EReal := Ideal.ofBits .f32 0x3F666666#32 * m + Ideal.ofBits .f32 0x3DCCCCCD#32 * g
def newV (g v : EReal) : EReal := Ideal.ofBits .f32 0x3F7FBE77#32 * v + Ideal.ofBits .f32 0x3A83126F#32 * (g * g)
def change (w g m v : EReal) : EReal :=
  Ideal.ofBits .f32 0xBA83126F#32
    * (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

section Kernel
open Cert.Kernel12Ideal Cert.Kernel12Ideal.Gen

/-- One device's part of a block of the partial gradients. -/
def plane (p : Fin 4) (x : Vec Ideal S4x64x2048 .bf16) : Vec Ideal S1x64x2048 .bf16 :=
  fun j => x (ix3 p (j 1) (j 2))

theorem ld_plane0 (x : Vec Ideal S4x64x2048 .bf16) : View.ld x r0_0 = plane 0 x :=
  funext fun j => congrArg x (funext fun a => Fin.ext (by
    match a with
    | ⟨0, _⟩ => show 0 + 1 * (j 0).val = 0; have : (j 0).val < 1 := (j 0).isLt; omega
    | ⟨1, _⟩ => show 0 + 1 * (j 1).val = (j 1).val; omega
    | ⟨2, _⟩ => show 0 + 1 * (j 2).val = (j 2).val; omega))

theorem ld_plane1 (x : Vec Ideal S4x64x2048 .bf16) : View.ld x r0_1 = plane 1 x :=
  funext fun j => congrArg x (funext fun a => Fin.ext (by
    match a with
    | ⟨0, _⟩ => show 1 + 1 * (j 0).val = 1; have : (j 0).val < 1 := (j 0).isLt; omega
    | ⟨1, _⟩ => show 0 + 1 * (j 1).val = (j 1).val; omega
    | ⟨2, _⟩ => show 0 + 1 * (j 2).val = (j 2).val; omega))

theorem ld_plane2 (x : Vec Ideal S4x64x2048 .bf16) : View.ld x r0_2 = plane 2 x :=
  funext fun j => congrArg x (funext fun a => Fin.ext (by
    match a with
    | ⟨0, _⟩ => show 2 + 1 * (j 0).val = 2; have : (j 0).val < 1 := (j 0).isLt; omega
    | ⟨1, _⟩ => show 0 + 1 * (j 1).val = (j 1).val; omega
    | ⟨2, _⟩ => show 0 + 1 * (j 2).val = (j 2).val; omega))

theorem ld_plane3 (x : Vec Ideal S4x64x2048 .bf16) : View.ld x r0_3 = plane 3 x :=
  funext fun j => congrArg x (funext fun a => Fin.ext (by
    match a with
    | ⟨0, _⟩ => show 3 + 1 * (j 0).val = 3; have : (j 0).val < 1 := (j 0).isLt; omega
    | ⟨1, _⟩ => show 0 + 1 * (j 1).val = (j 1).val; omega
    | ⟨2, _⟩ => show 0 + 1 * (j 2).val = (j 2).val; omega))

section Payloads
variable (p0 p1 p2 p3 : Vec Ideal S1x64x2048 .bf16) (a b g u : FVec Ideal S64x2048 .f32) (i : Fin 64) (j : Fin 2048)

theorem pay2_apply : k0_pay2 p0 p1 p2 p3 (ix2 i j)
    = p0 (ix3 0 i j) + p1 (ix3 0 i j) + p2 (ix3 0 i j) + p3 (ix3 0 i j) := by
  pointwise! [k0_pay2]

theorem pay3_apply : k0_pay3 p0 p1 p2 p3 a (ix2 i j) = newM (k0_pay2 p0 p1 p2 p3 (ix2 i j)) (a (ix2 i j)) := by
  unfold k0_pay3 newM
  generalize k0_pay2 p0 p1 p2 p3 = x
  pointwise!

theorem pay4_apply : k0_pay4 p0 p1 p2 p3 a (ix2 i j) = newV (k0_pay2 p0 p1 p2 p3 (ix2 i j)) (a (ix2 i j)) := by
  unfold k0_pay4 newV
  generalize k0_pay2 p0 p1 p2 p3 = x
  pointwise!

theorem pay5_apply : k0_pay5 p0 p1 p2 p3 a (ix2 i j)
    = Ideal.div (newM (k0_pay2 p0 p1 p2 p3 (ix2 i j)) (a (ix2 i j))) (Ideal.ofBits .f32 0x3F26BD02#32) := by
  rw [← pay3_apply]
  unfold k0_pay5
  generalize k0_pay3 p0 p1 p2 p3 a = x
  pointwise!

theorem pay1_apply (e : Ideal .f32) : k0_pay1 a b g e (ix2 i j)
    = Ideal.ofBits .f32 0xBA83126F#32
      * (Ideal.div (g (ix2 i j)) (Ideal.sqrt (Ideal.div (b (ix2 i j)) e) + Ideal.ofBits .f32 0x322BCC77#32)
        + Ideal.ofBits .f32 0x3C23D70A#32 * a (ix2 i j)) := by
  pointwise! [k0_pay1]

end Payloads

section Blocks
variable (w : Vec Ideal S64x2048 .f32) (q : Vec Ideal S4x64x2048 .bf16) (a b : Vec Ideal S64x2048 .f32)
  (i : Fin 64) (j : Fin 2048)

theorem pay2_planes : k0_pay2 (plane 0 q) (plane 1 q) (plane 2 q) (plane 3 q) (ix2 i j) = sum4 fun p => q (ix3 p i j) :=
  pay2_apply _ _ _ _ i j

theorem ld_rows (x : Vec Ideal S64x2048 .f32) : View.ld x r0_4 = x := View.ld_unit_zero (S := S64x2048) hz _ _

theorem pay6_eq : k0_pay6 w q a b = k0_pay4 (plane 0 q) (plane 1 q) (plane 2 q) (plane 3 q) b := by
  unfold k0_pay6
  rw [ld_plane0, ld_plane1, ld_plane2, ld_plane3, ld_rows]

theorem out4_apply : out0_4 w q a b (ix2 i j) = sum4 fun p => q (ix3 p i j) := by
  unfold out0_4
  rw [View.canon_unit_zero hz, ld_plane0, ld_plane1, ld_plane2, ld_plane3]
  exact pay2_planes q i j

theorem out5_apply : out0_5 w q a b (ix2 i j)
    = change (w (ix2 i j)) (sum4 fun p => q (ix3 p i j)) (a (ix2 i j)) (b (ix2 i j)) := by
  unfold out0_5
  rw [View.canon_unit_zero hz, pay6_eq, ld_plane0, ld_plane1, ld_plane2, ld_plane3, ld_rows, ld_rows, pay1_apply,
    pay5_apply, pay4_apply, pay2_planes]
  rfl

theorem out6_apply : out0_6 w q a b (ix2 i j) = newM (sum4 fun p => q (ix3 p i j)) (a (ix2 i j)) := by
  unfold out0_6
  rw [View.canon_unit_zero hz, ld_plane0, ld_plane1, ld_plane2, ld_plane3, ld_rows, pay3_apply, pay2_planes]

theorem out7_apply : out0_7 w q a b (ix2 i j) = newV (sum4 fun p => q (ix3 p i j)) (b (ix2 i j)) := by
  unfold out0_7
  rw [View.canon_unit_zero hz, pay6_eq, pay4_apply, pay2_planes]

end Blocks

variable (m : (ℓ : Loc nD τ sig) → Buf (Elt Ideal) ℓ)

abbrev aW (c : Dev nD) : Vec Ideal S704x2048 .f32 := m ((c : Thread nD τ).loc main_arg0)
abbrev aP (c : Dev nD) : Vec Ideal S2816x2048 .f32 := m ((c : Thread nD τ).loc main_arg1)
abbrev aM (c : Dev nD) : Vec Ideal S704x2048 .f32 := m ((c : Thread nD τ).loc main_arg2)
abbrev aV (c : Dev nD) : Vec Ideal S704x2048 .f32 := m ((c : Thread nD τ).loc main_arg3)

theorem V_v1_eq (c : Dev nD) : V m c main_v1 = shapeCast S4x704x2048
    (truncf .bf16 (aP m c : FVec Ideal S2816x2048 .f32) bitsLt_bf16_f32 : FVec Ideal S2816x2048 .bf16)
      shapeCasts_S2816x2048_S4x704x2048 := by
  unfold_abbrev_sides
  after_reads_simp
  rfl

/-- Row `i` of device `p`'s partial gradient. -/
def part (p : Fin 4) (i : Fin 704) : Fin 2816 := ⟨704 * p.val + i.val, by omega⟩

theorem V_v1 (c : Dev nD) (p : Fin 4) (i : Fin 704) (j : Fin 2048) :
    (V m c main_v1 : Vec Ideal S4x704x2048 .bf16) (ix3 p i j) = aP m c (ix2 (part p i) j) := by
  refine (congrFun (V_v1_eq m c) _).trans ?_
  unfold part
  generalize aP m c = w
  pointwise!

/-- Row `i` of block `t`. -/
def row (t : Fin cfg0.N) (i : Fin 64) : Fin 704 :=
  ⟨64 * t.val + i.val, by have : cfg0.N = 11 := N_0; have := t.isLt; have := i.isLt; omega⟩

theorem exists_row (i : Fin 704) : ∃ (t : Fin cfg0.N) (r : Fin 64), row t r = i :=
  ⟨⟨i.val / 64, by have : cfg0.N = 11 := N_0; have := i.isLt; omega⟩, ⟨i.val % 64, by omega⟩,
    Fin.ext (Nat.div_add_mod _ _)⟩

theorem index0 : ∀ t : Fin cfg0.N, (win0_0.index t 0 = t.val ∧ win0_0.index t 1 = 0)
    ∧ (win0_1.index t 0 = 0 ∧ win0_1.index t 1 = t.val ∧ win0_1.index t 2 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0) := by
  show ∀ t : Fin grid0.N, _
  decide +kernel

theorem iblk1_apply (c : Dev nD) (t : Fin cfg0.N) (p : Fin 4) (i : Fin 64) (k : Fin 2048) :
    (iblk m c 1 t : Vec Ideal S4x64x2048 .bf16) (ix3 p i k) = aP m c (ix2 (part p (row t i)) k) := by
  refine Eq.trans ?_ (V_v1 m c _ _ _)
  unfold iblk
  rw [View.read_apply]
  refine congrArg (V m c main_v1) (funext fun a => Fin.ext ?_)
  match a with
  | ⟨0, _⟩ => show win0_1.index t 0 * 4 + 1 * p.val = p.val; rw [(index0 t).2.1.1]; omega
  | ⟨1, _⟩ => show win0_1.index t 1 * 64 + 1 * i.val = 64 * t.val + i.val; rw [(index0 t).2.1.2.1]; omega
  | ⟨2, _⟩ => show win0_1.index t 2 * 2048 + 1 * k.val = k.val; rw [(index0 t).2.1.2.2]; omega

theorem iblk0_apply (c : Dev nD) (t : Fin cfg0.N) (i : Fin 64) (k : Fin 2048) :
    (iblk m c 0 t : Vec Ideal S64x2048 .f32) (ix2 i k) = aW m c (ix2 (row t i) k) := by
  unfold iblk
  rw [View.read_apply]
  refine congrArg (m ((c : Thread nD τ).loc main_arg0)) (funext fun a => Fin.ext ?_)
  match a with
  | ⟨0, _⟩ => show win0_0.index t 0 * 64 + 1 * i.val = 64 * t.val + i.val; rw [(index0 t).1.1]; omega
  | ⟨1, _⟩ => show win0_0.index t 1 * 2048 + 1 * k.val = k.val; rw [(index0 t).1.2]; omega

theorem iblk2_apply (c : Dev nD) (t : Fin cfg0.N) (i : Fin 64) (k : Fin 2048) :
    (iblk m c 2 t : Vec Ideal S64x2048 .f32) (ix2 i k) = aM m c (ix2 (row t i) k) := by
  unfold iblk
  rw [View.read_apply]
  refine congrArg (m ((c : Thread nD τ).loc main_arg2)) (funext fun a => Fin.ext ?_)
  match a with
  | ⟨0, _⟩ => show win0_2.index t 0 * 64 + 1 * i.val = 64 * t.val + i.val; rw [(index0 t).2.2.1.1]; omega
  | ⟨1, _⟩ => show win0_2.index t 1 * 2048 + 1 * k.val = k.val; rw [(index0 t).2.2.1.2]; omega

theorem iblk3_apply (c : Dev nD) (t : Fin cfg0.N) (i : Fin 64) (k : Fin 2048) :
    (iblk m c 3 t : Vec Ideal S64x2048 .f32) (ix2 i k) = aV m c (ix2 (row t i) k) := by
  unfold iblk
  rw [View.read_apply]
  refine congrArg (m ((c : Thread nD τ).loc main_arg3)) (funext fun a => Fin.ext ?_)
  match a with
  | ⟨0, _⟩ => show win0_3.index t 0 * 64 + 1 * i.val = 64 * t.val + i.val; rw [(index0 t).2.2.2.1.1]; omega
  | ⟨1, _⟩ => show win0_3.index t 1 * 2048 + 1 * k.val = k.val; rw [(index0 t).2.2.2.1.2]; omega

/-- The summed gradient at an element, then the four results as functions of the arguments. -/
def grad (c : Dev nD) (i : Fin 704) (j : Fin 2048) : EReal := sum4 fun p => aP m c (ix2 (part p i) j)
def G4 (c : Dev nD) : Vec Ideal S704x2048 .f32 := fun j => grad m c (j 0) (j 1)
def G5 (c : Dev nD) : Vec Ideal S704x2048 .f32 :=
  fun j => change (aW m c (ix2 (j 0) (j 1))) (grad m c (j 0) (j 1)) (aM m c (ix2 (j 0) (j 1))) (aV m c (ix2 (j 0) (j 1)))
def G6 (c : Dev nD) : Vec Ideal S704x2048 .f32 := fun j => newM (grad m c (j 0) (j 1)) (aM m c (ix2 (j 0) (j 1)))
def G7 (c : Dev nD) : Vec Ideal S704x2048 .f32 := fun j => newV (grad m c (j 0) (j 1)) (aV m c (ix2 (j 0) (j 1)))

theorem emb4 (t : Fin cfg0.N) (i : Fin 64) (k : Fin 2048) :
    (((cfg0.win 4).blk t).view.emb (ix2 i k : S64x2048.Idx) : S704x2048.Idx) = ix2 (row t i) k :=
  funext fun a => Fin.ext (by
    match a with
    | ⟨0, _⟩ => show win0_4.index t 0 * 64 + 1 * i.val = 64 * t.val + i.val; rw [(index0 t).2.2.2.2.1.1]; omega
    | ⟨1, _⟩ => show win0_4.index t 1 * 2048 + 1 * k.val = k.val; rw [(index0 t).2.2.2.2.1.2]; omega)

theorem final4 (c : Dev nD) : (dats m 0 c).arrAt 4 cfg0.N = G4 m c := by
  refine (dats m 0 c).arrAt_eq_of_cover 4 (G4 m c) (fun t _ => funext fun y => ?_) fun i => ?_
  · rw [Value.flushed4, View.read_apply]
    obtain ⟨a, b, rfl⟩ := eq_ix2 (a := 64) (b := 2048) y
    refine ((out4_apply (iblk m c 0 t) (iblk m c 1 t) (iblk m c 2 t) (iblk m c 3 t) a b).trans ?_).trans
      (congrArg (G4 m c) (emb4 t a b)).symm
    simp only [iblk0_apply, iblk1_apply, iblk2_apply, iblk3_apply]
    rfl
  · obtain ⟨a, b, rfl⟩ := eq_ix2 (a := 704) (b := 2048) i
    obtain ⟨t, r, rfl⟩ := exists_row a
    exact ⟨t, flush0_4 t, emb4 t r b ▸ View.emb_mem_set _ _⟩

theorem emb5 (t : Fin cfg0.N) (i : Fin 64) (k : Fin 2048) :
    (((cfg0.win 5).blk t).view.emb (ix2 i k : S64x2048.Idx) : S704x2048.Idx) = ix2 (row t i) k :=
  funext fun a => Fin.ext (by
    match a with
    | ⟨0, _⟩ => show win0_5.index t 0 * 64 + 1 * i.val = 64 * t.val + i.val; rw [(index0 t).2.2.2.2.2.1.1]; omega
    | ⟨1, _⟩ => show win0_5.index t 1 * 2048 + 1 * k.val = k.val; rw [(index0 t).2.2.2.2.2.1.2]; omega)

theorem final5 (c : Dev nD) : (dats m 0 c).arrAt 5 cfg0.N = G5 m c := by
  refine (dats m 0 c).arrAt_eq_of_cover 5 (G5 m c) (fun t _ => funext fun y => ?_) fun i => ?_
  · rw [Value.flushed5, View.read_apply]
    obtain ⟨a, b, rfl⟩ := eq_ix2 (a := 64) (b := 2048) y
    refine ((out5_apply (iblk m c 0 t) (iblk m c 1 t) (iblk m c 2 t) (iblk m c 3 t) a b).trans ?_).trans
      (congrArg (G5 m c) (emb5 t a b)).symm
    simp only [iblk0_apply, iblk1_apply, iblk2_apply, iblk3_apply]
    rfl
  · obtain ⟨a, b, rfl⟩ := eq_ix2 (a := 704) (b := 2048) i
    obtain ⟨t, r, rfl⟩ := exists_row a
    exact ⟨t, flush0_5 t, emb5 t r b ▸ View.emb_mem_set _ _⟩

theorem emb6 (t : Fin cfg0.N) (i : Fin 64) (k : Fin 2048) :
    (((cfg0.win 6).blk t).view.emb (ix2 i k : S64x2048.Idx) : S704x2048.Idx) = ix2 (row t i) k :=
  funext fun a => Fin.ext (by
    match a with
    | ⟨0, _⟩ => show win0_6.index t 0 * 64 + 1 * i.val = 64 * t.val + i.val; rw [(index0 t).2.2.2.2.2.2.1.1]; omega
    | ⟨1, _⟩ => show win0_6.index t 1 * 2048 + 1 * k.val = k.val; rw [(index0 t).2.2.2.2.2.2.1.2]; omega)

theorem final6 (c : Dev nD) : (dats m 0 c).arrAt 6 cfg0.N = G6 m c := by
  refine (dats m 0 c).arrAt_eq_of_cover 6 (G6 m c) (fun t _ => funext fun y => ?_) fun i => ?_
  · rw [Value.flushed6, View.read_apply]
    obtain ⟨a, b, rfl⟩ := eq_ix2 (a := 64) (b := 2048) y
    refine ((out6_apply (iblk m c 0 t) (iblk m c 1 t) (iblk m c 2 t) (iblk m c 3 t) a b).trans ?_).trans
      (congrArg (G6 m c) (emb6 t a b)).symm
    simp only [iblk0_apply, iblk1_apply, iblk2_apply, iblk3_apply]
    rfl
  · obtain ⟨a, b, rfl⟩ := eq_ix2 (a := 704) (b := 2048) i
    obtain ⟨t, r, rfl⟩ := exists_row a
    exact ⟨t, flush0_6 t, emb6 t r b ▸ View.emb_mem_set _ _⟩

theorem emb7 (t : Fin cfg0.N) (i : Fin 64) (k : Fin 2048) :
    (((cfg0.win 7).blk t).view.emb (ix2 i k : S64x2048.Idx) : S704x2048.Idx) = ix2 (row t i) k :=
  funext fun a => Fin.ext (by
    match a with
    | ⟨0, _⟩ => show win0_7.index t 0 * 64 + 1 * i.val = 64 * t.val + i.val; rw [(index0 t).2.2.2.2.2.2.2.1]; omega
    | ⟨1, _⟩ => show win0_7.index t 1 * 2048 + 1 * k.val = k.val; rw [(index0 t).2.2.2.2.2.2.2.2]; omega)

theorem final7 (c : Dev nD) : (dats m 0 c).arrAt 7 cfg0.N = G7 m c := by
  refine (dats m 0 c).arrAt_eq_of_cover 7 (G7 m c) (fun t _ => funext fun y => ?_) fun i => ?_
  · rw [Value.flushed7, View.read_apply]
    obtain ⟨a, b, rfl⟩ := eq_ix2 (a := 64) (b := 2048) y
    refine ((out7_apply (iblk m c 0 t) (iblk m c 1 t) (iblk m c 2 t) (iblk m c 3 t) a b).trans ?_).trans
      (congrArg (G7 m c) (emb7 t a b)).symm
    simp only [iblk0_apply, iblk1_apply, iblk2_apply, iblk3_apply]
    rfl
  · obtain ⟨a, b, rfl⟩ := eq_ix2 (a := 704) (b := 2048) i
    obtain ⟨t, r, rfl⟩ := exists_row a
    exact ⟨t, flush0_7 t, emb7 t r b ▸ View.emb_mem_set _ _⟩

end Kernel

section Reference
open Cert.Reference12Ideal Cert.Reference12Ideal.Read
variable (w : Vec Ideal S704x2048 .f32) (q : Vec Ideal S2816x2048 .f32) (a b : Vec Ideal S704x2048 .f32)
  (i : Fin 704) (j : Fin 2048)

theorem v3_apply : val_main_v3 (F := Ideal) q (ix2 i j) = sum4 fun p => q (ix2 (part p i) j) := by
  have h : val_main_v3 (F := Ideal) q (ix2 i j) = 0 + ∑ p : Fin 4, q (ix2 (part p i) j) := by
    unfold part
    pointwise! [val_main_v3, val_main_v2, val_main_v1, val_main_v0, val_main_cst]
  rw [h, zero_add, Fin.sum_univ_four]
  rfl

theorem v8_apply : val_main_v8 (F := Ideal) q a (ix2 i j)
    = newM (val_main_v3 (F := Ideal) q (ix2 i j)) (a (ix2 i j)) := by
  unfold newM val_main_v8 val_main_v7
  generalize val_main_v3 (F := Ideal) q = x
  pointwise! [val_main_v6, val_main_v5, val_main_v4, val_main_cst_0, val_main_cst_1]

theorem v14_apply : val_main_v14 (F := Ideal) q b (ix2 i j)
    = newV (val_main_v3 (F := Ideal) q (ix2 i j)) (b (ix2 i j)) := by
  unfold newV val_main_v14 val_main_v13 val_main_v11
  generalize val_main_v3 (F := Ideal) q = x
  pointwise! [val_main_v12, val_main_v10, val_main_v9, val_main_cst_2, val_main_cst_3]

theorem v27_apply : val_main_v27 (F := Ideal) w q a b (ix2 i j)
    = change (w (ix2 i j)) (val_main_v3 (F := Ideal) q (ix2 i j)) (a (ix2 i j)) (b (ix2 i j)) := by
  unfold change
  rw [← v8_apply, ← v14_apply]
  unfold val_main_v27 val_main_v25 val_main_v22 val_main_v21 val_main_v19 val_main_v18 val_main_v16
  generalize val_main_v8 (F := Ideal) q a = x
  generalize val_main_v14 (F := Ideal) q b = y
  pointwise! [val_main_v26, val_main_v24, val_main_v23, val_main_v20, val_main_v17, val_main_v15, val_main_cst_4,
    val_main_cst_5, val_main_cst_6, val_main_cst_7, val_main_cst_8]

end Reference

/-- The reference's frame: its run read at the arguments; it declares no semaphore. -/
theorem reference_frame : Cert.quiescent_Reference12Ideal := fun m ρ _ =>
  (θ_run (Cert.Reference12Ideal.defs (F := Ideal)) _ _).mono (fun r h => And.intro (fun c => (h c).2.2.2.2)
    (Idealize.ShloMosaic.sem_eq_zero_of_no_sems (by decide) r.2)) (Cert.Reference12Ideal.Value.run (F := Ideal) m ρ)

theorem algebraic : Cert.algebraic_Kernel12Ideal_Reference12Ideal := by
  intro m ρ m' ρ' _ hag
  refine ⟨fun c => G4 m c, fun c => G5 m c, fun c => G6 m c, fun c => G7 m c, ?_, ?_⟩
  · refine (θ_run Cert.Kernel12Ideal.defs _ _).mono (fun r h c => ?_) (Cert.Kernel12Ideal.Value.run_blocks m ρ)
    obtain ⟨h4, h5, h6, h7, hk⟩ := h c
    exact ⟨h4.trans (final4 m c), h5.trans (final5 m c), h6.trans (final6 m c), h7.trans (final7 m c), hk⟩
  · refine (θ_run Cert.Reference12Ideal.defs _ _).mono (fun r h c => ?_) (Cert.Reference12Ideal.Value.run (F := Ideal) m' ρ')
    obtain ⟨h4, h5, h6, h7, hk⟩ := h c
    obtain ⟨e0, e1, e2, e3⟩ := hag c
    refine ⟨h4.trans ?_, h5.trans ?_, h6.trans ?_, h7.trans ?_, hk⟩
    · rw [Cert.Reference12Ideal.Read.val_main_v3_eq, e1]
      funext j
      obtain ⟨a, b, rfl⟩ := eq_ix2 (a := 704) (b := 2048) j
      exact v3_apply _ a b
    · rw [Cert.Reference12Ideal.Read.val_main_v27_eq, e0, e1, e2, e3]
      funext j
      obtain ⟨a, b, rfl⟩ := eq_ix2 (a := 704) (b := 2048) j
      rw [v27_apply, v3_apply]
      rfl
    · rw [Cert.Reference12Ideal.Read.val_main_v8_eq, e1, e2]
      funext j
      obtain ⟨a, b, rfl⟩ := eq_ix2 (a := 704) (b := 2048) j
      rw [v8_apply, v3_apply]
      rfl
    · rw [Cert.Reference12Ideal.Read.val_main_v14_eq, e1, e3]
      funext j
      obtain ⟨a, b, rfl⟩ := eq_ix2 (a := 704) (b := 2048) j
      rw [v14_apply, v3_apply]
      rfl

end Cert.Adamw

end
-- ==== Proof.LruFwdRun.lean ====
/-
  The recurrence's forward call: the run of its body, for bits and ideal numbers alike.
-/
module

public import proofs.«01_k».proof.Proof.Gen.Kernel13Ideal.Frame
public import proofs.«01_k».proof.Proof.Gen.Kernel13Ideal.Loops
public import Idealize.ShloMosaic.Lib.WritesUnit

@[expose] public section

set_option maxRecDepth 16384

noncomputable section

namespace Cert.Kernel13Ideal.LruFwdRun

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
    (a1 : Memref sig .tc .vmem S2048x128 .f32) (k1 : a1.IsWhole)
    (a2 : Memref sig .tc .vmem S2048x128 .f32) (k2 : a2.IsWhole)
    (a3 : Memref sig .tc .vmem S4x128 .f32) (k3 : a3.IsWhole)
    (a4 : Memref sig .tc .vmem S1x128 .f32) (k4 : a4.IsWhole)
    (a5 : Memref sig .tc .vmem S4x1x128x128 .bf16) (k5 : a5.IsWhole)
    (a6 : Memref sig .tc .vmem S4x128 .f32) (k6 : a6.IsWhole)
    (a7 : Memref sig .tc .vmem S2x128 .f32) (k7 : a7.IsWhole)
    (a8 : Memref sig .tc .vmem S2048x128 .f32) (k8 : a8.IsWhole)
    (a9 : Memref sig .tc .vmem S2048x128 .f32) (k9 : a9.IsWhole)
    (a10 : Memref sig .tc .vmem S2048x128 .f32) (k10 : a10.IsWhole)
    (a11 : Memref sig .tc .vmem S2064x128 .f32) (k11 : a11.IsWhole)
    (a12 : Memref sig .tc .vmem S2048x128 .f32) (k12 : a12.IsWhole)
    (a13 : Memref sig .tc .vmem S2048x128 .f32) (k13 : a13.IsWhole)
    (a14 : Memref sig .tc .vmem S2048x128 .f32) (k14 : a14.IsWhole)
    (a15 : Memref sig .tc .vmem S2048x128 .f32) (k15 : a15.IsWhole)
    (x1 : Vec F S2048x128 .f32) (x2 : Vec F S2048x128 .f32) (x3 : Vec F S4x128 .f32) (x4 : Vec F S1x128 .f32) (x5 : Vec F S4x1x128x128 .bf16) (x6 : Vec F S4x128 .f32) (x7 : Vec F S2x128 .f32)
    (f9 : BufTy.Contents (Elt F) a9.view.ty) (f10 : BufTy.Contents (Elt F) a10.view.ty) (f11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty)

set_option maxHeartbeats 16000000 in
/-- The body's run: what it writes into the three outputs, as pieces. The two states' buffers are read back by the body,
    so what they held is a parameter. -/
def run :
    Σ' (L8 : List (View.Piece (Elt F) S2048x128 .f32)) (L9 : List (View.Piece (Elt F) S2048x128 .f32)),
      { L10 : List (View.Piece (Elt F) S2048x128 .f32) // ∀ (E : Set ℕ) (K : PUnit → sProp 𝕄G),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, (a8.view.loc (c : Thread nD τ) ↦[a8.view.set]{fullShare} f)) ∗ (a9.view.loc (c : Thread nD τ) ↦[a9.view.set]{fullShare} f9) ∗ (a10.view.loc (c : Thread nD τ) ↦[a10.view.set]{fullShare} f10) ∗ (a11.view.loc (c : Thread nD τ) ↦[a11.view.set]{fullShare} f11) ∗ (a12.view.loc (c : Thread nD τ) ↦[a12.view.set]{fullShare} f12) ∗ (a13.view.loc (c : Thread nD τ) ↦[a13.view.set]{fullShare} f13) ∗ (a14.view.loc (c : Thread nD τ) ↦[a14.view.set]{fullShare} f14) ∗ (a15.view.loc (c : Thread nD τ) ↦[a15.view.set]{fullShare} f15)
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, (a8.view.loc (c : Thread nD τ) ↦[a8.view.set]{fullShare} (a8.view.writes (Elt F) f L8))) ∗ (a9.view.loc (c : Thread nD τ) ↦[a9.view.set]{fullShare} (a9.view.writes (Elt F) f9 L9)) ∗ (a10.view.loc (c : Thread nD τ) ↦[a10.view.set]{fullShare} (a10.view.writes (Elt F) f10 L10)) ∗ (∃ f, (a11.view.loc (c : Thread nD τ) ↦[a11.view.set]{fullShare} f)) ∗ (∃ f, (a12.view.loc (c : Thread nD τ) ↦[a12.view.set]{fullShare} f)) ∗ (∃ f, (a13.view.loc (c : Thread nD τ) ↦[a13.view.set]{fullShare} f)) ∗ (∃ f, (a14.view.loc (c : Thread nD τ) ↦[a14.view.set]{fullShare} f)) ∗ (∃ f, (a15.view.loc (c : Thread nD τ) ↦[a15.view.set]{fullShare} f))) -∗ K ⟨⟩))
          ⊢ wp frame (wpE (defs₀ (F := F)) Variants.none c none) E (cc0_lru_fwd i a1 k1 a2 k2 a3 k3 a4 k4 a5 k5 a6 k6 a7 k7 a8 k8 a9 k9 a10 k10 a11 k11 a12 k12 a13 k13 a14 k14 a15 k15) K } := by
  refine ⟨?_, ?_, ?_, fun E K => ?run⟩
  case run =>
    simp only [cc0_lru_fwd_eq_skeleton]; unfold cc0_lru_fwd_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%f8, H8⟩, H9, H10, H11, H12, H13, H14, H15, Hk⟩
    obtain rfl := k1.eq_unread hg1; obtain rfl := k2.eq_unread hg2; obtain rfl := k3.eq_unread hg3; obtain rfl := k4.eq_unread hg4; obtain rfl := k5.eq_unread hg5; obtain rfl := k6.eq_unread hg6; obtain rfl := k7.eq_unread hg7
    sl_exec
    sl_step
    iapply Hk
    isplitl [H1]
    · iexists _; isplitr; · ipureintro; exact k1.read_unread _
      iexact H1
    isplitl [H2]
    · iexists _; isplitr; · ipureintro; exact k2.read_unread _
      iexact H2
    isplitl [H3]
    · iexists _; isplitr; · ipureintro; exact k3.read_unread _
      iexact H3
    isplitl [H4]
    · iexists _; isplitr; · ipureintro; exact k4.read_unread _
      iexact H4
    isplitl [H5]
    · iexists _; isplitr; · ipureintro; exact k5.read_unread _
      iexact H5
    isplitl [H6]
    · iexists _; isplitr; · ipureintro; exact k6.read_unread _
      iexact H6
    isplitl [H7]
    · iexists _; isplitr; · ipureintro; exact k7.read_unread _
      iexact H7
    isplitl [H8]; · iexists _; iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    iexists _; iexact H15

end Cert.Kernel13Ideal.LruFwdRun

end
-- ==== Proof.LruFwdIndep.lean ====
/-
  The two states are written eight rows a trip, one from the top and one from the bottom: the tiles cover them, so
  what the call leaves does not depend on what its buffers held.
-/
module

public import proofs.«01_k».proof.Proof.LruFwdRun

@[expose] public section

set_option maxRecDepth 16384

noncomputable section

namespace Cert.Kernel13Ideal.LruFwdRun

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Pieces of eight rows, one a trip, cover the rows their offsets reach. -/
theorem cover_tiles (L : ℕ → List (View.Piece (Elt F) S2048x128 .f32)) (o : ℕ → ℕ) (N : ℕ)
    (h : ∀ k < N, ∃ (off : Fin 2 → ℕ) (inb : ∀ a, off a + S8x128.size a ≤ S2048x128.size a) (w : _), off = ![o k, 0]
      ∧ L (k + 1) = (⟨Rect.unit (s := S2048x128) off S8x128.size inb, w⟩ : View.Piece (Elt F) S2048x128 .f32) :: L k)
    (ho : ∀ r < 2048, ∃ k < N, o k ≤ r ∧ r < o k + 8) (y : S2048x128.Idx) : ∃ pc ∈ L N, y ∈ pc.1.set := by
  have key : ∀ n ≤ N, ∀ k < n, o k ≤ (y (0 : Fin 2)).val → (y (0 : Fin 2)).val < o k + 8 →
      ∃ pc ∈ L n, y ∈ pc.1.set := by
    intro n
    induction n with
    | zero => intro _ k hk; omega
    | succ n ih =>
      intro hn k hk h1 h2
      obtain ⟨off, inb, w, e, eL⟩ := h n hn
      rw [eL]
      by_cases hkn : k = n
      · subst hkn; subst e
        refine ⟨_, List.mem_cons_self .., (Rect.unit (s := S2048x128) _ S8x128.size inb).mem_set.mpr fun a => ?_⟩
        fin_cases a
        · exact ⟨(y (0 : Fin 2)).val - o k, by show _ < 8; omega, by show (y (0 : Fin 2)).val = o k + 1 * ((y (0 : Fin 2)).val - o k); omega⟩
        · exact ⟨(y (1 : Fin 2)).val, (y (1 : Fin 2)).isLt, by show (y (1 : Fin 2)).val = 0 + 1 * (y (1 : Fin 2)).val; omega⟩
      · obtain ⟨pc, hm, hy⟩ := ih (by omega) k (by omega) h1 h2
        exact ⟨pc, List.mem_cons_of_mem _ hm, hy⟩
  obtain ⟨k, hk, h1, h2⟩ := ho (y (0 : Fin 2)).val (y (0 : Fin 2)).isLt
  exact key N le_rfl k hk h1 h2

variable (c : Dev nD) (i : grid0.Coords)
    (a1 : Memref sig .tc .vmem S2048x128 .f32) (h1 : a1.IsWhole)
    (a2 : Memref sig .tc .vmem S2048x128 .f32) (h2 : a2.IsWhole)
    (a3 : Memref sig .tc .vmem S4x128 .f32) (h3 : a3.IsWhole)
    (a4 : Memref sig .tc .vmem S1x128 .f32) (h4 : a4.IsWhole)
    (a5 : Memref sig .tc .vmem S4x1x128x128 .bf16) (h5 : a5.IsWhole)
    (a6 : Memref sig .tc .vmem S4x128 .f32) (h6 : a6.IsWhole)
    (a7 : Memref sig .tc .vmem S2x128 .f32) (h7 : a7.IsWhole)
    (a8 : Memref sig .tc .vmem S2048x128 .f32) (h8 : a8.IsWhole)
    (a9 : Memref sig .tc .vmem S2048x128 .f32) (h9 : a9.IsWhole)
    (a10 : Memref sig .tc .vmem S2048x128 .f32) (h10 : a10.IsWhole)
    (a11 : Memref sig .tc .vmem S2064x128 .f32) (h11 : a11.IsWhole)
    (a12 : Memref sig .tc .vmem S2048x128 .f32) (h12 : a12.IsWhole)
    (a13 : Memref sig .tc .vmem S2048x128 .f32) (h13 : a13.IsWhole)
    (a14 : Memref sig .tc .vmem S2048x128 .f32) (h14 : a14.IsWhole)
    (a15 : Memref sig .tc .vmem S2048x128 .f32) (h15 : a15.IsWhole)
    (x1 : Vec F S2048x128 .f32) (x2 : Vec F S2048x128 .f32) (x3 : Vec F S4x128 .f32) (x4 : Vec F S1x128 .f32) (x5 : Vec F S4x1x128x128 .bf16) (x6 : Vec F S4x128 .f32) (x7 : Vec F S2x128 .f32)

/-- Every trip adds one tile of the forward state, from the first rows down, -/
theorem st_rows9 {𝒱 : Variants} {bd : Option 𝒱.V} {v34 v153 v169 v171 v173 v175 v187 : FVec F S2048x128 .f32} {v215 : IVec S8x128 32} {X12 : BufTy.Contents (Elt F) a12.view.ty} {X13 : BufTy.Contents (Elt F) a13.view.ty} {X14 : BufTy.Contents (Elt F) a14.view.ty} {X15 : BufTy.Contents (Elt F) a15.view.ty} {init : FVec F S1x128 .f32 × FVec F S1x128 .f32} (k : Fin k0_t1_loop.trips) :
    ∃ w, (st_k0_t1 (F := F) 𝒱 c bd i a1 h1 a2 h2 a3 h3 a4 h4 a5 h5 a6 h6 a7 h7 a8 h8 a9 h9 a10 h10 a11 h11 a12 h12 a13 h13 a14 h14 a15 h15 v34 v153 v169 v171 v173 v175 v187 v215 X12 X13 X14 X15 init (k.val + 1)).2.1 = (⟨Rect.unit (s := S2048x128) (k0_off1 k) S8x128.size (k0_off1_inb k), w⟩ : View.Piece (Elt F) S2048x128 .f32)
      :: (st_k0_t1 (F := F) 𝒱 c bd i a1 h1 a2 h2 a3 h3 a4 h4 a5 h5 a6 h6 a7 h7 a8 h8 a9 h9 a10 h10 a11 h11 a12 h12 a13 h13 a14 h14 a15 h15 v34 v153 v169 v171 v173 v175 v187 v215 X12 X13 X14 X15 init k.val).2.1 := by
  rw [st_k0_t1_succ]; dsimp only [tripL_k0_t1]; unfold trip_k0_t1; exact ⟨_, rfl⟩

/-- and one of the backward state, from the last rows up. -/
theorem st_rows10 {𝒱 : Variants} {bd : Option 𝒱.V} {v34 v153 v169 v171 v173 v175 v187 : FVec F S2048x128 .f32} {v215 : IVec S8x128 32} {X12 : BufTy.Contents (Elt F) a12.view.ty} {X13 : BufTy.Contents (Elt F) a13.view.ty} {X14 : BufTy.Contents (Elt F) a14.view.ty} {X15 : BufTy.Contents (Elt F) a15.view.ty} {init : FVec F S1x128 .f32 × FVec F S1x128 .f32} (k : Fin k0_t1_loop.trips) :
    ∃ w, (st_k0_t1 (F := F) 𝒱 c bd i a1 h1 a2 h2 a3 h3 a4 h4 a5 h5 a6 h6 a7 h7 a8 h8 a9 h9 a10 h10 a11 h11 a12 h12 a13 h13 a14 h14 a15 h15 v34 v153 v169 v171 v173 v175 v187 v215 X12 X13 X14 X15 init (k.val + 1)).2.2 = (⟨Rect.unit (s := S2048x128) (k0_off2 k) S8x128.size (k0_off2_inb k), w⟩ : View.Piece (Elt F) S2048x128 .f32)
      :: (st_k0_t1 (F := F) 𝒱 c bd i a1 h1 a2 h2 a3 h3 a4 h4 a5 h5 a6 h6 a7 h7 a8 h8 a9 h9 a10 h10 a11 h11 a12 h12 a13 h13 a14 h14 a15 h15 v34 v153 v169 v171 v173 v175 v187 v215 X12 X13 X14 X15 init k.val).2.2 := by
  rw [st_k0_t1_succ]; dsimp only [tripL_k0_t1]; unfold trip_k0_t1; exact ⟨_, rfl⟩

theorem cover_st9 {𝒱 : Variants} {bd : Option 𝒱.V} {v34 v153 v169 v171 v173 v175 v187 : FVec F S2048x128 .f32} {v215 : IVec S8x128 32} {X12 : BufTy.Contents (Elt F) a12.view.ty} {X13 : BufTy.Contents (Elt F) a13.view.ty} {X14 : BufTy.Contents (Elt F) a14.view.ty} {X15 : BufTy.Contents (Elt F) a15.view.ty} {init : FVec F S1x128 .f32 × FVec F S1x128 .f32} (y : S2048x128.Idx) :
    ∃ pc ∈ (st_k0_t1 (F := F) 𝒱 c bd i a1 h1 a2 h2 a3 h3 a4 h4 a5 h5 a6 h6 a7 h7 a8 h8 a9 h9 a10 h10 a11 h11 a12 h12 a13 h13 a14 h14 a15 h15 v34 v153 v169 v171 v173 v175 v187 v215 X12 X13 X14 X15 init k0_t1_loop.trips).2.1, y ∈ pc.1.set :=
  cover_tiles (fun k => (st_k0_t1 𝒱 c bd i a1 h1 a2 h2 a3 h3 a4 h4 a5 h5 a6 h6 a7 h7 a8 h8 a9 h9 a10 h10 a11 h11 a12 h12 a13 h13 a14 h14 a15 h15 v34 v153 v169 v171 v173 v175 v187 v215 X12 X13 X14 X15 init k).2.1) (fun k => 8 * k) k0_t1_loop.trips
    (fun k hk => by obtain ⟨w, e⟩ := st_rows9 (F := F) c i _ _ _ _ _ _ _ _ _ _ _ _ _ _ _ _ _ _ _ _ _ _ _ _ _ _ _ _ _ _ ⟨k, hk⟩; exact ⟨_, _, w, k0_off1_eq ⟨k, hk⟩, e⟩)
    (fun r hr => ⟨r / 8, by show _ < 256; omega, by omega, by omega⟩) y

theorem cover_st10 {𝒱 : Variants} {bd : Option 𝒱.V} {v34 v153 v169 v171 v173 v175 v187 : FVec F S2048x128 .f32} {v215 : IVec S8x128 32} {X12 : BufTy.Contents (Elt F) a12.view.ty} {X13 : BufTy.Contents (Elt F) a13.view.ty} {X14 : BufTy.Contents (Elt F) a14.view.ty} {X15 : BufTy.Contents (Elt F) a15.view.ty} {init : FVec F S1x128 .f32 × FVec F S1x128 .f32} (y : S2048x128.Idx) :
    ∃ pc ∈ (st_k0_t1 (F := F) 𝒱 c bd i a1 h1 a2 h2 a3 h3 a4 h4 a5 h5 a6 h6 a7 h7 a8 h8 a9 h9 a10 h10 a11 h11 a12 h12 a13 h13 a14 h14 a15 h15 v34 v153 v169 v171 v173 v175 v187 v215 X12 X13 X14 X15 init k0_t1_loop.trips).2.2, y ∈ pc.1.set :=
  cover_tiles (fun k => (st_k0_t1 𝒱 c bd i a1 h1 a2 h2 a3 h3 a4 h4 a5 h5 a6 h6 a7 h7 a8 h8 a9 h9 a10 h10 a11 h11 a12 h12 a13 h13 a14 h14 a15 h15 v34 v153 v169 v171 v173 v175 v187 v215 X12 X13 X14 X15 init k).2.2) (fun k => 2040 - 8 * k) k0_t1_loop.trips
    (fun k hk => by obtain ⟨w, e⟩ := st_rows10 (F := F) c i _ _ _ _ _ _ _ _ _ _ _ _ _ _ _ _ _ _ _ _ _ _ _ _ _ _ _ _ _ _ ⟨k, hk⟩; exact ⟨_, _, w, k0_off2_eq ⟨k, hk⟩, e⟩)
    (fun r hr => ⟨255 - r / 8, by show _ < 256; omega, by omega, by omega⟩) y

theorem v233_indep (f9 g9 : BufTy.Contents (Elt F) a9.view.ty) : run.sl.v233 c i a1 h1 a2 h2 a3 h3 a4 h4 a5 h5 a6 h6 a7 h7 a8 h8 a9 h9 a10 h10 a11 h11 a12 h12 a13 h13 a14 h14 a15 h15 x1 x3 x4 x5 x6 x7 f9 = run.sl.v233 c i a1 h1 a2 h2 a3 h3 a4 h4 a5 h5 a6 h6 a7 h7 a8 h8 a9 h9 a10 h10 a11 h11 a12 h12 a13 h13 a14 h14 a15 h15 x1 x3 x4 x5 x6 x7 g9 := by
  unfold run.sl.v233
  funext y
  exact congrFun (View.read_writes_of_cover a9.view f9 a9.view g9 _ fun y => cover_st9 (F := F) c i _ _ _ _ _ _ _ _ _ _ _ _ _ _ _ _ _ _ _ _ _ _ _ _ _ _ _ _ _ _ y) _

theorem v235_indep (f10 g10 : BufTy.Contents (Elt F) a10.view.ty) : run.sl.v235 c i a1 h1 a2 h2 a3 h3 a4 h4 a5 h5 a6 h6 a7 h7 a8 h8 a9 h9 a10 h10 a11 h11 a12 h12 a13 h13 a14 h14 a15 h15 x1 x3 x4 x5 x6 x7 f10 = run.sl.v235 c i a1 h1 a2 h2 a3 h3 a4 h4 a5 h5 a6 h6 a7 h7 a8 h8 a9 h9 a10 h10 a11 h11 a12 h12 a13 h13 a14 h14 a15 h15 x1 x3 x4 x5 x6 x7 g10 := by
  unfold run.sl.v235
  funext y
  exact congrFun (View.read_writes_of_cover a10.view f10 a10.view g10 _ fun y => cover_st10 (F := F) c i _ _ _ _ _ _ _ _ _ _ _ _ _ _ _ _ _ _ _ _ _ _ _ _ _ _ _ _ _ _ y) _

variable (f9 g9 : BufTy.Contents (Elt F) a9.view.ty) (f10 g10 : BufTy.Contents (Elt F) a10.view.ty) (f11 g11 : BufTy.Contents (Elt F) a11.view.ty) (f12 g12 : BufTy.Contents (Elt F) a12.view.ty) (f13 g13 : BufTy.Contents (Elt F) a13.view.ty) (f14 g14 : BufTy.Contents (Elt F) a14.view.ty) (f15 g15 : BufTy.Contents (Elt F) a15.view.ty)

/-- The run's pieces depend on the inputs alone, -/
theorem run_indep : (run c i a1 h1 a2 h2 a3 h3 a4 h4 a5 h5 a6 h6 a7 h7 a8 h8 a9 h9 a10 h10 a11 h11 a12 h12 a13 h13 a14 h14 a15 h15 x1 x2 x3 x4 x5 x6 x7 f9 f10 f11 f12 f13 f14 f15).1 = (run c i a1 h1 a2 h2 a3 h3 a4 h4 a5 h5 a6 h6 a7 h7 a8 h8 a9 h9 a10 h10 a11 h11 a12 h12 a13 h13 a14 h14 a15 h15 x1 x2 x3 x4 x5 x6 x7 g9 g10 g11 g12 g13 g14 g15).1
      ∧ (run c i a1 h1 a2 h2 a3 h3 a4 h4 a5 h5 a6 h6 a7 h7 a8 h8 a9 h9 a10 h10 a11 h11 a12 h12 a13 h13 a14 h14 a15 h15 x1 x2 x3 x4 x5 x6 x7 f9 f10 f11 f12 f13 f14 f15).2.1 = (run c i a1 h1 a2 h2 a3 h3 a4 h4 a5 h5 a6 h6 a7 h7 a8 h8 a9 h9 a10 h10 a11 h11 a12 h12 a13 h13 a14 h14 a15 h15 x1 x2 x3 x4 x5 x6 x7 g9 g10 g11 g12 g13 g14 g15).2.1 ∧ (run c i a1 h1 a2 h2 a3 h3 a4 h4 a5 h5 a6 h6 a7 h7 a8 h8 a9 h9 a10 h10 a11 h11 a12 h12 a13 h13 a14 h14 a15 h15 x1 x2 x3 x4 x5 x6 x7 f9 f10 f11 f12 f13 f14 f15).2.2.1 = (run c i a1 h1 a2 h2 a3 h3 a4 h4 a5 h5 a6 h6 a7 h7 a8 h8 a9 h9 a10 h10 a11 h11 a12 h12 a13 h13 a14 h14 a15 h15 x1 x2 x3 x4 x5 x6 x7 g9 g10 g11 g12 g13 g14 g15).2.2.1 := by
  unfold run; dsimp only
  rw [v233_indep c i a1 h1 a2 h2 a3 h3 a4 h4 a5 h5 a6 h6 a7 h7 a8 h8 a9 h9 a10 h10 a11 h11 a12 h12 a13 h13 a14 h14 a15 h15 x1 x3 x4 x5 x6 x7 f9 g9, v235_indep c i a1 h1 a2 h2 a3 h3 a4 h4 a5 h5 a6 h6 a7 h7 a8 h8 a9 h9 a10 h10 a11 h11 a12 h12 a13 h13 a14 h14 a15 h15 x1 x3 x4 x5 x6 x7 f10 g10]
  exact ⟨rfl, rfl, rfl⟩

/-- and cover the two states. -/
theorem run_cover9 (y : S2048x128.Idx) : ∃ pc ∈ (run c i a1 h1 a2 h2 a3 h3 a4 h4 a5 h5 a6 h6 a7 h7 a8 h8 a9 h9 a10 h10 a11 h11 a12 h12 a13 h13 a14 h14 a15 h15 x1 x2 x3 x4 x5 x6 x7 f9 f10 f11 f12 f13 f14 f15).2.1, y ∈ pc.1.set := by
  unfold run; exact cover_st9 (F := F) c i _ _ _ _ _ _ _ _ _ _ _ _ _ _ _ _ _ _ _ _ _ _ _ _ _ _ _ _ _ _ y

theorem run_cover10 (y : S2048x128.Idx) : ∃ pc ∈ (run c i a1 h1 a2 h2 a3 h3 a4 h4 a5 h5 a6 h6 a7 h7 a8 h8 a9 h9 a10 h10 a11 h11 a12 h12 a13 h13 a14 h14 a15 h15 x1 x2 x3 x4 x5 x6 x7 f9 f10 f11 f12 f13 f14 f15).2.2.1, y ∈ pc.1.set := by
  unfold run; exact cover_st10 (F := F) c i _ _ _ _ _ _ _ _ _ _ _ _ _ _ _ _ _ _ _ _ _ _ _ _ _ _ _ _ _ _ y

end Cert.Kernel13Ideal.LruFwdRun

end
-- ==== Proof.LruFwdFrame.lean ====
/-
  The frame of the recurrence's forward call, at any values.
-/
module

public import proofs.«01_k».proof.Proof.LruFwdIndep
public import Idealize.ShloMosaic.Lib.Claim

@[expose] public section

set_option maxRecDepth 16384

noncomputable section

namespace Cert.Kernel13Ideal.LruFwdFrame

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a buffer reads after the pieces `L` are written to it. -/
def leftBy {s : Shape} {e : EltTy} (M : Memref sig .tc .vmem s e) (L : List (View.Piece (Elt F) s e)) : Vec F s e :=
  M.view.read (Elt F) (M.view.writes (Elt F) M.view.junk L)

section Body

variable (c : Dev nD) (i : grid0.Coords)
    (a1 : Memref sig .tc .vmem S2048x128 .f32) (h1 : a1.IsWhole)
    (a2 : Memref sig .tc .vmem S2048x128 .f32) (h2 : a2.IsWhole)
    (a3 : Memref sig .tc .vmem S4x128 .f32) (h3 : a3.IsWhole)
    (a4 : Memref sig .tc .vmem S1x128 .f32) (h4 : a4.IsWhole)
    (a5 : Memref sig .tc .vmem S4x1x128x128 .bf16) (h5 : a5.IsWhole)
    (a6 : Memref sig .tc .vmem S4x128 .f32) (h6 : a6.IsWhole)
    (a7 : Memref sig .tc .vmem S2x128 .f32) (h7 : a7.IsWhole)
    (a8 : Memref sig .tc .vmem S2048x128 .f32) (h8 : a8.IsWhole)
    (a9 : Memref sig .tc .vmem S2048x128 .f32) (h9 : a9.IsWhole)
    (a10 : Memref sig .tc .vmem S2048x128 .f32) (h10 : a10.IsWhole)
    (a11 : Memref sig .tc .vmem S2064x128 .f32) (h11 : a11.IsWhole)
    (a12 : Memref sig .tc .vmem S2048x128 .f32) (h12 : a12.IsWhole)
    (a13 : Memref sig .tc .vmem S2048x128 .f32) (h13 : a13.IsWhole)
    (a14 : Memref sig .tc .vmem S2048x128 .f32) (h14 : a14.IsWhole)
    (a15 : Memref sig .tc .vmem S2048x128 .f32) (h15 : a15.IsWhole)
    (x1 : Vec F S2048x128 .f32) (x2 : Vec F S2048x128 .f32) (x3 : Vec F S4x128 .f32) (x4 : Vec F S1x128 .f32) (x5 : Vec F S4x1x128x128 .bf16) (x6 : Vec F S4x128 .f32) (x7 : Vec F S2x128 .f32)

/-- The run from buffers at fixed contents. -/
abbrev runJ := LruFwdRun.run (F := F) c i a1 h1 a2 h2 a3 h3 a4 h4 a5 h5 a6 h6 a7 h7 a8 h8 a9 h9 a10 h10 a11 h11 a12 h12 a13 h13 a14 h14 a15 h15 x1 x2 x3 x4 x5 x6 x7 a9.view.junk a10.view.junk a11.view.junk a12.view.junk a13.view.junk a14.view.junk a15.view.junk

/-- The body's triple at given pieces. -/
def Triple (f9 : BufTy.Contents (Elt F) a9.view.ty) (f10 : BufTy.Contents (Elt F) a10.view.ty) (f11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) (L8 : List (View.Piece (Elt F) S2048x128 .f32)) (L9 : List (View.Piece (Elt F) S2048x128 .f32)) (L10 : List (View.Piece (Elt F) S2048x128 .f32)) : Prop :=
  ∀ (E : Set ℕ) (K : PUnit → sProp 𝕄),
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, (a8.view.loc (c : Thread nD τ) ↦[a8.view.set]{fullShare} f)) ∗ (a9.view.loc (c : Thread nD τ) ↦[a9.view.set]{fullShare} f9) ∗ (a10.view.loc (c : Thread nD τ) ↦[a10.view.set]{fullShare} f10) ∗ (a11.view.loc (c : Thread nD τ) ↦[a11.view.set]{fullShare} f11) ∗ (a12.view.loc (c : Thread nD τ) ↦[a12.view.set]{fullShare} f12) ∗ (a13.view.loc (c : Thread nD τ) ↦[a13.view.set]{fullShare} f13) ∗ (a14.view.loc (c : Thread nD τ) ↦[a14.view.set]{fullShare} f14) ∗ (a15.view.loc (c : Thread nD τ) ↦[a15.view.set]{fullShare} f15)
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, (a8.view.loc (c : Thread nD τ) ↦[a8.view.set]{fullShare} (a8.view.writes (Elt F) f L8))) ∗ (a9.view.loc (c : Thread nD τ) ↦[a9.view.set]{fullShare} (a9.view.writes (Elt F) f9 L9)) ∗ (a10.view.loc (c : Thread nD τ) ↦[a10.view.set]{fullShare} (a10.view.writes (Elt F) f10 L10)) ∗ (∃ f, (a11.view.loc (c : Thread nD τ) ↦[a11.view.set]{fullShare} f)) ∗ (∃ f, (a12.view.loc (c : Thread nD τ) ↦[a12.view.set]{fullShare} f)) ∗ (∃ f, (a13.view.loc (c : Thread nD τ) ↦[a13.view.set]{fullShare} f)) ∗ (∃ f, (a14.view.loc (c : Thread nD τ) ↦[a14.view.set]{fullShare} f)) ∗ (∃ f, (a15.view.loc (c : Thread nD τ) ↦[a15.view.set]{fullShare} f))) -∗ K ⟨⟩))
      ⊢ wp frame (wpE (defs₀ (F := F)) Variants.none c none) E (cc0_lru_fwd i a1 h1 a2 h2 a3 h3 a4 h4 a5 h5 a6 h6 a7 h7 a8 h8 a9 h9 a10 h10 a11 h11 a12 h12 a13 h13 a14 h14 a15 h15) K

theorem triple_f (f9 : BufTy.Contents (Elt F) a9.view.ty) (f10 : BufTy.Contents (Elt F) a10.view.ty) (f11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) : Triple c i a1 h1 a2 h2 a3 h3 a4 h4 a5 h5 a6 h6 a7 h7 a8 h8 a9 h9 a10 h10 a11 h11 a12 h12 a13 h13 a14 h14 a15 h15 x1 x2 x3 x4 x5 x6 x7 f9 f10 f11 f12 f13 f14 f15 (LruFwdRun.run c i a1 h1 a2 h2 a3 h3 a4 h4 a5 h5 a6 h6 a7 h7 a8 h8 a9 h9 a10 h10 a11 h11 a12 h12 a13 h13 a14 h14 a15 h15 x1 x2 x3 x4 x5 x6 x7 f9 f10 f11 f12 f13 f14 f15).1 (LruFwdRun.run c i a1 h1 a2 h2 a3 h3 a4 h4 a5 h5 a6 h6 a7 h7 a8 h8 a9 h9 a10 h10 a11 h11 a12 h12 a13 h13 a14 h14 a15 h15 x1 x2 x3 x4 x5 x6 x7 f9 f10 f11 f12 f13 f14 f15).2.1 (LruFwdRun.run c i a1 h1 a2 h2 a3 h3 a4 h4 a5 h5 a6 h6 a7 h7 a8 h8 a9 h9 a10 h10 a11 h11 a12 h12 a13 h13 a14 h14 a15 h15 x1 x2 x3 x4 x5 x6 x7 f9 f10 f11 f12 f13 f14 f15).2.2.1 :=
  (LruFwdRun.run c i a1 h1 a2 h2 a3 h3 a4 h4 a5 h5 a6 h6 a7 h7 a8 h8 a9 h9 a10 h10 a11 h11 a12 h12 a13 h13 a14 h14 a15 h15 x1 x2 x3 x4 x5 x6 x7 f9 f10 f11 f12 f13 f14 f15).2.2.2

theorem Triple.congr (f9 : BufTy.Contents (Elt F) a9.view.ty) (f10 : BufTy.Contents (Elt F) a10.view.ty) (f11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) {L8 : List (View.Piece (Elt F) S2048x128 .f32)} {L9 : List (View.Piece (Elt F) S2048x128 .f32)} {L10 : List (View.Piece (Elt F) S2048x128 .f32)} {K8 : List (View.Piece (Elt F) S2048x128 .f32)} {K9 : List (View.Piece (Elt F) S2048x128 .f32)} {K10 : List (View.Piece (Elt F) S2048x128 .f32)}
    (e : L8 = K8 ∧ L9 = K9 ∧ L10 = K10)
    (h : Triple c i a1 h1 a2 h2 a3 h3 a4 h4 a5 h5 a6 h6 a7 h7 a8 h8 a9 h9 a10 h10 a11 h11 a12 h12 a13 h13 a14 h14 a15 h15 x1 x2 x3 x4 x5 x6 x7 f9 f10 f11 f12 f13 f14 f15 L8 L9 L10) : Triple c i a1 h1 a2 h2 a3 h3 a4 h4 a5 h5 a6 h6 a7 h7 a8 h8 a9 h9 a10 h10 a11 h11 a12 h12 a13 h13 a14 h14 a15 h15 x1 x2 x3 x4 x5 x6 x7 f9 f10 f11 f12 f13 f14 f15 K8 K9 K10 := by
  obtain ⟨rfl, rfl, rfl⟩ := e; exact h

/-- From buffers at any contents the body writes the pieces of the fixed run. -/
theorem triple (f9 : BufTy.Contents (Elt F) a9.view.ty) (f10 : BufTy.Contents (Elt F) a10.view.ty) (f11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) : Triple c i a1 h1 a2 h2 a3 h3 a4 h4 a5 h5 a6 h6 a7 h7 a8 h8 a9 h9 a10 h10 a11 h11 a12 h12 a13 h13 a14 h14 a15 h15 x1 x2 x3 x4 x5 x6 x7 f9 f10 f11 f12 f13 f14 f15 (runJ c i a1 h1 a2 h2 a3 h3 a4 h4 a5 h5 a6 h6 a7 h7 a8 h8 a9 h9 a10 h10 a11 h11 a12 h12 a13 h13 a14 h14 a15 h15 x1 x2 x3 x4 x5 x6 x7).1 (runJ c i a1 h1 a2 h2 a3 h3 a4 h4 a5 h5 a6 h6 a7 h7 a8 h8 a9 h9 a10 h10 a11 h11 a12 h12 a13 h13 a14 h14 a15 h15 x1 x2 x3 x4 x5 x6 x7).2.1 (runJ c i a1 h1 a2 h2 a3 h3 a4 h4 a5 h5 a6 h6 a7 h7 a8 h8 a9 h9 a10 h10 a11 h11 a12 h12 a13 h13 a14 h14 a15 h15 x1 x2 x3 x4 x5 x6 x7).2.2.1 :=
  Triple.congr c i a1 h1 a2 h2 a3 h3 a4 h4 a5 h5 a6 h6 a7 h7 a8 h8 a9 h9 a10 h10 a11 h11 a12 h12 a13 h13 a14 h14 a15 h15 x1 x2 x3 x4 x5 x6 x7 f9 f10 f11 f12 f13 f14 f15 (LruFwdRun.run_indep c i a1 h1 a2 h2 a3 h3 a4 h4 a5 h5 a6 h6 a7 h7 a8 h8 a9 h9 a10 h10 a11 h11 a12 h12 a13 h13 a14 h14 a15 h15 x1 x2 x3 x4 x5 x6 x7 f9 a9.view.junk f10 a10.view.junk f11 a11.view.junk f12 a12.view.junk f13 a13.view.junk f14 a14.view.junk f15 a15.view.junk) (triple_f c i a1 h1 a2 h2 a3 h3 a4 h4 a5 h5 a6 h6 a7 h7 a8 h8 a9 h9 a10 h10 a11 h11 a12 h12 a13 h13 a14 h14 a15 h15 x1 x2 x3 x4 x5 x6 x7 f9 f10 f11 f12 f13 f14 f15)

theorem cover8 : ∀ y : S2048x128.Idx, ∃ pc ∈ (runJ c i a1 h1 a2 h2 a3 h3 a4 h4 a5 h5 a6 h6 a7 h7 a8 h8 a9 h9 a10 h10 a11 h11 a12 h12 a13 h13 a14 h14 a15 h15 x1 x2 x3 x4 x5 x6 x7).1, y ∈ pc.1.set :=
  fun y => View.cover_of_tiledL _ S2048x128.size (by sl_kernel_rfl) y
theorem cover9 : ∀ y : S2048x128.Idx, ∃ pc ∈ (runJ c i a1 h1 a2 h2 a3 h3 a4 h4 a5 h5 a6 h6 a7 h7 a8 h8 a9 h9 a10 h10 a11 h11 a12 h12 a13 h13 a14 h14 a15 h15 x1 x2 x3 x4 x5 x6 x7).2.1, y ∈ pc.1.set :=
  LruFwdRun.run_cover9 c i a1 h1 a2 h2 a3 h3 a4 h4 a5 h5 a6 h6 a7 h7 a8 h8 a9 h9 a10 h10 a11 h11 a12 h12 a13 h13 a14 h14 a15 h15 x1 x2 x3 x4 x5 x6 x7 a9.view.junk a10.view.junk a11.view.junk a12.view.junk a13.view.junk a14.view.junk a15.view.junk
theorem cover10 : ∀ y : S2048x128.Idx, ∃ pc ∈ (runJ c i a1 h1 a2 h2 a3 h3 a4 h4 a5 h5 a6 h6 a7 h7 a8 h8 a9 h9 a10 h10 a11 h11 a12 h12 a13 h13 a14 h14 a15 h15 x1 x2 x3 x4 x5 x6 x7).2.2.1, y ∈ pc.1.set :=
  LruFwdRun.run_cover10 c i a1 h1 a2 h2 a3 h3 a4 h4 a5 h5 a6 h6 a7 h7 a8 h8 a9 h9 a10 h10 a11 h11 a12 h12 a13 h13 a14 h14 a15 h15 x1 x2 x3 x4 x5 x6 x7 a9.view.junk a10.view.junk a11.view.junk a12.view.junk a13.view.junk a14.view.junk a15.view.junk

set_option maxHeartbeats 3200000 in
/-- The body's triple: the inputs stay, the outputs end at values that depend on the inputs' blocks alone. -/
theorem body_run (E : Set ℕ) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, (a8.view.loc (c : Thread nD τ) ↦[a8.view.set]{fullShare} f)) ∗ (∃ f, (a9.view.loc (c : Thread nD τ) ↦[a9.view.set]{fullShare} f)) ∗ (∃ f, (a10.view.loc (c : Thread nD τ) ↦[a10.view.set]{fullShare} f)) ∗ (∃ f, (a11.view.loc (c : Thread nD τ) ↦[a11.view.set]{fullShare} f)) ∗ (∃ f, (a12.view.loc (c : Thread nD τ) ↦[a12.view.set]{fullShare} f)) ∗ (∃ f, (a13.view.loc (c : Thread nD τ) ↦[a13.view.set]{fullShare} f)) ∗ (∃ f, (a14.view.loc (c : Thread nD τ) ↦[a14.view.set]{fullShare} f)) ∗ (∃ f, (a15.view.loc (c : Thread nD τ) ↦[a15.view.set]{fullShare} f))
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (leftBy a8 (runJ c i a1 h1 a2 h2 a3 h3 a4 h4 a5 h5 a6 h6 a7 h7 a8 h8 a9 h9 a10 h10 a11 h11 a12 h12 a13 h13 a14 h14 a15 h15 x1 x2 x3 x4 x5 x6 x7).1) ∗ owns (c : Thread nD τ) a9 fullShare (leftBy a9 (runJ c i a1 h1 a2 h2 a3 h3 a4 h4 a5 h5 a6 h6 a7 h7 a8 h8 a9 h9 a10 h10 a11 h11 a12 h12 a13 h13 a14 h14 a15 h15 x1 x2 x3 x4 x5 x6 x7).2.1) ∗ owns (c : Thread nD τ) a10 fullShare (leftBy a10 (runJ c i a1 h1 a2 h2 a3 h3 a4 h4 a5 h5 a6 h6 a7 h7 a8 h8 a9 h9 a10 h10 a11 h11 a12 h12 a13 h13 a14 h14 a15 h15 x1 x2 x3 x4 x5 x6 x7).2.2.1) ∗ (∃ f, (a11.view.loc (c : Thread nD τ) ↦[a11.view.set]{fullShare} f)) ∗ (∃ f, (a12.view.loc (c : Thread nD τ) ↦[a12.view.set]{fullShare} f)) ∗ (∃ f, (a13.view.loc (c : Thread nD τ) ↦[a13.view.set]{fullShare} f)) ∗ (∃ f, (a14.view.loc (c : Thread nD τ) ↦[a14.view.set]{fullShare} f)) ∗ (∃ f, (a15.view.loc (c : Thread nD τ) ↦[a15.view.set]{fullShare} f))) -∗ K ⟨⟩))
      ⊢ wp frame (wpE (defs₀ (F := F)) Variants.none c none) E (cc0_lru_fwd i a1 h1 a2 h2 a3 h3 a4 h4 a5 h5 a6 h6 a7 h7 a8 h8 a9 h9 a10 h10 a11 h11 a12 h12 a13 h13 a14 h14 a15 h15) K := by
  iintro ⟨H1, H2, H3, H4, H5, H6, H7, H8, ⟨%f9, H9⟩, ⟨%f10, H10⟩, ⟨%f11, H11⟩, ⟨%f12, H12⟩, ⟨%f13, H13⟩, ⟨%f14, H14⟩, ⟨%f15, H15⟩, Hk⟩
  have h := triple c i a1 h1 a2 h2 a3 h3 a4 h4 a5 h5 a6 h6 a7 h7 a8 h8 a9 h9 a10 h10 a11 h11 a12 h12 a13 h13 a14 h14 a15 h15 x1 x2 x3 x4 x5 x6 x7 f9 f10 f11 f12 f13 f14 f15 E K
  iapply h
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H1, H2, H3, H4, H5, H6, H7, ⟨%f8, H8⟩, H9, H10, H11, H12, H13, H14, H15⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; unfold leftBy
    exact View.read_writes_of_cover a8.view _ a8.view a8.view.junk _ (by apply cover8)
  isplitl [H9]
  · unfold owns; iexists _; isplitr
    swap; · iexact H9
    ipureintro; unfold leftBy
    exact View.read_writes_of_cover a9.view _ a9.view a9.view.junk _ (by apply cover9)
  isplitl [H10]
  · unfold owns; iexists _; isplitr
    swap; · iexact H10
    ipureintro; unfold leftBy
    exact View.read_writes_of_cover a10.view _ a10.view a10.view.junk _ (by apply cover10)
  isplitl [H11]; · iexact H11
  isplitl [H12]; · iexact H12
  isplitl [H13]; · iexact H13
  isplitl [H14]; · iexact H14
  iexact H15

end Body

/-- A memref owned at some value is held at some contents, -/
theorem raw {s : Shape} {e : EltTy} (c : Dev nD) (M : Memref sig .tc .vmem s e) (d) :
    (owns (c : Thread nD τ) M fullShare d : sProp 𝕄) ⊢ iprop(∃ f, (M.view.loc (c : Thread nD τ) ↦[M.view.set]{fullShare} f)) := by
  unfold owns; iintro ⟨%f, %hf, H⟩; iexists f; iexact H

/-- and the other way. -/
theorem unraw {s : Shape} {e : EltTy} (c : Dev nD) (M : Memref sig .tc .vmem s e) :
    (iprop(∃ f, (M.view.loc (c : Thread nD τ) ↦[M.view.set]{fullShare} f)) : sProp 𝕄) ⊢ iprop(∃ d, owns (c : Thread nD τ) M fullShare d) := by
  unfold owns; iintro ⟨%f, H⟩; iexists _; iexists f; isplitr
  · ipureintro; rfl
  iexact H

variable (m : (ℓ : Loc nD τ sig) → Buf (Elt F) ℓ) (ρ : Dev nD → PrngReg)

abbrev ms0 (t : Fin cfg0.N) : Memref sig .tc .vmem S2048x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x1x128x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S4x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S2048x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S2048x128 .f32 := win0_9.stage (cfg0.slots t 9)
abbrev hs9 (t : Fin cfg0.N) : (ms9 t).IsWhole := hstage0_9 ((cfg0.slots t 9).cast nbuf0_9)
abbrev sc0 : Memref sig .tc .vmem S2064x128 .f32 := Memref.whole cc0_scratch0
abbrev sc1 : Memref sig .tc .vmem S2048x128 .f32 := Memref.whole cc0_scratch1
abbrev sc2 : Memref sig .tc .vmem S2048x128 .f32 := Memref.whole cc0_scratch2
abbrev sc3 : Memref sig .tc .vmem S2048x128 .f32 := Memref.whole cc0_scratch3
abbrev sc4 : Memref sig .tc .vmem S2048x128 .f32 := Memref.whole cc0_scratch4

theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- The run at point `t`. -/
abbrev runT (c : Dev nD) (t : Fin cfg0.N) := runJ (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t)
/-- Output 7 after the body at point `t`. -/
def left7 (c : Dev nD) (t : Fin cfg0.N) : Vec F S2048x128 .f32 := leftBy (ms7 t) (runT m c t).1
/-- Output 8 after the body at point `t`. -/
def left8 (c : Dev nD) (t : Fin cfg0.N) : Vec F S2048x128 .f32 := leftBy (ms8 t) (runT m c t).2.1
/-- Output 9 after the body at point `t`. -/
def left9 (c : Dev nD) (t : Fin cfg0.N) : Vec F S2048x128 .f32 := leftBy (ms9 t) (runT m c t).2.2.1

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => left7 m c t
    | ⟨8, _⟩ => left8 m c t
    | ⟨9, _⟩ => left9 m c t
    | ⟨_ + 10, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = left7 m c t := by dsimp only [dats]
theorem after8 (c : Dev nD) (t : Fin cfg0.N) : (dats m 0 c).after 8 t = left8 m c t := by dsimp only [dats]
theorem after9 (c : Dev nD) (t : Fin cfg0.N) : (dats m 0 c).after 9 t = left9 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  rw [show (dats m 0 c).Φ t.castSucc = Pipeline.ΦA spec0 c from rfl, PhiA0_eq]
  iintro ⟨⟨⟨⟨%e0, HS0⟩, ⟨%e1, HS1⟩, ⟨%e2, HS2⟩, ⟨%e3, HS3⟩, ⟨%e4, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply raw; iexact H7
  isplitl [H8]; · iapply raw; iexact H8
  isplitl [H9]; · iapply raw; iexact H9
  isplitl [HS0]; · iapply raw; iexact HS0
  isplitl [HS1]; · iapply raw; iexact HS1
  isplitl [HS2]; · iapply raw; iexact HS2
  isplitl [HS3]; · iapply raw; iexact HS3
  isplitl [HS4]; · iapply raw; iexact HS4
  iintro ⟨H0, H1, H2, H3, H4, H5, H6, H7, H8, H9, HS0, HS1, HS2, HS3, HS4⟩
  isplitl [HS0 HS1 HS2 HS3 HS4 Hg]
  · isplitl [HS0 HS1 HS2 HS3 HS4]
    · isplitl [HS0]; · iapply unraw; iexact HS0
      isplitl [HS1]; · iapply unraw; iexact HS1
      isplitl [HS2]; · iapply unraw; iexact HS2
      isplitl [HS3]; · iapply unraw; iexact HS3
      iapply unraw; iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame at any values: the arguments end as they were, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel13Ideal.LruFwdFrame

end
-- ==== Proof.LruFwdFrames.lean ====
/-
  The recurrence's forward call: both programs end, and leave their arguments as they were.
-/
module

public import proofs.«01_k».proof.Defs
public import proofs.«01_k».proof.Proof.LruFwdFrame
public import proofs.«01_k».proof.Proof.Gen.Kernel13
public import proofs.«01_k».proof.Proof.Gen.Reference13Ideal.Run
public import Idealize.ShloMosaic.Lib.Quiescent

@[expose] public section

set_option maxRecDepth 16384

open Idealize.ShloMosaic Idealize.SL.Sem Cert.Kernel13Ideal

namespace Cert.LruFwdFrames

/-- The kernel's frame on bits: its idealization is the same text, so the one run stands for both. -/
theorem kernel_frame : Cert.quiescent_Kernel13 :=
  Eq.mp (by sl_kernel_rfl) (fun m ρ (_ : True) => LruFwdFrame.frame (F := Bits) m ρ)

theorem ideal_frame : Cert.quiescent_Kernel13Ideal := fun m ρ _ => LruFwdFrame.frame m ρ

/-- The reference's frame: its run read at the arguments; it declares no semaphore. -/
theorem reference_frame : Cert.quiescent_Reference13Ideal := fun m ρ _ =>
  (θ_run (Cert.Reference13Ideal.defs (F := Ideal)) _ _).mono (fun r h => And.intro (fun c => (h c).2.2.2)
    (Idealize.ShloMosaic.sem_eq_zero_of_no_sems (by decide) r.2)) (Cert.Reference13Ideal.Value.run (F := Ideal) m ρ)

end Cert.LruFwdFrames
-- ==== Proof.AdamwCols.lean ====
/-
  The optimiser's step of a weight cut by columns: the partial gradients come transposed and in two halves, which the
  kernel sums, joins and turns; the sums and the step are those of the weight cut by rows.
-/
module

public import proofs.«01_k».proof.Proof.Adamw
public import proofs.«01_k».proof.Proof.Gen.Kernel14
public import proofs.«01_k».proof.Proof.Gen.Kernel14.Frame
public import proofs.«01_k».proof.Proof.Gen.Kernel14Ideal.Value
public import proofs.«01_k».proof.Proof.Gen.Reference14Ideal.Read
public import Idealize.ShloMosaic.Lib.Quiescent
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open Cert.Reals Cert.Adamw

namespace Cert.AdamwCols

/-- Column `r` of half `h`. -/
def col (h : Fin 2) (r : Fin 704) : Fin 1408 := ⟨704 * h.val + r.val, by omega⟩

theorem exists_col (j : Fin 1408) : ∃ h r, col h r = j :=
  ⟨⟨j.val / 704, by omega⟩, ⟨j.val % 704, by omega⟩, Fin.ext (Nat.div_add_mod _ _)⟩

section Kernel
open Cert.Kernel14Ideal Cert.Kernel14Ideal.Gen

section Payloads
variable (p q : Fin 4 → Vec Ideal S1x704x256 .bf16) (g w a b : Vec Ideal S256x1408 .f32) (i : Fin 256) (j : Fin 1408)
  (r : Fin 704)

/-- The joined and turned sum reads one of the two halves. -/
theorem pay4_apply (h : Fin 2) :
    k0_pay4 (p 0) (p 1) (p 2) (p 3) (q 0) (q 1) (q 2) (q 3) (ix2 i (col h r))
      = sum4 fun k => (if h = 0 then p k else q k) (ix3 0 r i) := by
  have hr := r.isLt
  match h with
  | 0 =>
    show _ = p 0 _ + p 1 _ + p 2 _ + p 3 _
    generalize p 0 = p0, p 1 = p1, p 2 = p2, p 3 = p3, q 0 = q0, q 1 = q1, q 2 = q2, q 3 = q3
    unfold col
    pointwise! [k0_pay4]
  | 1 =>
    show _ = q 0 _ + q 1 _ + q 2 _ + q 3 _
    generalize p 0 = p0, p 1 = p1, p 2 = p2, p 3 = p3, q 0 = q0, q 1 = q1, q 2 = q2, q 3 = q3
    unfold col
    pointwise! [k0_pay4]

theorem pay1_apply : k0_pay1 g a (ix2 i j) = newM (g (ix2 i j)) (a (ix2 i j)) := by
  unfold newM
  pointwise! [k0_pay1]

theorem pay2_apply : k0_pay2 g b (ix2 i j) = newV (g (ix2 i j)) (b (ix2 i j)) := by
  unfold newV
  pointwise! [k0_pay2]

theorem pay3_apply : k0_pay3 g w a b (ix2 i j) = change (w (ix2 i j)) (g (ix2 i j)) (a (ix2 i j)) (b (ix2 i j)) := by
  unfold change
  rw [← pay1_apply, ← pay2_apply]
  unfold k0_pay3
  generalize k0_pay1 g a = x, k0_pay2 g b = y
  pointwise!

end Payloads

section Blocks
variable (w a b : Vec Ideal S256x1408 .f32) (p q : Vec Ideal S4x704x256 .bf16) (i : Fin 256) (h : Fin 2) (r : Fin 704)

/-- One device's part of a block of the partial gradients. -/
def plane (x : Vec Ideal S4x704x256 .bf16) (k : Fin 4) : Vec Ideal S1x704x256 .bf16 := fun j => x (ix3 k (j 1) (j 2))

theorem ld_plane (x : Vec Ideal S4x704x256 .bf16) : View.ld x r0_0 = plane x 0 ∧ View.ld x r0_1 = plane x 1
    ∧ View.ld x r0_2 = plane x 2 ∧ View.ld x r0_3 = plane x 3 := by
  refine ⟨?_, ?_, ?_, ?_⟩ <;>
  · refine funext fun j => congrArg x (funext fun a => Fin.ext ?_)
    have h : (j 0).val = 0 := Nat.lt_one_iff.mp (j 0).isLt
    match a with
    | ⟨0, _⟩ => show _ + 1 * (j 0).val = _; rw [h]; rfl
    | ⟨1, _⟩ => show 0 + 1 * (j 1).val = (j 1).val; omega
    | ⟨2, _⟩ => show 0 + 1 * (j 2).val = (j 2).val; omega

theorem ld_rows (x : Vec Ideal S256x1408 .f32) : View.ld x r0_4 = x := View.ld_unit_zero (S := S256x1408) hz _ _

/-- The summed gradient of a block. -/
theorem pay5_apply : k0_pay5 w a b p q (ix2 i (col h r)) = sum4 fun k => (if h = 0 then p else q) (ix3 k r i) := by
  unfold k0_pay5
  obtain ⟨e0, e1, e2, e3⟩ := ld_plane p
  obtain ⟨f0, f1, f2, f3⟩ := ld_plane q
  rw [e0, e1, e2, e3, f0, f1, f2, f3]
  refine (pay4_apply (plane p) (plane q) i r h).trans (congrArg sum4 (funext fun k => ?_))
  by_cases h0 : h = 0
  · rw [if_pos h0, if_pos h0]; rfl
  · rw [if_neg h0, if_neg h0]; rfl

end Blocks

variable (m : (ℓ : Loc nD τ sig) → Buf (Elt Ideal) ℓ)

abbrev aW (c : Dev nD) : Vec Ideal S2048x1408 .f32 := m ((c : Thread nD τ).loc main_arg0)
abbrev aP (c : Dev nD) : Vec Ideal S4x2048x1408 .f32 := m ((c : Thread nD τ).loc main_arg1)
abbrev aM (c : Dev nD) : Vec Ideal S2048x1408 .f32 := m ((c : Thread nD τ).loc main_arg2)
abbrev aV (c : Dev nD) : Vec Ideal S2048x1408 .f32 := m ((c : Thread nD τ).loc main_arg3)

/-- The partial gradients turned. -/
def turned (c : Dev nD) : FVec Ideal S4x1408x2048 .bf16 := transpose S4x1408x2048 [0, 2, 1]
  (truncf .bf16 (aP m c : FVec Ideal S4x2048x1408 .f32) bitsLt_bf16_f32 : FVec Ideal S4x2048x1408 .bf16)
  transposes_S4x2048x1408_S4x1408x2048_0_2_1

theorem V_v6_eq (c : Dev nD) : V m c main_v6 = shapeCast S4x704x2048 (shapeCast S2816x2048
    (extractStridedSlice S4x704x2048 ![0, 0, 0] (turned m c) slices_S4x1408x2048_S4x704x2048_0_0_0)
    shapeCasts_S4x704x2048_S2816x2048) shapeCasts_S2816x2048_S4x704x2048 := by
  unfold_abbrev_sides
  after_reads_simp
  rfl

theorem V_v7_eq (c : Dev nD) : V m c main_v7 = shapeCast S4x704x2048 (shapeCast S2816x2048
    (extractStridedSlice S4x704x2048 ![0, 704, 0] (turned m c) slices_S4x1408x2048_S4x704x2048_0_704_0)
    shapeCasts_S4x704x2048_S2816x2048) shapeCasts_S2816x2048_S4x704x2048 := by
  unfold_abbrev_sides
  after_reads_simp
  rfl

theorem V_v6 (c : Dev nD) (p : Fin 4) (r : Fin 704) (i : Fin 2048) :
    (V m c main_v6 : Vec Ideal S4x704x2048 .bf16) (ix3 p r i) = aP m c (ix3 p i (col 0 r)) := by
  refine (congrFun (V_v6_eq m c) _).trans ?_
  rw [shapeCast_shapeCast]
  unfold turned col
  generalize aP m c = w
  pointwise!

theorem V_v7 (c : Dev nD) (p : Fin 4) (r : Fin 704) (i : Fin 2048) :
    (V m c main_v7 : Vec Ideal S4x704x2048 .bf16) (ix3 p r i) = aP m c (ix3 p i (col 1 r)) := by
  refine (congrFun (V_v7_eq m c) _).trans ?_
  rw [shapeCast_shapeCast]
  unfold turned col
  generalize aP m c = w
  pointwise!

/-- Row `i` of block `t`. -/
def row (t : Fin cfg0.N) (i : Fin 256) : Fin 2048 :=
  ⟨256 * t.val + i.val, by have : cfg0.N = 8 := N_0; have := t.isLt; have := i.isLt; omega⟩

theorem exists_row (i : Fin 2048) : ∃ (t : Fin cfg0.N) (r : Fin 256), row t r = i :=
  ⟨⟨i.val / 256, by have : cfg0.N = 8 := N_0; have := i.isLt; omega⟩, ⟨i.val % 256, by omega⟩,
    Fin.ext (Nat.div_add_mod _ _)⟩

theorem rows0 : ∀ t : Fin cfg0.N, (win0_0.index t 0 = t.val ∧ win0_0.index t 1 = 0)
    ∧ (win0_1.index t 0 = t.val ∧ win0_1.index t 1 = 0) ∧ (win0_2.index t 0 = t.val ∧ win0_2.index t 1 = 0) := by
  show ∀ t : Fin grid0.N, _
  decide +kernel

theorem cols0 : ∀ t : Fin cfg0.N, (win0_3.index t 0 = 0 ∧ win0_3.index t 1 = 0 ∧ win0_3.index t 2 = t.val)
    ∧ (win0_4.index t 0 = 0 ∧ win0_4.index t 1 = 0 ∧ win0_4.index t 2 = t.val) := by
  show ∀ t : Fin grid0.N, _
  decide +kernel

theorem outs0 : ∀ t : Fin cfg0.N, (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) := by
  show ∀ t : Fin grid0.N, _
  decide +kernel

/-- A row and a column of a block of whole rows, placed. -/
theorem place {x y : Nat} {t : Fin cfg0.N} (i : Fin 256) (k : Fin 1408) (h : x = t.val ∧ y = 0) :
    x * 256 + 1 * i.val = (row t i).val ∧ y * 1408 + 1 * k.val = k.val := by
  obtain ⟨rfl, rfl⟩ := h
  exact ⟨show t.val * 256 + 1 * i.val = 256 * t.val + i.val by omega, by omega⟩

theorem iblk0_apply (c : Dev nD) (t : Fin cfg0.N) (i : Fin 256) (k : Fin 1408) :
    (iblk m c 0 t : Vec Ideal S256x1408 .f32) (ix2 i k) = aW m c (ix2 (row t i) k) := by
  unfold iblk
  rw [View.read_apply]
  refine congrArg (m ((c : Thread nD τ).loc main_arg0)) (funext fun a => Fin.ext ?_)
  match a with
  | ⟨0, _⟩ => exact (place i k (rows0 t).1).1
  | ⟨1, _⟩ => exact (place i k (rows0 t).1).2

theorem iblk1_apply (c : Dev nD) (t : Fin cfg0.N) (i : Fin 256) (k : Fin 1408) :
    (iblk m c 1 t : Vec Ideal S256x1408 .f32) (ix2 i k) = aM m c (ix2 (row t i) k) := by
  unfold iblk
  rw [View.read_apply]
  refine congrArg (m ((c : Thread nD τ).loc main_arg2)) (funext fun a => Fin.ext ?_)
  match a with
  | ⟨0, _⟩ => exact (place i k (rows0 t).2.1).1
  | ⟨1, _⟩ => exact (place i k (rows0 t).2.1).2

theorem iblk2_apply (c : Dev nD) (t : Fin cfg0.N) (i : Fin 256) (k : Fin 1408) :
    (iblk m c 2 t : Vec Ideal S256x1408 .f32) (ix2 i k) = aV m c (ix2 (row t i) k) := by
  unfold iblk
  rw [View.read_apply]
  refine congrArg (m ((c : Thread nD τ).loc main_arg3)) (funext fun a => Fin.ext ?_)
  match a with
  | ⟨0, _⟩ => exact (place i k (rows0 t).2.2).1
  | ⟨1, _⟩ => exact (place i k (rows0 t).2.2).2

theorem iblk3_apply (c : Dev nD) (t : Fin cfg0.N) (p : Fin 4) (r : Fin 704) (i : Fin 256) :
    (iblk m c 3 t : Vec Ideal S4x704x256 .bf16) (ix3 p r i) = aP m c (ix3 p (row t i) (col 0 r)) := by
  refine Eq.trans ?_ (V_v6 m c _ _ _)
  unfold iblk
  rw [View.read_apply]
  refine congrArg (V m c main_v6) (funext fun a => Fin.ext ?_)
  match a with
  | ⟨0, _⟩ => show win0_3.index t 0 * 4 + 1 * p.val = p.val; rw [(cols0 t).1.1]; omega
  | ⟨1, _⟩ => show win0_3.index t 1 * 704 + 1 * r.val = r.val; rw [(cols0 t).1.2.1]; omega
  | ⟨2, _⟩ => show win0_3.index t 2 * 256 + 1 * i.val = 256 * t.val + i.val; rw [(cols0 t).1.2.2]; omega

theorem iblk4_apply (c : Dev nD) (t : Fin cfg0.N) (p : Fin 4) (r : Fin 704) (i : Fin 256) :
    (iblk m c 4 t : Vec Ideal S4x704x256 .bf16) (ix3 p r i) = aP m c (ix3 p (row t i) (col 1 r)) := by
  refine Eq.trans ?_ (V_v7 m c _ _ _)
  unfold iblk
  rw [View.read_apply]
  refine congrArg (V m c main_v7) (funext fun a => Fin.ext ?_)
  match a with
  | ⟨0, _⟩ => show win0_4.index t 0 * 4 + 1 * p.val = p.val; rw [(cols0 t).2.1]; omega
  | ⟨1, _⟩ => show win0_4.index t 1 * 704 + 1 * r.val = r.val; rw [(cols0 t).2.2.1]; omega
  | ⟨2, _⟩ => show win0_4.index t 2 * 256 + 1 * i.val = 256 * t.val + i.val; rw [(cols0 t).2.2.2]; omega

/-- The summed gradient at an element, then the four results as functions of the arguments. -/
def grad (c : Dev nD) (i : Fin 2048) (j : Fin 1408) : EReal := sum4 fun p => aP m c (ix3 p i j)
def G5 (c : Dev nD) : Vec Ideal S2048x1408 .f32 := fun j => grad m c (j 0) (j 1)
def G6 (c : Dev nD) : Vec Ideal S2048x1408 .f32 :=
  fun j => change (aW m c (ix2 (j 0) (j 1))) (grad m c (j 0) (j 1)) (aM m c (ix2 (j 0) (j 1))) (aV m c (ix2 (j 0) (j 1)))
def G7 (c : Dev nD) : Vec Ideal S2048x1408 .f32 := fun j => newM (grad m c (j 0) (j 1)) (aM m c (ix2 (j 0) (j 1)))
def G8 (c : Dev nD) : Vec Ideal S2048x1408 .f32 := fun j => newV (grad m c (j 0) (j 1)) (aV m c (ix2 (j 0) (j 1)))

/-- A block's summed gradient is the whole one's at the block's rows. -/
theorem grad_block (c : Dev nD) (t : Fin cfg0.N) (i : Fin 256) (j : Fin 1408) :
    k0_pay5 (iblk m c 0 t) (iblk m c 1 t) (iblk m c 2 t) (iblk m c 3 t) (iblk m c 4 t) (ix2 i j) = grad m c (row t i) j := by
  obtain ⟨h, r, rfl⟩ := exists_col j
  refine (pay5_apply (iblk m c 0 t) (iblk m c 1 t) (iblk m c 2 t) (iblk m c 3 t) (iblk m c 4 t) i h r).trans
    (congrArg sum4 (funext fun p => ?_))
  match h with
  | 0 => exact iblk3_apply m c t p r i
  | 1 => exact iblk4_apply m c t p r i

theorem emb5 (t : Fin cfg0.N) (i : Fin 256) (k : Fin 1408) :
    (((cfg0.win 5).blk t).view.emb (ix2 i k : S256x1408.Idx) : S2048x1408.Idx) = ix2 (row t i) k :=
  funext fun a => Fin.ext (by
    match a with
    | ⟨0, _⟩ => exact (place i k (outs0 t).1).1
    | ⟨1, _⟩ => exact (place i k (outs0 t).1).2)

theorem final5 (c : Dev nD) : (dats m 0 c).arrAt 5 cfg0.N = G5 m c := by
  refine (dats m 0 c).arrAt_eq_of_cover 5 (G5 m c) (fun t _ => funext fun y => ?_) fun i => ?_
  · rw [Value.flushed5, View.read_apply]
    obtain ⟨a, b, rfl⟩ := eq_ix2 (a := 256) (b := 1408) y
    refine Eq.trans ?_ (congrArg (G5 m c) (emb5 t a b)).symm
    show out0_5 _ _ _ _ _ (ix2 a b) = _
    unfold out0_5
    rw [View.canon_unit_zero hz]
    exact grad_block m c t a b
  · obtain ⟨a, b, rfl⟩ := eq_ix2 (a := 2048) (b := 1408) i
    obtain ⟨t, r, rfl⟩ := exists_row a
    exact ⟨t, flush0_5 t, emb5 t r b ▸ View.emb_mem_set _ _⟩

theorem emb6 (t : Fin cfg0.N) (i : Fin 256) (k : Fin 1408) :
    (((cfg0.win 6).blk t).view.emb (ix2 i k : S256x1408.Idx) : S2048x1408.Idx) = ix2 (row t i) k :=
  funext fun a => Fin.ext (by
    match a with
    | ⟨0, _⟩ => exact (place i k (outs0 t).2.1).1
    | ⟨1, _⟩ => exact (place i k (outs0 t).2.1).2)

theorem final6 (c : Dev nD) : (dats m 0 c).arrAt 6 cfg0.N = G6 m c := by
  refine (dats m 0 c).arrAt_eq_of_cover 6 (G6 m c) (fun t _ => funext fun y => ?_) fun i => ?_
  · rw [Value.flushed6, View.read_apply]
    obtain ⟨a, b, rfl⟩ := eq_ix2 (a := 256) (b := 1408) y
    refine Eq.trans ?_ (congrArg (G6 m c) (emb6 t a b)).symm
    show out0_6 _ _ _ _ _ (ix2 a b) = _
    unfold out0_6
    rw [View.canon_unit_zero hz]
    rw [ld_rows, ld_rows, ld_rows, pay3_apply, grad_block, iblk0_apply, iblk1_apply, iblk2_apply]
    rfl
  · obtain ⟨a, b, rfl⟩ := eq_ix2 (a := 2048) (b := 1408) i
    obtain ⟨t, r, rfl⟩ := exists_row a
    exact ⟨t, flush0_6 t, emb6 t r b ▸ View.emb_mem_set _ _⟩

theorem emb7 (t : Fin cfg0.N) (i : Fin 256) (k : Fin 1408) :
    (((cfg0.win 7).blk t).view.emb (ix2 i k : S256x1408.Idx) : S2048x1408.Idx) = ix2 (row t i) k :=
  funext fun a => Fin.ext (by
    match a with
    | ⟨0, _⟩ => exact (place i k (outs0 t).2.2.1).1
    | ⟨1, _⟩ => exact (place i k (outs0 t).2.2.1).2)

theorem final7 (c : Dev nD) : (dats m 0 c).arrAt 7 cfg0.N = G7 m c := by
  refine (dats m 0 c).arrAt_eq_of_cover 7 (G7 m c) (fun t _ => funext fun y => ?_) fun i => ?_
  · rw [Value.flushed7, View.read_apply]
    obtain ⟨a, b, rfl⟩ := eq_ix2 (a := 256) (b := 1408) y
    refine Eq.trans ?_ (congrArg (G7 m c) (emb7 t a b)).symm
    show out0_7 _ _ _ _ _ (ix2 a b) = _
    unfold out0_7
    rw [View.canon_unit_zero hz]
    rw [ld_rows, pay1_apply, grad_block, iblk1_apply]
    rfl
  · obtain ⟨a, b, rfl⟩ := eq_ix2 (a := 2048) (b := 1408) i
    obtain ⟨t, r, rfl⟩ := exists_row a
    exact ⟨t, flush0_7 t, emb7 t r b ▸ View.emb_mem_set _ _⟩

theorem emb8 (t : Fin cfg0.N) (i : Fin 256) (k : Fin 1408) :
    (((cfg0.win 8).blk t).view.emb (ix2 i k : S256x1408.Idx) : S2048x1408.Idx) = ix2 (row t i) k :=
  funext fun a => Fin.ext (by
    match a with
    | ⟨0, _⟩ => exact (place i k (outs0 t).2.2.2).1
    | ⟨1, _⟩ => exact (place i k (outs0 t).2.2.2).2)

theorem final8 (c : Dev nD) : (dats m 0 c).arrAt 8 cfg0.N = G8 m c := by
  refine (dats m 0 c).arrAt_eq_of_cover 8 (G8 m c) (fun t _ => funext fun y => ?_) fun i => ?_
  · rw [Value.flushed8, View.read_apply]
    obtain ⟨a, b, rfl⟩ := eq_ix2 (a := 256) (b := 1408) y
    refine Eq.trans ?_ (congrArg (G8 m c) (emb8 t a b)).symm
    show out0_8 _ _ _ _ _ (ix2 a b) = _
    unfold out0_8
    rw [View.canon_unit_zero hz]
    rw [ld_rows, pay2_apply, grad_block, iblk2_apply]
    rfl
  · obtain ⟨a, b, rfl⟩ := eq_ix2 (a := 2048) (b := 1408) i
    obtain ⟨t, r, rfl⟩ := exists_row a
    exact ⟨t, flush0_8 t, emb8 t r b ▸ View.emb_mem_set _ _⟩

end Kernel

section Reference
open Cert.Reference14Ideal Cert.Reference14Ideal.Read
variable (w : Vec Ideal S2048x1408 .f32) (q : Vec Ideal S4x2048x1408 .f32) (a b : Vec Ideal S2048x1408 .f32)
  (i : Fin 2048) (j : Fin 1408)

theorem v2_apply : val_main_v2 (F := Ideal) q (ix2 i j) = sum4 fun p => q (ix3 p i j) := by
  have h : val_main_v2 (F := Ideal) q (ix2 i j) = 0 + ∑ p : Fin 4, q (ix3 p i j) := by
    pointwise! [val_main_v2, val_main_v1, val_main_v0, val_main_cst]
  rw [h, zero_add, Fin.sum_univ_four]
  rfl

theorem v7_apply : val_main_v7 (F := Ideal) q a (ix2 i j)
    = newM (val_main_v2 (F := Ideal) q (ix2 i j)) (a (ix2 i j)) := by
  unfold newM val_main_v7 val_main_v6
  generalize val_main_v2 (F := Ideal) q = x
  pointwise! [val_main_v5, val_main_v4, val_main_v3, val_main_cst_0, val_main_cst_1]

theorem v13_apply : val_main_v13 (F := Ideal) q b (ix2 i j)
    = newV (val_main_v2 (F := Ideal) q (ix2 i j)) (b (ix2 i j)) := by
  unfold newV val_main_v13 val_main_v12 val_main_v10
  generalize val_main_v2 (F := Ideal) q = x
  pointwise! [val_main_v11, val_main_v9, val_main_v8, val_main_cst_2, val_main_cst_3]

theorem v26_apply : val_main_v26 (F := Ideal) w q a b (ix2 i j)
    = change (w (ix2 i j)) (val_main_v2 (F := Ideal) q (ix2 i j)) (a (ix2 i j)) (b (ix2 i j)) := by
  unfold change
  rw [← v7_apply, ← v13_apply]
  unfold val_main_v26 val_main_v24 val_main_v21 val_main_v20 val_main_v18 val_main_v17 val_main_v15
  generalize val_main_v7 (F := Ideal) q a = x
  generalize val_main_v13 (F := Ideal) q b = y
  pointwise! [val_main_v25, val_main_v23, val_main_v22, val_main_v19, val_main_v16, val_main_v14, val_main_cst_4,
    val_main_cst_5, val_main_cst_6, val_main_cst_7, val_main_cst_8]

end Reference

/-- The reference's frame: its run read at the arguments; it declares no semaphore. -/
theorem reference_frame : Cert.quiescent_Reference14Ideal := fun m ρ _ =>
  (θ_run (Cert.Reference14Ideal.defs (F := Ideal)) _ _).mono (fun r h => And.intro (fun c => (h c).2.2.2.2)
    (Idealize.ShloMosaic.sem_eq_zero_of_no_sems (by decide) r.2)) (Cert.Reference14Ideal.Value.run (F := Ideal) m ρ)

theorem algebraic : Cert.algebraic_Kernel14Ideal_Reference14Ideal := by
  intro m ρ m' ρ' _ hag
  refine ⟨fun c => G5 m c, fun c => G6 m c, fun c => G7 m c, fun c => G8 m c, ?_, ?_⟩
  · refine (θ_run Cert.Kernel14Ideal.defs _ _).mono (fun r h c => ?_) (Cert.Kernel14Ideal.Value.run_blocks m ρ)
    obtain ⟨h5, h6, h7, h8, hk⟩ := h c
    exact ⟨h5.trans (final5 m c), h6.trans (final6 m c), h7.trans (final7 m c), h8.trans (final8 m c), hk⟩
  · refine (θ_run Cert.Reference14Ideal.defs _ _).mono (fun r h c => ?_) (Cert.Reference14Ideal.Value.run (F := Ideal) m' ρ')
    obtain ⟨h5, h6, h7, h8, hk⟩ := h c
    obtain ⟨e0, e1, e2, e3⟩ := hag c
    refine ⟨h5.trans ?_, h6.trans ?_, h7.trans ?_, h8.trans ?_, hk⟩
    · rw [Cert.Reference14Ideal.Read.val_main_v2_eq, e1]
      funext j
      obtain ⟨a, b, rfl⟩ := eq_ix2 (a := 2048) (b := 1408) j
      exact v2_apply _ a b
    · rw [Cert.Reference14Ideal.Read.val_main_v26_eq, e0, e1, e2, e3]
      funext j
      obtain ⟨a, b, rfl⟩ := eq_ix2 (a := 2048) (b := 1408) j
      rw [v26_apply, v2_apply]
      rfl
    · rw [Cert.Reference14Ideal.Read.val_main_v7_eq, e1, e2]
      funext j
      obtain ⟨a, b, rfl⟩ := eq_ix2 (a := 2048) (b := 1408) j
      rw [v7_apply, v2_apply]
      rfl
    · rw [Cert.Reference14Ideal.Read.val_main_v13_eq, e1, e3]
      funext j
      obtain ⟨a, b, rfl⟩ := eq_ix2 (a := 2048) (b := 1408) j
      rw [v13_apply, v2_apply]
      rfl

end Cert.AdamwCols

end
-- ==== Proof.SumDev.lean ====
/-
  The sum over the devices of the gradient of the gain of the first feed-forward's norm, each device's part packed into
  rows of 128.
-/
module

public import proofs.«01_k».proof.Proof.Adamw
public import proofs.«01_k».proof.Proof.Gen.Kernel15
public import proofs.«01_k».proof.Proof.Gen.Kernel15.Frame
public import proofs.«01_k».proof.Proof.Gen.Kernel15Ideal.Value
public import proofs.«01_k».proof.Proof.Gen.Reference15Ideal.Read
public import Idealize.ShloMosaic.Lib.Quiescent
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open Cert.Reals Cert.Adamw

namespace Cert.SumDev

section Kernel
open Cert.Kernel15Ideal Cert.Kernel15Ideal.Gen

/-- The eight parts' sum in the kernel's order. -/
def sum8 (p : Fin 8 → EReal) : EReal := p 0 + p 1 + p 2 + p 3 + p 4 + p 5 + p 6 + p 7

variable (m : (ℓ : Loc nD τ sig) → Buf (Elt Ideal) ℓ)

/-- The element of a part that row `i` and lane `j` of its packing hold. -/
def flat (i : Fin 16) (j : Fin 128) : Fin 2048 := ⟨128 * i.val + j.val, by omega⟩

theorem pay1_apply (p : Fin 8 → Vec Ideal S1x16x128 .f32) (i : Fin 16) (j : Fin 128) :
    k0_pay1 (p 0) (p 1) (p 2) (p 3) (p 4) (p 5) (p 6) (p 7) (ix2 i j) = sum8 fun k => p k (ix3 0 i j) := by
  show _ = p 0 _ + p 1 _ + p 2 _ + p 3 _ + p 4 _ + p 5 _ + p 6 _ + p 7 _
  generalize p 0 = p0, p 1 = p1, p 2 = p2, p 3 = p3, p 4 = p4, p 5 = p5, p 6 = p6, p 7 = p7
  pointwise! [k0_pay1]

/-- One device's part of the packed parts. -/
def plane (x : Vec Ideal S8x16x128 .f32) (k : Fin 8) : Vec Ideal S1x16x128 .f32 := fun j => x (ix3 k (j 1) (j 2))

theorem ld_plane (x : Vec Ideal S8x16x128 .f32) : View.ld x r0_0 = plane x 0 ∧ View.ld x r0_1 = plane x 1
    ∧ View.ld x r0_2 = plane x 2 ∧ View.ld x r0_3 = plane x 3 ∧ View.ld x r0_4 = plane x 4
    ∧ View.ld x r0_5 = plane x 5 ∧ View.ld x r0_6 = plane x 6 ∧ View.ld x r0_7 = plane x 7 := by
  refine ⟨?_, ?_, ?_, ?_, ?_, ?_, ?_, ?_⟩ <;>
  · refine funext fun j => congrArg x (funext fun a => Fin.ext ?_)
    have h : (j 0).val = 0 := Nat.lt_one_iff.mp (j 0).isLt
    match a with
    | ⟨0, _⟩ => show _ + 1 * (j 0).val = _; rw [h]; rfl
    | ⟨1, _⟩ => show 0 + 1 * (j 1).val = (j 1).val; omega
    | ⟨2, _⟩ => show 0 + 1 * (j 2).val = (j 2).val; omega

theorem out1_apply (x : Vec Ideal S8x16x128 .f32) (i : Fin 16) (j : Fin 128) :
    out0_1 x (ix2 i j) = sum8 fun k => x (ix3 k i j) := by
  unfold out0_1
  obtain ⟨e0, e1, e2, e3, e4, e5, e6, e7⟩ := ld_plane x
  rw [View.canon_unit_zero hz, e0, e1, e2, e3, e4, e5, e6, e7]
  exact pay1_apply (plane x) i j

abbrev aD (c : Dev nD) : Vec Ideal S8x1x2048 .f32 := m ((c : Thread nD τ).loc main_arg0)

theorem V_v4_eq (c : Dev nD) : V m c main_v4 = shapeCast S8x16x128 (shapeCast S128x128 (shapeCast S8x16x128
    (pad S8x2048 ![0, 0] ![0, 0] ![0, 0] (shapeCast S8x2048 (aD m c) shapeCasts_S8x1x2048_S8x2048)
      (sitofp .f32 (constantI S_ 32 0#32) : FVec Ideal S_ .f32) pads_S8x2048_S8x2048_000_000 h_S_ : Vec Ideal S8x2048 .f32)
      shapeCasts_S8x2048_S8x16x128) shapeCasts_S8x16x128_S128x128) shapeCasts_S128x128_S8x16x128 := by
  unfold_abbrev_sides
  after_reads_simp
  rfl

theorem V_v4 (c : Dev nD) (k : Fin 8) (i : Fin 16) (j : Fin 128) :
    (V m c main_v4 : Vec Ideal S8x16x128 .f32) (ix3 k i j) = aD m c (ix3 k 0 (flat i j)) := by
  refine (congrFun (V_v4_eq m c) _).trans ?_
  rw [shapeCast_shapeCast]
  unfold flat
  generalize aD m c = w
  pointwise!
  refine (dif_pos (by omega)).trans (congrArg (fun x => w (ix3 k 0 x)) (Fin.ext ?_))
  exact congrArg (· + j.val) (Nat.mul_comm i.val 128)

theorem index0 : ∀ t : Fin cfg0.N, (win0_0.index t 0 = 0 ∧ win0_0.index t 1 = 0 ∧ win0_0.index t 2 = 0)
    ∧ (win0_1.index t 0 = 0 ∧ win0_1.index t 1 = 0) := by
  show ∀ t : Fin grid0.N, _
  decide +kernel

theorem iblk0_apply (c : Dev nD) (t : Fin cfg0.N) (k : Fin 8) (i : Fin 16) (j : Fin 128) :
    (iblk m c 0 t : Vec Ideal S8x16x128 .f32) (ix3 k i j) = aD m c (ix3 k 0 (flat i j)) := by
  refine Eq.trans ?_ (V_v4 m c k i j)
  unfold iblk
  rw [View.read_apply]
  refine congrArg (V m c main_v4) (funext fun a => Fin.ext ?_)
  match a with
  | ⟨0, _⟩ => show win0_0.index t 0 * 8 + 1 * k.val = k.val; rw [(index0 t).1.1]; omega
  | ⟨1, _⟩ => show win0_0.index t 1 * 16 + 1 * i.val = i.val; rw [(index0 t).1.2.1]; omega
  | ⟨2, _⟩ => show win0_0.index t 2 * 128 + 1 * j.val = j.val; rw [(index0 t).1.2.2]; omega

/-- The sum over the devices. -/
def G1 (c : Dev nD) : Vec Ideal S16x128 .f32 := fun j => sum8 fun k => aD m c (ix3 k 0 (flat (j 0) (j 1)))

theorem emb1 (t : Fin cfg0.N) (i : Fin 16) (k : Fin 128) :
    (((cfg0.win 1).blk t).view.emb (ix2 i k : S16x128.Idx) : S16x128.Idx) = ix2 i k :=
  funext fun a => Fin.ext (by
    match a with
    | ⟨0, _⟩ => show win0_1.index t 0 * 16 + 1 * i.val = i.val; rw [(index0 t).2.1]; omega
    | ⟨1, _⟩ => show win0_1.index t 1 * 128 + 1 * k.val = k.val; rw [(index0 t).2.2]; omega)

theorem final1 (c : Dev nD) : (dats m 0 c).arrAt 1 cfg0.N = G1 m c := by
  refine (dats m 0 c).arrAt_eq_of_cover 1 (G1 m c) (fun t _ => funext fun y => ?_) fun i => ?_
  · rw [Value.flushed1, View.read_apply]
    obtain ⟨a, b, rfl⟩ := eq_ix2 (a := 16) (b := 128) y
    refine ((out1_apply (iblk m c 0 t) a b).trans ?_).trans (congrArg (G1 m c) (emb1 t a b)).symm
    simp only [iblk0_apply]
    rfl
  · obtain ⟨a, b, rfl⟩ := eq_ix2 (a := 16) (b := 128) i
    exact ⟨⟨0, by rw [show cfg0.N = 1 from N_0]; omega⟩, flush0_1 _, emb1 _ a b ▸ View.emb_mem_set _ _⟩

end Kernel

open Cert.Reference15Ideal Cert.Reference15Ideal.Read in
theorem v1_apply (q : Vec Ideal S8x1x2048 .f32) (i : Fin 16) (j : Fin 128) :
    val_main_v1 (F := Ideal) q (ix2 i j) = sum8 fun k => q (ix3 k 0 (flat i j)) := by
  have h : val_main_v1 (F := Ideal) q (ix2 i j) = 0 + ∑ k : Fin 8, q (ix3 k 0 (flat i j)) := by
    unfold flat
    pointwise! [val_main_v1, val_main_v0, val_main_cst]
  rw [h, zero_add, Fin.sum_univ_eight]
  rfl

/-- The reference's frame: its run read at the arguments; it declares no semaphore. -/
theorem reference_frame : Cert.quiescent_Reference15Ideal := fun m ρ _ =>
  (θ_run (Cert.Reference15Ideal.defs (F := Ideal)) _ _).mono (fun r h => And.intro (fun c => (h c).2)
    (Idealize.ShloMosaic.sem_eq_zero_of_no_sems (by decide) r.2)) (Cert.Reference15Ideal.Value.run (F := Ideal) m ρ)

theorem algebraic : Cert.algebraic_Kernel15Ideal_Reference15Ideal := by
  intro m ρ m' ρ' _ hag
  refine ⟨fun c => G1 m c, ?_, ?_⟩
  · refine (θ_run Cert.Kernel15Ideal.defs _ _).mono (fun r h c => ?_) (Cert.Kernel15Ideal.Value.run_blocks m ρ)
    exact ⟨(h c).1.trans (final1 m c), (h c).2⟩
  · refine (θ_run Cert.Reference15Ideal.defs _ _).mono (fun r h c => ?_) (Cert.Reference15Ideal.Value.run (F := Ideal) m' ρ')
    refine ⟨(h c).1.trans ?_, (h c).2⟩
    rw [Cert.Reference15Ideal.Read.val_main_v1_eq, hag c]
    funext j
    obtain ⟨a, b, rfl⟩ := eq_ix2 (a := 16) (b := 128) j
    exact v1_apply _ a b

end Cert.SumDev

end
-- ==== Proof.lean ====
/- The claims of the statement, each from its own module: the programs' facts, the preconditions' facts, the
   frames, then what the idealizations keep and the values. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.NormClaim
public import proofs.«01_k».proof.Proof.Gen.Kernel2
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.AttnClaim
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.MixClaim
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.LossClaim
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.FfnClaim
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.AttnFwdClaim
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.NormFwd
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.MixFwd
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.FfnFwd
public import proofs.«01_k».proof.Proof.Gen.Kernel10
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.LruFrames
public import proofs.«01_k».proof.Proof.Gen.Kernel10Ideal.Loops
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.MmProd
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Adamw
public import proofs.«01_k».proof.Proof.Gen.Kernel13
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.LruFwdFrames
public import proofs.«01_k».proof.Proof.Gen.Kernel13Ideal.Loops
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.AdamwCols
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.SumDev
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.NormClaim.pre_facts, Cert.AttnClaim.pre_facts, Cert.MixClaim.pre_facts, Cert.LossClaim.pre_facts, Cert.FfnClaim.pre_facts, Cert.AttnFwdClaim.pre_facts,
    fun m ρ _ => Cert.Kernel.Gen.frame m ρ, fun m ρ _ => Cert.KernelIdeal.Gen.frame m ρ,
    fun m ρ _ => Cert.KernelIdeal.Gen.frame m ρ, Cert.NormClaim.reference_frame,
    fun m ρ _ => Cert.NormClaim.reference_frame m ρ trivial,
    Cert.AttnClaim.kernel_frame, fun m ρ _ => Cert.Kernel2Ideal.AttnFrame.frame m ρ,
    fun m ρ _ => Cert.Kernel2Ideal.AttnFrame.frame m ρ, Cert.AttnClaim.reference_frame,
    fun m ρ _ => Cert.AttnClaim.reference_frame m ρ trivial,
    fun m ρ _ => Cert.Kernel3.Gen.frame m ρ, fun m ρ _ => Cert.Kernel3Ideal.Gen.frame m ρ,
    fun m ρ _ => Cert.Kernel3Ideal.Gen.frame m ρ, Cert.MixClaim.reference_frame,
    fun m ρ _ => Cert.MixClaim.reference_frame m ρ trivial,
    fun m ρ _ => Cert.Kernel4.Gen.frame m ρ, fun m ρ _ => Cert.Kernel4Ideal.Gen.frame m ρ,
    fun m ρ _ => Cert.Kernel4Ideal.Gen.frame m ρ, Cert.LossClaim.reference_frame,
    fun m ρ _ => Cert.LossClaim.reference_frame m ρ trivial,
    fun m ρ _ => Cert.Kernel5.Gen.frame m ρ, fun m ρ _ => Cert.Kernel5Ideal.Gen.frame m ρ,
    fun m ρ _ => Cert.Kernel5Ideal.Gen.frame m ρ, Cert.FfnClaim.reference_frame,
    fun m ρ _ => Cert.FfnClaim.reference_frame m ρ trivial,
    fun m ρ _ => Cert.Kernel6.Gen.frame m ρ, fun m ρ _ => Cert.Kernel6Ideal.Gen.frame m ρ,
    fun m ρ _ => Cert.Kernel6Ideal.Gen.frame m ρ, Cert.AttnFwdClaim.reference_frame,
    fun m ρ _ => Cert.AttnFwdClaim.reference_frame m ρ trivial,
    fun m ρ _ => Cert.Kernel7.Gen.frame m ρ, fun m ρ _ => Cert.Kernel7Ideal.Gen.frame m ρ,
    Cert.NormFwd.reference_frame,
    fun m ρ _ => Cert.Kernel8.Gen.frame m ρ, fun m ρ _ => Cert.Kernel8Ideal.Gen.frame m ρ,
    Cert.MixFwd.reference_frame,
    fun m ρ _ => Cert.Kernel9.Gen.frame m ρ, fun m ρ _ => Cert.Kernel9Ideal.Gen.frame m ρ,
    Cert.FfnFwd.reference_frame,
    Cert.LruFrames.kernel_frame, Cert.LruFrames.ideal_frame, Cert.LruFrames.reference_frame,
    fun m ρ _ => Cert.Kernel11.Gen.frame m ρ, fun m ρ _ => Cert.Kernel11Ideal.Gen.frame m ρ,
    Cert.MmProd.reference_frame,
    fun m ρ _ => Cert.Kernel12.Gen.frame m ρ, fun m ρ _ => Cert.Kernel12Ideal.Gen.frame m ρ,
    Cert.Adamw.reference_frame,
    Cert.LruFwdFrames.kernel_frame, Cert.LruFwdFrames.ideal_frame, Cert.LruFwdFrames.reference_frame,
    fun m ρ _ => Cert.Kernel14.Gen.frame m ρ, fun m ρ _ => Cert.Kernel14Ideal.Gen.frame m ρ,
    Cert.AdamwCols.reference_frame,
    fun m ρ _ => Cert.Kernel15.Gen.frame m ρ, fun m ρ _ => Cert.Kernel15Ideal.Gen.frame m ρ,
    Cert.SumDev.reference_frame,
    trivial, Cert.NormClaim.algebraic,
    trivial, Cert.AttnClaim.algebraic,
    trivial, Cert.MixClaim.algebraic,
    trivial, Cert.LossClaim.algebraic,
    trivial, Cert.FfnClaim.algebraic,
    trivial, Cert.AttnFwdClaim.algebraic,
    trivial, Cert.NormFwd.algebraic,
    trivial, Cert.MixFwd.algebraic,
    trivial, Cert.FfnFwd.algebraic,
    trivial,
    trivial, Cert.MmProd.algebraic,
    trivial, Cert.Adamw.algebraic,
    trivial,
    trivial, Cert.AdamwCols.algebraic,
    trivial, Cert.SumDev.algebraic⟩

end Cert.Proof

end
